-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_PairKernel (m : (ℓ : Loc Cert.PairKernel.nD Cert.PairKernel.τ Cert.PairKernel.sig) → Buf (Elt Bits) ℓ) : Prop :=
  True

def Pre_PairKernelIdeal (m : (ℓ : Loc Cert.PairKernelIdeal.nD Cert.PairKernelIdeal.τ Cert.PairKernelIdeal.sig) → Buf (Elt Ideal) ℓ) : Prop :=
  True

def Pre_PairReferenceIdeal (m : (ℓ : Loc Cert.PairReferenceIdeal.nD Cert.PairReferenceIdeal.τ Cert.PairReferenceIdeal.sig) → Buf (Elt Ideal) ℓ) : Prop :=
  True

def Pre_PairReference (m : (ℓ : Loc Cert.PairReference.nD Cert.PairReference.τ Cert.PairReference.sig) → Buf (Elt Bits) ℓ) : Prop :=
  True

def Pre_ChipKernel (m : (ℓ : Loc Cert.ChipKernel.nD Cert.ChipKernel.τ Cert.ChipKernel.sig) → Buf (Elt Bits) ℓ) : Prop :=
  True

def Pre_ChipKernelIdeal (m : (ℓ : Loc Cert.ChipKernelIdeal.nD Cert.ChipKernelIdeal.τ Cert.ChipKernelIdeal.sig) → Buf (Elt Ideal) ℓ) : Prop :=
  True

def Pre_ChipReferenceIdeal (m : (ℓ : Loc Cert.ChipReferenceIdeal.nD Cert.ChipReferenceIdeal.τ Cert.ChipReferenceIdeal.sig) → Buf (Elt Ideal) ℓ) : Prop :=
  True

def Pre_ChipReference (m : (ℓ : Loc Cert.ChipReference.nD Cert.ChipReference.τ Cert.ChipReference.sig) → Buf (Elt Bits) ℓ) : Prop :=
  True

def Pre_UpdateIn (m : (ℓ : Loc Cert.UpdateIn.nD Cert.UpdateIn.τ Cert.UpdateIn.sig) → Buf (Elt Bits) ℓ) : Prop :=
  True

def Pre_UpdateInIdeal (m : (ℓ : Loc Cert.UpdateInIdeal.nD Cert.UpdateInIdeal.τ Cert.UpdateInIdeal.sig) → Buf (Elt Ideal) ℓ) : Prop :=
  True

def Pre_UpdateInReferenceIdeal (m : (ℓ : Loc Cert.UpdateInReferenceIdeal.nD Cert.UpdateInReferenceIdeal.τ Cert.UpdateInReferenceIdeal.sig) → Buf (Elt Ideal) ℓ) : Prop :=
  True

def Pre_UpdateOut (m : (ℓ : Loc Cert.UpdateOut.nD Cert.UpdateOut.τ Cert.UpdateOut.sig) → Buf (Elt Bits) ℓ) : Prop :=
  True

def Pre_UpdateOutIdeal (m : (ℓ : Loc Cert.UpdateOutIdeal.nD Cert.UpdateOutIdeal.τ Cert.UpdateOutIdeal.sig) → Buf (Elt Ideal) ℓ) : Prop :=
  True

def Pre_UpdateOutReferenceIdeal (m : (ℓ : Loc Cert.UpdateOutReferenceIdeal.nD Cert.UpdateOutReferenceIdeal.τ Cert.UpdateOutReferenceIdeal.sig) → Buf (Elt Ideal) ℓ) : Prop :=
  True

def Pre_UpdateQkv (m : (ℓ : Loc Cert.UpdateQkv.nD Cert.UpdateQkv.τ Cert.UpdateQkv.sig) → Buf (Elt Bits) ℓ) : Prop :=
  True

def Pre_UpdateQkvIdeal (m : (ℓ : Loc Cert.UpdateQkvIdeal.nD Cert.UpdateQkvIdeal.τ Cert.UpdateQkvIdeal.sig) → Buf (Elt Ideal) ℓ) : Prop :=
  True

def Pre_UpdateQkvReferenceIdeal (m : (ℓ : Loc Cert.UpdateQkvReferenceIdeal.nD Cert.UpdateQkvReferenceIdeal.τ Cert.UpdateQkvReferenceIdeal.sig) → Buf (Elt Ideal) ℓ) : Prop :=
  True

def Pre_UpdateCo (m : (ℓ : Loc Cert.UpdateCo.nD Cert.UpdateCo.τ Cert.UpdateCo.sig) → Buf (Elt Bits) ℓ) : Prop :=
  True

def Pre_UpdateCoIdeal (m : (ℓ : Loc Cert.UpdateCoIdeal.nD Cert.UpdateCoIdeal.τ Cert.UpdateCoIdeal.sig) → Buf (Elt Ideal) ℓ) : Prop :=
  True

def Pre_UpdateCoReferenceIdeal (m : (ℓ : Loc Cert.UpdateCoReferenceIdeal.nD Cert.UpdateCoReferenceIdeal.τ Cert.UpdateCoReferenceIdeal.sig) → Buf (Elt Ideal) ℓ) : Prop :=
  True

def Pre_UpdateUp (m : (ℓ : Loc Cert.UpdateUp.nD Cert.UpdateUp.τ Cert.UpdateUp.sig) → Buf (Elt Bits) ℓ) : Prop :=
  True

def Pre_UpdateUpIdeal (m : (ℓ : Loc Cert.UpdateUpIdeal.nD Cert.UpdateUpIdeal.τ Cert.UpdateUpIdeal.sig) → Buf (Elt Ideal) ℓ) : Prop :=
  True

def Pre_UpdateUpReferenceIdeal (m : (ℓ : Loc Cert.UpdateUpReferenceIdeal.nD Cert.UpdateUpReferenceIdeal.τ Cert.UpdateUpReferenceIdeal.sig) → Buf (Elt Ideal) ℓ) : Prop :=
  True

def Pre_UpdateDown (m : (ℓ : Loc Cert.UpdateDown.nD Cert.UpdateDown.τ Cert.UpdateDown.sig) → Buf (Elt Bits) ℓ) : Prop :=
  True

def Pre_UpdateDownIdeal (m : (ℓ : Loc Cert.UpdateDownIdeal.nD Cert.UpdateDownIdeal.τ Cert.UpdateDownIdeal.sig) → Buf (Elt Ideal) ℓ) : Prop :=
  True

def Pre_UpdateDownReferenceIdeal (m : (ℓ : Loc Cert.UpdateDownReferenceIdeal.nD Cert.UpdateDownReferenceIdeal.τ Cert.UpdateDownReferenceIdeal.sig) → Buf (Elt Ideal) ℓ) : Prop :=
  True

def Pre_UpdatePack (m : (ℓ : Loc Cert.UpdatePack.nD Cert.UpdatePack.τ Cert.UpdatePack.sig) → Buf (Elt Bits) ℓ) : Prop :=
  True

def Pre_UpdatePackIdeal (m : (ℓ : Loc Cert.UpdatePackIdeal.nD Cert.UpdatePackIdeal.τ Cert.UpdatePackIdeal.sig) → Buf (Elt Ideal) ℓ) : Prop :=
  True

def Pre_UpdatePackReferenceIdeal (m : (ℓ : Loc Cert.UpdatePackReferenceIdeal.nD Cert.UpdatePackReferenceIdeal.τ Cert.UpdatePackReferenceIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdReferenceIdeal (m : (ℓ : Loc Cert.NormBwdReferenceIdeal.nD Cert.NormBwdReferenceIdeal.τ Cert.NormBwdReferenceIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadReferenceIdeal (m : (ℓ : Loc Cert.LossHeadReferenceIdeal.nD Cert.LossHeadReferenceIdeal.τ Cert.LossHeadReferenceIdeal.sig) → Buf (Elt Ideal) ℓ) : Prop :=
  True

def Pre_CrossFwd (m : (ℓ : Loc Cert.CrossFwd.nD Cert.CrossFwd.τ Cert.CrossFwd.sig) → Buf (Elt Bits) ℓ) : Prop :=
  True

def Pre_CrossFwdIdeal (m : (ℓ : Loc Cert.CrossFwdIdeal.nD Cert.CrossFwdIdeal.τ Cert.CrossFwdIdeal.sig) → Buf (Elt Ideal) ℓ) : Prop :=
  True

def Pre_CrossFwdReferenceIdeal (m : (ℓ : Loc Cert.CrossFwdReferenceIdeal.nD Cert.CrossFwdReferenceIdeal.τ Cert.CrossFwdReferenceIdeal.sig) → Buf (Elt Ideal) ℓ) : Prop :=
  True

def Pre_MixQkv (m : (ℓ : Loc Cert.MixQkv.nD Cert.MixQkv.τ Cert.MixQkv.sig) → Buf (Elt Bits) ℓ) : Prop :=
  True

def Pre_MixQkvIdeal (m : (ℓ : Loc Cert.MixQkvIdeal.nD Cert.MixQkvIdeal.τ Cert.MixQkvIdeal.sig) → Buf (Elt Ideal) ℓ) : Prop :=
  True

def Pre_MixQkvReferenceIdeal (m : (ℓ : Loc Cert.MixQkvReferenceIdeal.nD Cert.MixQkvReferenceIdeal.τ Cert.MixQkvReferenceIdeal.sig) → Buf (Elt Ideal) ℓ) : Prop :=
  True

def Pre_MixAux (m : (ℓ : Loc Cert.MixAux.nD Cert.MixAux.τ Cert.MixAux.sig) → Buf (Elt Bits) ℓ) : Prop :=
  True

def Pre_MixAuxIdeal (m : (ℓ : Loc Cert.MixAuxIdeal.nD Cert.MixAuxIdeal.τ Cert.MixAuxIdeal.sig) → Buf (Elt Ideal) ℓ) : Prop :=
  True

def Pre_MixAuxReferenceIdeal (m : (ℓ : Loc Cert.MixAuxReferenceIdeal.nD Cert.MixAuxReferenceIdeal.τ Cert.MixAuxReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_CrossQ (m : (ℓ : Loc Cert.CrossQ.nD Cert.CrossQ.τ Cert.CrossQ.sig) → Buf (Elt Bits) ℓ) : Prop :=
  True

def Pre_CrossQIdeal (m : (ℓ : Loc Cert.CrossQIdeal.nD Cert.CrossQIdeal.τ Cert.CrossQIdeal.sig) → Buf (Elt Ideal) ℓ) : Prop :=
  True

def Pre_CrossQReferenceIdeal (m : (ℓ : Loc Cert.CrossQReferenceIdeal.nD Cert.CrossQReferenceIdeal.τ Cert.CrossQReferenceIdeal.sig) → Buf (Elt Ideal) ℓ) : Prop :=
  True

def Pre_CrossKv (m : (ℓ : Loc Cert.CrossKv.nD Cert.CrossKv.τ Cert.CrossKv.sig) → Buf (Elt Bits) ℓ) : Prop :=
  True

def Pre_CrossKvIdeal (m : (ℓ : Loc Cert.CrossKvIdeal.nD Cert.CrossKvIdeal.τ Cert.CrossKvIdeal.sig) → Buf (Elt Ideal) ℓ) : Prop :=
  True

def Pre_CrossKvReferenceIdeal (m : (ℓ : Loc Cert.CrossKvReferenceIdeal.nD Cert.CrossKvReferenceIdeal.τ Cert.CrossKvReferenceIdeal.sig) → Buf (Elt Ideal) ℓ) : Prop :=
  True

def Pre_CrossOut (m : (ℓ : Loc Cert.CrossOut.nD Cert.CrossOut.τ Cert.CrossOut.sig) → Buf (Elt Bits) ℓ) : Prop :=
  True

def Pre_CrossOutIdeal (m : (ℓ : Loc Cert.CrossOutIdeal.nD Cert.CrossOutIdeal.τ Cert.CrossOutIdeal.sig) → Buf (Elt Ideal) ℓ) : Prop :=
  True

def Pre_CrossOutReferenceIdeal (m : (ℓ : Loc Cert.CrossOutReferenceIdeal.nD Cert.CrossOutReferenceIdeal.τ Cert.CrossOutReferenceIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_GradAct (m : (ℓ : Loc Cert.GradAct.nD Cert.GradAct.τ Cert.GradAct.sig) → Buf (Elt Bits) ℓ) : Prop :=
  True

def Pre_GradActIdeal (m : (ℓ : Loc Cert.GradActIdeal.nD Cert.GradActIdeal.τ Cert.GradActIdeal.sig) → Buf (Elt Ideal) ℓ) : Prop :=
  True

def Pre_GradActReferenceIdeal (m : (ℓ : Loc Cert.GradActReferenceIdeal.nD Cert.GradActReferenceIdeal.τ Cert.GradActReferenceIdeal.sig) → Buf (Elt Ideal) ℓ) : Prop :=
  True

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_GradDownReferenceIdeal (m : (ℓ : Loc Cert.GradDownReferenceIdeal.nD Cert.GradDownReferenceIdeal.τ Cert.GradDownReferenceIdeal.sig) → Buf (Elt Ideal) ℓ) : Prop :=
  True

def Pre_GradHalf (m : (ℓ : Loc Cert.GradHalf.nD Cert.GradHalf.τ Cert.GradHalf.sig) → Buf (Elt Bits) ℓ) : Prop :=
  True

def Pre_GradHalfIdeal (m : (ℓ : Loc Cert.GradHalfIdeal.nD Cert.GradHalfIdeal.τ Cert.GradHalfIdeal.sig) → Buf (Elt Ideal) ℓ) : Prop :=
  True

def Pre_GradHalfReferenceIdeal (m : (ℓ : Loc Cert.GradHalfReferenceIdeal.nD Cert.GradHalfReferenceIdeal.τ Cert.GradHalfReferenceIdeal.sig) → Buf (Elt Ideal) ℓ) : Prop :=
  True

def Pre_GradFfn (m : (ℓ : Loc Cert.GradFfn.nD Cert.GradFfn.τ Cert.GradFfn.sig) → Buf (Elt Bits) ℓ) : Prop :=
  True

def Pre_GradFfnIdeal (m : (ℓ : Loc Cert.GradFfnIdeal.nD Cert.GradFfnIdeal.τ Cert.GradFfnIdeal.sig) → Buf (Elt Ideal) ℓ) : Prop :=
  True

def Pre_GradFfnReferenceIdeal (m : (ℓ : Loc Cert.GradFfnReferenceIdeal.nD Cert.GradFfnReferenceIdeal.τ Cert.GradFfnReferenceIdeal.sig) → Buf (Elt Ideal) ℓ) : Prop :=
  True

def Pre_GradUp (m : (ℓ : Loc Cert.GradUp.nD Cert.GradUp.τ Cert.GradUp.sig) → Buf (Elt Bits) ℓ) : Prop :=
  True

def Pre_GradUpIdeal (m : (ℓ : Loc Cert.GradUpIdeal.nD Cert.GradUpIdeal.τ Cert.GradUpIdeal.sig) → Buf (Elt Ideal) ℓ) : Prop :=
  True

def Pre_GradUpReferenceIdeal (m : (ℓ : Loc Cert.GradUpReferenceIdeal.nD Cert.GradUpReferenceIdeal.τ Cert.GradUpReferenceIdeal.sig) → Buf (Elt Ideal) ℓ) : Prop :=
  True

def Pre_GradOc (m : (ℓ : Loc Cert.GradOc.nD Cert.GradOc.τ Cert.GradOc.sig) → Buf (Elt Bits) ℓ) : Prop :=
  True

def Pre_GradOcIdeal (m : (ℓ : Loc Cert.GradOcIdeal.nD Cert.GradOcIdeal.τ Cert.GradOcIdeal.sig) → Buf (Elt Ideal) ℓ) : Prop :=
  True

def Pre_GradOcReferenceIdeal (m : (ℓ : Loc Cert.GradOcReferenceIdeal.nD Cert.GradOcReferenceIdeal.τ Cert.GradOcReferenceIdeal.sig) → Buf (Elt Ideal) ℓ) : Prop :=
  True

def Pre_GradCo (m : (ℓ : Loc Cert.GradCo.nD Cert.GradCo.τ Cert.GradCo.sig) → Buf (Elt Bits) ℓ) : Prop :=
  True

def Pre_GradCoIdeal (m : (ℓ : Loc Cert.GradCoIdeal.nD Cert.GradCoIdeal.τ Cert.GradCoIdeal.sig) → Buf (Elt Ideal) ℓ) : Prop :=
  True

def Pre_GradCoReferenceIdeal (m : (ℓ : Loc Cert.GradCoReferenceIdeal.nD Cert.GradCoReferenceIdeal.τ Cert.GradCoReferenceIdeal.sig) → Buf (Elt Ideal) ℓ) : Prop :=
  True

def Pre_GradHq (m : (ℓ : Loc Cert.GradHq.nD Cert.GradHq.τ Cert.GradHq.sig) → Buf (Elt Bits) ℓ) : Prop :=
  True

def Pre_GradHqIdeal (m : (ℓ : Loc Cert.GradHqIdeal.nD Cert.GradHqIdeal.τ Cert.GradHqIdeal.sig) → Buf (Elt Ideal) ℓ) : Prop :=
  True

def Pre_GradHqReferenceIdeal (m : (ℓ : Loc Cert.GradHqReferenceIdeal.nD Cert.GradHqReferenceIdeal.τ Cert.GradHqReferenceIdeal.sig) → Buf (Elt Ideal) ℓ) : Prop :=
  True

def Pre_GradCq (m : (ℓ : Loc Cert.GradCq.nD Cert.GradCq.τ Cert.GradCq.sig) → Buf (Elt Bits) ℓ) : Prop :=
  True

def Pre_GradCqIdeal (m : (ℓ : Loc Cert.GradCqIdeal.nD Cert.GradCqIdeal.τ Cert.GradCqIdeal.sig) → Buf (Elt Ideal) ℓ) : Prop :=
  True

def Pre_GradCqReferenceIdeal (m : (ℓ : Loc Cert.GradCqReferenceIdeal.nD Cert.GradCqReferenceIdeal.τ Cert.GradCqReferenceIdeal.sig) → Buf (Elt Ideal) ℓ) : Prop :=
  True

def Pre_GradMem (m : (ℓ : Loc Cert.GradMem.nD Cert.GradMem.τ Cert.GradMem.sig) → Buf (Elt Bits) ℓ) : Prop :=
  True

def Pre_GradMemIdeal (m : (ℓ : Loc Cert.GradMemIdeal.nD Cert.GradMemIdeal.τ Cert.GradMemIdeal.sig) → Buf (Elt Ideal) ℓ) : Prop :=
  True

def Pre_GradMemReferenceIdeal (m : (ℓ : Loc Cert.GradMemReferenceIdeal.nD Cert.GradMemReferenceIdeal.τ Cert.GradMemReferenceIdeal.sig) → Buf (Elt Ideal) ℓ) : Prop :=
  True

def Pre_GradCkv (m : (ℓ : Loc Cert.GradCkv.nD Cert.GradCkv.τ Cert.GradCkv.sig) → Buf (Elt Bits) ℓ) : Prop :=
  True

def Pre_GradCkvIdeal (m : (ℓ : Loc Cert.GradCkvIdeal.nD Cert.GradCkvIdeal.τ Cert.GradCkvIdeal.sig) → Buf (Elt Ideal) ℓ) : Prop :=
  True

def Pre_GradCkvReferenceIdeal (m : (ℓ : Loc Cert.GradCkvReferenceIdeal.nD Cert.GradCkvReferenceIdeal.τ Cert.GradCkvReferenceIdeal.sig) → Buf (Elt Ideal) ℓ) : Prop :=
  True

def Pre_GradMixed (m : (ℓ : Loc Cert.GradMixed.nD Cert.GradMixed.τ Cert.GradMixed.sig) → Buf (Elt Bits) ℓ) : Prop :=
  True

def Pre_GradMixedIdeal (m : (ℓ : Loc Cert.GradMixedIdeal.nD Cert.GradMixedIdeal.τ Cert.GradMixedIdeal.sig) → Buf (Elt Ideal) ℓ) : Prop :=
  True

def Pre_GradMixedReferenceIdeal (m : (ℓ : Loc Cert.GradMixedReferenceIdeal.nD Cert.GradMixedReferenceIdeal.τ Cert.GradMixedReferenceIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_GradOutReferenceIdeal (m : (ℓ : Loc Cert.GradOutReferenceIdeal.nD Cert.GradOutReferenceIdeal.τ Cert.GradOutReferenceIdeal.sig) → Buf (Elt Ideal) ℓ) : Prop :=
  True

def Pre_GradMain (m : (ℓ : Loc Cert.GradMain.nD Cert.GradMain.τ Cert.GradMain.sig) → Buf (Elt Bits) ℓ) : Prop :=
  True

def Pre_GradMainIdeal (m : (ℓ : Loc Cert.GradMainIdeal.nD Cert.GradMainIdeal.τ Cert.GradMainIdeal.sig) → Buf (Elt Ideal) ℓ) : Prop :=
  True

def Pre_GradMainReferenceIdeal (m : (ℓ : Loc Cert.GradMainReferenceIdeal.nD Cert.GradMainReferenceIdeal.τ Cert.GradMainReferenceIdeal.sig) → Buf (Elt Ideal) ℓ) : Prop :=
  True

def Pre_GradMix (m : (ℓ : Loc Cert.GradMix.nD Cert.GradMix.τ Cert.GradMix.sig) → Buf (Elt Bits) ℓ) : Prop :=
  True

def Pre_GradMixIdeal (m : (ℓ : Loc Cert.GradMixIdeal.nD Cert.GradMixIdeal.τ Cert.GradMixIdeal.sig) → Buf (Elt Ideal) ℓ) : Prop :=
  True

def Pre_GradMixReferenceIdeal (m : (ℓ : Loc Cert.GradMixReferenceIdeal.nD Cert.GradMixReferenceIdeal.τ Cert.GradMixReferenceIdeal.sig) → Buf (Elt Ideal) ℓ) : Prop :=
  True

def Pre_GradQkv (m : (ℓ : Loc Cert.GradQkv.nD Cert.GradQkv.τ Cert.GradQkv.sig) → Buf (Elt Bits) ℓ) : Prop :=
  True

def Pre_GradQkvIdeal (m : (ℓ : Loc Cert.GradQkvIdeal.nD Cert.GradQkvIdeal.τ Cert.GradQkvIdeal.sig) → Buf (Elt Ideal) ℓ) : Prop :=
  True

def Pre_GradQkvReferenceIdeal (m : (ℓ : Loc Cert.GradQkvReferenceIdeal.nD Cert.GradQkvReferenceIdeal.τ Cert.GradQkvReferenceIdeal.sig) → Buf (Elt Ideal) ℓ) : Prop :=
  True

def Pre_GradAux (m : (ℓ : Loc Cert.GradAux.nD Cert.GradAux.τ Cert.GradAux.sig) → Buf (Elt Bits) ℓ) : Prop :=
  True

def Pre_GradAuxIdeal (m : (ℓ : Loc Cert.GradAuxIdeal.nD Cert.GradAuxIdeal.τ Cert.GradAuxIdeal.sig) → Buf (Elt Ideal) ℓ) : Prop :=
  True

def Pre_GradAuxReferenceIdeal (m : (ℓ : Loc Cert.GradAuxReferenceIdeal.nD Cert.GradAuxReferenceIdeal.τ Cert.GradAuxReferenceIdeal.sig) → Buf (Elt Ideal) ℓ) : Prop :=
  True

def Pre_PairSum (m : (ℓ : Loc Cert.PairSum.nD Cert.PairSum.τ Cert.PairSum.sig) → Buf (Elt Bits) ℓ) : Prop :=
  True

def Pre_PairSumIdeal (m : (ℓ : Loc Cert.PairSumIdeal.nD Cert.PairSumIdeal.τ Cert.PairSumIdeal.sig) → Buf (Elt Ideal) ℓ) : Prop :=
  True

def Pre_PairSumReferenceIdeal (m : (ℓ : Loc Cert.PairSumReferenceIdeal.nD Cert.PairSumReferenceIdeal.τ Cert.PairSumReferenceIdeal.sig) → Buf (Elt Ideal) ℓ) : Prop :=
  True

def Pre_PairSumReference (m : (ℓ : Loc Cert.PairSumReference.nD Cert.PairSumReference.τ Cert.PairSumReference.sig) → Buf (Elt Bits) ℓ) : Prop :=
  True

def Pre_ChipSum (m : (ℓ : Loc Cert.ChipSum.nD Cert.ChipSum.τ Cert.ChipSum.sig) → Buf (Elt Bits) ℓ) : Prop :=
  True

def Pre_ChipSumIdeal (m : (ℓ : Loc Cert.ChipSumIdeal.nD Cert.ChipSumIdeal.τ Cert.ChipSumIdeal.sig) → Buf (Elt Ideal) ℓ) : Prop :=
  True

def Pre_ChipSumReferenceIdeal (m : (ℓ : Loc Cert.ChipSumReferenceIdeal.nD Cert.ChipSumReferenceIdeal.τ Cert.ChipSumReferenceIdeal.sig) → Buf (Elt Ideal) ℓ) : Prop :=
  True

def Pre_ChipSumReference (m : (ℓ : Loc Cert.ChipSumReference.nD Cert.ChipSumReference.τ Cert.ChipSumReference.sig) → Buf (Elt Bits) ℓ) : Prop :=
  True

def Pre_NormMix (m : (ℓ : Loc Cert.NormMix.nD Cert.NormMix.τ Cert.NormMix.sig) → Buf (Elt Bits) ℓ) : Prop :=
  True

def Pre_NormMixIdeal (m : (ℓ : Loc Cert.NormMixIdeal.nD Cert.NormMixIdeal.τ Cert.NormMixIdeal.sig) → Buf (Elt Ideal) ℓ) : Prop :=
  True

def Pre_NormMixReferenceIdeal (m : (ℓ : Loc Cert.NormMixReferenceIdeal.nD Cert.NormMixReferenceIdeal.τ Cert.NormMixReferenceIdeal.sig) → Buf (Elt Ideal) ℓ) : Prop :=
  True

def Pre_NormMem (m : (ℓ : Loc Cert.NormMem.nD Cert.NormMem.τ Cert.NormMem.sig) → Buf (Elt Bits) ℓ) : Prop :=
  True

def Pre_NormMemIdeal (m : (ℓ : Loc Cert.NormMemIdeal.nD Cert.NormMemIdeal.τ Cert.NormMemIdeal.sig) → Buf (Elt Ideal) ℓ) : Prop :=
  True

def Pre_NormMemReferenceIdeal (m : (ℓ : Loc Cert.NormMemReferenceIdeal.nD Cert.NormMemReferenceIdeal.τ Cert.NormMemReferenceIdeal.sig) → Buf (Elt Ideal) ℓ) : Prop :=
  True

def Pre_Band0 (m : (ℓ : Loc Cert.Band0.nD Cert.Band0.τ Cert.Band0.sig) → Buf (Elt Bits) ℓ) : Prop :=
  True

def Pre_Band0Ideal (m : (ℓ : Loc Cert.Band0Ideal.nD Cert.Band0Ideal.τ Cert.Band0Ideal.sig) → Buf (Elt Ideal) ℓ) : Prop :=
  True

def Pre_Band0ReferenceIdeal (m : (ℓ : Loc Cert.Band0ReferenceIdeal.nD Cert.Band0ReferenceIdeal.τ Cert.Band0ReferenceIdeal.sig) → Buf (Elt Ideal) ℓ) : Prop :=
  True

def Pre_DqkvSum (m : (ℓ : Loc Cert.DqkvSum.nD Cert.DqkvSum.τ Cert.DqkvSum.sig) → Buf (Elt Bits) ℓ) : Prop :=
  True

def Pre_DqkvSumIdeal (m : (ℓ : Loc Cert.DqkvSumIdeal.nD Cert.DqkvSumIdeal.τ Cert.DqkvSumIdeal.sig) → Buf (Elt Ideal) ℓ) : Prop :=
  True

def Pre_DqkvSumReferenceIdeal (m : (ℓ : Loc Cert.DqkvSumReferenceIdeal.nD Cert.DqkvSumReferenceIdeal.τ Cert.DqkvSumReferenceIdeal.sig) → Buf (Elt Ideal) ℓ) : Prop :=
  True

def Pre_CumSum (m : (ℓ : Loc Cert.CumSum.nD Cert.CumSum.τ Cert.CumSum.sig) → Buf (Elt Bits) ℓ) : Prop :=
  True

def Pre_CumSumIdeal (m : (ℓ : Loc Cert.CumSumIdeal.nD Cert.CumSumIdeal.τ Cert.CumSumIdeal.sig) → Buf (Elt Ideal) ℓ) : Prop :=
  True

def Pre_CumSumReferenceIdeal (m : (ℓ : Loc Cert.CumSumReferenceIdeal.nD Cert.CumSumReferenceIdeal.τ Cert.CumSumReferenceIdeal.sig) → Buf (Elt Ideal) ℓ) : Prop :=
  True

def Pre_BandSum (m : (ℓ : Loc Cert.BandSum.nD Cert.BandSum.τ Cert.BandSum.sig) → Buf (Elt Bits) ℓ) : Prop :=
  True

def Pre_BandSumIdeal (m : (ℓ : Loc Cert.BandSumIdeal.nD Cert.BandSumIdeal.τ Cert.BandSumIdeal.sig) → Buf (Elt Ideal) ℓ) : Prop :=
  True

def Pre_BandSumReferenceIdeal (m : (ℓ : Loc Cert.BandSumReferenceIdeal.nD Cert.BandSumReferenceIdeal.τ Cert.BandSumReferenceIdeal.sig) → Buf (Elt Ideal) ℓ) : Prop :=
  True

def Pre_ShiftAdd (m : (ℓ : Loc Cert.ShiftAdd.nD Cert.ShiftAdd.τ Cert.ShiftAdd.sig) → Buf (Elt Bits) ℓ) : Prop :=
  True

def Pre_ShiftAddIdeal (m : (ℓ : Loc Cert.ShiftAddIdeal.nD Cert.ShiftAddIdeal.τ Cert.ShiftAddIdeal.sig) → Buf (Elt Ideal) ℓ) : Prop :=
  True

def Pre_ShiftAddReferenceIdeal (m : (ℓ : Loc Cert.ShiftAddReferenceIdeal.nD Cert.ShiftAddReferenceIdeal.τ Cert.ShiftAddReferenceIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def Pre_BackConv (m : (ℓ : Loc Cert.BackConv.nD Cert.BackConv.τ Cert.BackConv.sig) → Buf (Elt Bits) ℓ) : Prop :=
  True

def Pre_BackConvIdeal (m : (ℓ : Loc Cert.BackConvIdeal.nD Cert.BackConvIdeal.τ Cert.BackConvIdeal.sig) → Buf (Elt Ideal) ℓ) : Prop :=
  True

def Pre_BackConvReferenceIdeal (m : (ℓ : Loc Cert.BackConvReferenceIdeal.nD Cert.BackConvReferenceIdeal.τ Cert.BackConvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_PairKernel [hPairKernel : Cert.PairKernel.Facts] : Prop :=
  ∀ (m : (ℓ : Loc Cert.PairKernel.nD Cert.PairKernel.τ Cert.PairKernel.sig) → Buf (Elt Bits) ℓ) (g : Dev Cert.PairKernel.nD → PrngReg), Pre_PairKernel m →
    θ_run (Cert.PairKernel.defs (F := Bits)) (onTc (τ := Cert.PairKernel.τ) (Cert.PairKernel.main (F := Bits))) ⟨m, fun _ => 0, g⟩ (fun r => (∀ c : Dev Cert.PairKernel.nD,
      r.2.mem ((c.tc : Thread Cert.PairKernel.nD Cert.PairKernel.τ).loc Cert.PairKernel.main_arg0) = m ((c.tc : Thread Cert.PairKernel.nD Cert.PairKernel.τ).loc Cert.PairKernel.main_arg0))
      ∧ r.2.sem = fun _ => 0)

def quiescent_PairKernelIdeal [hPairKernelIdeal : Cert.PairKernelIdeal.Facts] : Prop :=
  ∀ (m : (ℓ : Loc Cert.PairKernelIdeal.nD Cert.PairKernelIdeal.τ Cert.PairKernelIdeal.sig) → Buf (Elt Ideal) ℓ) (g : Dev Cert.PairKernelIdeal.nD → PrngReg), Pre_PairKernelIdeal m →
    θ_run (Cert.PairKernelIdeal.defs (F := Ideal)) (onTc (τ := Cert.PairKernelIdeal.τ) (Cert.PairKernelIdeal.main (F := Ideal))) ⟨m, fun _ => 0, g⟩ (fun r => (∀ c : Dev Cert.PairKernelIdeal.nD,
      r.2.mem ((c.tc : Thread Cert.PairKernelIdeal.nD Cert.PairKernelIdeal.τ).loc Cert.PairKernelIdeal.main_arg0) = m ((c.tc : Thread Cert.PairKernelIdeal.nD Cert.PairKernelIdeal.τ).loc Cert.PairKernelIdeal.main_arg0))
      ∧ r.2.sem = fun _ => 0)

def quiescent_PairReferenceIdeal [hPairReferenceIdeal : Cert.PairReferenceIdeal.Facts] : Prop :=
  ∀ (m : (ℓ : Loc Cert.PairReferenceIdeal.nD Cert.PairReferenceIdeal.τ Cert.PairReferenceIdeal.sig) → Buf (Elt Ideal) ℓ) (g : Dev Cert.PairReferenceIdeal.nD → PrngReg), Pre_PairReferenceIdeal m →
    θ_run (Cert.PairReferenceIdeal.defs (F := Ideal)) (onTc (τ := Cert.PairReferenceIdeal.τ) (Cert.PairReferenceIdeal.main (F := Ideal))) ⟨m, fun _ => 0, g⟩ (fun r => (∀ c : Dev Cert.PairReferenceIdeal.nD,
      r.2.mem ((c.tc : Thread Cert.PairReferenceIdeal.nD Cert.PairReferenceIdeal.τ).loc Cert.PairReferenceIdeal.main_arg0) = m ((c.tc : Thread Cert.PairReferenceIdeal.nD Cert.PairReferenceIdeal.τ).loc Cert.PairReferenceIdeal.main_arg0))
      ∧ r.2.sem = fun _ => 0)

def quiescent_PairReference [hPairReference : Cert.PairReference.Facts] : Prop :=
  ∀ (m : (ℓ : Loc Cert.PairReference.nD Cert.PairReference.τ Cert.PairReference.sig) → Buf (Elt Bits) ℓ) (g : Dev Cert.PairReference.nD → PrngReg), Pre_PairReference m →
    θ_run (Cert.PairReference.defs (F := Bits)) (onTc (τ := Cert.PairReference.τ) (Cert.PairReference.main (F := Bits))) ⟨m, fun _ => 0, g⟩ (fun r => (∀ c : Dev Cert.PairReference.nD,
      r.2.mem ((c.tc : Thread Cert.PairReference.nD Cert.PairReference.τ).loc Cert.PairReference.main_arg0) = m ((c.tc : Thread Cert.PairReference.nD Cert.PairReference.τ).loc Cert.PairReference.main_arg0))
      ∧ r.2.sem = fun _ => 0)

def quiescent_ChipKernel [hChipKernel : Cert.ChipKernel.Facts] : Prop :=
  ∀ (m : (ℓ : Loc Cert.ChipKernel.nD Cert.ChipKernel.τ Cert.ChipKernel.sig) → Buf (Elt Bits) ℓ) (g : Dev Cert.ChipKernel.nD → PrngReg), Pre_ChipKernel m →
    θ_run (Cert.ChipKernel.defs (F := Bits)) (onTc (τ := Cert.ChipKernel.τ) (Cert.ChipKernel.main (F := Bits))) ⟨m, fun _ => 0, g⟩ (fun r => (∀ c : Dev Cert.ChipKernel.nD,
      r.2.mem ((c.tc : Thread Cert.ChipKernel.nD Cert.ChipKernel.τ).loc Cert.ChipKernel.main_arg0) = m ((c.tc : Thread Cert.ChipKernel.nD Cert.ChipKernel.τ).loc Cert.ChipKernel.main_arg0))
      ∧ r.2.sem = fun _ => 0)

def quiescent_ChipKernelIdeal [hChipKernelIdeal : Cert.ChipKernelIdeal.Facts] : Prop :=
  ∀ (m : (ℓ : Loc Cert.ChipKernelIdeal.nD Cert.ChipKernelIdeal.τ Cert.ChipKernelIdeal.sig) → Buf (Elt Ideal) ℓ) (g : Dev Cert.ChipKernelIdeal.nD → PrngReg), Pre_ChipKernelIdeal m →
    θ_run (Cert.ChipKernelIdeal.defs (F := Ideal)) (onTc (τ := Cert.ChipKernelIdeal.τ) (Cert.ChipKernelIdeal.main (F := Ideal))) ⟨m, fun _ => 0, g⟩ (fun r => (∀ c : Dev Cert.ChipKernelIdeal.nD,
      r.2.mem ((c.tc : Thread Cert.ChipKernelIdeal.nD Cert.ChipKernelIdeal.τ).loc Cert.ChipKernelIdeal.main_arg0) = m ((c.tc : Thread Cert.ChipKernelIdeal.nD Cert.ChipKernelIdeal.τ).loc Cert.ChipKernelIdeal.main_arg0))
      ∧ r.2.sem = fun _ => 0)

def quiescent_ChipReferenceIdeal [hChipReferenceIdeal : Cert.ChipReferenceIdeal.Facts] : Prop :=
  ∀ (m : (ℓ : Loc Cert.ChipReferenceIdeal.nD Cert.ChipReferenceIdeal.τ Cert.ChipReferenceIdeal.sig) → Buf (Elt Ideal) ℓ) (g : Dev Cert.ChipReferenceIdeal.nD → PrngReg), Pre_ChipReferenceIdeal m →
    θ_run (Cert.ChipReferenceIdeal.defs (F := Ideal)) (onTc (τ := Cert.ChipReferenceIdeal.τ) (Cert.ChipReferenceIdeal.main (F := Ideal))) ⟨m, fun _ => 0, g⟩ (fun r => (∀ c : Dev Cert.ChipReferenceIdeal.nD,
      r.2.mem ((c.tc : Thread Cert.ChipReferenceIdeal.nD Cert.ChipReferenceIdeal.τ).loc Cert.ChipReferenceIdeal.main_arg0) = m ((c.tc : Thread Cert.ChipReferenceIdeal.nD Cert.ChipReferenceIdeal.τ).loc Cert.ChipReferenceIdeal.main_arg0))
      ∧ r.2.sem = fun _ => 0)

def quiescent_ChipReference [hChipReference : Cert.ChipReference.Facts] : Prop :=
  ∀ (m : (ℓ : Loc Cert.ChipReference.nD Cert.ChipReference.τ Cert.ChipReference.sig) → Buf (Elt Bits) ℓ) (g : Dev Cert.ChipReference.nD → PrngReg), Pre_ChipReference m →
    θ_run (Cert.ChipReference.defs (F := Bits)) (onTc (τ := Cert.ChipReference.τ) (Cert.ChipReference.main (F := Bits))) ⟨m, fun _ => 0, g⟩ (fun r => (∀ c : Dev Cert.ChipReference.nD,
      r.2.mem ((c.tc : Thread Cert.ChipReference.nD Cert.ChipReference.τ).loc Cert.ChipReference.main_arg0) = m ((c.tc : Thread Cert.ChipReference.nD Cert.ChipReference.τ).loc Cert.ChipReference.main_arg0))
      ∧ r.2.sem = fun _ => 0)

def quiescent_UpdateIn [hUpdateIn : Cert.UpdateIn.Facts] : Prop :=
  ∀ (m : (ℓ : Loc Cert.UpdateIn.nD Cert.UpdateIn.τ Cert.UpdateIn.sig) → Buf (Elt Bits) ℓ) (g : Dev Cert.UpdateIn.nD → PrngReg), Pre_UpdateIn m →
    θ_run (Cert.UpdateIn.defs (F := Bits)) (onTc (τ := Cert.UpdateIn.τ) (Cert.UpdateIn.main (F := Bits))) ⟨m, fun _ => 0, g⟩ (fun r => (∀ c : Dev Cert.UpdateIn.nD,
      r.2.mem ((c.tc : Thread Cert.UpdateIn.nD Cert.UpdateIn.τ).loc Cert.UpdateIn.main_arg0) = m ((c.tc : Thread Cert.UpdateIn.nD Cert.UpdateIn.τ).loc Cert.UpdateIn.main_arg0)
      ∧ r.2.mem ((c.tc : Thread Cert.UpdateIn.nD Cert.UpdateIn.τ).loc Cert.UpdateIn.main_arg1) = m ((c.tc : Thread Cert.UpdateIn.nD Cert.UpdateIn.τ).loc Cert.UpdateIn.main_arg1)
      ∧ r.2.mem ((c.tc : Thread Cert.UpdateIn.nD Cert.UpdateIn.τ).loc Cert.UpdateIn.main_arg2) = m ((c.tc : Thread Cert.UpdateIn.nD Cert.UpdateIn.τ).loc Cert.UpdateIn.main_arg2)
      ∧ r.2.mem ((c.tc : Thread Cert.UpdateIn.nD Cert.UpdateIn.τ).loc Cert.UpdateIn.main_arg3) = m ((c.tc : Thread Cert.UpdateIn.nD Cert.UpdateIn.τ).loc Cert.UpdateIn.main_arg3))
      ∧ r.2.sem = fun _ => 0)

def quiescent_UpdateInIdeal [hUpdateInIdeal : Cert.UpdateInIdeal.Facts] : Prop :=
  ∀ (m : (ℓ : Loc Cert.UpdateInIdeal.nD Cert.UpdateInIdeal.τ Cert.UpdateInIdeal.sig) → Buf (Elt Ideal) ℓ) (g : Dev Cert.UpdateInIdeal.nD → PrngReg), Pre_UpdateInIdeal m →
    θ_run (Cert.UpdateInIdeal.defs (F := Ideal)) (onTc (τ := Cert.UpdateInIdeal.τ) (Cert.UpdateInIdeal.main (F := Ideal))) ⟨m, fun _ => 0, g⟩ (fun r => (∀ c : Dev Cert.UpdateInIdeal.nD,
      r.2.mem ((c.tc : Thread Cert.UpdateInIdeal.nD Cert.UpdateInIdeal.τ).loc Cert.UpdateInIdeal.main_arg0) = m ((c.tc : Thread Cert.UpdateInIdeal.nD Cert.UpdateInIdeal.τ).loc Cert.UpdateInIdeal.main_arg0)
      ∧ r.2.mem ((c.tc : Thread Cert.UpdateInIdeal.nD Cert.UpdateInIdeal.τ).loc Cert.UpdateInIdeal.main_arg1) = m ((c.tc : Thread Cert.UpdateInIdeal.nD Cert.UpdateInIdeal.τ).loc Cert.UpdateInIdeal.main_arg1)
      ∧ r.2.mem ((c.tc : Thread Cert.UpdateInIdeal.nD Cert.UpdateInIdeal.τ).loc Cert.UpdateInIdeal.main_arg2) = m ((c.tc : Thread Cert.UpdateInIdeal.nD Cert.UpdateInIdeal.τ).loc Cert.UpdateInIdeal.main_arg2)
      ∧ r.2.mem ((c.tc : Thread Cert.UpdateInIdeal.nD Cert.UpdateInIdeal.τ).loc Cert.UpdateInIdeal.main_arg3) = m ((c.tc : Thread Cert.UpdateInIdeal.nD Cert.UpdateInIdeal.τ).loc Cert.UpdateInIdeal.main_arg3))
      ∧ r.2.sem = fun _ => 0)

def quiescent_UpdateInReferenceIdeal [hUpdateInReferenceIdeal : Cert.UpdateInReferenceIdeal.Facts] : Prop :=
  ∀ (m : (ℓ : Loc Cert.UpdateInReferenceIdeal.nD Cert.UpdateInReferenceIdeal.τ Cert.UpdateInReferenceIdeal.sig) → Buf (Elt Ideal) ℓ) (g : Dev Cert.UpdateInReferenceIdeal.nD → PrngReg), Pre_UpdateInReferenceIdeal m →
    θ_run (Cert.UpdateInReferenceIdeal.defs (F := Ideal)) (onTc (τ := Cert.UpdateInReferenceIdeal.τ) (Cert.UpdateInReferenceIdeal.main (F := Ideal))) ⟨m, fun _ => 0, g⟩ (fun r => (∀ c : Dev Cert.UpdateInReferenceIdeal.nD,
      r.2.mem ((c.tc : Thread Cert.UpdateInReferenceIdeal.nD Cert.UpdateInReferenceIdeal.τ).loc Cert.UpdateInReferenceIdeal.main_arg0) = m ((c.tc : Thread Cert.UpdateInReferenceIdeal.nD Cert.UpdateInReferenceIdeal.τ).loc Cert.UpdateInReferenceIdeal.main_arg0)
      ∧ r.2.mem ((c.tc : Thread Cert.UpdateInReferenceIdeal.nD Cert.UpdateInReferenceIdeal.τ).loc Cert.UpdateInReferenceIdeal.main_arg1) = m ((c.tc : Thread Cert.UpdateInReferenceIdeal.nD Cert.UpdateInReferenceIdeal.τ).loc Cert.UpdateInReferenceIdeal.main_arg1)
      ∧ r.2.mem ((c.tc : Thread Cert.UpdateInReferenceIdeal.nD Cert.UpdateInReferenceIdeal.τ).loc Cert.UpdateInReferenceIdeal.main_arg2) = m ((c.tc : Thread Cert.UpdateInReferenceIdeal.nD Cert.UpdateInReferenceIdeal.τ).loc Cert.UpdateInReferenceIdeal.main_arg2)
      ∧ r.2.mem ((c.tc : Thread Cert.UpdateInReferenceIdeal.nD Cert.UpdateInReferenceIdeal.τ).loc Cert.UpdateInReferenceIdeal.main_arg3) = m ((c.tc : Thread Cert.UpdateInReferenceIdeal.nD Cert.UpdateInReferenceIdeal.τ).loc Cert.UpdateInReferenceIdeal.main_arg3))
      ∧ r.2.sem = fun _ => 0)

def quiescent_UpdateOut [hUpdateOut : Cert.UpdateOut.Facts] : Prop :=
  ∀ (m : (ℓ : Loc Cert.UpdateOut.nD Cert.UpdateOut.τ Cert.UpdateOut.sig) → Buf (Elt Bits) ℓ) (g : Dev Cert.UpdateOut.nD → PrngReg), Pre_UpdateOut m →
    θ_run (Cert.UpdateOut.defs (F := Bits)) (onTc (τ := Cert.UpdateOut.τ) (Cert.UpdateOut.main (F := Bits))) ⟨m, fun _ => 0, g⟩ (fun r => (∀ c : Dev Cert.UpdateOut.nD,
      r.2.mem ((c.tc : Thread Cert.UpdateOut.nD Cert.UpdateOut.τ).loc Cert.UpdateOut.main_arg0) = m ((c.tc : Thread Cert.UpdateOut.nD Cert.UpdateOut.τ).loc Cert.UpdateOut.main_arg0)
      ∧ r.2.mem ((c.tc : Thread Cert.UpdateOut.nD Cert.UpdateOut.τ).loc Cert.UpdateOut.main_arg1) = m ((c.tc : Thread Cert.UpdateOut.nD Cert.UpdateOut.τ).loc Cert.UpdateOut.main_arg1)
      ∧ r.2.mem ((c.tc : Thread Cert.UpdateOut.nD Cert.UpdateOut.τ).loc Cert.UpdateOut.main_arg2) = m ((c.tc : Thread Cert.UpdateOut.nD Cert.UpdateOut.τ).loc Cert.UpdateOut.main_arg2)
      ∧ r.2.mem ((c.tc : Thread Cert.UpdateOut.nD Cert.UpdateOut.τ).loc Cert.UpdateOut.main_arg3) = m ((c.tc : Thread Cert.UpdateOut.nD Cert.UpdateOut.τ).loc Cert.UpdateOut.main_arg3))
      ∧ r.2.sem = fun _ => 0)

def quiescent_UpdateOutIdeal [hUpdateOutIdeal : Cert.UpdateOutIdeal.Facts] : Prop :=
  ∀ (m : (ℓ : Loc Cert.UpdateOutIdeal.nD Cert.UpdateOutIdeal.τ Cert.UpdateOutIdeal.sig) → Buf (Elt Ideal) ℓ) (g : Dev Cert.UpdateOutIdeal.nD → PrngReg), Pre_UpdateOutIdeal m →
    θ_run (Cert.UpdateOutIdeal.defs (F := Ideal)) (onTc (τ := Cert.UpdateOutIdeal.τ) (Cert.UpdateOutIdeal.main (F := Ideal))) ⟨m, fun _ => 0, g⟩ (fun r => (∀ c : Dev Cert.UpdateOutIdeal.nD,
      r.2.mem ((c.tc : Thread Cert.UpdateOutIdeal.nD Cert.UpdateOutIdeal.τ).loc Cert.UpdateOutIdeal.main_arg0) = m ((c.tc : Thread Cert.UpdateOutIdeal.nD Cert.UpdateOutIdeal.τ).loc Cert.UpdateOutIdeal.main_arg0)
      ∧ r.2.mem ((c.tc : Thread Cert.UpdateOutIdeal.nD Cert.UpdateOutIdeal.τ).loc Cert.UpdateOutIdeal.main_arg1) = m ((c.tc : Thread Cert.UpdateOutIdeal.nD Cert.UpdateOutIdeal.τ).loc Cert.UpdateOutIdeal.main_arg1)
      ∧ r.2.mem ((c.tc : Thread Cert.UpdateOutIdeal.nD Cert.UpdateOutIdeal.τ).loc Cert.UpdateOutIdeal.main_arg2) = m ((c.tc : Thread Cert.UpdateOutIdeal.nD Cert.UpdateOutIdeal.τ).loc Cert.UpdateOutIdeal.main_arg2)
      ∧ r.2.mem ((c.tc : Thread Cert.UpdateOutIdeal.nD Cert.UpdateOutIdeal.τ).loc Cert.UpdateOutIdeal.main_arg3) = m ((c.tc : Thread Cert.UpdateOutIdeal.nD Cert.UpdateOutIdeal.τ).loc Cert.UpdateOutIdeal.main_arg3))
      ∧ r.2.sem = fun _ => 0)

def quiescent_UpdateOutReferenceIdeal [hUpdateOutReferenceIdeal : Cert.UpdateOutReferenceIdeal.Facts] : Prop :=
  ∀ (m : (ℓ : Loc Cert.UpdateOutReferenceIdeal.nD Cert.UpdateOutReferenceIdeal.τ Cert.UpdateOutReferenceIdeal.sig) → Buf (Elt Ideal) ℓ) (g : Dev Cert.UpdateOutReferenceIdeal.nD → PrngReg), Pre_UpdateOutReferenceIdeal m →
    θ_run (Cert.UpdateOutReferenceIdeal.defs (F := Ideal)) (onTc (τ := Cert.UpdateOutReferenceIdeal.τ) (Cert.UpdateOutReferenceIdeal.main (F := Ideal))) ⟨m, fun _ => 0, g⟩ (fun r => (∀ c : Dev Cert.UpdateOutReferenceIdeal.nD,
      r.2.mem ((c.tc : Thread Cert.UpdateOutReferenceIdeal.nD Cert.UpdateOutReferenceIdeal.τ).loc Cert.UpdateOutReferenceIdeal.main_arg0) = m ((c.tc : Thread Cert.UpdateOutReferenceIdeal.nD Cert.UpdateOutReferenceIdeal.τ).loc Cert.UpdateOutReferenceIdeal.main_arg0)
      ∧ r.2.mem ((c.tc : Thread Cert.UpdateOutReferenceIdeal.nD Cert.UpdateOutReferenceIdeal.τ).loc Cert.UpdateOutReferenceIdeal.main_arg1) = m ((c.tc : Thread Cert.UpdateOutReferenceIdeal.nD Cert.UpdateOutReferenceIdeal.τ).loc Cert.UpdateOutReferenceIdeal.main_arg1)
      ∧ r.2.mem ((c.tc : Thread Cert.UpdateOutReferenceIdeal.nD Cert.UpdateOutReferenceIdeal.τ).loc Cert.UpdateOutReferenceIdeal.main_arg2) = m ((c.tc : Thread Cert.UpdateOutReferenceIdeal.nD Cert.UpdateOutReferenceIdeal.τ).loc Cert.UpdateOutReferenceIdeal.main_arg2)
      ∧ r.2.mem ((c.tc : Thread Cert.UpdateOutReferenceIdeal.nD Cert.UpdateOutReferenceIdeal.τ).loc Cert.UpdateOutReferenceIdeal.main_arg3) = m ((c.tc : Thread Cert.UpdateOutReferenceIdeal.nD Cert.UpdateOutReferenceIdeal.τ).loc Cert.UpdateOutReferenceIdeal.main_arg3))
      ∧ r.2.sem = fun _ => 0)

def quiescent_UpdateQkv [hUpdateQkv : Cert.UpdateQkv.Facts] : Prop :=
  ∀ (m : (ℓ : Loc Cert.UpdateQkv.nD Cert.UpdateQkv.τ Cert.UpdateQkv.sig) → Buf (Elt Bits) ℓ) (g : Dev Cert.UpdateQkv.nD → PrngReg), Pre_UpdateQkv m →
    θ_run (Cert.UpdateQkv.defs (F := Bits)) (onTc (τ := Cert.UpdateQkv.τ) (Cert.UpdateQkv.main (F := Bits))) ⟨m, fun _ => 0, g⟩ (fun r => (∀ c : Dev Cert.UpdateQkv.nD,
      r.2.mem ((c.tc : Thread Cert.UpdateQkv.nD Cert.UpdateQkv.τ).loc Cert.UpdateQkv.main_arg0) = m ((c.tc : Thread Cert.UpdateQkv.nD Cert.UpdateQkv.τ).loc Cert.UpdateQkv.main_arg0)
      ∧ r.2.mem ((c.tc : Thread Cert.UpdateQkv.nD Cert.UpdateQkv.τ).loc Cert.UpdateQkv.main_arg1) = m ((c.tc : Thread Cert.UpdateQkv.nD Cert.UpdateQkv.τ).loc Cert.UpdateQkv.main_arg1)
      ∧ r.2.mem ((c.tc : Thread Cert.UpdateQkv.nD Cert.UpdateQkv.τ).loc Cert.UpdateQkv.main_arg2) = m ((c.tc : Thread Cert.UpdateQkv.nD Cert.UpdateQkv.τ).loc Cert.UpdateQkv.main_arg2)
      ∧ r.2.mem ((c.tc : Thread Cert.UpdateQkv.nD Cert.UpdateQkv.τ).loc Cert.UpdateQkv.main_arg3) = m ((c.tc : Thread Cert.UpdateQkv.nD Cert.UpdateQkv.τ).loc Cert.UpdateQkv.main_arg3))
      ∧ r.2.sem = fun _ => 0)

def quiescent_UpdateQkvIdeal [hUpdateQkvIdeal : Cert.UpdateQkvIdeal.Facts] : Prop :=
  ∀ (m : (ℓ : Loc Cert.UpdateQkvIdeal.nD Cert.UpdateQkvIdeal.τ Cert.UpdateQkvIdeal.sig) → Buf (Elt Ideal) ℓ) (g : Dev Cert.UpdateQkvIdeal.nD → PrngReg), Pre_UpdateQkvIdeal m →
    θ_run (Cert.UpdateQkvIdeal.defs (F := Ideal)) (onTc (τ := Cert.UpdateQkvIdeal.τ) (Cert.UpdateQkvIdeal.main (F := Ideal))) ⟨m, fun _ => 0, g⟩ (fun r => (∀ c : Dev Cert.UpdateQkvIdeal.nD,
      r.2.mem ((c.tc : Thread Cert.UpdateQkvIdeal.nD Cert.UpdateQkvIdeal.τ).loc Cert.UpdateQkvIdeal.main_arg0) = m ((c.tc : Thread Cert.UpdateQkvIdeal.nD Cert.UpdateQkvIdeal.τ).loc Cert.UpdateQkvIdeal.main_arg0)
      ∧ r.2.mem ((c.tc : Thread Cert.UpdateQkvIdeal.nD Cert.UpdateQkvIdeal.τ).loc Cert.UpdateQkvIdeal.main_arg1) = m ((c.tc : Thread Cert.UpdateQkvIdeal.nD Cert.UpdateQkvIdeal.τ).loc Cert.UpdateQkvIdeal.main_arg1)
      ∧ r.2.mem ((c.tc : Thread Cert.UpdateQkvIdeal.nD Cert.UpdateQkvIdeal.τ).loc Cert.UpdateQkvIdeal.main_arg2) = m ((c.tc : Thread Cert.UpdateQkvIdeal.nD Cert.UpdateQkvIdeal.τ).loc Cert.UpdateQkvIdeal.main_arg2)
      ∧ r.2.mem ((c.tc : Thread Cert.UpdateQkvIdeal.nD Cert.UpdateQkvIdeal.τ).loc Cert.UpdateQkvIdeal.main_arg3) = m ((c.tc : Thread Cert.UpdateQkvIdeal.nD Cert.UpdateQkvIdeal.τ).loc Cert.UpdateQkvIdeal.main_arg3))
      ∧ r.2.sem = fun _ => 0)

def quiescent_UpdateQkvReferenceIdeal [hUpdateQkvReferenceIdeal : Cert.UpdateQkvReferenceIdeal.Facts] : Prop :=
  ∀ (m : (ℓ : Loc Cert.UpdateQkvReferenceIdeal.nD Cert.UpdateQkvReferenceIdeal.τ Cert.UpdateQkvReferenceIdeal.sig) → Buf (Elt Ideal) ℓ) (g : Dev Cert.UpdateQkvReferenceIdeal.nD → PrngReg), Pre_UpdateQkvReferenceIdeal m →
    θ_run (Cert.UpdateQkvReferenceIdeal.defs (F := Ideal)) (onTc (τ := Cert.UpdateQkvReferenceIdeal.τ) (Cert.UpdateQkvReferenceIdeal.main (F := Ideal))) ⟨m, fun _ => 0, g⟩ (fun r => (∀ c : Dev Cert.UpdateQkvReferenceIdeal.nD,
      r.2.mem ((c.tc : Thread Cert.UpdateQkvReferenceIdeal.nD Cert.UpdateQkvReferenceIdeal.τ).loc Cert.UpdateQkvReferenceIdeal.main_arg0) = m ((c.tc : Thread Cert.UpdateQkvReferenceIdeal.nD Cert.UpdateQkvReferenceIdeal.τ).loc Cert.UpdateQkvReferenceIdeal.main_arg0)
      ∧ r.2.mem ((c.tc : Thread Cert.UpdateQkvReferenceIdeal.nD Cert.UpdateQkvReferenceIdeal.τ).loc Cert.UpdateQkvReferenceIdeal.main_arg1) = m ((c.tc : Thread Cert.UpdateQkvReferenceIdeal.nD Cert.UpdateQkvReferenceIdeal.τ).loc Cert.UpdateQkvReferenceIdeal.main_arg1)
      ∧ r.2.mem ((c.tc : Thread Cert.UpdateQkvReferenceIdeal.nD Cert.UpdateQkvReferenceIdeal.τ).loc Cert.UpdateQkvReferenceIdeal.main_arg2) = m ((c.tc : Thread Cert.UpdateQkvReferenceIdeal.nD Cert.UpdateQkvReferenceIdeal.τ).loc Cert.UpdateQkvReferenceIdeal.main_arg2)
      ∧ r.2.mem ((c.tc : Thread Cert.UpdateQkvReferenceIdeal.nD Cert.UpdateQkvReferenceIdeal.τ).loc Cert.UpdateQkvReferenceIdeal.main_arg3) = m ((c.tc : Thread Cert.UpdateQkvReferenceIdeal.nD Cert.UpdateQkvReferenceIdeal.τ).loc Cert.UpdateQkvReferenceIdeal.main_arg3))
      ∧ r.2.sem = fun _ => 0)

def quiescent_UpdateCo [hUpdateCo : Cert.UpdateCo.Facts] : Prop :=
  ∀ (m : (ℓ : Loc Cert.UpdateCo.nD Cert.UpdateCo.τ Cert.UpdateCo.sig) → Buf (Elt Bits) ℓ) (g : Dev Cert.UpdateCo.nD → PrngReg), Pre_UpdateCo m →
    θ_run (Cert.UpdateCo.defs (F := Bits)) (onTc (τ := Cert.UpdateCo.τ) (Cert.UpdateCo.main (F := Bits))) ⟨m, fun _ => 0, g⟩ (fun r => (∀ c : Dev Cert.UpdateCo.nD,
      r.2.mem ((c.tc : Thread Cert.UpdateCo.nD Cert.UpdateCo.τ).loc Cert.UpdateCo.main_arg0) = m ((c.tc : Thread Cert.UpdateCo.nD Cert.UpdateCo.τ).loc Cert.UpdateCo.main_arg0)
      ∧ r.2.mem ((c.tc : Thread Cert.UpdateCo.nD Cert.UpdateCo.τ).loc Cert.UpdateCo.main_arg1) = m ((c.tc : Thread Cert.UpdateCo.nD Cert.UpdateCo.τ).loc Cert.UpdateCo.main_arg1)
      ∧ r.2.mem ((c.tc : Thread Cert.UpdateCo.nD Cert.UpdateCo.τ).loc Cert.UpdateCo.main_arg2) = m ((c.tc : Thread Cert.UpdateCo.nD Cert.UpdateCo.τ).loc Cert.UpdateCo.main_arg2)
      ∧ r.2.mem ((c.tc : Thread Cert.UpdateCo.nD Cert.UpdateCo.τ).loc Cert.UpdateCo.main_arg3) = m ((c.tc : Thread Cert.UpdateCo.nD Cert.UpdateCo.τ).loc Cert.UpdateCo.main_arg3))
      ∧ r.2.sem = fun _ => 0)

def quiescent_UpdateCoIdeal [hUpdateCoIdeal : Cert.UpdateCoIdeal.Facts] : Prop :=
  ∀ (m : (ℓ : Loc Cert.UpdateCoIdeal.nD Cert.UpdateCoIdeal.τ Cert.UpdateCoIdeal.sig) → Buf (Elt Ideal) ℓ) (g : Dev Cert.UpdateCoIdeal.nD → PrngReg), Pre_UpdateCoIdeal m →
    θ_run (Cert.UpdateCoIdeal.defs (F := Ideal)) (onTc (τ := Cert.UpdateCoIdeal.τ) (Cert.UpdateCoIdeal.main (F := Ideal))) ⟨m, fun _ => 0, g⟩ (fun r => (∀ c : Dev Cert.UpdateCoIdeal.nD,
      r.2.mem ((c.tc : Thread Cert.UpdateCoIdeal.nD Cert.UpdateCoIdeal.τ).loc Cert.UpdateCoIdeal.main_arg0) = m ((c.tc : Thread Cert.UpdateCoIdeal.nD Cert.UpdateCoIdeal.τ).loc Cert.UpdateCoIdeal.main_arg0)
      ∧ r.2.mem ((c.tc : Thread Cert.UpdateCoIdeal.nD Cert.UpdateCoIdeal.τ).loc Cert.UpdateCoIdeal.main_arg1) = m ((c.tc : Thread Cert.UpdateCoIdeal.nD Cert.UpdateCoIdeal.τ).loc Cert.UpdateCoIdeal.main_arg1)
      ∧ r.2.mem ((c.tc : Thread Cert.UpdateCoIdeal.nD Cert.UpdateCoIdeal.τ).loc Cert.UpdateCoIdeal.main_arg2) = m ((c.tc : Thread Cert.UpdateCoIdeal.nD Cert.UpdateCoIdeal.τ).loc Cert.UpdateCoIdeal.main_arg2)
      ∧ r.2.mem ((c.tc : Thread Cert.UpdateCoIdeal.nD Cert.UpdateCoIdeal.τ).loc Cert.UpdateCoIdeal.main_arg3) = m ((c.tc : Thread Cert.UpdateCoIdeal.nD Cert.UpdateCoIdeal.τ).loc Cert.UpdateCoIdeal.main_arg3))
      ∧ r.2.sem = fun _ => 0)

def quiescent_UpdateCoReferenceIdeal [hUpdateCoReferenceIdeal : Cert.UpdateCoReferenceIdeal.Facts] : Prop :=
  ∀ (m : (ℓ : Loc Cert.UpdateCoReferenceIdeal.nD Cert.UpdateCoReferenceIdeal.τ Cert.UpdateCoReferenceIdeal.sig) → Buf (Elt Ideal) ℓ) (g : Dev Cert.UpdateCoReferenceIdeal.nD → PrngReg), Pre_UpdateCoReferenceIdeal m →
    θ_run (Cert.UpdateCoReferenceIdeal.defs (F := Ideal)) (onTc (τ := Cert.UpdateCoReferenceIdeal.τ) (Cert.UpdateCoReferenceIdeal.main (F := Ideal))) ⟨m, fun _ => 0, g⟩ (fun r => (∀ c : Dev Cert.UpdateCoReferenceIdeal.nD,
      r.2.mem ((c.tc : Thread Cert.UpdateCoReferenceIdeal.nD Cert.UpdateCoReferenceIdeal.τ).loc Cert.UpdateCoReferenceIdeal.main_arg0) = m ((c.tc : Thread Cert.UpdateCoReferenceIdeal.nD Cert.UpdateCoReferenceIdeal.τ).loc Cert.UpdateCoReferenceIdeal.main_arg0)
      ∧ r.2.mem ((c.tc : Thread Cert.UpdateCoReferenceIdeal.nD Cert.UpdateCoReferenceIdeal.τ).loc Cert.UpdateCoReferenceIdeal.main_arg1) = m ((c.tc : Thread Cert.UpdateCoReferenceIdeal.nD Cert.UpdateCoReferenceIdeal.τ).loc Cert.UpdateCoReferenceIdeal.main_arg1)
      ∧ r.2.mem ((c.tc : Thread Cert.UpdateCoReferenceIdeal.nD Cert.UpdateCoReferenceIdeal.τ).loc Cert.UpdateCoReferenceIdeal.main_arg2) = m ((c.tc : Thread Cert.UpdateCoReferenceIdeal.nD Cert.UpdateCoReferenceIdeal.τ).loc Cert.UpdateCoReferenceIdeal.main_arg2)
      ∧ r.2.mem ((c.tc : Thread Cert.UpdateCoReferenceIdeal.nD Cert.UpdateCoReferenceIdeal.τ).loc Cert.UpdateCoReferenceIdeal.main_arg3) = m ((c.tc : Thread Cert.UpdateCoReferenceIdeal.nD Cert.UpdateCoReferenceIdeal.τ).loc Cert.UpdateCoReferenceIdeal.main_arg3))
      ∧ r.2.sem = fun _ => 0)

def quiescent_UpdateUp [hUpdateUp : Cert.UpdateUp.Facts] : Prop :=
  ∀ (m : (ℓ : Loc Cert.UpdateUp.nD Cert.UpdateUp.τ Cert.UpdateUp.sig) → Buf (Elt Bits) ℓ) (g : Dev Cert.UpdateUp.nD → PrngReg), Pre_UpdateUp m →
    θ_run (Cert.UpdateUp.defs (F := Bits)) (onTc (τ := Cert.UpdateUp.τ) (Cert.UpdateUp.main (F := Bits))) ⟨m, fun _ => 0, g⟩ (fun r => (∀ c : Dev Cert.UpdateUp.nD,
      r.2.mem ((c.tc : Thread Cert.UpdateUp.nD Cert.UpdateUp.τ).loc Cert.UpdateUp.main_arg0) = m ((c.tc : Thread Cert.UpdateUp.nD Cert.UpdateUp.τ).loc Cert.UpdateUp.main_arg0)
      ∧ r.2.mem ((c.tc : Thread Cert.UpdateUp.nD Cert.UpdateUp.τ).loc Cert.UpdateUp.main_arg1) = m ((c.tc : Thread Cert.UpdateUp.nD Cert.UpdateUp.τ).loc Cert.UpdateUp.main_arg1)
      ∧ r.2.mem ((c.tc : Thread Cert.UpdateUp.nD Cert.UpdateUp.τ).loc Cert.UpdateUp.main_arg2) = m ((c.tc : Thread Cert.UpdateUp.nD Cert.UpdateUp.τ).loc Cert.UpdateUp.main_arg2)
      ∧ r.2.mem ((c.tc : Thread Cert.UpdateUp.nD Cert.UpdateUp.τ).loc Cert.UpdateUp.main_arg3) = m ((c.tc : Thread Cert.UpdateUp.nD Cert.UpdateUp.τ).loc Cert.UpdateUp.main_arg3))
      ∧ r.2.sem = fun _ => 0)

def quiescent_UpdateUpIdeal [hUpdateUpIdeal : Cert.UpdateUpIdeal.Facts] : Prop :=
  ∀ (m : (ℓ : Loc Cert.UpdateUpIdeal.nD Cert.UpdateUpIdeal.τ Cert.UpdateUpIdeal.sig) → Buf (Elt Ideal) ℓ) (g : Dev Cert.UpdateUpIdeal.nD → PrngReg), Pre_UpdateUpIdeal m →
    θ_run (Cert.UpdateUpIdeal.defs (F := Ideal)) (onTc (τ := Cert.UpdateUpIdeal.τ) (Cert.UpdateUpIdeal.main (F := Ideal))) ⟨m, fun _ => 0, g⟩ (fun r => (∀ c : Dev Cert.UpdateUpIdeal.nD,
      r.2.mem ((c.tc : Thread Cert.UpdateUpIdeal.nD Cert.UpdateUpIdeal.τ).loc Cert.UpdateUpIdeal.main_arg0) = m ((c.tc : Thread Cert.UpdateUpIdeal.nD Cert.UpdateUpIdeal.τ).loc Cert.UpdateUpIdeal.main_arg0)
      ∧ r.2.mem ((c.tc : Thread Cert.UpdateUpIdeal.nD Cert.UpdateUpIdeal.τ).loc Cert.UpdateUpIdeal.main_arg1) = m ((c.tc : Thread Cert.UpdateUpIdeal.nD Cert.UpdateUpIdeal.τ).loc Cert.UpdateUpIdeal.main_arg1)
      ∧ r.2.mem ((c.tc : Thread Cert.UpdateUpIdeal.nD Cert.UpdateUpIdeal.τ).loc Cert.UpdateUpIdeal.main_arg2) = m ((c.tc : Thread Cert.UpdateUpIdeal.nD Cert.UpdateUpIdeal.τ).loc Cert.UpdateUpIdeal.main_arg2)
      ∧ r.2.mem ((c.tc : Thread Cert.UpdateUpIdeal.nD Cert.UpdateUpIdeal.τ).loc Cert.UpdateUpIdeal.main_arg3) = m ((c.tc : Thread Cert.UpdateUpIdeal.nD Cert.UpdateUpIdeal.τ).loc Cert.UpdateUpIdeal.main_arg3))
      ∧ r.2.sem = fun _ => 0)

def quiescent_UpdateUpReferenceIdeal [hUpdateUpReferenceIdeal : Cert.UpdateUpReferenceIdeal.Facts] : Prop :=
  ∀ (m : (ℓ : Loc Cert.UpdateUpReferenceIdeal.nD Cert.UpdateUpReferenceIdeal.τ Cert.UpdateUpReferenceIdeal.sig) → Buf (Elt Ideal) ℓ) (g : Dev Cert.UpdateUpReferenceIdeal.nD → PrngReg), Pre_UpdateUpReferenceIdeal m →
    θ_run (Cert.UpdateUpReferenceIdeal.defs (F := Ideal)) (onTc (τ := Cert.UpdateUpReferenceIdeal.τ) (Cert.UpdateUpReferenceIdeal.main (F := Ideal))) ⟨m, fun _ => 0, g⟩ (fun r => (∀ c : Dev Cert.UpdateUpReferenceIdeal.nD,
      r.2.mem ((c.tc : Thread Cert.UpdateUpReferenceIdeal.nD Cert.UpdateUpReferenceIdeal.τ).loc Cert.UpdateUpReferenceIdeal.main_arg0) = m ((c.tc : Thread Cert.UpdateUpReferenceIdeal.nD Cert.UpdateUpReferenceIdeal.τ).loc Cert.UpdateUpReferenceIdeal.main_arg0)
      ∧ r.2.mem ((c.tc : Thread Cert.UpdateUpReferenceIdeal.nD Cert.UpdateUpReferenceIdeal.τ).loc Cert.UpdateUpReferenceIdeal.main_arg1) = m ((c.tc : Thread Cert.UpdateUpReferenceIdeal.nD Cert.UpdateUpReferenceIdeal.τ).loc Cert.UpdateUpReferenceIdeal.main_arg1)
      ∧ r.2.mem ((c.tc : Thread Cert.UpdateUpReferenceIdeal.nD Cert.UpdateUpReferenceIdeal.τ).loc Cert.UpdateUpReferenceIdeal.main_arg2) = m ((c.tc : Thread Cert.UpdateUpReferenceIdeal.nD Cert.UpdateUpReferenceIdeal.τ).loc Cert.UpdateUpReferenceIdeal.main_arg2)
      ∧ r.2.mem ((c.tc : Thread Cert.UpdateUpReferenceIdeal.nD Cert.UpdateUpReferenceIdeal.τ).loc Cert.UpdateUpReferenceIdeal.main_arg3) = m ((c.tc : Thread Cert.UpdateUpReferenceIdeal.nD Cert.UpdateUpReferenceIdeal.τ).loc Cert.UpdateUpReferenceIdeal.main_arg3))
      ∧ r.2.sem = fun _ => 0)

def quiescent_UpdateDown [hUpdateDown : Cert.UpdateDown.Facts] : Prop :=
  ∀ (m : (ℓ : Loc Cert.UpdateDown.nD Cert.UpdateDown.τ Cert.UpdateDown.sig) → Buf (Elt Bits) ℓ) (g : Dev Cert.UpdateDown.nD → PrngReg), Pre_UpdateDown m →
    θ_run (Cert.UpdateDown.defs (F := Bits)) (onTc (τ := Cert.UpdateDown.τ) (Cert.UpdateDown.main (F := Bits))) ⟨m, fun _ => 0, g⟩ (fun r => (∀ c : Dev Cert.UpdateDown.nD,
      r.2.mem ((c.tc : Thread Cert.UpdateDown.nD Cert.UpdateDown.τ).loc Cert.UpdateDown.main_arg0) = m ((c.tc : Thread Cert.UpdateDown.nD Cert.UpdateDown.τ).loc Cert.UpdateDown.main_arg0)
      ∧ r.2.mem ((c.tc : Thread Cert.UpdateDown.nD Cert.UpdateDown.τ).loc Cert.UpdateDown.main_arg1) = m ((c.tc : Thread Cert.UpdateDown.nD Cert.UpdateDown.τ).loc Cert.UpdateDown.main_arg1)
      ∧ r.2.mem ((c.tc : Thread Cert.UpdateDown.nD Cert.UpdateDown.τ).loc Cert.UpdateDown.main_arg2) = m ((c.tc : Thread Cert.UpdateDown.nD Cert.UpdateDown.τ).loc Cert.UpdateDown.main_arg2)
      ∧ r.2.mem ((c.tc : Thread Cert.UpdateDown.nD Cert.UpdateDown.τ).loc Cert.UpdateDown.main_arg3) = m ((c.tc : Thread Cert.UpdateDown.nD Cert.UpdateDown.τ).loc Cert.UpdateDown.main_arg3))
      ∧ r.2.sem = fun _ => 0)

def quiescent_UpdateDownIdeal [hUpdateDownIdeal : Cert.UpdateDownIdeal.Facts] : Prop :=
  ∀ (m : (ℓ : Loc Cert.UpdateDownIdeal.nD Cert.UpdateDownIdeal.τ Cert.UpdateDownIdeal.sig) → Buf (Elt Ideal) ℓ) (g : Dev Cert.UpdateDownIdeal.nD → PrngReg), Pre_UpdateDownIdeal m →
    θ_run (Cert.UpdateDownIdeal.defs (F := Ideal)) (onTc (τ := Cert.UpdateDownIdeal.τ) (Cert.UpdateDownIdeal.main (F := Ideal))) ⟨m, fun _ => 0, g⟩ (fun r => (∀ c : Dev Cert.UpdateDownIdeal.nD,
      r.2.mem ((c.tc : Thread Cert.UpdateDownIdeal.nD Cert.UpdateDownIdeal.τ).loc Cert.UpdateDownIdeal.main_arg0) = m ((c.tc : Thread Cert.UpdateDownIdeal.nD Cert.UpdateDownIdeal.τ).loc Cert.UpdateDownIdeal.main_arg0)
      ∧ r.2.mem ((c.tc : Thread Cert.UpdateDownIdeal.nD Cert.UpdateDownIdeal.τ).loc Cert.UpdateDownIdeal.main_arg1) = m ((c.tc : Thread Cert.UpdateDownIdeal.nD Cert.UpdateDownIdeal.τ).loc Cert.UpdateDownIdeal.main_arg1)
      ∧ r.2.mem ((c.tc : Thread Cert.UpdateDownIdeal.nD Cert.UpdateDownIdeal.τ).loc Cert.UpdateDownIdeal.main_arg2) = m ((c.tc : Thread Cert.UpdateDownIdeal.nD Cert.UpdateDownIdeal.τ).loc Cert.UpdateDownIdeal.main_arg2)
      ∧ r.2.mem ((c.tc : Thread Cert.UpdateDownIdeal.nD Cert.UpdateDownIdeal.τ).loc Cert.UpdateDownIdeal.main_arg3) = m ((c.tc : Thread Cert.UpdateDownIdeal.nD Cert.UpdateDownIdeal.τ).loc Cert.UpdateDownIdeal.main_arg3))
      ∧ r.2.sem = fun _ => 0)

def quiescent_UpdateDownReferenceIdeal [hUpdateDownReferenceIdeal : Cert.UpdateDownReferenceIdeal.Facts] : Prop :=
  ∀ (m : (ℓ : Loc Cert.UpdateDownReferenceIdeal.nD Cert.UpdateDownReferenceIdeal.τ Cert.UpdateDownReferenceIdeal.sig) → Buf (Elt Ideal) ℓ) (g : Dev Cert.UpdateDownReferenceIdeal.nD → PrngReg), Pre_UpdateDownReferenceIdeal m →
    θ_run (Cert.UpdateDownReferenceIdeal.defs (F := Ideal)) (onTc (τ := Cert.UpdateDownReferenceIdeal.τ) (Cert.UpdateDownReferenceIdeal.main (F := Ideal))) ⟨m, fun _ => 0, g⟩ (fun r => (∀ c : Dev Cert.UpdateDownReferenceIdeal.nD,
      r.2.mem ((c.tc : Thread Cert.UpdateDownReferenceIdeal.nD Cert.UpdateDownReferenceIdeal.τ).loc Cert.UpdateDownReferenceIdeal.main_arg0) = m ((c.tc : Thread Cert.UpdateDownReferenceIdeal.nD Cert.UpdateDownReferenceIdeal.τ).loc Cert.UpdateDownReferenceIdeal.main_arg0)
      ∧ r.2.mem ((c.tc : Thread Cert.UpdateDownReferenceIdeal.nD Cert.UpdateDownReferenceIdeal.τ).loc Cert.UpdateDownReferenceIdeal.main_arg1) = m ((c.tc : Thread Cert.UpdateDownReferenceIdeal.nD Cert.UpdateDownReferenceIdeal.τ).loc Cert.UpdateDownReferenceIdeal.main_arg1)
      ∧ r.2.mem ((c.tc : Thread Cert.UpdateDownReferenceIdeal.nD Cert.UpdateDownReferenceIdeal.τ).loc Cert.UpdateDownReferenceIdeal.main_arg2) = m ((c.tc : Thread Cert.UpdateDownReferenceIdeal.nD Cert.UpdateDownReferenceIdeal.τ).loc Cert.UpdateDownReferenceIdeal.main_arg2)
      ∧ r.2.mem ((c.tc : Thread Cert.UpdateDownReferenceIdeal.nD Cert.UpdateDownReferenceIdeal.τ).loc Cert.UpdateDownReferenceIdeal.main_arg3) = m ((c.tc : Thread Cert.UpdateDownReferenceIdeal.nD Cert.UpdateDownReferenceIdeal.τ).loc Cert.UpdateDownReferenceIdeal.main_arg3))
      ∧ r.2.sem = fun _ => 0)

def quiescent_UpdatePack [hUpdatePack : Cert.UpdatePack.Facts] : Prop :=
  ∀ (m : (ℓ : Loc Cert.UpdatePack.nD Cert.UpdatePack.τ Cert.UpdatePack.sig) → Buf (Elt Bits) ℓ) (g : Dev Cert.UpdatePack.nD → PrngReg), Pre_UpdatePack m →
    θ_run (Cert.UpdatePack.defs (F := Bits)) (onTc (τ := Cert.UpdatePack.τ) (Cert.UpdatePack.main (F := Bits))) ⟨m, fun _ => 0, g⟩ (fun r => (∀ c : Dev Cert.UpdatePack.nD,
      r.2.mem ((c.tc : Thread Cert.UpdatePack.nD Cert.UpdatePack.τ).loc Cert.UpdatePack.main_arg0) = m ((c.tc : Thread Cert.UpdatePack.nD Cert.UpdatePack.τ).loc Cert.UpdatePack.main_arg0)
      ∧ r.2.mem ((c.tc : Thread Cert.UpdatePack.nD Cert.UpdatePack.τ).loc Cert.UpdatePack.main_arg1) = m ((c.tc : Thread Cert.UpdatePack.nD Cert.UpdatePack.τ).loc Cert.UpdatePack.main_arg1)
      ∧ r.2.mem ((c.tc : Thread Cert.UpdatePack.nD Cert.UpdatePack.τ).loc Cert.UpdatePack.main_arg2) = m ((c.tc : Thread Cert.UpdatePack.nD Cert.UpdatePack.τ).loc Cert.UpdatePack.main_arg2)
      ∧ r.2.mem ((c.tc : Thread Cert.UpdatePack.nD Cert.UpdatePack.τ).loc Cert.UpdatePack.main_arg3) = m ((c.tc : Thread Cert.UpdatePack.nD Cert.UpdatePack.τ).loc Cert.UpdatePack.main_arg3))
      ∧ r.2.sem = fun _ => 0)

def quiescent_UpdatePackIdeal [hUpdatePackIdeal : Cert.UpdatePackIdeal.Facts] : Prop :=
  ∀ (m : (ℓ : Loc Cert.UpdatePackIdeal.nD Cert.UpdatePackIdeal.τ Cert.UpdatePackIdeal.sig) → Buf (Elt Ideal) ℓ) (g : Dev Cert.UpdatePackIdeal.nD → PrngReg), Pre_UpdatePackIdeal m →
    θ_run (Cert.UpdatePackIdeal.defs (F := Ideal)) (onTc (τ := Cert.UpdatePackIdeal.τ) (Cert.UpdatePackIdeal.main (F := Ideal))) ⟨m, fun _ => 0, g⟩ (fun r => (∀ c : Dev Cert.UpdatePackIdeal.nD,
      r.2.mem ((c.tc : Thread Cert.UpdatePackIdeal.nD Cert.UpdatePackIdeal.τ).loc Cert.UpdatePackIdeal.main_arg0) = m ((c.tc : Thread Cert.UpdatePackIdeal.nD Cert.UpdatePackIdeal.τ).loc Cert.UpdatePackIdeal.main_arg0)
      ∧ r.2.mem ((c.tc : Thread Cert.UpdatePackIdeal.nD Cert.UpdatePackIdeal.τ).loc Cert.UpdatePackIdeal.main_arg1) = m ((c.tc : Thread Cert.UpdatePackIdeal.nD Cert.UpdatePackIdeal.τ).loc Cert.UpdatePackIdeal.main_arg1)
      ∧ r.2.mem ((c.tc : Thread Cert.UpdatePackIdeal.nD Cert.UpdatePackIdeal.τ).loc Cert.UpdatePackIdeal.main_arg2) = m ((c.tc : Thread Cert.UpdatePackIdeal.nD Cert.UpdatePackIdeal.τ).loc Cert.UpdatePackIdeal.main_arg2)
      ∧ r.2.mem ((c.tc : Thread Cert.UpdatePackIdeal.nD Cert.UpdatePackIdeal.τ).loc Cert.UpdatePackIdeal.main_arg3) = m ((c.tc : Thread Cert.UpdatePackIdeal.nD Cert.UpdatePackIdeal.τ).loc Cert.UpdatePackIdeal.main_arg3))
      ∧ r.2.sem = fun _ => 0)

def quiescent_UpdatePackReferenceIdeal [hUpdatePackReferenceIdeal : Cert.UpdatePackReferenceIdeal.Facts] : Prop :=
  ∀ (m : (ℓ : Loc Cert.UpdatePackReferenceIdeal.nD Cert.UpdatePackReferenceIdeal.τ Cert.UpdatePackReferenceIdeal.sig) → Buf (Elt Ideal) ℓ) (g : Dev Cert.UpdatePackReferenceIdeal.nD → PrngReg), Pre_UpdatePackReferenceIdeal m →
    θ_run (Cert.UpdatePackReferenceIdeal.defs (F := Ideal)) (onTc (τ := Cert.UpdatePackReferenceIdeal.τ) (Cert.UpdatePackReferenceIdeal.main (F := Ideal))) ⟨m, fun _ => 0, g⟩ (fun r => (∀ c : Dev Cert.UpdatePackReferenceIdeal.nD,
      r.2.mem ((c.tc : Thread Cert.UpdatePackReferenceIdeal.nD Cert.UpdatePackReferenceIdeal.τ).loc Cert.UpdatePackReferenceIdeal.main_arg0) = m ((c.tc : Thread Cert.UpdatePackReferenceIdeal.nD Cert.UpdatePackReferenceIdeal.τ).loc Cert.UpdatePackReferenceIdeal.main_arg0)
      ∧ r.2.mem ((c.tc : Thread Cert.UpdatePackReferenceIdeal.nD Cert.UpdatePackReferenceIdeal.τ).loc Cert.UpdatePackReferenceIdeal.main_arg1) = m ((c.tc : Thread Cert.UpdatePackReferenceIdeal.nD Cert.UpdatePackReferenceIdeal.τ).loc Cert.UpdatePackReferenceIdeal.main_arg1)
      ∧ r.2.mem ((c.tc : Thread Cert.UpdatePackReferenceIdeal.nD Cert.UpdatePackReferenceIdeal.τ).loc Cert.UpdatePackReferenceIdeal.main_arg2) = m ((c.tc : Thread Cert.UpdatePackReferenceIdeal.nD Cert.UpdatePackReferenceIdeal.τ).loc Cert.UpdatePackReferenceIdeal.main_arg2)
      ∧ r.2.mem ((c.tc : Thread Cert.UpdatePackReferenceIdeal.nD Cert.UpdatePackReferenceIdeal.τ).loc Cert.UpdatePackReferenceIdeal.main_arg3) = m ((c.tc : Thread Cert.UpdatePackReferenceIdeal.nD Cert.UpdatePackReferenceIdeal.τ).loc Cert.UpdatePackReferenceIdeal.main_arg3))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdReferenceIdeal [hNormBwdReferenceIdeal : Cert.NormBwdReferenceIdeal.Facts] : Prop :=
  ∀ (m : (ℓ : Loc Cert.NormBwdReferenceIdeal.nD Cert.NormBwdReferenceIdeal.τ Cert.NormBwdReferenceIdeal.sig) → Buf (Elt Ideal) ℓ) (g : Dev Cert.NormBwdReferenceIdeal.nD → PrngReg), Pre_NormBwdReferenceIdeal m →
    θ_run (Cert.NormBwdReferenceIdeal.defs (F := Ideal)) (onTc (τ := Cert.NormBwdReferenceIdeal.τ) (Cert.NormBwdReferenceIdeal.main (F := Ideal))) ⟨m, fun _ => 0, g⟩ (fun r => (∀ c : Dev Cert.NormBwdReferenceIdeal.nD,
      r.2.mem ((c.tc : Thread Cert.NormBwdReferenceIdeal.nD Cert.NormBwdReferenceIdeal.τ).loc Cert.NormBwdReferenceIdeal.main_arg0) = m ((c.tc : Thread Cert.NormBwdReferenceIdeal.nD Cert.NormBwdReferenceIdeal.τ).loc Cert.NormBwdReferenceIdeal.main_arg0)
      ∧ r.2.mem ((c.tc : Thread Cert.NormBwdReferenceIdeal.nD Cert.NormBwdReferenceIdeal.τ).loc Cert.NormBwdReferenceIdeal.main_arg1) = m ((c.tc : Thread Cert.NormBwdReferenceIdeal.nD Cert.NormBwdReferenceIdeal.τ).loc Cert.NormBwdReferenceIdeal.main_arg1)
      ∧ r.2.mem ((c.tc : Thread Cert.NormBwdReferenceIdeal.nD Cert.NormBwdReferenceIdeal.τ).loc Cert.NormBwdReferenceIdeal.main_arg2) = m ((c.tc : Thread Cert.NormBwdReferenceIdeal.nD Cert.NormBwdReferenceIdeal.τ).loc Cert.NormBwdReferenceIdeal.main_arg2)
      ∧ r.2.mem ((c.tc : Thread Cert.NormBwdReferenceIdeal.nD Cert.NormBwdReferenceIdeal.τ).loc Cert.NormBwdReferenceIdeal.main_arg3) = m ((c.tc : Thread Cert.NormBwdReferenceIdeal.nD Cert.NormBwdReferenceIdeal.τ).loc Cert.NormBwdReferenceIdeal.main_arg3))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadReferenceIdeal [hLossHeadReferenceIdeal : Cert.LossHeadReferenceIdeal.Facts] : Prop :=
  ∀ (m : (ℓ : Loc Cert.LossHeadReferenceIdeal.nD Cert.LossHeadReferenceIdeal.τ Cert.LossHeadReferenceIdeal.sig) → Buf (Elt Ideal) ℓ) (g : Dev Cert.LossHeadReferenceIdeal.nD → PrngReg), Pre_LossHeadReferenceIdeal m →
    θ_run (Cert.LossHeadReferenceIdeal.defs (F := Ideal)) (onTc (τ := Cert.LossHeadReferenceIdeal.τ) (Cert.LossHeadReferenceIdeal.main (F := Ideal))) ⟨m, fun _ => 0, g⟩ (fun r => (∀ c : Dev Cert.LossHeadReferenceIdeal.nD,
      r.2.mem ((c.tc : Thread Cert.LossHeadReferenceIdeal.nD Cert.LossHeadReferenceIdeal.τ).loc Cert.LossHeadReferenceIdeal.main_arg0) = m ((c.tc : Thread Cert.LossHeadReferenceIdeal.nD Cert.LossHeadReferenceIdeal.τ).loc Cert.LossHeadReferenceIdeal.main_arg0)
      ∧ r.2.mem ((c.tc : Thread Cert.LossHeadReferenceIdeal.nD Cert.LossHeadReferenceIdeal.τ).loc Cert.LossHeadReferenceIdeal.main_arg1) = m ((c.tc : Thread Cert.LossHeadReferenceIdeal.nD Cert.LossHeadReferenceIdeal.τ).loc Cert.LossHeadReferenceIdeal.main_arg1)
      ∧ r.2.mem ((c.tc : Thread Cert.LossHeadReferenceIdeal.nD Cert.LossHeadReferenceIdeal.τ).loc Cert.LossHeadReferenceIdeal.main_arg2) = m ((c.tc : Thread Cert.LossHeadReferenceIdeal.nD Cert.LossHeadReferenceIdeal.τ).loc Cert.LossHeadReferenceIdeal.main_arg2))
      ∧ r.2.sem = fun _ => 0)

def quiescent_CrossFwd [hCrossFwd : Cert.CrossFwd.Facts] : Prop :=
  ∀ (m : (ℓ : Loc Cert.CrossFwd.nD Cert.CrossFwd.τ Cert.CrossFwd.sig) → Buf (Elt Bits) ℓ) (g : Dev Cert.CrossFwd.nD → PrngReg), Pre_CrossFwd m →
    θ_run (Cert.CrossFwd.defs (F := Bits)) (onTc (τ := Cert.CrossFwd.τ) (Cert.CrossFwd.main (F := Bits))) ⟨m, fun _ => 0, g⟩ (fun r => (∀ c : Dev Cert.CrossFwd.nD,
      r.2.mem ((c.tc : Thread Cert.CrossFwd.nD Cert.CrossFwd.τ).loc Cert.CrossFwd.main_arg0) = m ((c.tc : Thread Cert.CrossFwd.nD Cert.CrossFwd.τ).loc Cert.CrossFwd.main_arg0)
      ∧ r.2.mem ((c.tc : Thread Cert.CrossFwd.nD Cert.CrossFwd.τ).loc Cert.CrossFwd.main_arg1) = m ((c.tc : Thread Cert.CrossFwd.nD Cert.CrossFwd.τ).loc Cert.CrossFwd.main_arg1))
      ∧ r.2.sem = fun _ => 0)

def quiescent_CrossFwdIdeal [hCrossFwdIdeal : Cert.CrossFwdIdeal.Facts] : Prop :=
  ∀ (m : (ℓ : Loc Cert.CrossFwdIdeal.nD Cert.CrossFwdIdeal.τ Cert.CrossFwdIdeal.sig) → Buf (Elt Ideal) ℓ) (g : Dev Cert.CrossFwdIdeal.nD → PrngReg), Pre_CrossFwdIdeal m →
    θ_run (Cert.CrossFwdIdeal.defs (F := Ideal)) (onTc (τ := Cert.CrossFwdIdeal.τ) (Cert.CrossFwdIdeal.main (F := Ideal))) ⟨m, fun _ => 0, g⟩ (fun r => (∀ c : Dev Cert.CrossFwdIdeal.nD,
      r.2.mem ((c.tc : Thread Cert.CrossFwdIdeal.nD Cert.CrossFwdIdeal.τ).loc Cert.CrossFwdIdeal.main_arg0) = m ((c.tc : Thread Cert.CrossFwdIdeal.nD Cert.CrossFwdIdeal.τ).loc Cert.CrossFwdIdeal.main_arg0)
      ∧ r.2.mem ((c.tc : Thread Cert.CrossFwdIdeal.nD Cert.CrossFwdIdeal.τ).loc Cert.CrossFwdIdeal.main_arg1) = m ((c.tc : Thread Cert.CrossFwdIdeal.nD Cert.CrossFwdIdeal.τ).loc Cert.CrossFwdIdeal.main_arg1))
      ∧ r.2.sem = fun _ => 0)

def quiescent_CrossFwdReferenceIdeal [hCrossFwdReferenceIdeal : Cert.CrossFwdReferenceIdeal.Facts] : Prop :=
  ∀ (m : (ℓ : Loc Cert.CrossFwdReferenceIdeal.nD Cert.CrossFwdReferenceIdeal.τ Cert.CrossFwdReferenceIdeal.sig) → Buf (Elt Ideal) ℓ) (g : Dev Cert.CrossFwdReferenceIdeal.nD → PrngReg), Pre_CrossFwdReferenceIdeal m →
    θ_run (Cert.CrossFwdReferenceIdeal.defs (F := Ideal)) (onTc (τ := Cert.CrossFwdReferenceIdeal.τ) (Cert.CrossFwdReferenceIdeal.main (F := Ideal))) ⟨m, fun _ => 0, g⟩ (fun r => (∀ c : Dev Cert.CrossFwdReferenceIdeal.nD,
      r.2.mem ((c.tc : Thread Cert.CrossFwdReferenceIdeal.nD Cert.CrossFwdReferenceIdeal.τ).loc Cert.CrossFwdReferenceIdeal.main_arg0) = m ((c.tc : Thread Cert.CrossFwdReferenceIdeal.nD Cert.CrossFwdReferenceIdeal.τ).loc Cert.CrossFwdReferenceIdeal.main_arg0)
      ∧ r.2.mem ((c.tc : Thread Cert.CrossFwdReferenceIdeal.nD Cert.CrossFwdReferenceIdeal.τ).loc Cert.CrossFwdReferenceIdeal.main_arg1) = m ((c.tc : Thread Cert.CrossFwdReferenceIdeal.nD Cert.CrossFwdReferenceIdeal.τ).loc Cert.CrossFwdReferenceIdeal.main_arg1))
      ∧ r.2.sem = fun _ => 0)

def quiescent_MixQkv [hMixQkv : Cert.MixQkv.Facts] : Prop :=
  ∀ (m : (ℓ : Loc Cert.MixQkv.nD Cert.MixQkv.τ Cert.MixQkv.sig) → Buf (Elt Bits) ℓ) (g : Dev Cert.MixQkv.nD → PrngReg), Pre_MixQkv m →
    θ_run (Cert.MixQkv.defs (F := Bits)) (onTc (τ := Cert.MixQkv.τ) (Cert.MixQkv.main (F := Bits))) ⟨m, fun _ => 0, g⟩ (fun r => (∀ c : Dev Cert.MixQkv.nD,
      r.2.mem ((c.tc : Thread Cert.MixQkv.nD Cert.MixQkv.τ).loc Cert.MixQkv.main_arg0) = m ((c.tc : Thread Cert.MixQkv.nD Cert.MixQkv.τ).loc Cert.MixQkv.main_arg0)
      ∧ r.2.mem ((c.tc : Thread Cert.MixQkv.nD Cert.MixQkv.τ).loc Cert.MixQkv.main_arg1) = m ((c.tc : Thread Cert.MixQkv.nD Cert.MixQkv.τ).loc Cert.MixQkv.main_arg1))
      ∧ r.2.sem = fun _ => 0)

def quiescent_MixQkvIdeal [hMixQkvIdeal : Cert.MixQkvIdeal.Facts] : Prop :=
  ∀ (m : (ℓ : Loc Cert.MixQkvIdeal.nD Cert.MixQkvIdeal.τ Cert.MixQkvIdeal.sig) → Buf (Elt Ideal) ℓ) (g : Dev Cert.MixQkvIdeal.nD → PrngReg), Pre_MixQkvIdeal m →
    θ_run (Cert.MixQkvIdeal.defs (F := Ideal)) (onTc (τ := Cert.MixQkvIdeal.τ) (Cert.MixQkvIdeal.main (F := Ideal))) ⟨m, fun _ => 0, g⟩ (fun r => (∀ c : Dev Cert.MixQkvIdeal.nD,
      r.2.mem ((c.tc : Thread Cert.MixQkvIdeal.nD Cert.MixQkvIdeal.τ).loc Cert.MixQkvIdeal.main_arg0) = m ((c.tc : Thread Cert.MixQkvIdeal.nD Cert.MixQkvIdeal.τ).loc Cert.MixQkvIdeal.main_arg0)
      ∧ r.2.mem ((c.tc : Thread Cert.MixQkvIdeal.nD Cert.MixQkvIdeal.τ).loc Cert.MixQkvIdeal.main_arg1) = m ((c.tc : Thread Cert.MixQkvIdeal.nD Cert.MixQkvIdeal.τ).loc Cert.MixQkvIdeal.main_arg1))
      ∧ r.2.sem = fun _ => 0)

def quiescent_MixQkvReferenceIdeal [hMixQkvReferenceIdeal : Cert.MixQkvReferenceIdeal.Facts] : Prop :=
  ∀ (m : (ℓ : Loc Cert.MixQkvReferenceIdeal.nD Cert.MixQkvReferenceIdeal.τ Cert.MixQkvReferenceIdeal.sig) → Buf (Elt Ideal) ℓ) (g : Dev Cert.MixQkvReferenceIdeal.nD → PrngReg), Pre_MixQkvReferenceIdeal m →
    θ_run (Cert.MixQkvReferenceIdeal.defs (F := Ideal)) (onTc (τ := Cert.MixQkvReferenceIdeal.τ) (Cert.MixQkvReferenceIdeal.main (F := Ideal))) ⟨m, fun _ => 0, g⟩ (fun r => (∀ c : Dev Cert.MixQkvReferenceIdeal.nD,
      r.2.mem ((c.tc : Thread Cert.MixQkvReferenceIdeal.nD Cert.MixQkvReferenceIdeal.τ).loc Cert.MixQkvReferenceIdeal.main_arg0) = m ((c.tc : Thread Cert.MixQkvReferenceIdeal.nD Cert.MixQkvReferenceIdeal.τ).loc Cert.MixQkvReferenceIdeal.main_arg0)
      ∧ r.2.mem ((c.tc : Thread Cert.MixQkvReferenceIdeal.nD Cert.MixQkvReferenceIdeal.τ).loc Cert.MixQkvReferenceIdeal.main_arg1) = m ((c.tc : Thread Cert.MixQkvReferenceIdeal.nD Cert.MixQkvReferenceIdeal.τ).loc Cert.MixQkvReferenceIdeal.main_arg1))
      ∧ r.2.sem = fun _ => 0)

def quiescent_MixAux [hMixAux : Cert.MixAux.Facts] : Prop :=
  ∀ (m : (ℓ : Loc Cert.MixAux.nD Cert.MixAux.τ Cert.MixAux.sig) → Buf (Elt Bits) ℓ) (g : Dev Cert.MixAux.nD → PrngReg), Pre_MixAux m →
    θ_run (Cert.MixAux.defs (F := Bits)) (onTc (τ := Cert.MixAux.τ) (Cert.MixAux.main (F := Bits))) ⟨m, fun _ => 0, g⟩ (fun r => (∀ c : Dev Cert.MixAux.nD,
      r.2.mem ((c.tc : Thread Cert.MixAux.nD Cert.MixAux.τ).loc Cert.MixAux.main_arg0) = m ((c.tc : Thread Cert.MixAux.nD Cert.MixAux.τ).loc Cert.MixAux.main_arg0)
      ∧ r.2.mem ((c.tc : Thread Cert.MixAux.nD Cert.MixAux.τ).loc Cert.MixAux.main_arg1) = m ((c.tc : Thread Cert.MixAux.nD Cert.MixAux.τ).loc Cert.MixAux.main_arg1))
      ∧ r.2.sem = fun _ => 0)

def quiescent_MixAuxIdeal [hMixAuxIdeal : Cert.MixAuxIdeal.Facts] : Prop :=
  ∀ (m : (ℓ : Loc Cert.MixAuxIdeal.nD Cert.MixAuxIdeal.τ Cert.MixAuxIdeal.sig) → Buf (Elt Ideal) ℓ) (g : Dev Cert.MixAuxIdeal.nD → PrngReg), Pre_MixAuxIdeal m →
    θ_run (Cert.MixAuxIdeal.defs (F := Ideal)) (onTc (τ := Cert.MixAuxIdeal.τ) (Cert.MixAuxIdeal.main (F := Ideal))) ⟨m, fun _ => 0, g⟩ (fun r => (∀ c : Dev Cert.MixAuxIdeal.nD,
      r.2.mem ((c.tc : Thread Cert.MixAuxIdeal.nD Cert.MixAuxIdeal.τ).loc Cert.MixAuxIdeal.main_arg0) = m ((c.tc : Thread Cert.MixAuxIdeal.nD Cert.MixAuxIdeal.τ).loc Cert.MixAuxIdeal.main_arg0)
      ∧ r.2.mem ((c.tc : Thread Cert.MixAuxIdeal.nD Cert.MixAuxIdeal.τ).loc Cert.MixAuxIdeal.main_arg1) = m ((c.tc : Thread Cert.MixAuxIdeal.nD Cert.MixAuxIdeal.τ).loc Cert.MixAuxIdeal.main_arg1))
      ∧ r.2.sem = fun _ => 0)

def quiescent_MixAuxReferenceIdeal [hMixAuxReferenceIdeal : Cert.MixAuxReferenceIdeal.Facts] : Prop :=
  ∀ (m : (ℓ : Loc Cert.MixAuxReferenceIdeal.nD Cert.MixAuxReferenceIdeal.τ Cert.MixAuxReferenceIdeal.sig) → Buf (Elt Ideal) ℓ) (g : Dev Cert.MixAuxReferenceIdeal.nD → PrngReg), Pre_MixAuxReferenceIdeal m →
    θ_run (Cert.MixAuxReferenceIdeal.defs (F := Ideal)) (onTc (τ := Cert.MixAuxReferenceIdeal.τ) (Cert.MixAuxReferenceIdeal.main (F := Ideal))) ⟨m, fun _ => 0, g⟩ (fun r => (∀ c : Dev Cert.MixAuxReferenceIdeal.nD,
      r.2.mem ((c.tc : Thread Cert.MixAuxReferenceIdeal.nD Cert.MixAuxReferenceIdeal.τ).loc Cert.MixAuxReferenceIdeal.main_arg0) = m ((c.tc : Thread Cert.MixAuxReferenceIdeal.nD Cert.MixAuxReferenceIdeal.τ).loc Cert.MixAuxReferenceIdeal.main_arg0)
      ∧ r.2.mem ((c.tc : Thread Cert.MixAuxReferenceIdeal.nD Cert.MixAuxReferenceIdeal.τ).loc Cert.MixAuxReferenceIdeal.main_arg1) = m ((c.tc : Thread Cert.MixAuxReferenceIdeal.nD Cert.MixAuxReferenceIdeal.τ).loc Cert.MixAuxReferenceIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2))
      ∧ r.2.sem = fun _ => 0)

def quiescent_CrossQ [hCrossQ : Cert.CrossQ.Facts] : Prop :=
  ∀ (m : (ℓ : Loc Cert.CrossQ.nD Cert.CrossQ.τ Cert.CrossQ.sig) → Buf (Elt Bits) ℓ) (g : Dev Cert.CrossQ.nD → PrngReg), Pre_CrossQ m →
    θ_run (Cert.CrossQ.defs (F := Bits)) (onTc (τ := Cert.CrossQ.τ) (Cert.CrossQ.main (F := Bits))) ⟨m, fun _ => 0, g⟩ (fun r => (∀ c : Dev Cert.CrossQ.nD,
      r.2.mem ((c.tc : Thread Cert.CrossQ.nD Cert.CrossQ.τ).loc Cert.CrossQ.main_arg0) = m ((c.tc : Thread Cert.CrossQ.nD Cert.CrossQ.τ).loc Cert.CrossQ.main_arg0)
      ∧ r.2.mem ((c.tc : Thread Cert.CrossQ.nD Cert.CrossQ.τ).loc Cert.CrossQ.main_arg1) = m ((c.tc : Thread Cert.CrossQ.nD Cert.CrossQ.τ).loc Cert.CrossQ.main_arg1))
      ∧ r.2.sem = fun _ => 0)

def quiescent_CrossQIdeal [hCrossQIdeal : Cert.CrossQIdeal.Facts] : Prop :=
  ∀ (m : (ℓ : Loc Cert.CrossQIdeal.nD Cert.CrossQIdeal.τ Cert.CrossQIdeal.sig) → Buf (Elt Ideal) ℓ) (g : Dev Cert.CrossQIdeal.nD → PrngReg), Pre_CrossQIdeal m →
    θ_run (Cert.CrossQIdeal.defs (F := Ideal)) (onTc (τ := Cert.CrossQIdeal.τ) (Cert.CrossQIdeal.main (F := Ideal))) ⟨m, fun _ => 0, g⟩ (fun r => (∀ c : Dev Cert.CrossQIdeal.nD,
      r.2.mem ((c.tc : Thread Cert.CrossQIdeal.nD Cert.CrossQIdeal.τ).loc Cert.CrossQIdeal.main_arg0) = m ((c.tc : Thread Cert.CrossQIdeal.nD Cert.CrossQIdeal.τ).loc Cert.CrossQIdeal.main_arg0)
      ∧ r.2.mem ((c.tc : Thread Cert.CrossQIdeal.nD Cert.CrossQIdeal.τ).loc Cert.CrossQIdeal.main_arg1) = m ((c.tc : Thread Cert.CrossQIdeal.nD Cert.CrossQIdeal.τ).loc Cert.CrossQIdeal.main_arg1))
      ∧ r.2.sem = fun _ => 0)

def quiescent_CrossQReferenceIdeal [hCrossQReferenceIdeal : Cert.CrossQReferenceIdeal.Facts] : Prop :=
  ∀ (m : (ℓ : Loc Cert.CrossQReferenceIdeal.nD Cert.CrossQReferenceIdeal.τ Cert.CrossQReferenceIdeal.sig) → Buf (Elt Ideal) ℓ) (g : Dev Cert.CrossQReferenceIdeal.nD → PrngReg), Pre_CrossQReferenceIdeal m →
    θ_run (Cert.CrossQReferenceIdeal.defs (F := Ideal)) (onTc (τ := Cert.CrossQReferenceIdeal.τ) (Cert.CrossQReferenceIdeal.main (F := Ideal))) ⟨m, fun _ => 0, g⟩ (fun r => (∀ c : Dev Cert.CrossQReferenceIdeal.nD,
      r.2.mem ((c.tc : Thread Cert.CrossQReferenceIdeal.nD Cert.CrossQReferenceIdeal.τ).loc Cert.CrossQReferenceIdeal.main_arg0) = m ((c.tc : Thread Cert.CrossQReferenceIdeal.nD Cert.CrossQReferenceIdeal.τ).loc Cert.CrossQReferenceIdeal.main_arg0)
      ∧ r.2.mem ((c.tc : Thread Cert.CrossQReferenceIdeal.nD Cert.CrossQReferenceIdeal.τ).loc Cert.CrossQReferenceIdeal.main_arg1) = m ((c.tc : Thread Cert.CrossQReferenceIdeal.nD Cert.CrossQReferenceIdeal.τ).loc Cert.CrossQReferenceIdeal.main_arg1))
      ∧ r.2.sem = fun _ => 0)

def quiescent_CrossKv [hCrossKv : Cert.CrossKv.Facts] : Prop :=
  ∀ (m : (ℓ : Loc Cert.CrossKv.nD Cert.CrossKv.τ Cert.CrossKv.sig) → Buf (Elt Bits) ℓ) (g : Dev Cert.CrossKv.nD → PrngReg), Pre_CrossKv m →
    θ_run (Cert.CrossKv.defs (F := Bits)) (onTc (τ := Cert.CrossKv.τ) (Cert.CrossKv.main (F := Bits))) ⟨m, fun _ => 0, g⟩ (fun r => (∀ c : Dev Cert.CrossKv.nD,
      r.2.mem ((c.tc : Thread Cert.CrossKv.nD Cert.CrossKv.τ).loc Cert.CrossKv.main_arg0) = m ((c.tc : Thread Cert.CrossKv.nD Cert.CrossKv.τ).loc Cert.CrossKv.main_arg0)
      ∧ r.2.mem ((c.tc : Thread Cert.CrossKv.nD Cert.CrossKv.τ).loc Cert.CrossKv.main_arg1) = m ((c.tc : Thread Cert.CrossKv.nD Cert.CrossKv.τ).loc Cert.CrossKv.main_arg1))
      ∧ r.2.sem = fun _ => 0)

def quiescent_CrossKvIdeal [hCrossKvIdeal : Cert.CrossKvIdeal.Facts] : Prop :=
  ∀ (m : (ℓ : Loc Cert.CrossKvIdeal.nD Cert.CrossKvIdeal.τ Cert.CrossKvIdeal.sig) → Buf (Elt Ideal) ℓ) (g : Dev Cert.CrossKvIdeal.nD → PrngReg), Pre_CrossKvIdeal m →
    θ_run (Cert.CrossKvIdeal.defs (F := Ideal)) (onTc (τ := Cert.CrossKvIdeal.τ) (Cert.CrossKvIdeal.main (F := Ideal))) ⟨m, fun _ => 0, g⟩ (fun r => (∀ c : Dev Cert.CrossKvIdeal.nD,
      r.2.mem ((c.tc : Thread Cert.CrossKvIdeal.nD Cert.CrossKvIdeal.τ).loc Cert.CrossKvIdeal.main_arg0) = m ((c.tc : Thread Cert.CrossKvIdeal.nD Cert.CrossKvIdeal.τ).loc Cert.CrossKvIdeal.main_arg0)
      ∧ r.2.mem ((c.tc : Thread Cert.CrossKvIdeal.nD Cert.CrossKvIdeal.τ).loc Cert.CrossKvIdeal.main_arg1) = m ((c.tc : Thread Cert.CrossKvIdeal.nD Cert.CrossKvIdeal.τ).loc Cert.CrossKvIdeal.main_arg1))
      ∧ r.2.sem = fun _ => 0)

def quiescent_CrossKvReferenceIdeal [hCrossKvReferenceIdeal : Cert.CrossKvReferenceIdeal.Facts] : Prop :=
  ∀ (m : (ℓ : Loc Cert.CrossKvReferenceIdeal.nD Cert.CrossKvReferenceIdeal.τ Cert.CrossKvReferenceIdeal.sig) → Buf (Elt Ideal) ℓ) (g : Dev Cert.CrossKvReferenceIdeal.nD → PrngReg), Pre_CrossKvReferenceIdeal m →
    θ_run (Cert.CrossKvReferenceIdeal.defs (F := Ideal)) (onTc (τ := Cert.CrossKvReferenceIdeal.τ) (Cert.CrossKvReferenceIdeal.main (F := Ideal))) ⟨m, fun _ => 0, g⟩ (fun r => (∀ c : Dev Cert.CrossKvReferenceIdeal.nD,
      r.2.mem ((c.tc : Thread Cert.CrossKvReferenceIdeal.nD Cert.CrossKvReferenceIdeal.τ).loc Cert.CrossKvReferenceIdeal.main_arg0) = m ((c.tc : Thread Cert.CrossKvReferenceIdeal.nD Cert.CrossKvReferenceIdeal.τ).loc Cert.CrossKvReferenceIdeal.main_arg0)
      ∧ r.2.mem ((c.tc : Thread Cert.CrossKvReferenceIdeal.nD Cert.CrossKvReferenceIdeal.τ).loc Cert.CrossKvReferenceIdeal.main_arg1) = m ((c.tc : Thread Cert.CrossKvReferenceIdeal.nD Cert.CrossKvReferenceIdeal.τ).loc Cert.CrossKvReferenceIdeal.main_arg1))
      ∧ r.2.sem = fun _ => 0)

def quiescent_CrossOut [hCrossOut : Cert.CrossOut.Facts] : Prop :=
  ∀ (m : (ℓ : Loc Cert.CrossOut.nD Cert.CrossOut.τ Cert.CrossOut.sig) → Buf (Elt Bits) ℓ) (g : Dev Cert.CrossOut.nD → PrngReg), Pre_CrossOut m →
    θ_run (Cert.CrossOut.defs (F := Bits)) (onTc (τ := Cert.CrossOut.τ) (Cert.CrossOut.main (F := Bits))) ⟨m, fun _ => 0, g⟩ (fun r => (∀ c : Dev Cert.CrossOut.nD,
      r.2.mem ((c.tc : Thread Cert.CrossOut.nD Cert.CrossOut.τ).loc Cert.CrossOut.main_arg0) = m ((c.tc : Thread Cert.CrossOut.nD Cert.CrossOut.τ).loc Cert.CrossOut.main_arg0)
      ∧ r.2.mem ((c.tc : Thread Cert.CrossOut.nD Cert.CrossOut.τ).loc Cert.CrossOut.main_arg1) = m ((c.tc : Thread Cert.CrossOut.nD Cert.CrossOut.τ).loc Cert.CrossOut.main_arg1)
      ∧ r.2.mem ((c.tc : Thread Cert.CrossOut.nD Cert.CrossOut.τ).loc Cert.CrossOut.main_arg2) = m ((c.tc : Thread Cert.CrossOut.nD Cert.CrossOut.τ).loc Cert.CrossOut.main_arg2))
      ∧ r.2.sem = fun _ => 0)

def quiescent_CrossOutIdeal [hCrossOutIdeal : Cert.CrossOutIdeal.Facts] : Prop :=
  ∀ (m : (ℓ : Loc Cert.CrossOutIdeal.nD Cert.CrossOutIdeal.τ Cert.CrossOutIdeal.sig) → Buf (Elt Ideal) ℓ) (g : Dev Cert.CrossOutIdeal.nD → PrngReg), Pre_CrossOutIdeal m →
    θ_run (Cert.CrossOutIdeal.defs (F := Ideal)) (onTc (τ := Cert.CrossOutIdeal.τ) (Cert.CrossOutIdeal.main (F := Ideal))) ⟨m, fun _ => 0, g⟩ (fun r => (∀ c : Dev Cert.CrossOutIdeal.nD,
      r.2.mem ((c.tc : Thread Cert.CrossOutIdeal.nD Cert.CrossOutIdeal.τ).loc Cert.CrossOutIdeal.main_arg0) = m ((c.tc : Thread Cert.CrossOutIdeal.nD Cert.CrossOutIdeal.τ).loc Cert.CrossOutIdeal.main_arg0)
      ∧ r.2.mem ((c.tc : Thread Cert.CrossOutIdeal.nD Cert.CrossOutIdeal.τ).loc Cert.CrossOutIdeal.main_arg1) = m ((c.tc : Thread Cert.CrossOutIdeal.nD Cert.CrossOutIdeal.τ).loc Cert.CrossOutIdeal.main_arg1)
      ∧ r.2.mem ((c.tc : Thread Cert.CrossOutIdeal.nD Cert.CrossOutIdeal.τ).loc Cert.CrossOutIdeal.main_arg2) = m ((c.tc : Thread Cert.CrossOutIdeal.nD Cert.CrossOutIdeal.τ).loc Cert.CrossOutIdeal.main_arg2))
      ∧ r.2.sem = fun _ => 0)

def quiescent_CrossOutReferenceIdeal [hCrossOutReferenceIdeal : Cert.CrossOutReferenceIdeal.Facts] : Prop :=
  ∀ (m : (ℓ : Loc Cert.CrossOutReferenceIdeal.nD Cert.CrossOutReferenceIdeal.τ Cert.CrossOutReferenceIdeal.sig) → Buf (Elt Ideal) ℓ) (g : Dev Cert.CrossOutReferenceIdeal.nD → PrngReg), Pre_CrossOutReferenceIdeal m →
    θ_run (Cert.CrossOutReferenceIdeal.defs (F := Ideal)) (onTc (τ := Cert.CrossOutReferenceIdeal.τ) (Cert.CrossOutReferenceIdeal.main (F := Ideal))) ⟨m, fun _ => 0, g⟩ (fun r => (∀ c : Dev Cert.CrossOutReferenceIdeal.nD,
      r.2.mem ((c.tc : Thread Cert.CrossOutReferenceIdeal.nD Cert.CrossOutReferenceIdeal.τ).loc Cert.CrossOutReferenceIdeal.main_arg0) = m ((c.tc : Thread Cert.CrossOutReferenceIdeal.nD Cert.CrossOutReferenceIdeal.τ).loc Cert.CrossOutReferenceIdeal.main_arg0)
      ∧ r.2.mem ((c.tc : Thread Cert.CrossOutReferenceIdeal.nD Cert.CrossOutReferenceIdeal.τ).loc Cert.CrossOutReferenceIdeal.main_arg1) = m ((c.tc : Thread Cert.CrossOutReferenceIdeal.nD Cert.CrossOutReferenceIdeal.τ).loc Cert.CrossOutReferenceIdeal.main_arg1)
      ∧ r.2.mem ((c.tc : Thread Cert.CrossOutReferenceIdeal.nD Cert.CrossOutReferenceIdeal.τ).loc Cert.CrossOutReferenceIdeal.main_arg2) = m ((c.tc : Thread Cert.CrossOutReferenceIdeal.nD Cert.CrossOutReferenceIdeal.τ).loc Cert.CrossOutReferenceIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2))
      ∧ r.2.sem = fun _ => 0)

def quiescent_GradAct [hGradAct : Cert.GradAct.Facts] : Prop :=
  ∀ (m : (ℓ : Loc Cert.GradAct.nD Cert.GradAct.τ Cert.GradAct.sig) → Buf (Elt Bits) ℓ) (g : Dev Cert.GradAct.nD → PrngReg), Pre_GradAct m →
    θ_run (Cert.GradAct.defs (F := Bits)) (onTc (τ := Cert.GradAct.τ) (Cert.GradAct.main (F := Bits))) ⟨m, fun _ => 0, g⟩ (fun r => (∀ c : Dev Cert.GradAct.nD,
      r.2.mem ((c.tc : Thread Cert.GradAct.nD Cert.GradAct.τ).loc Cert.GradAct.main_arg0) = m ((c.tc : Thread Cert.GradAct.nD Cert.GradAct.τ).loc Cert.GradAct.main_arg0)
      ∧ r.2.mem ((c.tc : Thread Cert.GradAct.nD Cert.GradAct.τ).loc Cert.GradAct.main_arg1) = m ((c.tc : Thread Cert.GradAct.nD Cert.GradAct.τ).loc Cert.GradAct.main_arg1))
      ∧ r.2.sem = fun _ => 0)

def quiescent_GradActIdeal [hGradActIdeal : Cert.GradActIdeal.Facts] : Prop :=
  ∀ (m : (ℓ : Loc Cert.GradActIdeal.nD Cert.GradActIdeal.τ Cert.GradActIdeal.sig) → Buf (Elt Ideal) ℓ) (g : Dev Cert.GradActIdeal.nD → PrngReg), Pre_GradActIdeal m →
    θ_run (Cert.GradActIdeal.defs (F := Ideal)) (onTc (τ := Cert.GradActIdeal.τ) (Cert.GradActIdeal.main (F := Ideal))) ⟨m, fun _ => 0, g⟩ (fun r => (∀ c : Dev Cert.GradActIdeal.nD,
      r.2.mem ((c.tc : Thread Cert.GradActIdeal.nD Cert.GradActIdeal.τ).loc Cert.GradActIdeal.main_arg0) = m ((c.tc : Thread Cert.GradActIdeal.nD Cert.GradActIdeal.τ).loc Cert.GradActIdeal.main_arg0)
      ∧ r.2.mem ((c.tc : Thread Cert.GradActIdeal.nD Cert.GradActIdeal.τ).loc Cert.GradActIdeal.main_arg1) = m ((c.tc : Thread Cert.GradActIdeal.nD Cert.GradActIdeal.τ).loc Cert.GradActIdeal.main_arg1))
      ∧ r.2.sem = fun _ => 0)

def quiescent_GradActReferenceIdeal [hGradActReferenceIdeal : Cert.GradActReferenceIdeal.Facts] : Prop :=
  ∀ (m : (ℓ : Loc Cert.GradActReferenceIdeal.nD Cert.GradActReferenceIdeal.τ Cert.GradActReferenceIdeal.sig) → Buf (Elt Ideal) ℓ) (g : Dev Cert.GradActReferenceIdeal.nD → PrngReg), Pre_GradActReferenceIdeal m →
    θ_run (Cert.GradActReferenceIdeal.defs (F := Ideal)) (onTc (τ := Cert.GradActReferenceIdeal.τ) (Cert.GradActReferenceIdeal.main (F := Ideal))) ⟨m, fun _ => 0, g⟩ (fun r => (∀ c : Dev Cert.GradActReferenceIdeal.nD,
      r.2.mem ((c.tc : Thread Cert.GradActReferenceIdeal.nD Cert.GradActReferenceIdeal.τ).loc Cert.GradActReferenceIdeal.main_arg0) = m ((c.tc : Thread Cert.GradActReferenceIdeal.nD Cert.GradActReferenceIdeal.τ).loc Cert.GradActReferenceIdeal.main_arg0)
      ∧ r.2.mem ((c.tc : Thread Cert.GradActReferenceIdeal.nD Cert.GradActReferenceIdeal.τ).loc Cert.GradActReferenceIdeal.main_arg1) = m ((c.tc : Thread Cert.GradActReferenceIdeal.nD Cert.GradActReferenceIdeal.τ).loc Cert.GradActReferenceIdeal.main_arg1))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ r.2.sem = fun _ => 0)

def quiescent_GradDownReferenceIdeal [hGradDownReferenceIdeal : Cert.GradDownReferenceIdeal.Facts] : Prop :=
  ∀ (m : (ℓ : Loc Cert.GradDownReferenceIdeal.nD Cert.GradDownReferenceIdeal.τ Cert.GradDownReferenceIdeal.sig) → Buf (Elt Ideal) ℓ) (g : Dev Cert.GradDownReferenceIdeal.nD → PrngReg), Pre_GradDownReferenceIdeal m →
    θ_run (Cert.GradDownReferenceIdeal.defs (F := Ideal)) (onTc (τ := Cert.GradDownReferenceIdeal.τ) (Cert.GradDownReferenceIdeal.main (F := Ideal))) ⟨m, fun _ => 0, g⟩ (fun r => (∀ c : Dev Cert.GradDownReferenceIdeal.nD,
      r.2.mem ((c.tc : Thread Cert.GradDownReferenceIdeal.nD Cert.GradDownReferenceIdeal.τ).loc Cert.GradDownReferenceIdeal.main_arg0) = m ((c.tc : Thread Cert.GradDownReferenceIdeal.nD Cert.GradDownReferenceIdeal.τ).loc Cert.GradDownReferenceIdeal.main_arg0)
      ∧ r.2.mem ((c.tc : Thread Cert.GradDownReferenceIdeal.nD Cert.GradDownReferenceIdeal.τ).loc Cert.GradDownReferenceIdeal.main_arg1) = m ((c.tc : Thread Cert.GradDownReferenceIdeal.nD Cert.GradDownReferenceIdeal.τ).loc Cert.GradDownReferenceIdeal.main_arg1))
      ∧ r.2.sem = fun _ => 0)

def quiescent_GradHalf [hGradHalf : Cert.GradHalf.Facts] : Prop :=
  ∀ (m : (ℓ : Loc Cert.GradHalf.nD Cert.GradHalf.τ Cert.GradHalf.sig) → Buf (Elt Bits) ℓ) (g : Dev Cert.GradHalf.nD → PrngReg), Pre_GradHalf m →
    θ_run (Cert.GradHalf.defs (F := Bits)) (onTc (τ := Cert.GradHalf.τ) (Cert.GradHalf.main (F := Bits))) ⟨m, fun _ => 0, g⟩ (fun r => (∀ c : Dev Cert.GradHalf.nD,
      r.2.mem ((c.tc : Thread Cert.GradHalf.nD Cert.GradHalf.τ).loc Cert.GradHalf.main_arg0) = m ((c.tc : Thread Cert.GradHalf.nD Cert.GradHalf.τ).loc Cert.GradHalf.main_arg0)
      ∧ r.2.mem ((c.tc : Thread Cert.GradHalf.nD Cert.GradHalf.τ).loc Cert.GradHalf.main_arg1) = m ((c.tc : Thread Cert.GradHalf.nD Cert.GradHalf.τ).loc Cert.GradHalf.main_arg1))
      ∧ r.2.sem = fun _ => 0)

def quiescent_GradHalfIdeal [hGradHalfIdeal : Cert.GradHalfIdeal.Facts] : Prop :=
  ∀ (m : (ℓ : Loc Cert.GradHalfIdeal.nD Cert.GradHalfIdeal.τ Cert.GradHalfIdeal.sig) → Buf (Elt Ideal) ℓ) (g : Dev Cert.GradHalfIdeal.nD → PrngReg), Pre_GradHalfIdeal m →
    θ_run (Cert.GradHalfIdeal.defs (F := Ideal)) (onTc (τ := Cert.GradHalfIdeal.τ) (Cert.GradHalfIdeal.main (F := Ideal))) ⟨m, fun _ => 0, g⟩ (fun r => (∀ c : Dev Cert.GradHalfIdeal.nD,
      r.2.mem ((c.tc : Thread Cert.GradHalfIdeal.nD Cert.GradHalfIdeal.τ).loc Cert.GradHalfIdeal.main_arg0) = m ((c.tc : Thread Cert.GradHalfIdeal.nD Cert.GradHalfIdeal.τ).loc Cert.GradHalfIdeal.main_arg0)
      ∧ r.2.mem ((c.tc : Thread Cert.GradHalfIdeal.nD Cert.GradHalfIdeal.τ).loc Cert.GradHalfIdeal.main_arg1) = m ((c.tc : Thread Cert.GradHalfIdeal.nD Cert.GradHalfIdeal.τ).loc Cert.GradHalfIdeal.main_arg1))
      ∧ r.2.sem = fun _ => 0)

def quiescent_GradHalfReferenceIdeal [hGradHalfReferenceIdeal : Cert.GradHalfReferenceIdeal.Facts] : Prop :=
  ∀ (m : (ℓ : Loc Cert.GradHalfReferenceIdeal.nD Cert.GradHalfReferenceIdeal.τ Cert.GradHalfReferenceIdeal.sig) → Buf (Elt Ideal) ℓ) (g : Dev Cert.GradHalfReferenceIdeal.nD → PrngReg), Pre_GradHalfReferenceIdeal m →
    θ_run (Cert.GradHalfReferenceIdeal.defs (F := Ideal)) (onTc (τ := Cert.GradHalfReferenceIdeal.τ) (Cert.GradHalfReferenceIdeal.main (F := Ideal))) ⟨m, fun _ => 0, g⟩ (fun r => (∀ c : Dev Cert.GradHalfReferenceIdeal.nD,
      r.2.mem ((c.tc : Thread Cert.GradHalfReferenceIdeal.nD Cert.GradHalfReferenceIdeal.τ).loc Cert.GradHalfReferenceIdeal.main_arg0) = m ((c.tc : Thread Cert.GradHalfReferenceIdeal.nD Cert.GradHalfReferenceIdeal.τ).loc Cert.GradHalfReferenceIdeal.main_arg0)
      ∧ r.2.mem ((c.tc : Thread Cert.GradHalfReferenceIdeal.nD Cert.GradHalfReferenceIdeal.τ).loc Cert.GradHalfReferenceIdeal.main_arg1) = m ((c.tc : Thread Cert.GradHalfReferenceIdeal.nD Cert.GradHalfReferenceIdeal.τ).loc Cert.GradHalfReferenceIdeal.main_arg1))
      ∧ r.2.sem = fun _ => 0)

def quiescent_GradFfn [hGradFfn : Cert.GradFfn.Facts] : Prop :=
  ∀ (m : (ℓ : Loc Cert.GradFfn.nD Cert.GradFfn.τ Cert.GradFfn.sig) → Buf (Elt Bits) ℓ) (g : Dev Cert.GradFfn.nD → PrngReg), Pre_GradFfn m →
    θ_run (Cert.GradFfn.defs (F := Bits)) (onTc (τ := Cert.GradFfn.τ) (Cert.GradFfn.main (F := Bits))) ⟨m, fun _ => 0, g⟩ (fun r => (∀ c : Dev Cert.GradFfn.nD,
      r.2.mem ((c.tc : Thread Cert.GradFfn.nD Cert.GradFfn.τ).loc Cert.GradFfn.main_arg0) = m ((c.tc : Thread Cert.GradFfn.nD Cert.GradFfn.τ).loc Cert.GradFfn.main_arg0)
      ∧ r.2.mem ((c.tc : Thread Cert.GradFfn.nD Cert.GradFfn.τ).loc Cert.GradFfn.main_arg1) = m ((c.tc : Thread Cert.GradFfn.nD Cert.GradFfn.τ).loc Cert.GradFfn.main_arg1)
      ∧ r.2.mem ((c.tc : Thread Cert.GradFfn.nD Cert.GradFfn.τ).loc Cert.GradFfn.main_arg2) = m ((c.tc : Thread Cert.GradFfn.nD Cert.GradFfn.τ).loc Cert.GradFfn.main_arg2))
      ∧ r.2.sem = fun _ => 0)

def quiescent_GradFfnIdeal [hGradFfnIdeal : Cert.GradFfnIdeal.Facts] : Prop :=
  ∀ (m : (ℓ : Loc Cert.GradFfnIdeal.nD Cert.GradFfnIdeal.τ Cert.GradFfnIdeal.sig) → Buf (Elt Ideal) ℓ) (g : Dev Cert.GradFfnIdeal.nD → PrngReg), Pre_GradFfnIdeal m →
    θ_run (Cert.GradFfnIdeal.defs (F := Ideal)) (onTc (τ := Cert.GradFfnIdeal.τ) (Cert.GradFfnIdeal.main (F := Ideal))) ⟨m, fun _ => 0, g⟩ (fun r => (∀ c : Dev Cert.GradFfnIdeal.nD,
      r.2.mem ((c.tc : Thread Cert.GradFfnIdeal.nD Cert.GradFfnIdeal.τ).loc Cert.GradFfnIdeal.main_arg0) = m ((c.tc : Thread Cert.GradFfnIdeal.nD Cert.GradFfnIdeal.τ).loc Cert.GradFfnIdeal.main_arg0)
      ∧ r.2.mem ((c.tc : Thread Cert.GradFfnIdeal.nD Cert.GradFfnIdeal.τ).loc Cert.GradFfnIdeal.main_arg1) = m ((c.tc : Thread Cert.GradFfnIdeal.nD Cert.GradFfnIdeal.τ).loc Cert.GradFfnIdeal.main_arg1)
      ∧ r.2.mem ((c.tc : Thread Cert.GradFfnIdeal.nD Cert.GradFfnIdeal.τ).loc Cert.GradFfnIdeal.main_arg2) = m ((c.tc : Thread Cert.GradFfnIdeal.nD Cert.GradFfnIdeal.τ).loc Cert.GradFfnIdeal.main_arg2))
      ∧ r.2.sem = fun _ => 0)

def quiescent_GradFfnReferenceIdeal [hGradFfnReferenceIdeal : Cert.GradFfnReferenceIdeal.Facts] : Prop :=
  ∀ (m : (ℓ : Loc Cert.GradFfnReferenceIdeal.nD Cert.GradFfnReferenceIdeal.τ Cert.GradFfnReferenceIdeal.sig) → Buf (Elt Ideal) ℓ) (g : Dev Cert.GradFfnReferenceIdeal.nD → PrngReg), Pre_GradFfnReferenceIdeal m →
    θ_run (Cert.GradFfnReferenceIdeal.defs (F := Ideal)) (onTc (τ := Cert.GradFfnReferenceIdeal.τ) (Cert.GradFfnReferenceIdeal.main (F := Ideal))) ⟨m, fun _ => 0, g⟩ (fun r => (∀ c : Dev Cert.GradFfnReferenceIdeal.nD,
      r.2.mem ((c.tc : Thread Cert.GradFfnReferenceIdeal.nD Cert.GradFfnReferenceIdeal.τ).loc Cert.GradFfnReferenceIdeal.main_arg0) = m ((c.tc : Thread Cert.GradFfnReferenceIdeal.nD Cert.GradFfnReferenceIdeal.τ).loc Cert.GradFfnReferenceIdeal.main_arg0)
      ∧ r.2.mem ((c.tc : Thread Cert.GradFfnReferenceIdeal.nD Cert.GradFfnReferenceIdeal.τ).loc Cert.GradFfnReferenceIdeal.main_arg1) = m ((c.tc : Thread Cert.GradFfnReferenceIdeal.nD Cert.GradFfnReferenceIdeal.τ).loc Cert.GradFfnReferenceIdeal.main_arg1)
      ∧ r.2.mem ((c.tc : Thread Cert.GradFfnReferenceIdeal.nD Cert.GradFfnReferenceIdeal.τ).loc Cert.GradFfnReferenceIdeal.main_arg2) = m ((c.tc : Thread Cert.GradFfnReferenceIdeal.nD Cert.GradFfnReferenceIdeal.τ).loc Cert.GradFfnReferenceIdeal.main_arg2))
      ∧ r.2.sem = fun _ => 0)

def quiescent_GradUp [hGradUp : Cert.GradUp.Facts] : Prop :=
  ∀ (m : (ℓ : Loc Cert.GradUp.nD Cert.GradUp.τ Cert.GradUp.sig) → Buf (Elt Bits) ℓ) (g : Dev Cert.GradUp.nD → PrngReg), Pre_GradUp m →
    θ_run (Cert.GradUp.defs (F := Bits)) (onTc (τ := Cert.GradUp.τ) (Cert.GradUp.main (F := Bits))) ⟨m, fun _ => 0, g⟩ (fun r => (∀ c : Dev Cert.GradUp.nD,
      r.2.mem ((c.tc : Thread Cert.GradUp.nD Cert.GradUp.τ).loc Cert.GradUp.main_arg0) = m ((c.tc : Thread Cert.GradUp.nD Cert.GradUp.τ).loc Cert.GradUp.main_arg0)
      ∧ r.2.mem ((c.tc : Thread Cert.GradUp.nD Cert.GradUp.τ).loc Cert.GradUp.main_arg1) = m ((c.tc : Thread Cert.GradUp.nD Cert.GradUp.τ).loc Cert.GradUp.main_arg1))
      ∧ r.2.sem = fun _ => 0)

def quiescent_GradUpIdeal [hGradUpIdeal : Cert.GradUpIdeal.Facts] : Prop :=
  ∀ (m : (ℓ : Loc Cert.GradUpIdeal.nD Cert.GradUpIdeal.τ Cert.GradUpIdeal.sig) → Buf (Elt Ideal) ℓ) (g : Dev Cert.GradUpIdeal.nD → PrngReg), Pre_GradUpIdeal m →
    θ_run (Cert.GradUpIdeal.defs (F := Ideal)) (onTc (τ := Cert.GradUpIdeal.τ) (Cert.GradUpIdeal.main (F := Ideal))) ⟨m, fun _ => 0, g⟩ (fun r => (∀ c : Dev Cert.GradUpIdeal.nD,
      r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
      ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ r.2.sem = fun _ => 0)

def quiescent_GradUpReferenceIdeal [hGradUpReferenceIdeal : Cert.GradUpReferenceIdeal.Facts] : Prop :=
  ∀ (m : (ℓ : Loc Cert.GradUpReferenceIdeal.nD Cert.GradUpReferenceIdeal.τ Cert.GradUpReferenceIdeal.sig) → Buf (Elt Ideal) ℓ) (g : Dev Cert.GradUpReferenceIdeal.nD → PrngReg), Pre_GradUpReferenceIdeal m →
    θ_run (Cert.GradUpReferenceIdeal.defs (F := Ideal)) (onTc (τ := Cert.GradUpReferenceIdeal.τ) (Cert.GradUpReferenceIdeal.main (F := Ideal))) ⟨m, fun _ => 0, g⟩ (fun r => (∀ c : Dev Cert.GradUpReferenceIdeal.nD,
      r.2.mem ((c.tc : Thread Cert.GradUpReferenceIdeal.nD Cert.GradUpReferenceIdeal.τ).loc Cert.GradUpReferenceIdeal.main_arg0) = m ((c.tc : Thread Cert.GradUpReferenceIdeal.nD Cert.GradUpReferenceIdeal.τ).loc Cert.GradUpReferenceIdeal.main_arg0)
      ∧ r.2.mem ((c.tc : Thread Cert.GradUpReferenceIdeal.nD Cert.GradUpReferenceIdeal.τ).loc Cert.GradUpReferenceIdeal.main_arg1) = m ((c.tc : Thread Cert.GradUpReferenceIdeal.nD Cert.GradUpReferenceIdeal.τ).loc Cert.GradUpReferenceIdeal.main_arg1))
      ∧ r.2.sem = fun _ => 0)

def quiescent_GradOc [hGradOc : Cert.GradOc.Facts] : Prop :=
  ∀ (m : (ℓ : Loc Cert.GradOc.nD Cert.GradOc.τ Cert.GradOc.sig) → Buf (Elt Bits) ℓ) (g : Dev Cert.GradOc.nD → PrngReg), Pre_GradOc m →
    θ_run (Cert.GradOc.defs (F := Bits)) (onTc (τ := Cert.GradOc.τ) (Cert.GradOc.main (F := Bits))) ⟨m, fun _ => 0, g⟩ (fun r => (∀ c : Dev Cert.GradOc.nD,
      r.2.mem ((c.tc : Thread Cert.GradOc.nD Cert.GradOc.τ).loc Cert.GradOc.main_arg0) = m ((c.tc : Thread Cert.GradOc.nD Cert.GradOc.τ).loc Cert.GradOc.main_arg0)
      ∧ r.2.mem ((c.tc : Thread Cert.GradOc.nD Cert.GradOc.τ).loc Cert.GradOc.main_arg1) = m ((c.tc : Thread Cert.GradOc.nD Cert.GradOc.τ).loc Cert.GradOc.main_arg1))
      ∧ r.2.sem = fun _ => 0)

def quiescent_GradOcIdeal [hGradOcIdeal : Cert.GradOcIdeal.Facts] : Prop :=
  ∀ (m : (ℓ : Loc Cert.GradOcIdeal.nD Cert.GradOcIdeal.τ Cert.GradOcIdeal.sig) → Buf (Elt Ideal) ℓ) (g : Dev Cert.GradOcIdeal.nD → PrngReg), Pre_GradOcIdeal m →
    θ_run (Cert.GradOcIdeal.defs (F := Ideal)) (onTc (τ := Cert.GradOcIdeal.τ) (Cert.GradOcIdeal.main (F := Ideal))) ⟨m, fun _ => 0, g⟩ (fun r => (∀ c : Dev Cert.GradOcIdeal.nD,
      r.2.mem ((c.tc : Thread Cert.GradOcIdeal.nD Cert.GradOcIdeal.τ).loc Cert.GradOcIdeal.main_arg0) = m ((c.tc : Thread Cert.GradOcIdeal.nD Cert.GradOcIdeal.τ).loc Cert.GradOcIdeal.main_arg0)
      ∧ r.2.mem ((c.tc : Thread Cert.GradOcIdeal.nD Cert.GradOcIdeal.τ).loc Cert.GradOcIdeal.main_arg1) = m ((c.tc : Thread Cert.GradOcIdeal.nD Cert.GradOcIdeal.τ).loc Cert.GradOcIdeal.main_arg1))
      ∧ r.2.sem = fun _ => 0)

def quiescent_GradOcReferenceIdeal [hGradOcReferenceIdeal : Cert.GradOcReferenceIdeal.Facts] : Prop :=
  ∀ (m : (ℓ : Loc Cert.GradOcReferenceIdeal.nD Cert.GradOcReferenceIdeal.τ Cert.GradOcReferenceIdeal.sig) → Buf (Elt Ideal) ℓ) (g : Dev Cert.GradOcReferenceIdeal.nD → PrngReg), Pre_GradOcReferenceIdeal m →
    θ_run (Cert.GradOcReferenceIdeal.defs (F := Ideal)) (onTc (τ := Cert.GradOcReferenceIdeal.τ) (Cert.GradOcReferenceIdeal.main (F := Ideal))) ⟨m, fun _ => 0, g⟩ (fun r => (∀ c : Dev Cert.GradOcReferenceIdeal.nD,
      r.2.mem ((c.tc : Thread Cert.GradOcReferenceIdeal.nD Cert.GradOcReferenceIdeal.τ).loc Cert.GradOcReferenceIdeal.main_arg0) = m ((c.tc : Thread Cert.GradOcReferenceIdeal.nD Cert.GradOcReferenceIdeal.τ).loc Cert.GradOcReferenceIdeal.main_arg0)
      ∧ r.2.mem ((c.tc : Thread Cert.GradOcReferenceIdeal.nD Cert.GradOcReferenceIdeal.τ).loc Cert.GradOcReferenceIdeal.main_arg1) = m ((c.tc : Thread Cert.GradOcReferenceIdeal.nD Cert.GradOcReferenceIdeal.τ).loc Cert.GradOcReferenceIdeal.main_arg1))
      ∧ r.2.sem = fun _ => 0)

def quiescent_GradCo [hGradCo : Cert.GradCo.Facts] : Prop :=
  ∀ (m : (ℓ : Loc Cert.GradCo.nD Cert.GradCo.τ Cert.GradCo.sig) → Buf (Elt Bits) ℓ) (g : Dev Cert.GradCo.nD → PrngReg), Pre_GradCo m →
    θ_run (Cert.GradCo.defs (F := Bits)) (onTc (τ := Cert.GradCo.τ) (Cert.GradCo.main (F := Bits))) ⟨m, fun _ => 0, g⟩ (fun r => (∀ c : Dev Cert.GradCo.nD,
      r.2.mem ((c.tc : Thread Cert.GradCo.nD Cert.GradCo.τ).loc Cert.GradCo.main_arg0) = m ((c.tc : Thread Cert.GradCo.nD Cert.GradCo.τ).loc Cert.GradCo.main_arg0)
      ∧ r.2.mem ((c.tc : Thread Cert.GradCo.nD Cert.GradCo.τ).loc Cert.GradCo.main_arg1) = m ((c.tc : Thread Cert.GradCo.nD Cert.GradCo.τ).loc Cert.GradCo.main_arg1))
      ∧ r.2.sem = fun _ => 0)

def quiescent_GradCoIdeal [hGradCoIdeal : Cert.GradCoIdeal.Facts] : Prop :=
  ∀ (m : (ℓ : Loc Cert.GradCoIdeal.nD Cert.GradCoIdeal.τ Cert.GradCoIdeal.sig) → Buf (Elt Ideal) ℓ) (g : Dev Cert.GradCoIdeal.nD → PrngReg), Pre_GradCoIdeal m →
    θ_run (Cert.GradCoIdeal.defs (F := Ideal)) (onTc (τ := Cert.GradCoIdeal.τ) (Cert.GradCoIdeal.main (F := Ideal))) ⟨m, fun _ => 0, g⟩ (fun r => (∀ c : Dev Cert.GradCoIdeal.nD,
      r.2.mem ((c.tc : Thread Cert.GradCoIdeal.nD Cert.GradCoIdeal.τ).loc Cert.GradCoIdeal.main_arg0) = m ((c.tc : Thread Cert.GradCoIdeal.nD Cert.GradCoIdeal.τ).loc Cert.GradCoIdeal.main_arg0)
      ∧ r.2.mem ((c.tc : Thread Cert.GradCoIdeal.nD Cert.GradCoIdeal.τ).loc Cert.GradCoIdeal.main_arg1) = m ((c.tc : Thread Cert.GradCoIdeal.nD Cert.GradCoIdeal.τ).loc Cert.GradCoIdeal.main_arg1))
      ∧ r.2.sem = fun _ => 0)

def quiescent_GradCoReferenceIdeal [hGradCoReferenceIdeal : Cert.GradCoReferenceIdeal.Facts] : Prop :=
  ∀ (m : (ℓ : Loc Cert.GradCoReferenceIdeal.nD Cert.GradCoReferenceIdeal.τ Cert.GradCoReferenceIdeal.sig) → Buf (Elt Ideal) ℓ) (g : Dev Cert.GradCoReferenceIdeal.nD → PrngReg), Pre_GradCoReferenceIdeal m →
    θ_run (Cert.GradCoReferenceIdeal.defs (F := Ideal)) (onTc (τ := Cert.GradCoReferenceIdeal.τ) (Cert.GradCoReferenceIdeal.main (F := Ideal))) ⟨m, fun _ => 0, g⟩ (fun r => (∀ c : Dev Cert.GradCoReferenceIdeal.nD,
      r.2.mem ((c.tc : Thread Cert.GradCoReferenceIdeal.nD Cert.GradCoReferenceIdeal.τ).loc Cert.GradCoReferenceIdeal.main_arg0) = m ((c.tc : Thread Cert.GradCoReferenceIdeal.nD Cert.GradCoReferenceIdeal.τ).loc Cert.GradCoReferenceIdeal.main_arg0)
      ∧ r.2.mem ((c.tc : Thread Cert.GradCoReferenceIdeal.nD Cert.GradCoReferenceIdeal.τ).loc Cert.GradCoReferenceIdeal.main_arg1) = m ((c.tc : Thread Cert.GradCoReferenceIdeal.nD Cert.GradCoReferenceIdeal.τ).loc Cert.GradCoReferenceIdeal.main_arg1))
      ∧ r.2.sem = fun _ => 0)

def quiescent_GradHq [hGradHq : Cert.GradHq.Facts] : Prop :=
  ∀ (m : (ℓ : Loc Cert.GradHq.nD Cert.GradHq.τ Cert.GradHq.sig) → Buf (Elt Bits) ℓ) (g : Dev Cert.GradHq.nD → PrngReg), Pre_GradHq m →
    θ_run (Cert.GradHq.defs (F := Bits)) (onTc (τ := Cert.GradHq.τ) (Cert.GradHq.main (F := Bits))) ⟨m, fun _ => 0, g⟩ (fun r => (∀ c : Dev Cert.GradHq.nD,
      r.2.mem ((c.tc : Thread Cert.GradHq.nD Cert.GradHq.τ).loc Cert.GradHq.main_arg0) = m ((c.tc : Thread Cert.GradHq.nD Cert.GradHq.τ).loc Cert.GradHq.main_arg0)
      ∧ r.2.mem ((c.tc : Thread Cert.GradHq.nD Cert.GradHq.τ).loc Cert.GradHq.main_arg1) = m ((c.tc : Thread Cert.GradHq.nD Cert.GradHq.τ).loc Cert.GradHq.main_arg1))
      ∧ r.2.sem = fun _ => 0)

def quiescent_GradHqIdeal [hGradHqIdeal : Cert.GradHqIdeal.Facts] : Prop :=
  ∀ (m : (ℓ : Loc Cert.GradHqIdeal.nD Cert.GradHqIdeal.τ Cert.GradHqIdeal.sig) → Buf (Elt Ideal) ℓ) (g : Dev Cert.GradHqIdeal.nD → PrngReg), Pre_GradHqIdeal m →
    θ_run (Cert.GradHqIdeal.defs (F := Ideal)) (onTc (τ := Cert.GradHqIdeal.τ) (Cert.GradHqIdeal.main (F := Ideal))) ⟨m, fun _ => 0, g⟩ (fun r => (∀ c : Dev Cert.GradHqIdeal.nD,
      r.2.mem ((c.tc : Thread Cert.GradHqIdeal.nD Cert.GradHqIdeal.τ).loc Cert.GradHqIdeal.main_arg0) = m ((c.tc : Thread Cert.GradHqIdeal.nD Cert.GradHqIdeal.τ).loc Cert.GradHqIdeal.main_arg0)
      ∧ r.2.mem ((c.tc : Thread Cert.GradHqIdeal.nD Cert.GradHqIdeal.τ).loc Cert.GradHqIdeal.main_arg1) = m ((c.tc : Thread Cert.GradHqIdeal.nD Cert.GradHqIdeal.τ).loc Cert.GradHqIdeal.main_arg1))
      ∧ r.2.sem = fun _ => 0)

def quiescent_GradHqReferenceIdeal [hGradHqReferenceIdeal : Cert.GradHqReferenceIdeal.Facts] : Prop :=
  ∀ (m : (ℓ : Loc Cert.GradHqReferenceIdeal.nD Cert.GradHqReferenceIdeal.τ Cert.GradHqReferenceIdeal.sig) → Buf (Elt Ideal) ℓ) (g : Dev Cert.GradHqReferenceIdeal.nD → PrngReg), Pre_GradHqReferenceIdeal m →
    θ_run (Cert.GradHqReferenceIdeal.defs (F := Ideal)) (onTc (τ := Cert.GradHqReferenceIdeal.τ) (Cert.GradHqReferenceIdeal.main (F := Ideal))) ⟨m, fun _ => 0, g⟩ (fun r => (∀ c : Dev Cert.GradHqReferenceIdeal.nD,
      r.2.mem ((c.tc : Thread Cert.GradHqReferenceIdeal.nD Cert.GradHqReferenceIdeal.τ).loc Cert.GradHqReferenceIdeal.main_arg0) = m ((c.tc : Thread Cert.GradHqReferenceIdeal.nD Cert.GradHqReferenceIdeal.τ).loc Cert.GradHqReferenceIdeal.main_arg0)
      ∧ r.2.mem ((c.tc : Thread Cert.GradHqReferenceIdeal.nD Cert.GradHqReferenceIdeal.τ).loc Cert.GradHqReferenceIdeal.main_arg1) = m ((c.tc : Thread Cert.GradHqReferenceIdeal.nD Cert.GradHqReferenceIdeal.τ).loc Cert.GradHqReferenceIdeal.main_arg1))
      ∧ r.2.sem = fun _ => 0)

def quiescent_GradCq [hGradCq : Cert.GradCq.Facts] : Prop :=
  ∀ (m : (ℓ : Loc Cert.GradCq.nD Cert.GradCq.τ Cert.GradCq.sig) → Buf (Elt Bits) ℓ) (g : Dev Cert.GradCq.nD → PrngReg), Pre_GradCq m →
    θ_run (Cert.GradCq.defs (F := Bits)) (onTc (τ := Cert.GradCq.τ) (Cert.GradCq.main (F := Bits))) ⟨m, fun _ => 0, g⟩ (fun r => (∀ c : Dev Cert.GradCq.nD,
      r.2.mem ((c.tc : Thread Cert.GradCq.nD Cert.GradCq.τ).loc Cert.GradCq.main_arg0) = m ((c.tc : Thread Cert.GradCq.nD Cert.GradCq.τ).loc Cert.GradCq.main_arg0)
      ∧ r.2.mem ((c.tc : Thread Cert.GradCq.nD Cert.GradCq.τ).loc Cert.GradCq.main_arg1) = m ((c.tc : Thread Cert.GradCq.nD Cert.GradCq.τ).loc Cert.GradCq.main_arg1))
      ∧ r.2.sem = fun _ => 0)

def quiescent_GradCqIdeal [hGradCqIdeal : Cert.GradCqIdeal.Facts] : Prop :=
  ∀ (m : (ℓ : Loc Cert.GradCqIdeal.nD Cert.GradCqIdeal.τ Cert.GradCqIdeal.sig) → Buf (Elt Ideal) ℓ) (g : Dev Cert.GradCqIdeal.nD → PrngReg), Pre_GradCqIdeal m →
    θ_run (Cert.GradCqIdeal.defs (F := Ideal)) (onTc (τ := Cert.GradCqIdeal.τ) (Cert.GradCqIdeal.main (F := Ideal))) ⟨m, fun _ => 0, g⟩ (fun r => (∀ c : Dev Cert.GradCqIdeal.nD,
      r.2.mem ((c.tc : Thread Cert.GradCqIdeal.nD Cert.GradCqIdeal.τ).loc Cert.GradCqIdeal.main_arg0) = m ((c.tc : Thread Cert.GradCqIdeal.nD Cert.GradCqIdeal.τ).loc Cert.GradCqIdeal.main_arg0)
      ∧ r.2.mem ((c.tc : Thread Cert.GradCqIdeal.nD Cert.GradCqIdeal.τ).loc Cert.GradCqIdeal.main_arg1) = m ((c.tc : Thread Cert.GradCqIdeal.nD Cert.GradCqIdeal.τ).loc Cert.GradCqIdeal.main_arg1))
      ∧ r.2.sem = fun _ => 0)

def quiescent_GradCqReferenceIdeal [hGradCqReferenceIdeal : Cert.GradCqReferenceIdeal.Facts] : Prop :=
  ∀ (m : (ℓ : Loc Cert.GradCqReferenceIdeal.nD Cert.GradCqReferenceIdeal.τ Cert.GradCqReferenceIdeal.sig) → Buf (Elt Ideal) ℓ) (g : Dev Cert.GradCqReferenceIdeal.nD → PrngReg), Pre_GradCqReferenceIdeal m →
    θ_run (Cert.GradCqReferenceIdeal.defs (F := Ideal)) (onTc (τ := Cert.GradCqReferenceIdeal.τ) (Cert.GradCqReferenceIdeal.main (F := Ideal))) ⟨m, fun _ => 0, g⟩ (fun r => (∀ c : Dev Cert.GradCqReferenceIdeal.nD,
      r.2.mem ((c.tc : Thread Cert.GradCqReferenceIdeal.nD Cert.GradCqReferenceIdeal.τ).loc Cert.GradCqReferenceIdeal.main_arg0) = m ((c.tc : Thread Cert.GradCqReferenceIdeal.nD Cert.GradCqReferenceIdeal.τ).loc Cert.GradCqReferenceIdeal.main_arg0)
      ∧ r.2.mem ((c.tc : Thread Cert.GradCqReferenceIdeal.nD Cert.GradCqReferenceIdeal.τ).loc Cert.GradCqReferenceIdeal.main_arg1) = m ((c.tc : Thread Cert.GradCqReferenceIdeal.nD Cert.GradCqReferenceIdeal.τ).loc Cert.GradCqReferenceIdeal.main_arg1))
      ∧ r.2.sem = fun _ => 0)

def quiescent_GradMem [hGradMem : Cert.GradMem.Facts] : Prop :=
  ∀ (m : (ℓ : Loc Cert.GradMem.nD Cert.GradMem.τ Cert.GradMem.sig) → Buf (Elt Bits) ℓ) (g : Dev Cert.GradMem.nD → PrngReg), Pre_GradMem m →
    θ_run (Cert.GradMem.defs (F := Bits)) (onTc (τ := Cert.GradMem.τ) (Cert.GradMem.main (F := Bits))) ⟨m, fun _ => 0, g⟩ (fun r => (∀ c : Dev Cert.GradMem.nD,
      r.2.mem ((c.tc : Thread Cert.GradMem.nD Cert.GradMem.τ).loc Cert.GradMem.main_arg0) = m ((c.tc : Thread Cert.GradMem.nD Cert.GradMem.τ).loc Cert.GradMem.main_arg0)
      ∧ r.2.mem ((c.tc : Thread Cert.GradMem.nD Cert.GradMem.τ).loc Cert.GradMem.main_arg1) = m ((c.tc : Thread Cert.GradMem.nD Cert.GradMem.τ).loc Cert.GradMem.main_arg1))
      ∧ r.2.sem = fun _ => 0)

def quiescent_GradMemIdeal [hGradMemIdeal : Cert.GradMemIdeal.Facts] : Prop :=
  ∀ (m : (ℓ : Loc Cert.GradMemIdeal.nD Cert.GradMemIdeal.τ Cert.GradMemIdeal.sig) → Buf (Elt Ideal) ℓ) (g : Dev Cert.GradMemIdeal.nD → PrngReg), Pre_GradMemIdeal m →
    θ_run (Cert.GradMemIdeal.defs (F := Ideal)) (onTc (τ := Cert.GradMemIdeal.τ) (Cert.GradMemIdeal.main (F := Ideal))) ⟨m, fun _ => 0, g⟩ (fun r => (∀ c : Dev Cert.GradMemIdeal.nD,
      r.2.mem ((c.tc : Thread Cert.GradMemIdeal.nD Cert.GradMemIdeal.τ).loc Cert.GradMemIdeal.main_arg0) = m ((c.tc : Thread Cert.GradMemIdeal.nD Cert.GradMemIdeal.τ).loc Cert.GradMemIdeal.main_arg0)
      ∧ r.2.mem ((c.tc : Thread Cert.GradMemIdeal.nD Cert.GradMemIdeal.τ).loc Cert.GradMemIdeal.main_arg1) = m ((c.tc : Thread Cert.GradMemIdeal.nD Cert.GradMemIdeal.τ).loc Cert.GradMemIdeal.main_arg1))
      ∧ r.2.sem = fun _ => 0)

def quiescent_GradMemReferenceIdeal [hGradMemReferenceIdeal : Cert.GradMemReferenceIdeal.Facts] : Prop :=
  ∀ (m : (ℓ : Loc Cert.GradMemReferenceIdeal.nD Cert.GradMemReferenceIdeal.τ Cert.GradMemReferenceIdeal.sig) → Buf (Elt Ideal) ℓ) (g : Dev Cert.GradMemReferenceIdeal.nD → PrngReg), Pre_GradMemReferenceIdeal m →
    θ_run (Cert.GradMemReferenceIdeal.defs (F := Ideal)) (onTc (τ := Cert.GradMemReferenceIdeal.τ) (Cert.GradMemReferenceIdeal.main (F := Ideal))) ⟨m, fun _ => 0, g⟩ (fun r => (∀ c : Dev Cert.GradMemReferenceIdeal.nD,
      r.2.mem ((c.tc : Thread Cert.GradMemReferenceIdeal.nD Cert.GradMemReferenceIdeal.τ).loc Cert.GradMemReferenceIdeal.main_arg0) = m ((c.tc : Thread Cert.GradMemReferenceIdeal.nD Cert.GradMemReferenceIdeal.τ).loc Cert.GradMemReferenceIdeal.main_arg0)
      ∧ r.2.mem ((c.tc : Thread Cert.GradMemReferenceIdeal.nD Cert.GradMemReferenceIdeal.τ).loc Cert.GradMemReferenceIdeal.main_arg1) = m ((c.tc : Thread Cert.GradMemReferenceIdeal.nD Cert.GradMemReferenceIdeal.τ).loc Cert.GradMemReferenceIdeal.main_arg1))
      ∧ r.2.sem = fun _ => 0)

def quiescent_GradCkv [hGradCkv : Cert.GradCkv.Facts] : Prop :=
  ∀ (m : (ℓ : Loc Cert.GradCkv.nD Cert.GradCkv.τ Cert.GradCkv.sig) → Buf (Elt Bits) ℓ) (g : Dev Cert.GradCkv.nD → PrngReg), Pre_GradCkv m →
    θ_run (Cert.GradCkv.defs (F := Bits)) (onTc (τ := Cert.GradCkv.τ) (Cert.GradCkv.main (F := Bits))) ⟨m, fun _ => 0, g⟩ (fun r => (∀ c : Dev Cert.GradCkv.nD,
      r.2.mem ((c.tc : Thread Cert.GradCkv.nD Cert.GradCkv.τ).loc Cert.GradCkv.main_arg0) = m ((c.tc : Thread Cert.GradCkv.nD Cert.GradCkv.τ).loc Cert.GradCkv.main_arg0)
      ∧ r.2.mem ((c.tc : Thread Cert.GradCkv.nD Cert.GradCkv.τ).loc Cert.GradCkv.main_arg1) = m ((c.tc : Thread Cert.GradCkv.nD Cert.GradCkv.τ).loc Cert.GradCkv.main_arg1))
      ∧ r.2.sem = fun _ => 0)

def quiescent_GradCkvIdeal [hGradCkvIdeal : Cert.GradCkvIdeal.Facts] : Prop :=
  ∀ (m : (ℓ : Loc Cert.GradCkvIdeal.nD Cert.GradCkvIdeal.τ Cert.GradCkvIdeal.sig) → Buf (Elt Ideal) ℓ) (g : Dev Cert.GradCkvIdeal.nD → PrngReg), Pre_GradCkvIdeal m →
    θ_run (Cert.GradCkvIdeal.defs (F := Ideal)) (onTc (τ := Cert.GradCkvIdeal.τ) (Cert.GradCkvIdeal.main (F := Ideal))) ⟨m, fun _ => 0, g⟩ (fun r => (∀ c : Dev Cert.GradCkvIdeal.nD,
      r.2.mem ((c.tc : Thread Cert.GradCkvIdeal.nD Cert.GradCkvIdeal.τ).loc Cert.GradCkvIdeal.main_arg0) = m ((c.tc : Thread Cert.GradCkvIdeal.nD Cert.GradCkvIdeal.τ).loc Cert.GradCkvIdeal.main_arg0)
      ∧ r.2.mem ((c.tc : Thread Cert.GradCkvIdeal.nD Cert.GradCkvIdeal.τ).loc Cert.GradCkvIdeal.main_arg1) = m ((c.tc : Thread Cert.GradCkvIdeal.nD Cert.GradCkvIdeal.τ).loc Cert.GradCkvIdeal.main_arg1))
      ∧ r.2.sem = fun _ => 0)

def quiescent_GradCkvReferenceIdeal [hGradCkvReferenceIdeal : Cert.GradCkvReferenceIdeal.Facts] : Prop :=
  ∀ (m : (ℓ : Loc Cert.GradCkvReferenceIdeal.nD Cert.GradCkvReferenceIdeal.τ Cert.GradCkvReferenceIdeal.sig) → Buf (Elt Ideal) ℓ) (g : Dev Cert.GradCkvReferenceIdeal.nD → PrngReg), Pre_GradCkvReferenceIdeal m →
    θ_run (Cert.GradCkvReferenceIdeal.defs (F := Ideal)) (onTc (τ := Cert.GradCkvReferenceIdeal.τ) (Cert.GradCkvReferenceIdeal.main (F := Ideal))) ⟨m, fun _ => 0, g⟩ (fun r => (∀ c : Dev Cert.GradCkvReferenceIdeal.nD,
      r.2.mem ((c.tc : Thread Cert.GradCkvReferenceIdeal.nD Cert.GradCkvReferenceIdeal.τ).loc Cert.GradCkvReferenceIdeal.main_arg0) = m ((c.tc : Thread Cert.GradCkvReferenceIdeal.nD Cert.GradCkvReferenceIdeal.τ).loc Cert.GradCkvReferenceIdeal.main_arg0)
      ∧ r.2.mem ((c.tc : Thread Cert.GradCkvReferenceIdeal.nD Cert.GradCkvReferenceIdeal.τ).loc Cert.GradCkvReferenceIdeal.main_arg1) = m ((c.tc : Thread Cert.GradCkvReferenceIdeal.nD Cert.GradCkvReferenceIdeal.τ).loc Cert.GradCkvReferenceIdeal.main_arg1))
      ∧ r.2.sem = fun _ => 0)

def quiescent_GradMixed [hGradMixed : Cert.GradMixed.Facts] : Prop :=
  ∀ (m : (ℓ : Loc Cert.GradMixed.nD Cert.GradMixed.τ Cert.GradMixed.sig) → Buf (Elt Bits) ℓ) (g : Dev Cert.GradMixed.nD → PrngReg), Pre_GradMixed m →
    θ_run (Cert.GradMixed.defs (F := Bits)) (onTc (τ := Cert.GradMixed.τ) (Cert.GradMixed.main (F := Bits))) ⟨m, fun _ => 0, g⟩ (fun r => (∀ c : Dev Cert.GradMixed.nD,
      r.2.mem ((c.tc : Thread Cert.GradMixed.nD Cert.GradMixed.τ).loc Cert.GradMixed.main_arg0) = m ((c.tc : Thread Cert.GradMixed.nD Cert.GradMixed.τ).loc Cert.GradMixed.main_arg0)
      ∧ r.2.mem ((c.tc : Thread Cert.GradMixed.nD Cert.GradMixed.τ).loc Cert.GradMixed.main_arg1) = m ((c.tc : Thread Cert.GradMixed.nD Cert.GradMixed.τ).loc Cert.GradMixed.main_arg1))
      ∧ r.2.sem = fun _ => 0)

def quiescent_GradMixedIdeal [hGradMixedIdeal : Cert.GradMixedIdeal.Facts] : Prop :=
  ∀ (m : (ℓ : Loc Cert.GradMixedIdeal.nD Cert.GradMixedIdeal.τ Cert.GradMixedIdeal.sig) → Buf (Elt Ideal) ℓ) (g : Dev Cert.GradMixedIdeal.nD → PrngReg), Pre_GradMixedIdeal m →
    θ_run (Cert.GradMixedIdeal.defs (F := Ideal)) (onTc (τ := Cert.GradMixedIdeal.τ) (Cert.GradMixedIdeal.main (F := Ideal))) ⟨m, fun _ => 0, g⟩ (fun r => (∀ c : Dev Cert.GradMixedIdeal.nD,
      r.2.mem ((c.tc : Thread Cert.GradMixedIdeal.nD Cert.GradMixedIdeal.τ).loc Cert.GradMixedIdeal.main_arg0) = m ((c.tc : Thread Cert.GradMixedIdeal.nD Cert.GradMixedIdeal.τ).loc Cert.GradMixedIdeal.main_arg0)
      ∧ r.2.mem ((c.tc : Thread Cert.GradMixedIdeal.nD Cert.GradMixedIdeal.τ).loc Cert.GradMixedIdeal.main_arg1) = m ((c.tc : Thread Cert.GradMixedIdeal.nD Cert.GradMixedIdeal.τ).loc Cert.GradMixedIdeal.main_arg1))
      ∧ r.2.sem = fun _ => 0)

def quiescent_GradMixedReferenceIdeal [hGradMixedReferenceIdeal : Cert.GradMixedReferenceIdeal.Facts] : Prop :=
  ∀ (m : (ℓ : Loc Cert.GradMixedReferenceIdeal.nD Cert.GradMixedReferenceIdeal.τ Cert.GradMixedReferenceIdeal.sig) → Buf (Elt Ideal) ℓ) (g : Dev Cert.GradMixedReferenceIdeal.nD → PrngReg), Pre_GradMixedReferenceIdeal m →
    θ_run (Cert.GradMixedReferenceIdeal.defs (F := Ideal)) (onTc (τ := Cert.GradMixedReferenceIdeal.τ) (Cert.GradMixedReferenceIdeal.main (F := Ideal))) ⟨m, fun _ => 0, g⟩ (fun r => (∀ c : Dev Cert.GradMixedReferenceIdeal.nD,
      r.2.mem ((c.tc : Thread Cert.GradMixedReferenceIdeal.nD Cert.GradMixedReferenceIdeal.τ).loc Cert.GradMixedReferenceIdeal.main_arg0) = m ((c.tc : Thread Cert.GradMixedReferenceIdeal.nD Cert.GradMixedReferenceIdeal.τ).loc Cert.GradMixedReferenceIdeal.main_arg0)
      ∧ r.2.mem ((c.tc : Thread Cert.GradMixedReferenceIdeal.nD Cert.GradMixedReferenceIdeal.τ).loc Cert.GradMixedReferenceIdeal.main_arg1) = m ((c.tc : Thread Cert.GradMixedReferenceIdeal.nD Cert.GradMixedReferenceIdeal.τ).loc Cert.GradMixedReferenceIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_GradOutReferenceIdeal [hGradOutReferenceIdeal : Cert.GradOutReferenceIdeal.Facts] : Prop :=
  ∀ (m : (ℓ : Loc Cert.GradOutReferenceIdeal.nD Cert.GradOutReferenceIdeal.τ Cert.GradOutReferenceIdeal.sig) → Buf (Elt Ideal) ℓ) (g : Dev Cert.GradOutReferenceIdeal.nD → PrngReg), Pre_GradOutReferenceIdeal m →
    θ_run (Cert.GradOutReferenceIdeal.defs (F := Ideal)) (onTc (τ := Cert.GradOutReferenceIdeal.τ) (Cert.GradOutReferenceIdeal.main (F := Ideal))) ⟨m, fun _ => 0, g⟩ (fun r => (∀ c : Dev Cert.GradOutReferenceIdeal.nD,
      r.2.mem ((c.tc : Thread Cert.GradOutReferenceIdeal.nD Cert.GradOutReferenceIdeal.τ).loc Cert.GradOutReferenceIdeal.main_arg0) = m ((c.tc : Thread Cert.GradOutReferenceIdeal.nD Cert.GradOutReferenceIdeal.τ).loc Cert.GradOutReferenceIdeal.main_arg0)
      ∧ r.2.mem ((c.tc : Thread Cert.GradOutReferenceIdeal.nD Cert.GradOutReferenceIdeal.τ).loc Cert.GradOutReferenceIdeal.main_arg1) = m ((c.tc : Thread Cert.GradOutReferenceIdeal.nD Cert.GradOutReferenceIdeal.τ).loc Cert.GradOutReferenceIdeal.main_arg1))
      ∧ r.2.sem = fun _ => 0)

def quiescent_GradMain [hGradMain : Cert.GradMain.Facts] : Prop :=
  ∀ (m : (ℓ : Loc Cert.GradMain.nD Cert.GradMain.τ Cert.GradMain.sig) → Buf (Elt Bits) ℓ) (g : Dev Cert.GradMain.nD → PrngReg), Pre_GradMain m →
    θ_run (Cert.GradMain.defs (F := Bits)) (onTc (τ := Cert.GradMain.τ) (Cert.GradMain.main (F := Bits))) ⟨m, fun _ => 0, g⟩ (fun r => (∀ c : Dev Cert.GradMain.nD,
      r.2.mem ((c.tc : Thread Cert.GradMain.nD Cert.GradMain.τ).loc Cert.GradMain.main_arg0) = m ((c.tc : Thread Cert.GradMain.nD Cert.GradMain.τ).loc Cert.GradMain.main_arg0)
      ∧ r.2.mem ((c.tc : Thread Cert.GradMain.nD Cert.GradMain.τ).loc Cert.GradMain.main_arg1) = m ((c.tc : Thread Cert.GradMain.nD Cert.GradMain.τ).loc Cert.GradMain.main_arg1))
      ∧ r.2.sem = fun _ => 0)

def quiescent_GradMainIdeal [hGradMainIdeal : Cert.GradMainIdeal.Facts] : Prop :=
  ∀ (m : (ℓ : Loc Cert.GradMainIdeal.nD Cert.GradMainIdeal.τ Cert.GradMainIdeal.sig) → Buf (Elt Ideal) ℓ) (g : Dev Cert.GradMainIdeal.nD → PrngReg), Pre_GradMainIdeal m →
    θ_run (Cert.GradMainIdeal.defs (F := Ideal)) (onTc (τ := Cert.GradMainIdeal.τ) (Cert.GradMainIdeal.main (F := Ideal))) ⟨m, fun _ => 0, g⟩ (fun r => (∀ c : Dev Cert.GradMainIdeal.nD,
      r.2.mem ((c.tc : Thread Cert.GradMainIdeal.nD Cert.GradMainIdeal.τ).loc Cert.GradMainIdeal.main_arg0) = m ((c.tc : Thread Cert.GradMainIdeal.nD Cert.GradMainIdeal.τ).loc Cert.GradMainIdeal.main_arg0)
      ∧ r.2.mem ((c.tc : Thread Cert.GradMainIdeal.nD Cert.GradMainIdeal.τ).loc Cert.GradMainIdeal.main_arg1) = m ((c.tc : Thread Cert.GradMainIdeal.nD Cert.GradMainIdeal.τ).loc Cert.GradMainIdeal.main_arg1))
      ∧ r.2.sem = fun _ => 0)

def quiescent_GradMainReferenceIdeal [hGradMainReferenceIdeal : Cert.GradMainReferenceIdeal.Facts] : Prop :=
  ∀ (m : (ℓ : Loc Cert.GradMainReferenceIdeal.nD Cert.GradMainReferenceIdeal.τ Cert.GradMainReferenceIdeal.sig) → Buf (Elt Ideal) ℓ) (g : Dev Cert.GradMainReferenceIdeal.nD → PrngReg), Pre_GradMainReferenceIdeal m →
    θ_run (Cert.GradMainReferenceIdeal.defs (F := Ideal)) (onTc (τ := Cert.GradMainReferenceIdeal.τ) (Cert.GradMainReferenceIdeal.main (F := Ideal))) ⟨m, fun _ => 0, g⟩ (fun r => (∀ c : Dev Cert.GradMainReferenceIdeal.nD,
      r.2.mem ((c.tc : Thread Cert.GradMainReferenceIdeal.nD Cert.GradMainReferenceIdeal.τ).loc Cert.GradMainReferenceIdeal.main_arg0) = m ((c.tc : Thread Cert.GradMainReferenceIdeal.nD Cert.GradMainReferenceIdeal.τ).loc Cert.GradMainReferenceIdeal.main_arg0)
      ∧ r.2.mem ((c.tc : Thread Cert.GradMainReferenceIdeal.nD Cert.GradMainReferenceIdeal.τ).loc Cert.GradMainReferenceIdeal.main_arg1) = m ((c.tc : Thread Cert.GradMainReferenceIdeal.nD Cert.GradMainReferenceIdeal.τ).loc Cert.GradMainReferenceIdeal.main_arg1))
      ∧ r.2.sem = fun _ => 0)

def quiescent_GradMix [hGradMix : Cert.GradMix.Facts] : Prop :=
  ∀ (m : (ℓ : Loc Cert.GradMix.nD Cert.GradMix.τ Cert.GradMix.sig) → Buf (Elt Bits) ℓ) (g : Dev Cert.GradMix.nD → PrngReg), Pre_GradMix m →
    θ_run (Cert.GradMix.defs (F := Bits)) (onTc (τ := Cert.GradMix.τ) (Cert.GradMix.main (F := Bits))) ⟨m, fun _ => 0, g⟩ (fun r => (∀ c : Dev Cert.GradMix.nD,
      r.2.mem ((c.tc : Thread Cert.GradMix.nD Cert.GradMix.τ).loc Cert.GradMix.main_arg0) = m ((c.tc : Thread Cert.GradMix.nD Cert.GradMix.τ).loc Cert.GradMix.main_arg0)
      ∧ r.2.mem ((c.tc : Thread Cert.GradMix.nD Cert.GradMix.τ).loc Cert.GradMix.main_arg1) = m ((c.tc : Thread Cert.GradMix.nD Cert.GradMix.τ).loc Cert.GradMix.main_arg1)
      ∧ r.2.mem ((c.tc : Thread Cert.GradMix.nD Cert.GradMix.τ).loc Cert.GradMix.main_arg2) = m ((c.tc : Thread Cert.GradMix.nD Cert.GradMix.τ).loc Cert.GradMix.main_arg2))
      ∧ r.2.sem = fun _ => 0)

def quiescent_GradMixIdeal [hGradMixIdeal : Cert.GradMixIdeal.Facts] : Prop :=
  ∀ (m : (ℓ : Loc Cert.GradMixIdeal.nD Cert.GradMixIdeal.τ Cert.GradMixIdeal.sig) → Buf (Elt Ideal) ℓ) (g : Dev Cert.GradMixIdeal.nD → PrngReg), Pre_GradMixIdeal m →
    θ_run (Cert.GradMixIdeal.defs (F := Ideal)) (onTc (τ := Cert.GradMixIdeal.τ) (Cert.GradMixIdeal.main (F := Ideal))) ⟨m, fun _ => 0, g⟩ (fun r => (∀ c : Dev Cert.GradMixIdeal.nD,
      r.2.mem ((c.tc : Thread Cert.GradMixIdeal.nD Cert.GradMixIdeal.τ).loc Cert.GradMixIdeal.main_arg0) = m ((c.tc : Thread Cert.GradMixIdeal.nD Cert.GradMixIdeal.τ).loc Cert.GradMixIdeal.main_arg0)
      ∧ r.2.mem ((c.tc : Thread Cert.GradMixIdeal.nD Cert.GradMixIdeal.τ).loc Cert.GradMixIdeal.main_arg1) = m ((c.tc : Thread Cert.GradMixIdeal.nD Cert.GradMixIdeal.τ).loc Cert.GradMixIdeal.main_arg1)
      ∧ r.2.mem ((c.tc : Thread Cert.GradMixIdeal.nD Cert.GradMixIdeal.τ).loc Cert.GradMixIdeal.main_arg2) = m ((c.tc : Thread Cert.GradMixIdeal.nD Cert.GradMixIdeal.τ).loc Cert.GradMixIdeal.main_arg2))
      ∧ r.2.sem = fun _ => 0)

def quiescent_GradMixReferenceIdeal [hGradMixReferenceIdeal : Cert.GradMixReferenceIdeal.Facts] : Prop :=
  ∀ (m : (ℓ : Loc Cert.GradMixReferenceIdeal.nD Cert.GradMixReferenceIdeal.τ Cert.GradMixReferenceIdeal.sig) → Buf (Elt Ideal) ℓ) (g : Dev Cert.GradMixReferenceIdeal.nD → PrngReg), Pre_GradMixReferenceIdeal m →
    θ_run (Cert.GradMixReferenceIdeal.defs (F := Ideal)) (onTc (τ := Cert.GradMixReferenceIdeal.τ) (Cert.GradMixReferenceIdeal.main (F := Ideal))) ⟨m, fun _ => 0, g⟩ (fun r => (∀ c : Dev Cert.GradMixReferenceIdeal.nD,
      r.2.mem ((c.tc : Thread Cert.GradMixReferenceIdeal.nD Cert.GradMixReferenceIdeal.τ).loc Cert.GradMixReferenceIdeal.main_arg0) = m ((c.tc : Thread Cert.GradMixReferenceIdeal.nD Cert.GradMixReferenceIdeal.τ).loc Cert.GradMixReferenceIdeal.main_arg0)
      ∧ r.2.mem ((c.tc : Thread Cert.GradMixReferenceIdeal.nD Cert.GradMixReferenceIdeal.τ).loc Cert.GradMixReferenceIdeal.main_arg1) = m ((c.tc : Thread Cert.GradMixReferenceIdeal.nD Cert.GradMixReferenceIdeal.τ).loc Cert.GradMixReferenceIdeal.main_arg1)
      ∧ r.2.mem ((c.tc : Thread Cert.GradMixReferenceIdeal.nD Cert.GradMixReferenceIdeal.τ).loc Cert.GradMixReferenceIdeal.main_arg2) = m ((c.tc : Thread Cert.GradMixReferenceIdeal.nD Cert.GradMixReferenceIdeal.τ).loc Cert.GradMixReferenceIdeal.main_arg2))
      ∧ r.2.sem = fun _ => 0)

def quiescent_GradQkv [hGradQkv : Cert.GradQkv.Facts] : Prop :=
  ∀ (m : (ℓ : Loc Cert.GradQkv.nD Cert.GradQkv.τ Cert.GradQkv.sig) → Buf (Elt Bits) ℓ) (g : Dev Cert.GradQkv.nD → PrngReg), Pre_GradQkv m →
    θ_run (Cert.GradQkv.defs (F := Bits)) (onTc (τ := Cert.GradQkv.τ) (Cert.GradQkv.main (F := Bits))) ⟨m, fun _ => 0, g⟩ (fun r => (∀ c : Dev Cert.GradQkv.nD,
      r.2.mem ((c.tc : Thread Cert.GradQkv.nD Cert.GradQkv.τ).loc Cert.GradQkv.main_arg0) = m ((c.tc : Thread Cert.GradQkv.nD Cert.GradQkv.τ).loc Cert.GradQkv.main_arg0)
      ∧ r.2.mem ((c.tc : Thread Cert.GradQkv.nD Cert.GradQkv.τ).loc Cert.GradQkv.main_arg1) = m ((c.tc : Thread Cert.GradQkv.nD Cert.GradQkv.τ).loc Cert.GradQkv.main_arg1))
      ∧ r.2.sem = fun _ => 0)

def quiescent_GradQkvIdeal [hGradQkvIdeal : Cert.GradQkvIdeal.Facts] : Prop :=
  ∀ (m : (ℓ : Loc Cert.GradQkvIdeal.nD Cert.GradQkvIdeal.τ Cert.GradQkvIdeal.sig) → Buf (Elt Ideal) ℓ) (g : Dev Cert.GradQkvIdeal.nD → PrngReg), Pre_GradQkvIdeal m →
    θ_run (Cert.GradQkvIdeal.defs (F := Ideal)) (onTc (τ := Cert.GradQkvIdeal.τ) (Cert.GradQkvIdeal.main (F := Ideal))) ⟨m, fun _ => 0, g⟩ (fun r => (∀ c : Dev Cert.GradQkvIdeal.nD,
      r.2.mem ((c.tc : Thread Cert.GradQkvIdeal.nD Cert.GradQkvIdeal.τ).loc Cert.GradQkvIdeal.main_arg0) = m ((c.tc : Thread Cert.GradQkvIdeal.nD Cert.GradQkvIdeal.τ).loc Cert.GradQkvIdeal.main_arg0)
      ∧ r.2.mem ((c.tc : Thread Cert.GradQkvIdeal.nD Cert.GradQkvIdeal.τ).loc Cert.GradQkvIdeal.main_arg1) = m ((c.tc : Thread Cert.GradQkvIdeal.nD Cert.GradQkvIdeal.τ).loc Cert.GradQkvIdeal.main_arg1))
      ∧ r.2.sem = fun _ => 0)

def quiescent_GradQkvReferenceIdeal [hGradQkvReferenceIdeal : Cert.GradQkvReferenceIdeal.Facts] : Prop :=
  ∀ (m : (ℓ : Loc Cert.GradQkvReferenceIdeal.nD Cert.GradQkvReferenceIdeal.τ Cert.GradQkvReferenceIdeal.sig) → Buf (Elt Ideal) ℓ) (g : Dev Cert.GradQkvReferenceIdeal.nD → PrngReg), Pre_GradQkvReferenceIdeal m →
    θ_run (Cert.GradQkvReferenceIdeal.defs (F := Ideal)) (onTc (τ := Cert.GradQkvReferenceIdeal.τ) (Cert.GradQkvReferenceIdeal.main (F := Ideal))) ⟨m, fun _ => 0, g⟩ (fun r => (∀ c : Dev Cert.GradQkvReferenceIdeal.nD,
      r.2.mem ((c.tc : Thread Cert.GradQkvReferenceIdeal.nD Cert.GradQkvReferenceIdeal.τ).loc Cert.GradQkvReferenceIdeal.main_arg0) = m ((c.tc : Thread Cert.GradQkvReferenceIdeal.nD Cert.GradQkvReferenceIdeal.τ).loc Cert.GradQkvReferenceIdeal.main_arg0)
      ∧ r.2.mem ((c.tc : Thread Cert.GradQkvReferenceIdeal.nD Cert.GradQkvReferenceIdeal.τ).loc Cert.GradQkvReferenceIdeal.main_arg1) = m ((c.tc : Thread Cert.GradQkvReferenceIdeal.nD Cert.GradQkvReferenceIdeal.τ).loc Cert.GradQkvReferenceIdeal.main_arg1))
      ∧ r.2.sem = fun _ => 0)

def quiescent_GradAux [hGradAux : Cert.GradAux.Facts] : Prop :=
  ∀ (m : (ℓ : Loc Cert.GradAux.nD Cert.GradAux.τ Cert.GradAux.sig) → Buf (Elt Bits) ℓ) (g : Dev Cert.GradAux.nD → PrngReg), Pre_GradAux m →
    θ_run (Cert.GradAux.defs (F := Bits)) (onTc (τ := Cert.GradAux.τ) (Cert.GradAux.main (F := Bits))) ⟨m, fun _ => 0, g⟩ (fun r => (∀ c : Dev Cert.GradAux.nD,
      r.2.mem ((c.tc : Thread Cert.GradAux.nD Cert.GradAux.τ).loc Cert.GradAux.main_arg0) = m ((c.tc : Thread Cert.GradAux.nD Cert.GradAux.τ).loc Cert.GradAux.main_arg0)
      ∧ r.2.mem ((c.tc : Thread Cert.GradAux.nD Cert.GradAux.τ).loc Cert.GradAux.main_arg1) = m ((c.tc : Thread Cert.GradAux.nD Cert.GradAux.τ).loc Cert.GradAux.main_arg1))
      ∧ r.2.sem = fun _ => 0)

def quiescent_GradAuxIdeal [hGradAuxIdeal : Cert.GradAuxIdeal.Facts] : Prop :=
  ∀ (m : (ℓ : Loc Cert.GradAuxIdeal.nD Cert.GradAuxIdeal.τ Cert.GradAuxIdeal.sig) → Buf (Elt Ideal) ℓ) (g : Dev Cert.GradAuxIdeal.nD → PrngReg), Pre_GradAuxIdeal m →
    θ_run (Cert.GradAuxIdeal.defs (F := Ideal)) (onTc (τ := Cert.GradAuxIdeal.τ) (Cert.GradAuxIdeal.main (F := Ideal))) ⟨m, fun _ => 0, g⟩ (fun r => (∀ c : Dev Cert.GradAuxIdeal.nD,
      r.2.mem ((c.tc : Thread Cert.GradAuxIdeal.nD Cert.GradAuxIdeal.τ).loc Cert.GradAuxIdeal.main_arg0) = m ((c.tc : Thread Cert.GradAuxIdeal.nD Cert.GradAuxIdeal.τ).loc Cert.GradAuxIdeal.main_arg0)
      ∧ r.2.mem ((c.tc : Thread Cert.GradAuxIdeal.nD Cert.GradAuxIdeal.τ).loc Cert.GradAuxIdeal.main_arg1) = m ((c.tc : Thread Cert.GradAuxIdeal.nD Cert.GradAuxIdeal.τ).loc Cert.GradAuxIdeal.main_arg1))
      ∧ r.2.sem = fun _ => 0)

def quiescent_GradAuxReferenceIdeal [hGradAuxReferenceIdeal : Cert.GradAuxReferenceIdeal.Facts] : Prop :=
  ∀ (m : (ℓ : Loc Cert.GradAuxReferenceIdeal.nD Cert.GradAuxReferenceIdeal.τ Cert.GradAuxReferenceIdeal.sig) → Buf (Elt Ideal) ℓ) (g : Dev Cert.GradAuxReferenceIdeal.nD → PrngReg), Pre_GradAuxReferenceIdeal m →
    θ_run (Cert.GradAuxReferenceIdeal.defs (F := Ideal)) (onTc (τ := Cert.GradAuxReferenceIdeal.τ) (Cert.GradAuxReferenceIdeal.main (F := Ideal))) ⟨m, fun _ => 0, g⟩ (fun r => (∀ c : Dev Cert.GradAuxReferenceIdeal.nD,
      r.2.mem ((c.tc : Thread Cert.GradAuxReferenceIdeal.nD Cert.GradAuxReferenceIdeal.τ).loc Cert.GradAuxReferenceIdeal.main_arg0) = m ((c.tc : Thread Cert.GradAuxReferenceIdeal.nD Cert.GradAuxReferenceIdeal.τ).loc Cert.GradAuxReferenceIdeal.main_arg0)
      ∧ r.2.mem ((c.tc : Thread Cert.GradAuxReferenceIdeal.nD Cert.GradAuxReferenceIdeal.τ).loc Cert.GradAuxReferenceIdeal.main_arg1) = m ((c.tc : Thread Cert.GradAuxReferenceIdeal.nD Cert.GradAuxReferenceIdeal.τ).loc Cert.GradAuxReferenceIdeal.main_arg1))
      ∧ r.2.sem = fun _ => 0)

def quiescent_PairSum [hPairSum : Cert.PairSum.Facts] : Prop :=
  ∀ (m : (ℓ : Loc Cert.PairSum.nD Cert.PairSum.τ Cert.PairSum.sig) → Buf (Elt Bits) ℓ) (g : Dev Cert.PairSum.nD → PrngReg), Pre_PairSum m →
    θ_run (Cert.PairSum.defs (F := Bits)) (onTc (τ := Cert.PairSum.τ) (Cert.PairSum.main (F := Bits))) ⟨m, fun _ => 0, g⟩ (fun r => (∀ c : Dev Cert.PairSum.nD,
      r.2.mem ((c.tc : Thread Cert.PairSum.nD Cert.PairSum.τ).loc Cert.PairSum.main_arg0) = m ((c.tc : Thread Cert.PairSum.nD Cert.PairSum.τ).loc Cert.PairSum.main_arg0)
      ∧ r.2.mem ((c.tc : Thread Cert.PairSum.nD Cert.PairSum.τ).loc Cert.PairSum.main_arg1) = m ((c.tc : Thread Cert.PairSum.nD Cert.PairSum.τ).loc Cert.PairSum.main_arg1))
      ∧ r.2.sem = fun _ => 0)

def quiescent_PairSumIdeal [hPairSumIdeal : Cert.PairSumIdeal.Facts] : Prop :=
  ∀ (m : (ℓ : Loc Cert.PairSumIdeal.nD Cert.PairSumIdeal.τ Cert.PairSumIdeal.sig) → Buf (Elt Ideal) ℓ) (g : Dev Cert.PairSumIdeal.nD → PrngReg), Pre_PairSumIdeal m →
    θ_run (Cert.PairSumIdeal.defs (F := Ideal)) (onTc (τ := Cert.PairSumIdeal.τ) (Cert.PairSumIdeal.main (F := Ideal))) ⟨m, fun _ => 0, g⟩ (fun r => (∀ c : Dev Cert.PairSumIdeal.nD,
      r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
      ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1))
      ∧ r.2.sem = fun _ => 0)

def quiescent_PairSumReferenceIdeal [hPairSumReferenceIdeal : Cert.PairSumReferenceIdeal.Facts] : Prop :=
  ∀ (m : (ℓ : Loc Cert.PairSumReferenceIdeal.nD Cert.PairSumReferenceIdeal.τ Cert.PairSumReferenceIdeal.sig) → Buf (Elt Ideal) ℓ) (g : Dev Cert.PairSumReferenceIdeal.nD → PrngReg), Pre_PairSumReferenceIdeal m →
    θ_run (Cert.PairSumReferenceIdeal.defs (F := Ideal)) (onTc (τ := Cert.PairSumReferenceIdeal.τ) (Cert.PairSumReferenceIdeal.main (F := Ideal))) ⟨m, fun _ => 0, g⟩ (fun r => (∀ c : Dev Cert.PairSumReferenceIdeal.nD,
      r.2.mem ((c.tc : Thread Cert.PairSumReferenceIdeal.nD Cert.PairSumReferenceIdeal.τ).loc Cert.PairSumReferenceIdeal.main_arg0) = m ((c.tc : Thread Cert.PairSumReferenceIdeal.nD Cert.PairSumReferenceIdeal.τ).loc Cert.PairSumReferenceIdeal.main_arg0)
      ∧ r.2.mem ((c.tc : Thread Cert.PairSumReferenceIdeal.nD Cert.PairSumReferenceIdeal.τ).loc Cert.PairSumReferenceIdeal.main_arg1) = m ((c.tc : Thread Cert.PairSumReferenceIdeal.nD Cert.PairSumReferenceIdeal.τ).loc Cert.PairSumReferenceIdeal.main_arg1))
      ∧ r.2.sem = fun _ => 0)

def quiescent_PairSumReference [hPairSumReference : Cert.PairSumReference.Facts] : Prop :=
  ∀ (m : (ℓ : Loc Cert.PairSumReference.nD Cert.PairSumReference.τ Cert.PairSumReference.sig) → Buf (Elt Bits) ℓ) (g : Dev Cert.PairSumReference.nD → PrngReg), Pre_PairSumReference m →
    θ_run (Cert.PairSumReference.defs (F := Bits)) (onTc (τ := Cert.PairSumReference.τ) (Cert.PairSumReference.main (F := Bits))) ⟨m, fun _ => 0, g⟩ (fun r => (∀ c : Dev Cert.PairSumReference.nD,
      r.2.mem ((c.tc : Thread Cert.PairSumReference.nD Cert.PairSumReference.τ).loc Cert.PairSumReference.main_arg0) = m ((c.tc : Thread Cert.PairSumReference.nD Cert.PairSumReference.τ).loc Cert.PairSumReference.main_arg0)
      ∧ r.2.mem ((c.tc : Thread Cert.PairSumReference.nD Cert.PairSumReference.τ).loc Cert.PairSumReference.main_arg1) = m ((c.tc : Thread Cert.PairSumReference.nD Cert.PairSumReference.τ).loc Cert.PairSumReference.main_arg1))
      ∧ r.2.sem = fun _ => 0)

def quiescent_ChipSum [hChipSum : Cert.ChipSum.Facts] : Prop :=
  ∀ (m : (ℓ : Loc Cert.ChipSum.nD Cert.ChipSum.τ Cert.ChipSum.sig) → Buf (Elt Bits) ℓ) (g : Dev Cert.ChipSum.nD → PrngReg), Pre_ChipSum m →
    θ_run (Cert.ChipSum.defs (F := Bits)) (onTc (τ := Cert.ChipSum.τ) (Cert.ChipSum.main (F := Bits))) ⟨m, fun _ => 0, g⟩ (fun r => (∀ c : Dev Cert.ChipSum.nD,
      r.2.mem ((c.tc : Thread Cert.ChipSum.nD Cert.ChipSum.τ).loc Cert.ChipSum.main_arg0) = m ((c.tc : Thread Cert.ChipSum.nD Cert.ChipSum.τ).loc Cert.ChipSum.main_arg0)
      ∧ r.2.mem ((c.tc : Thread Cert.ChipSum.nD Cert.ChipSum.τ).loc Cert.ChipSum.main_arg1) = m ((c.tc : Thread Cert.ChipSum.nD Cert.ChipSum.τ).loc Cert.ChipSum.main_arg1)
      ∧ r.2.mem ((c.tc : Thread Cert.ChipSum.nD Cert.ChipSum.τ).loc Cert.ChipSum.main_arg2) = m ((c.tc : Thread Cert.ChipSum.nD Cert.ChipSum.τ).loc Cert.ChipSum.main_arg2)
      ∧ r.2.mem ((c.tc : Thread Cert.ChipSum.nD Cert.ChipSum.τ).loc Cert.ChipSum.main_arg3) = m ((c.tc : Thread Cert.ChipSum.nD Cert.ChipSum.τ).loc Cert.ChipSum.main_arg3))
      ∧ r.2.sem = fun _ => 0)

def quiescent_ChipSumIdeal [hChipSumIdeal : Cert.ChipSumIdeal.Facts] : Prop :=
  ∀ (m : (ℓ : Loc Cert.ChipSumIdeal.nD Cert.ChipSumIdeal.τ Cert.ChipSumIdeal.sig) → Buf (Elt Ideal) ℓ) (g : Dev Cert.ChipSumIdeal.nD → PrngReg), Pre_ChipSumIdeal m →
    θ_run (Cert.ChipSumIdeal.defs (F := Ideal)) (onTc (τ := Cert.ChipSumIdeal.τ) (Cert.ChipSumIdeal.main (F := Ideal))) ⟨m, fun _ => 0, g⟩ (fun r => (∀ c : Dev Cert.ChipSumIdeal.nD,
      r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0)
      ∧ r.2.mem ((c.tc : Thread Cert.ChipSumIdeal.nD Cert.ChipSumIdeal.τ).loc Cert.ChipSumIdeal.main_arg1) = m ((c.tc : Thread Cert.ChipSumIdeal.nD Cert.ChipSumIdeal.τ).loc Cert.ChipSumIdeal.main_arg1)
      ∧ r.2.mem ((c.tc : Thread Cert.ChipSumIdeal.nD Cert.ChipSumIdeal.τ).loc Cert.ChipSumIdeal.main_arg2) = m ((c.tc : Thread Cert.ChipSumIdeal.nD Cert.ChipSumIdeal.τ).loc Cert.ChipSumIdeal.main_arg2)
      ∧ r.2.mem ((c.tc : Thread Cert.ChipSumIdeal.nD Cert.ChipSumIdeal.τ).loc Cert.ChipSumIdeal.main_arg3) = m ((c.tc : Thread Cert.ChipSumIdeal.nD Cert.ChipSumIdeal.τ).loc Cert.ChipSumIdeal.main_arg3))
      ∧ r.2.sem = fun _ => 0)

def quiescent_ChipSumReferenceIdeal [hChipSumReferenceIdeal : Cert.ChipSumReferenceIdeal.Facts] : Prop :=
  ∀ (m : (ℓ : Loc Cert.ChipSumReferenceIdeal.nD Cert.ChipSumReferenceIdeal.τ Cert.ChipSumReferenceIdeal.sig) → Buf (Elt Ideal) ℓ) (g : Dev Cert.ChipSumReferenceIdeal.nD → PrngReg), Pre_ChipSumReferenceIdeal m →
    θ_run (Cert.ChipSumReferenceIdeal.defs (F := Ideal)) (onTc (τ := Cert.ChipSumReferenceIdeal.τ) (Cert.ChipSumReferenceIdeal.main (F := Ideal))) ⟨m, fun _ => 0, g⟩ (fun r => (∀ c : Dev Cert.ChipSumReferenceIdeal.nD,
      r.2.mem ((c.tc : Thread Cert.ChipSumReferenceIdeal.nD Cert.ChipSumReferenceIdeal.τ).loc Cert.ChipSumReferenceIdeal.main_arg0) = m ((c.tc : Thread Cert.ChipSumReferenceIdeal.nD Cert.ChipSumReferenceIdeal.τ).loc Cert.ChipSumReferenceIdeal.main_arg0)
      ∧ r.2.mem ((c.tc : Thread Cert.ChipSumReferenceIdeal.nD Cert.ChipSumReferenceIdeal.τ).loc Cert.ChipSumReferenceIdeal.main_arg1) = m ((c.tc : Thread Cert.ChipSumReferenceIdeal.nD Cert.ChipSumReferenceIdeal.τ).loc Cert.ChipSumReferenceIdeal.main_arg1)
      ∧ r.2.mem ((c.tc : Thread Cert.ChipSumReferenceIdeal.nD Cert.ChipSumReferenceIdeal.τ).loc Cert.ChipSumReferenceIdeal.main_arg2) = m ((c.tc : Thread Cert.ChipSumReferenceIdeal.nD Cert.ChipSumReferenceIdeal.τ).loc Cert.ChipSumReferenceIdeal.main_arg2)
      ∧ r.2.mem ((c.tc : Thread Cert.ChipSumReferenceIdeal.nD Cert.ChipSumReferenceIdeal.τ).loc Cert.ChipSumReferenceIdeal.main_arg3) = m ((c.tc : Thread Cert.ChipSumReferenceIdeal.nD Cert.ChipSumReferenceIdeal.τ).loc Cert.ChipSumReferenceIdeal.main_arg3))
      ∧ r.2.sem = fun _ => 0)

def quiescent_ChipSumReference [hChipSumReference : Cert.ChipSumReference.Facts] : Prop :=
  ∀ (m : (ℓ : Loc Cert.ChipSumReference.nD Cert.ChipSumReference.τ Cert.ChipSumReference.sig) → Buf (Elt Bits) ℓ) (g : Dev Cert.ChipSumReference.nD → PrngReg), Pre_ChipSumReference m →
    θ_run (Cert.ChipSumReference.defs (F := Bits)) (onTc (τ := Cert.ChipSumReference.τ) (Cert.ChipSumReference.main (F := Bits))) ⟨m, fun _ => 0, g⟩ (fun r => (∀ c : Dev Cert.ChipSumReference.nD,
      r.2.mem ((c.tc : Thread Cert.ChipSumReference.nD Cert.ChipSumReference.τ).loc Cert.ChipSumReference.main_arg0) = m ((c.tc : Thread Cert.ChipSumReference.nD Cert.ChipSumReference.τ).loc Cert.ChipSumReference.main_arg0)
      ∧ r.2.mem ((c.tc : Thread Cert.ChipSumReference.nD Cert.ChipSumReference.τ).loc Cert.ChipSumReference.main_arg1) = m ((c.tc : Thread Cert.ChipSumReference.nD Cert.ChipSumReference.τ).loc Cert.ChipSumReference.main_arg1)
      ∧ r.2.mem ((c.tc : Thread Cert.ChipSumReference.nD Cert.ChipSumReference.τ).loc Cert.ChipSumReference.main_arg2) = m ((c.tc : Thread Cert.ChipSumReference.nD Cert.ChipSumReference.τ).loc Cert.ChipSumReference.main_arg2)
      ∧ r.2.mem ((c.tc : Thread Cert.ChipSumReference.nD Cert.ChipSumReference.τ).loc Cert.ChipSumReference.main_arg3) = m ((c.tc : Thread Cert.ChipSumReference.nD Cert.ChipSumReference.τ).loc Cert.ChipSumReference.main_arg3))
      ∧ r.2.sem = fun _ => 0)

def quiescent_NormMix [hNormMix : Cert.NormMix.Facts] : Prop :=
  ∀ (m : (ℓ : Loc Cert.NormMix.nD Cert.NormMix.τ Cert.NormMix.sig) → Buf (Elt Bits) ℓ) (g : Dev Cert.NormMix.nD → PrngReg), Pre_NormMix m →
    θ_run (Cert.NormMix.defs (F := Bits)) (onTc (τ := Cert.NormMix.τ) (Cert.NormMix.main (F := Bits))) ⟨m, fun _ => 0, g⟩ (fun r => (∀ c : Dev Cert.NormMix.nD,
      r.2.mem ((c.tc : Thread Cert.NormMix.nD Cert.NormMix.τ).loc Cert.NormMix.main_arg0) = m ((c.tc : Thread Cert.NormMix.nD Cert.NormMix.τ).loc Cert.NormMix.main_arg0)
      ∧ r.2.mem ((c.tc : Thread Cert.NormMix.nD Cert.NormMix.τ).loc Cert.NormMix.main_arg1) = m ((c.tc : Thread Cert.NormMix.nD Cert.NormMix.τ).loc Cert.NormMix.main_arg1))
      ∧ r.2.sem = fun _ => 0)

def quiescent_NormMixIdeal [hNormMixIdeal : Cert.NormMixIdeal.Facts] : Prop :=
  ∀ (m : (ℓ : Loc Cert.NormMixIdeal.nD Cert.NormMixIdeal.τ Cert.NormMixIdeal.sig) → Buf (Elt Ideal) ℓ) (g : Dev Cert.NormMixIdeal.nD → PrngReg), Pre_NormMixIdeal m →
    θ_run (Cert.NormMixIdeal.defs (F := Ideal)) (onTc (τ := Cert.NormMixIdeal.τ) (Cert.NormMixIdeal.main (F := Ideal))) ⟨m, fun _ => 0, g⟩ (fun r => (∀ c : Dev Cert.NormMixIdeal.nD,
      r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
      ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1))
      ∧ r.2.sem = fun _ => 0)

def quiescent_NormMixReferenceIdeal [hNormMixReferenceIdeal : Cert.NormMixReferenceIdeal.Facts] : Prop :=
  ∀ (m : (ℓ : Loc Cert.NormMixReferenceIdeal.nD Cert.NormMixReferenceIdeal.τ Cert.NormMixReferenceIdeal.sig) → Buf (Elt Ideal) ℓ) (g : Dev Cert.NormMixReferenceIdeal.nD → PrngReg), Pre_NormMixReferenceIdeal m →
    θ_run (Cert.NormMixReferenceIdeal.defs (F := Ideal)) (onTc (τ := Cert.NormMixReferenceIdeal.τ) (Cert.NormMixReferenceIdeal.main (F := Ideal))) ⟨m, fun _ => 0, g⟩ (fun r => (∀ c : Dev Cert.NormMixReferenceIdeal.nD,
      r.2.mem ((c.tc : Thread Cert.NormMixReferenceIdeal.nD Cert.NormMixReferenceIdeal.τ).loc Cert.NormMixReferenceIdeal.main_arg0) = m ((c.tc : Thread Cert.NormMixReferenceIdeal.nD Cert.NormMixReferenceIdeal.τ).loc Cert.NormMixReferenceIdeal.main_arg0)
      ∧ r.2.mem ((c.tc : Thread Cert.NormMixReferenceIdeal.nD Cert.NormMixReferenceIdeal.τ).loc Cert.NormMixReferenceIdeal.main_arg1) = m ((c.tc : Thread Cert.NormMixReferenceIdeal.nD Cert.NormMixReferenceIdeal.τ).loc Cert.NormMixReferenceIdeal.main_arg1))
      ∧ r.2.sem = fun _ => 0)

def quiescent_NormMem [hNormMem : Cert.NormMem.Facts] : Prop :=
  ∀ (m : (ℓ : Loc Cert.NormMem.nD Cert.NormMem.τ Cert.NormMem.sig) → Buf (Elt Bits) ℓ) (g : Dev Cert.NormMem.nD → PrngReg), Pre_NormMem m →
    θ_run (Cert.NormMem.defs (F := Bits)) (onTc (τ := Cert.NormMem.τ) (Cert.NormMem.main (F := Bits))) ⟨m, fun _ => 0, g⟩ (fun r => (∀ c : Dev Cert.NormMem.nD,
      r.2.mem ((c.tc : Thread Cert.NormMem.nD Cert.NormMem.τ).loc Cert.NormMem.main_arg0) = m ((c.tc : Thread Cert.NormMem.nD Cert.NormMem.τ).loc Cert.NormMem.main_arg0)
      ∧ r.2.mem ((c.tc : Thread Cert.NormMem.nD Cert.NormMem.τ).loc Cert.NormMem.main_arg1) = m ((c.tc : Thread Cert.NormMem.nD Cert.NormMem.τ).loc Cert.NormMem.main_arg1))
      ∧ r.2.sem = fun _ => 0)

def quiescent_NormMemIdeal [hNormMemIdeal : Cert.NormMemIdeal.Facts] : Prop :=
  ∀ (m : (ℓ : Loc Cert.NormMemIdeal.nD Cert.NormMemIdeal.τ Cert.NormMemIdeal.sig) → Buf (Elt Ideal) ℓ) (g : Dev Cert.NormMemIdeal.nD → PrngReg), Pre_NormMemIdeal m →
    θ_run (Cert.NormMemIdeal.defs (F := Ideal)) (onTc (τ := Cert.NormMemIdeal.τ) (Cert.NormMemIdeal.main (F := Ideal))) ⟨m, fun _ => 0, g⟩ (fun r => (∀ c : Dev Cert.NormMemIdeal.nD,
      r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
      ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1))
      ∧ r.2.sem = fun _ => 0)

def quiescent_NormMemReferenceIdeal [hNormMemReferenceIdeal : Cert.NormMemReferenceIdeal.Facts] : Prop :=
  ∀ (m : (ℓ : Loc Cert.NormMemReferenceIdeal.nD Cert.NormMemReferenceIdeal.τ Cert.NormMemReferenceIdeal.sig) → Buf (Elt Ideal) ℓ) (g : Dev Cert.NormMemReferenceIdeal.nD → PrngReg), Pre_NormMemReferenceIdeal m →
    θ_run (Cert.NormMemReferenceIdeal.defs (F := Ideal)) (onTc (τ := Cert.NormMemReferenceIdeal.τ) (Cert.NormMemReferenceIdeal.main (F := Ideal))) ⟨m, fun _ => 0, g⟩ (fun r => (∀ c : Dev Cert.NormMemReferenceIdeal.nD,
      r.2.mem ((c.tc : Thread Cert.NormMemReferenceIdeal.nD Cert.NormMemReferenceIdeal.τ).loc Cert.NormMemReferenceIdeal.main_arg0) = m ((c.tc : Thread Cert.NormMemReferenceIdeal.nD Cert.NormMemReferenceIdeal.τ).loc Cert.NormMemReferenceIdeal.main_arg0)
      ∧ r.2.mem ((c.tc : Thread Cert.NormMemReferenceIdeal.nD Cert.NormMemReferenceIdeal.τ).loc Cert.NormMemReferenceIdeal.main_arg1) = m ((c.tc : Thread Cert.NormMemReferenceIdeal.nD Cert.NormMemReferenceIdeal.τ).loc Cert.NormMemReferenceIdeal.main_arg1))
      ∧ r.2.sem = fun _ => 0)

def quiescent_Band0 [hBand0 : Cert.Band0.Facts] : Prop :=
  ∀ (m : (ℓ : Loc Cert.Band0.nD Cert.Band0.τ Cert.Band0.sig) → Buf (Elt Bits) ℓ) (g : Dev Cert.Band0.nD → PrngReg), Pre_Band0 m →
    θ_run (Cert.Band0.defs (F := Bits)) (onTc (τ := Cert.Band0.τ) (Cert.Band0.main (F := Bits))) ⟨m, fun _ => 0, g⟩ (fun r => (∀ c : Dev Cert.Band0.nD,
      r.2.mem ((c.tc : Thread Cert.Band0.nD Cert.Band0.τ).loc Cert.Band0.main_arg0) = m ((c.tc : Thread Cert.Band0.nD Cert.Band0.τ).loc Cert.Band0.main_arg0)
      ∧ r.2.mem ((c.tc : Thread Cert.Band0.nD Cert.Band0.τ).loc Cert.Band0.main_arg1) = m ((c.tc : Thread Cert.Band0.nD Cert.Band0.τ).loc Cert.Band0.main_arg1))
      ∧ r.2.sem = fun _ => 0)

def quiescent_Band0Ideal [hBand0Ideal : Cert.Band0Ideal.Facts] : Prop :=
  ∀ (m : (ℓ : Loc Cert.Band0Ideal.nD Cert.Band0Ideal.τ Cert.Band0Ideal.sig) → Buf (Elt Ideal) ℓ) (g : Dev Cert.Band0Ideal.nD → PrngReg), Pre_Band0Ideal m →
    θ_run (Cert.Band0Ideal.defs (F := Ideal)) (onTc (τ := Cert.Band0Ideal.τ) (Cert.Band0Ideal.main (F := Ideal))) ⟨m, fun _ => 0, g⟩ (fun r => (∀ c : Dev Cert.Band0Ideal.nD,
      r.2.mem ((c.tc : Thread Cert.Band0Ideal.nD Cert.Band0Ideal.τ).loc Cert.Band0Ideal.main_arg0) = m ((c.tc : Thread Cert.Band0Ideal.nD Cert.Band0Ideal.τ).loc Cert.Band0Ideal.main_arg0)
      ∧ r.2.mem ((c.tc : Thread Cert.Band0Ideal.nD Cert.Band0Ideal.τ).loc Cert.Band0Ideal.main_arg1) = m ((c.tc : Thread Cert.Band0Ideal.nD Cert.Band0Ideal.τ).loc Cert.Band0Ideal.main_arg1))
      ∧ r.2.sem = fun _ => 0)

def quiescent_Band0ReferenceIdeal [hBand0ReferenceIdeal : Cert.Band0ReferenceIdeal.Facts] : Prop :=
  ∀ (m : (ℓ : Loc Cert.Band0ReferenceIdeal.nD Cert.Band0ReferenceIdeal.τ Cert.Band0ReferenceIdeal.sig) → Buf (Elt Ideal) ℓ) (g : Dev Cert.Band0ReferenceIdeal.nD → PrngReg), Pre_Band0ReferenceIdeal m →
    θ_run (Cert.Band0ReferenceIdeal.defs (F := Ideal)) (onTc (τ := Cert.Band0ReferenceIdeal.τ) (Cert.Band0ReferenceIdeal.main (F := Ideal))) ⟨m, fun _ => 0, g⟩ (fun r => (∀ c : Dev Cert.Band0ReferenceIdeal.nD,
      r.2.mem ((c.tc : Thread Cert.Band0ReferenceIdeal.nD Cert.Band0ReferenceIdeal.τ).loc Cert.Band0ReferenceIdeal.main_arg0) = m ((c.tc : Thread Cert.Band0ReferenceIdeal.nD Cert.Band0ReferenceIdeal.τ).loc Cert.Band0ReferenceIdeal.main_arg0)
      ∧ r.2.mem ((c.tc : Thread Cert.Band0ReferenceIdeal.nD Cert.Band0ReferenceIdeal.τ).loc Cert.Band0ReferenceIdeal.main_arg1) = m ((c.tc : Thread Cert.Band0ReferenceIdeal.nD Cert.Band0ReferenceIdeal.τ).loc Cert.Band0ReferenceIdeal.main_arg1))
      ∧ r.2.sem = fun _ => 0)

def quiescent_DqkvSum [hDqkvSum : Cert.DqkvSum.Facts] : Prop :=
  ∀ (m : (ℓ : Loc Cert.DqkvSum.nD Cert.DqkvSum.τ Cert.DqkvSum.sig) → Buf (Elt Bits) ℓ) (g : Dev Cert.DqkvSum.nD → PrngReg), Pre_DqkvSum m →
    θ_run (Cert.DqkvSum.defs (F := Bits)) (onTc (τ := Cert.DqkvSum.τ) (Cert.DqkvSum.main (F := Bits))) ⟨m, fun _ => 0, g⟩ (fun r => (∀ c : Dev Cert.DqkvSum.nD,
      r.2.mem ((c.tc : Thread Cert.DqkvSum.nD Cert.DqkvSum.τ).loc Cert.DqkvSum.main_arg0) = m ((c.tc : Thread Cert.DqkvSum.nD Cert.DqkvSum.τ).loc Cert.DqkvSum.main_arg0)
      ∧ r.2.mem ((c.tc : Thread Cert.DqkvSum.nD Cert.DqkvSum.τ).loc Cert.DqkvSum.main_arg1) = m ((c.tc : Thread Cert.DqkvSum.nD Cert.DqkvSum.τ).loc Cert.DqkvSum.main_arg1)
      ∧ r.2.mem ((c.tc : Thread Cert.DqkvSum.nD Cert.DqkvSum.τ).loc Cert.DqkvSum.main_arg2) = m ((c.tc : Thread Cert.DqkvSum.nD Cert.DqkvSum.τ).loc Cert.DqkvSum.main_arg2))
      ∧ r.2.sem = fun _ => 0)

def quiescent_DqkvSumIdeal [hDqkvSumIdeal : Cert.DqkvSumIdeal.Facts] : Prop :=
  ∀ (m : (ℓ : Loc Cert.DqkvSumIdeal.nD Cert.DqkvSumIdeal.τ Cert.DqkvSumIdeal.sig) → Buf (Elt Ideal) ℓ) (g : Dev Cert.DqkvSumIdeal.nD → PrngReg), Pre_DqkvSumIdeal m →
    θ_run (Cert.DqkvSumIdeal.defs (F := Ideal)) (onTc (τ := Cert.DqkvSumIdeal.τ) (Cert.DqkvSumIdeal.main (F := Ideal))) ⟨m, fun _ => 0, g⟩ (fun r => (∀ c : Dev Cert.DqkvSumIdeal.nD,
      r.2.mem ((c.tc : Thread Cert.DqkvSumIdeal.nD Cert.DqkvSumIdeal.τ).loc Cert.DqkvSumIdeal.main_arg0) = m ((c.tc : Thread Cert.DqkvSumIdeal.nD Cert.DqkvSumIdeal.τ).loc Cert.DqkvSumIdeal.main_arg0)
      ∧ r.2.mem ((c.tc : Thread Cert.DqkvSumIdeal.nD Cert.DqkvSumIdeal.τ).loc Cert.DqkvSumIdeal.main_arg1) = m ((c.tc : Thread Cert.DqkvSumIdeal.nD Cert.DqkvSumIdeal.τ).loc Cert.DqkvSumIdeal.main_arg1)
      ∧ r.2.mem ((c.tc : Thread Cert.DqkvSumIdeal.nD Cert.DqkvSumIdeal.τ).loc Cert.DqkvSumIdeal.main_arg2) = m ((c.tc : Thread Cert.DqkvSumIdeal.nD Cert.DqkvSumIdeal.τ).loc Cert.DqkvSumIdeal.main_arg2))
      ∧ r.2.sem = fun _ => 0)

def quiescent_DqkvSumReferenceIdeal [hDqkvSumReferenceIdeal : Cert.DqkvSumReferenceIdeal.Facts] : Prop :=
  ∀ (m : (ℓ : Loc Cert.DqkvSumReferenceIdeal.nD Cert.DqkvSumReferenceIdeal.τ Cert.DqkvSumReferenceIdeal.sig) → Buf (Elt Ideal) ℓ) (g : Dev Cert.DqkvSumReferenceIdeal.nD → PrngReg), Pre_DqkvSumReferenceIdeal m →
    θ_run (Cert.DqkvSumReferenceIdeal.defs (F := Ideal)) (onTc (τ := Cert.DqkvSumReferenceIdeal.τ) (Cert.DqkvSumReferenceIdeal.main (F := Ideal))) ⟨m, fun _ => 0, g⟩ (fun r => (∀ c : Dev Cert.DqkvSumReferenceIdeal.nD,
      r.2.mem ((c.tc : Thread Cert.DqkvSumReferenceIdeal.nD Cert.DqkvSumReferenceIdeal.τ).loc Cert.DqkvSumReferenceIdeal.main_arg0) = m ((c.tc : Thread Cert.DqkvSumReferenceIdeal.nD Cert.DqkvSumReferenceIdeal.τ).loc Cert.DqkvSumReferenceIdeal.main_arg0)
      ∧ r.2.mem ((c.tc : Thread Cert.DqkvSumReferenceIdeal.nD Cert.DqkvSumReferenceIdeal.τ).loc Cert.DqkvSumReferenceIdeal.main_arg1) = m ((c.tc : Thread Cert.DqkvSumReferenceIdeal.nD Cert.DqkvSumReferenceIdeal.τ).loc Cert.DqkvSumReferenceIdeal.main_arg1)
      ∧ r.2.mem ((c.tc : Thread Cert.DqkvSumReferenceIdeal.nD Cert.DqkvSumReferenceIdeal.τ).loc Cert.DqkvSumReferenceIdeal.main_arg2) = m ((c.tc : Thread Cert.DqkvSumReferenceIdeal.nD Cert.DqkvSumReferenceIdeal.τ).loc Cert.DqkvSumReferenceIdeal.main_arg2))
      ∧ r.2.sem = fun _ => 0)

def quiescent_CumSum [hCumSum : Cert.CumSum.Facts] : Prop :=
  ∀ (m : (ℓ : Loc Cert.CumSum.nD Cert.CumSum.τ Cert.CumSum.sig) → Buf (Elt Bits) ℓ) (g : Dev Cert.CumSum.nD → PrngReg), Pre_CumSum m →
    θ_run (Cert.CumSum.defs (F := Bits)) (onTc (τ := Cert.CumSum.τ) (Cert.CumSum.main (F := Bits))) ⟨m, fun _ => 0, g⟩ (fun r => (∀ c : Dev Cert.CumSum.nD,
      r.2.mem ((c.tc : Thread Cert.CumSum.nD Cert.CumSum.τ).loc Cert.CumSum.main_arg0) = m ((c.tc : Thread Cert.CumSum.nD Cert.CumSum.τ).loc Cert.CumSum.main_arg0)
      ∧ r.2.mem ((c.tc : Thread Cert.CumSum.nD Cert.CumSum.τ).loc Cert.CumSum.main_arg1) = m ((c.tc : Thread Cert.CumSum.nD Cert.CumSum.τ).loc Cert.CumSum.main_arg1))
      ∧ r.2.sem = fun _ => 0)

def quiescent_CumSumIdeal [hCumSumIdeal : Cert.CumSumIdeal.Facts] : Prop :=
  ∀ (m : (ℓ : Loc Cert.CumSumIdeal.nD Cert.CumSumIdeal.τ Cert.CumSumIdeal.sig) → Buf (Elt Ideal) ℓ) (g : Dev Cert.CumSumIdeal.nD → PrngReg), Pre_CumSumIdeal m →
    θ_run (Cert.CumSumIdeal.defs (F := Ideal)) (onTc (τ := Cert.CumSumIdeal.τ) (Cert.CumSumIdeal.main (F := Ideal))) ⟨m, fun _ => 0, g⟩ (fun r => (∀ c : Dev Cert.CumSumIdeal.nD,
      r.2.mem ((c.tc : Thread Cert.CumSumIdeal.nD Cert.CumSumIdeal.τ).loc Cert.CumSumIdeal.main_arg0) = m ((c.tc : Thread Cert.CumSumIdeal.nD Cert.CumSumIdeal.τ).loc Cert.CumSumIdeal.main_arg0)
      ∧ r.2.mem ((c.tc : Thread Cert.CumSumIdeal.nD Cert.CumSumIdeal.τ).loc Cert.CumSumIdeal.main_arg1) = m ((c.tc : Thread Cert.CumSumIdeal.nD Cert.CumSumIdeal.τ).loc Cert.CumSumIdeal.main_arg1))
      ∧ r.2.sem = fun _ => 0)

def quiescent_CumSumReferenceIdeal [hCumSumReferenceIdeal : Cert.CumSumReferenceIdeal.Facts] : Prop :=
  ∀ (m : (ℓ : Loc Cert.CumSumReferenceIdeal.nD Cert.CumSumReferenceIdeal.τ Cert.CumSumReferenceIdeal.sig) → Buf (Elt Ideal) ℓ) (g : Dev Cert.CumSumReferenceIdeal.nD → PrngReg), Pre_CumSumReferenceIdeal m →
    θ_run (Cert.CumSumReferenceIdeal.defs (F := Ideal)) (onTc (τ := Cert.CumSumReferenceIdeal.τ) (Cert.CumSumReferenceIdeal.main (F := Ideal))) ⟨m, fun _ => 0, g⟩ (fun r => (∀ c : Dev Cert.CumSumReferenceIdeal.nD,
      r.2.mem ((c.tc : Thread Cert.CumSumReferenceIdeal.nD Cert.CumSumReferenceIdeal.τ).loc Cert.CumSumReferenceIdeal.main_arg0) = m ((c.tc : Thread Cert.CumSumReferenceIdeal.nD Cert.CumSumReferenceIdeal.τ).loc Cert.CumSumReferenceIdeal.main_arg0)
      ∧ r.2.mem ((c.tc : Thread Cert.CumSumReferenceIdeal.nD Cert.CumSumReferenceIdeal.τ).loc Cert.CumSumReferenceIdeal.main_arg1) = m ((c.tc : Thread Cert.CumSumReferenceIdeal.nD Cert.CumSumReferenceIdeal.τ).loc Cert.CumSumReferenceIdeal.main_arg1))
      ∧ r.2.sem = fun _ => 0)

def quiescent_BandSum [hBandSum : Cert.BandSum.Facts] : Prop :=
  ∀ (m : (ℓ : Loc Cert.BandSum.nD Cert.BandSum.τ Cert.BandSum.sig) → Buf (Elt Bits) ℓ) (g : Dev Cert.BandSum.nD → PrngReg), Pre_BandSum m →
    θ_run (Cert.BandSum.defs (F := Bits)) (onTc (τ := Cert.BandSum.τ) (Cert.BandSum.main (F := Bits))) ⟨m, fun _ => 0, g⟩ (fun r => (∀ c : Dev Cert.BandSum.nD,
      r.2.mem ((c.tc : Thread Cert.BandSum.nD Cert.BandSum.τ).loc Cert.BandSum.main_arg0) = m ((c.tc : Thread Cert.BandSum.nD Cert.BandSum.τ).loc Cert.BandSum.main_arg0)
      ∧ r.2.mem ((c.tc : Thread Cert.BandSum.nD Cert.BandSum.τ).loc Cert.BandSum.main_arg1) = m ((c.tc : Thread Cert.BandSum.nD Cert.BandSum.τ).loc Cert.BandSum.main_arg1))
      ∧ r.2.sem = fun _ => 0)

def quiescent_BandSumIdeal [hBandSumIdeal : Cert.BandSumIdeal.Facts] : Prop :=
  ∀ (m : (ℓ : Loc Cert.BandSumIdeal.nD Cert.BandSumIdeal.τ Cert.BandSumIdeal.sig) → Buf (Elt Ideal) ℓ) (g : Dev Cert.BandSumIdeal.nD → PrngReg), Pre_BandSumIdeal m →
    θ_run (Cert.BandSumIdeal.defs (F := Ideal)) (onTc (τ := Cert.BandSumIdeal.τ) (Cert.BandSumIdeal.main (F := Ideal))) ⟨m, fun _ => 0, g⟩ (fun r => (∀ c : Dev Cert.BandSumIdeal.nD,
      r.2.mem ((c.tc : Thread Cert.BandSumIdeal.nD Cert.BandSumIdeal.τ).loc Cert.BandSumIdeal.main_arg0) = m ((c.tc : Thread Cert.BandSumIdeal.nD Cert.BandSumIdeal.τ).loc Cert.BandSumIdeal.main_arg0)
      ∧ r.2.mem ((c.tc : Thread Cert.BandSumIdeal.nD Cert.BandSumIdeal.τ).loc Cert.BandSumIdeal.main_arg1) = m ((c.tc : Thread Cert.BandSumIdeal.nD Cert.BandSumIdeal.τ).loc Cert.BandSumIdeal.main_arg1))
      ∧ r.2.sem = fun _ => 0)

def quiescent_BandSumReferenceIdeal [hBandSumReferenceIdeal : Cert.BandSumReferenceIdeal.Facts] : Prop :=
  ∀ (m : (ℓ : Loc Cert.BandSumReferenceIdeal.nD Cert.BandSumReferenceIdeal.τ Cert.BandSumReferenceIdeal.sig) → Buf (Elt Ideal) ℓ) (g : Dev Cert.BandSumReferenceIdeal.nD → PrngReg), Pre_BandSumReferenceIdeal m →
    θ_run (Cert.BandSumReferenceIdeal.defs (F := Ideal)) (onTc (τ := Cert.BandSumReferenceIdeal.τ) (Cert.BandSumReferenceIdeal.main (F := Ideal))) ⟨m, fun _ => 0, g⟩ (fun r => (∀ c : Dev Cert.BandSumReferenceIdeal.nD,
      r.2.mem ((c.tc : Thread Cert.BandSumReferenceIdeal.nD Cert.BandSumReferenceIdeal.τ).loc Cert.BandSumReferenceIdeal.main_arg0) = m ((c.tc : Thread Cert.BandSumReferenceIdeal.nD Cert.BandSumReferenceIdeal.τ).loc Cert.BandSumReferenceIdeal.main_arg0)
      ∧ r.2.mem ((c.tc : Thread Cert.BandSumReferenceIdeal.nD Cert.BandSumReferenceIdeal.τ).loc Cert.BandSumReferenceIdeal.main_arg1) = m ((c.tc : Thread Cert.BandSumReferenceIdeal.nD Cert.BandSumReferenceIdeal.τ).loc Cert.BandSumReferenceIdeal.main_arg1))
      ∧ r.2.sem = fun _ => 0)

def quiescent_ShiftAdd [hShiftAdd : Cert.ShiftAdd.Facts] : Prop :=
  ∀ (m : (ℓ : Loc Cert.ShiftAdd.nD Cert.ShiftAdd.τ Cert.ShiftAdd.sig) → Buf (Elt Bits) ℓ) (g : Dev Cert.ShiftAdd.nD → PrngReg), Pre_ShiftAdd m →
    θ_run (Cert.ShiftAdd.defs (F := Bits)) (onTc (τ := Cert.ShiftAdd.τ) (Cert.ShiftAdd.main (F := Bits))) ⟨m, fun _ => 0, g⟩ (fun r => (∀ c : Dev Cert.ShiftAdd.nD,
      r.2.mem ((c.tc : Thread Cert.ShiftAdd.nD Cert.ShiftAdd.τ).loc Cert.ShiftAdd.main_arg0) = m ((c.tc : Thread Cert.ShiftAdd.nD Cert.ShiftAdd.τ).loc Cert.ShiftAdd.main_arg0)
      ∧ r.2.mem ((c.tc : Thread Cert.ShiftAdd.nD Cert.ShiftAdd.τ).loc Cert.ShiftAdd.main_arg1) = m ((c.tc : Thread Cert.ShiftAdd.nD Cert.ShiftAdd.τ).loc Cert.ShiftAdd.main_arg1))
      ∧ r.2.sem = fun _ => 0)

def quiescent_ShiftAddIdeal [hShiftAddIdeal : Cert.ShiftAddIdeal.Facts] : Prop :=
  ∀ (m : (ℓ : Loc Cert.ShiftAddIdeal.nD Cert.ShiftAddIdeal.τ Cert.ShiftAddIdeal.sig) → Buf (Elt Ideal) ℓ) (g : Dev Cert.ShiftAddIdeal.nD → PrngReg), Pre_ShiftAddIdeal m →
    θ_run (Cert.ShiftAddIdeal.defs (F := Ideal)) (onTc (τ := Cert.ShiftAddIdeal.τ) (Cert.ShiftAddIdeal.main (F := Ideal))) ⟨m, fun _ => 0, g⟩ (fun r => (∀ c : Dev Cert.ShiftAddIdeal.nD,
      r.2.mem ((c.tc : Thread Cert.ShiftAddIdeal.nD Cert.ShiftAddIdeal.τ).loc Cert.ShiftAddIdeal.main_arg0) = m ((c.tc : Thread Cert.ShiftAddIdeal.nD Cert.ShiftAddIdeal.τ).loc Cert.ShiftAddIdeal.main_arg0)
      ∧ r.2.mem ((c.tc : Thread Cert.ShiftAddIdeal.nD Cert.ShiftAddIdeal.τ).loc Cert.ShiftAddIdeal.main_arg1) = m ((c.tc : Thread Cert.ShiftAddIdeal.nD Cert.ShiftAddIdeal.τ).loc Cert.ShiftAddIdeal.main_arg1))
      ∧ r.2.sem = fun _ => 0)

def quiescent_ShiftAddReferenceIdeal [hShiftAddReferenceIdeal : Cert.ShiftAddReferenceIdeal.Facts] : Prop :=
  ∀ (m : (ℓ : Loc Cert.ShiftAddReferenceIdeal.nD Cert.ShiftAddReferenceIdeal.τ Cert.ShiftAddReferenceIdeal.sig) → Buf (Elt Ideal) ℓ) (g : Dev Cert.ShiftAddReferenceIdeal.nD → PrngReg), Pre_ShiftAddReferenceIdeal m →
    θ_run (Cert.ShiftAddReferenceIdeal.defs (F := Ideal)) (onTc (τ := Cert.ShiftAddReferenceIdeal.τ) (Cert.ShiftAddReferenceIdeal.main (F := Ideal))) ⟨m, fun _ => 0, g⟩ (fun r => (∀ c : Dev Cert.ShiftAddReferenceIdeal.nD,
      r.2.mem ((c.tc : Thread Cert.ShiftAddReferenceIdeal.nD Cert.ShiftAddReferenceIdeal.τ).loc Cert.ShiftAddReferenceIdeal.main_arg0) = m ((c.tc : Thread Cert.ShiftAddReferenceIdeal.nD Cert.ShiftAddReferenceIdeal.τ).loc Cert.ShiftAddReferenceIdeal.main_arg0)
      ∧ r.2.mem ((c.tc : Thread Cert.ShiftAddReferenceIdeal.nD Cert.ShiftAddReferenceIdeal.τ).loc Cert.ShiftAddReferenceIdeal.main_arg1) = m ((c.tc : Thread Cert.ShiftAddReferenceIdeal.nD Cert.ShiftAddReferenceIdeal.τ).loc Cert.ShiftAddReferenceIdeal.main_arg1))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4)
      ∧ r.2.mem ((c.tc : Thread Cert.CombineReferenceIdeal.nD Cert.CombineReferenceIdeal.τ).loc Cert.CombineReferenceIdeal.main_arg5) = m ((c.tc : Thread Cert.CombineReferenceIdeal.nD Cert.CombineReferenceIdeal.τ).loc Cert.CombineReferenceIdeal.main_arg5))
      ∧ r.2.sem = fun _ => 0)

def quiescent_BackConv [hBackConv : Cert.BackConv.Facts] : Prop :=
  ∀ (m : (ℓ : Loc Cert.BackConv.nD Cert.BackConv.τ Cert.BackConv.sig) → Buf (Elt Bits) ℓ) (g : Dev Cert.BackConv.nD → PrngReg), Pre_BackConv m →
    θ_run (Cert.BackConv.defs (F := Bits)) (onTc (τ := Cert.BackConv.τ) (Cert.BackConv.main (F := Bits))) ⟨m, fun _ => 0, g⟩ (fun r => (∀ c : Dev Cert.BackConv.nD,
      r.2.mem ((c.tc : Thread Cert.BackConv.nD Cert.BackConv.τ).loc Cert.BackConv.main_arg0) = m ((c.tc : Thread Cert.BackConv.nD Cert.BackConv.τ).loc Cert.BackConv.main_arg0)
      ∧ r.2.mem ((c.tc : Thread Cert.BackConv.nD Cert.BackConv.τ).loc Cert.BackConv.main_arg1) = m ((c.tc : Thread Cert.BackConv.nD Cert.BackConv.τ).loc Cert.BackConv.main_arg1))
      ∧ r.2.sem = fun _ => 0)

def quiescent_BackConvIdeal [hBackConvIdeal : Cert.BackConvIdeal.Facts] : Prop :=
  ∀ (m : (ℓ : Loc Cert.BackConvIdeal.nD Cert.BackConvIdeal.τ Cert.BackConvIdeal.sig) → Buf (Elt Ideal) ℓ) (g : Dev Cert.BackConvIdeal.nD → PrngReg), Pre_BackConvIdeal m →
    θ_run (Cert.BackConvIdeal.defs (F := Ideal)) (onTc (τ := Cert.BackConvIdeal.τ) (Cert.BackConvIdeal.main (F := Ideal))) ⟨m, fun _ => 0, g⟩ (fun r => (∀ c : Dev Cert.BackConvIdeal.nD,
      r.2.mem ((c.tc : Thread Cert.BackConvIdeal.nD Cert.BackConvIdeal.τ).loc Cert.BackConvIdeal.main_arg0) = m ((c.tc : Thread Cert.BackConvIdeal.nD Cert.BackConvIdeal.τ).loc Cert.BackConvIdeal.main_arg0)
      ∧ r.2.mem ((c.tc : Thread Cert.BackConvIdeal.nD Cert.BackConvIdeal.τ).loc Cert.BackConvIdeal.main_arg1) = m ((c.tc : Thread Cert.BackConvIdeal.nD Cert.BackConvIdeal.τ).loc Cert.BackConvIdeal.main_arg1))
      ∧ r.2.sem = fun _ => 0)

def quiescent_BackConvReferenceIdeal [hBackConvReferenceIdeal : Cert.BackConvReferenceIdeal.Facts] : Prop :=
  ∀ (m : (ℓ : Loc Cert.BackConvReferenceIdeal.nD Cert.BackConvReferenceIdeal.τ Cert.BackConvReferenceIdeal.sig) → Buf (Elt Ideal) ℓ) (g : Dev Cert.BackConvReferenceIdeal.nD → PrngReg), Pre_BackConvReferenceIdeal m →
    θ_run (Cert.BackConvReferenceIdeal.defs (F := Ideal)) (onTc (τ := Cert.BackConvReferenceIdeal.τ) (Cert.BackConvReferenceIdeal.main (F := Ideal))) ⟨m, fun _ => 0, g⟩ (fun r => (∀ c : Dev Cert.BackConvReferenceIdeal.nD,
      r.2.mem ((c.tc : Thread Cert.BackConvReferenceIdeal.nD Cert.BackConvReferenceIdeal.τ).loc Cert.BackConvReferenceIdeal.main_arg0) = m ((c.tc : Thread Cert.BackConvReferenceIdeal.nD Cert.BackConvReferenceIdeal.τ).loc Cert.BackConvReferenceIdeal.main_arg0)
      ∧ r.2.mem ((c.tc : Thread Cert.BackConvReferenceIdeal.nD Cert.BackConvReferenceIdeal.τ).loc Cert.BackConvReferenceIdeal.main_arg1) = m ((c.tc : Thread Cert.BackConvReferenceIdeal.nD Cert.BackConvReferenceIdeal.τ).loc Cert.BackConvReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![3360, 1024]⟩ ⟨2, ![26880, 1024]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.block ⟨2, ![3360, 1024]⟩ ⟨2, ![26880, 1024]⟩ 0 8 c (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def preserves_PairKernel_PairKernelIdeal : Prop :=
  True

def algebraic_PairKernelIdeal_PairReferenceIdeal [hPairKernelIdeal : Cert.PairKernelIdeal.Facts] [hPairReferenceIdeal : Cert.PairReferenceIdeal.Facts] : Prop :=
  ∀ (m : (ℓ : Loc Cert.PairKernelIdeal.nD Cert.PairKernelIdeal.τ Cert.PairKernelIdeal.sig) → Buf (Elt Ideal) ℓ) (g : Dev Cert.PairKernelIdeal.nD → PrngReg)
    (m' : (ℓ : Loc Cert.PairReferenceIdeal.nD Cert.PairReferenceIdeal.τ Cert.PairReferenceIdeal.sig) → Buf (Elt Ideal) ℓ) (g' : Dev Cert.PairReferenceIdeal.nD → PrngReg), Pre_PairKernelIdeal m →
    (∀ c : Dev Cert.PairKernelIdeal.nD,
      m ((c.tc : Thread Cert.PairKernelIdeal.nD Cert.PairKernelIdeal.τ).loc Cert.PairKernelIdeal.main_arg0) = Layout.block ⟨3, ![8, 3360, 1024]⟩ ⟨3, ![64, 3360, 1024]⟩ 0 8 c (m' (((0 : Dev Cert.PairReferenceIdeal.nD).tc : Thread Cert.PairReferenceIdeal.nD Cert.PairReferenceIdeal.τ).loc Cert.PairReferenceIdeal.main_arg0))) →
    ∃ (v0 : Buf (Elt Ideal) (((0 : Dev Cert.PairReferenceIdeal.nD).tc : Thread Cert.PairReferenceIdeal.nD Cert.PairReferenceIdeal.τ).loc Cert.PairReferenceIdeal.main_v15)) (v1 : Buf (Elt Ideal) (((0 : Dev Cert.PairReferenceIdeal.nD).tc : Thread Cert.PairReferenceIdeal.nD Cert.PairReferenceIdeal.τ).loc Cert.PairReferenceIdeal.main_v16)),
      θ_run (Cert.PairKernelIdeal.defs (F := Ideal)) (onTc (τ := Cert.PairKernelIdeal.τ) (Cert.PairKernelIdeal.main (F := Ideal))) ⟨m, fun _ => 0, g⟩ (fun r => ∀ c : Dev Cert.PairKernelIdeal.nD,
          r.2.mem ((c.tc : Thread Cert.PairKernelIdeal.nD Cert.PairKernelIdeal.τ).loc Cert.PairKernelIdeal.main_v1_0) = Layout.block ⟨3, ![4, 3360, 1024]⟩ ⟨3, ![32, 3360, 1024]⟩ 0 8 c v0
          ∧ r.2.mem ((c.tc : Thread Cert.PairKernelIdeal.nD Cert.PairKernelIdeal.τ).loc Cert.PairKernelIdeal.main_v1_1) = Layout.block ⟨3, ![4, 3360, 1024]⟩ ⟨3, ![32, 3360, 1024]⟩ 0 8 c v1
          ∧ r.2.mem ((c.tc : Thread Cert.PairKernelIdeal.nD Cert.PairKernelIdeal.τ).loc Cert.PairKernelIdeal.main_arg0) = m ((c.tc : Thread Cert.PairKernelIdeal.nD Cert.PairKernelIdeal.τ).loc Cert.PairKernelIdeal.main_arg0))
      ∧ θ_run (Cert.PairReferenceIdeal.defs (F := Ideal)) (onTc (τ := Cert.PairReferenceIdeal.τ) (Cert.PairReferenceIdeal.main (F := Ideal))) ⟨m', fun _ => 0, g'⟩ (fun r =>
          r.2.mem (((0 : Dev Cert.PairReferenceIdeal.nD).tc : Thread Cert.PairReferenceIdeal.nD Cert.PairReferenceIdeal.τ).loc Cert.PairReferenceIdeal.main_v15) = v0
          ∧ r.2.mem (((0 : Dev Cert.PairReferenceIdeal.nD).tc : Thread Cert.PairReferenceIdeal.nD Cert.PairReferenceIdeal.τ).loc Cert.PairReferenceIdeal.main_v16) = v1
          ∧ r.2.mem (((0 : Dev Cert.PairReferenceIdeal.nD).tc : Thread Cert.PairReferenceIdeal.nD Cert.PairReferenceIdeal.τ).loc Cert.PairReferenceIdeal.main_arg0) = m' (((0 : Dev Cert.PairReferenceIdeal.nD).tc : Thread Cert.PairReferenceIdeal.nD Cert.PairReferenceIdeal.τ).loc Cert.PairReferenceIdeal.main_arg0))

def bitexact_PairKernel_PairReference [hPairKernel : Cert.PairKernel.Facts] [hPairReference : Cert.PairReference.Facts] : Prop :=
  ∀ (m : (ℓ : Loc Cert.PairKernel.nD Cert.PairKernel.τ Cert.PairKernel.sig) → Buf (Elt Bits) ℓ) (g : Dev Cert.PairKernel.nD → PrngReg)
    (m' : (ℓ : Loc Cert.PairReference.nD Cert.PairReference.τ Cert.PairReference.sig) → Buf (Elt Bits) ℓ) (g' : Dev Cert.PairReference.nD → PrngReg), Pre_PairKernel m →
    (∀ c : Dev Cert.PairKernel.nD,
      m ((c.tc : Thread Cert.PairKernel.nD Cert.PairKernel.τ).loc Cert.PairKernel.main_arg0) = Layout.block ⟨3, ![8, 3360, 1024]⟩ ⟨3, ![64, 3360, 1024]⟩ 0 8 c (m' (((0 : Dev Cert.PairReference.nD).tc : Thread Cert.PairReference.nD Cert.PairReference.τ).loc Cert.PairReference.main_arg0))) →
    ∃ (v0 : Buf (Elt Bits) (((0 : Dev Cert.PairReference.nD).tc : Thread Cert.PairReference.nD Cert.PairReference.τ).loc Cert.PairReference.main_v15)) (v1 : Buf (Elt Bits) (((0 : Dev Cert.PairReference.nD).tc : Thread Cert.PairReference.nD Cert.PairReference.τ).loc Cert.PairReference.main_v16)),
      θ_run (Cert.PairKernel.defs (F := Bits)) (onTc (τ := Cert.PairKernel.τ) (Cert.PairKernel.main (F := Bits))) ⟨m, fun _ => 0, g⟩ (fun r => ∀ c : Dev Cert.PairKernel.nD,
          r.2.mem ((c.tc : Thread Cert.PairKernel.nD Cert.PairKernel.τ).loc Cert.PairKernel.main_v1_0) = Layout.block ⟨3, ![4, 3360, 1024]⟩ ⟨3, ![32, 3360, 1024]⟩ 0 8 c v0
          ∧ r.2.mem ((c.tc : Thread Cert.PairKernel.nD Cert.PairKernel.τ).loc Cert.PairKernel.main_v1_1) = Layout.block ⟨3, ![4, 3360, 1024]⟩ ⟨3, ![32, 3360, 1024]⟩ 0 8 c v1
          ∧ r.2.mem ((c.tc : Thread Cert.PairKernel.nD Cert.PairKernel.τ).loc Cert.PairKernel.main_arg0) = m ((c.tc : Thread Cert.PairKernel.nD Cert.PairKernel.τ).loc Cert.PairKernel.main_arg0))
      ∧ θ_run (Cert.PairReference.defs (F := Bits)) (onTc (τ := Cert.PairReference.τ) (Cert.PairReference.main (F := Bits))) ⟨m', fun _ => 0, g'⟩ (fun r =>
          r.2.mem (((0 : Dev Cert.PairReference.nD).tc : Thread Cert.PairReference.nD Cert.PairReference.τ).loc Cert.PairReference.main_v15) = v0
          ∧ r.2.mem (((0 : Dev Cert.PairReference.nD).tc : Thread Cert.PairReference.nD Cert.PairReference.τ).loc Cert.PairReference.main_v16) = v1
          ∧ r.2.mem (((0 : Dev Cert.PairReference.nD).tc : Thread Cert.PairReference.nD Cert.PairReference.τ).loc Cert.PairReference.main_arg0) = m' (((0 : Dev Cert.PairReference.nD).tc : Thread Cert.PairReference.nD Cert.PairReference.τ).loc Cert.PairReference.main_arg0))

def preserves_ChipKernel_ChipKernelIdeal : Prop :=
  True

def algebraic_ChipKernelIdeal_ChipReferenceIdeal [hChipKernelIdeal : Cert.ChipKernelIdeal.Facts] [hChipReferenceIdeal : Cert.ChipReferenceIdeal.Facts] : Prop :=
  ∀ (m : (ℓ : Loc Cert.ChipKernelIdeal.nD Cert.ChipKernelIdeal.τ Cert.ChipKernelIdeal.sig) → Buf (Elt Ideal) ℓ) (g : Dev Cert.ChipKernelIdeal.nD → PrngReg)
    (m' : (ℓ : Loc Cert.ChipReferenceIdeal.nD Cert.ChipReferenceIdeal.τ Cert.ChipReferenceIdeal.sig) → Buf (Elt Ideal) ℓ) (g' : Dev Cert.ChipReferenceIdeal.nD → PrngReg), Pre_ChipKernelIdeal m →
    (∀ c : Dev Cert.ChipKernelIdeal.nD,
      m ((c.tc : Thread Cert.ChipKernelIdeal.nD Cert.ChipKernelIdeal.τ).loc Cert.ChipKernelIdeal.main_arg0) = Layout.block ⟨3, ![4, 3360, 1024]⟩ ⟨3, ![32, 3360, 1024]⟩ 0 8 c (m' (((0 : Dev Cert.ChipReferenceIdeal.nD).tc : Thread Cert.ChipReferenceIdeal.nD Cert.ChipReferenceIdeal.τ).loc Cert.ChipReferenceIdeal.main_arg0))) →
    ∃ (v0 : Buf (Elt Ideal) (((0 : Dev Cert.ChipReferenceIdeal.nD).tc : Thread Cert.ChipReferenceIdeal.nD Cert.ChipReferenceIdeal.τ).loc Cert.ChipReferenceIdeal.main_v14)) (v1 : Buf (Elt Ideal) (((0 : Dev Cert.ChipReferenceIdeal.nD).tc : Thread Cert.ChipReferenceIdeal.nD Cert.ChipReferenceIdeal.τ).loc Cert.ChipReferenceIdeal.main_v28)) (v2 : Buf (Elt Ideal) (((0 : Dev Cert.ChipReferenceIdeal.nD).tc : Thread Cert.ChipReferenceIdeal.nD Cert.ChipReferenceIdeal.τ).loc Cert.ChipReferenceIdeal.main_v42)) (v3 : Buf (Elt Ideal) (((0 : Dev Cert.ChipReferenceIdeal.nD).tc : Thread Cert.ChipReferenceIdeal.nD Cert.ChipReferenceIdeal.τ).loc Cert.ChipReferenceIdeal.main_v56)),
      θ_run (Cert.ChipKernelIdeal.defs (F := Ideal)) (onTc (τ := Cert.ChipKernelIdeal.τ) (Cert.ChipKernelIdeal.main (F := Ideal))) ⟨m, fun _ => 0, g⟩ (fun r => ∀ c : Dev Cert.ChipKernelIdeal.nD,
          r.2.mem ((c.tc : Thread Cert.ChipKernelIdeal.nD Cert.ChipKernelIdeal.τ).loc Cert.ChipKernelIdeal.main_v1_0) = Layout.block ⟨2, ![3360, 1024]⟩ ⟨2, ![26880, 1024]⟩ 0 8 c v0
          ∧ r.2.mem ((c.tc : Thread Cert.ChipKernelIdeal.nD Cert.ChipKernelIdeal.τ).loc Cert.ChipKernelIdeal.main_v1_1) = Layout.block ⟨2, ![3360, 1024]⟩ ⟨2, ![26880, 1024]⟩ 0 8 c v1
          ∧ r.2.mem ((c.tc : Thread Cert.ChipKernelIdeal.nD Cert.ChipKernelIdeal.τ).loc Cert.ChipKernelIdeal.main_v1_2) = Layout.block ⟨2, ![3360, 1024]⟩ ⟨2, ![26880, 1024]⟩ 0 8 c v2
          ∧ r.2.mem ((c.tc : Thread Cert.ChipKernelIdeal.nD Cert.ChipKernelIdeal.τ).loc Cert.ChipKernelIdeal.main_v1_3) = Layout.block ⟨2, ![3360, 1024]⟩ ⟨2, ![26880, 1024]⟩ 0 8 c v3
          ∧ r.2.mem ((c.tc : Thread Cert.ChipKernelIdeal.nD Cert.ChipKernelIdeal.τ).loc Cert.ChipKernelIdeal.main_arg0) = m ((c.tc : Thread Cert.ChipKernelIdeal.nD Cert.ChipKernelIdeal.τ).loc Cert.ChipKernelIdeal.main_arg0))
      ∧ θ_run (Cert.ChipReferenceIdeal.defs (F := Ideal)) (onTc (τ := Cert.ChipReferenceIdeal.τ) (Cert.ChipReferenceIdeal.main (F := Ideal))) ⟨m', fun _ => 0, g'⟩ (fun r =>
          r.2.mem (((0 : Dev Cert.ChipReferenceIdeal.nD).tc : Thread Cert.ChipReferenceIdeal.nD Cert.ChipReferenceIdeal.τ).loc Cert.ChipReferenceIdeal.main_v14) = v0
          ∧ r.2.mem (((0 : Dev Cert.ChipReferenceIdeal.nD).tc : Thread Cert.ChipReferenceIdeal.nD Cert.ChipReferenceIdeal.τ).loc Cert.ChipReferenceIdeal.main_v28) = v1
          ∧ r.2.mem (((0 : Dev Cert.ChipReferenceIdeal.nD).tc : Thread Cert.ChipReferenceIdeal.nD Cert.ChipReferenceIdeal.τ).loc Cert.ChipReferenceIdeal.main_v42) = v2
          ∧ r.2.mem (((0 : Dev Cert.ChipReferenceIdeal.nD).tc : Thread Cert.ChipReferenceIdeal.nD Cert.ChipReferenceIdeal.τ).loc Cert.ChipReferenceIdeal.main_v56) = v3
          ∧ r.2.mem (((0 : Dev Cert.ChipReferenceIdeal.nD).tc : Thread Cert.ChipReferenceIdeal.nD Cert.ChipReferenceIdeal.τ).loc Cert.ChipReferenceIdeal.main_arg0) = m' (((0 : Dev Cert.ChipReferenceIdeal.nD).tc : Thread Cert.ChipReferenceIdeal.nD Cert.ChipReferenceIdeal.τ).loc Cert.ChipReferenceIdeal.main_arg0))

def bitexact_ChipKernel_ChipReference [hChipKernel : Cert.ChipKernel.Facts] [hChipReference : Cert.ChipReference.Facts] : Prop :=
  ∀ (m : (ℓ : Loc Cert.ChipKernel.nD Cert.ChipKernel.τ Cert.ChipKernel.sig) → Buf (Elt Bits) ℓ) (g : Dev Cert.ChipKernel.nD → PrngReg)
    (m' : (ℓ : Loc Cert.ChipReference.nD Cert.ChipReference.τ Cert.ChipReference.sig) → Buf (Elt Bits) ℓ) (g' : Dev Cert.ChipReference.nD → PrngReg), Pre_ChipKernel m →
    (∀ c : Dev Cert.ChipKernel.nD,
      m ((c.tc : Thread Cert.ChipKernel.nD Cert.ChipKernel.τ).loc Cert.ChipKernel.main_arg0) = Layout.block ⟨3, ![4, 3360, 1024]⟩ ⟨3, ![32, 3360, 1024]⟩ 0 8 c (m' (((0 : Dev Cert.ChipReference.nD).tc : Thread Cert.ChipReference.nD Cert.ChipReference.τ).loc Cert.ChipReference.main_arg0))) →
    ∃ (v0 : Buf (Elt Bits) (((0 : Dev Cert.ChipReference.nD).tc : Thread Cert.ChipReference.nD Cert.ChipReference.τ).loc Cert.ChipReference.main_v14)) (v1 : Buf (Elt Bits) (((0 : Dev Cert.ChipReference.nD).tc : Thread Cert.ChipReference.nD Cert.ChipReference.τ).loc Cert.ChipReference.main_v28)) (v2 : Buf (Elt Bits) (((0 : Dev Cert.ChipReference.nD).tc : Thread Cert.ChipReference.nD Cert.ChipReference.τ).loc Cert.ChipReference.main_v42)) (v3 : Buf (Elt Bits) (((0 : Dev Cert.ChipReference.nD).tc : Thread Cert.ChipReference.nD Cert.ChipReference.τ).loc Cert.ChipReference.main_v56)),
      θ_run (Cert.ChipKernel.defs (F := Bits)) (onTc (τ := Cert.ChipKernel.τ) (Cert.ChipKernel.main (F := Bits))) ⟨m, fun _ => 0, g⟩ (fun r => ∀ c : Dev Cert.ChipKernel.nD,
          r.2.mem ((c.tc : Thread Cert.ChipKernel.nD Cert.ChipKernel.τ).loc Cert.ChipKernel.main_v1_0) = Layout.block ⟨2, ![3360, 1024]⟩ ⟨2, ![26880, 1024]⟩ 0 8 c v0
          ∧ r.2.mem ((c.tc : Thread Cert.ChipKernel.nD Cert.ChipKernel.τ).loc Cert.ChipKernel.main_v1_1) = Layout.block ⟨2, ![3360, 1024]⟩ ⟨2, ![26880, 1024]⟩ 0 8 c v1
          ∧ r.2.mem ((c.tc : Thread Cert.ChipKernel.nD Cert.ChipKernel.τ).loc Cert.ChipKernel.main_v1_2) = Layout.block ⟨2, ![3360, 1024]⟩ ⟨2, ![26880, 1024]⟩ 0 8 c v2
          ∧ r.2.mem ((c.tc : Thread Cert.ChipKernel.nD Cert.ChipKernel.τ).loc Cert.ChipKernel.main_v1_3) = Layout.block ⟨2, ![3360, 1024]⟩ ⟨2, ![26880, 1024]⟩ 0 8 c v3
          ∧ r.2.mem ((c.tc : Thread Cert.ChipKernel.nD Cert.ChipKernel.τ).loc Cert.ChipKernel.main_arg0) = m ((c.tc : Thread Cert.ChipKernel.nD Cert.ChipKernel.τ).loc Cert.ChipKernel.main_arg0))
      ∧ θ_run (Cert.ChipReference.defs (F := Bits)) (onTc (τ := Cert.ChipReference.τ) (Cert.ChipReference.main (F := Bits))) ⟨m', fun _ => 0, g'⟩ (fun r =>
          r.2.mem (((0 : Dev Cert.ChipReference.nD).tc : Thread Cert.ChipReference.nD Cert.ChipReference.τ).loc Cert.ChipReference.main_v14) = v0
          ∧ r.2.mem (((0 : Dev Cert.ChipReference.nD).tc : Thread Cert.ChipReference.nD Cert.ChipReference.τ).loc Cert.ChipReference.main_v28) = v1
          ∧ r.2.mem (((0 : Dev Cert.ChipReference.nD).tc : Thread Cert.ChipReference.nD Cert.ChipReference.τ).loc Cert.ChipReference.main_v42) = v2
          ∧ r.2.mem (((0 : Dev Cert.ChipReference.nD).tc : Thread Cert.ChipReference.nD Cert.ChipReference.τ).loc Cert.ChipReference.main_v56) = v3
          ∧ r.2.mem (((0 : Dev Cert.ChipReference.nD).tc : Thread Cert.ChipReference.nD Cert.ChipReference.τ).loc Cert.ChipReference.main_arg0) = m' (((0 : Dev Cert.ChipReference.nD).tc : Thread Cert.ChipReference.nD Cert.ChipReference.τ).loc Cert.ChipReference.main_arg0))

def preserves_UpdateIn_UpdateInIdeal : Prop :=
  True

def algebraic_UpdateInIdeal_UpdateInReferenceIdeal [hUpdateInIdeal : Cert.UpdateInIdeal.Facts] [hUpdateInReferenceIdeal : Cert.UpdateInReferenceIdeal.Facts] : Prop :=
  ∀ (m : (ℓ : Loc Cert.UpdateInIdeal.nD Cert.UpdateInIdeal.τ Cert.UpdateInIdeal.sig) → Buf (Elt Ideal) ℓ) (g : Dev Cert.UpdateInIdeal.nD → PrngReg)
    (m' : (ℓ : Loc Cert.UpdateInReferenceIdeal.nD Cert.UpdateInReferenceIdeal.τ Cert.UpdateInReferenceIdeal.sig) → Buf (Elt Ideal) ℓ) (g' : Dev Cert.UpdateInReferenceIdeal.nD → PrngReg), Pre_UpdateInIdeal m →
    (∀ c : Dev Cert.UpdateInIdeal.nD,
      m' ((c.tc : Thread Cert.UpdateInReferenceIdeal.nD Cert.UpdateInReferenceIdeal.τ).loc Cert.UpdateInReferenceIdeal.main_arg0) = m ((c.tc : Thread Cert.UpdateInIdeal.nD Cert.UpdateInIdeal.τ).loc Cert.UpdateInIdeal.main_arg0)
      ∧ m' ((c.tc : Thread Cert.UpdateInReferenceIdeal.nD Cert.UpdateInReferenceIdeal.τ).loc Cert.UpdateInReferenceIdeal.main_arg1) = m ((c.tc : Thread Cert.UpdateInIdeal.nD Cert.UpdateInIdeal.τ).loc Cert.UpdateInIdeal.main_arg1)
      ∧ m' ((c.tc : Thread Cert.UpdateInReferenceIdeal.nD Cert.UpdateInReferenceIdeal.τ).loc Cert.UpdateInReferenceIdeal.main_arg2) = m ((c.tc : Thread Cert.UpdateInIdeal.nD Cert.UpdateInIdeal.τ).loc Cert.UpdateInIdeal.main_arg2)
      ∧ m' ((c.tc : Thread Cert.UpdateInReferenceIdeal.nD Cert.UpdateInReferenceIdeal.τ).loc Cert.UpdateInReferenceIdeal.main_arg3) = m ((c.tc : Thread Cert.UpdateInIdeal.nD Cert.UpdateInIdeal.τ).loc Cert.UpdateInIdeal.main_arg3)) →
    ∃ (v0 : (c : Dev Cert.UpdateInIdeal.nD) → Buf (Elt Ideal) ((c.tc : Thread Cert.UpdateInIdeal.nD Cert.UpdateInIdeal.τ).loc Cert.UpdateInIdeal.main_v0_0)) (v1 : (c : Dev Cert.UpdateInIdeal.nD) → Buf (Elt Ideal) ((c.tc : Thread Cert.UpdateInIdeal.nD Cert.UpdateInIdeal.τ).loc Cert.UpdateInIdeal.main_v0_1)) (v2 : (c : Dev Cert.UpdateInIdeal.nD) → Buf (Elt Ideal) ((c.tc : Thread Cert.UpdateInIdeal.nD Cert.UpdateInIdeal.τ).loc Cert.UpdateInIdeal.main_v0_2)),
      θ_run (Cert.UpdateInIdeal.defs (F := Ideal)) (onTc (τ := Cert.UpdateInIdeal.τ) (Cert.UpdateInIdeal.main (F := Ideal))) ⟨m, fun _ => 0, g⟩ (fun r => ∀ c : Dev Cert.UpdateInIdeal.nD,
          r.2.mem ((c.tc : Thread Cert.UpdateInIdeal.nD Cert.UpdateInIdeal.τ).loc Cert.UpdateInIdeal.main_v0_0) = v0 c
          ∧ r.2.mem ((c.tc : Thread Cert.UpdateInIdeal.nD Cert.UpdateInIdeal.τ).loc Cert.UpdateInIdeal.main_v0_1) = v1 c
          ∧ r.2.mem ((c.tc : Thread Cert.UpdateInIdeal.nD Cert.UpdateInIdeal.τ).loc Cert.UpdateInIdeal.main_v0_2) = v2 c
          ∧ r.2.mem ((c.tc : Thread Cert.UpdateInIdeal.nD Cert.UpdateInIdeal.τ).loc Cert.UpdateInIdeal.main_arg0) = m ((c.tc : Thread Cert.UpdateInIdeal.nD Cert.UpdateInIdeal.τ).loc Cert.UpdateInIdeal.main_arg0)
          ∧ r.2.mem ((c.tc : Thread Cert.UpdateInIdeal.nD Cert.UpdateInIdeal.τ).loc Cert.UpdateInIdeal.main_arg1) = m ((c.tc : Thread Cert.UpdateInIdeal.nD Cert.UpdateInIdeal.τ).loc Cert.UpdateInIdeal.main_arg1)
          ∧ r.2.mem ((c.tc : Thread Cert.UpdateInIdeal.nD Cert.UpdateInIdeal.τ).loc Cert.UpdateInIdeal.main_arg2) = m ((c.tc : Thread Cert.UpdateInIdeal.nD Cert.UpdateInIdeal.τ).loc Cert.UpdateInIdeal.main_arg2)
          ∧ r.2.mem ((c.tc : Thread Cert.UpdateInIdeal.nD Cert.UpdateInIdeal.τ).loc Cert.UpdateInIdeal.main_arg3) = m ((c.tc : Thread Cert.UpdateInIdeal.nD Cert.UpdateInIdeal.τ).loc Cert.UpdateInIdeal.main_arg3))
      ∧ θ_run (Cert.UpdateInReferenceIdeal.defs (F := Ideal)) (onTc (τ := Cert.UpdateInReferenceIdeal.τ) (Cert.UpdateInReferenceIdeal.main (F := Ideal))) ⟨m', fun _ => 0, g'⟩ (fun r => ∀ c : Dev Cert.UpdateInReferenceIdeal.nD,
          r.2.mem ((c.tc : Thread Cert.UpdateInReferenceIdeal.nD Cert.UpdateInReferenceIdeal.τ).loc Cert.UpdateInReferenceIdeal.main_v23) = v0 c
          ∧ r.2.mem ((c.tc : Thread Cert.UpdateInReferenceIdeal.nD Cert.UpdateInReferenceIdeal.τ).loc Cert.UpdateInReferenceIdeal.main_v4) = v1 c
          ∧ r.2.mem ((c.tc : Thread Cert.UpdateInReferenceIdeal.nD Cert.UpdateInReferenceIdeal.τ).loc Cert.UpdateInReferenceIdeal.main_v10) = v2 c
          ∧ r.2.mem ((c.tc : Thread Cert.UpdateInReferenceIdeal.nD Cert.UpdateInReferenceIdeal.τ).loc Cert.UpdateInReferenceIdeal.main_arg0) = m' ((c.tc : Thread Cert.UpdateInReferenceIdeal.nD Cert.UpdateInReferenceIdeal.τ).loc Cert.UpdateInReferenceIdeal.main_arg0)
          ∧ r.2.mem ((c.tc : Thread Cert.UpdateInReferenceIdeal.nD Cert.UpdateInReferenceIdeal.τ).loc Cert.UpdateInReferenceIdeal.main_arg1) = m' ((c.tc : Thread Cert.UpdateInReferenceIdeal.nD Cert.UpdateInReferenceIdeal.τ).loc Cert.UpdateInReferenceIdeal.main_arg1)
          ∧ r.2.mem ((c.tc : Thread Cert.UpdateInReferenceIdeal.nD Cert.UpdateInReferenceIdeal.τ).loc Cert.UpdateInReferenceIdeal.main_arg2) = m' ((c.tc : Thread Cert.UpdateInReferenceIdeal.nD Cert.UpdateInReferenceIdeal.τ).loc Cert.UpdateInReferenceIdeal.main_arg2)
          ∧ r.2.mem ((c.tc : Thread Cert.UpdateInReferenceIdeal.nD Cert.UpdateInReferenceIdeal.τ).loc Cert.UpdateInReferenceIdeal.main_arg3) = m' ((c.tc : Thread Cert.UpdateInReferenceIdeal.nD Cert.UpdateInReferenceIdeal.τ).loc Cert.UpdateInReferenceIdeal.main_arg3))

def preserves_UpdateOut_UpdateOutIdeal : Prop :=
  True

def algebraic_UpdateOutIdeal_UpdateOutReferenceIdeal [hUpdateOutIdeal : Cert.UpdateOutIdeal.Facts] [hUpdateOutReferenceIdeal : Cert.UpdateOutReferenceIdeal.Facts] : Prop :=
  ∀ (m : (ℓ : Loc Cert.UpdateOutIdeal.nD Cert.UpdateOutIdeal.τ Cert.UpdateOutIdeal.sig) → Buf (Elt Ideal) ℓ) (g : Dev Cert.UpdateOutIdeal.nD → PrngReg)
    (m' : (ℓ : Loc Cert.UpdateOutReferenceIdeal.nD Cert.UpdateOutReferenceIdeal.τ Cert.UpdateOutReferenceIdeal.sig) → Buf (Elt Ideal) ℓ) (g' : Dev Cert.UpdateOutReferenceIdeal.nD → PrngReg), Pre_UpdateOutIdeal m →
    (∀ c : Dev Cert.UpdateOutIdeal.nD,
      m' ((c.tc : Thread Cert.UpdateOutReferenceIdeal.nD Cert.UpdateOutReferenceIdeal.τ).loc Cert.UpdateOutReferenceIdeal.main_arg0) = m ((c.tc : Thread Cert.UpdateOutIdeal.nD Cert.UpdateOutIdeal.τ).loc Cert.UpdateOutIdeal.main_arg0)
      ∧ m' ((c.tc : Thread Cert.UpdateOutReferenceIdeal.nD Cert.UpdateOutReferenceIdeal.τ).loc Cert.UpdateOutReferenceIdeal.main_arg1) = m ((c.tc : Thread Cert.UpdateOutIdeal.nD Cert.UpdateOutIdeal.τ).loc Cert.UpdateOutIdeal.main_arg1)
      ∧ m' ((c.tc : Thread Cert.UpdateOutReferenceIdeal.nD Cert.UpdateOutReferenceIdeal.τ).loc Cert.UpdateOutReferenceIdeal.main_arg2) = m ((c.tc : Thread Cert.UpdateOutIdeal.nD Cert.UpdateOutIdeal.τ).loc Cert.UpdateOutIdeal.main_arg2)
      ∧ m' ((c.tc : Thread Cert.UpdateOutReferenceIdeal.nD Cert.UpdateOutReferenceIdeal.τ).loc Cert.UpdateOutReferenceIdeal.main_arg3) = m ((c.tc : Thread Cert.UpdateOutIdeal.nD Cert.UpdateOutIdeal.τ).loc Cert.UpdateOutIdeal.main_arg3)) →
    ∃ (v0 : (c : Dev Cert.UpdateOutIdeal.nD) → Buf (Elt Ideal) ((c.tc : Thread Cert.UpdateOutIdeal.nD Cert.UpdateOutIdeal.τ).loc Cert.UpdateOutIdeal.main_v0_0)) (v1 : (c : Dev Cert.UpdateOutIdeal.nD) → Buf (Elt Ideal) ((c.tc : Thread Cert.UpdateOutIdeal.nD Cert.UpdateOutIdeal.τ).loc Cert.UpdateOutIdeal.main_v0_1)) (v2 : (c : Dev Cert.UpdateOutIdeal.nD) → Buf (Elt Ideal) ((c.tc : Thread Cert.UpdateOutIdeal.nD Cert.UpdateOutIdeal.τ).loc Cert.UpdateOutIdeal.main_v0_2)),
      θ_run (Cert.UpdateOutIdeal.defs (F := Ideal)) (onTc (τ := Cert.UpdateOutIdeal.τ) (Cert.UpdateOutIdeal.main (F := Ideal))) ⟨m, fun _ => 0, g⟩ (fun r => ∀ c : Dev Cert.UpdateOutIdeal.nD,
          r.2.mem ((c.tc : Thread Cert.UpdateOutIdeal.nD Cert.UpdateOutIdeal.τ).loc Cert.UpdateOutIdeal.main_v0_0) = v0 c
          ∧ r.2.mem ((c.tc : Thread Cert.UpdateOutIdeal.nD Cert.UpdateOutIdeal.τ).loc Cert.UpdateOutIdeal.main_v0_1) = v1 c
          ∧ r.2.mem ((c.tc : Thread Cert.UpdateOutIdeal.nD Cert.UpdateOutIdeal.τ).loc Cert.UpdateOutIdeal.main_v0_2) = v2 c
          ∧ r.2.mem ((c.tc : Thread Cert.UpdateOutIdeal.nD Cert.UpdateOutIdeal.τ).loc Cert.UpdateOutIdeal.main_arg0) = m ((c.tc : Thread Cert.UpdateOutIdeal.nD Cert.UpdateOutIdeal.τ).loc Cert.UpdateOutIdeal.main_arg0)
          ∧ r.2.mem ((c.tc : Thread Cert.UpdateOutIdeal.nD Cert.UpdateOutIdeal.τ).loc Cert.UpdateOutIdeal.main_arg1) = m ((c.tc : Thread Cert.UpdateOutIdeal.nD Cert.UpdateOutIdeal.τ).loc Cert.UpdateOutIdeal.main_arg1)
          ∧ r.2.mem ((c.tc : Thread Cert.UpdateOutIdeal.nD Cert.UpdateOutIdeal.τ).loc Cert.UpdateOutIdeal.main_arg2) = m ((c.tc : Thread Cert.UpdateOutIdeal.nD Cert.UpdateOutIdeal.τ).loc Cert.UpdateOutIdeal.main_arg2)
          ∧ r.2.mem ((c.tc : Thread Cert.UpdateOutIdeal.nD Cert.UpdateOutIdeal.τ).loc Cert.UpdateOutIdeal.main_arg3) = m ((c.tc : Thread Cert.UpdateOutIdeal.nD Cert.UpdateOutIdeal.τ).loc Cert.UpdateOutIdeal.main_arg3))
      ∧ θ_run (Cert.UpdateOutReferenceIdeal.defs (F := Ideal)) (onTc (τ := Cert.UpdateOutReferenceIdeal.τ) (Cert.UpdateOutReferenceIdeal.main (F := Ideal))) ⟨m', fun _ => 0, g'⟩ (fun r => ∀ c : Dev Cert.UpdateOutReferenceIdeal.nD,
          r.2.mem ((c.tc : Thread Cert.UpdateOutReferenceIdeal.nD Cert.UpdateOutReferenceIdeal.τ).loc Cert.UpdateOutReferenceIdeal.main_v23) = v0 c
          ∧ r.2.mem ((c.tc : Thread Cert.UpdateOutReferenceIdeal.nD Cert.UpdateOutReferenceIdeal.τ).loc Cert.UpdateOutReferenceIdeal.main_v4) = v1 c
          ∧ r.2.mem ((c.tc : Thread Cert.UpdateOutReferenceIdeal.nD Cert.UpdateOutReferenceIdeal.τ).loc Cert.UpdateOutReferenceIdeal.main_v10) = v2 c
          ∧ r.2.mem ((c.tc : Thread Cert.UpdateOutReferenceIdeal.nD Cert.UpdateOutReferenceIdeal.τ).loc Cert.UpdateOutReferenceIdeal.main_arg0) = m' ((c.tc : Thread Cert.UpdateOutReferenceIdeal.nD Cert.UpdateOutReferenceIdeal.τ).loc Cert.UpdateOutReferenceIdeal.main_arg0)
          ∧ r.2.mem ((c.tc : Thread Cert.UpdateOutReferenceIdeal.nD Cert.UpdateOutReferenceIdeal.τ).loc Cert.UpdateOutReferenceIdeal.main_arg1) = m' ((c.tc : Thread Cert.UpdateOutReferenceIdeal.nD Cert.UpdateOutReferenceIdeal.τ).loc Cert.UpdateOutReferenceIdeal.main_arg1)
          ∧ r.2.mem ((c.tc : Thread Cert.UpdateOutReferenceIdeal.nD Cert.UpdateOutReferenceIdeal.τ).loc Cert.UpdateOutReferenceIdeal.main_arg2) = m' ((c.tc : Thread Cert.UpdateOutReferenceIdeal.nD Cert.UpdateOutReferenceIdeal.τ).loc Cert.UpdateOutReferenceIdeal.main_arg2)
          ∧ r.2.mem ((c.tc : Thread Cert.UpdateOutReferenceIdeal.nD Cert.UpdateOutReferenceIdeal.τ).loc Cert.UpdateOutReferenceIdeal.main_arg3) = m' ((c.tc : Thread Cert.UpdateOutReferenceIdeal.nD Cert.UpdateOutReferenceIdeal.τ).loc Cert.UpdateOutReferenceIdeal.main_arg3))

def preserves_UpdateQkv_UpdateQkvIdeal : Prop :=
  True

def algebraic_UpdateQkvIdeal_UpdateQkvReferenceIdeal [hUpdateQkvIdeal : Cert.UpdateQkvIdeal.Facts] [hUpdateQkvReferenceIdeal : Cert.UpdateQkvReferenceIdeal.Facts] : Prop :=
  ∀ (m : (ℓ : Loc Cert.UpdateQkvIdeal.nD Cert.UpdateQkvIdeal.τ Cert.UpdateQkvIdeal.sig) → Buf (Elt Ideal) ℓ) (g : Dev Cert.UpdateQkvIdeal.nD → PrngReg)
    (m' : (ℓ : Loc Cert.UpdateQkvReferenceIdeal.nD Cert.UpdateQkvReferenceIdeal.τ Cert.UpdateQkvReferenceIdeal.sig) → Buf (Elt Ideal) ℓ) (g' : Dev Cert.UpdateQkvReferenceIdeal.nD → PrngReg), Pre_UpdateQkvIdeal m →
    (∀ c : Dev Cert.UpdateQkvIdeal.nD,
      m' ((c.tc : Thread Cert.UpdateQkvReferenceIdeal.nD Cert.UpdateQkvReferenceIdeal.τ).loc Cert.UpdateQkvReferenceIdeal.main_arg0) = m ((c.tc : Thread Cert.UpdateQkvIdeal.nD Cert.UpdateQkvIdeal.τ).loc Cert.UpdateQkvIdeal.main_arg0)
      ∧ m' ((c.tc : Thread Cert.UpdateQkvReferenceIdeal.nD Cert.UpdateQkvReferenceIdeal.τ).loc Cert.UpdateQkvReferenceIdeal.main_arg1) = m ((c.tc : Thread Cert.UpdateQkvIdeal.nD Cert.UpdateQkvIdeal.τ).loc Cert.UpdateQkvIdeal.main_arg1)
      ∧ m' ((c.tc : Thread Cert.UpdateQkvReferenceIdeal.nD Cert.UpdateQkvReferenceIdeal.τ).loc Cert.UpdateQkvReferenceIdeal.main_arg2) = m ((c.tc : Thread Cert.UpdateQkvIdeal.nD Cert.UpdateQkvIdeal.τ).loc Cert.UpdateQkvIdeal.main_arg2)
      ∧ m' ((c.tc : Thread Cert.UpdateQkvReferenceIdeal.nD Cert.UpdateQkvReferenceIdeal.τ).loc Cert.UpdateQkvReferenceIdeal.main_arg3) = m ((c.tc : Thread Cert.UpdateQkvIdeal.nD Cert.UpdateQkvIdeal.τ).loc Cert.UpdateQkvIdeal.main_arg3)) →
    ∃ (v0 : (c : Dev Cert.UpdateQkvIdeal.nD) → Buf (Elt Ideal) ((c.tc : Thread Cert.UpdateQkvIdeal.nD Cert.UpdateQkvIdeal.τ).loc Cert.UpdateQkvIdeal.main_v0_0)) (v1 : (c : Dev Cert.UpdateQkvIdeal.nD) → Buf (Elt Ideal) ((c.tc : Thread Cert.UpdateQkvIdeal.nD Cert.UpdateQkvIdeal.τ).loc Cert.UpdateQkvIdeal.main_v0_1)) (v2 : (c : Dev Cert.UpdateQkvIdeal.nD) → Buf (Elt Ideal) ((c.tc : Thread Cert.UpdateQkvIdeal.nD Cert.UpdateQkvIdeal.τ).loc Cert.UpdateQkvIdeal.main_v0_2)),
      θ_run (Cert.UpdateQkvIdeal.defs (F := Ideal)) (onTc (τ := Cert.UpdateQkvIdeal.τ) (Cert.UpdateQkvIdeal.main (F := Ideal))) ⟨m, fun _ => 0, g⟩ (fun r => ∀ c : Dev Cert.UpdateQkvIdeal.nD,
          r.2.mem ((c.tc : Thread Cert.UpdateQkvIdeal.nD Cert.UpdateQkvIdeal.τ).loc Cert.UpdateQkvIdeal.main_v0_0) = v0 c
          ∧ r.2.mem ((c.tc : Thread Cert.UpdateQkvIdeal.nD Cert.UpdateQkvIdeal.τ).loc Cert.UpdateQkvIdeal.main_v0_1) = v1 c
          ∧ r.2.mem ((c.tc : Thread Cert.UpdateQkvIdeal.nD Cert.UpdateQkvIdeal.τ).loc Cert.UpdateQkvIdeal.main_v0_2) = v2 c
          ∧ r.2.mem ((c.tc : Thread Cert.UpdateQkvIdeal.nD Cert.UpdateQkvIdeal.τ).loc Cert.UpdateQkvIdeal.main_arg0) = m ((c.tc : Thread Cert.UpdateQkvIdeal.nD Cert.UpdateQkvIdeal.τ).loc Cert.UpdateQkvIdeal.main_arg0)
          ∧ r.2.mem ((c.tc : Thread Cert.UpdateQkvIdeal.nD Cert.UpdateQkvIdeal.τ).loc Cert.UpdateQkvIdeal.main_arg1) = m ((c.tc : Thread Cert.UpdateQkvIdeal.nD Cert.UpdateQkvIdeal.τ).loc Cert.UpdateQkvIdeal.main_arg1)
          ∧ r.2.mem ((c.tc : Thread Cert.UpdateQkvIdeal.nD Cert.UpdateQkvIdeal.τ).loc Cert.UpdateQkvIdeal.main_arg2) = m ((c.tc : Thread Cert.UpdateQkvIdeal.nD Cert.UpdateQkvIdeal.τ).loc Cert.UpdateQkvIdeal.main_arg2)
          ∧ r.2.mem ((c.tc : Thread Cert.UpdateQkvIdeal.nD Cert.UpdateQkvIdeal.τ).loc Cert.UpdateQkvIdeal.main_arg3) = m ((c.tc : Thread Cert.UpdateQkvIdeal.nD Cert.UpdateQkvIdeal.τ).loc Cert.UpdateQkvIdeal.main_arg3))
      ∧ θ_run (Cert.UpdateQkvReferenceIdeal.defs (F := Ideal)) (onTc (τ := Cert.UpdateQkvReferenceIdeal.τ) (Cert.UpdateQkvReferenceIdeal.main (F := Ideal))) ⟨m', fun _ => 0, g'⟩ (fun r => ∀ c : Dev Cert.UpdateQkvReferenceIdeal.nD,
          r.2.mem ((c.tc : Thread Cert.UpdateQkvReferenceIdeal.nD Cert.UpdateQkvReferenceIdeal.τ).loc Cert.UpdateQkvReferenceIdeal.main_v23) = v0 c
          ∧ r.2.mem ((c.tc : Thread Cert.UpdateQkvReferenceIdeal.nD Cert.UpdateQkvReferenceIdeal.τ).loc Cert.UpdateQkvReferenceIdeal.main_v4) = v1 c
          ∧ r.2.mem ((c.tc : Thread Cert.UpdateQkvReferenceIdeal.nD Cert.UpdateQkvReferenceIdeal.τ).loc Cert.UpdateQkvReferenceIdeal.main_v10) = v2 c
          ∧ r.2.mem ((c.tc : Thread Cert.UpdateQkvReferenceIdeal.nD Cert.UpdateQkvReferenceIdeal.τ).loc Cert.UpdateQkvReferenceIdeal.main_arg0) = m' ((c.tc : Thread Cert.UpdateQkvReferenceIdeal.nD Cert.UpdateQkvReferenceIdeal.τ).loc Cert.UpdateQkvReferenceIdeal.main_arg0)
          ∧ r.2.mem ((c.tc : Thread Cert.UpdateQkvReferenceIdeal.nD Cert.UpdateQkvReferenceIdeal.τ).loc Cert.UpdateQkvReferenceIdeal.main_arg1) = m' ((c.tc : Thread Cert.UpdateQkvReferenceIdeal.nD Cert.UpdateQkvReferenceIdeal.τ).loc Cert.UpdateQkvReferenceIdeal.main_arg1)
          ∧ r.2.mem ((c.tc : Thread Cert.UpdateQkvReferenceIdeal.nD Cert.UpdateQkvReferenceIdeal.τ).loc Cert.UpdateQkvReferenceIdeal.main_arg2) = m' ((c.tc : Thread Cert.UpdateQkvReferenceIdeal.nD Cert.UpdateQkvReferenceIdeal.τ).loc Cert.UpdateQkvReferenceIdeal.main_arg2)
          ∧ r.2.mem ((c.tc : Thread Cert.UpdateQkvReferenceIdeal.nD Cert.UpdateQkvReferenceIdeal.τ).loc Cert.UpdateQkvReferenceIdeal.main_arg3) = m' ((c.tc : Thread Cert.UpdateQkvReferenceIdeal.nD Cert.UpdateQkvReferenceIdeal.τ).loc Cert.UpdateQkvReferenceIdeal.main_arg3))

def preserves_UpdateCo_UpdateCoIdeal : Prop :=
  True

def algebraic_UpdateCoIdeal_UpdateCoReferenceIdeal [hUpdateCoIdeal : Cert.UpdateCoIdeal.Facts] [hUpdateCoReferenceIdeal : Cert.UpdateCoReferenceIdeal.Facts] : Prop :=
  ∀ (m : (ℓ : Loc Cert.UpdateCoIdeal.nD Cert.UpdateCoIdeal.τ Cert.UpdateCoIdeal.sig) → Buf (Elt Ideal) ℓ) (g : Dev Cert.UpdateCoIdeal.nD → PrngReg)
    (m' : (ℓ : Loc Cert.UpdateCoReferenceIdeal.nD Cert.UpdateCoReferenceIdeal.τ Cert.UpdateCoReferenceIdeal.sig) → Buf (Elt Ideal) ℓ) (g' : Dev Cert.UpdateCoReferenceIdeal.nD → PrngReg), Pre_UpdateCoIdeal m →
    (∀ c : Dev Cert.UpdateCoIdeal.nD,
      m' ((c.tc : Thread Cert.UpdateCoReferenceIdeal.nD Cert.UpdateCoReferenceIdeal.τ).loc Cert.UpdateCoReferenceIdeal.main_arg0) = m ((c.tc : Thread Cert.UpdateCoIdeal.nD Cert.UpdateCoIdeal.τ).loc Cert.UpdateCoIdeal.main_arg0)
      ∧ m' ((c.tc : Thread Cert.UpdateCoReferenceIdeal.nD Cert.UpdateCoReferenceIdeal.τ).loc Cert.UpdateCoReferenceIdeal.main_arg1) = m ((c.tc : Thread Cert.UpdateCoIdeal.nD Cert.UpdateCoIdeal.τ).loc Cert.UpdateCoIdeal.main_arg1)
      ∧ m' ((c.tc : Thread Cert.UpdateCoReferenceIdeal.nD Cert.UpdateCoReferenceIdeal.τ).loc Cert.UpdateCoReferenceIdeal.main_arg2) = m ((c.tc : Thread Cert.UpdateCoIdeal.nD Cert.UpdateCoIdeal.τ).loc Cert.UpdateCoIdeal.main_arg2)
      ∧ m' ((c.tc : Thread Cert.UpdateCoReferenceIdeal.nD Cert.UpdateCoReferenceIdeal.τ).loc Cert.UpdateCoReferenceIdeal.main_arg3) = m ((c.tc : Thread Cert.UpdateCoIdeal.nD Cert.UpdateCoIdeal.τ).loc Cert.UpdateCoIdeal.main_arg3)) →
    ∃ (v0 : (c : Dev Cert.UpdateCoIdeal.nD) → Buf (Elt Ideal) ((c.tc : Thread Cert.UpdateCoIdeal.nD Cert.UpdateCoIdeal.τ).loc Cert.UpdateCoIdeal.main_v0_0)) (v1 : (c : Dev Cert.UpdateCoIdeal.nD) → Buf (Elt Ideal) ((c.tc : Thread Cert.UpdateCoIdeal.nD Cert.UpdateCoIdeal.τ).loc Cert.UpdateCoIdeal.main_v0_1)) (v2 : (c : Dev Cert.UpdateCoIdeal.nD) → Buf (Elt Ideal) ((c.tc : Thread Cert.UpdateCoIdeal.nD Cert.UpdateCoIdeal.τ).loc Cert.UpdateCoIdeal.main_v0_2)),
      θ_run (Cert.UpdateCoIdeal.defs (F := Ideal)) (onTc (τ := Cert.UpdateCoIdeal.τ) (Cert.UpdateCoIdeal.main (F := Ideal))) ⟨m, fun _ => 0, g⟩ (fun r => ∀ c : Dev Cert.UpdateCoIdeal.nD,
          r.2.mem ((c.tc : Thread Cert.UpdateCoIdeal.nD Cert.UpdateCoIdeal.τ).loc Cert.UpdateCoIdeal.main_v0_0) = v0 c
          ∧ r.2.mem ((c.tc : Thread Cert.UpdateCoIdeal.nD Cert.UpdateCoIdeal.τ).loc Cert.UpdateCoIdeal.main_v0_1) = v1 c
          ∧ r.2.mem ((c.tc : Thread Cert.UpdateCoIdeal.nD Cert.UpdateCoIdeal.τ).loc Cert.UpdateCoIdeal.main_v0_2) = v2 c
          ∧ r.2.mem ((c.tc : Thread Cert.UpdateCoIdeal.nD Cert.UpdateCoIdeal.τ).loc Cert.UpdateCoIdeal.main_arg0) = m ((c.tc : Thread Cert.UpdateCoIdeal.nD Cert.UpdateCoIdeal.τ).loc Cert.UpdateCoIdeal.main_arg0)
          ∧ r.2.mem ((c.tc : Thread Cert.UpdateCoIdeal.nD Cert.UpdateCoIdeal.τ).loc Cert.UpdateCoIdeal.main_arg1) = m ((c.tc : Thread Cert.UpdateCoIdeal.nD Cert.UpdateCoIdeal.τ).loc Cert.UpdateCoIdeal.main_arg1)
          ∧ r.2.mem ((c.tc : Thread Cert.UpdateCoIdeal.nD Cert.UpdateCoIdeal.τ).loc Cert.UpdateCoIdeal.main_arg2) = m ((c.tc : Thread Cert.UpdateCoIdeal.nD Cert.UpdateCoIdeal.τ).loc Cert.UpdateCoIdeal.main_arg2)
          ∧ r.2.mem ((c.tc : Thread Cert.UpdateCoIdeal.nD Cert.UpdateCoIdeal.τ).loc Cert.UpdateCoIdeal.main_arg3) = m ((c.tc : Thread Cert.UpdateCoIdeal.nD Cert.UpdateCoIdeal.τ).loc Cert.UpdateCoIdeal.main_arg3))
      ∧ θ_run (Cert.UpdateCoReferenceIdeal.defs (F := Ideal)) (onTc (τ := Cert.UpdateCoReferenceIdeal.τ) (Cert.UpdateCoReferenceIdeal.main (F := Ideal))) ⟨m', fun _ => 0, g'⟩ (fun r => ∀ c : Dev Cert.UpdateCoReferenceIdeal.nD,
          r.2.mem ((c.tc : Thread Cert.UpdateCoReferenceIdeal.nD Cert.UpdateCoReferenceIdeal.τ).loc Cert.UpdateCoReferenceIdeal.main_v23) = v0 c
          ∧ r.2.mem ((c.tc : Thread Cert.UpdateCoReferenceIdeal.nD Cert.UpdateCoReferenceIdeal.τ).loc Cert.UpdateCoReferenceIdeal.main_v4) = v1 c
          ∧ r.2.mem ((c.tc : Thread Cert.UpdateCoReferenceIdeal.nD Cert.UpdateCoReferenceIdeal.τ).loc Cert.UpdateCoReferenceIdeal.main_v10) = v2 c
          ∧ r.2.mem ((c.tc : Thread Cert.UpdateCoReferenceIdeal.nD Cert.UpdateCoReferenceIdeal.τ).loc Cert.UpdateCoReferenceIdeal.main_arg0) = m' ((c.tc : Thread Cert.UpdateCoReferenceIdeal.nD Cert.UpdateCoReferenceIdeal.τ).loc Cert.UpdateCoReferenceIdeal.main_arg0)
          ∧ r.2.mem ((c.tc : Thread Cert.UpdateCoReferenceIdeal.nD Cert.UpdateCoReferenceIdeal.τ).loc Cert.UpdateCoReferenceIdeal.main_arg1) = m' ((c.tc : Thread Cert.UpdateCoReferenceIdeal.nD Cert.UpdateCoReferenceIdeal.τ).loc Cert.UpdateCoReferenceIdeal.main_arg1)
          ∧ r.2.mem ((c.tc : Thread Cert.UpdateCoReferenceIdeal.nD Cert.UpdateCoReferenceIdeal.τ).loc Cert.UpdateCoReferenceIdeal.main_arg2) = m' ((c.tc : Thread Cert.UpdateCoReferenceIdeal.nD Cert.UpdateCoReferenceIdeal.τ).loc Cert.UpdateCoReferenceIdeal.main_arg2)
          ∧ r.2.mem ((c.tc : Thread Cert.UpdateCoReferenceIdeal.nD Cert.UpdateCoReferenceIdeal.τ).loc Cert.UpdateCoReferenceIdeal.main_arg3) = m' ((c.tc : Thread Cert.UpdateCoReferenceIdeal.nD Cert.UpdateCoReferenceIdeal.τ).loc Cert.UpdateCoReferenceIdeal.main_arg3))

def preserves_UpdateUp_UpdateUpIdeal : Prop :=
  True

def algebraic_UpdateUpIdeal_UpdateUpReferenceIdeal [hUpdateUpIdeal : Cert.UpdateUpIdeal.Facts] [hUpdateUpReferenceIdeal : Cert.UpdateUpReferenceIdeal.Facts] : Prop :=
  ∀ (m : (ℓ : Loc Cert.UpdateUpIdeal.nD Cert.UpdateUpIdeal.τ Cert.UpdateUpIdeal.sig) → Buf (Elt Ideal) ℓ) (g : Dev Cert.UpdateUpIdeal.nD → PrngReg)
    (m' : (ℓ : Loc Cert.UpdateUpReferenceIdeal.nD Cert.UpdateUpReferenceIdeal.τ Cert.UpdateUpReferenceIdeal.sig) → Buf (Elt Ideal) ℓ) (g' : Dev Cert.UpdateUpReferenceIdeal.nD → PrngReg), Pre_UpdateUpIdeal m →
    (∀ c : Dev Cert.UpdateUpIdeal.nD,
      m' ((c.tc : Thread Cert.UpdateUpReferenceIdeal.nD Cert.UpdateUpReferenceIdeal.τ).loc Cert.UpdateUpReferenceIdeal.main_arg0) = m ((c.tc : Thread Cert.UpdateUpIdeal.nD Cert.UpdateUpIdeal.τ).loc Cert.UpdateUpIdeal.main_arg0)
      ∧ m' ((c.tc : Thread Cert.UpdateUpReferenceIdeal.nD Cert.UpdateUpReferenceIdeal.τ).loc Cert.UpdateUpReferenceIdeal.main_arg1) = m ((c.tc : Thread Cert.UpdateUpIdeal.nD Cert.UpdateUpIdeal.τ).loc Cert.UpdateUpIdeal.main_arg1)
      ∧ m' ((c.tc : Thread Cert.UpdateUpReferenceIdeal.nD Cert.UpdateUpReferenceIdeal.τ).loc Cert.UpdateUpReferenceIdeal.main_arg2) = m ((c.tc : Thread Cert.UpdateUpIdeal.nD Cert.UpdateUpIdeal.τ).loc Cert.UpdateUpIdeal.main_arg2)
      ∧ m' ((c.tc : Thread Cert.UpdateUpReferenceIdeal.nD Cert.UpdateUpReferenceIdeal.τ).loc Cert.UpdateUpReferenceIdeal.main_arg3) = m ((c.tc : Thread Cert.UpdateUpIdeal.nD Cert.UpdateUpIdeal.τ).loc Cert.UpdateUpIdeal.main_arg3)) →
    ∃ (v0 : (c : Dev Cert.UpdateUpIdeal.nD) → Buf (Elt Ideal) ((c.tc : Thread Cert.UpdateUpIdeal.nD Cert.UpdateUpIdeal.τ).loc Cert.UpdateUpIdeal.main_v0_0)) (v1 : (c : Dev Cert.UpdateUpIdeal.nD) → Buf (Elt Ideal) ((c.tc : Thread Cert.UpdateUpIdeal.nD Cert.UpdateUpIdeal.τ).loc Cert.UpdateUpIdeal.main_v0_1)) (v2 : (c : Dev Cert.UpdateUpIdeal.nD) → Buf (Elt Ideal) ((c.tc : Thread Cert.UpdateUpIdeal.nD Cert.UpdateUpIdeal.τ).loc Cert.UpdateUpIdeal.main_v0_2)),
      θ_run (Cert.UpdateUpIdeal.defs (F := Ideal)) (onTc (τ := Cert.UpdateUpIdeal.τ) (Cert.UpdateUpIdeal.main (F := Ideal))) ⟨m, fun _ => 0, g⟩ (fun r => ∀ c : Dev Cert.UpdateUpIdeal.nD,
          r.2.mem ((c.tc : Thread Cert.UpdateUpIdeal.nD Cert.UpdateUpIdeal.τ).loc Cert.UpdateUpIdeal.main_v0_0) = v0 c
          ∧ r.2.mem ((c.tc : Thread Cert.UpdateUpIdeal.nD Cert.UpdateUpIdeal.τ).loc Cert.UpdateUpIdeal.main_v0_1) = v1 c
          ∧ r.2.mem ((c.tc : Thread Cert.UpdateUpIdeal.nD Cert.UpdateUpIdeal.τ).loc Cert.UpdateUpIdeal.main_v0_2) = v2 c
          ∧ r.2.mem ((c.tc : Thread Cert.UpdateUpIdeal.nD Cert.UpdateUpIdeal.τ).loc Cert.UpdateUpIdeal.main_arg0) = m ((c.tc : Thread Cert.UpdateUpIdeal.nD Cert.UpdateUpIdeal.τ).loc Cert.UpdateUpIdeal.main_arg0)
          ∧ r.2.mem ((c.tc : Thread Cert.UpdateUpIdeal.nD Cert.UpdateUpIdeal.τ).loc Cert.UpdateUpIdeal.main_arg1) = m ((c.tc : Thread Cert.UpdateUpIdeal.nD Cert.UpdateUpIdeal.τ).loc Cert.UpdateUpIdeal.main_arg1)
          ∧ r.2.mem ((c.tc : Thread Cert.UpdateUpIdeal.nD Cert.UpdateUpIdeal.τ).loc Cert.UpdateUpIdeal.main_arg2) = m ((c.tc : Thread Cert.UpdateUpIdeal.nD Cert.UpdateUpIdeal.τ).loc Cert.UpdateUpIdeal.main_arg2)
          ∧ r.2.mem ((c.tc : Thread Cert.UpdateUpIdeal.nD Cert.UpdateUpIdeal.τ).loc Cert.UpdateUpIdeal.main_arg3) = m ((c.tc : Thread Cert.UpdateUpIdeal.nD Cert.UpdateUpIdeal.τ).loc Cert.UpdateUpIdeal.main_arg3))
      ∧ θ_run (Cert.UpdateUpReferenceIdeal.defs (F := Ideal)) (onTc (τ := Cert.UpdateUpReferenceIdeal.τ) (Cert.UpdateUpReferenceIdeal.main (F := Ideal))) ⟨m', fun _ => 0, g'⟩ (fun r => ∀ c : Dev Cert.UpdateUpReferenceIdeal.nD,
          r.2.mem ((c.tc : Thread Cert.UpdateUpReferenceIdeal.nD Cert.UpdateUpReferenceIdeal.τ).loc Cert.UpdateUpReferenceIdeal.main_v23) = v0 c
          ∧ r.2.mem ((c.tc : Thread Cert.UpdateUpReferenceIdeal.nD Cert.UpdateUpReferenceIdeal.τ).loc Cert.UpdateUpReferenceIdeal.main_v4) = v1 c
          ∧ r.2.mem ((c.tc : Thread Cert.UpdateUpReferenceIdeal.nD Cert.UpdateUpReferenceIdeal.τ).loc Cert.UpdateUpReferenceIdeal.main_v10) = v2 c
          ∧ r.2.mem ((c.tc : Thread Cert.UpdateUpReferenceIdeal.nD Cert.UpdateUpReferenceIdeal.τ).loc Cert.UpdateUpReferenceIdeal.main_arg0) = m' ((c.tc : Thread Cert.UpdateUpReferenceIdeal.nD Cert.UpdateUpReferenceIdeal.τ).loc Cert.UpdateUpReferenceIdeal.main_arg0)
          ∧ r.2.mem ((c.tc : Thread Cert.UpdateUpReferenceIdeal.nD Cert.UpdateUpReferenceIdeal.τ).loc Cert.UpdateUpReferenceIdeal.main_arg1) = m' ((c.tc : Thread Cert.UpdateUpReferenceIdeal.nD Cert.UpdateUpReferenceIdeal.τ).loc Cert.UpdateUpReferenceIdeal.main_arg1)
          ∧ r.2.mem ((c.tc : Thread Cert.UpdateUpReferenceIdeal.nD Cert.UpdateUpReferenceIdeal.τ).loc Cert.UpdateUpReferenceIdeal.main_arg2) = m' ((c.tc : Thread Cert.UpdateUpReferenceIdeal.nD Cert.UpdateUpReferenceIdeal.τ).loc Cert.UpdateUpReferenceIdeal.main_arg2)
          ∧ r.2.mem ((c.tc : Thread Cert.UpdateUpReferenceIdeal.nD Cert.UpdateUpReferenceIdeal.τ).loc Cert.UpdateUpReferenceIdeal.main_arg3) = m' ((c.tc : Thread Cert.UpdateUpReferenceIdeal.nD Cert.UpdateUpReferenceIdeal.τ).loc Cert.UpdateUpReferenceIdeal.main_arg3))

def preserves_UpdateDown_UpdateDownIdeal : Prop :=
  True

def algebraic_UpdateDownIdeal_UpdateDownReferenceIdeal [hUpdateDownIdeal : Cert.UpdateDownIdeal.Facts] [hUpdateDownReferenceIdeal : Cert.UpdateDownReferenceIdeal.Facts] : Prop :=
  ∀ (m : (ℓ : Loc Cert.UpdateDownIdeal.nD Cert.UpdateDownIdeal.τ Cert.UpdateDownIdeal.sig) → Buf (Elt Ideal) ℓ) (g : Dev Cert.UpdateDownIdeal.nD → PrngReg)
    (m' : (ℓ : Loc Cert.UpdateDownReferenceIdeal.nD Cert.UpdateDownReferenceIdeal.τ Cert.UpdateDownReferenceIdeal.sig) → Buf (Elt Ideal) ℓ) (g' : Dev Cert.UpdateDownReferenceIdeal.nD → PrngReg), Pre_UpdateDownIdeal m →
    (∀ c : Dev Cert.UpdateDownIdeal.nD,
      m' ((c.tc : Thread Cert.UpdateDownReferenceIdeal.nD Cert.UpdateDownReferenceIdeal.τ).loc Cert.UpdateDownReferenceIdeal.main_arg0) = m ((c.tc : Thread Cert.UpdateDownIdeal.nD Cert.UpdateDownIdeal.τ).loc Cert.UpdateDownIdeal.main_arg0)
      ∧ m' ((c.tc : Thread Cert.UpdateDownReferenceIdeal.nD Cert.UpdateDownReferenceIdeal.τ).loc Cert.UpdateDownReferenceIdeal.main_arg1) = m ((c.tc : Thread Cert.UpdateDownIdeal.nD Cert.UpdateDownIdeal.τ).loc Cert.UpdateDownIdeal.main_arg1)
      ∧ m' ((c.tc : Thread Cert.UpdateDownReferenceIdeal.nD Cert.UpdateDownReferenceIdeal.τ).loc Cert.UpdateDownReferenceIdeal.main_arg2) = m ((c.tc : Thread Cert.UpdateDownIdeal.nD Cert.UpdateDownIdeal.τ).loc Cert.UpdateDownIdeal.main_arg2)
      ∧ m' ((c.tc : Thread Cert.UpdateDownReferenceIdeal.nD Cert.UpdateDownReferenceIdeal.τ).loc Cert.UpdateDownReferenceIdeal.main_arg3) = m ((c.tc : Thread Cert.UpdateDownIdeal.nD Cert.UpdateDownIdeal.τ).loc Cert.UpdateDownIdeal.main_arg3)) →
    ∃ (v0 : (c : Dev Cert.UpdateDownIdeal.nD) → Buf (Elt Ideal) ((c.tc : Thread Cert.UpdateDownIdeal.nD Cert.UpdateDownIdeal.τ).loc Cert.UpdateDownIdeal.main_v0_0)) (v1 : (c : Dev Cert.UpdateDownIdeal.nD) → Buf (Elt Ideal) ((c.tc : Thread Cert.UpdateDownIdeal.nD Cert.UpdateDownIdeal.τ).loc Cert.UpdateDownIdeal.main_v0_1)) (v2 : (c : Dev Cert.UpdateDownIdeal.nD) → Buf (Elt Ideal) ((c.tc : Thread Cert.UpdateDownIdeal.nD Cert.UpdateDownIdeal.τ).loc Cert.UpdateDownIdeal.main_v0_2)),
      θ_run (Cert.UpdateDownIdeal.defs (F := Ideal)) (onTc (τ := Cert.UpdateDownIdeal.τ) (Cert.UpdateDownIdeal.main (F := Ideal))) ⟨m, fun _ => 0, g⟩ (fun r => ∀ c : Dev Cert.UpdateDownIdeal.nD,
          r.2.mem ((c.tc : Thread Cert.UpdateDownIdeal.nD Cert.UpdateDownIdeal.τ).loc Cert.UpdateDownIdeal.main_v0_0) = v0 c
          ∧ r.2.mem ((c.tc : Thread Cert.UpdateDownIdeal.nD Cert.UpdateDownIdeal.τ).loc Cert.UpdateDownIdeal.main_v0_1) = v1 c
          ∧ r.2.mem ((c.tc : Thread Cert.UpdateDownIdeal.nD Cert.UpdateDownIdeal.τ).loc Cert.UpdateDownIdeal.main_v0_2) = v2 c
          ∧ r.2.mem ((c.tc : Thread Cert.UpdateDownIdeal.nD Cert.UpdateDownIdeal.τ).loc Cert.UpdateDownIdeal.main_arg0) = m ((c.tc : Thread Cert.UpdateDownIdeal.nD Cert.UpdateDownIdeal.τ).loc Cert.UpdateDownIdeal.main_arg0)
          ∧ r.2.mem ((c.tc : Thread Cert.UpdateDownIdeal.nD Cert.UpdateDownIdeal.τ).loc Cert.UpdateDownIdeal.main_arg1) = m ((c.tc : Thread Cert.UpdateDownIdeal.nD Cert.UpdateDownIdeal.τ).loc Cert.UpdateDownIdeal.main_arg1)
          ∧ r.2.mem ((c.tc : Thread Cert.UpdateDownIdeal.nD Cert.UpdateDownIdeal.τ).loc Cert.UpdateDownIdeal.main_arg2) = m ((c.tc : Thread Cert.UpdateDownIdeal.nD Cert.UpdateDownIdeal.τ).loc Cert.UpdateDownIdeal.main_arg2)
          ∧ r.2.mem ((c.tc : Thread Cert.UpdateDownIdeal.nD Cert.UpdateDownIdeal.τ).loc Cert.UpdateDownIdeal.main_arg3) = m ((c.tc : Thread Cert.UpdateDownIdeal.nD Cert.UpdateDownIdeal.τ).loc Cert.UpdateDownIdeal.main_arg3))
      ∧ θ_run (Cert.UpdateDownReferenceIdeal.defs (F := Ideal)) (onTc (τ := Cert.UpdateDownReferenceIdeal.τ) (Cert.UpdateDownReferenceIdeal.main (F := Ideal))) ⟨m', fun _ => 0, g'⟩ (fun r => ∀ c : Dev Cert.UpdateDownReferenceIdeal.nD,
          r.2.mem ((c.tc : Thread Cert.UpdateDownReferenceIdeal.nD Cert.UpdateDownReferenceIdeal.τ).loc Cert.UpdateDownReferenceIdeal.main_v23) = v0 c
          ∧ r.2.mem ((c.tc : Thread Cert.UpdateDownReferenceIdeal.nD Cert.UpdateDownReferenceIdeal.τ).loc Cert.UpdateDownReferenceIdeal.main_v4) = v1 c
          ∧ r.2.mem ((c.tc : Thread Cert.UpdateDownReferenceIdeal.nD Cert.UpdateDownReferenceIdeal.τ).loc Cert.UpdateDownReferenceIdeal.main_v10) = v2 c
          ∧ r.2.mem ((c.tc : Thread Cert.UpdateDownReferenceIdeal.nD Cert.UpdateDownReferenceIdeal.τ).loc Cert.UpdateDownReferenceIdeal.main_arg0) = m' ((c.tc : Thread Cert.UpdateDownReferenceIdeal.nD Cert.UpdateDownReferenceIdeal.τ).loc Cert.UpdateDownReferenceIdeal.main_arg0)
          ∧ r.2.mem ((c.tc : Thread Cert.UpdateDownReferenceIdeal.nD Cert.UpdateDownReferenceIdeal.τ).loc Cert.UpdateDownReferenceIdeal.main_arg1) = m' ((c.tc : Thread Cert.UpdateDownReferenceIdeal.nD Cert.UpdateDownReferenceIdeal.τ).loc Cert.UpdateDownReferenceIdeal.main_arg1)
          ∧ r.2.mem ((c.tc : Thread Cert.UpdateDownReferenceIdeal.nD Cert.UpdateDownReferenceIdeal.τ).loc Cert.UpdateDownReferenceIdeal.main_arg2) = m' ((c.tc : Thread Cert.UpdateDownReferenceIdeal.nD Cert.UpdateDownReferenceIdeal.τ).loc Cert.UpdateDownReferenceIdeal.main_arg2)
          ∧ r.2.mem ((c.tc : Thread Cert.UpdateDownReferenceIdeal.nD Cert.UpdateDownReferenceIdeal.τ).loc Cert.UpdateDownReferenceIdeal.main_arg3) = m' ((c.tc : Thread Cert.UpdateDownReferenceIdeal.nD Cert.UpdateDownReferenceIdeal.τ).loc Cert.UpdateDownReferenceIdeal.main_arg3))

def preserves_UpdatePack_UpdatePackIdeal : Prop :=
  True

def algebraic_UpdatePackIdeal_UpdatePackReferenceIdeal [hUpdatePackIdeal : Cert.UpdatePackIdeal.Facts] [hUpdatePackReferenceIdeal : Cert.UpdatePackReferenceIdeal.Facts] : Prop :=
  ∀ (m : (ℓ : Loc Cert.UpdatePackIdeal.nD Cert.UpdatePackIdeal.τ Cert.UpdatePackIdeal.sig) → Buf (Elt Ideal) ℓ) (g : Dev Cert.UpdatePackIdeal.nD → PrngReg)
    (m' : (ℓ : Loc Cert.UpdatePackReferenceIdeal.nD Cert.UpdatePackReferenceIdeal.τ Cert.UpdatePackReferenceIdeal.sig) → Buf (Elt Ideal) ℓ) (g' : Dev Cert.UpdatePackReferenceIdeal.nD → PrngReg), Pre_UpdatePackIdeal m →
    (∀ c : Dev Cert.UpdatePackIdeal.nD,
      m' ((c.tc : Thread Cert.UpdatePackReferenceIdeal.nD Cert.UpdatePackReferenceIdeal.τ).loc Cert.UpdatePackReferenceIdeal.main_arg0) = m ((c.tc : Thread Cert.UpdatePackIdeal.nD Cert.UpdatePackIdeal.τ).loc Cert.UpdatePackIdeal.main_arg0)
      ∧ m' ((c.tc : Thread Cert.UpdatePackReferenceIdeal.nD Cert.UpdatePackReferenceIdeal.τ).loc Cert.UpdatePackReferenceIdeal.main_arg1) = m ((c.tc : Thread Cert.UpdatePackIdeal.nD Cert.UpdatePackIdeal.τ).loc Cert.UpdatePackIdeal.main_arg1)
      ∧ m' ((c.tc : Thread Cert.UpdatePackReferenceIdeal.nD Cert.UpdatePackReferenceIdeal.τ).loc Cert.UpdatePackReferenceIdeal.main_arg2) = m ((c.tc : Thread Cert.UpdatePackIdeal.nD Cert.UpdatePackIdeal.τ).loc Cert.UpdatePackIdeal.main_arg2)
      ∧ m' ((c.tc : Thread Cert.UpdatePackReferenceIdeal.nD Cert.UpdatePackReferenceIdeal.τ).loc Cert.UpdatePackReferenceIdeal.main_arg3) = m ((c.tc : Thread Cert.UpdatePackIdeal.nD Cert.UpdatePackIdeal.τ).loc Cert.UpdatePackIdeal.main_arg3)) →
    ∃ (v0 : (c : Dev Cert.UpdatePackIdeal.nD) → Buf (Elt Ideal) ((c.tc : Thread Cert.UpdatePackIdeal.nD Cert.UpdatePackIdeal.τ).loc Cert.UpdatePackIdeal.main_v0_0)) (v1 : (c : Dev Cert.UpdatePackIdeal.nD) → Buf (Elt Ideal) ((c.tc : Thread Cert.UpdatePackIdeal.nD Cert.UpdatePackIdeal.τ).loc Cert.UpdatePackIdeal.main_v0_1)) (v2 : (c : Dev Cert.UpdatePackIdeal.nD) → Buf (Elt Ideal) ((c.tc : Thread Cert.UpdatePackIdeal.nD Cert.UpdatePackIdeal.τ).loc Cert.UpdatePackIdeal.main_v0_2)),
      θ_run (Cert.UpdatePackIdeal.defs (F := Ideal)) (onTc (τ := Cert.UpdatePackIdeal.τ) (Cert.UpdatePackIdeal.main (F := Ideal))) ⟨m, fun _ => 0, g⟩ (fun r => ∀ c : Dev Cert.UpdatePackIdeal.nD,
          r.2.mem ((c.tc : Thread Cert.UpdatePackIdeal.nD Cert.UpdatePackIdeal.τ).loc Cert.UpdatePackIdeal.main_v0_0) = v0 c
          ∧ r.2.mem ((c.tc : Thread Cert.UpdatePackIdeal.nD Cert.UpdatePackIdeal.τ).loc Cert.UpdatePackIdeal.main_v0_1) = v1 c
          ∧ r.2.mem ((c.tc : Thread Cert.UpdatePackIdeal.nD Cert.UpdatePackIdeal.τ).loc Cert.UpdatePackIdeal.main_v0_2) = v2 c
          ∧ r.2.mem ((c.tc : Thread Cert.UpdatePackIdeal.nD Cert.UpdatePackIdeal.τ).loc Cert.UpdatePackIdeal.main_arg0) = m ((c.tc : Thread Cert.UpdatePackIdeal.nD Cert.UpdatePackIdeal.τ).loc Cert.UpdatePackIdeal.main_arg0)
          ∧ r.2.mem ((c.tc : Thread Cert.UpdatePackIdeal.nD Cert.UpdatePackIdeal.τ).loc Cert.UpdatePackIdeal.main_arg1) = m ((c.tc : Thread Cert.UpdatePackIdeal.nD Cert.UpdatePackIdeal.τ).loc Cert.UpdatePackIdeal.main_arg1)
          ∧ r.2.mem ((c.tc : Thread Cert.UpdatePackIdeal.nD Cert.UpdatePackIdeal.τ).loc Cert.UpdatePackIdeal.main_arg2) = m ((c.tc : Thread Cert.UpdatePackIdeal.nD Cert.UpdatePackIdeal.τ).loc Cert.UpdatePackIdeal.main_arg2)
          ∧ r.2.mem ((c.tc : Thread Cert.UpdatePackIdeal.nD Cert.UpdatePackIdeal.τ).loc Cert.UpdatePackIdeal.main_arg3) = m ((c.tc : Thread Cert.UpdatePackIdeal.nD Cert.UpdatePackIdeal.τ).loc Cert.UpdatePackIdeal.main_arg3))
      ∧ θ_run (Cert.UpdatePackReferenceIdeal.defs (F := Ideal)) (onTc (τ := Cert.UpdatePackReferenceIdeal.τ) (Cert.UpdatePackReferenceIdeal.main (F := Ideal))) ⟨m', fun _ => 0, g'⟩ (fun r => ∀ c : Dev Cert.UpdatePackReferenceIdeal.nD,
          r.2.mem ((c.tc : Thread Cert.UpdatePackReferenceIdeal.nD Cert.UpdatePackReferenceIdeal.τ).loc Cert.UpdatePackReferenceIdeal.main_v23) = v0 c
          ∧ r.2.mem ((c.tc : Thread Cert.UpdatePackReferenceIdeal.nD Cert.UpdatePackReferenceIdeal.τ).loc Cert.UpdatePackReferenceIdeal.main_v4) = v1 c
          ∧ r.2.mem ((c.tc : Thread Cert.UpdatePackReferenceIdeal.nD Cert.UpdatePackReferenceIdeal.τ).loc Cert.UpdatePackReferenceIdeal.main_v10) = v2 c
          ∧ r.2.mem ((c.tc : Thread Cert.UpdatePackReferenceIdeal.nD Cert.UpdatePackReferenceIdeal.τ).loc Cert.UpdatePackReferenceIdeal.main_arg0) = m' ((c.tc : Thread Cert.UpdatePackReferenceIdeal.nD Cert.UpdatePackReferenceIdeal.τ).loc Cert.UpdatePackReferenceIdeal.main_arg0)
          ∧ r.2.mem ((c.tc : Thread Cert.UpdatePackReferenceIdeal.nD Cert.UpdatePackReferenceIdeal.τ).loc Cert.UpdatePackReferenceIdeal.main_arg1) = m' ((c.tc : Thread Cert.UpdatePackReferenceIdeal.nD Cert.UpdatePackReferenceIdeal.τ).loc Cert.UpdatePackReferenceIdeal.main_arg1)
          ∧ r.2.mem ((c.tc : Thread Cert.UpdatePackReferenceIdeal.nD Cert.UpdatePackReferenceIdeal.τ).loc Cert.UpdatePackReferenceIdeal.main_arg2) = m' ((c.tc : Thread Cert.UpdatePackReferenceIdeal.nD Cert.UpdatePackReferenceIdeal.τ).loc Cert.UpdatePackReferenceIdeal.main_arg2)
          ∧ r.2.mem ((c.tc : Thread Cert.UpdatePackReferenceIdeal.nD Cert.UpdatePackReferenceIdeal.τ).loc Cert.UpdatePackReferenceIdeal.main_arg3) = m' ((c.tc : Thread Cert.UpdatePackReferenceIdeal.nD Cert.UpdatePackReferenceIdeal.τ).loc Cert.UpdatePackReferenceIdeal.main_arg3))

def preserves_NormBwd_NormBwdIdeal : Prop :=
  True

def algebraic_NormBwdIdeal_NormBwdReferenceIdeal [hNormBwdIdeal : Cert.NormBwdIdeal.Facts] [hNormBwdReferenceIdeal : Cert.NormBwdReferenceIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdReferenceIdeal.nD Cert.NormBwdReferenceIdeal.τ Cert.NormBwdReferenceIdeal.sig) → Buf (Elt Ideal) ℓ) (g' : Dev Cert.NormBwdReferenceIdeal.nD → PrngReg), Pre_NormBwdIdeal m →
    (∀ c : Dev Cert.NormBwdIdeal.nD,
      m' ((c.tc : Thread Cert.NormBwdReferenceIdeal.nD Cert.NormBwdReferenceIdeal.τ).loc Cert.NormBwdReferenceIdeal.main_arg0) = m ((c.tc : Thread Cert.NormBwdIdeal.nD Cert.NormBwdIdeal.τ).loc Cert.NormBwdIdeal.main_arg0)
      ∧ m' ((c.tc : Thread Cert.NormBwdReferenceIdeal.nD Cert.NormBwdReferenceIdeal.τ).loc Cert.NormBwdReferenceIdeal.main_arg1) = m ((c.tc : Thread Cert.NormBwdIdeal.nD Cert.NormBwdIdeal.τ).loc Cert.NormBwdIdeal.main_arg1)
      ∧ m' ((c.tc : Thread Cert.NormBwdReferenceIdeal.nD Cert.NormBwdReferenceIdeal.τ).loc Cert.NormBwdReferenceIdeal.main_arg2) = m ((c.tc : Thread Cert.NormBwdIdeal.nD Cert.NormBwdIdeal.τ).loc Cert.NormBwdIdeal.main_arg2)
      ∧ m' ((c.tc : Thread Cert.NormBwdReferenceIdeal.nD Cert.NormBwdReferenceIdeal.τ).loc Cert.NormBwdReferenceIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdReferenceIdeal.defs (F := Ideal)) (onTc (τ := Cert.NormBwdReferenceIdeal.τ) (Cert.NormBwdReferenceIdeal.main (F := Ideal))) ⟨m', fun _ => 0, g'⟩ (fun r => ∀ c : Dev Cert.NormBwdReferenceIdeal.nD,
          r.2.mem ((c.tc : Thread Cert.NormBwdReferenceIdeal.nD Cert.NormBwdReferenceIdeal.τ).loc Cert.NormBwdReferenceIdeal.main_v34) = v0 c
          ∧ r.2.mem ((c.tc : Thread Cert.NormBwdReferenceIdeal.nD Cert.NormBwdReferenceIdeal.τ).loc Cert.NormBwdReferenceIdeal.main_v17) = v1 c
          ∧ r.2.mem ((c.tc : Thread Cert.NormBwdReferenceIdeal.nD Cert.NormBwdReferenceIdeal.τ).loc Cert.NormBwdReferenceIdeal.main_arg0) = m' ((c.tc : Thread Cert.NormBwdReferenceIdeal.nD Cert.NormBwdReferenceIdeal.τ).loc Cert.NormBwdReferenceIdeal.main_arg0)
          ∧ r.2.mem ((c.tc : Thread Cert.NormBwdReferenceIdeal.nD Cert.NormBwdReferenceIdeal.τ).loc Cert.NormBwdReferenceIdeal.main_arg1) = m' ((c.tc : Thread Cert.NormBwdReferenceIdeal.nD Cert.NormBwdReferenceIdeal.τ).loc Cert.NormBwdReferenceIdeal.main_arg1)
          ∧ r.2.mem ((c.tc : Thread Cert.NormBwdReferenceIdeal.nD Cert.NormBwdReferenceIdeal.τ).loc Cert.NormBwdReferenceIdeal.main_arg2) = m' ((c.tc : Thread Cert.NormBwdReferenceIdeal.nD Cert.NormBwdReferenceIdeal.τ).loc Cert.NormBwdReferenceIdeal.main_arg2)
          ∧ r.2.mem ((c.tc : Thread Cert.NormBwdReferenceIdeal.nD Cert.NormBwdReferenceIdeal.τ).loc Cert.NormBwdReferenceIdeal.main_arg3) = m' ((c.tc : Thread Cert.NormBwdReferenceIdeal.nD Cert.NormBwdReferenceIdeal.τ).loc Cert.NormBwdReferenceIdeal.main_arg3))

def preserves_LossHead_LossHeadIdeal : Prop :=
  True

def algebraic_LossHeadIdeal_LossHeadReferenceIdeal [hLossHeadIdeal : Cert.LossHeadIdeal.Facts] [hLossHeadReferenceIdeal : Cert.LossHeadReferenceIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadReferenceIdeal.nD Cert.LossHeadReferenceIdeal.τ Cert.LossHeadReferenceIdeal.sig) → Buf (Elt Ideal) ℓ) (g' : Dev Cert.LossHeadReferenceIdeal.nD → PrngReg), Pre_LossHeadIdeal m →
    (∀ c : Dev Cert.LossHeadIdeal.nD,
      m' ((c.tc : Thread Cert.LossHeadReferenceIdeal.nD Cert.LossHeadReferenceIdeal.τ).loc Cert.LossHeadReferenceIdeal.main_arg0) = m ((c.tc : Thread Cert.LossHeadIdeal.nD Cert.LossHeadIdeal.τ).loc Cert.LossHeadIdeal.main_arg0)
      ∧ m' ((c.tc : Thread Cert.LossHeadReferenceIdeal.nD Cert.LossHeadReferenceIdeal.τ).loc Cert.LossHeadReferenceIdeal.main_arg1) = m ((c.tc : Thread Cert.LossHeadIdeal.nD Cert.LossHeadIdeal.τ).loc Cert.LossHeadIdeal.main_arg1)
      ∧ m' ((c.tc : Thread Cert.LossHeadReferenceIdeal.nD Cert.LossHeadReferenceIdeal.τ).loc Cert.LossHeadReferenceIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadReferenceIdeal.defs (F := Ideal)) (onTc (τ := Cert.LossHeadReferenceIdeal.τ) (Cert.LossHeadReferenceIdeal.main (F := Ideal))) ⟨m', fun _ => 0, g'⟩ (fun r => ∀ c : Dev Cert.LossHeadReferenceIdeal.nD,
          r.2.mem ((c.tc : Thread Cert.LossHeadReferenceIdeal.nD Cert.LossHeadReferenceIdeal.τ).loc Cert.LossHeadReferenceIdeal.main_v49) = v0 c
          ∧ r.2.mem ((c.tc : Thread Cert.LossHeadReferenceIdeal.nD Cert.LossHeadReferenceIdeal.τ).loc Cert.LossHeadReferenceIdeal.main_v48) = v1 c
          ∧ r.2.mem ((c.tc : Thread Cert.LossHeadReferenceIdeal.nD Cert.LossHeadReferenceIdeal.τ).loc Cert.LossHeadReferenceIdeal.main_v32) = v2 c
          ∧ r.2.mem ((c.tc : Thread Cert.LossHeadReferenceIdeal.nD Cert.LossHeadReferenceIdeal.τ).loc Cert.LossHeadReferenceIdeal.main_arg0) = m' ((c.tc : Thread Cert.LossHeadReferenceIdeal.nD Cert.LossHeadReferenceIdeal.τ).loc Cert.LossHeadReferenceIdeal.main_arg0)
          ∧ r.2.mem ((c.tc : Thread Cert.LossHeadReferenceIdeal.nD Cert.LossHeadReferenceIdeal.τ).loc Cert.LossHeadReferenceIdeal.main_arg1) = m' ((c.tc : Thread Cert.LossHeadReferenceIdeal.nD Cert.LossHeadReferenceIdeal.τ).loc Cert.LossHeadReferenceIdeal.main_arg1)
          ∧ r.2.mem ((c.tc : Thread Cert.LossHeadReferenceIdeal.nD Cert.LossHeadReferenceIdeal.τ).loc Cert.LossHeadReferenceIdeal.main_arg2) = m' ((c.tc : Thread Cert.LossHeadReferenceIdeal.nD Cert.LossHeadReferenceIdeal.τ).loc Cert.LossHeadReferenceIdeal.main_arg2))

def preserves_CrossFwd_CrossFwdIdeal : Prop :=
  True

def algebraic_CrossFwdIdeal_CrossFwdReferenceIdeal [hCrossFwdIdeal : Cert.CrossFwdIdeal.Facts] [hCrossFwdReferenceIdeal : Cert.CrossFwdReferenceIdeal.Facts] : Prop :=
  ∀ (m : (ℓ : Loc Cert.CrossFwdIdeal.nD Cert.CrossFwdIdeal.τ Cert.CrossFwdIdeal.sig) → Buf (Elt Ideal) ℓ) (g : Dev Cert.CrossFwdIdeal.nD → PrngReg)
    (m' : (ℓ : Loc Cert.CrossFwdReferenceIdeal.nD Cert.CrossFwdReferenceIdeal.τ Cert.CrossFwdReferenceIdeal.sig) → Buf (Elt Ideal) ℓ) (g' : Dev Cert.CrossFwdReferenceIdeal.nD → PrngReg), Pre_CrossFwdIdeal m →
    (∀ c : Dev Cert.CrossFwdIdeal.nD,
      m' ((c.tc : Thread Cert.CrossFwdReferenceIdeal.nD Cert.CrossFwdReferenceIdeal.τ).loc Cert.CrossFwdReferenceIdeal.main_arg0) = m ((c.tc : Thread Cert.CrossFwdIdeal.nD Cert.CrossFwdIdeal.τ).loc Cert.CrossFwdIdeal.main_arg0)
      ∧ m' ((c.tc : Thread Cert.CrossFwdReferenceIdeal.nD Cert.CrossFwdReferenceIdeal.τ).loc Cert.CrossFwdReferenceIdeal.main_arg1) = m ((c.tc : Thread Cert.CrossFwdIdeal.nD Cert.CrossFwdIdeal.τ).loc Cert.CrossFwdIdeal.main_arg1)) →
    ∃ (v0 : (c : Dev Cert.CrossFwdIdeal.nD) → Buf (Elt Ideal) ((c.tc : Thread Cert.CrossFwdIdeal.nD Cert.CrossFwdIdeal.τ).loc Cert.CrossFwdIdeal.main_v0)),
      θ_run (Cert.CrossFwdIdeal.defs (F := Ideal)) (onTc (τ := Cert.CrossFwdIdeal.τ) (Cert.CrossFwdIdeal.main (F := Ideal))) ⟨m, fun _ => 0, g⟩ (fun r => ∀ c : Dev Cert.CrossFwdIdeal.nD,
          r.2.mem ((c.tc : Thread Cert.CrossFwdIdeal.nD Cert.CrossFwdIdeal.τ).loc Cert.CrossFwdIdeal.main_v0) = v0 c
          ∧ r.2.mem ((c.tc : Thread Cert.CrossFwdIdeal.nD Cert.CrossFwdIdeal.τ).loc Cert.CrossFwdIdeal.main_arg0) = m ((c.tc : Thread Cert.CrossFwdIdeal.nD Cert.CrossFwdIdeal.τ).loc Cert.CrossFwdIdeal.main_arg0)
          ∧ r.2.mem ((c.tc : Thread Cert.CrossFwdIdeal.nD Cert.CrossFwdIdeal.τ).loc Cert.CrossFwdIdeal.main_arg1) = m ((c.tc : Thread Cert.CrossFwdIdeal.nD Cert.CrossFwdIdeal.τ).loc Cert.CrossFwdIdeal.main_arg1))
      ∧ θ_run (Cert.CrossFwdReferenceIdeal.defs (F := Ideal)) (onTc (τ := Cert.CrossFwdReferenceIdeal.τ) (Cert.CrossFwdReferenceIdeal.main (F := Ideal))) ⟨m', fun _ => 0, g'⟩ (fun r => ∀ c : Dev Cert.CrossFwdReferenceIdeal.nD,
          r.2.mem ((c.tc : Thread Cert.CrossFwdReferenceIdeal.nD Cert.CrossFwdReferenceIdeal.τ).loc Cert.CrossFwdReferenceIdeal.main_v27) = v0 c
          ∧ r.2.mem ((c.tc : Thread Cert.CrossFwdReferenceIdeal.nD Cert.CrossFwdReferenceIdeal.τ).loc Cert.CrossFwdReferenceIdeal.main_arg0) = m' ((c.tc : Thread Cert.CrossFwdReferenceIdeal.nD Cert.CrossFwdReferenceIdeal.τ).loc Cert.CrossFwdReferenceIdeal.main_arg0)
          ∧ r.2.mem ((c.tc : Thread Cert.CrossFwdReferenceIdeal.nD Cert.CrossFwdReferenceIdeal.τ).loc Cert.CrossFwdReferenceIdeal.main_arg1) = m' ((c.tc : Thread Cert.CrossFwdReferenceIdeal.nD Cert.CrossFwdReferenceIdeal.τ).loc Cert.CrossFwdReferenceIdeal.main_arg1))

def preserves_MixQkv_MixQkvIdeal : Prop :=
  True

def algebraic_MixQkvIdeal_MixQkvReferenceIdeal [hMixQkvIdeal : Cert.MixQkvIdeal.Facts] [hMixQkvReferenceIdeal : Cert.MixQkvReferenceIdeal.Facts] : Prop :=
  ∀ (m : (ℓ : Loc Cert.MixQkvIdeal.nD Cert.MixQkvIdeal.τ Cert.MixQkvIdeal.sig) → Buf (Elt Ideal) ℓ) (g : Dev Cert.MixQkvIdeal.nD → PrngReg)
    (m' : (ℓ : Loc Cert.MixQkvReferenceIdeal.nD Cert.MixQkvReferenceIdeal.τ Cert.MixQkvReferenceIdeal.sig) → Buf (Elt Ideal) ℓ) (g' : Dev Cert.MixQkvReferenceIdeal.nD → PrngReg), Pre_MixQkvIdeal m →
    (∀ c : Dev Cert.MixQkvIdeal.nD,
      m' ((c.tc : Thread Cert.MixQkvReferenceIdeal.nD Cert.MixQkvReferenceIdeal.τ).loc Cert.MixQkvReferenceIdeal.main_arg0) = m ((c.tc : Thread Cert.MixQkvIdeal.nD Cert.MixQkvIdeal.τ).loc Cert.MixQkvIdeal.main_arg0)
      ∧ m' ((c.tc : Thread Cert.MixQkvReferenceIdeal.nD Cert.MixQkvReferenceIdeal.τ).loc Cert.MixQkvReferenceIdeal.main_arg1) = m ((c.tc : Thread Cert.MixQkvIdeal.nD Cert.MixQkvIdeal.τ).loc Cert.MixQkvIdeal.main_arg1)) →
    ∃ (v0 : (c : Dev Cert.MixQkvIdeal.nD) → Buf (Elt Ideal) ((c.tc : Thread Cert.MixQkvIdeal.nD Cert.MixQkvIdeal.τ).loc Cert.MixQkvIdeal.main_v0)),
      θ_run (Cert.MixQkvIdeal.defs (F := Ideal)) (onTc (τ := Cert.MixQkvIdeal.τ) (Cert.MixQkvIdeal.main (F := Ideal))) ⟨m, fun _ => 0, g⟩ (fun r => ∀ c : Dev Cert.MixQkvIdeal.nD,
          r.2.mem ((c.tc : Thread Cert.MixQkvIdeal.nD Cert.MixQkvIdeal.τ).loc Cert.MixQkvIdeal.main_v0) = v0 c
          ∧ r.2.mem ((c.tc : Thread Cert.MixQkvIdeal.nD Cert.MixQkvIdeal.τ).loc Cert.MixQkvIdeal.main_arg0) = m ((c.tc : Thread Cert.MixQkvIdeal.nD Cert.MixQkvIdeal.τ).loc Cert.MixQkvIdeal.main_arg0)
          ∧ r.2.mem ((c.tc : Thread Cert.MixQkvIdeal.nD Cert.MixQkvIdeal.τ).loc Cert.MixQkvIdeal.main_arg1) = m ((c.tc : Thread Cert.MixQkvIdeal.nD Cert.MixQkvIdeal.τ).loc Cert.MixQkvIdeal.main_arg1))
      ∧ θ_run (Cert.MixQkvReferenceIdeal.defs (F := Ideal)) (onTc (τ := Cert.MixQkvReferenceIdeal.τ) (Cert.MixQkvReferenceIdeal.main (F := Ideal))) ⟨m', fun _ => 0, g'⟩ (fun r => ∀ c : Dev Cert.MixQkvReferenceIdeal.nD,
          r.2.mem ((c.tc : Thread Cert.MixQkvReferenceIdeal.nD Cert.MixQkvReferenceIdeal.τ).loc Cert.MixQkvReferenceIdeal.main_v3) = v0 c
          ∧ r.2.mem ((c.tc : Thread Cert.MixQkvReferenceIdeal.nD Cert.MixQkvReferenceIdeal.τ).loc Cert.MixQkvReferenceIdeal.main_arg0) = m' ((c.tc : Thread Cert.MixQkvReferenceIdeal.nD Cert.MixQkvReferenceIdeal.τ).loc Cert.MixQkvReferenceIdeal.main_arg0)
          ∧ r.2.mem ((c.tc : Thread Cert.MixQkvReferenceIdeal.nD Cert.MixQkvReferenceIdeal.τ).loc Cert.MixQkvReferenceIdeal.main_arg1) = m' ((c.tc : Thread Cert.MixQkvReferenceIdeal.nD Cert.MixQkvReferenceIdeal.τ).loc Cert.MixQkvReferenceIdeal.main_arg1))

def preserves_MixAux_MixAuxIdeal : Prop :=
  True

def algebraic_MixAuxIdeal_MixAuxReferenceIdeal [hMixAuxIdeal : Cert.MixAuxIdeal.Facts] [hMixAuxReferenceIdeal : Cert.MixAuxReferenceIdeal.Facts] : Prop :=
  ∀ (m : (ℓ : Loc Cert.MixAuxIdeal.nD Cert.MixAuxIdeal.τ Cert.MixAuxIdeal.sig) → Buf (Elt Ideal) ℓ) (g : Dev Cert.MixAuxIdeal.nD → PrngReg)
    (m' : (ℓ : Loc Cert.MixAuxReferenceIdeal.nD Cert.MixAuxReferenceIdeal.τ Cert.MixAuxReferenceIdeal.sig) → Buf (Elt Ideal) ℓ) (g' : Dev Cert.MixAuxReferenceIdeal.nD → PrngReg), Pre_MixAuxIdeal m →
    (∀ c : Dev Cert.MixAuxIdeal.nD,
      m' ((c.tc : Thread Cert.MixAuxReferenceIdeal.nD Cert.MixAuxReferenceIdeal.τ).loc Cert.MixAuxReferenceIdeal.main_arg0) = m ((c.tc : Thread Cert.MixAuxIdeal.nD Cert.MixAuxIdeal.τ).loc Cert.MixAuxIdeal.main_arg0)
      ∧ m' ((c.tc : Thread Cert.MixAuxReferenceIdeal.nD Cert.MixAuxReferenceIdeal.τ).loc Cert.MixAuxReferenceIdeal.main_arg1) = m ((c.tc : Thread Cert.MixAuxIdeal.nD Cert.MixAuxIdeal.τ).loc Cert.MixAuxIdeal.main_arg1)) →
    ∃ (v0 : (c : Dev Cert.MixAuxIdeal.nD) → Buf (Elt Ideal) ((c.tc : Thread Cert.MixAuxIdeal.nD Cert.MixAuxIdeal.τ).loc Cert.MixAuxIdeal.main_v0)),
      θ_run (Cert.MixAuxIdeal.defs (F := Ideal)) (onTc (τ := Cert.MixAuxIdeal.τ) (Cert.MixAuxIdeal.main (F := Ideal))) ⟨m, fun _ => 0, g⟩ (fun r => ∀ c : Dev Cert.MixAuxIdeal.nD,
          r.2.mem ((c.tc : Thread Cert.MixAuxIdeal.nD Cert.MixAuxIdeal.τ).loc Cert.MixAuxIdeal.main_v0) = v0 c
          ∧ r.2.mem ((c.tc : Thread Cert.MixAuxIdeal.nD Cert.MixAuxIdeal.τ).loc Cert.MixAuxIdeal.main_arg0) = m ((c.tc : Thread Cert.MixAuxIdeal.nD Cert.MixAuxIdeal.τ).loc Cert.MixAuxIdeal.main_arg0)
          ∧ r.2.mem ((c.tc : Thread Cert.MixAuxIdeal.nD Cert.MixAuxIdeal.τ).loc Cert.MixAuxIdeal.main_arg1) = m ((c.tc : Thread Cert.MixAuxIdeal.nD Cert.MixAuxIdeal.τ).loc Cert.MixAuxIdeal.main_arg1))
      ∧ θ_run (Cert.MixAuxReferenceIdeal.defs (F := Ideal)) (onTc (τ := Cert.MixAuxReferenceIdeal.τ) (Cert.MixAuxReferenceIdeal.main (F := Ideal))) ⟨m', fun _ => 0, g'⟩ (fun r => ∀ c : Dev Cert.MixAuxReferenceIdeal.nD,
          r.2.mem ((c.tc : Thread Cert.MixAuxReferenceIdeal.nD Cert.MixAuxReferenceIdeal.τ).loc Cert.MixAuxReferenceIdeal.main_v2) = v0 c
          ∧ r.2.mem ((c.tc : Thread Cert.MixAuxReferenceIdeal.nD Cert.MixAuxReferenceIdeal.τ).loc Cert.MixAuxReferenceIdeal.main_arg0) = m' ((c.tc : Thread Cert.MixAuxReferenceIdeal.nD Cert.MixAuxReferenceIdeal.τ).loc Cert.MixAuxReferenceIdeal.main_arg0)
          ∧ r.2.mem ((c.tc : Thread Cert.MixAuxReferenceIdeal.nD Cert.MixAuxReferenceIdeal.τ).loc Cert.MixAuxReferenceIdeal.main_arg1) = m' ((c.tc : Thread Cert.MixAuxReferenceIdeal.nD Cert.MixAuxReferenceIdeal.τ).loc Cert.MixAuxReferenceIdeal.main_arg1))

def preserves_MixOut_MixOutIdeal : Prop :=
  True

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)
      ∧ m' ((c.tc : Thread Cert.MixOutReferenceIdeal.nD Cert.MixOutReferenceIdeal.τ).loc Cert.MixOutReferenceIdeal.main_arg2) = m ((c.tc : Thread Cert.MixOutIdeal.nD Cert.MixOutIdeal.τ).loc Cert.MixOutIdeal.main_arg2)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v3) = v0 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2))

def preserves_CrossQ_CrossQIdeal : Prop :=
  True

def algebraic_CrossQIdeal_CrossQReferenceIdeal [hCrossQIdeal : Cert.CrossQIdeal.Facts] [hCrossQReferenceIdeal : Cert.CrossQReferenceIdeal.Facts] : Prop :=
  ∀ (m : (ℓ : Loc Cert.CrossQIdeal.nD Cert.CrossQIdeal.τ Cert.CrossQIdeal.sig) → Buf (Elt Ideal) ℓ) (g : Dev Cert.CrossQIdeal.nD → PrngReg)
    (m' : (ℓ : Loc Cert.CrossQReferenceIdeal.nD Cert.CrossQReferenceIdeal.τ Cert.CrossQReferenceIdeal.sig) → Buf (Elt Ideal) ℓ) (g' : Dev Cert.CrossQReferenceIdeal.nD → PrngReg), Pre_CrossQIdeal m →
    (∀ c : Dev Cert.CrossQIdeal.nD,
      m' ((c.tc : Thread Cert.CrossQReferenceIdeal.nD Cert.CrossQReferenceIdeal.τ).loc Cert.CrossQReferenceIdeal.main_arg0) = m ((c.tc : Thread Cert.CrossQIdeal.nD Cert.CrossQIdeal.τ).loc Cert.CrossQIdeal.main_arg0)
      ∧ m' ((c.tc : Thread Cert.CrossQReferenceIdeal.nD Cert.CrossQReferenceIdeal.τ).loc Cert.CrossQReferenceIdeal.main_arg1) = m ((c.tc : Thread Cert.CrossQIdeal.nD Cert.CrossQIdeal.τ).loc Cert.CrossQIdeal.main_arg1)) →
    ∃ (v0 : (c : Dev Cert.CrossQIdeal.nD) → Buf (Elt Ideal) ((c.tc : Thread Cert.CrossQIdeal.nD Cert.CrossQIdeal.τ).loc Cert.CrossQIdeal.main_v0)),
      θ_run (Cert.CrossQIdeal.defs (F := Ideal)) (onTc (τ := Cert.CrossQIdeal.τ) (Cert.CrossQIdeal.main (F := Ideal))) ⟨m, fun _ => 0, g⟩ (fun r => ∀ c : Dev Cert.CrossQIdeal.nD,
          r.2.mem ((c.tc : Thread Cert.CrossQIdeal.nD Cert.CrossQIdeal.τ).loc Cert.CrossQIdeal.main_v0) = v0 c
          ∧ r.2.mem ((c.tc : Thread Cert.CrossQIdeal.nD Cert.CrossQIdeal.τ).loc Cert.CrossQIdeal.main_arg0) = m ((c.tc : Thread Cert.CrossQIdeal.nD Cert.CrossQIdeal.τ).loc Cert.CrossQIdeal.main_arg0)
          ∧ r.2.mem ((c.tc : Thread Cert.CrossQIdeal.nD Cert.CrossQIdeal.τ).loc Cert.CrossQIdeal.main_arg1) = m ((c.tc : Thread Cert.CrossQIdeal.nD Cert.CrossQIdeal.τ).loc Cert.CrossQIdeal.main_arg1))
      ∧ θ_run (Cert.CrossQReferenceIdeal.defs (F := Ideal)) (onTc (τ := Cert.CrossQReferenceIdeal.τ) (Cert.CrossQReferenceIdeal.main (F := Ideal))) ⟨m', fun _ => 0, g'⟩ (fun r => ∀ c : Dev Cert.CrossQReferenceIdeal.nD,
          r.2.mem ((c.tc : Thread Cert.CrossQReferenceIdeal.nD Cert.CrossQReferenceIdeal.τ).loc Cert.CrossQReferenceIdeal.main_v3) = v0 c
          ∧ r.2.mem ((c.tc : Thread Cert.CrossQReferenceIdeal.nD Cert.CrossQReferenceIdeal.τ).loc Cert.CrossQReferenceIdeal.main_arg0) = m' ((c.tc : Thread Cert.CrossQReferenceIdeal.nD Cert.CrossQReferenceIdeal.τ).loc Cert.CrossQReferenceIdeal.main_arg0)
          ∧ r.2.mem ((c.tc : Thread Cert.CrossQReferenceIdeal.nD Cert.CrossQReferenceIdeal.τ).loc Cert.CrossQReferenceIdeal.main_arg1) = m' ((c.tc : Thread Cert.CrossQReferenceIdeal.nD Cert.CrossQReferenceIdeal.τ).loc Cert.CrossQReferenceIdeal.main_arg1))

def preserves_CrossKv_CrossKvIdeal : Prop :=
  True

def algebraic_CrossKvIdeal_CrossKvReferenceIdeal [hCrossKvIdeal : Cert.CrossKvIdeal.Facts] [hCrossKvReferenceIdeal : Cert.CrossKvReferenceIdeal.Facts] : Prop :=
  ∀ (m : (ℓ : Loc Cert.CrossKvIdeal.nD Cert.CrossKvIdeal.τ Cert.CrossKvIdeal.sig) → Buf (Elt Ideal) ℓ) (g : Dev Cert.CrossKvIdeal.nD → PrngReg)
    (m' : (ℓ : Loc Cert.CrossKvReferenceIdeal.nD Cert.CrossKvReferenceIdeal.τ Cert.CrossKvReferenceIdeal.sig) → Buf (Elt Ideal) ℓ) (g' : Dev Cert.CrossKvReferenceIdeal.nD → PrngReg), Pre_CrossKvIdeal m →
    (∀ c : Dev Cert.CrossKvIdeal.nD,
      m' ((c.tc : Thread Cert.CrossKvReferenceIdeal.nD Cert.CrossKvReferenceIdeal.τ).loc Cert.CrossKvReferenceIdeal.main_arg0) = m ((c.tc : Thread Cert.CrossKvIdeal.nD Cert.CrossKvIdeal.τ).loc Cert.CrossKvIdeal.main_arg0)
      ∧ m' ((c.tc : Thread Cert.CrossKvReferenceIdeal.nD Cert.CrossKvReferenceIdeal.τ).loc Cert.CrossKvReferenceIdeal.main_arg1) = m ((c.tc : Thread Cert.CrossKvIdeal.nD Cert.CrossKvIdeal.τ).loc Cert.CrossKvIdeal.main_arg1)) →
    ∃ (v0 : (c : Dev Cert.CrossKvIdeal.nD) → Buf (Elt Ideal) ((c.tc : Thread Cert.CrossKvIdeal.nD Cert.CrossKvIdeal.τ).loc Cert.CrossKvIdeal.main_v0)),
      θ_run (Cert.CrossKvIdeal.defs (F := Ideal)) (onTc (τ := Cert.CrossKvIdeal.τ) (Cert.CrossKvIdeal.main (F := Ideal))) ⟨m, fun _ => 0, g⟩ (fun r => ∀ c : Dev Cert.CrossKvIdeal.nD,
          r.2.mem ((c.tc : Thread Cert.CrossKvIdeal.nD Cert.CrossKvIdeal.τ).loc Cert.CrossKvIdeal.main_v0) = v0 c
          ∧ r.2.mem ((c.tc : Thread Cert.CrossKvIdeal.nD Cert.CrossKvIdeal.τ).loc Cert.CrossKvIdeal.main_arg0) = m ((c.tc : Thread Cert.CrossKvIdeal.nD Cert.CrossKvIdeal.τ).loc Cert.CrossKvIdeal.main_arg0)
          ∧ r.2.mem ((c.tc : Thread Cert.CrossKvIdeal.nD Cert.CrossKvIdeal.τ).loc Cert.CrossKvIdeal.main_arg1) = m ((c.tc : Thread Cert.CrossKvIdeal.nD Cert.CrossKvIdeal.τ).loc Cert.CrossKvIdeal.main_arg1))
      ∧ θ_run (Cert.CrossKvReferenceIdeal.defs (F := Ideal)) (onTc (τ := Cert.CrossKvReferenceIdeal.τ) (Cert.CrossKvReferenceIdeal.main (F := Ideal))) ⟨m', fun _ => 0, g'⟩ (fun r => ∀ c : Dev Cert.CrossKvReferenceIdeal.nD,
          r.2.mem ((c.tc : Thread Cert.CrossKvReferenceIdeal.nD Cert.CrossKvReferenceIdeal.τ).loc Cert.CrossKvReferenceIdeal.main_v3) = v0 c
          ∧ r.2.mem ((c.tc : Thread Cert.CrossKvReferenceIdeal.nD Cert.CrossKvReferenceIdeal.τ).loc Cert.CrossKvReferenceIdeal.main_arg0) = m' ((c.tc : Thread Cert.CrossKvReferenceIdeal.nD Cert.CrossKvReferenceIdeal.τ).loc Cert.CrossKvReferenceIdeal.main_arg0)
          ∧ r.2.mem ((c.tc : Thread Cert.CrossKvReferenceIdeal.nD Cert.CrossKvReferenceIdeal.τ).loc Cert.CrossKvReferenceIdeal.main_arg1) = m' ((c.tc : Thread Cert.CrossKvReferenceIdeal.nD Cert.CrossKvReferenceIdeal.τ).loc Cert.CrossKvReferenceIdeal.main_arg1))

def preserves_CrossOut_CrossOutIdeal : Prop :=
  True

def algebraic_CrossOutIdeal_CrossOutReferenceIdeal [hCrossOutIdeal : Cert.CrossOutIdeal.Facts] [hCrossOutReferenceIdeal : Cert.CrossOutReferenceIdeal.Facts] : Prop :=
  ∀ (m : (ℓ : Loc Cert.CrossOutIdeal.nD Cert.CrossOutIdeal.τ Cert.CrossOutIdeal.sig) → Buf (Elt Ideal) ℓ) (g : Dev Cert.CrossOutIdeal.nD → PrngReg)
    (m' : (ℓ : Loc Cert.CrossOutReferenceIdeal.nD Cert.CrossOutReferenceIdeal.τ Cert.CrossOutReferenceIdeal.sig) → Buf (Elt Ideal) ℓ) (g' : Dev Cert.CrossOutReferenceIdeal.nD → PrngReg), Pre_CrossOutIdeal m →
    (∀ c : Dev Cert.CrossOutIdeal.nD,
      m' ((c.tc : Thread Cert.CrossOutReferenceIdeal.nD Cert.CrossOutReferenceIdeal.τ).loc Cert.CrossOutReferenceIdeal.main_arg0) = m ((c.tc : Thread Cert.CrossOutIdeal.nD Cert.CrossOutIdeal.τ).loc Cert.CrossOutIdeal.main_arg0)
      ∧ m' ((c.tc : Thread Cert.CrossOutReferenceIdeal.nD Cert.CrossOutReferenceIdeal.τ).loc Cert.CrossOutReferenceIdeal.main_arg1) = m ((c.tc : Thread Cert.CrossOutIdeal.nD Cert.CrossOutIdeal.τ).loc Cert.CrossOutIdeal.main_arg1)
      ∧ m' ((c.tc : Thread Cert.CrossOutReferenceIdeal.nD Cert.CrossOutReferenceIdeal.τ).loc Cert.CrossOutReferenceIdeal.main_arg2) = m ((c.tc : Thread Cert.CrossOutIdeal.nD Cert.CrossOutIdeal.τ).loc Cert.CrossOutIdeal.main_arg2)) →
    ∃ (v0 : (c : Dev Cert.CrossOutIdeal.nD) → Buf (Elt Ideal) ((c.tc : Thread Cert.CrossOutIdeal.nD Cert.CrossOutIdeal.τ).loc Cert.CrossOutIdeal.main_v0)),
      θ_run (Cert.CrossOutIdeal.defs (F := Ideal)) (onTc (τ := Cert.CrossOutIdeal.τ) (Cert.CrossOutIdeal.main (F := Ideal))) ⟨m, fun _ => 0, g⟩ (fun r => ∀ c : Dev Cert.CrossOutIdeal.nD,
          r.2.mem ((c.tc : Thread Cert.CrossOutIdeal.nD Cert.CrossOutIdeal.τ).loc Cert.CrossOutIdeal.main_v0) = v0 c
          ∧ r.2.mem ((c.tc : Thread Cert.CrossOutIdeal.nD Cert.CrossOutIdeal.τ).loc Cert.CrossOutIdeal.main_arg0) = m ((c.tc : Thread Cert.CrossOutIdeal.nD Cert.CrossOutIdeal.τ).loc Cert.CrossOutIdeal.main_arg0)
          ∧ r.2.mem ((c.tc : Thread Cert.CrossOutIdeal.nD Cert.CrossOutIdeal.τ).loc Cert.CrossOutIdeal.main_arg1) = m ((c.tc : Thread Cert.CrossOutIdeal.nD Cert.CrossOutIdeal.τ).loc Cert.CrossOutIdeal.main_arg1)
          ∧ r.2.mem ((c.tc : Thread Cert.CrossOutIdeal.nD Cert.CrossOutIdeal.τ).loc Cert.CrossOutIdeal.main_arg2) = m ((c.tc : Thread Cert.CrossOutIdeal.nD Cert.CrossOutIdeal.τ).loc Cert.CrossOutIdeal.main_arg2))
      ∧ θ_run (Cert.CrossOutReferenceIdeal.defs (F := Ideal)) (onTc (τ := Cert.CrossOutReferenceIdeal.τ) (Cert.CrossOutReferenceIdeal.main (F := Ideal))) ⟨m', fun _ => 0, g'⟩ (fun r => ∀ c : Dev Cert.CrossOutReferenceIdeal.nD,
          r.2.mem ((c.tc : Thread Cert.CrossOutReferenceIdeal.nD Cert.CrossOutReferenceIdeal.τ).loc Cert.CrossOutReferenceIdeal.main_v4) = v0 c
          ∧ r.2.mem ((c.tc : Thread Cert.CrossOutReferenceIdeal.nD Cert.CrossOutReferenceIdeal.τ).loc Cert.CrossOutReferenceIdeal.main_arg0) = m' ((c.tc : Thread Cert.CrossOutReferenceIdeal.nD Cert.CrossOutReferenceIdeal.τ).loc Cert.CrossOutReferenceIdeal.main_arg0)
          ∧ r.2.mem ((c.tc : Thread Cert.CrossOutReferenceIdeal.nD Cert.CrossOutReferenceIdeal.τ).loc Cert.CrossOutReferenceIdeal.main_arg1) = m' ((c.tc : Thread Cert.CrossOutReferenceIdeal.nD Cert.CrossOutReferenceIdeal.τ).loc Cert.CrossOutReferenceIdeal.main_arg1)
          ∧ r.2.mem ((c.tc : Thread Cert.CrossOutReferenceIdeal.nD Cert.CrossOutReferenceIdeal.τ).loc Cert.CrossOutReferenceIdeal.main_arg2) = m' ((c.tc : Thread Cert.CrossOutReferenceIdeal.nD Cert.CrossOutReferenceIdeal.τ).loc Cert.CrossOutReferenceIdeal.main_arg2))

def preserves_FfnUp_FfnUpIdeal : Prop :=
  True

def algebraic_FfnUpIdeal_FfnUpReferenceIdeal [hFfnUpIdeal : Cert.FfnUpIdeal.Facts] [hFfnUpReferenceIdeal : Cert.FfnUpReferenceIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpIdeal m →
    (∀ c : Dev Cert.FfnUpIdeal.nD,
      m' ((c.tc : Thread Cert.FfnUpReferenceIdeal.nD Cert.FfnUpReferenceIdeal.τ).loc Cert.FfnUpReferenceIdeal.main_arg0) = m ((c.tc : Thread Cert.FfnUpIdeal.nD Cert.FfnUpIdeal.τ).loc Cert.FfnUpIdeal.main_arg0)
      ∧ m' ((c.tc : Thread Cert.FfnUpReferenceIdeal.nD Cert.FfnUpReferenceIdeal.τ).loc Cert.FfnUpReferenceIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpReferenceIdeal.defs (F := Ideal)) (onTc (τ := Cert.FfnUpReferenceIdeal.τ) (Cert.FfnUpReferenceIdeal.main (F := Ideal))) ⟨m', fun _ => 0, g'⟩ (fun r => ∀ c : Dev Cert.FfnUpReferenceIdeal.nD,
          r.2.mem ((c.tc : Thread Cert.FfnUpReferenceIdeal.nD Cert.FfnUpReferenceIdeal.τ).loc Cert.FfnUpReferenceIdeal.main_v3) = v0 c
          ∧ r.2.mem ((c.tc : Thread Cert.FfnUpReferenceIdeal.nD Cert.FfnUpReferenceIdeal.τ).loc Cert.FfnUpReferenceIdeal.main_arg0) = m' ((c.tc : Thread Cert.FfnUpReferenceIdeal.nD Cert.FfnUpReferenceIdeal.τ).loc Cert.FfnUpReferenceIdeal.main_arg0)
          ∧ r.2.mem ((c.tc : Thread Cert.FfnUpReferenceIdeal.nD Cert.FfnUpReferenceIdeal.τ).loc Cert.FfnUpReferenceIdeal.main_arg1) = m' ((c.tc : Thread Cert.FfnUpReferenceIdeal.nD Cert.FfnUpReferenceIdeal.τ).loc Cert.FfnUpReferenceIdeal.main_arg1))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)
      ∧ m' ((c.tc : Thread Cert.FfnDownReferenceIdeal.nD Cert.FfnDownReferenceIdeal.τ).loc Cert.FfnDownReferenceIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v3) = v0 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1)
          ∧ r.2.mem ((c.tc : Thread Cert.FfnDownReferenceIdeal.nD Cert.FfnDownReferenceIdeal.τ).loc Cert.FfnDownReferenceIdeal.main_arg2) = m' ((c.tc : Thread Cert.FfnDownReferenceIdeal.nD Cert.FfnDownReferenceIdeal.τ).loc Cert.FfnDownReferenceIdeal.main_arg2))

def preserves_GradAct_GradActIdeal : Prop :=
  True

def algebraic_GradActIdeal_GradActReferenceIdeal [hGradActIdeal : Cert.GradActIdeal.Facts] [hGradActReferenceIdeal : Cert.GradActReferenceIdeal.Facts] : Prop :=
  ∀ (m : (ℓ : Loc Cert.GradActIdeal.nD Cert.GradActIdeal.τ Cert.GradActIdeal.sig) → Buf (Elt Ideal) ℓ) (g : Dev Cert.GradActIdeal.nD → PrngReg)
    (m' : (ℓ : Loc Cert.GradActReferenceIdeal.nD Cert.GradActReferenceIdeal.τ Cert.GradActReferenceIdeal.sig) → Buf (Elt Ideal) ℓ) (g' : Dev Cert.GradActReferenceIdeal.nD → PrngReg), Pre_GradActIdeal m →
    (∀ c : Dev Cert.GradActIdeal.nD,
      m' ((c.tc : Thread Cert.GradActReferenceIdeal.nD Cert.GradActReferenceIdeal.τ).loc Cert.GradActReferenceIdeal.main_arg0) = m ((c.tc : Thread Cert.GradActIdeal.nD Cert.GradActIdeal.τ).loc Cert.GradActIdeal.main_arg0)
      ∧ m' ((c.tc : Thread Cert.GradActReferenceIdeal.nD Cert.GradActReferenceIdeal.τ).loc Cert.GradActReferenceIdeal.main_arg1) = m ((c.tc : Thread Cert.GradActIdeal.nD Cert.GradActIdeal.τ).loc Cert.GradActIdeal.main_arg1)) →
    ∃ (v0 : (c : Dev Cert.GradActIdeal.nD) → Buf (Elt Ideal) ((c.tc : Thread Cert.GradActIdeal.nD Cert.GradActIdeal.τ).loc Cert.GradActIdeal.main_v0)),
      θ_run (Cert.GradActIdeal.defs (F := Ideal)) (onTc (τ := Cert.GradActIdeal.τ) (Cert.GradActIdeal.main (F := Ideal))) ⟨m, fun _ => 0, g⟩ (fun r => ∀ c : Dev Cert.GradActIdeal.nD,
          r.2.mem ((c.tc : Thread Cert.GradActIdeal.nD Cert.GradActIdeal.τ).loc Cert.GradActIdeal.main_v0) = v0 c
          ∧ r.2.mem ((c.tc : Thread Cert.GradActIdeal.nD Cert.GradActIdeal.τ).loc Cert.GradActIdeal.main_arg0) = m ((c.tc : Thread Cert.GradActIdeal.nD Cert.GradActIdeal.τ).loc Cert.GradActIdeal.main_arg0)
          ∧ r.2.mem ((c.tc : Thread Cert.GradActIdeal.nD Cert.GradActIdeal.τ).loc Cert.GradActIdeal.main_arg1) = m ((c.tc : Thread Cert.GradActIdeal.nD Cert.GradActIdeal.τ).loc Cert.GradActIdeal.main_arg1))
      ∧ θ_run (Cert.GradActReferenceIdeal.defs (F := Ideal)) (onTc (τ := Cert.GradActReferenceIdeal.τ) (Cert.GradActReferenceIdeal.main (F := Ideal))) ⟨m', fun _ => 0, g'⟩ (fun r => ∀ c : Dev Cert.GradActReferenceIdeal.nD,
          r.2.mem ((c.tc : Thread Cert.GradActReferenceIdeal.nD Cert.GradActReferenceIdeal.τ).loc Cert.GradActReferenceIdeal.main_v2) = v0 c
          ∧ r.2.mem ((c.tc : Thread Cert.GradActReferenceIdeal.nD Cert.GradActReferenceIdeal.τ).loc Cert.GradActReferenceIdeal.main_arg0) = m' ((c.tc : Thread Cert.GradActReferenceIdeal.nD Cert.GradActReferenceIdeal.τ).loc Cert.GradActReferenceIdeal.main_arg0)
          ∧ r.2.mem ((c.tc : Thread Cert.GradActReferenceIdeal.nD Cert.GradActReferenceIdeal.τ).loc Cert.GradActReferenceIdeal.main_arg1) = m' ((c.tc : Thread Cert.GradActReferenceIdeal.nD Cert.GradActReferenceIdeal.τ).loc Cert.GradActReferenceIdeal.main_arg1))

def preserves_GradDown_GradDownIdeal : Prop :=
  True

def algebraic_GradDownIdeal_GradDownReferenceIdeal [hGradDownIdeal : Cert.GradDownIdeal.Facts] [hGradDownReferenceIdeal : Cert.GradDownReferenceIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.GradDownReferenceIdeal.nD Cert.GradDownReferenceIdeal.τ Cert.GradDownReferenceIdeal.sig) → Buf (Elt Ideal) ℓ) (g' : Dev Cert.GradDownReferenceIdeal.nD → PrngReg), Pre_GradDownIdeal m →
    (∀ c : Dev Cert.GradDownIdeal.nD,
      m' ((c.tc : Thread Cert.GradDownReferenceIdeal.nD Cert.GradDownReferenceIdeal.τ).loc Cert.GradDownReferenceIdeal.main_arg0) = m ((c.tc : Thread Cert.GradDownIdeal.nD Cert.GradDownIdeal.τ).loc Cert.GradDownIdeal.main_arg0)
      ∧ m' ((c.tc : Thread Cert.GradDownReferenceIdeal.nD Cert.GradDownReferenceIdeal.τ).loc Cert.GradDownReferenceIdeal.main_arg1) = m ((c.tc : Thread Cert.GradDownIdeal.nD Cert.GradDownIdeal.τ).loc Cert.GradDownIdeal.main_arg1)) →
    ∃ (v0 : (c : Dev Cert.GradDownIdeal.nD) → Buf (Elt Ideal) ((c.tc : Thread Cert.GradDownIdeal.nD Cert.GradDownIdeal.τ).loc Cert.GradDownIdeal.main_v0)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v0) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ θ_run (Cert.GradDownReferenceIdeal.defs (F := Ideal)) (onTc (τ := Cert.GradDownReferenceIdeal.τ) (Cert.GradDownReferenceIdeal.main (F := Ideal))) ⟨m', fun _ => 0, g'⟩ (fun r => ∀ c : Dev Cert.GradDownReferenceIdeal.nD,
          r.2.mem ((c.tc : Thread Cert.GradDownReferenceIdeal.nD Cert.GradDownReferenceIdeal.τ).loc Cert.GradDownReferenceIdeal.main_v3) = v0 c
          ∧ r.2.mem ((c.tc : Thread Cert.GradDownReferenceIdeal.nD Cert.GradDownReferenceIdeal.τ).loc Cert.GradDownReferenceIdeal.main_arg0) = m' ((c.tc : Thread Cert.GradDownReferenceIdeal.nD Cert.GradDownReferenceIdeal.τ).loc Cert.GradDownReferenceIdeal.main_arg0)
          ∧ r.2.mem ((c.tc : Thread Cert.GradDownReferenceIdeal.nD Cert.GradDownReferenceIdeal.τ).loc Cert.GradDownReferenceIdeal.main_arg1) = m' ((c.tc : Thread Cert.GradDownReferenceIdeal.nD Cert.GradDownReferenceIdeal.τ).loc Cert.GradDownReferenceIdeal.main_arg1))

def preserves_GradHalf_GradHalfIdeal : Prop :=
  True

def algebraic_GradHalfIdeal_GradHalfReferenceIdeal [hGradHalfIdeal : Cert.GradHalfIdeal.Facts] [hGradHalfReferenceIdeal : Cert.GradHalfReferenceIdeal.Facts] : Prop :=
  ∀ (m : (ℓ : Loc Cert.GradHalfIdeal.nD Cert.GradHalfIdeal.τ Cert.GradHalfIdeal.sig) → Buf (Elt Ideal) ℓ) (g : Dev Cert.GradHalfIdeal.nD → PrngReg)
    (m' : (ℓ : Loc Cert.GradHalfReferenceIdeal.nD Cert.GradHalfReferenceIdeal.τ Cert.GradHalfReferenceIdeal.sig) → Buf (Elt Ideal) ℓ) (g' : Dev Cert.GradHalfReferenceIdeal.nD → PrngReg), Pre_GradHalfIdeal m →
    (∀ c : Dev Cert.GradHalfIdeal.nD,
      m' ((c.tc : Thread Cert.GradHalfReferenceIdeal.nD Cert.GradHalfReferenceIdeal.τ).loc Cert.GradHalfReferenceIdeal.main_arg0) = m ((c.tc : Thread Cert.GradHalfIdeal.nD Cert.GradHalfIdeal.τ).loc Cert.GradHalfIdeal.main_arg0)
      ∧ m' ((c.tc : Thread Cert.GradHalfReferenceIdeal.nD Cert.GradHalfReferenceIdeal.τ).loc Cert.GradHalfReferenceIdeal.main_arg1) = m ((c.tc : Thread Cert.GradHalfIdeal.nD Cert.GradHalfIdeal.τ).loc Cert.GradHalfIdeal.main_arg1)) →
    ∃ (v0 : (c : Dev Cert.GradHalfIdeal.nD) → Buf (Elt Ideal) ((c.tc : Thread Cert.GradHalfIdeal.nD Cert.GradHalfIdeal.τ).loc Cert.GradHalfIdeal.main_v0)),
      θ_run (Cert.GradHalfIdeal.defs (F := Ideal)) (onTc (τ := Cert.GradHalfIdeal.τ) (Cert.GradHalfIdeal.main (F := Ideal))) ⟨m, fun _ => 0, g⟩ (fun r => ∀ c : Dev Cert.GradHalfIdeal.nD,
          r.2.mem ((c.tc : Thread Cert.GradHalfIdeal.nD Cert.GradHalfIdeal.τ).loc Cert.GradHalfIdeal.main_v0) = v0 c
          ∧ r.2.mem ((c.tc : Thread Cert.GradHalfIdeal.nD Cert.GradHalfIdeal.τ).loc Cert.GradHalfIdeal.main_arg0) = m ((c.tc : Thread Cert.GradHalfIdeal.nD Cert.GradHalfIdeal.τ).loc Cert.GradHalfIdeal.main_arg0)
          ∧ r.2.mem ((c.tc : Thread Cert.GradHalfIdeal.nD Cert.GradHalfIdeal.τ).loc Cert.GradHalfIdeal.main_arg1) = m ((c.tc : Thread Cert.GradHalfIdeal.nD Cert.GradHalfIdeal.τ).loc Cert.GradHalfIdeal.main_arg1))
      ∧ θ_run (Cert.GradHalfReferenceIdeal.defs (F := Ideal)) (onTc (τ := Cert.GradHalfReferenceIdeal.τ) (Cert.GradHalfReferenceIdeal.main (F := Ideal))) ⟨m', fun _ => 0, g'⟩ (fun r => ∀ c : Dev Cert.GradHalfReferenceIdeal.nD,
          r.2.mem ((c.tc : Thread Cert.GradHalfReferenceIdeal.nD Cert.GradHalfReferenceIdeal.τ).loc Cert.GradHalfReferenceIdeal.main_v2) = v0 c
          ∧ r.2.mem ((c.tc : Thread Cert.GradHalfReferenceIdeal.nD Cert.GradHalfReferenceIdeal.τ).loc Cert.GradHalfReferenceIdeal.main_arg0) = m' ((c.tc : Thread Cert.GradHalfReferenceIdeal.nD Cert.GradHalfReferenceIdeal.τ).loc Cert.GradHalfReferenceIdeal.main_arg0)
          ∧ r.2.mem ((c.tc : Thread Cert.GradHalfReferenceIdeal.nD Cert.GradHalfReferenceIdeal.τ).loc Cert.GradHalfReferenceIdeal.main_arg1) = m' ((c.tc : Thread Cert.GradHalfReferenceIdeal.nD Cert.GradHalfReferenceIdeal.τ).loc Cert.GradHalfReferenceIdeal.main_arg1))

def preserves_GradFfn_GradFfnIdeal : Prop :=
  True

def algebraic_GradFfnIdeal_GradFfnReferenceIdeal [hGradFfnIdeal : Cert.GradFfnIdeal.Facts] [hGradFfnReferenceIdeal : Cert.GradFfnReferenceIdeal.Facts] : Prop :=
  ∀ (m : (ℓ : Loc Cert.GradFfnIdeal.nD Cert.GradFfnIdeal.τ Cert.GradFfnIdeal.sig) → Buf (Elt Ideal) ℓ) (g : Dev Cert.GradFfnIdeal.nD → PrngReg)
    (m' : (ℓ : Loc Cert.GradFfnReferenceIdeal.nD Cert.GradFfnReferenceIdeal.τ Cert.GradFfnReferenceIdeal.sig) → Buf (Elt Ideal) ℓ) (g' : Dev Cert.GradFfnReferenceIdeal.nD → PrngReg), Pre_GradFfnIdeal m →
    (∀ c : Dev Cert.GradFfnIdeal.nD,
      m' ((c.tc : Thread Cert.GradFfnReferenceIdeal.nD Cert.GradFfnReferenceIdeal.τ).loc Cert.GradFfnReferenceIdeal.main_arg0) = m ((c.tc : Thread Cert.GradFfnIdeal.nD Cert.GradFfnIdeal.τ).loc Cert.GradFfnIdeal.main_arg0)
      ∧ m' ((c.tc : Thread Cert.GradFfnReferenceIdeal.nD Cert.GradFfnReferenceIdeal.τ).loc Cert.GradFfnReferenceIdeal.main_arg1) = m ((c.tc : Thread Cert.GradFfnIdeal.nD Cert.GradFfnIdeal.τ).loc Cert.GradFfnIdeal.main_arg1)
      ∧ m' ((c.tc : Thread Cert.GradFfnReferenceIdeal.nD Cert.GradFfnReferenceIdeal.τ).loc Cert.GradFfnReferenceIdeal.main_arg2) = m ((c.tc : Thread Cert.GradFfnIdeal.nD Cert.GradFfnIdeal.τ).loc Cert.GradFfnIdeal.main_arg2)) →
    ∃ (v0 : (c : Dev Cert.GradFfnIdeal.nD) → Buf (Elt Ideal) ((c.tc : Thread Cert.GradFfnIdeal.nD Cert.GradFfnIdeal.τ).loc Cert.GradFfnIdeal.main_v0)),
      θ_run (Cert.GradFfnIdeal.defs (F := Ideal)) (onTc (τ := Cert.GradFfnIdeal.τ) (Cert.GradFfnIdeal.main (F := Ideal))) ⟨m, fun _ => 0, g⟩ (fun r => ∀ c : Dev Cert.GradFfnIdeal.nD,
          r.2.mem ((c.tc : Thread Cert.GradFfnIdeal.nD Cert.GradFfnIdeal.τ).loc Cert.GradFfnIdeal.main_v0) = v0 c
          ∧ r.2.mem ((c.tc : Thread Cert.GradFfnIdeal.nD Cert.GradFfnIdeal.τ).loc Cert.GradFfnIdeal.main_arg0) = m ((c.tc : Thread Cert.GradFfnIdeal.nD Cert.GradFfnIdeal.τ).loc Cert.GradFfnIdeal.main_arg0)
          ∧ r.2.mem ((c.tc : Thread Cert.GradFfnIdeal.nD Cert.GradFfnIdeal.τ).loc Cert.GradFfnIdeal.main_arg1) = m ((c.tc : Thread Cert.GradFfnIdeal.nD Cert.GradFfnIdeal.τ).loc Cert.GradFfnIdeal.main_arg1)
          ∧ r.2.mem ((c.tc : Thread Cert.GradFfnIdeal.nD Cert.GradFfnIdeal.τ).loc Cert.GradFfnIdeal.main_arg2) = m ((c.tc : Thread Cert.GradFfnIdeal.nD Cert.GradFfnIdeal.τ).loc Cert.GradFfnIdeal.main_arg2))
      ∧ θ_run (Cert.GradFfnReferenceIdeal.defs (F := Ideal)) (onTc (τ := Cert.GradFfnReferenceIdeal.τ) (Cert.GradFfnReferenceIdeal.main (F := Ideal))) ⟨m', fun _ => 0, g'⟩ (fun r => ∀ c : Dev Cert.GradFfnReferenceIdeal.nD,
          r.2.mem ((c.tc : Thread Cert.GradFfnReferenceIdeal.nD Cert.GradFfnReferenceIdeal.τ).loc Cert.GradFfnReferenceIdeal.main_v3) = v0 c
          ∧ r.2.mem ((c.tc : Thread Cert.GradFfnReferenceIdeal.nD Cert.GradFfnReferenceIdeal.τ).loc Cert.GradFfnReferenceIdeal.main_arg0) = m' ((c.tc : Thread Cert.GradFfnReferenceIdeal.nD Cert.GradFfnReferenceIdeal.τ).loc Cert.GradFfnReferenceIdeal.main_arg0)
          ∧ r.2.mem ((c.tc : Thread Cert.GradFfnReferenceIdeal.nD Cert.GradFfnReferenceIdeal.τ).loc Cert.GradFfnReferenceIdeal.main_arg1) = m' ((c.tc : Thread Cert.GradFfnReferenceIdeal.nD Cert.GradFfnReferenceIdeal.τ).loc Cert.GradFfnReferenceIdeal.main_arg1)
          ∧ r.2.mem ((c.tc : Thread Cert.GradFfnReferenceIdeal.nD Cert.GradFfnReferenceIdeal.τ).loc Cert.GradFfnReferenceIdeal.main_arg2) = m' ((c.tc : Thread Cert.GradFfnReferenceIdeal.nD Cert.GradFfnReferenceIdeal.τ).loc Cert.GradFfnReferenceIdeal.main_arg2))

def preserves_GradUp_GradUpIdeal : Prop :=
  True

def algebraic_GradUpIdeal_GradUpReferenceIdeal [hGradUpIdeal : Cert.GradUpIdeal.Facts] [hGradUpReferenceIdeal : Cert.GradUpReferenceIdeal.Facts] : Prop :=
  ∀ (m : (ℓ : Loc Cert.GradUpIdeal.nD Cert.GradUpIdeal.τ Cert.GradUpIdeal.sig) → Buf (Elt Ideal) ℓ) (g : Dev Cert.GradUpIdeal.nD → PrngReg)
    (m' : (ℓ : Loc Cert.GradUpReferenceIdeal.nD Cert.GradUpReferenceIdeal.τ Cert.GradUpReferenceIdeal.sig) → Buf (Elt Ideal) ℓ) (g' : Dev Cert.GradUpReferenceIdeal.nD → PrngReg), Pre_GradUpIdeal m →
    (∀ c : Dev Cert.GradUpIdeal.nD,
      m' ((c.tc : Thread Cert.GradUpReferenceIdeal.nD Cert.GradUpReferenceIdeal.τ).loc Cert.GradUpReferenceIdeal.main_arg0) = m ((c.tc : Thread Cert.GradUpIdeal.nD Cert.GradUpIdeal.τ).loc Cert.GradUpIdeal.main_arg0)
      ∧ m' ((c.tc : Thread Cert.GradUpReferenceIdeal.nD Cert.GradUpReferenceIdeal.τ).loc Cert.GradUpReferenceIdeal.main_arg1) = m ((c.tc : Thread Cert.GradUpIdeal.nD Cert.GradUpIdeal.τ).loc Cert.GradUpIdeal.main_arg1)) →
    ∃ (v0 : (c : Dev Cert.GradUpIdeal.nD) → Buf (Elt Ideal) ((c.tc : Thread Cert.GradUpIdeal.nD Cert.GradUpIdeal.τ).loc Cert.GradUpIdeal.main_v0)),
      θ_run (Cert.GradUpIdeal.defs (F := Ideal)) (onTc (τ := Cert.GradUpIdeal.τ) (Cert.GradUpIdeal.main (F := Ideal))) ⟨m, fun _ => 0, g⟩ (fun r => ∀ c : Dev Cert.GradUpIdeal.nD,
          r.2.mem ((c.tc : Thread Cert.GradUpIdeal.nD Cert.GradUpIdeal.τ).loc Cert.GradUpIdeal.main_v0) = v0 c
          ∧ r.2.mem ((c.tc : Thread Cert.GradUpIdeal.nD Cert.GradUpIdeal.τ).loc Cert.GradUpIdeal.main_arg0) = m ((c.tc : Thread Cert.GradUpIdeal.nD Cert.GradUpIdeal.τ).loc Cert.GradUpIdeal.main_arg0)
          ∧ r.2.mem ((c.tc : Thread Cert.GradUpIdeal.nD Cert.GradUpIdeal.τ).loc Cert.GradUpIdeal.main_arg1) = m ((c.tc : Thread Cert.GradUpIdeal.nD Cert.GradUpIdeal.τ).loc Cert.GradUpIdeal.main_arg1))
      ∧ θ_run (Cert.GradUpReferenceIdeal.defs (F := Ideal)) (onTc (τ := Cert.GradUpReferenceIdeal.τ) (Cert.GradUpReferenceIdeal.main (F := Ideal))) ⟨m', fun _ => 0, g'⟩ (fun r => ∀ c : Dev Cert.GradUpReferenceIdeal.nD,
          r.2.mem ((c.tc : Thread Cert.GradUpReferenceIdeal.nD Cert.GradUpReferenceIdeal.τ).loc Cert.GradUpReferenceIdeal.main_v4) = v0 c
          ∧ r.2.mem ((c.tc : Thread Cert.GradUpReferenceIdeal.nD Cert.GradUpReferenceIdeal.τ).loc Cert.GradUpReferenceIdeal.main_arg0) = m' ((c.tc : Thread Cert.GradUpReferenceIdeal.nD Cert.GradUpReferenceIdeal.τ).loc Cert.GradUpReferenceIdeal.main_arg0)
          ∧ r.2.mem ((c.tc : Thread Cert.GradUpReferenceIdeal.nD Cert.GradUpReferenceIdeal.τ).loc Cert.GradUpReferenceIdeal.main_arg1) = m' ((c.tc : Thread Cert.GradUpReferenceIdeal.nD Cert.GradUpReferenceIdeal.τ).loc Cert.GradUpReferenceIdeal.main_arg1))

def preserves_GradOc_GradOcIdeal : Prop :=
  True

def algebraic_GradOcIdeal_GradOcReferenceIdeal [hGradOcIdeal : Cert.GradOcIdeal.Facts] [hGradOcReferenceIdeal : Cert.GradOcReferenceIdeal.Facts] : Prop :=
  ∀ (m : (ℓ : Loc Cert.GradOcIdeal.nD Cert.GradOcIdeal.τ Cert.GradOcIdeal.sig) → Buf (Elt Ideal) ℓ) (g : Dev Cert.GradOcIdeal.nD → PrngReg)
    (m' : (ℓ : Loc Cert.GradOcReferenceIdeal.nD Cert.GradOcReferenceIdeal.τ Cert.GradOcReferenceIdeal.sig) → Buf (Elt Ideal) ℓ) (g' : Dev Cert.GradOcReferenceIdeal.nD → PrngReg), Pre_GradOcIdeal m →
    (∀ c : Dev Cert.GradOcIdeal.nD,
      m' ((c.tc : Thread Cert.GradOcReferenceIdeal.nD Cert.GradOcReferenceIdeal.τ).loc Cert.GradOcReferenceIdeal.main_arg0) = m ((c.tc : Thread Cert.GradOcIdeal.nD Cert.GradOcIdeal.τ).loc Cert.GradOcIdeal.main_arg0)
      ∧ m' ((c.tc : Thread Cert.GradOcReferenceIdeal.nD Cert.GradOcReferenceIdeal.τ).loc Cert.GradOcReferenceIdeal.main_arg1) = m ((c.tc : Thread Cert.GradOcIdeal.nD Cert.GradOcIdeal.τ).loc Cert.GradOcIdeal.main_arg1)) →
    ∃ (v0 : (c : Dev Cert.GradOcIdeal.nD) → Buf (Elt Ideal) ((c.tc : Thread Cert.GradOcIdeal.nD Cert.GradOcIdeal.τ).loc Cert.GradOcIdeal.main_v0)),
      θ_run (Cert.GradOcIdeal.defs (F := Ideal)) (onTc (τ := Cert.GradOcIdeal.τ) (Cert.GradOcIdeal.main (F := Ideal))) ⟨m, fun _ => 0, g⟩ (fun r => ∀ c : Dev Cert.GradOcIdeal.nD,
          r.2.mem ((c.tc : Thread Cert.GradOcIdeal.nD Cert.GradOcIdeal.τ).loc Cert.GradOcIdeal.main_v0) = v0 c
          ∧ r.2.mem ((c.tc : Thread Cert.GradOcIdeal.nD Cert.GradOcIdeal.τ).loc Cert.GradOcIdeal.main_arg0) = m ((c.tc : Thread Cert.GradOcIdeal.nD Cert.GradOcIdeal.τ).loc Cert.GradOcIdeal.main_arg0)
          ∧ r.2.mem ((c.tc : Thread Cert.GradOcIdeal.nD Cert.GradOcIdeal.τ).loc Cert.GradOcIdeal.main_arg1) = m ((c.tc : Thread Cert.GradOcIdeal.nD Cert.GradOcIdeal.τ).loc Cert.GradOcIdeal.main_arg1))
      ∧ θ_run (Cert.GradOcReferenceIdeal.defs (F := Ideal)) (onTc (τ := Cert.GradOcReferenceIdeal.τ) (Cert.GradOcReferenceIdeal.main (F := Ideal))) ⟨m', fun _ => 0, g'⟩ (fun r => ∀ c : Dev Cert.GradOcReferenceIdeal.nD,
          r.2.mem ((c.tc : Thread Cert.GradOcReferenceIdeal.nD Cert.GradOcReferenceIdeal.τ).loc Cert.GradOcReferenceIdeal.main_v1) = v0 c
          ∧ r.2.mem ((c.tc : Thread Cert.GradOcReferenceIdeal.nD Cert.GradOcReferenceIdeal.τ).loc Cert.GradOcReferenceIdeal.main_arg0) = m' ((c.tc : Thread Cert.GradOcReferenceIdeal.nD Cert.GradOcReferenceIdeal.τ).loc Cert.GradOcReferenceIdeal.main_arg0)
          ∧ r.2.mem ((c.tc : Thread Cert.GradOcReferenceIdeal.nD Cert.GradOcReferenceIdeal.τ).loc Cert.GradOcReferenceIdeal.main_arg1) = m' ((c.tc : Thread Cert.GradOcReferenceIdeal.nD Cert.GradOcReferenceIdeal.τ).loc Cert.GradOcReferenceIdeal.main_arg1))

def preserves_GradCo_GradCoIdeal : Prop :=
  True

def algebraic_GradCoIdeal_GradCoReferenceIdeal [hGradCoIdeal : Cert.GradCoIdeal.Facts] [hGradCoReferenceIdeal : Cert.GradCoReferenceIdeal.Facts] : Prop :=
  ∀ (m : (ℓ : Loc Cert.GradCoIdeal.nD Cert.GradCoIdeal.τ Cert.GradCoIdeal.sig) → Buf (Elt Ideal) ℓ) (g : Dev Cert.GradCoIdeal.nD → PrngReg)
    (m' : (ℓ : Loc Cert.GradCoReferenceIdeal.nD Cert.GradCoReferenceIdeal.τ Cert.GradCoReferenceIdeal.sig) → Buf (Elt Ideal) ℓ) (g' : Dev Cert.GradCoReferenceIdeal.nD → PrngReg), Pre_GradCoIdeal m →
    (∀ c : Dev Cert.GradCoIdeal.nD,
      m' ((c.tc : Thread Cert.GradCoReferenceIdeal.nD Cert.GradCoReferenceIdeal.τ).loc Cert.GradCoReferenceIdeal.main_arg0) = m ((c.tc : Thread Cert.GradCoIdeal.nD Cert.GradCoIdeal.τ).loc Cert.GradCoIdeal.main_arg0)
      ∧ m' ((c.tc : Thread Cert.GradCoReferenceIdeal.nD Cert.GradCoReferenceIdeal.τ).loc Cert.GradCoReferenceIdeal.main_arg1) = m ((c.tc : Thread Cert.GradCoIdeal.nD Cert.GradCoIdeal.τ).loc Cert.GradCoIdeal.main_arg1)) →
    ∃ (v0 : (c : Dev Cert.GradCoIdeal.nD) → Buf (Elt Ideal) ((c.tc : Thread Cert.GradCoIdeal.nD Cert.GradCoIdeal.τ).loc Cert.GradCoIdeal.main_v0)),
      θ_run (Cert.GradCoIdeal.defs (F := Ideal)) (onTc (τ := Cert.GradCoIdeal.τ) (Cert.GradCoIdeal.main (F := Ideal))) ⟨m, fun _ => 0, g⟩ (fun r => ∀ c : Dev Cert.GradCoIdeal.nD,
          r.2.mem ((c.tc : Thread Cert.GradCoIdeal.nD Cert.GradCoIdeal.τ).loc Cert.GradCoIdeal.main_v0) = v0 c
          ∧ r.2.mem ((c.tc : Thread Cert.GradCoIdeal.nD Cert.GradCoIdeal.τ).loc Cert.GradCoIdeal.main_arg0) = m ((c.tc : Thread Cert.GradCoIdeal.nD Cert.GradCoIdeal.τ).loc Cert.GradCoIdeal.main_arg0)
          ∧ r.2.mem ((c.tc : Thread Cert.GradCoIdeal.nD Cert.GradCoIdeal.τ).loc Cert.GradCoIdeal.main_arg1) = m ((c.tc : Thread Cert.GradCoIdeal.nD Cert.GradCoIdeal.τ).loc Cert.GradCoIdeal.main_arg1))
      ∧ θ_run (Cert.GradCoReferenceIdeal.defs (F := Ideal)) (onTc (τ := Cert.GradCoReferenceIdeal.τ) (Cert.GradCoReferenceIdeal.main (F := Ideal))) ⟨m', fun _ => 0, g'⟩ (fun r => ∀ c : Dev Cert.GradCoReferenceIdeal.nD,
          r.2.mem ((c.tc : Thread Cert.GradCoReferenceIdeal.nD Cert.GradCoReferenceIdeal.τ).loc Cert.GradCoReferenceIdeal.main_v3) = v0 c
          ∧ r.2.mem ((c.tc : Thread Cert.GradCoReferenceIdeal.nD Cert.GradCoReferenceIdeal.τ).loc Cert.GradCoReferenceIdeal.main_arg0) = m' ((c.tc : Thread Cert.GradCoReferenceIdeal.nD Cert.GradCoReferenceIdeal.τ).loc Cert.GradCoReferenceIdeal.main_arg0)
          ∧ r.2.mem ((c.tc : Thread Cert.GradCoReferenceIdeal.nD Cert.GradCoReferenceIdeal.τ).loc Cert.GradCoReferenceIdeal.main_arg1) = m' ((c.tc : Thread Cert.GradCoReferenceIdeal.nD Cert.GradCoReferenceIdeal.τ).loc Cert.GradCoReferenceIdeal.main_arg1))

def preserves_GradHq_GradHqIdeal : Prop :=
  True

def algebraic_GradHqIdeal_GradHqReferenceIdeal [hGradHqIdeal : Cert.GradHqIdeal.Facts] [hGradHqReferenceIdeal : Cert.GradHqReferenceIdeal.Facts] : Prop :=
  ∀ (m : (ℓ : Loc Cert.GradHqIdeal.nD Cert.GradHqIdeal.τ Cert.GradHqIdeal.sig) → Buf (Elt Ideal) ℓ) (g : Dev Cert.GradHqIdeal.nD → PrngReg)
    (m' : (ℓ : Loc Cert.GradHqReferenceIdeal.nD Cert.GradHqReferenceIdeal.τ Cert.GradHqReferenceIdeal.sig) → Buf (Elt Ideal) ℓ) (g' : Dev Cert.GradHqReferenceIdeal.nD → PrngReg), Pre_GradHqIdeal m →
    (∀ c : Dev Cert.GradHqIdeal.nD,
      m' ((c.tc : Thread Cert.GradHqReferenceIdeal.nD Cert.GradHqReferenceIdeal.τ).loc Cert.GradHqReferenceIdeal.main_arg0) = m ((c.tc : Thread Cert.GradHqIdeal.nD Cert.GradHqIdeal.τ).loc Cert.GradHqIdeal.main_arg0)
      ∧ m' ((c.tc : Thread Cert.GradHqReferenceIdeal.nD Cert.GradHqReferenceIdeal.τ).loc Cert.GradHqReferenceIdeal.main_arg1) = m ((c.tc : Thread Cert.GradHqIdeal.nD Cert.GradHqIdeal.τ).loc Cert.GradHqIdeal.main_arg1)) →
    ∃ (v0 : (c : Dev Cert.GradHqIdeal.nD) → Buf (Elt Ideal) ((c.tc : Thread Cert.GradHqIdeal.nD Cert.GradHqIdeal.τ).loc Cert.GradHqIdeal.main_v0)),
      θ_run (Cert.GradHqIdeal.defs (F := Ideal)) (onTc (τ := Cert.GradHqIdeal.τ) (Cert.GradHqIdeal.main (F := Ideal))) ⟨m, fun _ => 0, g⟩ (fun r => ∀ c : Dev Cert.GradHqIdeal.nD,
          r.2.mem ((c.tc : Thread Cert.GradHqIdeal.nD Cert.GradHqIdeal.τ).loc Cert.GradHqIdeal.main_v0) = v0 c
          ∧ r.2.mem ((c.tc : Thread Cert.GradHqIdeal.nD Cert.GradHqIdeal.τ).loc Cert.GradHqIdeal.main_arg0) = m ((c.tc : Thread Cert.GradHqIdeal.nD Cert.GradHqIdeal.τ).loc Cert.GradHqIdeal.main_arg0)
          ∧ r.2.mem ((c.tc : Thread Cert.GradHqIdeal.nD Cert.GradHqIdeal.τ).loc Cert.GradHqIdeal.main_arg1) = m ((c.tc : Thread Cert.GradHqIdeal.nD Cert.GradHqIdeal.τ).loc Cert.GradHqIdeal.main_arg1))
      ∧ θ_run (Cert.GradHqReferenceIdeal.defs (F := Ideal)) (onTc (τ := Cert.GradHqReferenceIdeal.τ) (Cert.GradHqReferenceIdeal.main (F := Ideal))) ⟨m', fun _ => 0, g'⟩ (fun r => ∀ c : Dev Cert.GradHqReferenceIdeal.nD,
          r.2.mem ((c.tc : Thread Cert.GradHqReferenceIdeal.nD Cert.GradHqReferenceIdeal.τ).loc Cert.GradHqReferenceIdeal.main_v3) = v0 c
          ∧ r.2.mem ((c.tc : Thread Cert.GradHqReferenceIdeal.nD Cert.GradHqReferenceIdeal.τ).loc Cert.GradHqReferenceIdeal.main_arg0) = m' ((c.tc : Thread Cert.GradHqReferenceIdeal.nD Cert.GradHqReferenceIdeal.τ).loc Cert.GradHqReferenceIdeal.main_arg0)
          ∧ r.2.mem ((c.tc : Thread Cert.GradHqReferenceIdeal.nD Cert.GradHqReferenceIdeal.τ).loc Cert.GradHqReferenceIdeal.main_arg1) = m' ((c.tc : Thread Cert.GradHqReferenceIdeal.nD Cert.GradHqReferenceIdeal.τ).loc Cert.GradHqReferenceIdeal.main_arg1))

def preserves_GradCq_GradCqIdeal : Prop :=
  True

def algebraic_GradCqIdeal_GradCqReferenceIdeal [hGradCqIdeal : Cert.GradCqIdeal.Facts] [hGradCqReferenceIdeal : Cert.GradCqReferenceIdeal.Facts] : Prop :=
  ∀ (m : (ℓ : Loc Cert.GradCqIdeal.nD Cert.GradCqIdeal.τ Cert.GradCqIdeal.sig) → Buf (Elt Ideal) ℓ) (g : Dev Cert.GradCqIdeal.nD → PrngReg)
    (m' : (ℓ : Loc Cert.GradCqReferenceIdeal.nD Cert.GradCqReferenceIdeal.τ Cert.GradCqReferenceIdeal.sig) → Buf (Elt Ideal) ℓ) (g' : Dev Cert.GradCqReferenceIdeal.nD → PrngReg), Pre_GradCqIdeal m →
    (∀ c : Dev Cert.GradCqIdeal.nD,
      m' ((c.tc : Thread Cert.GradCqReferenceIdeal.nD Cert.GradCqReferenceIdeal.τ).loc Cert.GradCqReferenceIdeal.main_arg0) = m ((c.tc : Thread Cert.GradCqIdeal.nD Cert.GradCqIdeal.τ).loc Cert.GradCqIdeal.main_arg0)
      ∧ m' ((c.tc : Thread Cert.GradCqReferenceIdeal.nD Cert.GradCqReferenceIdeal.τ).loc Cert.GradCqReferenceIdeal.main_arg1) = m ((c.tc : Thread Cert.GradCqIdeal.nD Cert.GradCqIdeal.τ).loc Cert.GradCqIdeal.main_arg1)) →
    ∃ (v0 : (c : Dev Cert.GradCqIdeal.nD) → Buf (Elt Ideal) ((c.tc : Thread Cert.GradCqIdeal.nD Cert.GradCqIdeal.τ).loc Cert.GradCqIdeal.main_v0)),
      θ_run (Cert.GradCqIdeal.defs (F := Ideal)) (onTc (τ := Cert.GradCqIdeal.τ) (Cert.GradCqIdeal.main (F := Ideal))) ⟨m, fun _ => 0, g⟩ (fun r => ∀ c : Dev Cert.GradCqIdeal.nD,
          r.2.mem ((c.tc : Thread Cert.GradCqIdeal.nD Cert.GradCqIdeal.τ).loc Cert.GradCqIdeal.main_v0) = v0 c
          ∧ r.2.mem ((c.tc : Thread Cert.GradCqIdeal.nD Cert.GradCqIdeal.τ).loc Cert.GradCqIdeal.main_arg0) = m ((c.tc : Thread Cert.GradCqIdeal.nD Cert.GradCqIdeal.τ).loc Cert.GradCqIdeal.main_arg0)
          ∧ r.2.mem ((c.tc : Thread Cert.GradCqIdeal.nD Cert.GradCqIdeal.τ).loc Cert.GradCqIdeal.main_arg1) = m ((c.tc : Thread Cert.GradCqIdeal.nD Cert.GradCqIdeal.τ).loc Cert.GradCqIdeal.main_arg1))
      ∧ θ_run (Cert.GradCqReferenceIdeal.defs (F := Ideal)) (onTc (τ := Cert.GradCqReferenceIdeal.τ) (Cert.GradCqReferenceIdeal.main (F := Ideal))) ⟨m', fun _ => 0, g'⟩ (fun r => ∀ c : Dev Cert.GradCqReferenceIdeal.nD,
          r.2.mem ((c.tc : Thread Cert.GradCqReferenceIdeal.nD Cert.GradCqReferenceIdeal.τ).loc Cert.GradCqReferenceIdeal.main_v4) = v0 c
          ∧ r.2.mem ((c.tc : Thread Cert.GradCqReferenceIdeal.nD Cert.GradCqReferenceIdeal.τ).loc Cert.GradCqReferenceIdeal.main_arg0) = m' ((c.tc : Thread Cert.GradCqReferenceIdeal.nD Cert.GradCqReferenceIdeal.τ).loc Cert.GradCqReferenceIdeal.main_arg0)
          ∧ r.2.mem ((c.tc : Thread Cert.GradCqReferenceIdeal.nD Cert.GradCqReferenceIdeal.τ).loc Cert.GradCqReferenceIdeal.main_arg1) = m' ((c.tc : Thread Cert.GradCqReferenceIdeal.nD Cert.GradCqReferenceIdeal.τ).loc Cert.GradCqReferenceIdeal.main_arg1))

def preserves_GradMem_GradMemIdeal : Prop :=
  True

def algebraic_GradMemIdeal_GradMemReferenceIdeal [hGradMemIdeal : Cert.GradMemIdeal.Facts] [hGradMemReferenceIdeal : Cert.GradMemReferenceIdeal.Facts] : Prop :=
  ∀ (m : (ℓ : Loc Cert.GradMemIdeal.nD Cert.GradMemIdeal.τ Cert.GradMemIdeal.sig) → Buf (Elt Ideal) ℓ) (g : Dev Cert.GradMemIdeal.nD → PrngReg)
    (m' : (ℓ : Loc Cert.GradMemReferenceIdeal.nD Cert.GradMemReferenceIdeal.τ Cert.GradMemReferenceIdeal.sig) → Buf (Elt Ideal) ℓ) (g' : Dev Cert.GradMemReferenceIdeal.nD → PrngReg), Pre_GradMemIdeal m →
    (∀ c : Dev Cert.GradMemIdeal.nD,
      m' ((c.tc : Thread Cert.GradMemReferenceIdeal.nD Cert.GradMemReferenceIdeal.τ).loc Cert.GradMemReferenceIdeal.main_arg0) = m ((c.tc : Thread Cert.GradMemIdeal.nD Cert.GradMemIdeal.τ).loc Cert.GradMemIdeal.main_arg0)
      ∧ m' ((c.tc : Thread Cert.GradMemReferenceIdeal.nD Cert.GradMemReferenceIdeal.τ).loc Cert.GradMemReferenceIdeal.main_arg1) = m ((c.tc : Thread Cert.GradMemIdeal.nD Cert.GradMemIdeal.τ).loc Cert.GradMemIdeal.main_arg1)) →
    ∃ (v0 : (c : Dev Cert.GradMemIdeal.nD) → Buf (Elt Ideal) ((c.tc : Thread Cert.GradMemIdeal.nD Cert.GradMemIdeal.τ).loc Cert.GradMemIdeal.main_v0)),
      θ_run (Cert.GradMemIdeal.defs (F := Ideal)) (onTc (τ := Cert.GradMemIdeal.τ) (Cert.GradMemIdeal.main (F := Ideal))) ⟨m, fun _ => 0, g⟩ (fun r => ∀ c : Dev Cert.GradMemIdeal.nD,
          r.2.mem ((c.tc : Thread Cert.GradMemIdeal.nD Cert.GradMemIdeal.τ).loc Cert.GradMemIdeal.main_v0) = v0 c
          ∧ r.2.mem ((c.tc : Thread Cert.GradMemIdeal.nD Cert.GradMemIdeal.τ).loc Cert.GradMemIdeal.main_arg0) = m ((c.tc : Thread Cert.GradMemIdeal.nD Cert.GradMemIdeal.τ).loc Cert.GradMemIdeal.main_arg0)
          ∧ r.2.mem ((c.tc : Thread Cert.GradMemIdeal.nD Cert.GradMemIdeal.τ).loc Cert.GradMemIdeal.main_arg1) = m ((c.tc : Thread Cert.GradMemIdeal.nD Cert.GradMemIdeal.τ).loc Cert.GradMemIdeal.main_arg1))
      ∧ θ_run (Cert.GradMemReferenceIdeal.defs (F := Ideal)) (onTc (τ := Cert.GradMemReferenceIdeal.τ) (Cert.GradMemReferenceIdeal.main (F := Ideal))) ⟨m', fun _ => 0, g'⟩ (fun r => ∀ c : Dev Cert.GradMemReferenceIdeal.nD,
          r.2.mem ((c.tc : Thread Cert.GradMemReferenceIdeal.nD Cert.GradMemReferenceIdeal.τ).loc Cert.GradMemReferenceIdeal.main_v2) = v0 c
          ∧ r.2.mem ((c.tc : Thread Cert.GradMemReferenceIdeal.nD Cert.GradMemReferenceIdeal.τ).loc Cert.GradMemReferenceIdeal.main_arg0) = m' ((c.tc : Thread Cert.GradMemReferenceIdeal.nD Cert.GradMemReferenceIdeal.τ).loc Cert.GradMemReferenceIdeal.main_arg0)
          ∧ r.2.mem ((c.tc : Thread Cert.GradMemReferenceIdeal.nD Cert.GradMemReferenceIdeal.τ).loc Cert.GradMemReferenceIdeal.main_arg1) = m' ((c.tc : Thread Cert.GradMemReferenceIdeal.nD Cert.GradMemReferenceIdeal.τ).loc Cert.GradMemReferenceIdeal.main_arg1))

def preserves_GradCkv_GradCkvIdeal : Prop :=
  True

def algebraic_GradCkvIdeal_GradCkvReferenceIdeal [hGradCkvIdeal : Cert.GradCkvIdeal.Facts] [hGradCkvReferenceIdeal : Cert.GradCkvReferenceIdeal.Facts] : Prop :=
  ∀ (m : (ℓ : Loc Cert.GradCkvIdeal.nD Cert.GradCkvIdeal.τ Cert.GradCkvIdeal.sig) → Buf (Elt Ideal) ℓ) (g : Dev Cert.GradCkvIdeal.nD → PrngReg)
    (m' : (ℓ : Loc Cert.GradCkvReferenceIdeal.nD Cert.GradCkvReferenceIdeal.τ Cert.GradCkvReferenceIdeal.sig) → Buf (Elt Ideal) ℓ) (g' : Dev Cert.GradCkvReferenceIdeal.nD → PrngReg), Pre_GradCkvIdeal m →
    (∀ c : Dev Cert.GradCkvIdeal.nD,
      m' ((c.tc : Thread Cert.GradCkvReferenceIdeal.nD Cert.GradCkvReferenceIdeal.τ).loc Cert.GradCkvReferenceIdeal.main_arg0) = m ((c.tc : Thread Cert.GradCkvIdeal.nD Cert.GradCkvIdeal.τ).loc Cert.GradCkvIdeal.main_arg0)
      ∧ m' ((c.tc : Thread Cert.GradCkvReferenceIdeal.nD Cert.GradCkvReferenceIdeal.τ).loc Cert.GradCkvReferenceIdeal.main_arg1) = m ((c.tc : Thread Cert.GradCkvIdeal.nD Cert.GradCkvIdeal.τ).loc Cert.GradCkvIdeal.main_arg1)) →
    ∃ (v0 : (c : Dev Cert.GradCkvIdeal.nD) → Buf (Elt Ideal) ((c.tc : Thread Cert.GradCkvIdeal.nD Cert.GradCkvIdeal.τ).loc Cert.GradCkvIdeal.main_v0)),
      θ_run (Cert.GradCkvIdeal.defs (F := Ideal)) (onTc (τ := Cert.GradCkvIdeal.τ) (Cert.GradCkvIdeal.main (F := Ideal))) ⟨m, fun _ => 0, g⟩ (fun r => ∀ c : Dev Cert.GradCkvIdeal.nD,
          r.2.mem ((c.tc : Thread Cert.GradCkvIdeal.nD Cert.GradCkvIdeal.τ).loc Cert.GradCkvIdeal.main_v0) = v0 c
          ∧ r.2.mem ((c.tc : Thread Cert.GradCkvIdeal.nD Cert.GradCkvIdeal.τ).loc Cert.GradCkvIdeal.main_arg0) = m ((c.tc : Thread Cert.GradCkvIdeal.nD Cert.GradCkvIdeal.τ).loc Cert.GradCkvIdeal.main_arg0)
          ∧ r.2.mem ((c.tc : Thread Cert.GradCkvIdeal.nD Cert.GradCkvIdeal.τ).loc Cert.GradCkvIdeal.main_arg1) = m ((c.tc : Thread Cert.GradCkvIdeal.nD Cert.GradCkvIdeal.τ).loc Cert.GradCkvIdeal.main_arg1))
      ∧ θ_run (Cert.GradCkvReferenceIdeal.defs (F := Ideal)) (onTc (τ := Cert.GradCkvReferenceIdeal.τ) (Cert.GradCkvReferenceIdeal.main (F := Ideal))) ⟨m', fun _ => 0, g'⟩ (fun r => ∀ c : Dev Cert.GradCkvReferenceIdeal.nD,
          r.2.mem ((c.tc : Thread Cert.GradCkvReferenceIdeal.nD Cert.GradCkvReferenceIdeal.τ).loc Cert.GradCkvReferenceIdeal.main_v3) = v0 c
          ∧ r.2.mem ((c.tc : Thread Cert.GradCkvReferenceIdeal.nD Cert.GradCkvReferenceIdeal.τ).loc Cert.GradCkvReferenceIdeal.main_arg0) = m' ((c.tc : Thread Cert.GradCkvReferenceIdeal.nD Cert.GradCkvReferenceIdeal.τ).loc Cert.GradCkvReferenceIdeal.main_arg0)
          ∧ r.2.mem ((c.tc : Thread Cert.GradCkvReferenceIdeal.nD Cert.GradCkvReferenceIdeal.τ).loc Cert.GradCkvReferenceIdeal.main_arg1) = m' ((c.tc : Thread Cert.GradCkvReferenceIdeal.nD Cert.GradCkvReferenceIdeal.τ).loc Cert.GradCkvReferenceIdeal.main_arg1))

def preserves_GradMixed_GradMixedIdeal : Prop :=
  True

def algebraic_GradMixedIdeal_GradMixedReferenceIdeal [hGradMixedIdeal : Cert.GradMixedIdeal.Facts] [hGradMixedReferenceIdeal : Cert.GradMixedReferenceIdeal.Facts] : Prop :=
  ∀ (m : (ℓ : Loc Cert.GradMixedIdeal.nD Cert.GradMixedIdeal.τ Cert.GradMixedIdeal.sig) → Buf (Elt Ideal) ℓ) (g : Dev Cert.GradMixedIdeal.nD → PrngReg)
    (m' : (ℓ : Loc Cert.GradMixedReferenceIdeal.nD Cert.GradMixedReferenceIdeal.τ Cert.GradMixedReferenceIdeal.sig) → Buf (Elt Ideal) ℓ) (g' : Dev Cert.GradMixedReferenceIdeal.nD → PrngReg), Pre_GradMixedIdeal m →
    (∀ c : Dev Cert.GradMixedIdeal.nD,
      m' ((c.tc : Thread Cert.GradMixedReferenceIdeal.nD Cert.GradMixedReferenceIdeal.τ).loc Cert.GradMixedReferenceIdeal.main_arg0) = m ((c.tc : Thread Cert.GradMixedIdeal.nD Cert.GradMixedIdeal.τ).loc Cert.GradMixedIdeal.main_arg0)
      ∧ m' ((c.tc : Thread Cert.GradMixedReferenceIdeal.nD Cert.GradMixedReferenceIdeal.τ).loc Cert.GradMixedReferenceIdeal.main_arg1) = m ((c.tc : Thread Cert.GradMixedIdeal.nD Cert.GradMixedIdeal.τ).loc Cert.GradMixedIdeal.main_arg1)) →
    ∃ (v0 : (c : Dev Cert.GradMixedIdeal.nD) → Buf (Elt Ideal) ((c.tc : Thread Cert.GradMixedIdeal.nD Cert.GradMixedIdeal.τ).loc Cert.GradMixedIdeal.main_v0)),
      θ_run (Cert.GradMixedIdeal.defs (F := Ideal)) (onTc (τ := Cert.GradMixedIdeal.τ) (Cert.GradMixedIdeal.main (F := Ideal))) ⟨m, fun _ => 0, g⟩ (fun r => ∀ c : Dev Cert.GradMixedIdeal.nD,
          r.2.mem ((c.tc : Thread Cert.GradMixedIdeal.nD Cert.GradMixedIdeal.τ).loc Cert.GradMixedIdeal.main_v0) = v0 c
          ∧ r.2.mem ((c.tc : Thread Cert.GradMixedIdeal.nD Cert.GradMixedIdeal.τ).loc Cert.GradMixedIdeal.main_arg0) = m ((c.tc : Thread Cert.GradMixedIdeal.nD Cert.GradMixedIdeal.τ).loc Cert.GradMixedIdeal.main_arg0)
          ∧ r.2.mem ((c.tc : Thread Cert.GradMixedIdeal.nD Cert.GradMixedIdeal.τ).loc Cert.GradMixedIdeal.main_arg1) = m ((c.tc : Thread Cert.GradMixedIdeal.nD Cert.GradMixedIdeal.τ).loc Cert.GradMixedIdeal.main_arg1))
      ∧ θ_run (Cert.GradMixedReferenceIdeal.defs (F := Ideal)) (onTc (τ := Cert.GradMixedReferenceIdeal.τ) (Cert.GradMixedReferenceIdeal.main (F := Ideal))) ⟨m', fun _ => 0, g'⟩ (fun r => ∀ c : Dev Cert.GradMixedReferenceIdeal.nD,
          r.2.mem ((c.tc : Thread Cert.GradMixedReferenceIdeal.nD Cert.GradMixedReferenceIdeal.τ).loc Cert.GradMixedReferenceIdeal.main_v2) = v0 c
          ∧ r.2.mem ((c.tc : Thread Cert.GradMixedReferenceIdeal.nD Cert.GradMixedReferenceIdeal.τ).loc Cert.GradMixedReferenceIdeal.main_arg0) = m' ((c.tc : Thread Cert.GradMixedReferenceIdeal.nD Cert.GradMixedReferenceIdeal.τ).loc Cert.GradMixedReferenceIdeal.main_arg0)
          ∧ r.2.mem ((c.tc : Thread Cert.GradMixedReferenceIdeal.nD Cert.GradMixedReferenceIdeal.τ).loc Cert.GradMixedReferenceIdeal.main_arg1) = m' ((c.tc : Thread Cert.GradMixedReferenceIdeal.nD Cert.GradMixedReferenceIdeal.τ).loc Cert.GradMixedReferenceIdeal.main_arg1))

def preserves_GradOut_GradOutIdeal : Prop :=
  True

def algebraic_GradOutIdeal_GradOutReferenceIdeal [hGradOutIdeal : Cert.GradOutIdeal.Facts] [hGradOutReferenceIdeal : Cert.GradOutReferenceIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.GradOutReferenceIdeal.nD Cert.GradOutReferenceIdeal.τ Cert.GradOutReferenceIdeal.sig) → Buf (Elt Ideal) ℓ) (g' : Dev Cert.GradOutReferenceIdeal.nD → PrngReg), Pre_GradOutIdeal m →
    (∀ c : Dev Cert.GradOutIdeal.nD,
      m' ((c.tc : Thread Cert.GradOutReferenceIdeal.nD Cert.GradOutReferenceIdeal.τ).loc Cert.GradOutReferenceIdeal.main_arg0) = m ((c.tc : Thread Cert.GradOutIdeal.nD Cert.GradOutIdeal.τ).loc Cert.GradOutIdeal.main_arg0)
      ∧ m' ((c.tc : Thread Cert.GradOutReferenceIdeal.nD Cert.GradOutReferenceIdeal.τ).loc Cert.GradOutReferenceIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.GradOutReferenceIdeal.defs (F := Ideal)) (onTc (τ := Cert.GradOutReferenceIdeal.τ) (Cert.GradOutReferenceIdeal.main (F := Ideal))) ⟨m', fun _ => 0, g'⟩ (fun r => ∀ c : Dev Cert.GradOutReferenceIdeal.nD,
          r.2.mem ((c.tc : Thread Cert.GradOutReferenceIdeal.nD Cert.GradOutReferenceIdeal.τ).loc Cert.GradOutReferenceIdeal.main_v3) = v0 c
          ∧ r.2.mem ((c.tc : Thread Cert.GradOutReferenceIdeal.nD Cert.GradOutReferenceIdeal.τ).loc Cert.GradOutReferenceIdeal.main_arg0) = m' ((c.tc : Thread Cert.GradOutReferenceIdeal.nD Cert.GradOutReferenceIdeal.τ).loc Cert.GradOutReferenceIdeal.main_arg0)
          ∧ r.2.mem ((c.tc : Thread Cert.GradOutReferenceIdeal.nD Cert.GradOutReferenceIdeal.τ).loc Cert.GradOutReferenceIdeal.main_arg1) = m' ((c.tc : Thread Cert.GradOutReferenceIdeal.nD Cert.GradOutReferenceIdeal.τ).loc Cert.GradOutReferenceIdeal.main_arg1))

def preserves_GradMain_GradMainIdeal : Prop :=
  True

def algebraic_GradMainIdeal_GradMainReferenceIdeal [hGradMainIdeal : Cert.GradMainIdeal.Facts] [hGradMainReferenceIdeal : Cert.GradMainReferenceIdeal.Facts] : Prop :=
  ∀ (m : (ℓ : Loc Cert.GradMainIdeal.nD Cert.GradMainIdeal.τ Cert.GradMainIdeal.sig) → Buf (Elt Ideal) ℓ) (g : Dev Cert.GradMainIdeal.nD → PrngReg)
    (m' : (ℓ : Loc Cert.GradMainReferenceIdeal.nD Cert.GradMainReferenceIdeal.τ Cert.GradMainReferenceIdeal.sig) → Buf (Elt Ideal) ℓ) (g' : Dev Cert.GradMainReferenceIdeal.nD → PrngReg), Pre_GradMainIdeal m →
    (∀ c : Dev Cert.GradMainIdeal.nD,
      m' ((c.tc : Thread Cert.GradMainReferenceIdeal.nD Cert.GradMainReferenceIdeal.τ).loc Cert.GradMainReferenceIdeal.main_arg0) = m ((c.tc : Thread Cert.GradMainIdeal.nD Cert.GradMainIdeal.τ).loc Cert.GradMainIdeal.main_arg0)
      ∧ m' ((c.tc : Thread Cert.GradMainReferenceIdeal.nD Cert.GradMainReferenceIdeal.τ).loc Cert.GradMainReferenceIdeal.main_arg1) = m ((c.tc : Thread Cert.GradMainIdeal.nD Cert.GradMainIdeal.τ).loc Cert.GradMainIdeal.main_arg1)) →
    ∃ (v0 : (c : Dev Cert.GradMainIdeal.nD) → Buf (Elt Ideal) ((c.tc : Thread Cert.GradMainIdeal.nD Cert.GradMainIdeal.τ).loc Cert.GradMainIdeal.main_v0)),
      θ_run (Cert.GradMainIdeal.defs (F := Ideal)) (onTc (τ := Cert.GradMainIdeal.τ) (Cert.GradMainIdeal.main (F := Ideal))) ⟨m, fun _ => 0, g⟩ (fun r => ∀ c : Dev Cert.GradMainIdeal.nD,
          r.2.mem ((c.tc : Thread Cert.GradMainIdeal.nD Cert.GradMainIdeal.τ).loc Cert.GradMainIdeal.main_v0) = v0 c
          ∧ r.2.mem ((c.tc : Thread Cert.GradMainIdeal.nD Cert.GradMainIdeal.τ).loc Cert.GradMainIdeal.main_arg0) = m ((c.tc : Thread Cert.GradMainIdeal.nD Cert.GradMainIdeal.τ).loc Cert.GradMainIdeal.main_arg0)
          ∧ r.2.mem ((c.tc : Thread Cert.GradMainIdeal.nD Cert.GradMainIdeal.τ).loc Cert.GradMainIdeal.main_arg1) = m ((c.tc : Thread Cert.GradMainIdeal.nD Cert.GradMainIdeal.τ).loc Cert.GradMainIdeal.main_arg1))
      ∧ θ_run (Cert.GradMainReferenceIdeal.defs (F := Ideal)) (onTc (τ := Cert.GradMainReferenceIdeal.τ) (Cert.GradMainReferenceIdeal.main (F := Ideal))) ⟨m', fun _ => 0, g'⟩ (fun r => ∀ c : Dev Cert.GradMainReferenceIdeal.nD,
          r.2.mem ((c.tc : Thread Cert.GradMainReferenceIdeal.nD Cert.GradMainReferenceIdeal.τ).loc Cert.GradMainReferenceIdeal.main_v3) = v0 c
          ∧ r.2.mem ((c.tc : Thread Cert.GradMainReferenceIdeal.nD Cert.GradMainReferenceIdeal.τ).loc Cert.GradMainReferenceIdeal.main_arg0) = m' ((c.tc : Thread Cert.GradMainReferenceIdeal.nD Cert.GradMainReferenceIdeal.τ).loc Cert.GradMainReferenceIdeal.main_arg0)
          ∧ r.2.mem ((c.tc : Thread Cert.GradMainReferenceIdeal.nD Cert.GradMainReferenceIdeal.τ).loc Cert.GradMainReferenceIdeal.main_arg1) = m' ((c.tc : Thread Cert.GradMainReferenceIdeal.nD Cert.GradMainReferenceIdeal.τ).loc Cert.GradMainReferenceIdeal.main_arg1))

def preserves_GradMix_GradMixIdeal : Prop :=
  True

def algebraic_GradMixIdeal_GradMixReferenceIdeal [hGradMixIdeal : Cert.GradMixIdeal.Facts] [hGradMixReferenceIdeal : Cert.GradMixReferenceIdeal.Facts] : Prop :=
  ∀ (m : (ℓ : Loc Cert.GradMixIdeal.nD Cert.GradMixIdeal.τ Cert.GradMixIdeal.sig) → Buf (Elt Ideal) ℓ) (g : Dev Cert.GradMixIdeal.nD → PrngReg)
    (m' : (ℓ : Loc Cert.GradMixReferenceIdeal.nD Cert.GradMixReferenceIdeal.τ Cert.GradMixReferenceIdeal.sig) → Buf (Elt Ideal) ℓ) (g' : Dev Cert.GradMixReferenceIdeal.nD → PrngReg), Pre_GradMixIdeal m →
    (∀ c : Dev Cert.GradMixIdeal.nD,
      m' ((c.tc : Thread Cert.GradMixReferenceIdeal.nD Cert.GradMixReferenceIdeal.τ).loc Cert.GradMixReferenceIdeal.main_arg0) = m ((c.tc : Thread Cert.GradMixIdeal.nD Cert.GradMixIdeal.τ).loc Cert.GradMixIdeal.main_arg0)
      ∧ m' ((c.tc : Thread Cert.GradMixReferenceIdeal.nD Cert.GradMixReferenceIdeal.τ).loc Cert.GradMixReferenceIdeal.main_arg1) = m ((c.tc : Thread Cert.GradMixIdeal.nD Cert.GradMixIdeal.τ).loc Cert.GradMixIdeal.main_arg1)
      ∧ m' ((c.tc : Thread Cert.GradMixReferenceIdeal.nD Cert.GradMixReferenceIdeal.τ).loc Cert.GradMixReferenceIdeal.main_arg2) = m ((c.tc : Thread Cert.GradMixIdeal.nD Cert.GradMixIdeal.τ).loc Cert.GradMixIdeal.main_arg2)) →
    ∃ (v0 : (c : Dev Cert.GradMixIdeal.nD) → Buf (Elt Ideal) ((c.tc : Thread Cert.GradMixIdeal.nD Cert.GradMixIdeal.τ).loc Cert.GradMixIdeal.main_v0)),
      θ_run (Cert.GradMixIdeal.defs (F := Ideal)) (onTc (τ := Cert.GradMixIdeal.τ) (Cert.GradMixIdeal.main (F := Ideal))) ⟨m, fun _ => 0, g⟩ (fun r => ∀ c : Dev Cert.GradMixIdeal.nD,
          r.2.mem ((c.tc : Thread Cert.GradMixIdeal.nD Cert.GradMixIdeal.τ).loc Cert.GradMixIdeal.main_v0) = v0 c
          ∧ r.2.mem ((c.tc : Thread Cert.GradMixIdeal.nD Cert.GradMixIdeal.τ).loc Cert.GradMixIdeal.main_arg0) = m ((c.tc : Thread Cert.GradMixIdeal.nD Cert.GradMixIdeal.τ).loc Cert.GradMixIdeal.main_arg0)
          ∧ r.2.mem ((c.tc : Thread Cert.GradMixIdeal.nD Cert.GradMixIdeal.τ).loc Cert.GradMixIdeal.main_arg1) = m ((c.tc : Thread Cert.GradMixIdeal.nD Cert.GradMixIdeal.τ).loc Cert.GradMixIdeal.main_arg1)
          ∧ r.2.mem ((c.tc : Thread Cert.GradMixIdeal.nD Cert.GradMixIdeal.τ).loc Cert.GradMixIdeal.main_arg2) = m ((c.tc : Thread Cert.GradMixIdeal.nD Cert.GradMixIdeal.τ).loc Cert.GradMixIdeal.main_arg2))
      ∧ θ_run (Cert.GradMixReferenceIdeal.defs (F := Ideal)) (onTc (τ := Cert.GradMixReferenceIdeal.τ) (Cert.GradMixReferenceIdeal.main (F := Ideal))) ⟨m', fun _ => 0, g'⟩ (fun r => ∀ c : Dev Cert.GradMixReferenceIdeal.nD,
          r.2.mem ((c.tc : Thread Cert.GradMixReferenceIdeal.nD Cert.GradMixReferenceIdeal.τ).loc Cert.GradMixReferenceIdeal.main_v3) = v0 c
          ∧ r.2.mem ((c.tc : Thread Cert.GradMixReferenceIdeal.nD Cert.GradMixReferenceIdeal.τ).loc Cert.GradMixReferenceIdeal.main_arg0) = m' ((c.tc : Thread Cert.GradMixReferenceIdeal.nD Cert.GradMixReferenceIdeal.τ).loc Cert.GradMixReferenceIdeal.main_arg0)
          ∧ r.2.mem ((c.tc : Thread Cert.GradMixReferenceIdeal.nD Cert.GradMixReferenceIdeal.τ).loc Cert.GradMixReferenceIdeal.main_arg1) = m' ((c.tc : Thread Cert.GradMixReferenceIdeal.nD Cert.GradMixReferenceIdeal.τ).loc Cert.GradMixReferenceIdeal.main_arg1)
          ∧ r.2.mem ((c.tc : Thread Cert.GradMixReferenceIdeal.nD Cert.GradMixReferenceIdeal.τ).loc Cert.GradMixReferenceIdeal.main_arg2) = m' ((c.tc : Thread Cert.GradMixReferenceIdeal.nD Cert.GradMixReferenceIdeal.τ).loc Cert.GradMixReferenceIdeal.main_arg2))

def preserves_GradQkv_GradQkvIdeal : Prop :=
  True

def algebraic_GradQkvIdeal_GradQkvReferenceIdeal [hGradQkvIdeal : Cert.GradQkvIdeal.Facts] [hGradQkvReferenceIdeal : Cert.GradQkvReferenceIdeal.Facts] : Prop :=
  ∀ (m : (ℓ : Loc Cert.GradQkvIdeal.nD Cert.GradQkvIdeal.τ Cert.GradQkvIdeal.sig) → Buf (Elt Ideal) ℓ) (g : Dev Cert.GradQkvIdeal.nD → PrngReg)
    (m' : (ℓ : Loc Cert.GradQkvReferenceIdeal.nD Cert.GradQkvReferenceIdeal.τ Cert.GradQkvReferenceIdeal.sig) → Buf (Elt Ideal) ℓ) (g' : Dev Cert.GradQkvReferenceIdeal.nD → PrngReg), Pre_GradQkvIdeal m →
    (∀ c : Dev Cert.GradQkvIdeal.nD,
      m' ((c.tc : Thread Cert.GradQkvReferenceIdeal.nD Cert.GradQkvReferenceIdeal.τ).loc Cert.GradQkvReferenceIdeal.main_arg0) = m ((c.tc : Thread Cert.GradQkvIdeal.nD Cert.GradQkvIdeal.τ).loc Cert.GradQkvIdeal.main_arg0)
      ∧ m' ((c.tc : Thread Cert.GradQkvReferenceIdeal.nD Cert.GradQkvReferenceIdeal.τ).loc Cert.GradQkvReferenceIdeal.main_arg1) = m ((c.tc : Thread Cert.GradQkvIdeal.nD Cert.GradQkvIdeal.τ).loc Cert.GradQkvIdeal.main_arg1)) →
    ∃ (v0 : (c : Dev Cert.GradQkvIdeal.nD) → Buf (Elt Ideal) ((c.tc : Thread Cert.GradQkvIdeal.nD Cert.GradQkvIdeal.τ).loc Cert.GradQkvIdeal.main_v0)),
      θ_run (Cert.GradQkvIdeal.defs (F := Ideal)) (onTc (τ := Cert.GradQkvIdeal.τ) (Cert.GradQkvIdeal.main (F := Ideal))) ⟨m, fun _ => 0, g⟩ (fun r => ∀ c : Dev Cert.GradQkvIdeal.nD,
          r.2.mem ((c.tc : Thread Cert.GradQkvIdeal.nD Cert.GradQkvIdeal.τ).loc Cert.GradQkvIdeal.main_v0) = v0 c
          ∧ r.2.mem ((c.tc : Thread Cert.GradQkvIdeal.nD Cert.GradQkvIdeal.τ).loc Cert.GradQkvIdeal.main_arg0) = m ((c.tc : Thread Cert.GradQkvIdeal.nD Cert.GradQkvIdeal.τ).loc Cert.GradQkvIdeal.main_arg0)
          ∧ r.2.mem ((c.tc : Thread Cert.GradQkvIdeal.nD Cert.GradQkvIdeal.τ).loc Cert.GradQkvIdeal.main_arg1) = m ((c.tc : Thread Cert.GradQkvIdeal.nD Cert.GradQkvIdeal.τ).loc Cert.GradQkvIdeal.main_arg1))
      ∧ θ_run (Cert.GradQkvReferenceIdeal.defs (F := Ideal)) (onTc (τ := Cert.GradQkvReferenceIdeal.τ) (Cert.GradQkvReferenceIdeal.main (F := Ideal))) ⟨m', fun _ => 0, g'⟩ (fun r => ∀ c : Dev Cert.GradQkvReferenceIdeal.nD,
          r.2.mem ((c.tc : Thread Cert.GradQkvReferenceIdeal.nD Cert.GradQkvReferenceIdeal.τ).loc Cert.GradQkvReferenceIdeal.main_v4) = v0 c
          ∧ r.2.mem ((c.tc : Thread Cert.GradQkvReferenceIdeal.nD Cert.GradQkvReferenceIdeal.τ).loc Cert.GradQkvReferenceIdeal.main_arg0) = m' ((c.tc : Thread Cert.GradQkvReferenceIdeal.nD Cert.GradQkvReferenceIdeal.τ).loc Cert.GradQkvReferenceIdeal.main_arg0)
          ∧ r.2.mem ((c.tc : Thread Cert.GradQkvReferenceIdeal.nD Cert.GradQkvReferenceIdeal.τ).loc Cert.GradQkvReferenceIdeal.main_arg1) = m' ((c.tc : Thread Cert.GradQkvReferenceIdeal.nD Cert.GradQkvReferenceIdeal.τ).loc Cert.GradQkvReferenceIdeal.main_arg1))

def preserves_GradAux_GradAuxIdeal : Prop :=
  True

def algebraic_GradAuxIdeal_GradAuxReferenceIdeal [hGradAuxIdeal : Cert.GradAuxIdeal.Facts] [hGradAuxReferenceIdeal : Cert.GradAuxReferenceIdeal.Facts] : Prop :=
  ∀ (m : (ℓ : Loc Cert.GradAuxIdeal.nD Cert.GradAuxIdeal.τ Cert.GradAuxIdeal.sig) → Buf (Elt Ideal) ℓ) (g : Dev Cert.GradAuxIdeal.nD → PrngReg)
    (m' : (ℓ : Loc Cert.GradAuxReferenceIdeal.nD Cert.GradAuxReferenceIdeal.τ Cert.GradAuxReferenceIdeal.sig) → Buf (Elt Ideal) ℓ) (g' : Dev Cert.GradAuxReferenceIdeal.nD → PrngReg), Pre_GradAuxIdeal m →
    (∀ c : Dev Cert.GradAuxIdeal.nD,
      m' ((c.tc : Thread Cert.GradAuxReferenceIdeal.nD Cert.GradAuxReferenceIdeal.τ).loc Cert.GradAuxReferenceIdeal.main_arg0) = m ((c.tc : Thread Cert.GradAuxIdeal.nD Cert.GradAuxIdeal.τ).loc Cert.GradAuxIdeal.main_arg0)
      ∧ m' ((c.tc : Thread Cert.GradAuxReferenceIdeal.nD Cert.GradAuxReferenceIdeal.τ).loc Cert.GradAuxReferenceIdeal.main_arg1) = m ((c.tc : Thread Cert.GradAuxIdeal.nD Cert.GradAuxIdeal.τ).loc Cert.GradAuxIdeal.main_arg1)) →
    ∃ (v0 : (c : Dev Cert.GradAuxIdeal.nD) → Buf (Elt Ideal) ((c.tc : Thread Cert.GradAuxIdeal.nD Cert.GradAuxIdeal.τ).loc Cert.GradAuxIdeal.main_v0)),
      θ_run (Cert.GradAuxIdeal.defs (F := Ideal)) (onTc (τ := Cert.GradAuxIdeal.τ) (Cert.GradAuxIdeal.main (F := Ideal))) ⟨m, fun _ => 0, g⟩ (fun r => ∀ c : Dev Cert.GradAuxIdeal.nD,
          r.2.mem ((c.tc : Thread Cert.GradAuxIdeal.nD Cert.GradAuxIdeal.τ).loc Cert.GradAuxIdeal.main_v0) = v0 c
          ∧ r.2.mem ((c.tc : Thread Cert.GradAuxIdeal.nD Cert.GradAuxIdeal.τ).loc Cert.GradAuxIdeal.main_arg0) = m ((c.tc : Thread Cert.GradAuxIdeal.nD Cert.GradAuxIdeal.τ).loc Cert.GradAuxIdeal.main_arg0)
          ∧ r.2.mem ((c.tc : Thread Cert.GradAuxIdeal.nD Cert.GradAuxIdeal.τ).loc Cert.GradAuxIdeal.main_arg1) = m ((c.tc : Thread Cert.GradAuxIdeal.nD Cert.GradAuxIdeal.τ).loc Cert.GradAuxIdeal.main_arg1))
      ∧ θ_run (Cert.GradAuxReferenceIdeal.defs (F := Ideal)) (onTc (τ := Cert.GradAuxReferenceIdeal.τ) (Cert.GradAuxReferenceIdeal.main (F := Ideal))) ⟨m', fun _ => 0, g'⟩ (fun r => ∀ c : Dev Cert.GradAuxReferenceIdeal.nD,
          r.2.mem ((c.tc : Thread Cert.GradAuxReferenceIdeal.nD Cert.GradAuxReferenceIdeal.τ).loc Cert.GradAuxReferenceIdeal.main_v3) = v0 c
          ∧ r.2.mem ((c.tc : Thread Cert.GradAuxReferenceIdeal.nD Cert.GradAuxReferenceIdeal.τ).loc Cert.GradAuxReferenceIdeal.main_arg0) = m' ((c.tc : Thread Cert.GradAuxReferenceIdeal.nD Cert.GradAuxReferenceIdeal.τ).loc Cert.GradAuxReferenceIdeal.main_arg0)
          ∧ r.2.mem ((c.tc : Thread Cert.GradAuxReferenceIdeal.nD Cert.GradAuxReferenceIdeal.τ).loc Cert.GradAuxReferenceIdeal.main_arg1) = m' ((c.tc : Thread Cert.GradAuxReferenceIdeal.nD Cert.GradAuxReferenceIdeal.τ).loc Cert.GradAuxReferenceIdeal.main_arg1))

def preserves_PairSum_PairSumIdeal : Prop :=
  True

def algebraic_PairSumIdeal_PairSumReferenceIdeal [hPairSumIdeal : Cert.PairSumIdeal.Facts] [hPairSumReferenceIdeal : Cert.PairSumReferenceIdeal.Facts] : Prop :=
  ∀ (m : (ℓ : Loc Cert.PairSumIdeal.nD Cert.PairSumIdeal.τ Cert.PairSumIdeal.sig) → Buf (Elt Ideal) ℓ) (g : Dev Cert.PairSumIdeal.nD → PrngReg)
    (m' : (ℓ : Loc Cert.PairSumReferenceIdeal.nD Cert.PairSumReferenceIdeal.τ Cert.PairSumReferenceIdeal.sig) → Buf (Elt Ideal) ℓ) (g' : Dev Cert.PairSumReferenceIdeal.nD → PrngReg), Pre_PairSumIdeal m →
    (∀ c : Dev Cert.PairSumIdeal.nD,
      m' ((c.tc : Thread Cert.PairSumReferenceIdeal.nD Cert.PairSumReferenceIdeal.τ).loc Cert.PairSumReferenceIdeal.main_arg0) = m ((c.tc : Thread Cert.PairSumIdeal.nD Cert.PairSumIdeal.τ).loc Cert.PairSumIdeal.main_arg0)
      ∧ m' ((c.tc : Thread Cert.PairSumReferenceIdeal.nD Cert.PairSumReferenceIdeal.τ).loc Cert.PairSumReferenceIdeal.main_arg1) = m ((c.tc : Thread Cert.PairSumIdeal.nD Cert.PairSumIdeal.τ).loc Cert.PairSumIdeal.main_arg1)) →
    ∃ (v0 : (c : Dev Cert.PairSumIdeal.nD) → Buf (Elt Ideal) ((c.tc : Thread Cert.PairSumIdeal.nD Cert.PairSumIdeal.τ).loc Cert.PairSumIdeal.main_v0)),
      θ_run (Cert.PairSumIdeal.defs (F := Ideal)) (onTc (τ := Cert.PairSumIdeal.τ) (Cert.PairSumIdeal.main (F := Ideal))) ⟨m, fun _ => 0, g⟩ (fun r => ∀ c : Dev Cert.PairSumIdeal.nD,
          r.2.mem ((c.tc : Thread Cert.PairSumIdeal.nD Cert.PairSumIdeal.τ).loc Cert.PairSumIdeal.main_v0) = v0 c
          ∧ r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
          ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1))
      ∧ θ_run (Cert.PairSumReferenceIdeal.defs (F := Ideal)) (onTc (τ := Cert.PairSumReferenceIdeal.τ) (Cert.PairSumReferenceIdeal.main (F := Ideal))) ⟨m', fun _ => 0, g'⟩ (fun r => ∀ c : Dev Cert.PairSumReferenceIdeal.nD,
          r.2.mem ((c.tc : Thread Cert.PairSumReferenceIdeal.nD Cert.PairSumReferenceIdeal.τ).loc Cert.PairSumReferenceIdeal.main_v3) = v0 c
          ∧ r.2.mem ((c.tc : Thread Cert.PairSumReferenceIdeal.nD Cert.PairSumReferenceIdeal.τ).loc Cert.PairSumReferenceIdeal.main_arg0) = m' ((c.tc : Thread Cert.PairSumReferenceIdeal.nD Cert.PairSumReferenceIdeal.τ).loc Cert.PairSumReferenceIdeal.main_arg0)
          ∧ r.2.mem ((c.tc : Thread Cert.PairSumReferenceIdeal.nD Cert.PairSumReferenceIdeal.τ).loc Cert.PairSumReferenceIdeal.main_arg1) = m' ((c.tc : Thread Cert.PairSumReferenceIdeal.nD Cert.PairSumReferenceIdeal.τ).loc Cert.PairSumReferenceIdeal.main_arg1))

def bitexact_PairSum_PairSumReference [hPairSum : Cert.PairSum.Facts] [hPairSumReference : Cert.PairSumReference.Facts] : Prop :=
  ∀ (m : (ℓ : Loc Cert.PairSum.nD Cert.PairSum.τ Cert.PairSum.sig) → Buf (Elt Bits) ℓ) (g : Dev Cert.PairSum.nD → PrngReg)
    (m' : (ℓ : Loc Cert.PairSumReference.nD Cert.PairSumReference.τ Cert.PairSumReference.sig) → Buf (Elt Bits) ℓ) (g' : Dev Cert.PairSumReference.nD → PrngReg), Pre_PairSum m →
    (∀ c : Dev Cert.PairSum.nD,
      m' ((c.tc : Thread Cert.PairSumReference.nD Cert.PairSumReference.τ).loc Cert.PairSumReference.main_arg0) = m ((c.tc : Thread Cert.PairSum.nD Cert.PairSum.τ).loc Cert.PairSum.main_arg0)
      ∧ m' ((c.tc : Thread Cert.PairSumReference.nD Cert.PairSumReference.τ).loc Cert.PairSumReference.main_arg1) = m ((c.tc : Thread Cert.PairSum.nD Cert.PairSum.τ).loc Cert.PairSum.main_arg1)) →
    ∃ (v0 : (c : Dev Cert.PairSum.nD) → Buf (Elt Bits) ((c.tc : Thread Cert.PairSum.nD Cert.PairSum.τ).loc Cert.PairSum.main_v0)),
      θ_run (Cert.PairSum.defs (F := Bits)) (onTc (τ := Cert.PairSum.τ) (Cert.PairSum.main (F := Bits))) ⟨m, fun _ => 0, g⟩ (fun r => ∀ c : Dev Cert.PairSum.nD,
          r.2.mem ((c.tc : Thread Cert.PairSum.nD Cert.PairSum.τ).loc Cert.PairSum.main_v0) = v0 c
          ∧ r.2.mem ((c.tc : Thread Cert.PairSum.nD Cert.PairSum.τ).loc Cert.PairSum.main_arg0) = m ((c.tc : Thread Cert.PairSum.nD Cert.PairSum.τ).loc Cert.PairSum.main_arg0)
          ∧ r.2.mem ((c.tc : Thread Cert.PairSum.nD Cert.PairSum.τ).loc Cert.PairSum.main_arg1) = m ((c.tc : Thread Cert.PairSum.nD Cert.PairSum.τ).loc Cert.PairSum.main_arg1))
      ∧ θ_run (Cert.PairSumReference.defs (F := Bits)) (onTc (τ := Cert.PairSumReference.τ) (Cert.PairSumReference.main (F := Bits))) ⟨m', fun _ => 0, g'⟩ (fun r => ∀ c : Dev Cert.PairSumReference.nD,
          r.2.mem ((c.tc : Thread Cert.PairSumReference.nD Cert.PairSumReference.τ).loc Cert.PairSumReference.main_v3) = v0 c
          ∧ r.2.mem ((c.tc : Thread Cert.PairSumReference.nD Cert.PairSumReference.τ).loc Cert.PairSumReference.main_arg0) = m' ((c.tc : Thread Cert.PairSumReference.nD Cert.PairSumReference.τ).loc Cert.PairSumReference.main_arg0)
          ∧ r.2.mem ((c.tc : Thread Cert.PairSumReference.nD Cert.PairSumReference.τ).loc Cert.PairSumReference.main_arg1) = m' ((c.tc : Thread Cert.PairSumReference.nD Cert.PairSumReference.τ).loc Cert.PairSumReference.main_arg1))

def preserves_ChipSum_ChipSumIdeal : Prop :=
  True

def algebraic_ChipSumIdeal_ChipSumReferenceIdeal [hChipSumIdeal : Cert.ChipSumIdeal.Facts] [hChipSumReferenceIdeal : Cert.ChipSumReferenceIdeal.Facts] : Prop :=
  ∀ (m : (ℓ : Loc Cert.ChipSumIdeal.nD Cert.ChipSumIdeal.τ Cert.ChipSumIdeal.sig) → Buf (Elt Ideal) ℓ) (g : Dev Cert.ChipSumIdeal.nD → PrngReg)
    (m' : (ℓ : Loc Cert.ChipSumReferenceIdeal.nD Cert.ChipSumReferenceIdeal.τ Cert.ChipSumReferenceIdeal.sig) → Buf (Elt Ideal) ℓ) (g' : Dev Cert.ChipSumReferenceIdeal.nD → PrngReg), Pre_ChipSumIdeal m →
    (∀ c : Dev Cert.ChipSumIdeal.nD,
      m' ((c.tc : Thread Cert.ChipSumReferenceIdeal.nD Cert.ChipSumReferenceIdeal.τ).loc Cert.ChipSumReferenceIdeal.main_arg0) = m ((c.tc : Thread Cert.ChipSumIdeal.nD Cert.ChipSumIdeal.τ).loc Cert.ChipSumIdeal.main_arg0)
      ∧ m' ((c.tc : Thread Cert.ChipSumReferenceIdeal.nD Cert.ChipSumReferenceIdeal.τ).loc Cert.ChipSumReferenceIdeal.main_arg1) = m ((c.tc : Thread Cert.ChipSumIdeal.nD Cert.ChipSumIdeal.τ).loc Cert.ChipSumIdeal.main_arg1)
      ∧ m' ((c.tc : Thread Cert.ChipSumReferenceIdeal.nD Cert.ChipSumReferenceIdeal.τ).loc Cert.ChipSumReferenceIdeal.main_arg2) = m ((c.tc : Thread Cert.ChipSumIdeal.nD Cert.ChipSumIdeal.τ).loc Cert.ChipSumIdeal.main_arg2)
      ∧ m' ((c.tc : Thread Cert.ChipSumReferenceIdeal.nD Cert.ChipSumReferenceIdeal.τ).loc Cert.ChipSumReferenceIdeal.main_arg3) = m ((c.tc : Thread Cert.ChipSumIdeal.nD Cert.ChipSumIdeal.τ).loc Cert.ChipSumIdeal.main_arg3)) →
    ∃ (v0 : (c : Dev Cert.ChipSumIdeal.nD) → Buf (Elt Ideal) ((c.tc : Thread Cert.ChipSumIdeal.nD Cert.ChipSumIdeal.τ).loc Cert.ChipSumIdeal.main_v0)),
      θ_run (Cert.ChipSumIdeal.defs (F := Ideal)) (onTc (τ := Cert.ChipSumIdeal.τ) (Cert.ChipSumIdeal.main (F := Ideal))) ⟨m, fun _ => 0, g⟩ (fun r => ∀ c : Dev Cert.ChipSumIdeal.nD,
          r.2.mem ((c.tc : Thread Cert.ChipSumIdeal.nD Cert.ChipSumIdeal.τ).loc Cert.ChipSumIdeal.main_v0) = v0 c
          ∧ r.2.mem ((c.tc : Thread Cert.ChipSumIdeal.nD Cert.ChipSumIdeal.τ).loc Cert.ChipSumIdeal.main_arg0) = m ((c.tc : Thread Cert.ChipSumIdeal.nD Cert.ChipSumIdeal.τ).loc Cert.ChipSumIdeal.main_arg0)
          ∧ r.2.mem ((c.tc : Thread Cert.ChipSumIdeal.nD Cert.ChipSumIdeal.τ).loc Cert.ChipSumIdeal.main_arg1) = m ((c.tc : Thread Cert.ChipSumIdeal.nD Cert.ChipSumIdeal.τ).loc Cert.ChipSumIdeal.main_arg1)
          ∧ r.2.mem ((c.tc : Thread Cert.ChipSumIdeal.nD Cert.ChipSumIdeal.τ).loc Cert.ChipSumIdeal.main_arg2) = m ((c.tc : Thread Cert.ChipSumIdeal.nD Cert.ChipSumIdeal.τ).loc Cert.ChipSumIdeal.main_arg2)
          ∧ r.2.mem ((c.tc : Thread Cert.ChipSumIdeal.nD Cert.ChipSumIdeal.τ).loc Cert.ChipSumIdeal.main_arg3) = m ((c.tc : Thread Cert.ChipSumIdeal.nD Cert.ChipSumIdeal.τ).loc Cert.ChipSumIdeal.main_arg3))
      ∧ θ_run (Cert.ChipSumReferenceIdeal.defs (F := Ideal)) (onTc (τ := Cert.ChipSumReferenceIdeal.τ) (Cert.ChipSumReferenceIdeal.main (F := Ideal))) ⟨m', fun _ => 0, g'⟩ (fun r => ∀ c : Dev Cert.ChipSumReferenceIdeal.nD,
          r.2.mem ((c.tc : Thread Cert.ChipSumReferenceIdeal.nD Cert.ChipSumReferenceIdeal.τ).loc Cert.ChipSumReferenceIdeal.main_v6) = v0 c
          ∧ r.2.mem ((c.tc : Thread Cert.ChipSumReferenceIdeal.nD Cert.ChipSumReferenceIdeal.τ).loc Cert.ChipSumReferenceIdeal.main_arg0) = m' ((c.tc : Thread Cert.ChipSumReferenceIdeal.nD Cert.ChipSumReferenceIdeal.τ).loc Cert.ChipSumReferenceIdeal.main_arg0)
          ∧ r.2.mem ((c.tc : Thread Cert.ChipSumReferenceIdeal.nD Cert.ChipSumReferenceIdeal.τ).loc Cert.ChipSumReferenceIdeal.main_arg1) = m' ((c.tc : Thread Cert.ChipSumReferenceIdeal.nD Cert.ChipSumReferenceIdeal.τ).loc Cert.ChipSumReferenceIdeal.main_arg1)
          ∧ r.2.mem ((c.tc : Thread Cert.ChipSumReferenceIdeal.nD Cert.ChipSumReferenceIdeal.τ).loc Cert.ChipSumReferenceIdeal.main_arg2) = m' ((c.tc : Thread Cert.ChipSumReferenceIdeal.nD Cert.ChipSumReferenceIdeal.τ).loc Cert.ChipSumReferenceIdeal.main_arg2)
          ∧ r.2.mem ((c.tc : Thread Cert.ChipSumReferenceIdeal.nD Cert.ChipSumReferenceIdeal.τ).loc Cert.ChipSumReferenceIdeal.main_arg3) = m' ((c.tc : Thread Cert.ChipSumReferenceIdeal.nD Cert.ChipSumReferenceIdeal.τ).loc Cert.ChipSumReferenceIdeal.main_arg3))

def bitexact_ChipSum_ChipSumReference [hChipSum : Cert.ChipSum.Facts] [hChipSumReference : Cert.ChipSumReference.Facts] : Prop :=
  ∀ (m : (ℓ : Loc Cert.ChipSum.nD Cert.ChipSum.τ Cert.ChipSum.sig) → Buf (Elt Bits) ℓ) (g : Dev Cert.ChipSum.nD → PrngReg)
    (m' : (ℓ : Loc Cert.ChipSumReference.nD Cert.ChipSumReference.τ Cert.ChipSumReference.sig) → Buf (Elt Bits) ℓ) (g' : Dev Cert.ChipSumReference.nD → PrngReg), Pre_ChipSum m →
    (∀ c : Dev Cert.ChipSum.nD,
      m' ((c.tc : Thread Cert.ChipSumReference.nD Cert.ChipSumReference.τ).loc Cert.ChipSumReference.main_arg0) = m ((c.tc : Thread Cert.ChipSum.nD Cert.ChipSum.τ).loc Cert.ChipSum.main_arg0)
      ∧ m' ((c.tc : Thread Cert.ChipSumReference.nD Cert.ChipSumReference.τ).loc Cert.ChipSumReference.main_arg1) = m ((c.tc : Thread Cert.ChipSum.nD Cert.ChipSum.τ).loc Cert.ChipSum.main_arg1)
      ∧ m' ((c.tc : Thread Cert.ChipSumReference.nD Cert.ChipSumReference.τ).loc Cert.ChipSumReference.main_arg2) = m ((c.tc : Thread Cert.ChipSum.nD Cert.ChipSum.τ).loc Cert.ChipSum.main_arg2)
      ∧ m' ((c.tc : Thread Cert.ChipSumReference.nD Cert.ChipSumReference.τ).loc Cert.ChipSumReference.main_arg3) = m ((c.tc : Thread Cert.ChipSum.nD Cert.ChipSum.τ).loc Cert.ChipSum.main_arg3)) →
    ∃ (v0 : (c : Dev Cert.ChipSum.nD) → Buf (Elt Bits) ((c.tc : Thread Cert.ChipSum.nD Cert.ChipSum.τ).loc Cert.ChipSum.main_v0)),
      θ_run (Cert.ChipSum.defs (F := Bits)) (onTc (τ := Cert.ChipSum.τ) (Cert.ChipSum.main (F := Bits))) ⟨m, fun _ => 0, g⟩ (fun r => ∀ c : Dev Cert.ChipSum.nD,
          r.2.mem ((c.tc : Thread Cert.ChipSum.nD Cert.ChipSum.τ).loc Cert.ChipSum.main_v0) = v0 c
          ∧ r.2.mem ((c.tc : Thread Cert.ChipSum.nD Cert.ChipSum.τ).loc Cert.ChipSum.main_arg0) = m ((c.tc : Thread Cert.ChipSum.nD Cert.ChipSum.τ).loc Cert.ChipSum.main_arg0)
          ∧ r.2.mem ((c.tc : Thread Cert.ChipSum.nD Cert.ChipSum.τ).loc Cert.ChipSum.main_arg1) = m ((c.tc : Thread Cert.ChipSum.nD Cert.ChipSum.τ).loc Cert.ChipSum.main_arg1)
          ∧ r.2.mem ((c.tc : Thread Cert.ChipSum.nD Cert.ChipSum.τ).loc Cert.ChipSum.main_arg2) = m ((c.tc : Thread Cert.ChipSum.nD Cert.ChipSum.τ).loc Cert.ChipSum.main_arg2)
          ∧ r.2.mem ((c.tc : Thread Cert.ChipSum.nD Cert.ChipSum.τ).loc Cert.ChipSum.main_arg3) = m ((c.tc : Thread Cert.ChipSum.nD Cert.ChipSum.τ).loc Cert.ChipSum.main_arg3))
      ∧ θ_run (Cert.ChipSumReference.defs (F := Bits)) (onTc (τ := Cert.ChipSumReference.τ) (Cert.ChipSumReference.main (F := Bits))) ⟨m', fun _ => 0, g'⟩ (fun r => ∀ c : Dev Cert.ChipSumReference.nD,
          r.2.mem ((c.tc : Thread Cert.ChipSumReference.nD Cert.ChipSumReference.τ).loc Cert.ChipSumReference.main_v6) = v0 c
          ∧ r.2.mem ((c.tc : Thread Cert.ChipSumReference.nD Cert.ChipSumReference.τ).loc Cert.ChipSumReference.main_arg0) = m' ((c.tc : Thread Cert.ChipSumReference.nD Cert.ChipSumReference.τ).loc Cert.ChipSumReference.main_arg0)
          ∧ r.2.mem ((c.tc : Thread Cert.ChipSumReference.nD Cert.ChipSumReference.τ).loc Cert.ChipSumReference.main_arg1) = m' ((c.tc : Thread Cert.ChipSumReference.nD Cert.ChipSumReference.τ).loc Cert.ChipSumReference.main_arg1)
          ∧ r.2.mem ((c.tc : Thread Cert.ChipSumReference.nD Cert.ChipSumReference.τ).loc Cert.ChipSumReference.main_arg2) = m' ((c.tc : Thread Cert.ChipSumReference.nD Cert.ChipSumReference.τ).loc Cert.ChipSumReference.main_arg2)
          ∧ r.2.mem ((c.tc : Thread Cert.ChipSumReference.nD Cert.ChipSumReference.τ).loc Cert.ChipSumReference.main_arg3) = m' ((c.tc : Thread Cert.ChipSumReference.nD Cert.ChipSumReference.τ).loc Cert.ChipSumReference.main_arg3))

def preserves_NormMix_NormMixIdeal : Prop :=
  True

def algebraic_NormMixIdeal_NormMixReferenceIdeal [hNormMixIdeal : Cert.NormMixIdeal.Facts] [hNormMixReferenceIdeal : Cert.NormMixReferenceIdeal.Facts] : Prop :=
  ∀ (m : (ℓ : Loc Cert.NormMixIdeal.nD Cert.NormMixIdeal.τ Cert.NormMixIdeal.sig) → Buf (Elt Ideal) ℓ) (g : Dev Cert.NormMixIdeal.nD → PrngReg)
    (m' : (ℓ : Loc Cert.NormMixReferenceIdeal.nD Cert.NormMixReferenceIdeal.τ Cert.NormMixReferenceIdeal.sig) → Buf (Elt Ideal) ℓ) (g' : Dev Cert.NormMixReferenceIdeal.nD → PrngReg), Pre_NormMixIdeal m →
    (∀ c : Dev Cert.NormMixIdeal.nD,
      m' ((c.tc : Thread Cert.NormMixReferenceIdeal.nD Cert.NormMixReferenceIdeal.τ).loc Cert.NormMixReferenceIdeal.main_arg0) = m ((c.tc : Thread Cert.NormMixIdeal.nD Cert.NormMixIdeal.τ).loc Cert.NormMixIdeal.main_arg0)
      ∧ m' ((c.tc : Thread Cert.NormMixReferenceIdeal.nD Cert.NormMixReferenceIdeal.τ).loc Cert.NormMixReferenceIdeal.main_arg1) = m ((c.tc : Thread Cert.NormMixIdeal.nD Cert.NormMixIdeal.τ).loc Cert.NormMixIdeal.main_arg1)) →
    ∃ (v0 : (c : Dev Cert.NormMixIdeal.nD) → Buf (Elt Ideal) ((c.tc : Thread Cert.NormMixIdeal.nD Cert.NormMixIdeal.τ).loc Cert.NormMixIdeal.main_v0)),
      θ_run (Cert.NormMixIdeal.defs (F := Ideal)) (onTc (τ := Cert.NormMixIdeal.τ) (Cert.NormMixIdeal.main (F := Ideal))) ⟨m, fun _ => 0, g⟩ (fun r => ∀ c : Dev Cert.NormMixIdeal.nD,
          r.2.mem ((c.tc : Thread Cert.NormMixIdeal.nD Cert.NormMixIdeal.τ).loc Cert.NormMixIdeal.main_v0) = v0 c
          ∧ r.2.mem ((c.tc : Thread Cert.NormMixIdeal.nD Cert.NormMixIdeal.τ).loc Cert.NormMixIdeal.main_arg0) = m ((c.tc : Thread Cert.NormMixIdeal.nD Cert.NormMixIdeal.τ).loc Cert.NormMixIdeal.main_arg0)
          ∧ r.2.mem ((c.tc : Thread Cert.NormMixIdeal.nD Cert.NormMixIdeal.τ).loc Cert.NormMixIdeal.main_arg1) = m ((c.tc : Thread Cert.NormMixIdeal.nD Cert.NormMixIdeal.τ).loc Cert.NormMixIdeal.main_arg1))
      ∧ θ_run (Cert.NormMixReferenceIdeal.defs (F := Ideal)) (onTc (τ := Cert.NormMixReferenceIdeal.τ) (Cert.NormMixReferenceIdeal.main (F := Ideal))) ⟨m', fun _ => 0, g'⟩ (fun r => ∀ c : Dev Cert.NormMixReferenceIdeal.nD,
          r.2.mem ((c.tc : Thread Cert.NormMixReferenceIdeal.nD Cert.NormMixReferenceIdeal.τ).loc Cert.NormMixReferenceIdeal.main_v12) = v0 c
          ∧ r.2.mem ((c.tc : Thread Cert.NormMixReferenceIdeal.nD Cert.NormMixReferenceIdeal.τ).loc Cert.NormMixReferenceIdeal.main_arg0) = m' ((c.tc : Thread Cert.NormMixReferenceIdeal.nD Cert.NormMixReferenceIdeal.τ).loc Cert.NormMixReferenceIdeal.main_arg0)
          ∧ r.2.mem ((c.tc : Thread Cert.NormMixReferenceIdeal.nD Cert.NormMixReferenceIdeal.τ).loc Cert.NormMixReferenceIdeal.main_arg1) = m' ((c.tc : Thread Cert.NormMixReferenceIdeal.nD Cert.NormMixReferenceIdeal.τ).loc Cert.NormMixReferenceIdeal.main_arg1))

def preserves_NormMem_NormMemIdeal : Prop :=
  True

def algebraic_NormMemIdeal_NormMemReferenceIdeal [hNormMemIdeal : Cert.NormMemIdeal.Facts] [hNormMemReferenceIdeal : Cert.NormMemReferenceIdeal.Facts] : Prop :=
  ∀ (m : (ℓ : Loc Cert.NormMemIdeal.nD Cert.NormMemIdeal.τ Cert.NormMemIdeal.sig) → Buf (Elt Ideal) ℓ) (g : Dev Cert.NormMemIdeal.nD → PrngReg)
    (m' : (ℓ : Loc Cert.NormMemReferenceIdeal.nD Cert.NormMemReferenceIdeal.τ Cert.NormMemReferenceIdeal.sig) → Buf (Elt Ideal) ℓ) (g' : Dev Cert.NormMemReferenceIdeal.nD → PrngReg), Pre_NormMemIdeal m →
    (∀ c : Dev Cert.NormMemIdeal.nD,
      m' ((c.tc : Thread Cert.NormMemReferenceIdeal.nD Cert.NormMemReferenceIdeal.τ).loc Cert.NormMemReferenceIdeal.main_arg0) = m ((c.tc : Thread Cert.NormMemIdeal.nD Cert.NormMemIdeal.τ).loc Cert.NormMemIdeal.main_arg0)
      ∧ m' ((c.tc : Thread Cert.NormMemReferenceIdeal.nD Cert.NormMemReferenceIdeal.τ).loc Cert.NormMemReferenceIdeal.main_arg1) = m ((c.tc : Thread Cert.NormMemIdeal.nD Cert.NormMemIdeal.τ).loc Cert.NormMemIdeal.main_arg1)) →
    ∃ (v0 : (c : Dev Cert.NormMemIdeal.nD) → Buf (Elt Ideal) ((c.tc : Thread Cert.NormMemIdeal.nD Cert.NormMemIdeal.τ).loc Cert.NormMemIdeal.main_v0)),
      θ_run (Cert.NormMemIdeal.defs (F := Ideal)) (onTc (τ := Cert.NormMemIdeal.τ) (Cert.NormMemIdeal.main (F := Ideal))) ⟨m, fun _ => 0, g⟩ (fun r => ∀ c : Dev Cert.NormMemIdeal.nD,
          r.2.mem ((c.tc : Thread Cert.NormMemIdeal.nD Cert.NormMemIdeal.τ).loc Cert.NormMemIdeal.main_v0) = v0 c
          ∧ r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
          ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1))
      ∧ θ_run (Cert.NormMemReferenceIdeal.defs (F := Ideal)) (onTc (τ := Cert.NormMemReferenceIdeal.τ) (Cert.NormMemReferenceIdeal.main (F := Ideal))) ⟨m', fun _ => 0, g'⟩ (fun r => ∀ c : Dev Cert.NormMemReferenceIdeal.nD,
          r.2.mem ((c.tc : Thread Cert.NormMemReferenceIdeal.nD Cert.NormMemReferenceIdeal.τ).loc Cert.NormMemReferenceIdeal.main_v12) = v0 c
          ∧ r.2.mem ((c.tc : Thread Cert.NormMemReferenceIdeal.nD Cert.NormMemReferenceIdeal.τ).loc Cert.NormMemReferenceIdeal.main_arg0) = m' ((c.tc : Thread Cert.NormMemReferenceIdeal.nD Cert.NormMemReferenceIdeal.τ).loc Cert.NormMemReferenceIdeal.main_arg0)
          ∧ r.2.mem ((c.tc : Thread Cert.NormMemReferenceIdeal.nD Cert.NormMemReferenceIdeal.τ).loc Cert.NormMemReferenceIdeal.main_arg1) = m' ((c.tc : Thread Cert.NormMemReferenceIdeal.nD Cert.NormMemReferenceIdeal.τ).loc Cert.NormMemReferenceIdeal.main_arg1))

def preserves_Band0_Band0Ideal : Prop :=
  IdealRules.named_const.Statement Cert.Band0Ideal.κ "mask" .f32 0xF149F2CA#32 ⊥

def algebraic_Band0Ideal_Band0ReferenceIdeal [hBand0Ideal : Cert.Band0Ideal.Facts] [hBand0ReferenceIdeal : Cert.Band0ReferenceIdeal.Facts] : Prop :=
  ∀ (m : (ℓ : Loc Cert.Band0Ideal.nD Cert.Band0Ideal.τ Cert.Band0Ideal.sig) → Buf (Elt Ideal) ℓ) (g : Dev Cert.Band0Ideal.nD → PrngReg)
    (m' : (ℓ : Loc Cert.Band0ReferenceIdeal.nD Cert.Band0ReferenceIdeal.τ Cert.Band0ReferenceIdeal.sig) → Buf (Elt Ideal) ℓ) (g' : Dev Cert.Band0ReferenceIdeal.nD → PrngReg), Pre_Band0Ideal m →
    (∀ c : Dev Cert.Band0Ideal.nD,
      m' ((c.tc : Thread Cert.Band0ReferenceIdeal.nD Cert.Band0ReferenceIdeal.τ).loc Cert.Band0ReferenceIdeal.main_arg0) = m ((c.tc : Thread Cert.Band0Ideal.nD Cert.Band0Ideal.τ).loc Cert.Band0Ideal.main_arg0)
      ∧ m' ((c.tc : Thread Cert.Band0ReferenceIdeal.nD Cert.Band0ReferenceIdeal.τ).loc Cert.Band0ReferenceIdeal.main_arg1) = m ((c.tc : Thread Cert.Band0Ideal.nD Cert.Band0Ideal.τ).loc Cert.Band0Ideal.main_arg1)) →
    ∃ (v0 : (c : Dev Cert.Band0Ideal.nD) → Buf (Elt Ideal) ((c.tc : Thread Cert.Band0Ideal.nD Cert.Band0Ideal.τ).loc Cert.Band0Ideal.main_v0_0)) (v1 : (c : Dev Cert.Band0Ideal.nD) → Buf (Elt Ideal) ((c.tc : Thread Cert.Band0Ideal.nD Cert.Band0Ideal.τ).loc Cert.Band0Ideal.main_v0_1)),
      θ_run (Cert.Band0Ideal.defs (F := Ideal)) (onTc (τ := Cert.Band0Ideal.τ) (Cert.Band0Ideal.main (F := Ideal))) ⟨m, fun _ => 0, g⟩ (fun r => ∀ c : Dev Cert.Band0Ideal.nD,
          r.2.mem ((c.tc : Thread Cert.Band0Ideal.nD Cert.Band0Ideal.τ).loc Cert.Band0Ideal.main_v0_0) = v0 c
          ∧ r.2.mem ((c.tc : Thread Cert.Band0Ideal.nD Cert.Band0Ideal.τ).loc Cert.Band0Ideal.main_v0_1) = v1 c
          ∧ r.2.mem ((c.tc : Thread Cert.Band0Ideal.nD Cert.Band0Ideal.τ).loc Cert.Band0Ideal.main_arg0) = m ((c.tc : Thread Cert.Band0Ideal.nD Cert.Band0Ideal.τ).loc Cert.Band0Ideal.main_arg0)
          ∧ r.2.mem ((c.tc : Thread Cert.Band0Ideal.nD Cert.Band0Ideal.τ).loc Cert.Band0Ideal.main_arg1) = m ((c.tc : Thread Cert.Band0Ideal.nD Cert.Band0Ideal.τ).loc Cert.Band0Ideal.main_arg1))
      ∧ θ_run (Cert.Band0ReferenceIdeal.defs (F := Ideal)) (onTc (τ := Cert.Band0ReferenceIdeal.τ) (Cert.Band0ReferenceIdeal.main (F := Ideal))) ⟨m', fun _ => 0, g'⟩ (fun r => ∀ c : Dev Cert.Band0ReferenceIdeal.nD,
          r.2.mem ((c.tc : Thread Cert.Band0ReferenceIdeal.nD Cert.Band0ReferenceIdeal.τ).loc Cert.Band0ReferenceIdeal.main_v77) = v0 c
          ∧ r.2.mem ((c.tc : Thread Cert.Band0ReferenceIdeal.nD Cert.Band0ReferenceIdeal.τ).loc Cert.Band0ReferenceIdeal.main_v79) = v1 c
          ∧ r.2.mem ((c.tc : Thread Cert.Band0ReferenceIdeal.nD Cert.Band0ReferenceIdeal.τ).loc Cert.Band0ReferenceIdeal.main_arg0) = m' ((c.tc : Thread Cert.Band0ReferenceIdeal.nD Cert.Band0ReferenceIdeal.τ).loc Cert.Band0ReferenceIdeal.main_arg0)
          ∧ r.2.mem ((c.tc : Thread Cert.Band0ReferenceIdeal.nD Cert.Band0ReferenceIdeal.τ).loc Cert.Band0ReferenceIdeal.main_arg1) = m' ((c.tc : Thread Cert.Band0ReferenceIdeal.nD Cert.Band0ReferenceIdeal.τ).loc Cert.Band0ReferenceIdeal.main_arg1))

def preserves_DqkvSum_DqkvSumIdeal : Prop :=
  True

def algebraic_DqkvSumIdeal_DqkvSumReferenceIdeal [hDqkvSumIdeal : Cert.DqkvSumIdeal.Facts] [hDqkvSumReferenceIdeal : Cert.DqkvSumReferenceIdeal.Facts] : Prop :=
  ∀ (m : (ℓ : Loc Cert.DqkvSumIdeal.nD Cert.DqkvSumIdeal.τ Cert.DqkvSumIdeal.sig) → Buf (Elt Ideal) ℓ) (g : Dev Cert.DqkvSumIdeal.nD → PrngReg)
    (m' : (ℓ : Loc Cert.DqkvSumReferenceIdeal.nD Cert.DqkvSumReferenceIdeal.τ Cert.DqkvSumReferenceIdeal.sig) → Buf (Elt Ideal) ℓ) (g' : Dev Cert.DqkvSumReferenceIdeal.nD → PrngReg), Pre_DqkvSumIdeal m →
    (∀ c : Dev Cert.DqkvSumIdeal.nD,
      m' ((c.tc : Thread Cert.DqkvSumReferenceIdeal.nD Cert.DqkvSumReferenceIdeal.τ).loc Cert.DqkvSumReferenceIdeal.main_arg0) = m ((c.tc : Thread Cert.DqkvSumIdeal.nD Cert.DqkvSumIdeal.τ).loc Cert.DqkvSumIdeal.main_arg0)
      ∧ m' ((c.tc : Thread Cert.DqkvSumReferenceIdeal.nD Cert.DqkvSumReferenceIdeal.τ).loc Cert.DqkvSumReferenceIdeal.main_arg1) = m ((c.tc : Thread Cert.DqkvSumIdeal.nD Cert.DqkvSumIdeal.τ).loc Cert.DqkvSumIdeal.main_arg1)
      ∧ m' ((c.tc : Thread Cert.DqkvSumReferenceIdeal.nD Cert.DqkvSumReferenceIdeal.τ).loc Cert.DqkvSumReferenceIdeal.main_arg2) = m ((c.tc : Thread Cert.DqkvSumIdeal.nD Cert.DqkvSumIdeal.τ).loc Cert.DqkvSumIdeal.main_arg2)) →
    ∃ (v0 : (c : Dev Cert.DqkvSumIdeal.nD) → Buf (Elt Ideal) ((c.tc : Thread Cert.DqkvSumIdeal.nD Cert.DqkvSumIdeal.τ).loc Cert.DqkvSumIdeal.main_v0)),
      θ_run (Cert.DqkvSumIdeal.defs (F := Ideal)) (onTc (τ := Cert.DqkvSumIdeal.τ) (Cert.DqkvSumIdeal.main (F := Ideal))) ⟨m, fun _ => 0, g⟩ (fun r => ∀ c : Dev Cert.DqkvSumIdeal.nD,
          r.2.mem ((c.tc : Thread Cert.DqkvSumIdeal.nD Cert.DqkvSumIdeal.τ).loc Cert.DqkvSumIdeal.main_v0) = v0 c
          ∧ r.2.mem ((c.tc : Thread Cert.DqkvSumIdeal.nD Cert.DqkvSumIdeal.τ).loc Cert.DqkvSumIdeal.main_arg0) = m ((c.tc : Thread Cert.DqkvSumIdeal.nD Cert.DqkvSumIdeal.τ).loc Cert.DqkvSumIdeal.main_arg0)
          ∧ r.2.mem ((c.tc : Thread Cert.DqkvSumIdeal.nD Cert.DqkvSumIdeal.τ).loc Cert.DqkvSumIdeal.main_arg1) = m ((c.tc : Thread Cert.DqkvSumIdeal.nD Cert.DqkvSumIdeal.τ).loc Cert.DqkvSumIdeal.main_arg1)
          ∧ r.2.mem ((c.tc : Thread Cert.DqkvSumIdeal.nD Cert.DqkvSumIdeal.τ).loc Cert.DqkvSumIdeal.main_arg2) = m ((c.tc : Thread Cert.DqkvSumIdeal.nD Cert.DqkvSumIdeal.τ).loc Cert.DqkvSumIdeal.main_arg2))
      ∧ θ_run (Cert.DqkvSumReferenceIdeal.defs (F := Ideal)) (onTc (τ := Cert.DqkvSumReferenceIdeal.τ) (Cert.DqkvSumReferenceIdeal.main (F := Ideal))) ⟨m', fun _ => 0, g'⟩ (fun r => ∀ c : Dev Cert.DqkvSumReferenceIdeal.nD,
          r.2.mem ((c.tc : Thread Cert.DqkvSumReferenceIdeal.nD Cert.DqkvSumReferenceIdeal.τ).loc Cert.DqkvSumReferenceIdeal.main_v2) = v0 c
          ∧ r.2.mem ((c.tc : Thread Cert.DqkvSumReferenceIdeal.nD Cert.DqkvSumReferenceIdeal.τ).loc Cert.DqkvSumReferenceIdeal.main_arg0) = m' ((c.tc : Thread Cert.DqkvSumReferenceIdeal.nD Cert.DqkvSumReferenceIdeal.τ).loc Cert.DqkvSumReferenceIdeal.main_arg0)
          ∧ r.2.mem ((c.tc : Thread Cert.DqkvSumReferenceIdeal.nD Cert.DqkvSumReferenceIdeal.τ).loc Cert.DqkvSumReferenceIdeal.main_arg1) = m' ((c.tc : Thread Cert.DqkvSumReferenceIdeal.nD Cert.DqkvSumReferenceIdeal.τ).loc Cert.DqkvSumReferenceIdeal.main_arg1)
          ∧ r.2.mem ((c.tc : Thread Cert.DqkvSumReferenceIdeal.nD Cert.DqkvSumReferenceIdeal.τ).loc Cert.DqkvSumReferenceIdeal.main_arg2) = m' ((c.tc : Thread Cert.DqkvSumReferenceIdeal.nD Cert.DqkvSumReferenceIdeal.τ).loc Cert.DqkvSumReferenceIdeal.main_arg2))

def preserves_CumSum_CumSumIdeal : Prop :=
  True

def algebraic_CumSumIdeal_CumSumReferenceIdeal [hCumSumIdeal : Cert.CumSumIdeal.Facts] [hCumSumReferenceIdeal : Cert.CumSumReferenceIdeal.Facts] : Prop :=
  ∀ (m : (ℓ : Loc Cert.CumSumIdeal.nD Cert.CumSumIdeal.τ Cert.CumSumIdeal.sig) → Buf (Elt Ideal) ℓ) (g : Dev Cert.CumSumIdeal.nD → PrngReg)
    (m' : (ℓ : Loc Cert.CumSumReferenceIdeal.nD Cert.CumSumReferenceIdeal.τ Cert.CumSumReferenceIdeal.sig) → Buf (Elt Ideal) ℓ) (g' : Dev Cert.CumSumReferenceIdeal.nD → PrngReg), Pre_CumSumIdeal m →
    (∀ c : Dev Cert.CumSumIdeal.nD,
      m' ((c.tc : Thread Cert.CumSumReferenceIdeal.nD Cert.CumSumReferenceIdeal.τ).loc Cert.CumSumReferenceIdeal.main_arg0) = m ((c.tc : Thread Cert.CumSumIdeal.nD Cert.CumSumIdeal.τ).loc Cert.CumSumIdeal.main_arg0)
      ∧ m' ((c.tc : Thread Cert.CumSumReferenceIdeal.nD Cert.CumSumReferenceIdeal.τ).loc Cert.CumSumReferenceIdeal.main_arg1) = m ((c.tc : Thread Cert.CumSumIdeal.nD Cert.CumSumIdeal.τ).loc Cert.CumSumIdeal.main_arg1)) →
    ∃ (v0 : (c : Dev Cert.CumSumIdeal.nD) → Buf (Elt Ideal) ((c.tc : Thread Cert.CumSumIdeal.nD Cert.CumSumIdeal.τ).loc Cert.CumSumIdeal.main_v0)),
      θ_run (Cert.CumSumIdeal.defs (F := Ideal)) (onTc (τ := Cert.CumSumIdeal.τ) (Cert.CumSumIdeal.main (F := Ideal))) ⟨m, fun _ => 0, g⟩ (fun r => ∀ c : Dev Cert.CumSumIdeal.nD,
          r.2.mem ((c.tc : Thread Cert.CumSumIdeal.nD Cert.CumSumIdeal.τ).loc Cert.CumSumIdeal.main_v0) = v0 c
          ∧ r.2.mem ((c.tc : Thread Cert.CumSumIdeal.nD Cert.CumSumIdeal.τ).loc Cert.CumSumIdeal.main_arg0) = m ((c.tc : Thread Cert.CumSumIdeal.nD Cert.CumSumIdeal.τ).loc Cert.CumSumIdeal.main_arg0)
          ∧ r.2.mem ((c.tc : Thread Cert.CumSumIdeal.nD Cert.CumSumIdeal.τ).loc Cert.CumSumIdeal.main_arg1) = m ((c.tc : Thread Cert.CumSumIdeal.nD Cert.CumSumIdeal.τ).loc Cert.CumSumIdeal.main_arg1))
      ∧ θ_run (Cert.CumSumReferenceIdeal.defs (F := Ideal)) (onTc (τ := Cert.CumSumReferenceIdeal.τ) (Cert.CumSumReferenceIdeal.main (F := Ideal))) ⟨m', fun _ => 0, g'⟩ (fun r => ∀ c : Dev Cert.CumSumReferenceIdeal.nD,
          r.2.mem ((c.tc : Thread Cert.CumSumReferenceIdeal.nD Cert.CumSumReferenceIdeal.τ).loc Cert.CumSumReferenceIdeal.main_v0) = v0 c
          ∧ r.2.mem ((c.tc : Thread Cert.CumSumReferenceIdeal.nD Cert.CumSumReferenceIdeal.τ).loc Cert.CumSumReferenceIdeal.main_arg0) = m' ((c.tc : Thread Cert.CumSumReferenceIdeal.nD Cert.CumSumReferenceIdeal.τ).loc Cert.CumSumReferenceIdeal.main_arg0)
          ∧ r.2.mem ((c.tc : Thread Cert.CumSumReferenceIdeal.nD Cert.CumSumReferenceIdeal.τ).loc Cert.CumSumReferenceIdeal.main_arg1) = m' ((c.tc : Thread Cert.CumSumReferenceIdeal.nD Cert.CumSumReferenceIdeal.τ).loc Cert.CumSumReferenceIdeal.main_arg1))

def preserves_BandSum_BandSumIdeal : Prop :=
  True

def algebraic_BandSumIdeal_BandSumReferenceIdeal [hBandSumIdeal : Cert.BandSumIdeal.Facts] [hBandSumReferenceIdeal : Cert.BandSumReferenceIdeal.Facts] : Prop :=
  ∀ (m : (ℓ : Loc Cert.BandSumIdeal.nD Cert.BandSumIdeal.τ Cert.BandSumIdeal.sig) → Buf (Elt Ideal) ℓ) (g : Dev Cert.BandSumIdeal.nD → PrngReg)
    (m' : (ℓ : Loc Cert.BandSumReferenceIdeal.nD Cert.BandSumReferenceIdeal.τ Cert.BandSumReferenceIdeal.sig) → Buf (Elt Ideal) ℓ) (g' : Dev Cert.BandSumReferenceIdeal.nD → PrngReg), Pre_BandSumIdeal m →
    (∀ c : Dev Cert.BandSumIdeal.nD,
      m' ((c.tc : Thread Cert.BandSumReferenceIdeal.nD Cert.BandSumReferenceIdeal.τ).loc Cert.BandSumReferenceIdeal.main_arg0) = m ((c.tc : Thread Cert.BandSumIdeal.nD Cert.BandSumIdeal.τ).loc Cert.BandSumIdeal.main_arg0)
      ∧ m' ((c.tc : Thread Cert.BandSumReferenceIdeal.nD Cert.BandSumReferenceIdeal.τ).loc Cert.BandSumReferenceIdeal.main_arg1) = m ((c.tc : Thread Cert.BandSumIdeal.nD Cert.BandSumIdeal.τ).loc Cert.BandSumIdeal.main_arg1)) →
    ∃ (v0 : (c : Dev Cert.BandSumIdeal.nD) → Buf (Elt Ideal) ((c.tc : Thread Cert.BandSumIdeal.nD Cert.BandSumIdeal.τ).loc Cert.BandSumIdeal.main_v0)),
      θ_run (Cert.BandSumIdeal.defs (F := Ideal)) (onTc (τ := Cert.BandSumIdeal.τ) (Cert.BandSumIdeal.main (F := Ideal))) ⟨m, fun _ => 0, g⟩ (fun r => ∀ c : Dev Cert.BandSumIdeal.nD,
          r.2.mem ((c.tc : Thread Cert.BandSumIdeal.nD Cert.BandSumIdeal.τ).loc Cert.BandSumIdeal.main_v0) = v0 c
          ∧ r.2.mem ((c.tc : Thread Cert.BandSumIdeal.nD Cert.BandSumIdeal.τ).loc Cert.BandSumIdeal.main_arg0) = m ((c.tc : Thread Cert.BandSumIdeal.nD Cert.BandSumIdeal.τ).loc Cert.BandSumIdeal.main_arg0)
          ∧ r.2.mem ((c.tc : Thread Cert.BandSumIdeal.nD Cert.BandSumIdeal.τ).loc Cert.BandSumIdeal.main_arg1) = m ((c.tc : Thread Cert.BandSumIdeal.nD Cert.BandSumIdeal.τ).loc Cert.BandSumIdeal.main_arg1))
      ∧ θ_run (Cert.BandSumReferenceIdeal.defs (F := Ideal)) (onTc (τ := Cert.BandSumReferenceIdeal.τ) (Cert.BandSumReferenceIdeal.main (F := Ideal))) ⟨m', fun _ => 0, g'⟩ (fun r => ∀ c : Dev Cert.BandSumReferenceIdeal.nD,
          r.2.mem ((c.tc : Thread Cert.BandSumReferenceIdeal.nD Cert.BandSumReferenceIdeal.τ).loc Cert.BandSumReferenceIdeal.main_v0) = v0 c
          ∧ r.2.mem ((c.tc : Thread Cert.BandSumReferenceIdeal.nD Cert.BandSumReferenceIdeal.τ).loc Cert.BandSumReferenceIdeal.main_arg0) = m' ((c.tc : Thread Cert.BandSumReferenceIdeal.nD Cert.BandSumReferenceIdeal.τ).loc Cert.BandSumReferenceIdeal.main_arg0)
          ∧ r.2.mem ((c.tc : Thread Cert.BandSumReferenceIdeal.nD Cert.BandSumReferenceIdeal.τ).loc Cert.BandSumReferenceIdeal.main_arg1) = m' ((c.tc : Thread Cert.BandSumReferenceIdeal.nD Cert.BandSumReferenceIdeal.τ).loc Cert.BandSumReferenceIdeal.main_arg1))

def preserves_ShiftAdd_ShiftAddIdeal : Prop :=
  True

def algebraic_ShiftAddIdeal_ShiftAddReferenceIdeal [hShiftAddIdeal : Cert.ShiftAddIdeal.Facts] [hShiftAddReferenceIdeal : Cert.ShiftAddReferenceIdeal.Facts] : Prop :=
  ∀ (m : (ℓ : Loc Cert.ShiftAddIdeal.nD Cert.ShiftAddIdeal.τ Cert.ShiftAddIdeal.sig) → Buf (Elt Ideal) ℓ) (g : Dev Cert.ShiftAddIdeal.nD → PrngReg)
    (m' : (ℓ : Loc Cert.ShiftAddReferenceIdeal.nD Cert.ShiftAddReferenceIdeal.τ Cert.ShiftAddReferenceIdeal.sig) → Buf (Elt Ideal) ℓ) (g' : Dev Cert.ShiftAddReferenceIdeal.nD → PrngReg), Pre_ShiftAddIdeal m →
    (∀ c : Dev Cert.ShiftAddIdeal.nD,
      m' ((c.tc : Thread Cert.ShiftAddReferenceIdeal.nD Cert.ShiftAddReferenceIdeal.τ).loc Cert.ShiftAddReferenceIdeal.main_arg0) = m ((c.tc : Thread Cert.ShiftAddIdeal.nD Cert.ShiftAddIdeal.τ).loc Cert.ShiftAddIdeal.main_arg0)
      ∧ m' ((c.tc : Thread Cert.ShiftAddReferenceIdeal.nD Cert.ShiftAddReferenceIdeal.τ).loc Cert.ShiftAddReferenceIdeal.main_arg1) = m ((c.tc : Thread Cert.ShiftAddIdeal.nD Cert.ShiftAddIdeal.τ).loc Cert.ShiftAddIdeal.main_arg1)) →
    ∃ (v0 : (c : Dev Cert.ShiftAddIdeal.nD) → Buf (Elt Ideal) ((c.tc : Thread Cert.ShiftAddIdeal.nD Cert.ShiftAddIdeal.τ).loc Cert.ShiftAddIdeal.main_v0)),
      θ_run (Cert.ShiftAddIdeal.defs (F := Ideal)) (onTc (τ := Cert.ShiftAddIdeal.τ) (Cert.ShiftAddIdeal.main (F := Ideal))) ⟨m, fun _ => 0, g⟩ (fun r => ∀ c : Dev Cert.ShiftAddIdeal.nD,
          r.2.mem ((c.tc : Thread Cert.ShiftAddIdeal.nD Cert.ShiftAddIdeal.τ).loc Cert.ShiftAddIdeal.main_v0) = v0 c
          ∧ r.2.mem ((c.tc : Thread Cert.ShiftAddIdeal.nD Cert.ShiftAddIdeal.τ).loc Cert.ShiftAddIdeal.main_arg0) = m ((c.tc : Thread Cert.ShiftAddIdeal.nD Cert.ShiftAddIdeal.τ).loc Cert.ShiftAddIdeal.main_arg0)
          ∧ r.2.mem ((c.tc : Thread Cert.ShiftAddIdeal.nD Cert.ShiftAddIdeal.τ).loc Cert.ShiftAddIdeal.main_arg1) = m ((c.tc : Thread Cert.ShiftAddIdeal.nD Cert.ShiftAddIdeal.τ).loc Cert.ShiftAddIdeal.main_arg1))
      ∧ θ_run (Cert.ShiftAddReferenceIdeal.defs (F := Ideal)) (onTc (τ := Cert.ShiftAddReferenceIdeal.τ) (Cert.ShiftAddReferenceIdeal.main (F := Ideal))) ⟨m', fun _ => 0, g'⟩ (fun r => ∀ c : Dev Cert.ShiftAddReferenceIdeal.nD,
          r.2.mem ((c.tc : Thread Cert.ShiftAddReferenceIdeal.nD Cert.ShiftAddReferenceIdeal.τ).loc Cert.ShiftAddReferenceIdeal.main_v3) = v0 c
          ∧ r.2.mem ((c.tc : Thread Cert.ShiftAddReferenceIdeal.nD Cert.ShiftAddReferenceIdeal.τ).loc Cert.ShiftAddReferenceIdeal.main_arg0) = m' ((c.tc : Thread Cert.ShiftAddReferenceIdeal.nD Cert.ShiftAddReferenceIdeal.τ).loc Cert.ShiftAddReferenceIdeal.main_arg0)
          ∧ r.2.mem ((c.tc : Thread Cert.ShiftAddReferenceIdeal.nD Cert.ShiftAddReferenceIdeal.τ).loc Cert.ShiftAddReferenceIdeal.main_arg1) = m' ((c.tc : Thread Cert.ShiftAddReferenceIdeal.nD Cert.ShiftAddReferenceIdeal.τ).loc Cert.ShiftAddReferenceIdeal.main_arg1))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)
      ∧ m' ((c.tc : Thread Cert.CombineReferenceIdeal.nD Cert.CombineReferenceIdeal.τ).loc Cert.CombineReferenceIdeal.main_arg4) = m ((c.tc : Thread Cert.CombineIdeal.nD Cert.CombineIdeal.τ).loc Cert.CombineIdeal.main_arg4)
      ∧ m' ((c.tc : Thread Cert.CombineReferenceIdeal.nD Cert.CombineReferenceIdeal.τ).loc Cert.CombineReferenceIdeal.main_arg5) = m ((c.tc : Thread Cert.CombineIdeal.nD Cert.CombineIdeal.τ).loc Cert.CombineIdeal.main_arg5)) →
    ∃ (v0 : (c : Dev Cert.CombineIdeal.nD) → Buf (Elt Ideal) ((c.tc : Thread Cert.CombineIdeal.nD Cert.CombineIdeal.τ).loc Cert.CombineIdeal.main_v0)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v26) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3)
          ∧ r.2.mem ((c.tc : Thread Cert.CombineReferenceIdeal.nD Cert.CombineReferenceIdeal.τ).loc Cert.CombineReferenceIdeal.main_arg4) = m' ((c.tc : Thread Cert.CombineReferenceIdeal.nD Cert.CombineReferenceIdeal.τ).loc Cert.CombineReferenceIdeal.main_arg4)
          ∧ r.2.mem ((c.tc : Thread Cert.CombineReferenceIdeal.nD Cert.CombineReferenceIdeal.τ).loc Cert.CombineReferenceIdeal.main_arg5) = m' ((c.tc : Thread Cert.CombineReferenceIdeal.nD Cert.CombineReferenceIdeal.τ).loc Cert.CombineReferenceIdeal.main_arg5))

def preserves_BackConv_BackConvIdeal : Prop :=
  True

def algebraic_BackConvIdeal_BackConvReferenceIdeal [hBackConvIdeal : Cert.BackConvIdeal.Facts] [hBackConvReferenceIdeal : Cert.BackConvReferenceIdeal.Facts] : Prop :=
  ∀ (m : (ℓ : Loc Cert.BackConvIdeal.nD Cert.BackConvIdeal.τ Cert.BackConvIdeal.sig) → Buf (Elt Ideal) ℓ) (g : Dev Cert.BackConvIdeal.nD → PrngReg)
    (m' : (ℓ : Loc Cert.BackConvReferenceIdeal.nD Cert.BackConvReferenceIdeal.τ Cert.BackConvReferenceIdeal.sig) → Buf (Elt Ideal) ℓ) (g' : Dev Cert.BackConvReferenceIdeal.nD → PrngReg), Pre_BackConvIdeal m →
    (∀ c : Dev Cert.BackConvIdeal.nD,
      m' ((c.tc : Thread Cert.BackConvReferenceIdeal.nD Cert.BackConvReferenceIdeal.τ).loc Cert.BackConvReferenceIdeal.main_arg0) = m ((c.tc : Thread Cert.BackConvIdeal.nD Cert.BackConvIdeal.τ).loc Cert.BackConvIdeal.main_arg0)
      ∧ m' ((c.tc : Thread Cert.BackConvReferenceIdeal.nD Cert.BackConvReferenceIdeal.τ).loc Cert.BackConvReferenceIdeal.main_arg1) = m ((c.tc : Thread Cert.BackConvIdeal.nD Cert.BackConvIdeal.τ).loc Cert.BackConvIdeal.main_arg1)) →
    ∃ (v0 : (c : Dev Cert.BackConvIdeal.nD) → Buf (Elt Ideal) ((c.tc : Thread Cert.BackConvIdeal.nD Cert.BackConvIdeal.τ).loc Cert.BackConvIdeal.main_v0)),
      θ_run (Cert.BackConvIdeal.defs (F := Ideal)) (onTc (τ := Cert.BackConvIdeal.τ) (Cert.BackConvIdeal.main (F := Ideal))) ⟨m, fun _ => 0, g⟩ (fun r => ∀ c : Dev Cert.BackConvIdeal.nD,
          r.2.mem ((c.tc : Thread Cert.BackConvIdeal.nD Cert.BackConvIdeal.τ).loc Cert.BackConvIdeal.main_v0) = v0 c
          ∧ r.2.mem ((c.tc : Thread Cert.BackConvIdeal.nD Cert.BackConvIdeal.τ).loc Cert.BackConvIdeal.main_arg0) = m ((c.tc : Thread Cert.BackConvIdeal.nD Cert.BackConvIdeal.τ).loc Cert.BackConvIdeal.main_arg0)
          ∧ r.2.mem ((c.tc : Thread Cert.BackConvIdeal.nD Cert.BackConvIdeal.τ).loc Cert.BackConvIdeal.main_arg1) = m ((c.tc : Thread Cert.BackConvIdeal.nD Cert.BackConvIdeal.τ).loc Cert.BackConvIdeal.main_arg1))
      ∧ θ_run (Cert.BackConvReferenceIdeal.defs (F := Ideal)) (onTc (τ := Cert.BackConvReferenceIdeal.τ) (Cert.BackConvReferenceIdeal.main (F := Ideal))) ⟨m', fun _ => 0, g'⟩ (fun r => ∀ c : Dev Cert.BackConvReferenceIdeal.nD,
          r.2.mem ((c.tc : Thread Cert.BackConvReferenceIdeal.nD Cert.BackConvReferenceIdeal.τ).loc Cert.BackConvReferenceIdeal.main_v24) = v0 c
          ∧ r.2.mem ((c.tc : Thread Cert.BackConvReferenceIdeal.nD Cert.BackConvReferenceIdeal.τ).loc Cert.BackConvReferenceIdeal.main_arg0) = m' ((c.tc : Thread Cert.BackConvReferenceIdeal.nD Cert.BackConvReferenceIdeal.τ).loc Cert.BackConvReferenceIdeal.main_arg0)
          ∧ r.2.mem ((c.tc : Thread Cert.BackConvReferenceIdeal.nD Cert.BackConvReferenceIdeal.τ).loc Cert.BackConvReferenceIdeal.main_arg1) = m' ((c.tc : Thread Cert.BackConvReferenceIdeal.nD Cert.BackConvReferenceIdeal.τ).loc Cert.BackConvReferenceIdeal.main_arg1))

def Claim : Prop :=
  ∃ (hKernel : Cert.Kernel.Facts) (hKernelIdeal : Cert.KernelIdeal.Facts) (hReferenceIdeal : Cert.ReferenceIdeal.Facts) (hReference : Cert.Reference.Facts) (hPairKernel : Cert.PairKernel.Facts) (hPairKernelIdeal : Cert.PairKernelIdeal.Facts) (hPairReferenceIdeal : Cert.PairReferenceIdeal.Facts) (hPairReference : Cert.PairReference.Facts) (hChipKernel : Cert.ChipKernel.Facts) (hChipKernelIdeal : Cert.ChipKernelIdeal.Facts) (hChipReferenceIdeal : Cert.ChipReferenceIdeal.Facts) (hChipReference : Cert.ChipReference.Facts) (hUpdateIn : Cert.UpdateIn.Facts) (hUpdateInIdeal : Cert.UpdateInIdeal.Facts) (hUpdateInReferenceIdeal : Cert.UpdateInReferenceIdeal.Facts) (hUpdateOut : Cert.UpdateOut.Facts) (hUpdateOutIdeal : Cert.UpdateOutIdeal.Facts) (hUpdateOutReferenceIdeal : Cert.UpdateOutReferenceIdeal.Facts) (hUpdateQkv : Cert.UpdateQkv.Facts) (hUpdateQkvIdeal : Cert.UpdateQkvIdeal.Facts) (hUpdateQkvReferenceIdeal : Cert.UpdateQkvReferenceIdeal.Facts) (hUpdateCo : Cert.UpdateCo.Facts) (hUpdateCoIdeal : Cert.UpdateCoIdeal.Facts) (hUpdateCoReferenceIdeal : Cert.UpdateCoReferenceIdeal.Facts) (hUpdateUp : Cert.UpdateUp.Facts) (hUpdateUpIdeal : Cert.UpdateUpIdeal.Facts) (hUpdateUpReferenceIdeal : Cert.UpdateUpReferenceIdeal.Facts) (hUpdateDown : Cert.UpdateDown.Facts) (hUpdateDownIdeal : Cert.UpdateDownIdeal.Facts) (hUpdateDownReferenceIdeal : Cert.UpdateDownReferenceIdeal.Facts) (hUpdatePack : Cert.UpdatePack.Facts) (hUpdatePackIdeal : Cert.UpdatePackIdeal.Facts) (hUpdatePackReferenceIdeal : Cert.UpdatePackReferenceIdeal.Facts) (hNormBwd : Cert.NormBwd.Facts) (hNormBwdIdeal : Cert.NormBwdIdeal.Facts) (hNormBwdReferenceIdeal : Cert.NormBwdReferenceIdeal.Facts) (hLossHead : Cert.LossHead.Facts) (hLossHeadIdeal : Cert.LossHeadIdeal.Facts) (hLossHeadReferenceIdeal : Cert.LossHeadReferenceIdeal.Facts) (hCrossFwd : Cert.CrossFwd.Facts) (hCrossFwdIdeal : Cert.CrossFwdIdeal.Facts) (hCrossFwdReferenceIdeal : Cert.CrossFwdReferenceIdeal.Facts) (hMixQkv : Cert.MixQkv.Facts) (hMixQkvIdeal : Cert.MixQkvIdeal.Facts) (hMixQkvReferenceIdeal : Cert.MixQkvReferenceIdeal.Facts) (hMixAux : Cert.MixAux.Facts) (hMixAuxIdeal : Cert.MixAuxIdeal.Facts) (hMixAuxReferenceIdeal : Cert.MixAuxReferenceIdeal.Facts) (hMixOut : Cert.MixOut.Facts) (hMixOutIdeal : Cert.MixOutIdeal.Facts) (hMixOutReferenceIdeal : Cert.MixOutReferenceIdeal.Facts) (hCrossQ : Cert.CrossQ.Facts) (hCrossQIdeal : Cert.CrossQIdeal.Facts) (hCrossQReferenceIdeal : Cert.CrossQReferenceIdeal.Facts) (hCrossKv : Cert.CrossKv.Facts) (hCrossKvIdeal : Cert.CrossKvIdeal.Facts) (hCrossKvReferenceIdeal : Cert.CrossKvReferenceIdeal.Facts) (hCrossOut : Cert.CrossOut.Facts) (hCrossOutIdeal : Cert.CrossOutIdeal.Facts) (hCrossOutReferenceIdeal : Cert.CrossOutReferenceIdeal.Facts) (hFfnUp : Cert.FfnUp.Facts) (hFfnUpIdeal : Cert.FfnUpIdeal.Facts) (hFfnUpReferenceIdeal : Cert.FfnUpReferenceIdeal.Facts) (hFfnDown : Cert.FfnDown.Facts) (hFfnDownIdeal : Cert.FfnDownIdeal.Facts) (hFfnDownReferenceIdeal : Cert.FfnDownReferenceIdeal.Facts) (hGradAct : Cert.GradAct.Facts) (hGradActIdeal : Cert.GradActIdeal.Facts) (hGradActReferenceIdeal : Cert.GradActReferenceIdeal.Facts) (hGradDown : Cert.GradDown.Facts) (hGradDownIdeal : Cert.GradDownIdeal.Facts) (hGradDownReferenceIdeal : Cert.GradDownReferenceIdeal.Facts) (hGradHalf : Cert.GradHalf.Facts) (hGradHalfIdeal : Cert.GradHalfIdeal.Facts) (hGradHalfReferenceIdeal : Cert.GradHalfReferenceIdeal.Facts) (hGradFfn : Cert.GradFfn.Facts) (hGradFfnIdeal : Cert.GradFfnIdeal.Facts) (hGradFfnReferenceIdeal : Cert.GradFfnReferenceIdeal.Facts) (hGradUp : Cert.GradUp.Facts) (hGradUpIdeal : Cert.GradUpIdeal.Facts) (hGradUpReferenceIdeal : Cert.GradUpReferenceIdeal.Facts) (hGradOc : Cert.GradOc.Facts) (hGradOcIdeal : Cert.GradOcIdeal.Facts) (hGradOcReferenceIdeal : Cert.GradOcReferenceIdeal.Facts) (hGradCo : Cert.GradCo.Facts) (hGradCoIdeal : Cert.GradCoIdeal.Facts) (hGradCoReferenceIdeal : Cert.GradCoReferenceIdeal.Facts) (hGradHq : Cert.GradHq.Facts) (hGradHqIdeal : Cert.GradHqIdeal.Facts) (hGradHqReferenceIdeal : Cert.GradHqReferenceIdeal.Facts) (hGradCq : Cert.GradCq.Facts) (hGradCqIdeal : Cert.GradCqIdeal.Facts) (hGradCqReferenceIdeal : Cert.GradCqReferenceIdeal.Facts) (hGradMem : Cert.GradMem.Facts) (hGradMemIdeal : Cert.GradMemIdeal.Facts) (hGradMemReferenceIdeal : Cert.GradMemReferenceIdeal.Facts) (hGradCkv : Cert.GradCkv.Facts) (hGradCkvIdeal : Cert.GradCkvIdeal.Facts) (hGradCkvReferenceIdeal : Cert.GradCkvReferenceIdeal.Facts) (hGradMixed : Cert.GradMixed.Facts) (hGradMixedIdeal : Cert.GradMixedIdeal.Facts) (hGradMixedReferenceIdeal : Cert.GradMixedReferenceIdeal.Facts) (hGradOut : Cert.GradOut.Facts) (hGradOutIdeal : Cert.GradOutIdeal.Facts) (hGradOutReferenceIdeal : Cert.GradOutReferenceIdeal.Facts) (hGradMain : Cert.GradMain.Facts) (hGradMainIdeal : Cert.GradMainIdeal.Facts) (hGradMainReferenceIdeal : Cert.GradMainReferenceIdeal.Facts) (hGradMix : Cert.GradMix.Facts) (hGradMixIdeal : Cert.GradMixIdeal.Facts) (hGradMixReferenceIdeal : Cert.GradMixReferenceIdeal.Facts) (hGradQkv : Cert.GradQkv.Facts) (hGradQkvIdeal : Cert.GradQkvIdeal.Facts) (hGradQkvReferenceIdeal : Cert.GradQkvReferenceIdeal.Facts) (hGradAux : Cert.GradAux.Facts) (hGradAuxIdeal : Cert.GradAuxIdeal.Facts) (hGradAuxReferenceIdeal : Cert.GradAuxReferenceIdeal.Facts) (hPairSum : Cert.PairSum.Facts) (hPairSumIdeal : Cert.PairSumIdeal.Facts) (hPairSumReferenceIdeal : Cert.PairSumReferenceIdeal.Facts) (hPairSumReference : Cert.PairSumReference.Facts) (hChipSum : Cert.ChipSum.Facts) (hChipSumIdeal : Cert.ChipSumIdeal.Facts) (hChipSumReferenceIdeal : Cert.ChipSumReferenceIdeal.Facts) (hChipSumReference : Cert.ChipSumReference.Facts) (hNormMix : Cert.NormMix.Facts) (hNormMixIdeal : Cert.NormMixIdeal.Facts) (hNormMixReferenceIdeal : Cert.NormMixReferenceIdeal.Facts) (hNormMem : Cert.NormMem.Facts) (hNormMemIdeal : Cert.NormMemIdeal.Facts) (hNormMemReferenceIdeal : Cert.NormMemReferenceIdeal.Facts) (hBand0 : Cert.Band0.Facts) (hBand0Ideal : Cert.Band0Ideal.Facts) (hBand0ReferenceIdeal : Cert.Band0ReferenceIdeal.Facts) (hDqkvSum : Cert.DqkvSum.Facts) (hDqkvSumIdeal : Cert.DqkvSumIdeal.Facts) (hDqkvSumReferenceIdeal : Cert.DqkvSumReferenceIdeal.Facts) (hCumSum : Cert.CumSum.Facts) (hCumSumIdeal : Cert.CumSumIdeal.Facts) (hCumSumReferenceIdeal : Cert.CumSumReferenceIdeal.Facts) (hBandSum : Cert.BandSum.Facts) (hBandSumIdeal : Cert.BandSumIdeal.Facts) (hBandSumReferenceIdeal : Cert.BandSumReferenceIdeal.Facts) (hShiftAdd : Cert.ShiftAdd.Facts) (hShiftAddIdeal : Cert.ShiftAddIdeal.Facts) (hShiftAddReferenceIdeal : Cert.ShiftAddReferenceIdeal.Facts) (hCombine : Cert.Combine.Facts) (hCombineIdeal : Cert.CombineIdeal.Facts) (hCombineReferenceIdeal : Cert.CombineReferenceIdeal.Facts) (hBackConv : Cert.BackConv.Facts) (hBackConvIdeal : Cert.BackConvIdeal.Facts) (hBackConvReferenceIdeal : Cert.BackConvReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_PairKernel (hPairKernel := hPairKernel)
    ∧ quiescent_PairKernelIdeal (hPairKernelIdeal := hPairKernelIdeal)
    ∧ quiescent_PairReferenceIdeal (hPairReferenceIdeal := hPairReferenceIdeal)
    ∧ quiescent_PairReference (hPairReference := hPairReference)
    ∧ quiescent_ChipKernel (hChipKernel := hChipKernel)
    ∧ quiescent_ChipKernelIdeal (hChipKernelIdeal := hChipKernelIdeal)
    ∧ quiescent_ChipReferenceIdeal (hChipReferenceIdeal := hChipReferenceIdeal)
    ∧ quiescent_ChipReference (hChipReference := hChipReference)
    ∧ quiescent_UpdateIn (hUpdateIn := hUpdateIn)
    ∧ quiescent_UpdateInIdeal (hUpdateInIdeal := hUpdateInIdeal)
    ∧ quiescent_UpdateInReferenceIdeal (hUpdateInReferenceIdeal := hUpdateInReferenceIdeal)
    ∧ quiescent_UpdateOut (hUpdateOut := hUpdateOut)
    ∧ quiescent_UpdateOutIdeal (hUpdateOutIdeal := hUpdateOutIdeal)
    ∧ quiescent_UpdateOutReferenceIdeal (hUpdateOutReferenceIdeal := hUpdateOutReferenceIdeal)
    ∧ quiescent_UpdateQkv (hUpdateQkv := hUpdateQkv)
    ∧ quiescent_UpdateQkvIdeal (hUpdateQkvIdeal := hUpdateQkvIdeal)
    ∧ quiescent_UpdateQkvReferenceIdeal (hUpdateQkvReferenceIdeal := hUpdateQkvReferenceIdeal)
    ∧ quiescent_UpdateCo (hUpdateCo := hUpdateCo)
    ∧ quiescent_UpdateCoIdeal (hUpdateCoIdeal := hUpdateCoIdeal)
    ∧ quiescent_UpdateCoReferenceIdeal (hUpdateCoReferenceIdeal := hUpdateCoReferenceIdeal)
    ∧ quiescent_UpdateUp (hUpdateUp := hUpdateUp)
    ∧ quiescent_UpdateUpIdeal (hUpdateUpIdeal := hUpdateUpIdeal)
    ∧ quiescent_UpdateUpReferenceIdeal (hUpdateUpReferenceIdeal := hUpdateUpReferenceIdeal)
    ∧ quiescent_UpdateDown (hUpdateDown := hUpdateDown)
    ∧ quiescent_UpdateDownIdeal (hUpdateDownIdeal := hUpdateDownIdeal)
    ∧ quiescent_UpdateDownReferenceIdeal (hUpdateDownReferenceIdeal := hUpdateDownReferenceIdeal)
    ∧ quiescent_UpdatePack (hUpdatePack := hUpdatePack)
    ∧ quiescent_UpdatePackIdeal (hUpdatePackIdeal := hUpdatePackIdeal)
    ∧ quiescent_UpdatePackReferenceIdeal (hUpdatePackReferenceIdeal := hUpdatePackReferenceIdeal)
    ∧ quiescent_NormBwd (hNormBwd := hNormBwd)
    ∧ quiescent_NormBwdIdeal (hNormBwdIdeal := hNormBwdIdeal)
    ∧ quiescent_NormBwdReferenceIdeal (hNormBwdReferenceIdeal := hNormBwdReferenceIdeal)
    ∧ quiescent_LossHead (hLossHead := hLossHead)
    ∧ quiescent_LossHeadIdeal (hLossHeadIdeal := hLossHeadIdeal)
    ∧ quiescent_LossHeadReferenceIdeal (hLossHeadReferenceIdeal := hLossHeadReferenceIdeal)
    ∧ quiescent_CrossFwd (hCrossFwd := hCrossFwd)
    ∧ quiescent_CrossFwdIdeal (hCrossFwdIdeal := hCrossFwdIdeal)
    ∧ quiescent_CrossFwdReferenceIdeal (hCrossFwdReferenceIdeal := hCrossFwdReferenceIdeal)
    ∧ quiescent_MixQkv (hMixQkv := hMixQkv)
    ∧ quiescent_MixQkvIdeal (hMixQkvIdeal := hMixQkvIdeal)
    ∧ quiescent_MixQkvReferenceIdeal (hMixQkvReferenceIdeal := hMixQkvReferenceIdeal)
    ∧ quiescent_MixAux (hMixAux := hMixAux)
    ∧ quiescent_MixAuxIdeal (hMixAuxIdeal := hMixAuxIdeal)
    ∧ quiescent_MixAuxReferenceIdeal (hMixAuxReferenceIdeal := hMixAuxReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ quiescent_CrossQ (hCrossQ := hCrossQ)
    ∧ quiescent_CrossQIdeal (hCrossQIdeal := hCrossQIdeal)
    ∧ quiescent_CrossQReferenceIdeal (hCrossQReferenceIdeal := hCrossQReferenceIdeal)
    ∧ quiescent_CrossKv (hCrossKv := hCrossKv)
    ∧ quiescent_CrossKvIdeal (hCrossKvIdeal := hCrossKvIdeal)
    ∧ quiescent_CrossKvReferenceIdeal (hCrossKvReferenceIdeal := hCrossKvReferenceIdeal)
    ∧ quiescent_CrossOut (hCrossOut := hCrossOut)
    ∧ quiescent_CrossOutIdeal (hCrossOutIdeal := hCrossOutIdeal)
    ∧ quiescent_CrossOutReferenceIdeal (hCrossOutReferenceIdeal := hCrossOutReferenceIdeal)
    ∧ quiescent_FfnUp (hFfnUp := hFfnUp)
    ∧ quiescent_FfnUpIdeal (hFfnUpIdeal := hFfnUpIdeal)
    ∧ quiescent_FfnUpReferenceIdeal (hFfnUpReferenceIdeal := hFfnUpReferenceIdeal)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_GradAct (hGradAct := hGradAct)
    ∧ quiescent_GradActIdeal (hGradActIdeal := hGradActIdeal)
    ∧ quiescent_GradActReferenceIdeal (hGradActReferenceIdeal := hGradActReferenceIdeal)
    ∧ quiescent_GradDown (hGradDown := hGradDown)
    ∧ quiescent_GradDownIdeal (hGradDownIdeal := hGradDownIdeal)
    ∧ quiescent_GradDownReferenceIdeal (hGradDownReferenceIdeal := hGradDownReferenceIdeal)
    ∧ quiescent_GradHalf (hGradHalf := hGradHalf)
    ∧ quiescent_GradHalfIdeal (hGradHalfIdeal := hGradHalfIdeal)
    ∧ quiescent_GradHalfReferenceIdeal (hGradHalfReferenceIdeal := hGradHalfReferenceIdeal)
    ∧ quiescent_GradFfn (hGradFfn := hGradFfn)
    ∧ quiescent_GradFfnIdeal (hGradFfnIdeal := hGradFfnIdeal)
    ∧ quiescent_GradFfnReferenceIdeal (hGradFfnReferenceIdeal := hGradFfnReferenceIdeal)
    ∧ quiescent_GradUp (hGradUp := hGradUp)
    ∧ quiescent_GradUpIdeal (hGradUpIdeal := hGradUpIdeal)
    ∧ quiescent_GradUpReferenceIdeal (hGradUpReferenceIdeal := hGradUpReferenceIdeal)
    ∧ quiescent_GradOc (hGradOc := hGradOc)
    ∧ quiescent_GradOcIdeal (hGradOcIdeal := hGradOcIdeal)
    ∧ quiescent_GradOcReferenceIdeal (hGradOcReferenceIdeal := hGradOcReferenceIdeal)
    ∧ quiescent_GradCo (hGradCo := hGradCo)
    ∧ quiescent_GradCoIdeal (hGradCoIdeal := hGradCoIdeal)
    ∧ quiescent_GradCoReferenceIdeal (hGradCoReferenceIdeal := hGradCoReferenceIdeal)
    ∧ quiescent_GradHq (hGradHq := hGradHq)
    ∧ quiescent_GradHqIdeal (hGradHqIdeal := hGradHqIdeal)
    ∧ quiescent_GradHqReferenceIdeal (hGradHqReferenceIdeal := hGradHqReferenceIdeal)
    ∧ quiescent_GradCq (hGradCq := hGradCq)
    ∧ quiescent_GradCqIdeal (hGradCqIdeal := hGradCqIdeal)
    ∧ quiescent_GradCqReferenceIdeal (hGradCqReferenceIdeal := hGradCqReferenceIdeal)
    ∧ quiescent_GradMem (hGradMem := hGradMem)
    ∧ quiescent_GradMemIdeal (hGradMemIdeal := hGradMemIdeal)
    ∧ quiescent_GradMemReferenceIdeal (hGradMemReferenceIdeal := hGradMemReferenceIdeal)
    ∧ quiescent_GradCkv (hGradCkv := hGradCkv)
    ∧ quiescent_GradCkvIdeal (hGradCkvIdeal := hGradCkvIdeal)
    ∧ quiescent_GradCkvReferenceIdeal (hGradCkvReferenceIdeal := hGradCkvReferenceIdeal)
    ∧ quiescent_GradMixed (hGradMixed := hGradMixed)
    ∧ quiescent_GradMixedIdeal (hGradMixedIdeal := hGradMixedIdeal)
    ∧ quiescent_GradMixedReferenceIdeal (hGradMixedReferenceIdeal := hGradMixedReferenceIdeal)
    ∧ quiescent_GradOut (hGradOut := hGradOut)
    ∧ quiescent_GradOutIdeal (hGradOutIdeal := hGradOutIdeal)
    ∧ quiescent_GradOutReferenceIdeal (hGradOutReferenceIdeal := hGradOutReferenceIdeal)
    ∧ quiescent_GradMain (hGradMain := hGradMain)
    ∧ quiescent_GradMainIdeal (hGradMainIdeal := hGradMainIdeal)
    ∧ quiescent_GradMainReferenceIdeal (hGradMainReferenceIdeal := hGradMainReferenceIdeal)
    ∧ quiescent_GradMix (hGradMix := hGradMix)
    ∧ quiescent_GradMixIdeal (hGradMixIdeal := hGradMixIdeal)
    ∧ quiescent_GradMixReferenceIdeal (hGradMixReferenceIdeal := hGradMixReferenceIdeal)
    ∧ quiescent_GradQkv (hGradQkv := hGradQkv)
    ∧ quiescent_GradQkvIdeal (hGradQkvIdeal := hGradQkvIdeal)
    ∧ quiescent_GradQkvReferenceIdeal (hGradQkvReferenceIdeal := hGradQkvReferenceIdeal)
    ∧ quiescent_GradAux (hGradAux := hGradAux)
    ∧ quiescent_GradAuxIdeal (hGradAuxIdeal := hGradAuxIdeal)
    ∧ quiescent_GradAuxReferenceIdeal (hGradAuxReferenceIdeal := hGradAuxReferenceIdeal)
    ∧ quiescent_PairSum (hPairSum := hPairSum)
    ∧ quiescent_PairSumIdeal (hPairSumIdeal := hPairSumIdeal)
    ∧ quiescent_PairSumReferenceIdeal (hPairSumReferenceIdeal := hPairSumReferenceIdeal)
    ∧ quiescent_PairSumReference (hPairSumReference := hPairSumReference)
    ∧ quiescent_ChipSum (hChipSum := hChipSum)
    ∧ quiescent_ChipSumIdeal (hChipSumIdeal := hChipSumIdeal)
    ∧ quiescent_ChipSumReferenceIdeal (hChipSumReferenceIdeal := hChipSumReferenceIdeal)
    ∧ quiescent_ChipSumReference (hChipSumReference := hChipSumReference)
    ∧ quiescent_NormMix (hNormMix := hNormMix)
    ∧ quiescent_NormMixIdeal (hNormMixIdeal := hNormMixIdeal)
    ∧ quiescent_NormMixReferenceIdeal (hNormMixReferenceIdeal := hNormMixReferenceIdeal)
    ∧ quiescent_NormMem (hNormMem := hNormMem)
    ∧ quiescent_NormMemIdeal (hNormMemIdeal := hNormMemIdeal)
    ∧ quiescent_NormMemReferenceIdeal (hNormMemReferenceIdeal := hNormMemReferenceIdeal)
    ∧ quiescent_Band0 (hBand0 := hBand0)
    ∧ quiescent_Band0Ideal (hBand0Ideal := hBand0Ideal)
    ∧ quiescent_Band0ReferenceIdeal (hBand0ReferenceIdeal := hBand0ReferenceIdeal)
    ∧ quiescent_DqkvSum (hDqkvSum := hDqkvSum)
    ∧ quiescent_DqkvSumIdeal (hDqkvSumIdeal := hDqkvSumIdeal)
    ∧ quiescent_DqkvSumReferenceIdeal (hDqkvSumReferenceIdeal := hDqkvSumReferenceIdeal)
    ∧ quiescent_CumSum (hCumSum := hCumSum)
    ∧ quiescent_CumSumIdeal (hCumSumIdeal := hCumSumIdeal)
    ∧ quiescent_CumSumReferenceIdeal (hCumSumReferenceIdeal := hCumSumReferenceIdeal)
    ∧ quiescent_BandSum (hBandSum := hBandSum)
    ∧ quiescent_BandSumIdeal (hBandSumIdeal := hBandSumIdeal)
    ∧ quiescent_BandSumReferenceIdeal (hBandSumReferenceIdeal := hBandSumReferenceIdeal)
    ∧ quiescent_ShiftAdd (hShiftAdd := hShiftAdd)
    ∧ quiescent_ShiftAddIdeal (hShiftAddIdeal := hShiftAddIdeal)
    ∧ quiescent_ShiftAddReferenceIdeal (hShiftAddReferenceIdeal := hShiftAddReferenceIdeal)
    ∧ quiescent_Combine (hCombine := hCombine)
    ∧ quiescent_CombineIdeal (hCombineIdeal := hCombineIdeal)
    ∧ quiescent_CombineReferenceIdeal (hCombineReferenceIdeal := hCombineReferenceIdeal)
    ∧ quiescent_BackConv (hBackConv := hBackConv)
    ∧ quiescent_BackConvIdeal (hBackConvIdeal := hBackConvIdeal)
    ∧ quiescent_BackConvReferenceIdeal (hBackConvReferenceIdeal := hBackConvReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_PairKernel_PairKernelIdeal
    ∧ algebraic_PairKernelIdeal_PairReferenceIdeal (hPairKernelIdeal := hPairKernelIdeal) (hPairReferenceIdeal := hPairReferenceIdeal)
    ∧ bitexact_PairKernel_PairReference (hPairKernel := hPairKernel) (hPairReference := hPairReference)
    ∧ preserves_ChipKernel_ChipKernelIdeal
    ∧ algebraic_ChipKernelIdeal_ChipReferenceIdeal (hChipKernelIdeal := hChipKernelIdeal) (hChipReferenceIdeal := hChipReferenceIdeal)
    ∧ bitexact_ChipKernel_ChipReference (hChipKernel := hChipKernel) (hChipReference := hChipReference)
    ∧ preserves_UpdateIn_UpdateInIdeal
    ∧ algebraic_UpdateInIdeal_UpdateInReferenceIdeal (hUpdateInIdeal := hUpdateInIdeal) (hUpdateInReferenceIdeal := hUpdateInReferenceIdeal)
    ∧ preserves_UpdateOut_UpdateOutIdeal
    ∧ algebraic_UpdateOutIdeal_UpdateOutReferenceIdeal (hUpdateOutIdeal := hUpdateOutIdeal) (hUpdateOutReferenceIdeal := hUpdateOutReferenceIdeal)
    ∧ preserves_UpdateQkv_UpdateQkvIdeal
    ∧ algebraic_UpdateQkvIdeal_UpdateQkvReferenceIdeal (hUpdateQkvIdeal := hUpdateQkvIdeal) (hUpdateQkvReferenceIdeal := hUpdateQkvReferenceIdeal)
    ∧ preserves_UpdateCo_UpdateCoIdeal
    ∧ algebraic_UpdateCoIdeal_UpdateCoReferenceIdeal (hUpdateCoIdeal := hUpdateCoIdeal) (hUpdateCoReferenceIdeal := hUpdateCoReferenceIdeal)
    ∧ preserves_UpdateUp_UpdateUpIdeal
    ∧ algebraic_UpdateUpIdeal_UpdateUpReferenceIdeal (hUpdateUpIdeal := hUpdateUpIdeal) (hUpdateUpReferenceIdeal := hUpdateUpReferenceIdeal)
    ∧ preserves_UpdateDown_UpdateDownIdeal
    ∧ algebraic_UpdateDownIdeal_UpdateDownReferenceIdeal (hUpdateDownIdeal := hUpdateDownIdeal) (hUpdateDownReferenceIdeal := hUpdateDownReferenceIdeal)
    ∧ preserves_UpdatePack_UpdatePackIdeal
    ∧ algebraic_UpdatePackIdeal_UpdatePackReferenceIdeal (hUpdatePackIdeal := hUpdatePackIdeal) (hUpdatePackReferenceIdeal := hUpdatePackReferenceIdeal)
    ∧ preserves_NormBwd_NormBwdIdeal
    ∧ algebraic_NormBwdIdeal_NormBwdReferenceIdeal (hNormBwdIdeal := hNormBwdIdeal) (hNormBwdReferenceIdeal := hNormBwdReferenceIdeal)
    ∧ preserves_LossHead_LossHeadIdeal
    ∧ algebraic_LossHeadIdeal_LossHeadReferenceIdeal (hLossHeadIdeal := hLossHeadIdeal) (hLossHeadReferenceIdeal := hLossHeadReferenceIdeal)
    ∧ preserves_CrossFwd_CrossFwdIdeal
    ∧ algebraic_CrossFwdIdeal_CrossFwdReferenceIdeal (hCrossFwdIdeal := hCrossFwdIdeal) (hCrossFwdReferenceIdeal := hCrossFwdReferenceIdeal)
    ∧ preserves_MixQkv_MixQkvIdeal
    ∧ algebraic_MixQkvIdeal_MixQkvReferenceIdeal (hMixQkvIdeal := hMixQkvIdeal) (hMixQkvReferenceIdeal := hMixQkvReferenceIdeal)
    ∧ preserves_MixAux_MixAuxIdeal
    ∧ algebraic_MixAuxIdeal_MixAuxReferenceIdeal (hMixAuxIdeal := hMixAuxIdeal) (hMixAuxReferenceIdeal := hMixAuxReferenceIdeal)
    ∧ preserves_MixOut_MixOutIdeal
    ∧ algebraic_MixOutIdeal_MixOutReferenceIdeal (hMixOutIdeal := hMixOutIdeal) (hMixOutReferenceIdeal := hMixOutReferenceIdeal)
    ∧ preserves_CrossQ_CrossQIdeal
    ∧ algebraic_CrossQIdeal_CrossQReferenceIdeal (hCrossQIdeal := hCrossQIdeal) (hCrossQReferenceIdeal := hCrossQReferenceIdeal)
    ∧ preserves_CrossKv_CrossKvIdeal
    ∧ algebraic_CrossKvIdeal_CrossKvReferenceIdeal (hCrossKvIdeal := hCrossKvIdeal) (hCrossKvReferenceIdeal := hCrossKvReferenceIdeal)
    ∧ preserves_CrossOut_CrossOutIdeal
    ∧ algebraic_CrossOutIdeal_CrossOutReferenceIdeal (hCrossOutIdeal := hCrossOutIdeal) (hCrossOutReferenceIdeal := hCrossOutReferenceIdeal)
    ∧ preserves_FfnUp_FfnUpIdeal
    ∧ algebraic_FfnUpIdeal_FfnUpReferenceIdeal (hFfnUpIdeal := hFfnUpIdeal) (hFfnUpReferenceIdeal := hFfnUpReferenceIdeal)
    ∧ preserves_FfnDown_FfnDownIdeal
    ∧ algebraic_FfnDownIdeal_FfnDownReferenceIdeal (hFfnDownIdeal := hFfnDownIdeal) (hFfnDownReferenceIdeal := hFfnDownReferenceIdeal)
    ∧ preserves_GradAct_GradActIdeal
    ∧ algebraic_GradActIdeal_GradActReferenceIdeal (hGradActIdeal := hGradActIdeal) (hGradActReferenceIdeal := hGradActReferenceIdeal)
    ∧ preserves_GradDown_GradDownIdeal
    ∧ algebraic_GradDownIdeal_GradDownReferenceIdeal (hGradDownIdeal := hGradDownIdeal) (hGradDownReferenceIdeal := hGradDownReferenceIdeal)
    ∧ preserves_GradHalf_GradHalfIdeal
    ∧ algebraic_GradHalfIdeal_GradHalfReferenceIdeal (hGradHalfIdeal := hGradHalfIdeal) (hGradHalfReferenceIdeal := hGradHalfReferenceIdeal)
    ∧ preserves_GradFfn_GradFfnIdeal
    ∧ algebraic_GradFfnIdeal_GradFfnReferenceIdeal (hGradFfnIdeal := hGradFfnIdeal) (hGradFfnReferenceIdeal := hGradFfnReferenceIdeal)
    ∧ preserves_GradUp_GradUpIdeal
    ∧ algebraic_GradUpIdeal_GradUpReferenceIdeal (hGradUpIdeal := hGradUpIdeal) (hGradUpReferenceIdeal := hGradUpReferenceIdeal)
    ∧ preserves_GradOc_GradOcIdeal
    ∧ algebraic_GradOcIdeal_GradOcReferenceIdeal (hGradOcIdeal := hGradOcIdeal) (hGradOcReferenceIdeal := hGradOcReferenceIdeal)
    ∧ preserves_GradCo_GradCoIdeal
    ∧ algebraic_GradCoIdeal_GradCoReferenceIdeal (hGradCoIdeal := hGradCoIdeal) (hGradCoReferenceIdeal := hGradCoReferenceIdeal)
    ∧ preserves_GradHq_GradHqIdeal
    ∧ algebraic_GradHqIdeal_GradHqReferenceIdeal (hGradHqIdeal := hGradHqIdeal) (hGradHqReferenceIdeal := hGradHqReferenceIdeal)
    ∧ preserves_GradCq_GradCqIdeal
    ∧ algebraic_GradCqIdeal_GradCqReferenceIdeal (hGradCqIdeal := hGradCqIdeal) (hGradCqReferenceIdeal := hGradCqReferenceIdeal)
    ∧ preserves_GradMem_GradMemIdeal
    ∧ algebraic_GradMemIdeal_GradMemReferenceIdeal (hGradMemIdeal := hGradMemIdeal) (hGradMemReferenceIdeal := hGradMemReferenceIdeal)
    ∧ preserves_GradCkv_GradCkvIdeal
    ∧ algebraic_GradCkvIdeal_GradCkvReferenceIdeal (hGradCkvIdeal := hGradCkvIdeal) (hGradCkvReferenceIdeal := hGradCkvReferenceIdeal)
    ∧ preserves_GradMixed_GradMixedIdeal
    ∧ algebraic_GradMixedIdeal_GradMixedReferenceIdeal (hGradMixedIdeal := hGradMixedIdeal) (hGradMixedReferenceIdeal := hGradMixedReferenceIdeal)
    ∧ preserves_GradOut_GradOutIdeal
    ∧ algebraic_GradOutIdeal_GradOutReferenceIdeal (hGradOutIdeal := hGradOutIdeal) (hGradOutReferenceIdeal := hGradOutReferenceIdeal)
    ∧ preserves_GradMain_GradMainIdeal
    ∧ algebraic_GradMainIdeal_GradMainReferenceIdeal (hGradMainIdeal := hGradMainIdeal) (hGradMainReferenceIdeal := hGradMainReferenceIdeal)
    ∧ preserves_GradMix_GradMixIdeal
    ∧ algebraic_GradMixIdeal_GradMixReferenceIdeal (hGradMixIdeal := hGradMixIdeal) (hGradMixReferenceIdeal := hGradMixReferenceIdeal)
    ∧ preserves_GradQkv_GradQkvIdeal
    ∧ algebraic_GradQkvIdeal_GradQkvReferenceIdeal (hGradQkvIdeal := hGradQkvIdeal) (hGradQkvReferenceIdeal := hGradQkvReferenceIdeal)
    ∧ preserves_GradAux_GradAuxIdeal
    ∧ algebraic_GradAuxIdeal_GradAuxReferenceIdeal (hGradAuxIdeal := hGradAuxIdeal) (hGradAuxReferenceIdeal := hGradAuxReferenceIdeal)
    ∧ preserves_PairSum_PairSumIdeal
    ∧ algebraic_PairSumIdeal_PairSumReferenceIdeal (hPairSumIdeal := hPairSumIdeal) (hPairSumReferenceIdeal := hPairSumReferenceIdeal)
    ∧ bitexact_PairSum_PairSumReference (hPairSum := hPairSum) (hPairSumReference := hPairSumReference)
    ∧ preserves_ChipSum_ChipSumIdeal
    ∧ algebraic_ChipSumIdeal_ChipSumReferenceIdeal (hChipSumIdeal := hChipSumIdeal) (hChipSumReferenceIdeal := hChipSumReferenceIdeal)
    ∧ bitexact_ChipSum_ChipSumReference (hChipSum := hChipSum) (hChipSumReference := hChipSumReference)
    ∧ preserves_NormMix_NormMixIdeal
    ∧ algebraic_NormMixIdeal_NormMixReferenceIdeal (hNormMixIdeal := hNormMixIdeal) (hNormMixReferenceIdeal := hNormMixReferenceIdeal)
    ∧ preserves_NormMem_NormMemIdeal
    ∧ algebraic_NormMemIdeal_NormMemReferenceIdeal (hNormMemIdeal := hNormMemIdeal) (hNormMemReferenceIdeal := hNormMemReferenceIdeal)
    ∧ preserves_Band0_Band0Ideal
    ∧ algebraic_Band0Ideal_Band0ReferenceIdeal (hBand0Ideal := hBand0Ideal) (hBand0ReferenceIdeal := hBand0ReferenceIdeal)
    ∧ preserves_DqkvSum_DqkvSumIdeal
    ∧ algebraic_DqkvSumIdeal_DqkvSumReferenceIdeal (hDqkvSumIdeal := hDqkvSumIdeal) (hDqkvSumReferenceIdeal := hDqkvSumReferenceIdeal)
    ∧ preserves_CumSum_CumSumIdeal
    ∧ algebraic_CumSumIdeal_CumSumReferenceIdeal (hCumSumIdeal := hCumSumIdeal) (hCumSumReferenceIdeal := hCumSumReferenceIdeal)
    ∧ preserves_BandSum_BandSumIdeal
    ∧ algebraic_BandSumIdeal_BandSumReferenceIdeal (hBandSumIdeal := hBandSumIdeal) (hBandSumReferenceIdeal := hBandSumReferenceIdeal)
    ∧ preserves_ShiftAdd_ShiftAddIdeal
    ∧ algebraic_ShiftAddIdeal_ShiftAddReferenceIdeal (hShiftAddIdeal := hShiftAddIdeal) (hShiftAddReferenceIdeal := hShiftAddReferenceIdeal)
    ∧ preserves_Combine_CombineIdeal
    ∧ algebraic_CombineIdeal_CombineReferenceIdeal (hCombineIdeal := hCombineIdeal) (hCombineReferenceIdeal := hCombineReferenceIdeal)
    ∧ preserves_BackConv_BackConvIdeal
    ∧ algebraic_BackConvIdeal_BackConvReferenceIdeal (hBackConvIdeal := hBackConvIdeal) (hBackConvReferenceIdeal := hBackConvReferenceIdeal)
-- ==== Kernel.lean ====
abbrev S3360x1024 : Shape := ⟨2, ![3360, 1024]⟩
abbrev S8x3360x1024 : Shape := ⟨3, ![8, 3360, 1024]⟩
abbrev S7 : Shape := ⟨1, ![7]⟩
abbrev S_ : Shape := ⟨0, ![]⟩
abbrev S1x3360x1024 : Shape := ⟨3, ![1, 3360, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S3360x1024, .bf16⟩
  | .hbm, ⟨1, _⟩ => ⟨S8x3360x1024, .bf16⟩
  | _, _ => ⟨S3360x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_8 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v14 : BitVec 32 := Scalar.muli c4_i32_8 v2
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v15 : BitVec 32 := Scalar.muli c2_i32_9 v5
  let v16 : BitVec 32 := Scalar.addi v14 v15
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v17 : BitVec 32 := Scalar.addi v16 v8
  let c0_i32 : BitVec 32 := 0#32
  let c0_i32_10 : BitVec 32 := 0#32
  ![v17.toNat, 0, 0]
def k0_dev1 (d0 : Dev nD) : Nat :=
  let c0_i32_22 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_21 : BitVec 32 := 4#32
  let v36 : BitVec 32 := Scalar.muli v2 c4_i32_21
  let v37 : BitVec 32 := Scalar.addi c0_i32_22 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_23 : BitVec 32 := 2#32
  let v38 : BitVec 32 := Scalar.muli v5 c2_i32_23
  let v39 : BitVec 32 := Scalar.addi v37 v38
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_24 : BitVec 32 := 1#32
  let v40 : BitVec 32 := Scalar.muli v13 c1_i32_24
  let v41 : BitVec 32 := Scalar.addi v39 v40
  v41.toNat
def k0_dev2 (d0 : Dev nD) : Nat :=
  let c0_i32_30 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_29 : BitVec 32 := 4#32
  let v48 : BitVec 32 := Scalar.muli v9 c4_i32_29
  let v49 : BitVec 32 := Scalar.addi c0_i32_30 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v50 : BitVec 32 := Scalar.muli v5 c2_i32_31
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_32 : BitVec 32 := 1#32
  let v52 : BitVec 32 := Scalar.muli v8 c1_i32_32
  let v53 : BitVec 32 := Scalar.addi v51 v52
  v53.toNat
def k0_dev3 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_37 : BitVec 32 := 4#32
  let v60 : BitVec 32 := Scalar.muli v2 c4_i32_37
  let v61 : BitVec 32 := Scalar.addi c0_i32_38 v60
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_39 : BitVec 32 := 2#32
  let v62 : BitVec 32 := Scalar.muli v10 c2_i32_39
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_40 : BitVec 32 := 1#32
  let v64 : BitVec 32 := Scalar.muli v8 c1_i32_40
  let v65 : BitVec 32 := Scalar.addi v63 v64
  v65.toNat
def k0_dev4 (d0 : Dev nD) : Nat :=
  let c0_i32_45 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_44 : BitVec 32 := 4#32
  let v72 : BitVec 32 := Scalar.muli v11 c4_i32_44
  let v73 : BitVec 32 := Scalar.addi c0_i32_45 v72
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_46 : BitVec 32 := 2#32
  let v74 : BitVec 32 := Scalar.muli v12 c2_i32_46
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_47 : BitVec 32 := 1#32
  let v76 : BitVec 32 := Scalar.muli v8 c1_i32_47
  let v77 : BitVec 32 := Scalar.addi v75 v76
  v77.toNat
def k0_off2 (d0 : Dev nD) : Fin 3 → Nat :=
  let c4_i32_64 : BitVec 32 := 4#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v112 : BitVec 32 := Scalar.muli c4_i32_64 v9
  let c2_i32_65 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v113 : BitVec 32 := Scalar.muli c2_i32_65 v5
  let v114 : BitVec 32 := Scalar.addi v112 v113
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v115 : BitVec 32 := Scalar.addi v114 v8
  let c0_i32_72 : BitVec 32 := 0#32
  let c0_i32_73 : BitVec 32 := 0#32
  ![v115.toNat, 0, 0]
def k0_dev5 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_78 : BitVec 32 := 4#32
  let v128 : BitVec 32 := Scalar.muli v2 c4_i32_78
  let v129 : BitVec 32 := Scalar.addi c0_i32_79 v128
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v130 : BitVec 32 := Scalar.muli v5 c2_i32_80
  let v131 : BitVec 32 := Scalar.addi v129 v130
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_81 : BitVec 32 := 1#32
  let v132 : BitVec 32 := Scalar.muli v13 c1_i32_81
  let v133 : BitVec 32 := Scalar.addi v131 v132
  v133.toNat
def k0_off3 (d0 : Dev nD) : Fin 3 → Nat :=
  let c4_i32_88 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v146 : BitVec 32 := Scalar.muli c4_i32_88 v2
  let c2_i32_89 : BitVec 32 := 2#32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v147 : BitVec 32 := Scalar.muli c2_i32_89 v10
  let v148 : BitVec 32 := Scalar.addi v146 v147
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v149 : BitVec 32 := Scalar.addi v148 v8
  let c0_i32_96 : BitVec 32 := 0#32
  let c0_i32_97 : BitVec 32 := 0#32
  ![v149.toNat, 0, 0]
def k0_dev6 (d0 : Dev nD) : Nat :=
  let c0_i32_102 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_101 : BitVec 32 := 4#32
  let v162 : BitVec 32 := Scalar.muli v2 c4_i32_101
  let v163 : BitVec 32 := Scalar.addi c0_i32_102 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v164 : BitVec 32 := Scalar.muli v5 c2_i32_103
  let v165 : BitVec 32 := Scalar.addi v163 v164
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_104 : BitVec 32 := 1#32
  let v166 : BitVec 32 := Scalar.muli v13 c1_i32_104
  let v167 : BitVec 32 := Scalar.addi v165 v166
  v167.toNat
def k0_off4 (d0 : Dev nD) : Fin 3 → Nat :=
  let c4_i32_111 : BitVec 32 := 4#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v180 : BitVec 32 := Scalar.muli c4_i32_111 v11
  let c2_i32_112 : BitVec 32 := 2#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v181 : BitVec 32 := Scalar.muli c2_i32_112 v12
  let v182 : BitVec 32 := Scalar.addi v180 v181
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v183 : BitVec 32 := Scalar.addi v182 v8
  let c0_i32_119 : BitVec 32 := 0#32
  let c0_i32_120 : BitVec 32 := 0#32
  ![v183.toNat, 0, 0]
def k0_dev7 (d0 : Dev nD) : Nat :=
  let c0_i32_125 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_124 : BitVec 32 := 4#32
  let v196 : BitVec 32 := Scalar.muli v2 c4_i32_124
  let v197 : BitVec 32 := Scalar.addi c0_i32_125 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_126 : BitVec 32 := 2#32
  let v198 : BitVec 32 := Scalar.muli v5 c2_i32_126
  let v199 : BitVec 32 := Scalar.addi v197 v198
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let c1_i32_127 : BitVec 32 := 1#32
  let v200 : BitVec 32 := Scalar.muli v13 c1_i32_127
  let v201 : BitVec 32 := Scalar.addi v199 v200
  v201.toNat
def k0_off5 (d0 : Dev nD) : Fin 3 → Nat :=
  let c4_i32_134 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v214 : BitVec 32 := Scalar.muli c4_i32_134 v2
  let c2_i32_135 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v215 : BitVec 32 := Scalar.muli c2_i32_135 v5
  let v216 : BitVec 32 := Scalar.addi v214 v215
  let c1_i32_7 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.subi c1_i32_7 v8
  let v217 : BitVec 32 := Scalar.addi v216 v13
  let c0_i32_142 : BitVec 32 := 0#32
  let c0_i32_143 : BitVec 32 := 0#32
  ![v217.toNat, 0, 0]
def k0_off6 (d0 : Dev nD) : Fin 3 → Nat :=
  let c4_i32_149 : BitVec 32 := 4#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v235 : BitVec 32 := Scalar.muli c4_i32_149 v9
  let c2_i32_150 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v236 : BitVec 32 := Scalar.muli c2_i32_150 v5
  let v237 : BitVec 32 := Scalar.addi v235 v236
  let c1_i32_146 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v230 : BitVec 32 := Scalar.subi c1_i32_146 v8
  let v238 : BitVec 32 := Scalar.addi v237 v230
  let c0_i32_157 : BitVec 32 := 0#32
  let c0_i32_158 : BitVec 32 := 0#32
  ![v238.toNat, 0, 0]
def k0_off7 (d0 : Dev nD) : Fin 3 → Nat :=
  let c4_i32_164 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v256 : BitVec 32 := Scalar.muli c4_i32_164 v2
  let c2_i32_165 : BitVec 32 := 2#32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v257 : BitVec 32 := Scalar.muli c2_i32_165 v10
  let v258 : BitVec 32 := Scalar.addi v256 v257
  let c1_i32_161 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v251 : BitVec 32 := Scalar.subi c1_i32_161 v8
  let v259 : BitVec 32 := Scalar.addi v258 v251
  let c0_i32_172 : BitVec 32 := 0#32
  let c0_i32_173 : BitVec 32 := 0#32
  ![v259.toNat, 0, 0]
def k0_off8 (d0 : Dev nD) : Fin 3 → Nat :=
  let c4_i32_179 : BitVec 32 := 4#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v277 : BitVec 32 := Scalar.muli c4_i32_179 v11
  let c2_i32_180 : BitVec 32 := 2#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v278 : BitVec 32 := Scalar.muli c2_i32_180 v12
  let v279 : BitVec 32 := Scalar.addi v277 v278
  let c1_i32_176 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v272 : BitVec 32 := Scalar.subi c1_i32_176 v8
  let v280 : BitVec 32 := Scalar.addi v279 v272
  let c0_i32_187 : BitVec 32 := 0#32
  let c0_i32_188 : BitVec 32 := 0#32
  ![v280.toNat, 0, 0]
-- ==== Reference.lean ====
abbrev S26880x1024 : Shape := ⟨2, ![26880, 1024]⟩
abbrev S8x3360x1024 : Shape := ⟨3, ![8, 3360, 1024]⟩

abbrev nBuf : Space → Nat
  | .hbm => 2
  | .vmem => 0
  | .smem => 0
  | _ => 0

abbrev bufTy : (tb : Table) → Fin (tcTables nBuf tb) → BufTy
  | .hbm, ⟨0, _⟩ => ⟨S26880x1024, .bf16⟩
  | .hbm, ⟨1, _⟩ => ⟨S8x3360x1024, .bf16⟩
  | _, _ => ⟨S26880x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== PairKernel.lean ====
abbrev S8x3360x1024 : Shape := ⟨3, ![8, 3360, 1024]⟩
abbrev S4x3360x1024 : Shape := ⟨3, ![4, 3360, 1024]⟩
abbrev S4 : Shape := ⟨1, ![4]⟩
abbrev S1 : Shape := ⟨1, ![1]⟩
abbrev S_ : Shape := ⟨0, ![]⟩
abbrev S1x3360x1024 : Shape := ⟨3, ![1, 3360, 1024]⟩
abbrev S3360x1024 : Shape := ⟨2, ![3360, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x3360x1024, .bf16⟩
  | .hbm, ⟨1, _⟩ => ⟨S4x3360x1024, .bf16⟩
  | .hbm, ⟨2, _⟩ => ⟨S4x3360x1024, .bf16⟩
  | _, _ => ⟨S8x3360x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v1_0 : Ref sig .tc := ⟨.hbm, 1, rfl⟩
abbrev main_v1_1 : Ref sig .tc := ⟨.hbm, 2, rfl⟩

abbrev nD : Nat := 8
abbrev τ : Topo := Topo.v7x

variable {F : FTy → Type} [FloatOps F]

abbrev grid0 : Pipeline.Grid := .none

def k0_off1 (d0 : Dev nD) (c0_i32_7 : BitVec 32) : Fin 3 → Nat :=
  let c1_i32_6 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v14 : BitVec 32 := Scalar.subi c1_i32_6 v8
  let v15 : BitVec 32 := Scalar.addi c0_i32_7 v14
  let c0_i32_23 : BitVec 32 := 0#32
  let c0_i32_24 : BitVec 32 := 0#32
  ![v15.toNat, 0, 0]
def k0_dev1 (d0 : Dev nD) : Nat :=
  let c0_i32_18 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_17 : BitVec 32 := 4#32
  let v22 : BitVec 32 := Scalar.muli v2 c4_i32_17
  let v23 : BitVec 32 := Scalar.addi c0_i32_18 v22
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_19 : BitVec 32 := 2#32
  let v24 : BitVec 32 := Scalar.muli v5 c2_i32_19
  let v25 : BitVec 32 := Scalar.addi v23 v24
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_20 : BitVec 32 := 1#32
  let v26 : BitVec 32 := Scalar.muli v9 c1_i32_20
  let v27 : BitVec 32 := Scalar.addi v25 v26
  v27.toNat
def k0_dev2 (d0 : Dev nD) : Nat :=
  let c0_i32_29 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_28 : BitVec 32 := 4#32
  let v36 : BitVec 32 := Scalar.muli v2 c4_i32_28
  let v37 : BitVec 32 := Scalar.addi c0_i32_29 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_30 : BitVec 32 := 2#32
  let v38 : BitVec 32 := Scalar.muli v5 c2_i32_30
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_31 : BitVec 32 := 1#32
  let v40 : BitVec 32 := Scalar.muli v9 c1_i32_31
  let v41 : BitVec 32 := Scalar.addi v39 v40
  v41.toNat
def k0_dev3 (d0 : Dev nD) : Nat :=
  let c0_i32_40 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_39 : BitVec 32 := 4#32
  let v50 : BitVec 32 := Scalar.muli v2 c4_i32_39
  let v51 : BitVec 32 := Scalar.addi c0_i32_40 v50
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_41 : BitVec 32 := 2#32
  let v52 : BitVec 32 := Scalar.muli v5 c2_i32_41
  let v53 : BitVec 32 := Scalar.addi v51 v52
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_42 : BitVec 32 := 1#32
  let v54 : BitVec 32 := Scalar.muli v9 c1_i32_42
  let v55 : BitVec 32 := Scalar.addi v53 v54
  v55.toNat
def k0_dev4 (d0 : Dev nD) : Nat :=
  let c0_i32_50 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_49 : BitVec 32 := 4#32
  let v64 : BitVec 32 := Scalar.muli v2 c4_i32_49
  let v65 : BitVec 32 := Scalar.addi c0_i32_50 v64
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_51 : BitVec 32 := 2#32
  let v66 : BitVec 32 := Scalar.muli v5 c2_i32_51
  let v67 : BitVec 32 := Scalar.addi v65 v66
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_52 : BitVec 32 := 1#32
  let v68 : BitVec 32 := Scalar.muli v9 c1_i32_52
  let v69 : BitVec 32 := Scalar.addi v67 v68
  v69.toNat
def k0_off2 (d0 : Dev nD) (c0_i32 : BitVec 32) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.addi c0_i32 v8
  let c0_i32_61 : BitVec 32 := 0#32
  let c0_i32_62 : BitVec 32 := 0#32
  ![v10.toNat, 0, 0]
-- ==== PairReference.lean ====
abbrev S64x3360x1024 : Shape := ⟨3, ![64, 3360, 1024]⟩
abbrev S4x2x4x2x3360x1024 : Shape := ⟨6, ![4, 2, 4, 2, 3360, 1024]⟩
abbrev S4x1x4x1x3360x1024 : Shape := ⟨6, ![4, 1, 4, 1, 3360, 1024]⟩
abbrev S4x4x3360x1024 : Shape := ⟨4, ![4, 4, 3360, 1024]⟩
abbrev S4x1x4x3360x1024 : Shape := ⟨5, ![4, 1, 4, 3360, 1024]⟩
abbrev S4x2x4x3360x1024 : Shape := ⟨5, ![4, 2, 4, 3360, 1024]⟩
abbrev S32x3360x1024 : Shape := ⟨3, ![32, 3360, 1024]⟩

abbrev nBuf : Space → Nat
  | .hbm => 18
  | .vmem => 0
  | .smem => 0
  | _ => 0

abbrev bufTy : (tb : Table) → Fin (tcTables nBuf tb) → BufTy
  | .hbm, ⟨0, _⟩ => ⟨S64x3360x1024, .bf16⟩
  | .hbm, ⟨1, _⟩ => ⟨S4x2x4x2x3360x1024, .bf16⟩
  | .hbm, ⟨2, _⟩ => ⟨S4x1x4x1x3360x1024, .bf16⟩
  | .hbm, ⟨3, _⟩ => ⟨S4x4x3360x1024, .bf16⟩
  | .hbm, ⟨4, _⟩ => ⟨S4x1x4x1x3360x1024, .bf16⟩
  | .hbm, ⟨5, _⟩ => ⟨S4x4x3360x1024, .bf16⟩
  | .hbm, ⟨6, _⟩ => ⟨S4x1x4x3360x1024, .bf16⟩
  | .hbm, ⟨7, _⟩ => ⟨S4x1x4x3360x1024, .bf16⟩
  | .hbm, ⟨8, _⟩ => ⟨S4x2x4x3360x1024, .bf16⟩
  | .hbm, ⟨9, _⟩ => ⟨S4x1x4x1x3360x1024, .bf16⟩
  | .hbm, ⟨10, _⟩ => ⟨S4x4x3360x1024, .bf16⟩
  | .hbm, ⟨11, _⟩ => ⟨S4x1x4x1x3360x1024, .bf16⟩
  | .hbm, ⟨12, _⟩ => ⟨S4x4x3360x1024, .bf16⟩
  | .hbm, ⟨13, _⟩ => ⟨S4x1x4x3360x1024, .bf16⟩
  | .hbm, ⟨14, _⟩ => ⟨S4x1x4x3360x1024, .bf16⟩
  | .hbm, ⟨15, _⟩ => ⟨S4x2x4x3360x1024, .bf16⟩
  | .hbm, ⟨16, _⟩ => ⟨S32x3360x1024, .bf16⟩
  | .hbm, ⟨17, _⟩ => ⟨S32x3360x1024, .bf16⟩
  | _, _ => ⟨S64x3360x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩

abbrev nD : Nat := 1
abbrev τ : Topo := Topo.v7x

variable {F : FTy → Type} [FloatOps F]
-- ==== ChipKernel.lean ====
abbrev S4x3360x1024 : Shape := ⟨3, ![4, 3360, 1024]⟩
abbrev S3360x1024 : Shape := ⟨2, ![3360, 1024]⟩
abbrev S3 : Shape := ⟨1, ![3]⟩
abbrev S_ : Shape := ⟨0, ![]⟩
abbrev S1x3360x1024 : Shape := ⟨3, ![1, 3360, 1024]⟩
abbrev S1 : Shape := ⟨1, ![1]⟩

abbrev nBuf : Space → Nat
  | .hbm => 5
  | .vmem => 0
  | .smem => 0
  | _ => 0

abbrev bufTy : (tb : Table) → Fin (tcTables nBuf tb) → BufTy
  | .hbm, ⟨0, _⟩ => ⟨S4x3360x1024, .bf16⟩
  | .hbm, ⟨1, _⟩ => ⟨S3360x1024, .bf16⟩
  | .hbm, ⟨2, _⟩ => ⟨S3360x1024, .bf16⟩
  | .hbm, ⟨3, _⟩ => ⟨S3360x1024, .bf16⟩
  | .hbm, ⟨4, _⟩ => ⟨S3360x1024, .bf16⟩
  | _, _ => ⟨S4x3360x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v1_0 : Ref sig .tc := ⟨.hbm, 1, rfl⟩
abbrev main_v1_1 : Ref sig .tc := ⟨.hbm, 2, rfl⟩
abbrev main_v1_2 : Ref sig .tc := ⟨.hbm, 3, rfl⟩
abbrev main_v1_3 : Ref sig .tc := ⟨.hbm, 4, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32 : BitVec 32 := 0#32
  let c0_i32_8 : BitVec 32 := 0#32
  ![v14.toNat, 0, 0]
def k0_off2 (d0 : Dev nD) : Fin 3 → Nat :=
  let c2_i32_9 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v17 : BitVec 32 := Scalar.muli c2_i32_9 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v18 : BitVec 32 := Scalar.addi v17 v5
  let c0_i32_18 : BitVec 32 := 0#32
  let c0_i32_19 : BitVec 32 := 0#32
  ![v18.toNat, 0, 0]
def k0_dev1 (d0 : Dev nD) : Nat :=
  let c0_i32_15 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_14 : BitVec 32 := 4#32
  let v23 : BitVec 32 := Scalar.muli v9 c4_i32_14
  let v24 : BitVec 32 := Scalar.addi c0_i32_15 v23
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v25 : BitVec 32 := Scalar.muli v5 c2_i32_16
  let v26 : BitVec 32 := Scalar.addi v24 v25
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v27 : BitVec 32 := Scalar.muli v8 c1_i32_17
  let v28 : BitVec 32 := Scalar.addi v26 v27
  v28.toNat
def k0_off3 (d0 : Dev nD) : Fin 3 → Nat :=
  let c2_i32_10 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v19 : BitVec 32 := Scalar.muli c2_i32_10 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v20 : BitVec 32 := Scalar.addi v19 v10
  let c0_i32_26 : BitVec 32 := 0#32
  let c0_i32_27 : BitVec 32 := 0#32
  ![v20.toNat, 0, 0]
def k0_dev2 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v35 : BitVec 32 := Scalar.muli v2 c4_i32_22
  let v36 : BitVec 32 := Scalar.addi c0_i32_23 v35
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_24 : BitVec 32 := 2#32
  let v37 : BitVec 32 := Scalar.muli v10 c2_i32_24
  let v38 : BitVec 32 := Scalar.addi v36 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v39 : BitVec 32 := Scalar.muli v8 c1_i32_25
  let v40 : BitVec 32 := Scalar.addi v38 v39
  v40.toNat
def k0_off4 (d0 : Dev nD) : Fin 3 → Nat :=
  let c2_i32_11 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v21 : BitVec 32 := Scalar.muli c2_i32_11 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v22 : BitVec 32 := Scalar.addi v21 v12
  let c0_i32_34 : BitVec 32 := 0#32
  let c0_i32_35 : BitVec 32 := 0#32
  ![v22.toNat, 0, 0]
def k0_dev3 (d0 : Dev nD) : Nat :=
  let c0_i32_31 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_30 : BitVec 32 := 4#32
  let v47 : BitVec 32 := Scalar.muli v11 c4_i32_30
  let v48 : BitVec 32 := Scalar.addi c0_i32_31 v47
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_32 : BitVec 32 := 2#32
  let v49 : BitVec 32 := Scalar.muli v12 c2_i32_32
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_33 : BitVec 32 := 1#32
  let v51 : BitVec 32 := Scalar.muli v8 c1_i32_33
  let v52 : BitVec 32 := Scalar.addi v50 v51
  v52.toNat
-- ==== ChipReference.lean ====
abbrev S32x3360x1024 : Shape := ⟨3, ![32, 3360, 1024]⟩
abbrev S4x2x4x3360x1024 : Shape := ⟨5, ![4, 2, 4, 3360, 1024]⟩
abbrev S1x2x1x3360x1024 : Shape := ⟨5, ![1, 2, 1, 3360, 1024]⟩
abbrev S2x3360x1024 : Shape := ⟨3, ![2, 3360, 1024]⟩
abbrev S1x2x3360x1024 : Shape := ⟨4, ![1, 2, 3360, 1024]⟩
abbrev S4x2x3360x1024 : Shape := ⟨4, ![4, 2, 3360, 1024]⟩
abbrev S26880x1024 : Shape := ⟨2, ![26880, 1024]⟩

abbrev nBuf : Space → Nat
  | .hbm => 58
  | .vmem => 0
  | .smem => 0
  | _ => 0

abbrev bufTy : (tb : Table) → Fin (tcTables nBuf tb) → BufTy
  | .hbm, ⟨0, _⟩ => ⟨S32x3360x1024, .bf16⟩
  | .hbm, ⟨1, _⟩ => ⟨S4x2x4x3360x1024, .bf16⟩
  | .hbm, ⟨2, _⟩ => ⟨S1x2x1x3360x1024, .bf16⟩
  | .hbm, ⟨3, _⟩ => ⟨S2x3360x1024, .bf16⟩
  | .hbm, ⟨4, _⟩ => ⟨S1x2x1x3360x1024, .bf16⟩
  | .hbm, ⟨5, _⟩ => ⟨S2x3360x1024, .bf16⟩
  | .hbm, ⟨6, _⟩ => ⟨S1x2x1x3360x1024, .bf16⟩
  | .hbm, ⟨7, _⟩ => ⟨S2x3360x1024, .bf16⟩
  | .hbm, ⟨8, _⟩ => ⟨S1x2x1x3360x1024, .bf16⟩
  | .hbm, ⟨9, _⟩ => ⟨S2x3360x1024, .bf16⟩
  | .hbm, ⟨10, _⟩ => ⟨S1x2x3360x1024, .bf16⟩
  | .hbm, ⟨11, _⟩ => ⟨S1x2x3360x1024, .bf16⟩
  | .hbm, ⟨12, _⟩ => ⟨S1x2x3360x1024, .bf16⟩
  | .hbm, ⟨13, _⟩ => ⟨S1x2x3360x1024, .bf16⟩
  | .hbm, ⟨14, _⟩ => ⟨S4x2x3360x1024, .bf16⟩
  | .hbm, ⟨15, _⟩ => ⟨S26880x1024, .bf16⟩
  | .hbm, ⟨16, _⟩ => ⟨S1x2x1x3360x1024, .bf16⟩
  | .hbm, ⟨17, _⟩ => ⟨S2x3360x1024, .bf16⟩
  | .hbm, ⟨18, _⟩ => ⟨S1x2x1x3360x1024, .bf16⟩
  | .hbm, ⟨19, _⟩ => ⟨S2x3360x1024, .bf16⟩
  | .hbm, ⟨20, _⟩ => ⟨S1x2x1x3360x1024, .bf16⟩
  | .hbm, ⟨21, _⟩ => ⟨S2x3360x1024, .bf16⟩
  | .hbm, ⟨22, _⟩ => ⟨S1x2x1x3360x1024, .bf16⟩
  | .hbm, ⟨23, _⟩ => ⟨S2x3360x1024, .bf16⟩
  | .hbm, ⟨24, _⟩ => ⟨S1x2x3360x1024, .bf16⟩
  | .hbm, ⟨25, _⟩ => ⟨S1x2x3360x1024, .bf16⟩
  | .hbm, ⟨26, _⟩ => ⟨S1x2x3360x1024, .bf16⟩
  | .hbm, ⟨27, _⟩ => ⟨S1x2x3360x1024, .bf16⟩
  | .hbm, ⟨28, _⟩ => ⟨S4x2x3360x1024, .bf16⟩
  | .hbm, ⟨29, _⟩ => ⟨S26880x1024, .bf16⟩
  | .hbm, ⟨30, _⟩ => ⟨S1x2x1x3360x1024, .bf16⟩
  | .hbm, ⟨31, _⟩ => ⟨S2x3360x1024, .bf16⟩
  | .hbm, ⟨32, _⟩ => ⟨S1x2x1x3360x1024, .bf16⟩
  | .hbm, ⟨33, _⟩ => ⟨S2x3360x1024, .bf16⟩
  | .hbm, ⟨34, _⟩ => ⟨S1x2x1x3360x1024, .bf16⟩
  | .hbm, ⟨35, _⟩ => ⟨S2x3360x1024, .bf16⟩
  | .hbm, ⟨36, _⟩ => ⟨S1x2x1x3360x1024, .bf16⟩
  | .hbm, ⟨37, _⟩ => ⟨S2x3360x1024, .bf16⟩
  | .hbm, ⟨38, _⟩ => ⟨S1x2x3360x1024, .bf16⟩
  | .hbm, ⟨39, _⟩ => ⟨S1x2x3360x1024, .bf16⟩
  | .hbm, ⟨40, _⟩ => ⟨S1x2x3360x1024, .bf16⟩
  | .hbm, ⟨41, _⟩ => ⟨S1x2x3360x1024, .bf16⟩
  | .hbm, ⟨42, _⟩ => ⟨S4x2x3360x1024, .bf16⟩
  | .hbm, ⟨43, _⟩ => ⟨S26880x1024, .bf16⟩
  | .hbm, ⟨44, _⟩ => ⟨S1x2x1x3360x1024, .bf16⟩
  | .hbm, ⟨45, _⟩ => ⟨S2x3360x1024, .bf16⟩
  | .hbm, ⟨46, _⟩ => ⟨S1x2x1x3360x1024, .bf16⟩
  | .hbm, ⟨47, _⟩ => ⟨S2x3360x1024, .bf16⟩
  | .hbm, ⟨48, _⟩ => ⟨S1x2x1x3360x1024, .bf16⟩
  | .hbm, ⟨49, _⟩ => ⟨S2x3360x1024, .bf16⟩
  | .hbm, ⟨50, _⟩ => ⟨S1x2x1x3360x1024, .bf16⟩
  | .hbm, ⟨51, _⟩ => ⟨S2x3360x1024, .bf16⟩
  | .hbm, ⟨52, _⟩ => ⟨S1x2x3360x1024, .bf16⟩
  | .hbm, ⟨53, _⟩ => ⟨S1x2x3360x1024, .bf16⟩
  | .hbm, ⟨54, _⟩ => ⟨S1x2x3360x1024, .bf16⟩
  | .hbm, ⟨55, _⟩ => ⟨S1x2x3360x1024, .bf16⟩
  | .hbm, ⟨56, _⟩ => ⟨S4x2x3360x1024, .bf16⟩
  | .hbm, ⟨57, _⟩ => ⟨S26880x1024, .bf16⟩
  | _, _ => ⟨S32x3360x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩
abbrev main_v23 : Ref sig .tc := ⟨.hbm, 24, rfl⟩
abbrev main_v24 : Ref sig .tc := ⟨.hbm, 25, rfl⟩
abbrev main_v25 : Ref sig .tc := ⟨.hbm, 26, rfl⟩
abbrev main_v26 : Ref sig .tc := ⟨.hbm, 27, rfl⟩
abbrev main_v27 : Ref sig .tc := ⟨.hbm, 28, rfl⟩
abbrev main_v28 : Ref sig .tc := ⟨.hbm, 29, rfl⟩
abbrev main_v29 : Ref sig .tc := ⟨.hbm, 30, rfl⟩
abbrev main_v30 : Ref sig .tc := ⟨.hbm, 31, rfl⟩
abbrev main_v31 : Ref sig .tc := ⟨.hbm, 32, rfl⟩
abbrev main_v32 : Ref sig .tc := ⟨.hbm, 33, rfl⟩
abbrev main_v33 : Ref sig .tc := ⟨.hbm, 34, rfl⟩
abbrev main_v34 : Ref sig .tc := ⟨.hbm, 35, rfl⟩
abbrev main_v35 : Ref sig .tc := ⟨.hbm, 36, rfl⟩
abbrev main_v36 : Ref sig .tc := ⟨.hbm, 37, rfl⟩
abbrev main_v37 : Ref sig .tc := ⟨.hbm, 38, rfl⟩
abbrev main_v38 : Ref sig .tc := ⟨.hbm, 39, rfl⟩
abbrev main_v39 : Ref sig .tc := ⟨.hbm, 40, rfl⟩
abbrev main_v40 : Ref sig .tc := ⟨.hbm, 41, rfl⟩
abbrev main_v41 : Ref sig .tc := ⟨.hbm, 42, rfl⟩
abbrev main_v42 : Ref sig .tc := ⟨.hbm, 43, rfl⟩
abbrev main_v43 : Ref sig .tc := ⟨.hbm, 44, rfl⟩
abbrev main_v44 : Ref sig .tc := ⟨.hbm, 45, rfl⟩
abbrev main_v45 : Ref sig .tc := ⟨.hbm, 46, rfl⟩
abbrev main_v46 : Ref sig .tc := ⟨.hbm, 47, rfl⟩
abbrev main_v47 : Ref sig .tc := ⟨.hbm, 48, rfl⟩
abbrev main_v48 : Ref sig .tc := ⟨.hbm, 49, rfl⟩
abbrev main_v49 : Ref sig .tc := ⟨.hbm, 50, rfl⟩
abbrev main_v50 : Ref sig .tc := ⟨.hbm, 51, rfl⟩
abbrev main_v51 : Ref sig .tc := ⟨.hbm, 52, rfl⟩
abbrev main_v52 : Ref sig .tc := ⟨.hbm, 53, rfl⟩
abbrev main_v53 : Ref sig .tc := ⟨.hbm, 54, rfl⟩
abbrev main_v54 : Ref sig .tc := ⟨.hbm, 55, rfl⟩
abbrev main_v55 : Ref sig .tc := ⟨.hbm, 56, rfl⟩
abbrev main_v56 : Ref sig .tc := ⟨.hbm, 57, rfl⟩

abbrev nD : Nat := 1
abbrev τ : Topo := Topo.v7x

variable {F : FTy → Type} [FloatOps F]
-- ==== UpdateIn.lean ====
abbrev S256x2820 : Shape := ⟨2, ![256, 2820]⟩

abbrev nBuf : Space → Nat
  | .hbm => 7
  | .vmem => 7
  | .smem => 0
  | _ => 0

abbrev bufTy : (tb : Table) → Fin (tcTables nBuf tb) → BufTy
  | .hbm, ⟨0, _⟩ => ⟨S256x2820, .f32⟩
  | .hbm, ⟨1, _⟩ => ⟨S256x2820, .f32⟩
  | .hbm, ⟨2, _⟩ => ⟨S256x2820, .f32⟩
  | .hbm, ⟨3, _⟩ => ⟨S256x2820, .f32⟩
  | .hbm, ⟨4, _⟩ => ⟨S256x2820, .f32⟩
  | .hbm, ⟨5, _⟩ => ⟨S256x2820, .f32⟩
  | .hbm, ⟨6, _⟩ => ⟨S256x2820, .f32⟩
  | .local _ .vmem, ⟨0, _⟩ => ⟨S256x2820, .f32⟩
  | .local _ .vmem, ⟨1, _⟩ => ⟨S256x2820, .f32⟩
  | .local _ .vmem, ⟨2, _⟩ => ⟨S256x2820, .f32⟩
  | .local _ .vmem, ⟨3, _⟩ => ⟨S256x2820, .f32⟩
  | .local _ .vmem, ⟨4, _⟩ => ⟨S256x2820, .f32⟩
  | .local _ .vmem, ⟨5, _⟩ => ⟨S256x2820, .f32⟩
  | .local _ .vmem, ⟨6, _⟩ => ⟨S256x2820, .f32⟩
  | _, _ => ⟨S256x2820, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2820 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2820 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2820 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2820 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2820 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2820 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2820 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateInIdeal.lean ====
abbrev S256x2820 : Shape := ⟨2, ![256, 2820]⟩

abbrev nBuf : Space → Nat
  | .hbm => 7
  | .vmem => 7
  | .smem => 0
  | _ => 0

abbrev bufTy : (tb : Table) → Fin (tcTables nBuf tb) → BufTy
  | .hbm, ⟨0, _⟩ => ⟨S256x2820, .f32⟩
  | .hbm, ⟨1, _⟩ => ⟨S256x2820, .f32⟩
  | .hbm, ⟨2, _⟩ => ⟨S256x2820, .f32⟩
  | .hbm, ⟨3, _⟩ => ⟨S256x2820, .f32⟩
  | .hbm, ⟨4, _⟩ => ⟨S256x2820, .f32⟩
  | .hbm, ⟨5, _⟩ => ⟨S256x2820, .f32⟩
  | .hbm, ⟨6, _⟩ => ⟨S256x2820, .f32⟩
  | .local _ .vmem, ⟨0, _⟩ => ⟨S256x2820, .f32⟩
  | .local _ .vmem, ⟨1, _⟩ => ⟨S256x2820, .f32⟩
  | .local _ .vmem, ⟨2, _⟩ => ⟨S256x2820, .f32⟩
  | .local _ .vmem, ⟨3, _⟩ => ⟨S256x2820, .f32⟩
  | .local _ .vmem, ⟨4, _⟩ => ⟨S256x2820, .f32⟩
  | .local _ .vmem, ⟨5, _⟩ => ⟨S256x2820, .f32⟩
  | .local _ .vmem, ⟨6, _⟩ => ⟨S256x2820, .f32⟩
  | _, _ => ⟨S256x2820, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2820 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2820 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2820 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x2820 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2820 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2820 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2820 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateInReferenceIdeal.lean ====
abbrev S256x2820 : Shape := ⟨2, ![256, 2820]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x2820, .f32⟩
  | .hbm, ⟨1, _⟩ => ⟨S256x2820, .f32⟩
  | .hbm, ⟨2, _⟩ => ⟨S256x2820, .f32⟩
  | .hbm, ⟨3, _⟩ => ⟨S256x2820, .f32⟩
  | .hbm, ⟨4, _⟩ => ⟨S_, .f32⟩
  | .hbm, ⟨5, _⟩ => ⟨S256x2820, .f32⟩
  | .hbm, ⟨6, _⟩ => ⟨S256x2820, .f32⟩
  | .hbm, ⟨7, _⟩ => ⟨S_, .f32⟩
  | .hbm, ⟨8, _⟩ => ⟨S256x2820, .f32⟩
  | .hbm, ⟨9, _⟩ => ⟨S256x2820, .f32⟩
  | .hbm, ⟨10, _⟩ => ⟨S256x2820, .f32⟩
  | .hbm, ⟨11, _⟩ => ⟨S_, .f32⟩
  | .hbm, ⟨12, _⟩ => ⟨S256x2820, .f32⟩
  | .hbm, ⟨13, _⟩ => ⟨S256x2820, .f32⟩
  | .hbm, ⟨14, _⟩ => ⟨S256x2820, .f32⟩
  | .hbm, ⟨15, _⟩ => ⟨S_, .f32⟩
  | .hbm, ⟨16, _⟩ => ⟨S256x2820, .f32⟩
  | .hbm, ⟨17, _⟩ => ⟨S256x2820, .f32⟩
  | .hbm, ⟨18, _⟩ => ⟨S256x2820, .f32⟩
  | .hbm, ⟨19, _⟩ => ⟨S_, .f32⟩
  | .hbm, ⟨20, _⟩ => ⟨S256x2820, .f32⟩
  | .hbm, ⟨21, _⟩ => ⟨S256x2820, .f32⟩
  | .hbm, ⟨22, _⟩ => ⟨S_, .f32⟩
  | .hbm, ⟨23, _⟩ => ⟨S256x2820, .f32⟩
  | .hbm, ⟨24, _⟩ => ⟨S256x2820, .f32⟩
  | .hbm, ⟨25, _⟩ => ⟨S256x2820, .f32⟩
  | .hbm, ⟨26, _⟩ => ⟨S_, .f32⟩
  | .hbm, ⟨27, _⟩ => ⟨S256x2820, .f32⟩
  | .hbm, ⟨28, _⟩ => ⟨S256x2820, .f32⟩
  | .hbm, ⟨29, _⟩ => ⟨S256x2820, .f32⟩
  | .hbm, ⟨30, _⟩ => ⟨S_, .f32⟩
  | .hbm, ⟨31, _⟩ => ⟨S256x2820, .f32⟩
  | .hbm, ⟨32, _⟩ => ⟨S256x2820, .f32⟩
  | .hbm, ⟨33, _⟩ => ⟨S256x2820, .f32⟩
  | .hbm, ⟨34, _⟩ => ⟨S_, .f32⟩
  | .hbm, ⟨35, _⟩ => ⟨S256x2820, .f32⟩
  | .hbm, ⟨36, _⟩ => ⟨S256x2820, .f32⟩
  | _, _ => ⟨S256x2820, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateOutIdeal.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateOutReferenceIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateQkv.lean ====
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateQkvIdeal.lean ====
abbrev S256x256 : Shape := ⟨2, ![256, 256]⟩

abbrev nBuf : Space → Nat
  | .hbm => 7
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== UpdateQkvReferenceIdeal.lean ====
abbrev S256x256 : Shape := ⟨2, ![256, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S_, .f32⟩
  | .hbm, ⟨5, _⟩ => ⟨S256x256, .f32⟩
  | .hbm, ⟨6, _⟩ => ⟨S256x256, .f32⟩
  | .hbm, ⟨7, _⟩ => ⟨S_, .f32⟩
  | .hbm, ⟨8, _⟩ => ⟨S256x256, .f32⟩
  | .hbm, ⟨9, _⟩ => ⟨S256x256, .f32⟩
  | .hbm, ⟨10, _⟩ => ⟨S256x256, .f32⟩
  | .hbm, ⟨11, _⟩ => ⟨S_, .f32⟩
  | .hbm, ⟨12, _⟩ => ⟨S256x256, .f32⟩
  | .hbm, ⟨13, _⟩ => ⟨S256x256, .f32⟩
  | .hbm, ⟨14, _⟩ => ⟨S256x256, .f32⟩
  | .hbm, ⟨15, _⟩ => ⟨S_, .f32⟩
  | .hbm, ⟨16, _⟩ => ⟨S256x256, .f32⟩
  | .hbm, ⟨17, _⟩ => ⟨S256x256, .f32⟩
  | .hbm, ⟨18, _⟩ => ⟨S256x256, .f32⟩
  | .hbm, ⟨19, _⟩ => ⟨S_, .f32⟩
  | .hbm, ⟨20, _⟩ => ⟨S256x256, .f32⟩
  | .hbm, ⟨21, _⟩ => ⟨S256x256, .f32⟩
  | .hbm, ⟨22, _⟩ => ⟨S_, .f32⟩
  | .hbm, ⟨23, _⟩ => ⟨S256x256, .f32⟩
  | .hbm, ⟨24, _⟩ => ⟨S256x256, .f32⟩
  | .hbm, ⟨25, _⟩ => ⟨S256x256, .f32⟩
  | .hbm, ⟨26, _⟩ => ⟨S_, .f32⟩
  | .hbm, ⟨27, _⟩ => ⟨S256x256, .f32⟩
  | .hbm, ⟨28, _⟩ => ⟨S256x256, .f32⟩
  | .hbm, ⟨29, _⟩ => ⟨S256x256, .f32⟩
  | .hbm, ⟨30, _⟩ => ⟨S_, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateCo.lean ====
abbrev S512x128 : Shape := ⟨2, ![512, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateCoIdeal.lean ====
abbrev S512x128 : Shape := ⟨2, ![512, 128]⟩
abbrev S256x128 : Shape := ⟨2, ![256, 128]⟩

abbrev nBuf : Space → Nat
  | .hbm => 7
  | .vmem => 14
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateCoReferenceIdeal.lean ====
abbrev S512x128 : Shape := ⟨2, ![512, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x128, .f32⟩
  | .hbm, ⟨1, _⟩ => ⟨S512x128, .f32⟩
  | .hbm, ⟨2, _⟩ => ⟨S512x128, .f32⟩
  | .hbm, ⟨3, _⟩ => ⟨S512x128, .f32⟩
  | .hbm, ⟨4, _⟩ => ⟨S_, .f32⟩
  | .hbm, ⟨5, _⟩ => ⟨S512x128, .f32⟩
  | .hbm, ⟨6, _⟩ => ⟨S512x128, .f32⟩
  | .hbm, ⟨7, _⟩ => ⟨S_, .f32⟩
  | .hbm, ⟨8, _⟩ => ⟨S512x128, .f32⟩
  | .hbm, ⟨9, _⟩ => ⟨S512x128, .f32⟩
  | .hbm, ⟨10, _⟩ => ⟨S512x128, .f32⟩
  | .hbm, ⟨11, _⟩ => ⟨S_, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S_, .f32⟩
  | .hbm, ⟨23, _⟩ => ⟨S512x128, .f32⟩
  | .hbm, ⟨24, _⟩ => ⟨S512x128, .f32⟩
  | .hbm, ⟨25, _⟩ => ⟨S512x128, .f32⟩
  | .hbm, ⟨26, _⟩ => ⟨S_, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | _, _ => ⟨S512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateUp.lean ====
abbrev S2048x704 : Shape := ⟨2, ![2048, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateUpIdeal.lean ====
abbrev S2048x704 : Shape := ⟨2, ![2048, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S2048x704, .f32⟩
  | .hbm, ⟨5, _⟩ => ⟨S2048x704, .f32⟩
  | .hbm, ⟨6, _⟩ => ⟨S2048x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateUpReferenceIdeal.lean ====
abbrev S2048x704 : Shape := ⟨2, ![2048, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x704, .f32⟩
  | .hbm, ⟨1, _⟩ => ⟨S2048x704, .f32⟩
  | .hbm, ⟨2, _⟩ => ⟨S2048x704, .f32⟩
  | .hbm, ⟨3, _⟩ => ⟨S2048x704, .f32⟩
  | .hbm, ⟨4, _⟩ => ⟨S_, .f32⟩
  | .hbm, ⟨5, _⟩ => ⟨S2048x704, .f32⟩
  | .hbm, ⟨6, _⟩ => ⟨S2048x704, .f32⟩
  | .hbm, ⟨7, _⟩ => ⟨S_, .f32⟩
  | .hbm, ⟨8, _⟩ => ⟨S2048x704, .f32⟩
  | .hbm, ⟨9, _⟩ => ⟨S2048x704, .f32⟩
  | .hbm, ⟨10, _⟩ => ⟨S2048x704, .f32⟩
  | .hbm, ⟨11, _⟩ => ⟨S_, .f32⟩
  | .hbm, ⟨12, _⟩ => ⟨S2048x704, .f32⟩
  | .hbm, ⟨13, _⟩ => ⟨S2048x704, .f32⟩
  | .hbm, ⟨14, _⟩ => ⟨S2048x704, .f32⟩
  | .hbm, ⟨15, _⟩ => ⟨S_, .f32⟩
  | .hbm, ⟨16, _⟩ => ⟨S2048x704, .f32⟩
  | .hbm, ⟨17, _⟩ => ⟨S2048x704, .f32⟩
  | .hbm, ⟨18, _⟩ => ⟨S2048x704, .f32⟩
  | .hbm, ⟨19, _⟩ => ⟨S_, .f32⟩
  | .hbm, ⟨20, _⟩ => ⟨S2048x704, .f32⟩
  | .hbm, ⟨21, _⟩ => ⟨S2048x704, .f32⟩
  | .hbm, ⟨22, _⟩ => ⟨S_, .f32⟩
  | .hbm, ⟨23, _⟩ => ⟨S2048x704, .f32⟩
  | .hbm, ⟨24, _⟩ => ⟨S2048x704, .f32⟩
  | .hbm, ⟨25, _⟩ => ⟨S2048x704, .f32⟩
  | .hbm, ⟨26, _⟩ => ⟨S_, .f32⟩
  | .hbm, ⟨27, _⟩ => ⟨S2048x704, .f32⟩
  | .hbm, ⟨28, _⟩ => ⟨S2048x704, .f32⟩
  | .hbm, ⟨29, _⟩ => ⟨S2048x704, .f32⟩
  | .hbm, ⟨30, _⟩ => ⟨S_, .f32⟩
  | .hbm, ⟨31, _⟩ => ⟨S2048x704, .f32⟩
  | .hbm, ⟨32, _⟩ => ⟨S2048x704, .f32⟩
  | .hbm, ⟨33, _⟩ => ⟨S2048x704, .f32⟩
  | .hbm, ⟨34, _⟩ => ⟨S_, .f32⟩
  | .hbm, ⟨35, _⟩ => ⟨S2048x704, .f32⟩
  | .hbm, ⟨36, _⟩ => ⟨S2048x704, .f32⟩
  | _, _ => ⟨S2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdateDown.lean ====
abbrev S704x1024 : Shape := ⟨2, ![704, 1024]⟩
abbrev S64x1024 : Shape := ⟨2, ![64, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateDownIdeal.lean ====
abbrev S704x1024 : Shape := ⟨2, ![704, 1024]⟩
abbrev S64x1024 : Shape := ⟨2, ![64, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x1024, .f32⟩
  | .local _ .vmem, ⟨8, _⟩ => ⟨S64x1024, .f32⟩
  | .local _ .vmem, ⟨9, _⟩ => ⟨S64x1024, .f32⟩
  | .local _ .vmem, ⟨10, _⟩ => ⟨S64x1024, .f32⟩
  | .local _ .vmem, ⟨11, _⟩ => ⟨S64x1024, .f32⟩
  | .local _ .vmem, ⟨12, _⟩ => ⟨S64x1024, .f32⟩
  | .local _ .vmem, ⟨13, _⟩ => ⟨S64x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdateDownReferenceIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== UpdatePack.lean ====
abbrev S728x128 : Shape := ⟨2, ![728, 128]⟩
abbrev S8x128 : Shape := ⟨2, ![8, 128]⟩

abbrev nBuf : Space → Nat
  | .hbm => 7
  | .vmem => 14
  | .smem => 0
  | _ => 0

abbrev bufTy : (tb : Table) → Fin (tcTables nBuf tb) → BufTy
  | .hbm, ⟨0, _⟩ => ⟨S728x128, .f32⟩
  | .hbm, ⟨1, _⟩ => ⟨S728x128, .f32⟩
  | .hbm, ⟨2, _⟩ => ⟨S728x128, .f32⟩
  | .hbm, ⟨3, _⟩ => ⟨S728x128, .f32⟩
  | .hbm, ⟨4, _⟩ => ⟨S728x128, .f32⟩
  | .hbm, ⟨5, _⟩ => ⟨S728x128, .f32⟩
  | .hbm, ⟨6, _⟩ => ⟨S728x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | _, _ => ⟨S728x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![91], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== UpdatePackReferenceIdeal.lean ====
abbrev S728x128 : Shape := ⟨2, ![728, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S728x128, .f32⟩
  | .hbm, ⟨1, _⟩ => ⟨S728x128, .f32⟩
  | .hbm, ⟨2, _⟩ => ⟨S728x128, .f32⟩
  | .hbm, ⟨3, _⟩ => ⟨S728x128, .f32⟩
  | .hbm, ⟨4, _⟩ => ⟨S_, .f32⟩
  | .hbm, ⟨5, _⟩ => ⟨S728x128, .f32⟩
  | .hbm, ⟨6, _⟩ => ⟨S728x128, .f32⟩
  | .hbm, ⟨7, _⟩ => ⟨S_, .f32⟩
  | .hbm, ⟨8, _⟩ => ⟨S728x128, .f32⟩
  | .hbm, ⟨9, _⟩ => ⟨S728x128, .f32⟩
  | .hbm, ⟨10, _⟩ => ⟨S728x128, .f32⟩
  | .hbm, ⟨11, _⟩ => ⟨S_, .f32⟩
  | .hbm, ⟨12, _⟩ => ⟨S728x128, .f32⟩
  | .hbm, ⟨13, _⟩ => ⟨S728x128, .f32⟩
  | .hbm, ⟨14, _⟩ => ⟨S728x128, .f32⟩
  | .hbm, ⟨15, _⟩ => ⟨S_, .f32⟩
  | .hbm, ⟨16, _⟩ => ⟨S728x128, .f32⟩
  | .hbm, ⟨17, _⟩ => ⟨S728x128, .f32⟩
  | .hbm, ⟨18, _⟩ => ⟨S728x128, .f32⟩
  | .hbm, ⟨19, _⟩ => ⟨S_, .f32⟩
  | .hbm, ⟨20, _⟩ => ⟨S728x128, .f32⟩
  | .hbm, ⟨21, _⟩ => ⟨S728x128, .f32⟩
  | .hbm, ⟨22, _⟩ => ⟨S_, .f32⟩
  | .hbm, ⟨23, _⟩ => ⟨S728x128, .f32⟩
  | .hbm, ⟨24, _⟩ => ⟨S728x128, .f32⟩
  | .hbm, ⟨25, _⟩ => ⟨S728x128, .f32⟩
  | .hbm, ⟨26, _⟩ => ⟨S_, .f32⟩
  | .hbm, ⟨27, _⟩ => ⟨S728x128, .f32⟩
  | .hbm, ⟨28, _⟩ => ⟨S728x128, .f32⟩
  | .hbm, ⟨29, _⟩ => ⟨S728x128, .f32⟩
  | .hbm, ⟨30, _⟩ => ⟨S_, .f32⟩
  | .hbm, ⟨31, _⟩ => ⟨S728x128, .f32⟩
  | .hbm, ⟨32, _⟩ => ⟨S728x128, .f32⟩
  | .hbm, ⟨33, _⟩ => ⟨S728x128, .f32⟩
  | .hbm, ⟨34, _⟩ => ⟨S_, .f32⟩
  | .hbm, ⟨35, _⟩ => ⟨S728x128, .f32⟩
  | .hbm, ⟨36, _⟩ => ⟨S728x128, .f32⟩
  | _, _ => ⟨S728x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== NormBwd.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32_15 : BitVec 32 := 0#32
  let v34 : BitVec 1 := Scalar.cmpi .sgt arg0 c0_i32_15
  let v35 : BitVec 32 := Scalar.extui v34
  let c0_i32_16 : BitVec 32 := 0#32
  let v36 : BitVec 1 := Scalar.cmpi .ne v35 c0_i32_16
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1, .f32⟩
  | .hbm, ⟨36, _⟩ => ⟨S_, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== LossHead.lean ====
abbrev S4096x1024 : Shape := ⟨2, ![4096, 1024]⟩
abbrev S1x1024 : Shape := ⟨2, ![1, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1024 : Shape := ⟨1, ![1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S1x128, .f32⟩
  | .hbm, ⟨4, _⟩ => ⟨S4096x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S1x128, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v47 : BitVec 1 := Scalar.cmpi .eq arg0 c0_i32
  let v48 : BitVec 32 := Scalar.extui v47
  let c0_i32_18 : BitVec 32 := 0#32
  let v49 : BitVec 1 := Scalar.cmpi .ne v48 c0_i32_18
  v49

def k0_cond2 (i : grid0.Coords) : BitVec 1 :=
  let arg0 : BitVec 32 := BitVec.ofNat 32 (i 0).val
  let c0_i32_19 : BitVec 32 := 0#32
  let v50 : BitVec 1 := Scalar.cmpi .sgt arg0 c0_i32_19
  let v51 : BitVec 32 := Scalar.extui v50
  let c0_i32_20 : BitVec 32 := 0#32
  let v52 : BitVec 1 := Scalar.cmpi .ne v51 c0_i32_20
  v52

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 69
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S1x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== CrossFwd.lean ====
abbrev S4096x256 : Shape := ⟨2, ![4096, 256]⟩
abbrev S512x512 : Shape := ⟨2, ![512, 512]⟩
abbrev S512x256 : Shape := ⟨2, ![512, 256]⟩
abbrev S256x512 : Shape := ⟨2, ![256, 512]⟩
abbrev S512x64 : Shape := ⟨2, ![512, 64]⟩
abbrev S256x64 : Shape := ⟨2, ![256, 64]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .bf16⟩
  | .hbm, ⟨1, _⟩ => ⟨S512x512, .bf16⟩
  | .hbm, ⟨2, _⟩ => ⟨S4096x256, .bf16⟩
  | .local _ .vmem, ⟨0, _⟩ => ⟨S512x256, .bf16⟩
  | .local _ .vmem, ⟨1, _⟩ => ⟨S512x256, .bf16⟩
  | .local _ .vmem, ⟨2, _⟩ => ⟨S256x512, .bf16⟩
  | .local _ .vmem, ⟨3, _⟩ => ⟨S256x512, .bf16⟩
  | .local _ .vmem, ⟨4, _⟩ => ⟨S512x256, .bf16⟩
  | .local _ .vmem, ⟨5, _⟩ => ⟨S512x256, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== CrossFwdReferenceIdeal.lean ====
abbrev S4096x256 : Shape := ⟨2, ![4096, 256]⟩
abbrev S512x512 : Shape := ⟨2, ![512, 512]⟩
abbrev S2x2048x4x64 : Shape := ⟨4, ![2, 2048, 4, 64]⟩
abbrev S2x4x2048x64 : Shape := ⟨4, ![2, 4, 2048, 64]⟩
abbrev S_ : Shape := ⟨0, ![]⟩
abbrev S2x256x2x4x64 : Shape := ⟨5, ![2, 256, 2, 4, 64]⟩
abbrev S2x2x4x256x64 : Shape := ⟨5, ![2, 2, 4, 256, 64]⟩
abbrev S1x2x4x256x64 : Shape := ⟨5, ![1, 2, 4, 256, 64]⟩
abbrev S2x4x256x64 : Shape := ⟨4, ![2, 4, 256, 64]⟩
abbrev S2x4x2048x256 : Shape := ⟨4, ![2, 4, 2048, 256]⟩
abbrev S2x4x2048 : Shape := ⟨3, ![2, 4, 2048]⟩
abbrev S2x4x2048x1 : Shape := ⟨4, ![2, 4, 2048, 1]⟩

abbrev nBuf : Space → Nat
  | .hbm => 34
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S512x512, .bf16⟩
  | .hbm, ⟨2, _⟩ => ⟨S4096x256, .f32⟩
  | .hbm, ⟨3, _⟩ => ⟨S2x2048x4x64, .f32⟩
  | .hbm, ⟨4, _⟩ => ⟨S2x4x2048x64, .f32⟩
  | .hbm, ⟨5, _⟩ => ⟨S_, .f32⟩
  | .hbm, ⟨6, _⟩ => ⟨S2x4x2048x64, .f32⟩
  | .hbm, ⟨7, _⟩ => ⟨S2x4x2048x64, .f32⟩
  | .hbm, ⟨8, _⟩ => ⟨S512x512, .f32⟩
  | .hbm, ⟨9, _⟩ => ⟨S2x256x2x4x64, .f32⟩
  | .hbm, ⟨10, _⟩ => ⟨S2x2x4x256x64, .f32⟩
  | .hbm, ⟨11, _⟩ => ⟨S1x2x4x256x64, .f32⟩
  | .hbm, ⟨12, _⟩ => ⟨S2x4x256x64, .f32⟩
  | .hbm, ⟨13, _⟩ => ⟨S2x4x2048x256, .f32⟩
  | .hbm, ⟨14, _⟩ => ⟨S_, .f32⟩
  | .hbm, ⟨15, _⟩ => ⟨S2x4x2048, .f32⟩
  | .hbm, ⟨16, _⟩ => ⟨S_, .f32⟩
  | .hbm, ⟨17, _⟩ => ⟨S2x4x2048, .f32⟩
  | .hbm, ⟨18, _⟩ => ⟨S2x4x2048, .f32⟩
  | .hbm, ⟨19, _⟩ => ⟨S2x4x2048x1, .f32⟩
  | .hbm, ⟨20, _⟩ => ⟨S2x4x2048x256, .f32⟩
  | .hbm, ⟨21, _⟩ => ⟨S2x4x2048x256, .f32⟩
  | .hbm, ⟨22, _⟩ => ⟨S2x4x2048x256, .f32⟩
  | .hbm, ⟨23, _⟩ => ⟨S_, .f32⟩
  | .hbm, ⟨24, _⟩ => ⟨S2x4x2048, .f32⟩
  | .hbm, ⟨25, _⟩ => ⟨S2x4x2048x1, .f32⟩
  | .hbm, ⟨26, _⟩ => ⟨S2x4x2048x256, .f32⟩
  | .hbm, ⟨27, _⟩ => ⟨S2x4x2048x256, .f32⟩
  | .hbm, ⟨28, _⟩ => ⟨S1x2x4x256x64, .f32⟩
  | .hbm, ⟨29, _⟩ => ⟨S2x4x256x64, .f32⟩
  | .hbm, ⟨30, _⟩ => ⟨S2x4x2048x64, .f32⟩
  | .hbm, ⟨31, _⟩ => ⟨S2x2048x4x64, .f32⟩
  | .hbm, ⟨32, _⟩ => ⟨S4096x256, .f32⟩
  | .hbm, ⟨33, _⟩ => ⟨S4096x256, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== MixQkv.lean ====
abbrev S4096x1024 : Shape := ⟨2, ![4096, 1024]⟩
abbrev S1024x2304 : Shape := ⟨2, ![1024, 2304]⟩
abbrev S4096x2304 : Shape := ⟨2, ![4096, 2304]⟩
abbrev S512x1024 : Shape := ⟨2, ![512, 1024]⟩
abbrev S1024x768 : Shape := ⟨2, ![1024, 768]⟩
abbrev S512x768 : Shape := ⟨2, ![512, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x2304, .bf16⟩
  | .hbm, ⟨2, _⟩ => ⟨S4096x2304, .bf16⟩
  | .local _ .vmem, ⟨0, _⟩ => ⟨S512x1024, .bf16⟩
  | .local _ .vmem, ⟨1, _⟩ => ⟨S512x1024, .bf16⟩
  | .local _ .vmem, ⟨2, _⟩ => ⟨S1024x768, .bf16⟩
  | .local _ .vmem, ⟨3, _⟩ => ⟨S1024x768, .bf16⟩
  | .local _ .vmem, ⟨4, _⟩ => ⟨S512x768, .bf16⟩
  | .local _ .vmem, ⟨5, _⟩ => ⟨S512x768, .bf16⟩
  | .local _ .vmem, ⟨6, _⟩ => ⟨S512x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixQkvIdeal.lean ====
abbrev S4096x1024 : Shape := ⟨2, ![4096, 1024]⟩
abbrev S1024x2304 : Shape := ⟨2, ![1024, 2304]⟩
abbrev S4096x2304 : Shape := ⟨2, ![4096, 2304]⟩
abbrev S512x1024 : Shape := ⟨2, ![512, 1024]⟩
abbrev S1024x768 : Shape := ⟨2, ![1024, 768]⟩
abbrev S512x768 : Shape := ⟨2, ![512, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x2304, .bf16⟩
  | .hbm, ⟨2, _⟩ => ⟨S4096x2304, .bf16⟩
  | .local _ .vmem, ⟨0, _⟩ => ⟨S512x1024, .bf16⟩
  | .local _ .vmem, ⟨1, _⟩ => ⟨S512x1024, .bf16⟩
  | .local _ .vmem, ⟨2, _⟩ => ⟨S1024x768, .bf16⟩
  | .local _ .vmem, ⟨3, _⟩ => ⟨S1024x768, .bf16⟩
  | .local _ .vmem, ⟨4, _⟩ => ⟨S512x768, .bf16⟩
  | .local _ .vmem, ⟨5, _⟩ => ⟨S512x768, .bf16⟩
  | .local _ .vmem, ⟨6, _⟩ => ⟨S512x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixQkvReferenceIdeal.lean ====
abbrev S4096x1024 : Shape := ⟨2, ![4096, 1024]⟩
abbrev S1024x2304 : Shape := ⟨2, ![1024, 2304]⟩
abbrev S4096x2304 : Shape := ⟨2, ![4096, 2304]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2304, .bf16⟩
  | .hbm, ⟨2, _⟩ => ⟨S4096x1024, .f32⟩
  | .hbm, ⟨3, _⟩ => ⟨S1024x2304, .f32⟩
  | .hbm, ⟨4, _⟩ => ⟨S4096x2304, .f32⟩
  | .hbm, ⟨5, _⟩ => ⟨S4096x2304, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixAux.lean ====
abbrev S4096x1024 : Shape := ⟨2, ![4096, 1024]⟩
abbrev S1024x640 : Shape := ⟨2, ![1024, 640]⟩
abbrev S4096x640 : Shape := ⟨2, ![4096, 640]⟩
abbrev S512x1024 : Shape := ⟨2, ![512, 1024]⟩
abbrev S512x640 : Shape := ⟨2, ![512, 640]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x640, .bf16⟩
  | .hbm, ⟨2, _⟩ => ⟨S4096x640, .f32⟩
  | .local _ .vmem, ⟨0, _⟩ => ⟨S512x1024, .bf16⟩
  | .local _ .vmem, ⟨1, _⟩ => ⟨S512x1024, .bf16⟩
  | .local _ .vmem, ⟨2, _⟩ => ⟨S1024x640, .bf16⟩
  | .local _ .vmem, ⟨3, _⟩ => ⟨S512x640, .f32⟩
  | .local _ .vmem, ⟨4, _⟩ => ⟨S512x640, .f32⟩
  | .local _ .vmem, ⟨5, _⟩ => ⟨S512x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixAuxIdeal.lean ====
abbrev S4096x1024 : Shape := ⟨2, ![4096, 1024]⟩
abbrev S1024x640 : Shape := ⟨2, ![1024, 640]⟩
abbrev S4096x640 : Shape := ⟨2, ![4096, 640]⟩
abbrev S512x1024 : Shape := ⟨2, ![512, 1024]⟩
abbrev S512x640 : Shape := ⟨2, ![512, 640]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x640, .bf16⟩
  | .hbm, ⟨2, _⟩ => ⟨S4096x640, .f32⟩
  | .local _ .vmem, ⟨0, _⟩ => ⟨S512x1024, .bf16⟩
  | .local _ .vmem, ⟨1, _⟩ => ⟨S512x1024, .bf16⟩
  | .local _ .vmem, ⟨2, _⟩ => ⟨S1024x640, .bf16⟩
  | .local _ .vmem, ⟨3, _⟩ => ⟨S512x640, .f32⟩
  | .local _ .vmem, ⟨4, _⟩ => ⟨S512x640, .f32⟩
  | .local _ .vmem, ⟨5, _⟩ => ⟨S512x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixAuxReferenceIdeal.lean ====
abbrev S4096x1024 : Shape := ⟨2, ![4096, 1024]⟩
abbrev S1024x640 : Shape := ⟨2, ![1024, 640]⟩
abbrev S4096x640 : Shape := ⟨2, ![4096, 640]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x640, .bf16⟩
  | .hbm, ⟨2, _⟩ => ⟨S4096x1024, .f32⟩
  | .hbm, ⟨3, _⟩ => ⟨S1024x640, .f32⟩
  | .hbm, ⟨4, _⟩ => ⟨S4096x640, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixOut.lean ====
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixOutIdeal.lean ====
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MixOutReferenceIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== CrossQ.lean ====
abbrev S4096x1024 : Shape := ⟨2, ![4096, 1024]⟩
abbrev S1024x256 : Shape := ⟨2, ![1024, 256]⟩
abbrev S4096x256 : Shape := ⟨2, ![4096, 256]⟩
abbrev S512x1024 : Shape := ⟨2, ![512, 1024]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x256, .bf16⟩
  | .hbm, ⟨2, _⟩ => ⟨S4096x256, .bf16⟩
  | .local _ .vmem, ⟨0, _⟩ => ⟨S512x1024, .bf16⟩
  | .local _ .vmem, ⟨1, _⟩ => ⟨S512x1024, .bf16⟩
  | .local _ .vmem, ⟨2, _⟩ => ⟨S1024x256, .bf16⟩
  | .local _ .vmem, ⟨3, _⟩ => ⟨S512x256, .bf16⟩
  | .local _ .vmem, ⟨4, _⟩ => ⟨S512x256, .bf16⟩
  | .local _ .vmem, ⟨5, _⟩ => ⟨S512x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CrossQIdeal.lean ====
abbrev S4096x1024 : Shape := ⟨2, ![4096, 1024]⟩
abbrev S1024x256 : Shape := ⟨2, ![1024, 256]⟩
abbrev S4096x256 : Shape := ⟨2, ![4096, 256]⟩
abbrev S512x1024 : Shape := ⟨2, ![512, 1024]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x256, .bf16⟩
  | .hbm, ⟨2, _⟩ => ⟨S4096x256, .bf16⟩
  | .local _ .vmem, ⟨0, _⟩ => ⟨S512x1024, .bf16⟩
  | .local _ .vmem, ⟨1, _⟩ => ⟨S512x1024, .bf16⟩
  | .local _ .vmem, ⟨2, _⟩ => ⟨S1024x256, .bf16⟩
  | .local _ .vmem, ⟨3, _⟩ => ⟨S512x256, .bf16⟩
  | .local _ .vmem, ⟨4, _⟩ => ⟨S512x256, .bf16⟩
  | .local _ .vmem, ⟨5, _⟩ => ⟨S512x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== CrossQReferenceIdeal.lean ====
abbrev S4096x1024 : Shape := ⟨2, ![4096, 1024]⟩
abbrev S1024x256 : Shape := ⟨2, ![1024, 256]⟩
abbrev S4096x256 : Shape := ⟨2, ![4096, 256]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x256, .bf16⟩
  | .hbm, ⟨2, _⟩ => ⟨S4096x1024, .f32⟩
  | .hbm, ⟨3, _⟩ => ⟨S1024x256, .f32⟩
  | .hbm, ⟨4, _⟩ => ⟨S4096x256, .f32⟩
  | .hbm, ⟨5, _⟩ => ⟨S4096x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== CrossKv.lean ====
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 4
  | .smem => 0
  | _ => 0

abbrev bufTy : (tb : Table) → Fin (tcTables nBuf tb) → BufTy
  | .hbm, ⟨0, _⟩ => ⟨S512x1024, .bf16⟩
  | .hbm, ⟨1, _⟩ => ⟨S1024x512, .bf16⟩
  | .hbm, ⟨2, _⟩ => ⟨S512x512, .bf16⟩
  | .local _ .vmem, ⟨0, _⟩ => ⟨S512x1024, .bf16⟩
  | .local _ .vmem, ⟨1, _⟩ => ⟨S1024x512, .bf16⟩
  | .local _ .vmem, ⟨2, _⟩ => ⟨S512x512, .bf16⟩
  | .local _ .vmem, ⟨3, _⟩ => ⟨S512x512, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== CrossKvIdeal.lean ====
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 4
  | .smem => 0
  | _ => 0

abbrev bufTy : (tb : Table) → Fin (tcTables nBuf tb) → BufTy
  | .hbm, ⟨0, _⟩ => ⟨S512x1024, .bf16⟩
  | .hbm, ⟨1, _⟩ => ⟨S1024x512, .bf16⟩
  | .hbm, ⟨2, _⟩ => ⟨S512x512, .bf16⟩
  | .local _ .vmem, ⟨0, _⟩ => ⟨S512x1024, .bf16⟩
  | .local _ .vmem, ⟨1, _⟩ => ⟨S1024x512, .bf16⟩
  | .local _ .vmem, ⟨2, _⟩ => ⟨S512x512, .bf16⟩
  | .local _ .vmem, ⟨3, _⟩ => ⟨S512x512, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== CrossKvReferenceIdeal.lean ====
abbrev S512x1024 : Shape := ⟨2, ![512, 1024]⟩
abbrev S1024x512 : Shape := ⟨2, ![1024, 512]⟩
abbrev S512x512 : Shape := ⟨2, ![512, 512]⟩

abbrev nBuf : Space → Nat
  | .hbm => 6
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x512, .bf16⟩
  | .hbm, ⟨2, _⟩ => ⟨S512x1024, .f32⟩
  | .hbm, ⟨3, _⟩ => ⟨S1024x512, .f32⟩
  | .hbm, ⟨4, _⟩ => ⟨S512x512, .f32⟩
  | .hbm, ⟨5, _⟩ => ⟨S512x512, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== CrossOut.lean ====
abbrev S4096x256 : Shape := ⟨2, ![4096, 256]⟩
abbrev S1024x256 : Shape := ⟨2, ![1024, 256]⟩
abbrev S4096x1024 : Shape := ⟨2, ![4096, 1024]⟩
abbrev S512x256 : Shape := ⟨2, ![512, 256]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x256, .bf16⟩
  | .hbm, ⟨1, _⟩ => ⟨S1024x256, .bf16⟩
  | .hbm, ⟨2, _⟩ => ⟨S4096x1024, .f32⟩
  | .hbm, ⟨3, _⟩ => ⟨S4096x1024, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== CrossOutIdeal.lean ====
abbrev S4096x256 : Shape := ⟨2, ![4096, 256]⟩
abbrev S1024x256 : Shape := ⟨2, ![1024, 256]⟩
abbrev S4096x1024 : Shape := ⟨2, ![4096, 1024]⟩
abbrev S512x256 : Shape := ⟨2, ![512, 256]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x256, .bf16⟩
  | .hbm, ⟨1, _⟩ => ⟨S1024x256, .bf16⟩
  | .hbm, ⟨2, _⟩ => ⟨S4096x1024, .f32⟩
  | .hbm, ⟨3, _⟩ => ⟨S4096x1024, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== CrossOutReferenceIdeal.lean ====
abbrev S4096x256 : Shape := ⟨2, ![4096, 256]⟩
abbrev S1024x256 : Shape := ⟨2, ![1024, 256]⟩
abbrev S4096x1024 : Shape := ⟨2, ![4096, 1024]⟩
abbrev S256x1024 : Shape := ⟨2, ![256, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S1024x256, .bf16⟩
  | .hbm, ⟨2, _⟩ => ⟨S4096x1024, .f32⟩
  | .hbm, ⟨3, _⟩ => ⟨S4096x256, .f32⟩
  | .hbm, ⟨4, _⟩ => ⟨S1024x256, .f32⟩
  | .hbm, ⟨5, _⟩ => ⟨S256x1024, .f32⟩
  | .hbm, ⟨6, _⟩ => ⟨S4096x1024, .f32⟩
  | .hbm, ⟨7, _⟩ => ⟨S4096x1024, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnUp.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S256x1024 : Shape := ⟨2, ![256, 1024]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpIdeal.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S256x1024 : Shape := ⟨2, ![256, 1024]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnUpReferenceIdeal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x1024, .f32⟩
  | .hbm, ⟨3, _⟩ => ⟨S2816x1024, .f32⟩
  | .hbm, ⟨4, _⟩ => ⟨S1024x2816, .f32⟩
  | .hbm, ⟨5, _⟩ => ⟨S4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnDown.lean ====
abbrev S4096x2816 : Shape := ⟨2, ![4096, 2816]⟩
abbrev S2816x1024 : Shape := ⟨2, ![2816, 1024]⟩
abbrev S4096x1024 : Shape := ⟨2, ![4096, 1024]⟩
abbrev S512x256 : Shape := ⟨2, ![512, 256]⟩
abbrev S256x512 : Shape := ⟨2, ![256, 512]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S512x256, .bf16⟩
  | .local _ .vmem, ⟨1, _⟩ => ⟨S512x256, .bf16⟩
  | .local _ .vmem, ⟨2, _⟩ => ⟨S256x512, .bf16⟩
  | .local _ .vmem, ⟨3, _⟩ => ⟨S256x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 11], ![false, false, false]⟩

def k0_cond3 (i : grid0.Coords) : BitVec 1 :=
  let arg2 : BitVec 32 := BitVec.ofNat 32 (i 2).val
  let c10_i32 : BitVec 32 := 10#32
  let v9 : BitVec 1 := Scalar.cmpi .eq arg2 c10_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownIdeal.lean ====
abbrev S4096x2816 : Shape := ⟨2, ![4096, 2816]⟩
abbrev S2816x1024 : Shape := ⟨2, ![2816, 1024]⟩
abbrev S4096x1024 : Shape := ⟨2, ![4096, 1024]⟩
abbrev S512x256 : Shape := ⟨2, ![512, 256]⟩
abbrev S256x512 : Shape := ⟨2, ![256, 512]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S512x256, .bf16⟩
  | .local _ .vmem, ⟨1, _⟩ => ⟨S512x256, .bf16⟩
  | .local _ .vmem, ⟨2, _⟩ => ⟨S256x512, .bf16⟩
  | .local _ .vmem, ⟨3, _⟩ => ⟨S256x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 11], ![false, false, false]⟩

def k0_cond3 (i : grid0.Coords) : BitVec 1 :=
  let arg2 : BitVec 32 := BitVec.ofNat 32 (i 2).val
  let c10_i32 : BitVec 32 := 10#32
  let v9 : BitVec 1 := Scalar.cmpi .eq arg2 c10_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownReferenceIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GradAct.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S256x1024 : Shape := ⟨2, ![256, 1024]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .f32⟩
  | .local _ .vmem, ⟨0, _⟩ => ⟨S512x1024, .f32⟩
  | .local _ .vmem, ⟨1, _⟩ => ⟨S512x1024, .f32⟩
  | .local _ .vmem, ⟨2, _⟩ => ⟨S256x1024, .bf16⟩
  | .local _ .vmem, ⟨3, _⟩ => ⟨S256x1024, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradActIdeal.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S256x1024 : Shape := ⟨2, ![256, 1024]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S4096x2816, .f32⟩
  | .local _ .vmem, ⟨0, _⟩ => ⟨S512x1024, .f32⟩
  | .local _ .vmem, ⟨1, _⟩ => ⟨S512x1024, .f32⟩
  | .local _ .vmem, ⟨2, _⟩ => ⟨S256x1024, .bf16⟩
  | .local _ .vmem, ⟨3, _⟩ => ⟨S256x1024, .bf16⟩
  | .local _ .vmem, ⟨4, _⟩ => ⟨S512x256, .f32⟩
  | .local _ .vmem, ⟨5, _⟩ => ⟨S512x256, .f32⟩
  | .local _ .vmem, ⟨6, _⟩ => ⟨S512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradActReferenceIdeal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S2816x1024, .f32⟩
  | .hbm, ⟨3, _⟩ => ⟨S1024x2816, .f32⟩
  | .hbm, ⟨4, _⟩ => ⟨S4096x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradDown.lean ====
abbrev S4096x2816 : Shape := ⟨2, ![4096, 2816]⟩
abbrev S4096x1024 : Shape := ⟨2, ![4096, 1024]⟩
abbrev S2816x1024 : Shape := ⟨2, ![2816, 1024]⟩
abbrev S1024x256 : Shape := ⟨2, ![1024, 256]⟩
abbrev S1024x512 : Shape := ⟨2, ![1024, 512]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x512, .f32⟩
  | .local _ .vmem, ⟨3, _⟩ => ⟨S1024x512, .f32⟩
  | .local _ .vmem, ⟨4, _⟩ => ⟨S256x512, .bf16⟩
  | .local _ .vmem, ⟨5, _⟩ => ⟨S256x512, .bf16⟩
  | .local _ .vmem, ⟨6, _⟩ => ⟨S256x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradDownIdeal.lean ====
abbrev S4096x2816 : Shape := ⟨2, ![4096, 2816]⟩
abbrev S4096x1024 : Shape := ⟨2, ![4096, 1024]⟩
abbrev S2816x1024 : Shape := ⟨2, ![2816, 1024]⟩
abbrev S1024x256 : Shape := ⟨2, ![1024, 256]⟩
abbrev S1024x512 : Shape := ⟨2, ![1024, 512]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S2816x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x512, .f32⟩
  | .local _ .vmem, ⟨3, _⟩ => ⟨S1024x512, .f32⟩
  | .local _ .vmem, ⟨4, _⟩ => ⟨S256x512, .bf16⟩
  | .local _ .vmem, ⟨5, _⟩ => ⟨S256x512, .bf16⟩
  | .local _ .vmem, ⟨6, _⟩ => ⟨S256x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradDownReferenceIdeal.lean ====
abbrev S4096x2816 : Shape := ⟨2, ![4096, 2816]⟩
abbrev S4096x1024 : Shape := ⟨2, ![4096, 1024]⟩
abbrev S2816x4096 : Shape := ⟨2, ![2816, 4096]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S4096x2816, .f32⟩
  | .hbm, ⟨3, _⟩ => ⟨S2816x4096, .f32⟩
  | .hbm, ⟨4, _⟩ => ⟨S2816x1024, .f32⟩
  | .hbm, ⟨5, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradHalf.lean ====
abbrev S4096x2816 : Shape := ⟨2, ![4096, 2816]⟩
abbrev S2816x1024 : Shape := ⟨2, ![2816, 1024]⟩
abbrev S4096x1024 : Shape := ⟨2, ![4096, 1024]⟩
abbrev S512x256 : Shape := ⟨2, ![512, 256]⟩
abbrev S256x512 : Shape := ⟨2, ![256, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S512x256, .bf16⟩
  | .local _ .vmem, ⟨1, _⟩ => ⟨S512x256, .bf16⟩
  | .local _ .vmem, ⟨2, _⟩ => ⟨S256x512, .bf16⟩
  | .local _ .vmem, ⟨3, _⟩ => ⟨S256x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 11], ![false, false, false]⟩

def k0_cond3 (i : grid0.Coords) : BitVec 1 :=
  let arg2 : BitVec 32 := BitVec.ofNat 32 (i 2).val
  let c10_i32 : BitVec 32 := 10#32
  let v9 : BitVec 1 := Scalar.cmpi .eq arg2 c10_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradHalfIdeal.lean ====
abbrev S4096x2816 : Shape := ⟨2, ![4096, 2816]⟩
abbrev S2816x1024 : Shape := ⟨2, ![2816, 1024]⟩
abbrev S4096x1024 : Shape := ⟨2, ![4096, 1024]⟩
abbrev S512x256 : Shape := ⟨2, ![512, 256]⟩
abbrev S256x512 : Shape := ⟨2, ![256, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S512x256, .bf16⟩
  | .local _ .vmem, ⟨1, _⟩ => ⟨S512x256, .bf16⟩
  | .local _ .vmem, ⟨2, _⟩ => ⟨S256x512, .bf16⟩
  | .local _ .vmem, ⟨3, _⟩ => ⟨S256x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 11], ![false, false, false]⟩

def k0_cond3 (i : grid0.Coords) : BitVec 1 :=
  let arg2 : BitVec 32 := BitVec.ofNat 32 (i 2).val
  let c10_i32 : BitVec 32 := 10#32
  let v9 : BitVec 1 := Scalar.cmpi .eq arg2 c10_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradHalfReferenceIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradFfn.lean ====
abbrev S4096x2816 : Shape := ⟨2, ![4096, 2816]⟩
abbrev S2816x1024 : Shape := ⟨2, ![2816, 1024]⟩
abbrev S4096x1024 : Shape := ⟨2, ![4096, 1024]⟩
abbrev S512x256 : Shape := ⟨2, ![512, 256]⟩
abbrev S256x512 : Shape := ⟨2, ![256, 512]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S512x256, .bf16⟩
  | .local _ .vmem, ⟨1, _⟩ => ⟨S512x256, .bf16⟩
  | .local _ .vmem, ⟨2, _⟩ => ⟨S256x512, .bf16⟩
  | .local _ .vmem, ⟨3, _⟩ => ⟨S256x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 11], ![false, false, false]⟩

def k0_cond3 (i : grid0.Coords) : BitVec 1 :=
  let arg2 : BitVec 32 := BitVec.ofNat 32 (i 2).val
  let c10_i32 : BitVec 32 := 10#32
  let v9 : BitVec 1 := Scalar.cmpi .eq arg2 c10_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GradFfnIdeal.lean ====
abbrev S4096x2816 : Shape := ⟨2, ![4096, 2816]⟩
abbrev S2816x1024 : Shape := ⟨2, ![2816, 1024]⟩
abbrev S4096x1024 : Shape := ⟨2, ![4096, 1024]⟩
abbrev S512x256 : Shape := ⟨2, ![512, 256]⟩
abbrev S256x512 : Shape := ⟨2, ![256, 512]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S512x256, .bf16⟩
  | .local _ .vmem, ⟨1, _⟩ => ⟨S512x256, .bf16⟩
  | .local _ .vmem, ⟨2, _⟩ => ⟨S256x512, .bf16⟩
  | .local _ .vmem, ⟨3, _⟩ => ⟨S256x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 11], ![false, false, false]⟩

def k0_cond3 (i : grid0.Coords) : BitVec 1 :=
  let arg2 : BitVec 32 := BitVec.ofNat 32 (i 2).val
  let c10_i32 : BitVec 32 := 10#32
  let v9 : BitVec 1 := Scalar.cmpi .eq arg2 c10_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GradFfnReferenceIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GradUp.lean ====
abbrev S4096x2816 : Shape := ⟨2, ![4096, 2816]⟩
abbrev S4096x1024 : Shape := ⟨2, ![4096, 1024]⟩
abbrev S2816x1024 : Shape := ⟨2, ![2816, 1024]⟩
abbrev S1024x256 : Shape := ⟨2, ![1024, 256]⟩
abbrev S1024x512 : Shape := ⟨2, ![1024, 512]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x512, .bf16⟩
  | .local _ .vmem, ⟨3, _⟩ => ⟨S1024x512, .bf16⟩
  | .local _ .vmem, ⟨4, _⟩ => ⟨S256x512, .bf16⟩
  | .local _ .vmem, ⟨5, _⟩ => ⟨S256x512, .bf16⟩
  | .local _ .vmem, ⟨6, _⟩ => ⟨S256x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradUpIdeal.lean ====
abbrev S4096x2816 : Shape := ⟨2, ![4096, 2816]⟩
abbrev S4096x1024 : Shape := ⟨2, ![4096, 1024]⟩
abbrev S2816x1024 : Shape := ⟨2, ![2816, 1024]⟩
abbrev S1024x256 : Shape := ⟨2, ![1024, 256]⟩
abbrev S1024x512 : Shape := ⟨2, ![1024, 512]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x512, .bf16⟩
  | .local _ .vmem, ⟨3, _⟩ => ⟨S1024x512, .bf16⟩
  | .local _ .vmem, ⟨4, _⟩ => ⟨S256x512, .bf16⟩
  | .local _ .vmem, ⟨5, _⟩ => ⟨S256x512, .bf16⟩
  | .local _ .vmem, ⟨6, _⟩ => ⟨S256x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradUpReferenceIdeal.lean ====
abbrev S4096x2816 : Shape := ⟨2, ![4096, 2816]⟩
abbrev S4096x1024 : Shape := ⟨2, ![4096, 1024]⟩
abbrev S2816x4096 : Shape := ⟨2, ![2816, 4096]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S2816x4096, .f32⟩
  | .hbm, ⟨5, _⟩ => ⟨S2816x1024, .f32⟩
  | .hbm, ⟨6, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GradOc.lean ====
abbrev S4096x1024 : Shape := ⟨2, ![4096, 1024]⟩
abbrev S1024x256 : Shape := ⟨2, ![1024, 256]⟩
abbrev S4096x256 : Shape := ⟨2, ![4096, 256]⟩
abbrev S512x1024 : Shape := ⟨2, ![512, 1024]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x256, .bf16⟩
  | .hbm, ⟨2, _⟩ => ⟨S4096x256, .f32⟩
  | .local _ .vmem, ⟨0, _⟩ => ⟨S512x1024, .f32⟩
  | .local _ .vmem, ⟨1, _⟩ => ⟨S512x1024, .f32⟩
  | .local _ .vmem, ⟨2, _⟩ => ⟨S1024x256, .bf16⟩
  | .local _ .vmem, ⟨3, _⟩ => ⟨S512x256, .f32⟩
  | .local _ .vmem, ⟨4, _⟩ => ⟨S512x256, .f32⟩
  | .local _ .vmem, ⟨5, _⟩ => ⟨S512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradOcIdeal.lean ====
abbrev S4096x1024 : Shape := ⟨2, ![4096, 1024]⟩
abbrev S1024x256 : Shape := ⟨2, ![1024, 256]⟩
abbrev S4096x256 : Shape := ⟨2, ![4096, 256]⟩
abbrev S512x1024 : Shape := ⟨2, ![512, 1024]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x256, .bf16⟩
  | .hbm, ⟨2, _⟩ => ⟨S4096x256, .f32⟩
  | .local _ .vmem, ⟨0, _⟩ => ⟨S512x1024, .f32⟩
  | .local _ .vmem, ⟨1, _⟩ => ⟨S512x1024, .f32⟩
  | .local _ .vmem, ⟨2, _⟩ => ⟨S1024x256, .bf16⟩
  | .local _ .vmem, ⟨3, _⟩ => ⟨S512x256, .f32⟩
  | .local _ .vmem, ⟨4, _⟩ => ⟨S512x256, .f32⟩
  | .local _ .vmem, ⟨5, _⟩ => ⟨S512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradOcReferenceIdeal.lean ====
abbrev S4096x1024 : Shape := ⟨2, ![4096, 1024]⟩
abbrev S1024x256 : Shape := ⟨2, ![1024, 256]⟩
abbrev S4096x256 : Shape := ⟨2, ![4096, 256]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x256, .bf16⟩
  | .hbm, ⟨2, _⟩ => ⟨S1024x256, .f32⟩
  | .hbm, ⟨3, _⟩ => ⟨S4096x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== GradCo.lean ====
abbrev S4096x1024 : Shape := ⟨2, ![4096, 1024]⟩
abbrev S4096x256 : Shape := ⟨2, ![4096, 256]⟩
abbrev S1024x256 : Shape := ⟨2, ![1024, 256]⟩
abbrev S1024x512 : Shape := ⟨2, ![1024, 512]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x256, .bf16⟩
  | .hbm, ⟨2, _⟩ => ⟨S1024x256, .bf16⟩
  | .local _ .vmem, ⟨0, _⟩ => ⟨S1024x512, .f32⟩
  | .local _ .vmem, ⟨1, _⟩ => ⟨S1024x512, .f32⟩
  | .local _ .vmem, ⟨2, _⟩ => ⟨S1024x256, .bf16⟩
  | .local _ .vmem, ⟨3, _⟩ => ⟨S1024x256, .bf16⟩
  | .local _ .vmem, ⟨4, _⟩ => ⟨S512x256, .bf16⟩
  | .local _ .vmem, ⟨5, _⟩ => ⟨S512x256, .bf16⟩
  | .local _ .vmem, ⟨6, _⟩ => ⟨S512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradCoIdeal.lean ====
abbrev S4096x1024 : Shape := ⟨2, ![4096, 1024]⟩
abbrev S4096x256 : Shape := ⟨2, ![4096, 256]⟩
abbrev S1024x256 : Shape := ⟨2, ![1024, 256]⟩
abbrev S1024x512 : Shape := ⟨2, ![1024, 512]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x256, .bf16⟩
  | .hbm, ⟨2, _⟩ => ⟨S1024x256, .bf16⟩
  | .local _ .vmem, ⟨0, _⟩ => ⟨S1024x512, .f32⟩
  | .local _ .vmem, ⟨1, _⟩ => ⟨S1024x512, .f32⟩
  | .local _ .vmem, ⟨2, _⟩ => ⟨S1024x256, .bf16⟩
  | .local _ .vmem, ⟨3, _⟩ => ⟨S1024x256, .bf16⟩
  | .local _ .vmem, ⟨4, _⟩ => ⟨S512x256, .bf16⟩
  | .local _ .vmem, ⟨5, _⟩ => ⟨S512x256, .bf16⟩
  | .local _ .vmem, ⟨6, _⟩ => ⟨S512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradCoReferenceIdeal.lean ====
abbrev S4096x1024 : Shape := ⟨2, ![4096, 1024]⟩
abbrev S4096x256 : Shape := ⟨2, ![4096, 256]⟩
abbrev S1024x4096 : Shape := ⟨2, ![1024, 4096]⟩
abbrev S1024x256 : Shape := ⟨2, ![1024, 256]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .bf16⟩
  | .hbm, ⟨2, _⟩ => ⟨S4096x256, .f32⟩
  | .hbm, ⟨3, _⟩ => ⟨S1024x4096, .f32⟩
  | .hbm, ⟨4, _⟩ => ⟨S1024x256, .f32⟩
  | .hbm, ⟨5, _⟩ => ⟨S1024x256, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradHq.lean ====
abbrev S4096x256 : Shape := ⟨2, ![4096, 256]⟩
abbrev S1024x256 : Shape := ⟨2, ![1024, 256]⟩
abbrev S4096x1024 : Shape := ⟨2, ![4096, 1024]⟩
abbrev S512x256 : Shape := ⟨2, ![512, 256]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S1024x256, .bf16⟩
  | .hbm, ⟨2, _⟩ => ⟨S4096x1024, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradHqIdeal.lean ====
abbrev S4096x256 : Shape := ⟨2, ![4096, 256]⟩
abbrev S1024x256 : Shape := ⟨2, ![1024, 256]⟩
abbrev S4096x1024 : Shape := ⟨2, ![4096, 1024]⟩
abbrev S512x256 : Shape := ⟨2, ![512, 256]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S1024x256, .bf16⟩
  | .hbm, ⟨2, _⟩ => ⟨S4096x1024, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradHqReferenceIdeal.lean ====
abbrev S4096x256 : Shape := ⟨2, ![4096, 256]⟩
abbrev S1024x256 : Shape := ⟨2, ![1024, 256]⟩
abbrev S256x1024 : Shape := ⟨2, ![256, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S1024x256, .bf16⟩
  | .hbm, ⟨2, _⟩ => ⟨S4096x256, .f32⟩
  | .hbm, ⟨3, _⟩ => ⟨S1024x256, .f32⟩
  | .hbm, ⟨4, _⟩ => ⟨S256x1024, .f32⟩
  | .hbm, ⟨5, _⟩ => ⟨S4096x1024, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradCq.lean ====
abbrev S4096x1024 : Shape := ⟨2, ![4096, 1024]⟩
abbrev S4096x256 : Shape := ⟨2, ![4096, 256]⟩
abbrev S1024x256 : Shape := ⟨2, ![1024, 256]⟩
abbrev S1024x512 : Shape := ⟨2, ![1024, 512]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S1024x256, .bf16⟩
  | .local _ .vmem, ⟨0, _⟩ => ⟨S1024x512, .bf16⟩
  | .local _ .vmem, ⟨1, _⟩ => ⟨S1024x512, .bf16⟩
  | .local _ .vmem, ⟨2, _⟩ => ⟨S1024x256, .bf16⟩
  | .local _ .vmem, ⟨3, _⟩ => ⟨S1024x256, .bf16⟩
  | .local _ .vmem, ⟨4, _⟩ => ⟨S512x256, .bf16⟩
  | .local _ .vmem, ⟨5, _⟩ => ⟨S512x256, .bf16⟩
  | .local _ .vmem, ⟨6, _⟩ => ⟨S512x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradCqIdeal.lean ====
abbrev S4096x1024 : Shape := ⟨2, ![4096, 1024]⟩
abbrev S4096x256 : Shape := ⟨2, ![4096, 256]⟩
abbrev S1024x256 : Shape := ⟨2, ![1024, 256]⟩
abbrev S1024x512 : Shape := ⟨2, ![1024, 512]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S1024x256, .bf16⟩
  | .local _ .vmem, ⟨0, _⟩ => ⟨S1024x512, .bf16⟩
  | .local _ .vmem, ⟨1, _⟩ => ⟨S1024x512, .bf16⟩
  | .local _ .vmem, ⟨2, _⟩ => ⟨S1024x256, .bf16⟩
  | .local _ .vmem, ⟨3, _⟩ => ⟨S1024x256, .bf16⟩
  | .local _ .vmem, ⟨4, _⟩ => ⟨S512x256, .bf16⟩
  | .local _ .vmem, ⟨5, _⟩ => ⟨S512x256, .bf16⟩
  | .local _ .vmem, ⟨6, _⟩ => ⟨S512x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradCqReferenceIdeal.lean ====
abbrev S4096x1024 : Shape := ⟨2, ![4096, 1024]⟩
abbrev S4096x256 : Shape := ⟨2, ![4096, 256]⟩
abbrev S1024x4096 : Shape := ⟨2, ![1024, 4096]⟩
abbrev S1024x256 : Shape := ⟨2, ![1024, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x1024, .f32⟩
  | .hbm, ⟨3, _⟩ => ⟨S4096x256, .f32⟩
  | .hbm, ⟨4, _⟩ => ⟨S1024x4096, .f32⟩
  | .hbm, ⟨5, _⟩ => ⟨S1024x256, .f32⟩
  | .hbm, ⟨6, _⟩ => ⟨S1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GradMem.lean ====
abbrev S512x512 : Shape := ⟨2, ![512, 512]⟩
abbrev S1024x512 : Shape := ⟨2, ![1024, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S512x512, .f32⟩
  | .hbm, ⟨1, _⟩ => ⟨S1024x512, .bf16⟩
  | .hbm, ⟨2, _⟩ => ⟨S512x1024, .f32⟩
  | .local _ .vmem, ⟨0, _⟩ => ⟨S512x512, .f32⟩
  | .local _ .vmem, ⟨1, _⟩ => ⟨S512x512, .bf16⟩
  | .local _ .vmem, ⟨2, _⟩ => ⟨S512x512, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradMemIdeal.lean ====
abbrev S512x512 : Shape := ⟨2, ![512, 512]⟩
abbrev S1024x512 : Shape := ⟨2, ![1024, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S512x512, .f32⟩
  | .hbm, ⟨1, _⟩ => ⟨S1024x512, .bf16⟩
  | .hbm, ⟨2, _⟩ => ⟨S512x1024, .f32⟩
  | .local _ .vmem, ⟨0, _⟩ => ⟨S512x512, .f32⟩
  | .local _ .vmem, ⟨1, _⟩ => ⟨S512x512, .bf16⟩
  | .local _ .vmem, ⟨2, _⟩ => ⟨S512x512, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradMemReferenceIdeal.lean ====
abbrev S512x512 : Shape := ⟨2, ![512, 512]⟩
abbrev S1024x512 : Shape := ⟨2, ![1024, 512]⟩
abbrev S512x1024 : Shape := ⟨2, ![512, 1024]⟩

abbrev nBuf : Space → Nat
  | .hbm => 5
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S1024x512, .bf16⟩
  | .hbm, ⟨2, _⟩ => ⟨S1024x512, .f32⟩
  | .hbm, ⟨3, _⟩ => ⟨S512x1024, .f32⟩
  | .hbm, ⟨4, _⟩ => ⟨S512x1024, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradCkv.lean ====
abbrev S512x1024 : Shape := ⟨2, ![512, 1024]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x1024, .bf16⟩
  | .hbm, ⟨1, _⟩ => ⟨S512x512, .f32⟩
  | .hbm, ⟨2, _⟩ => ⟨S1024x512, .bf16⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .bf16⟩
  | .local _ .vmem, ⟨4, _⟩ => ⟨S512x512, .bf16⟩
  | .local _ .vmem, ⟨5, _⟩ => ⟨S512x512, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradCkvIdeal.lean ====
abbrev S512x1024 : Shape := ⟨2, ![512, 1024]⟩
abbrev S512x512 : Shape := ⟨2, ![512, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x1024, .bf16⟩
  | .hbm, ⟨1, _⟩ => ⟨S512x512, .f32⟩
  | .hbm, ⟨2, _⟩ => ⟨S1024x512, .bf16⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .bf16⟩
  | .local _ .vmem, ⟨4, _⟩ => ⟨S512x512, .bf16⟩
  | .local _ .vmem, ⟨5, _⟩ => ⟨S512x512, .f32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradCkvReferenceIdeal.lean ====
abbrev S512x1024 : Shape := ⟨2, ![512, 1024]⟩
abbrev S512x512 : Shape := ⟨2, ![512, 512]⟩
abbrev S1024x512 : Shape := ⟨2, ![1024, 512]⟩

abbrev nBuf : Space → Nat
  | .hbm => 6
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x512, .f32⟩
  | .hbm, ⟨2, _⟩ => ⟨S512x1024, .f32⟩
  | .hbm, ⟨3, _⟩ => ⟨S1024x512, .f32⟩
  | .hbm, ⟨4, _⟩ => ⟨S1024x512, .f32⟩
  | .hbm, ⟨5, _⟩ => ⟨S1024x512, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradMixed.lean ====
abbrev S4096x1024 : Shape := ⟨2, ![4096, 1024]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradMixedIdeal.lean ====
abbrev S4096x1024 : Shape := ⟨2, ![4096, 1024]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradMixedReferenceIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S1024x1024, .f32⟩
  | .hbm, ⟨3, _⟩ => ⟨S1024x1024, .f32⟩
  | .hbm, ⟨4, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== GradOut.lean ====
abbrev S4096x1024 : Shape := ⟨2, ![4096, 1024]⟩
abbrev S1024x1024 : Shape := ⟨2, ![1024, 1024]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .f32⟩
  | .local _ .vmem, ⟨3, _⟩ => ⟨S1024x512, .f32⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradOutIdeal.lean ====
abbrev S4096x1024 : Shape := ⟨2, ![4096, 1024]⟩
abbrev S1024x1024 : Shape := ⟨2, ![1024, 1024]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .f32⟩
  | .local _ .vmem, ⟨3, _⟩ => ⟨S1024x512, .f32⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradOutReferenceIdeal.lean ====
abbrev S4096x1024 : Shape := ⟨2, ![4096, 1024]⟩
abbrev S1024x4096 : Shape := ⟨2, ![1024, 4096]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S1024x4096, .f32⟩
  | .hbm, ⟨4, _⟩ => ⟨S1024x1024, .f32⟩
  | .hbm, ⟨5, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradMain.lean ====
abbrev S4096x2304 : Shape := ⟨2, ![4096, 2304]⟩
abbrev S1024x2304 : Shape := ⟨2, ![1024, 2304]⟩
abbrev S4096x1024 : Shape := ⟨2, ![4096, 1024]⟩
abbrev S512x256 : Shape := ⟨2, ![512, 256]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2304, .bf16⟩
  | .hbm, ⟨1, _⟩ => ⟨S1024x2304, .bf16⟩
  | .hbm, ⟨2, _⟩ => ⟨S4096x1024, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 9], ![false, false, false]⟩

def k0_cond3 (i : grid0.Coords) : BitVec 1 :=
  let arg2 : BitVec 32 := BitVec.ofNat 32 (i 2).val
  let c8_i32 : BitVec 32 := 8#32
  let v9 : BitVec 1 := Scalar.cmpi .eq arg2 c8_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradMainIdeal.lean ====
abbrev S4096x2304 : Shape := ⟨2, ![4096, 2304]⟩
abbrev S1024x2304 : Shape := ⟨2, ![1024, 2304]⟩
abbrev S4096x1024 : Shape := ⟨2, ![4096, 1024]⟩
abbrev S512x256 : Shape := ⟨2, ![512, 256]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2304, .bf16⟩
  | .hbm, ⟨1, _⟩ => ⟨S1024x2304, .bf16⟩
  | .hbm, ⟨2, _⟩ => ⟨S4096x1024, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 9], ![false, false, false]⟩

def k0_cond3 (i : grid0.Coords) : BitVec 1 :=
  let arg2 : BitVec 32 := BitVec.ofNat 32 (i 2).val
  let c8_i32 : BitVec 32 := 8#32
  let v9 : BitVec 1 := Scalar.cmpi .eq arg2 c8_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradMainReferenceIdeal.lean ====
abbrev S4096x2304 : Shape := ⟨2, ![4096, 2304]⟩
abbrev S1024x2304 : Shape := ⟨2, ![1024, 2304]⟩
abbrev S2304x1024 : Shape := ⟨2, ![2304, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2304, .bf16⟩
  | .hbm, ⟨1, _⟩ => ⟨S1024x2304, .bf16⟩
  | .hbm, ⟨2, _⟩ => ⟨S4096x2304, .f32⟩
  | .hbm, ⟨3, _⟩ => ⟨S1024x2304, .f32⟩
  | .hbm, ⟨4, _⟩ => ⟨S2304x1024, .f32⟩
  | .hbm, ⟨5, _⟩ => ⟨S4096x1024, .f32⟩
  | _, _ => ⟨S4096x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GradMix.lean ====
abbrev S4096x640 : Shape := ⟨2, ![4096, 640]⟩
abbrev S1024x640 : Shape := ⟨2, ![1024, 640]⟩
abbrev S4096x1024 : Shape := ⟨2, ![4096, 1024]⟩
abbrev S512x128 : Shape := ⟨2, ![512, 128]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x640, .f32⟩
  | .hbm, ⟨1, _⟩ => ⟨S1024x640, .bf16⟩
  | .hbm, ⟨2, _⟩ => ⟨S4096x1024, .f32⟩
  | .hbm, ⟨3, _⟩ => ⟨S4096x1024, .f32⟩
  | .local _ .vmem, ⟨0, _⟩ => ⟨S512x128, .f32⟩
  | .local _ .vmem, ⟨1, _⟩ => ⟨S512x128, .f32⟩
  | .local _ .vmem, ⟨2, _⟩ => ⟨S512x128, .bf16⟩
  | .local _ .vmem, ⟨3, _⟩ => ⟨S512x128, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S4096x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 5], ![false, false, false]⟩

def k0_cond3 (i : grid0.Coords) : BitVec 1 :=
  let arg2 : BitVec 32 := BitVec.ofNat 32 (i 2).val
  let c4_i32 : BitVec 32 := 4#32
  let v10 : BitVec 1 := Scalar.cmpi .eq arg2 c4_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GradMixIdeal.lean ====
abbrev S4096x640 : Shape := ⟨2, ![4096, 640]⟩
abbrev S1024x640 : Shape := ⟨2, ![1024, 640]⟩
abbrev S4096x1024 : Shape := ⟨2, ![4096, 1024]⟩
abbrev S512x128 : Shape := ⟨2, ![512, 128]⟩
abbrev S512x512 : Shape := ⟨2, ![512, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x640, .f32⟩
  | .hbm, ⟨1, _⟩ => ⟨S1024x640, .bf16⟩
  | .hbm, ⟨2, _⟩ => ⟨S4096x1024, .f32⟩
  | .hbm, ⟨3, _⟩ => ⟨S4096x1024, .f32⟩
  | .local _ .vmem, ⟨0, _⟩ => ⟨S512x128, .f32⟩
  | .local _ .vmem, ⟨1, _⟩ => ⟨S512x128, .f32⟩
  | .local _ .vmem, ⟨2, _⟩ => ⟨S512x128, .bf16⟩
  | .local _ .vmem, ⟨3, _⟩ => ⟨S512x128, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | _, _ => ⟨S4096x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 5], ![false, false, false]⟩

def k0_cond3 (i : grid0.Coords) : BitVec 1 :=
  let arg2 : BitVec 32 := BitVec.ofNat 32 (i 2).val
  let c4_i32 : BitVec 32 := 4#32
  let v10 : BitVec 1 := Scalar.cmpi .eq arg2 c4_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GradMixReferenceIdeal.lean ====
abbrev S4096x640 : Shape := ⟨2, ![4096, 640]⟩
abbrev S1024x640 : Shape := ⟨2, ![1024, 640]⟩
abbrev S4096x1024 : Shape := ⟨2, ![4096, 1024]⟩
abbrev S640x1024 : Shape := ⟨2, ![640, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x640, .f32⟩
  | .hbm, ⟨1, _⟩ => ⟨S1024x640, .bf16⟩
  | .hbm, ⟨2, _⟩ => ⟨S4096x1024, .f32⟩
  | .hbm, ⟨3, _⟩ => ⟨S1024x640, .f32⟩
  | .hbm, ⟨4, _⟩ => ⟨S640x1024, .f32⟩
  | .hbm, ⟨5, _⟩ => ⟨S4096x1024, .f32⟩
  | .hbm, ⟨6, _⟩ => ⟨S4096x1024, .f32⟩
  | _, _ => ⟨S4096x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== GradQkv.lean ====
abbrev S4096x1024 : Shape := ⟨2, ![4096, 1024]⟩
abbrev S4096x2304 : Shape := ⟨2, ![4096, 2304]⟩
abbrev S1024x2304 : Shape := ⟨2, ![1024, 2304]⟩
abbrev S1024x512 : Shape := ⟨2, ![1024, 512]⟩
abbrev S1024x768 : Shape := ⟨2, ![1024, 768]⟩
abbrev S512x768 : Shape := ⟨2, ![512, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2304, .bf16⟩
  | .hbm, ⟨2, _⟩ => ⟨S1024x2304, .bf16⟩
  | .local _ .vmem, ⟨0, _⟩ => ⟨S1024x512, .bf16⟩
  | .local _ .vmem, ⟨1, _⟩ => ⟨S1024x512, .bf16⟩
  | .local _ .vmem, ⟨2, _⟩ => ⟨S1024x768, .bf16⟩
  | .local _ .vmem, ⟨3, _⟩ => ⟨S1024x768, .bf16⟩
  | .local _ .vmem, ⟨4, _⟩ => ⟨S512x768, .bf16⟩
  | .local _ .vmem, ⟨5, _⟩ => ⟨S512x768, .bf16⟩
  | .local _ .vmem, ⟨6, _⟩ => ⟨S512x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradQkvIdeal.lean ====
abbrev S4096x1024 : Shape := ⟨2, ![4096, 1024]⟩
abbrev S4096x2304 : Shape := ⟨2, ![4096, 2304]⟩
abbrev S1024x2304 : Shape := ⟨2, ![1024, 2304]⟩
abbrev S1024x512 : Shape := ⟨2, ![1024, 512]⟩
abbrev S1024x768 : Shape := ⟨2, ![1024, 768]⟩
abbrev S512x768 : Shape := ⟨2, ![512, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2304, .bf16⟩
  | .hbm, ⟨2, _⟩ => ⟨S1024x2304, .bf16⟩
  | .local _ .vmem, ⟨0, _⟩ => ⟨S1024x512, .bf16⟩
  | .local _ .vmem, ⟨1, _⟩ => ⟨S1024x512, .bf16⟩
  | .local _ .vmem, ⟨2, _⟩ => ⟨S1024x768, .bf16⟩
  | .local _ .vmem, ⟨3, _⟩ => ⟨S1024x768, .bf16⟩
  | .local _ .vmem, ⟨4, _⟩ => ⟨S512x768, .bf16⟩
  | .local _ .vmem, ⟨5, _⟩ => ⟨S512x768, .bf16⟩
  | .local _ .vmem, ⟨6, _⟩ => ⟨S512x768, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradQkvReferenceIdeal.lean ====
abbrev S4096x1024 : Shape := ⟨2, ![4096, 1024]⟩
abbrev S4096x2304 : Shape := ⟨2, ![4096, 2304]⟩
abbrev S1024x4096 : Shape := ⟨2, ![1024, 4096]⟩
abbrev S1024x2304 : Shape := ⟨2, ![1024, 2304]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2304, .bf16⟩
  | .hbm, ⟨2, _⟩ => ⟨S4096x1024, .f32⟩
  | .hbm, ⟨3, _⟩ => ⟨S4096x2304, .f32⟩
  | .hbm, ⟨4, _⟩ => ⟨S1024x4096, .f32⟩
  | .hbm, ⟨5, _⟩ => ⟨S1024x2304, .f32⟩
  | .hbm, ⟨6, _⟩ => ⟨S1024x2304, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GradAux.lean ====
abbrev S4096x1024 : Shape := ⟨2, ![4096, 1024]⟩
abbrev S4096x640 : Shape := ⟨2, ![4096, 640]⟩
abbrev S1024x640 : Shape := ⟨2, ![1024, 640]⟩
abbrev S1024x512 : Shape := ⟨2, ![1024, 512]⟩
abbrev S512x640 : Shape := ⟨2, ![512, 640]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x640, .f32⟩
  | .hbm, ⟨2, _⟩ => ⟨S1024x640, .bf16⟩
  | .local _ .vmem, ⟨0, _⟩ => ⟨S1024x512, .bf16⟩
  | .local _ .vmem, ⟨1, _⟩ => ⟨S1024x512, .bf16⟩
  | .local _ .vmem, ⟨2, _⟩ => ⟨S1024x640, .f32⟩
  | .local _ .vmem, ⟨3, _⟩ => ⟨S1024x640, .f32⟩
  | .local _ .vmem, ⟨4, _⟩ => ⟨S512x640, .bf16⟩
  | .local _ .vmem, ⟨5, _⟩ => ⟨S512x640, .bf16⟩
  | .local _ .vmem, ⟨6, _⟩ => ⟨S512x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GradAuxReferenceIdeal.lean ====
abbrev S4096x1024 : Shape := ⟨2, ![4096, 1024]⟩
abbrev S4096x640 : Shape := ⟨2, ![4096, 640]⟩
abbrev S1024x4096 : Shape := ⟨2, ![1024, 4096]⟩
abbrev S1024x640 : Shape := ⟨2, ![1024, 640]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x640, .f32⟩
  | .hbm, ⟨2, _⟩ => ⟨S4096x1024, .f32⟩
  | .hbm, ⟨3, _⟩ => ⟨S1024x4096, .f32⟩
  | .hbm, ⟨4, _⟩ => ⟨S1024x640, .f32⟩
  | .hbm, ⟨5, _⟩ => ⟨S1024x640, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PairSum.lean ====
abbrev S13440x1024 : Shape := ⟨2, ![13440, 1024]⟩
abbrev S128x1024 : Shape := ⟨2, ![128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S13440x1024, .bf16⟩
  | .hbm, ⟨1, _⟩ => ⟨S13440x1024, .bf16⟩
  | .hbm, ⟨2, _⟩ => ⟨S13440x1024, .bf16⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | _, _ => ⟨S13440x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![105], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PairSumReference.lean ====
abbrev S13440x1024 : Shape := ⟨2, ![13440, 1024]⟩

abbrev nBuf : Space → Nat
  | .hbm => 6
  | .vmem => 0
  | .smem => 0
  | _ => 0

abbrev bufTy : (tb : Table) → Fin (tcTables nBuf tb) → BufTy
  | .hbm, ⟨0, _⟩ => ⟨S13440x1024, .bf16⟩
  | .hbm, ⟨1, _⟩ => ⟨S13440x1024, .bf16⟩
  | .hbm, ⟨2, _⟩ => ⟨S13440x1024, .f32⟩
  | .hbm, ⟨3, _⟩ => ⟨S13440x1024, .f32⟩
  | .hbm, ⟨4, _⟩ => ⟨S13440x1024, .f32⟩
  | .hbm, ⟨5, _⟩ => ⟨S13440x1024, .bf16⟩
  | _, _ => ⟨S13440x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== ChipSum.lean ====
abbrev S3360x1024 : Shape := ⟨2, ![3360, 1024]⟩
abbrev S8x1024 : Shape := ⟨2, ![8, 1024]⟩

abbrev nBuf : Space → Nat
  | .hbm => 5
  | .vmem => 10
  | .smem => 0
  | _ => 0

abbrev bufTy : (tb : Table) → Fin (tcTables nBuf tb) → BufTy
  | .hbm, ⟨0, _⟩ => ⟨S3360x1024, .bf16⟩
  | .hbm, ⟨1, _⟩ => ⟨S3360x1024, .bf16⟩
  | .hbm, ⟨2, _⟩ => ⟨S3360x1024, .bf16⟩
  | .hbm, ⟨3, _⟩ => ⟨S3360x1024, .bf16⟩
  | .hbm, ⟨4, _⟩ => ⟨S3360x1024, .f32⟩
  | .local _ .vmem, ⟨0, _⟩ => ⟨S8x1024, .bf16⟩
  | .local _ .vmem, ⟨1, _⟩ => ⟨S8x1024, .bf16⟩
  | .local _ .vmem, ⟨2, _⟩ => ⟨S8x1024, .bf16⟩
  | .local _ .vmem, ⟨3, _⟩ => ⟨S8x1024, .bf16⟩
  | .local _ .vmem, ⟨4, _⟩ => ⟨S8x1024, .bf16⟩
  | .local _ .vmem, ⟨5, _⟩ => ⟨S8x1024, .bf16⟩
  | .local _ .vmem, ⟨6, _⟩ => ⟨S8x1024, .bf16⟩
  | .local _ .vmem, ⟨7, _⟩ => ⟨S8x1024, .bf16⟩
  | .local _ .vmem, ⟨8, _⟩ => ⟨S8x1024, .f32⟩
  | .local _ .vmem, ⟨9, _⟩ => ⟨S8x1024, .f32⟩
  | _, _ => ⟨S3360x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![420], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ChipSumReference.lean ====
abbrev S3360x1024 : Shape := ⟨2, ![3360, 1024]⟩

abbrev nBuf : Space → Nat
  | .hbm => 11
  | .vmem => 0
  | .smem => 0
  | _ => 0

abbrev bufTy : (tb : Table) → Fin (tcTables nBuf tb) → BufTy
  | .hbm, ⟨0, _⟩ => ⟨S3360x1024, .bf16⟩
  | .hbm, ⟨1, _⟩ => ⟨S3360x1024, .bf16⟩
  | .hbm, ⟨2, _⟩ => ⟨S3360x1024, .bf16⟩
  | .hbm, ⟨3, _⟩ => ⟨S3360x1024, .bf16⟩
  | .hbm, ⟨4, _⟩ => ⟨S3360x1024, .f32⟩
  | .hbm, ⟨5, _⟩ => ⟨S3360x1024, .f32⟩
  | .hbm, ⟨6, _⟩ => ⟨S3360x1024, .f32⟩
  | .hbm, ⟨7, _⟩ => ⟨S3360x1024, .f32⟩
  | .hbm, ⟨8, _⟩ => ⟨S3360x1024, .f32⟩
  | .hbm, ⟨9, _⟩ => ⟨S3360x1024, .f32⟩
  | .hbm, ⟨10, _⟩ => ⟨S3360x1024, .f32⟩
  | _, _ => ⟨S3360x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== NormMix.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormMixIdeal.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormMixReferenceIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormMem.lean ====
abbrev S512x1024 : Shape := ⟨2, ![512, 1024]⟩
abbrev S1x1024 : Shape := ⟨2, ![1, 1024]⟩
abbrev S512 : Shape := ⟨1, ![512]⟩
abbrev S512x1 : Shape := ⟨2, ![512, 1]⟩

abbrev nBuf : Space → Nat
  | .hbm => 3
  | .vmem => 3
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S512x1024, .bf16⟩
  | .local _ .vmem, ⟨0, _⟩ => ⟨S512x1024, .f32⟩
  | .local _ .vmem, ⟨1, _⟩ => ⟨S1x1024, .f32⟩
  | .local _ .vmem, ⟨2, _⟩ => ⟨S512x1024, .bf16⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NormMemReferenceIdeal.lean ====
abbrev S512x1024 : Shape := ⟨2, ![512, 1024]⟩
abbrev S1x1024 : Shape := ⟨2, ![1, 1024]⟩
abbrev S_ : Shape := ⟨0, ![]⟩
abbrev S512 : Shape := ⟨1, ![512]⟩
abbrev S512x1 : Shape := ⟨2, ![512, 1]⟩

abbrev nBuf : Space → Nat
  | .hbm => 18
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1x1024, .f32⟩
  | .hbm, ⟨2, _⟩ => ⟨S512x1024, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S512x1, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S512x1024, .f32⟩
  | .hbm, ⟨17, _⟩ => ⟨S512x1024, .bf16⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Band0.lean ====
abbrev S4096x768 : Shape := ⟨2, ![4096, 768]⟩
abbrev S12x128x256 : Shape := ⟨3, ![12, 128, 256]⟩
abbrev S4096x256 : Shape := ⟨2, ![4096, 256]⟩
abbrev S4096x128 : Shape := ⟨2, ![4096, 128]⟩
abbrev S128x256 : Shape := ⟨2, ![128, 256]⟩
abbrev S4x128x256 : Shape := ⟨3, ![4, 128, 256]⟩
abbrev S128x128 : Shape := ⟨2, ![128, 128]⟩
abbrev S128x64 : Shape := ⟨2, ![128, 64]⟩
abbrev S1x128x256 : Shape := ⟨3, ![1, 128, 256]⟩
abbrev S128 : Shape := ⟨1, ![128]⟩
abbrev S128x1 : Shape := ⟨2, ![128, 1]⟩

abbrev nBuf : Space → Nat
  | .hbm => 4
  | .vmem => 15
  | .smem => 0
  | _ => 0

abbrev bufTy : (tb : Table) → Fin (tcTables nBuf tb) → BufTy
  | .hbm, ⟨0, _⟩ => ⟨S4096x768, .bf16⟩
  | .hbm, ⟨1, _⟩ => ⟨S12x128x256, .f32⟩
  | .hbm, ⟨2, _⟩ => ⟨S4096x256, .f32⟩
  | .hbm, ⟨3, _⟩ => ⟨S4096x128, .f32⟩
  | .local _ .vmem, ⟨0, _⟩ => ⟨S128x256, .bf16⟩
  | .local _ .vmem, ⟨1, _⟩ => ⟨S128x256, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S4x128x256, .f32⟩
  | .local _ .vmem, ⟨11, _⟩ => ⟨S128x256, .f32⟩
  | .local _ .vmem, ⟨12, _⟩ => ⟨S128x256, .f32⟩
  | .local _ .vmem, ⟨13, _⟩ => ⟨S128x128, .f32⟩
  | .local _ .vmem, ⟨14, _⟩ => ⟨S128x128, .f32⟩
  | _, _ => ⟨S4096x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c1_i32_0 : BitVec 32 := 1#32
  let c0_i32_1 : BitVec 32 := 0#32
  ![v1.toNat, c1_i32_0.toNat]

def cc0_transform_2 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c2_i32 : BitVec 32 := 2#32
  let c0_i32_0 : BitVec 32 := 0#32
  ![v1.toNat, c2_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Band0Ideal.lean ====
variable {F : FTy → Type} [FloatOps F] [Named F]
def κ : String → Option EReal := fun
  | "mask" => some ⊥
  | _ => none
-- ==== Band0ReferenceIdeal.lean ====
abbrev S4096x768 : Shape := ⟨2, ![4096, 768]⟩
abbrev S12x128x256 : Shape := ⟨3, ![12, 128, 256]⟩
abbrev S2x2048x3x4x64 : Shape := ⟨5, ![2, 2048, 3, 4, 64]⟩
abbrev S3x2x4x2048x64 : Shape := ⟨5, ![3, 2, 4, 2048, 64]⟩
abbrev S1x2x4x2048x64 : Shape := ⟨5, ![1, 2, 4, 2048, 64]⟩
abbrev S2x4x2048x64 : Shape := ⟨4, ![2, 4, 2048, 64]⟩
abbrev S_ : Shape := ⟨0, ![]⟩
abbrev S2x4x16x128x64 : Shape := ⟨5, ![2, 4, 16, 128, 64]⟩
abbrev S2x4x128x64 : Shape := ⟨4, ![2, 4, 128, 64]⟩
abbrev S2x4x1920x64 : Shape := ⟨4, ![2, 4, 1920, 64]⟩
abbrev S2x4x16x256x64 : Shape := ⟨5, ![2, 4, 16, 256, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1x1 : Shape := ⟨3, ![16, 1, 1]⟩
abbrev S1x1x256 : Shape := ⟨3, ![1, 1, 256]⟩
abbrev S16x1x256 : Shape := ⟨3, ![16, 1, 256]⟩
abbrev S1x128x256 : Shape := ⟨3, ![1, 128, 256]⟩
abbrev S16x128x256 : Shape := ⟨3, ![16, 128, 256]⟩
abbrev S2x4x16x128x256 : Shape := ⟨5, ![2, 4, 16, 128, 256]⟩
abbrev S4x128x256 : Shape := ⟨3, ![4, 128, 256]⟩
abbrev S4x1x128x256 : Shape := ⟨4, ![4, 1, 128, 256]⟩
abbrev S1x4x1x128x256 : Shape := ⟨5, ![1, 4, 1, 128, 256]⟩
abbrev S2x4x16x128 : Shape := ⟨4, ![2, 4, 16, 128]⟩
abbrev S2x4x16x128x1 : Shape := ⟨5, ![2, 4, 16, 128, 1]⟩
abbrev S2x4x2048 : Shape := ⟨3, ![2, 4, 2048]⟩
abbrev S2x2048x4 : Shape := ⟨3, ![2, 2048, 4]⟩
abbrev S4096x4 : Shape := ⟨2, ![4096, 4]⟩
abbrev S2x2048x4x64 : Shape := ⟨4, ![2, 2048, 4, 64]⟩
abbrev S4096x256 : Shape := ⟨2, ![4096, 256]⟩
abbrev S4096x124 : Shape := ⟨2, ![4096, 124]⟩
abbrev S4096x128 : Shape := ⟨2, ![4096, 128]⟩

abbrev nBuf : Space → Nat
  | .hbm => 96
  | .vmem => 0
  | .smem => 0
  | _ => 0

abbrev bufTy : (tb : Table) → Fin (tcTables nBuf tb) → BufTy
  | .hbm, ⟨0, _⟩ => ⟨S4096x768, .bf16⟩
  | .hbm, ⟨1, _⟩ => ⟨S12x128x256, .f32⟩
  | .hbm, ⟨2, _⟩ => ⟨S4096x768, .f32⟩
  | .hbm, ⟨3, _⟩ => ⟨S2x2048x3x4x64, .f32⟩
  | .hbm, ⟨4, _⟩ => ⟨S3x2x4x2048x64, .f32⟩
  | .hbm, ⟨5, _⟩ => ⟨S1x2x4x2048x64, .f32⟩
  | .hbm, ⟨6, _⟩ => ⟨S2x4x2048x64, .f32⟩
  | .hbm, ⟨7, _⟩ => ⟨S1x2x4x2048x64, .f32⟩
  | .hbm, ⟨8, _⟩ => ⟨S2x4x2048x64, .f32⟩
  | .hbm, ⟨9, _⟩ => ⟨S1x2x4x2048x64, .f32⟩
  | .hbm, ⟨10, _⟩ => ⟨S2x4x2048x64, .f32⟩
  | .hbm, ⟨11, _⟩ => ⟨S_, .f32⟩
  | .hbm, ⟨12, _⟩ => ⟨S2x4x2048x64, .f32⟩
  | .hbm, ⟨13, _⟩ => ⟨S2x4x2048x64, .f32⟩
  | .hbm, ⟨14, _⟩ => ⟨S2x4x16x128x64, .f32⟩
  | .hbm, ⟨15, _⟩ => ⟨S_, .f32⟩
  | .hbm, ⟨16, _⟩ => ⟨S2x4x128x64, .f32⟩
  | .hbm, ⟨17, _⟩ => ⟨S2x4x1920x64, .f32⟩
  | .hbm, ⟨18, _⟩ => ⟨S2x4x2048x64, .f32⟩
  | .hbm, ⟨19, _⟩ => ⟨S2x4x16x128x64, .f32⟩
  | .hbm, ⟨20, _⟩ => ⟨S2x4x16x128x64, .f32⟩
  | .hbm, ⟨21, _⟩ => ⟨S2x4x16x256x64, .f32⟩
  | .hbm, ⟨22, _⟩ => ⟨S_, .f32⟩
  | .hbm, ⟨23, _⟩ => ⟨S2x4x128x64, .f32⟩
  | .hbm, ⟨24, _⟩ => ⟨S2x4x1920x64, .f32⟩
  | .hbm, ⟨25, _⟩ => ⟨S2x4x2048x64, .f32⟩
  | .hbm, ⟨26, _⟩ => ⟨S2x4x16x128x64, .f32⟩
  | .hbm, ⟨27, _⟩ => ⟨S2x4x16x128x64, .f32⟩
  | .hbm, ⟨28, _⟩ => ⟨S2x4x16x256x64, .f32⟩
  | .hbm, ⟨29, _⟩ => ⟨S128, .i32⟩
  | .hbm, ⟨30, _⟩ => ⟨S128x1, .i32⟩
  | .hbm, ⟨31, _⟩ => ⟨S256, .i32⟩
  | .hbm, ⟨32, _⟩ => ⟨S1x256, .i32⟩
  | .hbm, ⟨33, _⟩ => ⟨S_, .i32⟩
  | .hbm, ⟨34, _⟩ => ⟨S1x256, .i32⟩
  | .hbm, ⟨35, _⟩ => ⟨S1x256, .i32⟩
  | .hbm, ⟨36, _⟩ => ⟨S128x256, .i32⟩
  | .hbm, ⟨37, _⟩ => ⟨S128x256, .i32⟩
  | .hbm, ⟨38, _⟩ => ⟨S128x256, .i1⟩
  | .hbm, ⟨39, _⟩ => ⟨S128x256, .i32⟩
  | .hbm, ⟨40, _⟩ => ⟨S128x256, .i32⟩
  | .hbm, ⟨41, _⟩ => ⟨S128x256, .i32⟩
  | .hbm, ⟨42, _⟩ => ⟨S_, .i32⟩
  | .hbm, ⟨43, _⟩ => ⟨S128x256, .i32⟩
  | .hbm, ⟨44, _⟩ => ⟨S128x256, .i1⟩
  | .hbm, ⟨45, _⟩ => ⟨S128x256, .i1⟩
  | .hbm, ⟨46, _⟩ => ⟨S16, .i32⟩
  | .hbm, ⟨47, _⟩ => ⟨S16x1x1, .i32⟩
  | .hbm, ⟨48, _⟩ => ⟨S_, .i32⟩
  | .hbm, ⟨49, _⟩ => ⟨S16x1x1, .i32⟩
  | .hbm, ⟨50, _⟩ => ⟨S16x1x1, .i32⟩
  | .hbm, ⟨51, _⟩ => ⟨S1x1x256, .i32⟩
  | .hbm, ⟨52, _⟩ => ⟨S16x1x256, .i32⟩
  | .hbm, ⟨53, _⟩ => ⟨S16x1x256, .i32⟩
  | .hbm, ⟨54, _⟩ => ⟨S16x1x256, .i32⟩
  | .hbm, ⟨55, _⟩ => ⟨S_, .i32⟩
  | .hbm, ⟨56, _⟩ => ⟨S16x1x256, .i32⟩
  | .hbm, ⟨57, _⟩ => ⟨S16x1x256, .i1⟩
  | .hbm, ⟨58, _⟩ => ⟨S1x128x256, .i1⟩
  | .hbm, ⟨59, _⟩ => ⟨S16x128x256, .i1⟩
  | .hbm, ⟨60, _⟩ => ⟨S16x128x256, .i1⟩
  | .hbm, ⟨61, _⟩ => ⟨S16x128x256, .i1⟩
  | .hbm, ⟨62, _⟩ => ⟨S2x4x16x128x256, .f32⟩
  | .hbm, ⟨63, _⟩ => ⟨S4x128x256, .f32⟩
  | .hbm, ⟨64, _⟩ => ⟨S4x1x128x256, .f32⟩
  | .hbm, ⟨65, _⟩ => ⟨S1x4x1x128x256, .f32⟩
  | .hbm, ⟨66, _⟩ => ⟨S2x4x16x128x256, .f32⟩
  | .hbm, ⟨67, _⟩ => ⟨S2x4x16x128x256, .f32⟩
  | .hbm, ⟨68, _⟩ => ⟨S_, .f32⟩
  | .hbm, ⟨69, _⟩ => ⟨S_, .f32⟩
  | .hbm, ⟨70, _⟩ => ⟨S2x4x16x128x256, .i1⟩
  | .hbm, ⟨71, _⟩ => ⟨S2x4x16x128x256, .f32⟩
  | .hbm, ⟨72, _⟩ => ⟨S2x4x16x128x256, .f32⟩
  | .hbm, ⟨73, _⟩ => ⟨S_, .f32⟩
  | .hbm, ⟨74, _⟩ => ⟨S2x4x16x128, .f32⟩
  | .hbm, ⟨75, _⟩ => ⟨S2x4x16x128x1, .f32⟩
  | .hbm, ⟨76, _⟩ => ⟨S2x4x16x128x256, .f32⟩
  | .hbm, ⟨77, _⟩ => ⟨S2x4x16x128x256, .f32⟩
  | .hbm, ⟨78, _⟩ => ⟨S2x4x16x128x256, .f32⟩
  | .hbm, ⟨79, _⟩ => ⟨S_, .f32⟩
  | .hbm, ⟨80, _⟩ => ⟨S2x4x16x128, .f32⟩
  | .hbm, ⟨81, _⟩ => ⟨S2x4x16x128x1, .f32⟩
  | .hbm, ⟨82, _⟩ => ⟨S2x4x16x128x64, .f32⟩
  | .hbm, ⟨83, _⟩ => ⟨S2x4x16x128x64, .f32⟩
  | .hbm, ⟨84, _⟩ => ⟨S2x4x16x128x64, .f32⟩
  | .hbm, ⟨85, _⟩ => ⟨S2x4x16x128x1, .f32⟩
  | .hbm, ⟨86, _⟩ => ⟨S2x4x16x128x1, .f32⟩
  | .hbm, ⟨87, _⟩ => ⟨S2x4x2048, .f32⟩
  | .hbm, ⟨88, _⟩ => ⟨S2x2048x4, .f32⟩
  | .hbm, ⟨89, _⟩ => ⟨S4096x4, .f32⟩
  | .hbm, ⟨90, _⟩ => ⟨S2x4x2048x64, .f32⟩
  | .hbm, ⟨91, _⟩ => ⟨S2x2048x4x64, .f32⟩
  | .hbm, ⟨92, _⟩ => ⟨S4096x256, .f32⟩
  | .hbm, ⟨93, _⟩ => ⟨S_, .f32⟩
  | .hbm, ⟨94, _⟩ => ⟨S4096x124, .f32⟩
  | .hbm, ⟨95, _⟩ => ⟨S4096x128, .f32⟩
  | _, _ => ⟨S4096x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_1 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_c : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_c_2 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_c_3 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_c_4 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_cst_5 : Ref sig .tc := ⟨.hbm, 68, rfl⟩
abbrev main_call0_v0 : Ref sig .tc := ⟨.hbm, 69, rfl⟩
abbrev main_call0_v1 : Ref sig .tc := ⟨.hbm, 70, rfl⟩
abbrev main_call0_v2 : Ref sig .tc := ⟨.hbm, 71, rfl⟩
abbrev main_v59 : Ref sig .tc := ⟨.hbm, 72, rfl⟩
abbrev main_cst_6 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_7 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_cst_8 : Ref sig .tc := ⟨.hbm, 93, rfl⟩
abbrev main_v78 : Ref sig .tc := ⟨.hbm, 94, rfl⟩
abbrev main_v79 : Ref sig .tc := ⟨.hbm, 95, rfl⟩

abbrev nD : Nat := 1
abbrev τ : Topo := Topo.v7x

variable {F : FTy → Type} [FloatOps F]
-- ==== DqkvSum.lean ====
abbrev S4096x768 : Shape := ⟨2, ![4096, 768]⟩
abbrev S512x768 : Shape := ⟨2, ![512, 768]⟩

abbrev nBuf : Space → Nat
  | .hbm => 4
  | .vmem => 8
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .bf16⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .bf16⟩
  | .local _ .vmem, ⟨7, _⟩ => ⟨S512x768, .bf16⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DqkvSumReferenceIdeal.lean ====
abbrev S4096x768 : Shape := ⟨2, ![4096, 768]⟩

abbrev nBuf : Space → Nat
  | .hbm => 6
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x768, .f32⟩
  | .hbm, ⟨5, _⟩ => ⟨S4096x768, .bf16⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== CumSum.lean ====
abbrev S4096x128 : Shape := ⟨2, ![4096, 128]⟩
abbrev S512x128 : Shape := ⟨2, ![512, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== CumSumReferenceIdeal.lean ====
abbrev S4096x128 : Shape := ⟨2, ![4096, 128]⟩

abbrev nBuf : Space → Nat
  | .hbm => 3
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== BandSum.lean ====
abbrev S1536x256 : Shape := ⟨2, ![1536, 256]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S1536x256, .f32⟩
  | .hbm, ⟨1, _⟩ => ⟨S1536x256, .f32⟩
  | .hbm, ⟨2, _⟩ => ⟨S1536x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | _, _ => ⟨S1536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== BandSumReferenceIdeal.lean ====
abbrev S1536x256 : Shape := ⟨2, ![1536, 256]⟩

abbrev nBuf : Space → Nat
  | .hbm => 3
  | .vmem => 0
  | .smem => 0
  | _ => 0

abbrev bufTy : (tb : Table) → Fin (tcTables nBuf tb) → BufTy
  | .hbm, ⟨0, _⟩ => ⟨S1536x256, .f32⟩
  | .hbm, ⟨1, _⟩ => ⟨S1536x256, .f32⟩
  | .hbm, ⟨2, _⟩ => ⟨S1536x256, .f32⟩
  | _, _ => ⟨S1536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ShiftAdd.lean ====
abbrev S4096x256 : Shape := ⟨2, ![4096, 256]⟩
abbrev S128x256 : Shape := ⟨2, ![128, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ShiftAddReferenceIdeal.lean ====
abbrev S4096x256 : Shape := ⟨2, ![4096, 256]⟩
abbrev S3968x256 : Shape := ⟨2, ![3968, 256]⟩
abbrev S_ : Shape := ⟨0, ![]⟩
abbrev S128x256 : Shape := ⟨2, ![128, 256]⟩

abbrev nBuf : Space → Nat
  | .hbm => 7
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S3968x256, .f32⟩
  | .hbm, ⟨3, _⟩ => ⟨S_, .f32⟩
  | .hbm, ⟨4, _⟩ => ⟨S128x256, .f32⟩
  | .hbm, ⟨5, _⟩ => ⟨S4096x256, .f32⟩
  | .hbm, ⟨6, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Combine.lean ====
abbrev S4096x256 : Shape := ⟨2, ![4096, 256]⟩
abbrev S4096x128 : Shape := ⟨2, ![4096, 128]⟩
abbrev S512x256 : Shape := ⟨2, ![512, 256]⟩
abbrev S512x128 : Shape := ⟨2, ![512, 128]⟩
abbrev S512x1 : Shape := ⟨2, ![512, 1]⟩
abbrev S512x64 : Shape := ⟨2, ![512, 64]⟩

abbrev nBuf : Space → Nat
  | .hbm => 7
  | .vmem => 14
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S4096x256, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x256, .bf16⟩
  | .local _ .vmem, ⟨13, _⟩ => ⟨S512x256, .bf16⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== CombineReferenceIdeal.lean ====
abbrev S4096x256 : Shape := ⟨2, ![4096, 256]⟩
abbrev S4096x128 : Shape := ⟨2, ![4096, 128]⟩
abbrev S1x4096x256 : Shape := ⟨3, ![1, 4096, 256]⟩
abbrev S3x4096x256 : Shape := ⟨3, ![3, 4096, 256]⟩
abbrev S3x4096x4x64 : Shape := ⟨4, ![3, 4096, 4, 64]⟩
abbrev S1x4096x128 : Shape := ⟨3, ![1, 4096, 128]⟩
abbrev S3x4096x128 : Shape := ⟨3, ![3, 4096, 128]⟩
abbrev S3x4096x4 : Shape := ⟨3, ![3, 4096, 4]⟩
abbrev S_ : Shape := ⟨0, ![]⟩
abbrev S4096x4 : Shape := ⟨2, ![4096, 4]⟩
abbrev S1x4096x4 : Shape := ⟨3, ![1, 4096, 4]⟩
abbrev S3x4096x4x1 : Shape := ⟨4, ![3, 4096, 4, 1]⟩
abbrev S4096x4x64 : Shape := ⟨3, ![4096, 4, 64]⟩

abbrev nBuf : Space → Nat
  | .hbm => 37
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x256, .f32⟩
  | .hbm, ⟨2, _⟩ => ⟨S4096x256, .f32⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S1x4096x256, .f32⟩
  | .hbm, ⟨7, _⟩ => ⟨S1x4096x256, .f32⟩
  | .hbm, ⟨8, _⟩ => ⟨S1x4096x256, .f32⟩
  | .hbm, ⟨9, _⟩ => ⟨S3x4096x256, .f32⟩
  | .hbm, ⟨10, _⟩ => ⟨S3x4096x4x64, .f32⟩
  | .hbm, ⟨11, _⟩ => ⟨S1x4096x128, .f32⟩
  | .hbm, ⟨12, _⟩ => ⟨S1x4096x128, .f32⟩
  | .hbm, ⟨13, _⟩ => ⟨S1x4096x128, .f32⟩
  | .hbm, ⟨14, _⟩ => ⟨S3x4096x128, .f32⟩
  | .hbm, ⟨15, _⟩ => ⟨S3x4096x4, .f32⟩
  | .hbm, ⟨16, _⟩ => ⟨S_, .f32⟩
  | .hbm, ⟨17, _⟩ => ⟨S4096x4, .f32⟩
  | .hbm, ⟨18, _⟩ => ⟨S_, .f32⟩
  | .hbm, ⟨19, _⟩ => ⟨S4096x4, .f32⟩
  | .hbm, ⟨20, _⟩ => ⟨S4096x4, .f32⟩
  | .hbm, ⟨21, _⟩ => ⟨S1x4096x4, .f32⟩
  | .hbm, ⟨22, _⟩ => ⟨S3x4096x4, .f32⟩
  | .hbm, ⟨23, _⟩ => ⟨S3x4096x4, .f32⟩
  | .hbm, ⟨24, _⟩ => ⟨S3x4096x4, .f32⟩
  | .hbm, ⟨25, _⟩ => ⟨S_, .f32⟩
  | .hbm, ⟨26, _⟩ => ⟨S4096x4, .f32⟩
  | .hbm, ⟨27, _⟩ => ⟨S1x4096x4, .f32⟩
  | .hbm, ⟨28, _⟩ => ⟨S3x4096x4, .f32⟩
  | .hbm, ⟨29, _⟩ => ⟨S3x4096x4, .f32⟩
  | .hbm, ⟨30, _⟩ => ⟨S3x4096x4x1, .f32⟩
  | .hbm, ⟨31, _⟩ => ⟨S3x4096x4x64, .f32⟩
  | .hbm, ⟨32, _⟩ => ⟨S3x4096x4x64, .f32⟩
  | .hbm, ⟨33, _⟩ => ⟨S_, .f32⟩
  | .hbm, ⟨34, _⟩ => ⟨S4096x4x64, .f32⟩
  | .hbm, ⟨35, _⟩ => ⟨S4096x256, .f32⟩
  | .hbm, ⟨36, _⟩ => ⟨S4096x256, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== BackConv.lean ====
abbrev S4096x2816 : Shape := ⟨2, ![4096, 2816]⟩
abbrev S3x2816 : Shape := ⟨2, ![3, 2816]⟩
abbrev S256x256 : Shape := ⟨2, ![256, 256]⟩
abbrev S8x256 : Shape := ⟨2, ![8, 256]⟩
abbrev S3x256 : Shape := ⟨2, ![3, 256]⟩
abbrev S264x256 : Shape := ⟨2, ![264, 256]⟩
abbrev S1x256 : Shape := ⟨2, ![1, 256]⟩

abbrev nBuf : Space → Nat
  | .hbm => 3
  | .vmem => 8
  | .smem => 0
  | _ => 0

abbrev bufTy : (tb : Table) → Fin (tcTables nBuf tb) → BufTy
  | .hbm, ⟨0, _⟩ => ⟨S4096x2816, .f32⟩
  | .hbm, ⟨1, _⟩ => ⟨S3x2816, .f32⟩
  | .hbm, ⟨2, _⟩ => ⟨S4096x2816, .bf16⟩
  | .local _ .vmem, ⟨0, _⟩ => ⟨S256x256, .f32⟩
  | .local _ .vmem, ⟨1, _⟩ => ⟨S256x256, .f32⟩
  | .local _ .vmem, ⟨2, _⟩ => ⟨S8x256, .f32⟩
  | .local _ .vmem, ⟨3, _⟩ => ⟨S8x256, .f32⟩
  | .local _ .vmem, ⟨4, _⟩ => ⟨S3x256, .f32⟩
  | .local _ .vmem, ⟨5, _⟩ => ⟨S3x256, .f32⟩
  | .local _ .vmem, ⟨6, _⟩ => ⟨S256x256, .bf16⟩
  | .local _ .vmem, ⟨7, _⟩ => ⟨S256x256, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== BackConvReferenceIdeal.lean ====
abbrev S4096x2816 : Shape := ⟨2, ![4096, 2816]⟩
abbrev S3x2816 : Shape := ⟨2, ![3, 2816]⟩
abbrev S2x2048x2816 : Shape := ⟨3, ![2, 2048, 2816]⟩
abbrev S_ : Shape := ⟨0, ![]⟩
abbrev S2x2x2816 : Shape := ⟨3, ![2, 2, 2816]⟩
abbrev S2x2050x2816 : Shape := ⟨3, ![2, 2050, 2816]⟩
abbrev S1x2816 : Shape := ⟨2, ![1, 2816]⟩
abbrev S2816 : Shape := ⟨1, ![2816]⟩
abbrev S1x1x2816 : Shape := ⟨3, ![1, 1, 2816]⟩

abbrev nBuf : Space → Nat
  | .hbm => 28
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S3x2816, .f32⟩
  | .hbm, ⟨2, _⟩ => ⟨S2x2048x2816, .f32⟩
  | .hbm, ⟨3, _⟩ => ⟨S_, .f32⟩
  | .hbm, ⟨4, _⟩ => ⟨S2x2x2816, .f32⟩
  | .hbm, ⟨5, _⟩ => ⟨S2x2050x2816, .f32⟩
  | .hbm, ⟨6, _⟩ => ⟨S1x2816, .f32⟩
  | .hbm, ⟨7, _⟩ => ⟨S2816, .f32⟩
  | .hbm, ⟨8, _⟩ => ⟨S2x2048x2816, .f32⟩
  | .hbm, ⟨9, _⟩ => ⟨S1x1x2816, .f32⟩
  | .hbm, ⟨10, _⟩ => ⟨S2x2048x2816, .f32⟩
  | .hbm, ⟨11, _⟩ => ⟨S2x2048x2816, .f32⟩
  | .hbm, ⟨12, _⟩ => ⟨S1x2816, .f32⟩
  | .hbm, ⟨13, _⟩ => ⟨S2816, .f32⟩
  | .hbm, ⟨14, _⟩ => ⟨S2x2048x2816, .f32⟩
  | .hbm, ⟨15, _⟩ => ⟨S1x1x2816, .f32⟩
  | .hbm, ⟨16, _⟩ => ⟨S2x2048x2816, .f32⟩
  | .hbm, ⟨17, _⟩ => ⟨S2x2048x2816, .f32⟩
  | .hbm, ⟨18, _⟩ => ⟨S2x2048x2816, .f32⟩
  | .hbm, ⟨19, _⟩ => ⟨S1x2816, .f32⟩
  | .hbm, ⟨20, _⟩ => ⟨S2816, .f32⟩
  | .hbm, ⟨21, _⟩ => ⟨S2x2048x2816, .f32⟩
  | .hbm, ⟨22, _⟩ => ⟨S1x1x2816, .f32⟩
  | .hbm, ⟨23, _⟩ => ⟨S2x2048x2816, .f32⟩
  | .hbm, ⟨24, _⟩ => ⟨S2x2048x2816, .f32⟩
  | .hbm, ⟨25, _⟩ => ⟨S2x2048x2816, .f32⟩
  | .hbm, ⟨26, _⟩ => ⟨S4096x2816, .f32⟩
  | .hbm, ⟨27, _⟩ => ⟨S4096x2816, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩

abbrev nD : Nat := 1
abbrev τ : Topo := Topo.v7x

variable {F : FTy → Type} [FloatOps F]
-- ==== Proof.Launch.lean ====
/-
# The launch of a program whose first call exchanges data in place

The calls proved here copy straight into result arrays of other devices and wait for nobody before they start: a
device may receive a block before it has entered the call itself. Each device must therefore be dealt, before any
device runs, the pieces of the OTHER devices' result arrays it is going to write. The launch theorem of this module
has one step over all devices at once that sees every device's arrays together with every device's semaphores of the
call (`hinit`), and leaves each device's run of `@main` as one statement (`hrun`). `wp_region` is the entry of the
exchanging call from what that step leaves: the region's holdings without the call's own semaphores, which are
already under the invariants of the exchange.
-/
module

public import Idealize.ShloMosaic.Lib.Pipeline.Launch
public import Idealize.ShloMosaic.Lib.Pipeline.Regions
public import Idealize.ShloMosaic.Lib.Pipeline.Kit
public import Idealize.ShloMosaic.Lib.Tactic

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

set_option Elab.async false

variable {nD : Nat} {τ : Topo} {sig : RefSig} {Val : EltTy → Type}
variable {Ix : Type} [DecidableEq Ix] {Name : Type} [DecidableEq Name] {U : Type} [URA U] {Lvl : Type}
variable {Λ₀ : Idealize.SL.Sem.Labels} {P : Type} [Fintype P]

local notation "𝕄" => MT nD τ sig Ix Val Name U Lvl

section Launch

variable (pcs : P → PCfg sig Λ₀ Val) (a : Dev nD → (p : P) → (pcs p).Adm)
  (phinj : Function.Injective (PerCore.cellOf (nD := nD) (τ := τ) (Pipeline.pinD pcs a)))
  (EP : Emb (URounds (GSem nD τ sig) Unit) (MT nD τ sig Ix Val Name U Lvl))
  (defs₀ : Defs nD τ sig Val Λ₀) (𝒱₀ : Variants)
  (L : GSem nD τ sig → Finset Ix) (lv : GSem nD τ sig → Ix → Lvl)

/-- The launch's rights to assign levels, on every device, spent at once on the levels `lv` of the machine. -/
theorem levels_assign (hL : ∀ g : GSem nD τ sig, g.1.2 ≠ .tc → L g = ∅) :
    (bigSep Finset.univ fun c : Dev nD => levels0 (Ix := Ix) (Val := Val) (Name := Name) (U := U) (Lvl := Lvl) (τ := τ) (sig := sig) c)
      ⊢ (|==> levAts L lv : sProp 𝕄) := by
  classical
  refine (bigSep_mono fun c _ => lev_assign_cells (c.tc : Thread nD τ) L lv).trans <| (BI.bigSep_bupd _ _).trans <| BI.bupd_mono ?_
  have hnone (d : Dev nD) (q : Proc τ) (hq : q ≠ .tc) : (coreLevAts ((d, q) : Thread nD τ) L lv : sProp 𝕄) = BI.emp := by
    unfold coreLevAts
    rw [bigSep_congr (Ψ := fun _ : SemLoc sig => (BI.emp : sProp 𝕄)) fun sm _ => by
      rw [hL (((d, q) : Thread nD τ), sm) hq, BI.bigSep_empty], BI.bigSep_emp_const]
  have hrest : (bigSep Finset.univ fun d : Dev nD => bigSep (Finset.univ.erase Proc.tc) fun q => (coreLevAts ((d, q) : Thread nD τ) L lv : sProp 𝕄)) = BI.emp := by
    rw [bigSep_congr (Ψ := fun _ : Dev nD => (BI.emp : sProp 𝕄)) fun d _ =>
      (bigSep_congr (Ψ := fun _ : Proc τ => (BI.emp : sProp 𝕄)) fun q hq => hnone d q (Finset.ne_of_mem_erase hq)).trans
        (BI.bigSep_emp_const _), BI.bigSep_emp_const]
  have hdrop (A B : sProp 𝕄) : iprop(A ∗ B) ⊢ iprop(B ∗ emp) := by
    iintro ⟨-, H⟩
    isplitl [H]; · iexact H
    iempintro
  rw [show (levAts L lv : sProp 𝕄) = bigSep Finset.univ fun c : Thread nD τ => coreLevAts c L lv
      from (bigSep_univ_prod fun g : GSem nD τ sig => bigSep (L g) fun ι => levAt g ι (lv g ι)),
    bigSep_threads (fun c : Thread nD τ => coreLevAts c L lv), hrest, bigSep_sep']
  exact hdrop _ _

/-- THE LAUNCH. From a memory with every counter at zero: one step over all devices (`hinit`) turns every device's
    boundary holdings, arrays, counters, what it owes and its launch credit into what each device's run starts from
    (`T₀`); each device's run of `@main` from there (`hrun`) ends at the boundary, owing nothing, at `Tₙ`; and what
    `Tₙ` says of the final memory (`hfin`) is what the theorem says of it, every scoped counter reading zero. -/
theorem θ_run_dealt [DecidableEq P] [Preorder Lvl] [∀ e, Nonempty (Val e)] [Infinite Name] [EP.LandsIn (upEmb : UEmb _ 𝕄)]
    (m : (ℓ : Loc nD τ sig) → Buf Val ℓ) (g : Dev nD → PrngReg)
    (main : Dev nD → Prog (TpuEff nD τ sig Val (Pipeline.Sig Λ₀ P fun p => (pcs p).Adm) .tc) PUnit)
    (O₀ : Dev nD → CellTallies nD τ sig Ix) (hL : ∀ g : GSem nD τ sig, g.1.2 ≠ .tc → L g = ∅)
    (G : Dev nD → sProp 𝕄) (u₀ : U)
    (hu₀ : (ownU u₀ : sProp 𝕄)
      ⊢ |={Set.univ}=> iprop(BI.own (EP (initOf (PerCore.cells (Pipeline.pinD pcs a) phinj) (PerCore.launchToks (Pipeline.pinD pcs a) phinj))) ∗ bigSep Finset.univ G))
    (T₀ Tₙ : Dev nD → sProp 𝕄)
    (hinit : (bigSep Finset.univ fun c : Dev nD => iprop(boundary (c.tc : Thread nD τ) ∗ unscopedBufs c (fun b => m ((c.tc : Thread nD τ).loc b))
          ∗ owes (c.tc : Thread nD τ) (O₀ c) ∅ ∗ launchCred O₀ c ∗ G c))
      ⊢ |={Set.univ}=> bigSep Finset.univ T₀)
    (hrun : ∀ c, iprop(T₀ c ∗ levAts L lv ∗ PerCore.ghostOn pcs a EP Finset.univ c)
      ⊢ wp frame (wpE (Pipeline.defs pcs defs₀) (Variants.lift 𝒱₀) (c.tc : Thread nD τ) none) Set.univ (main c)
          fun _ => iprop(boundary (c.tc : Thread nD τ) ∗ Tₙ c ∗ ∃ W, owes (c.tc : Thread nD τ) (0 : CellTallies nD τ sig Ix) W))
    (QY : Dev nD → MemSt nD τ sig Val → Prop)
    (hfin : ∀ c (s' : Phys nD τ sig Val), iprop(Tₙ c ∗ SI s') ⊢ |={Set.univ}=> iprop(⌜QY c s'.mem⌝ ∗ SI s')) :
    θ_run (Pipeline.defs pcs defs₀) (onTc main) ⟨m, fun _ => 0, g⟩ fun r => (∀ c : Dev nD, QY c r.2)
      ∧ ∀ g' : GSem nD τ sig, (g'.1.2 ≠ .tc ∨ g'.2.isScoped .tc = true) → r.2.sem g' = 0 := by
  classical
  let pre : Dev nD → sProp 𝕄 := fun c => iprop(T₀ c ∗ levAts L lv ∗ PerCore.ghostOn pcs a EP Finset.univ c)
  let fin : Dev nD → sProp 𝕄 := fun c => iprop(Tₙ c ∗ boundary (c.tc : Thread nD τ))
  refine (θ_run (Pipeline.defs pcs defs₀) _ _).mono (Q := fun r => (∀ c : Dev nD, QY c r.2 ∧ ∀ sm : SemLoc sig, sm.isScoped .tc = true → r.2.sem ((c.tc : Thread nD τ), sm) = 0)
      ∧ ∀ g' : GSem nD τ sig, g'.1.2 ≠ .tc → r.2.sem g' = 0)
    (fun r hr => ⟨fun c => (hr.1 c).1, sems_of_reads (fun c => (hr.1 c).2) hr.2⟩) (adequate_tpu (Pipeline.defs pcs defs₀) _ _ _
    (reflect_intro_fupd_tc_sems (X := Unit) (Variants.lift 𝒱₀) (owing O₀) 0 (noBookings fun _ => le_rfl) (owing_of_ne O₀) u₀ (fun _ => pre) (fun _ => fin)
      (fun _ => iprop(emp)) Set.univ ?_ (fun _ c => ?_) fun _ => ?_))
  · have hcores : (bigSep Finset.univ fun d : Dev nD =>
          coreInit (Ix := Ix) (Name := Name) (U := U) (Lvl := Lvl) (owing O₀) 0 (⟨m, fun _ => 0, g⟩ : MemSt nD τ sig Val) (d.tc : Thread nD τ))
        ⊢ iprop((bigSep Finset.univ fun c : Dev nD => iprop(boundary (c.tc : Thread nD τ) ∗ unscopedBufs c (fun b => m ((c.tc : Thread nD τ).loc b))
                ∗ owes (c.tc : Thread nD τ) (O₀ c) ∅ ∗ launchCred O₀ c))
            ∗ (bigSep Finset.univ fun c : Dev nD => levels0 (Ix := Ix) (Val := Val) (Name := Name) (U := U) (Lvl := Lvl) (τ := τ) (sig := sig) c) : sProp 𝕄) := by
      rw [← bigSep_sep']
      refine bigSep_mono fun c _ => (coreInit_boundary_owing O₀ m g c).trans ?_
      iintro ⟨Hb, Hub, -, HL, Hlv, -, Hcr⟩
      isplitr [Hlv]
      · isplitl [Hb]; · iexact Hb
        isplitl [Hub]; · iexact Hub
        isplitl [HL] <;> iassumption
      · iexact Hlv
    have hghost : iprop((bigSep Finset.univ fun c : Dev nD => bigSep Finset.univ fun p => PerCore.cellsGhost (Pipeline.pinD pcs a) EP p c)
          ∗ (bigSep Finset.univ fun c : Dev nD => bigSep Finset.univ fun p => (PerCore.toksInit (Pipeline.pinD pcs a) EP p c : sProp 𝕄)))
        ⊢ bigSep Finset.univ fun c : Dev nD => PerCore.ghostOn pcs a EP Finset.univ c := by
      rw [← bigSep_sep']
      refine bigSep_mono fun c _ => show (_ : sProp 𝕄) ⊢ _ from ?_
      unfold PerCore.ghostOn; rw [bigSep_sep']
    have hjoin : iprop((bigSep Finset.univ fun c : Dev nD => iprop(boundary (c.tc : Thread nD τ) ∗ unscopedBufs c (fun b => m ((c.tc : Thread nD τ).loc b))
            ∗ owes (c.tc : Thread nD τ) (O₀ c) ∅ ∗ launchCred O₀ c)) ∗ bigSep Finset.univ G)
        ⊢ (bigSep Finset.univ fun c : Dev nD => iprop(boundary (c.tc : Thread nD τ) ∗ unscopedBufs c (fun b => m ((c.tc : Thread nD τ).loc b))
            ∗ owes (c.tc : Thread nD τ) (O₀ c) ∅ ∗ launchCred O₀ c ∗ G c) : sProp 𝕄) := by
      rw [← bigSep_sep']
      refine bigSep_mono fun c _ => show (_ : sProp 𝕄) ⊢ _ from ?_
      iintro ⟨⟨H1, H2, H3, H4⟩, HG⟩
      isplitl [H1]; · iexact H1
      isplitl [H2]; · iexact H2
      isplitl [H3]; · iexact H3
      isplitl [H4] <;> iassumption
    iintro ⟨Hcores, Hu⟩
    ihave Hc := hcores $$ Hcores
    icases Hc with ⟨Hh, Hlv⟩
    imod (levels_assign L lv hL) $$ Hlv with Hla
    imod hu₀ $$ Hu with ⟨HP, HG⟩
    imod (PerCore.fund_ghost (Pipeline.pinD pcs a) EP phinj) $$ HP with ⟨Hg, Ht⟩
    imod hinit $$ [Hh HG] with HT
    · iapply hjoin
      isplitl [Hh] <;> iassumption
    imodintro
    iexists ()
    isplitr []
    · simp only [pre, bigSep_sep']
      isplitl [HT]; · iexact HT
      isplitl [Hla]; · iapply (BI.bigSep_intro_persistent (S := Finset.univ) fun (c : Dev nD) _ => (BI.Entails.refl (levAts L lv : sProp 𝕄))); iexact Hla
      iapply hghost
      isplitl [Hg] <;> iassumption
    · iempintro
  · refine (hrun c).trans (wp_mono frame (wpE (Pipeline.defs pcs defs₀) (Variants.lift 𝒱₀) (c.tc : Thread nD τ) none) Set.univ fun _ =>
      show (_ : sProp 𝕄) ⊢ _ from ?_)
    unfold post; simp only [liftTc_tc, fin]
    iintro ⟨Hb, HT, HW⟩
    isplitl [HT Hb]
    · isplitl [HT] <;> iassumption
    iexact HW
  · iintro ⟨H, -, Hsc⟩ %s' HSI
    ihave %hsc := (scSems_read_zero m g s') $$ [Hsc HSI]
    · isplitl [Hsc] <;> iassumption
    imod (posts_fupd Finset.univ (fun c s' => boundary_read c s' (hfin c s')) s') $$ [H HSI] with %h
    · isplitl [H] <;> iassumption
    imodintro
    ipureintro
    exact ⟨fun c => h c (Finset.mem_univ c), hsc⟩

end Launch

section Region

variable (pcs : P → PCfg sig Λ₀ Val) (a : Dev nD → (p : P) → (pcs p).Adm)
  (pdats : (p : P) → (c : Dev nD) → Dat τ Val Ix Name U Lvl (Pipeline.pinD pcs a c p) c) (ι : Ix)
  (phinj : Function.Injective (PerCore.cellOf (nD := nD) (τ := τ) (Pipeline.pinD pcs a)))
  (EP : Emb (URounds (GSem nD τ sig) Unit) (MT nD τ sig Ix Val Name U Lvl))
  (defs₀ : Defs nD τ sig Val Λ₀) (𝒱₀ : Variants)
  (L : GSem nD τ sig → Finset Ix) (lv : GSem nD τ sig → Ix → Lvl)
  {p : P} {K : Type} [Fintype K] {osem : K → SemLoc sig}
  (hw : WinFacts₀ (pcs p).spec) (ho : OwnSemFacts (pcs p).spec osem)

/-- The boundary holdings of a device without the call's own semaphores, which the launch takes out of them. -/
def boundaryRest (c : Dev nD) : sProp 𝕄 :=
  iprop(scopedBufs (c.tc : Thread nD τ) ∗ PerCore.cellsSems0 (Pipeline.pinD pcs a) p c
    ∗ PerCore.idleSems0 (Pipeline.pinD pcs a) phinj p (fun _ => ho) c ∗ opIdle (c.tc : Thread nD τ))

include hw in
theorem boundary_take (c : Dev nD) :
    (boundary (c.tc : Thread nD τ) : sProp 𝕄) ⊢ iprop(boundaryRest pcs a phinj ho c ∗ ownSems0 osem c) := by
  unfold boundary boundaryRest
  rw [PerCore.scopedSems0_split (Pipeline.pinD pcs a) phinj p (fun _ => hw) (fun _ => ho) c]
  iintro ⟨Hsc, ⟨⟨Hcells, Hos⟩, Hidle⟩, Hop⟩
  isplitr [Hos]
  · isplitl [Hsc]; · iexact Hsc
    isplitl [Hcells]; · iexact Hcells
    isplitl [Hidle] <;> iassumption
  · iexact Hos

include hw in
/-- The entry of a call that stages nothing (no window) and prefetches nothing, from the boundary holdings without the
    call's own semaphores and `X`, which the body turns into `Y` and those semaphores at zero. -/
theorem wp_region [DecidableEq P] [Preorder Lvl] [∀ e, Nonempty (Val e)] [Infinite Name] [EP.LandsIn (upEmb : UEmb _ 𝕄)]
    (hW : IsEmpty (Fin (pcs p).W)) (hpre : IsEmpty (Fin (pcs p).pre.K))
    (c : Dev nD) (hbody : BodyObligation (pdats p c) defs₀ 𝒱₀ ι Set.univ)
    {X Y : sProp 𝕄} (hin : iprop(X ∗ scopedRest (pcs p).spec c) ⊢ (pdats p c).Φ 0)
    (hout : (pdats p c).Φ (Fin.last (Pipeline.pinD pcs a c p).N) ⊢ iprop(Y ∗ ownSems0 osem c ∗ scopedRest (pcs p).spec c))
    (howedN : (pdats p c).owed (Fin.last (Pipeline.pinD pcs a c p).N) = 0) (hrec : (pdats p c).recorded 0 = Set.univ)
    {α : Type} (k : PUnit → Prog (TpuEff nD τ sig Val (Pipeline.Sig Λ₀ P fun p => (pcs p).Adm) .tc) α) (Q : α → sProp 𝕄) :
    iprop((iprop(boundary (c.tc : Thread nD τ) ∗ Y ∗ ∃ W, owes (c.tc : Thread nD τ) (0 : CellTallies nD τ sig Ix) W)
            -∗ wp frame (wpE (Pipeline.defs pcs defs₀) (Variants.lift 𝒱₀) (c.tc : Thread nD τ) none) Set.univ (k ⟨⟩) Q)
        ∗ boundaryRest pcs a phinj ho c ∗ X ∗ (∃ W, owes (c.tc : Thread nD τ) ((pdats p c).owed 0) W)
        ∗ PerCore.cellsGhost (Pipeline.pinD pcs a) EP p c ∗ PerCore.toksInit (Pipeline.pinD pcs a) EP p c)
      ⊢ wp frame (wpE (Pipeline.defs pcs defs₀) (Variants.lift 𝒱₀) (c.tc : Thread nD τ) none) Set.univ (.op (.customCall (entry p) ()) k) Q := by
  classical
  have hW' : IsEmpty (Fin (Pipeline.pinD pcs a c p).W) := hW
  have hss := PerCore.scopedSems0_split (Pipeline.pinD pcs a) phinj p (fun _ => hw) (fun _ => ho) (Ix := Ix) (Val := Val) (Name := Name) (U := U) (Lvl := Lvl) c
  have hsb := PerCore.scopedBufs_split (Pipeline.pinD pcs a) p c hw.stage_scoped hw.stage_inj (fun w => hW.elim w) (nD := nD) (τ := τ) (Ix := Ix) (Val := Val) (Name := Name) (U := U) (Lvl := Lvl)
  have hout' : iprop((pdats p c).Φ (Fin.last (Pipeline.pinD pcs a c p).N) ∗ PerCore.cellsSems0 (Pipeline.pinD pcs a) p c
        ∗ Dat.staging (Pipeline.pinD pcs a c p) c ∗ PerCore.idleSems0 (Pipeline.pinD pcs a) phinj p (fun _ => ho) c)
      ⊢ iprop(Y ∗ scopedSems0 (c.tc : Thread nD τ) ∗ scopedBufs (c.tc : Thread nD τ)) := by
    rw [hss, hsb]
    iintro ⟨HΦ, Hcells, Hst, Hidle⟩
    ihave H := hout $$ HΦ
    icases H with ⟨HY, Hos, Hrest⟩
    isplitl [HY]; · iexact HY
    isplitl [Hcells Hos Hidle]
    · isplitl [Hcells Hos]; · isplitl [Hcells] <;> iassumption
      iexact Hidle
    isplitl [Hst] <;> iassumption
  have hin' : iprop(X ∗ prefHeld (pcs p).pre c (fun _ => fullShare) (a c p).1 ∗ scopedRest (pcs p).spec c) ⊢ (pdats p c).Φ 0 := by
    iintro ⟨HX, -, HR⟩
    iapply hin
    isplitl [HX] <;> iassumption
  have hpf : (emp : sProp 𝕄) ⊢ prefHeld (pcs p).pre c (fun _ => fullShare) (a c p).1 := by
    unfold prefHeld; rw [Finset.univ_eq_empty, BI.bigSep_empty]; exact BI.Entails.refl _
  have harr : (emp : sProp 𝕄) ⊢ (pdats p c).arrays ((pdats p c).arrAt · 0) := by
    unfold Dat.arrays; rw [Finset.univ_eq_empty, BI.bigSep_empty]; exact BI.Entails.refl _
  have hwaits : (emp : sProp 𝕄) ⊢ PerCore.cellsWaits (Pipeline.pinD pcs a) pdats ι p c := by
    unfold PerCore.cellsWaits PerCore.RDat.cellsWaits; rw [Finset.univ_eq_empty, BI.bigSep_empty]; exact BI.Entails.refl _
  unfold boundaryRest
  iintro ⟨Hk, ⟨Hsc, Hcells, Hidle, Hop⟩, HX, ⟨%W, HO⟩, Hg, Ht⟩
  iapply (fupd_wp frame (wpE (Pipeline.defs pcs defs₀) (Variants.lift 𝒱₀) (c.tc : Thread nD τ) none) Set.univ _ _)
  imod (PerCore.cellsInit_alloc (Pipeline.pinD pcs a) pdats EP phinj p c) $$ [Hcells Hg] with ⟨%κ, -, Hinit⟩
  · isplitl [Hcells] <;> iassumption
  imodintro
  iapply (PerCore.wp_customCall_entry_frame pcs a pdats ι EP κ phinj p defs₀ 𝒱₀ (fun _ => fullShare) c Set.univ (fun _ _ => Set.mem_univ _)
      hbody.loose (fun w => hW.elim w) none (fun u h => nomatch h) (X := X) (Y := Y) (R := scopedRest (pcs p).spec c)
      (I := PerCore.idleSems0 (Pipeline.pinD pcs a) phinj p (fun _ => ho) c) (Entails.of_eq hsb) hin' hout' (k := k) (Q := Q)) $$ [HO Hinit Ht HX Hidle Hsc]
  · isplitl [HO Hinit Ht]
    · unfold PerCore.EntryPre Dat.owesAt owesWithin
      isplitr; · iapply harr; iempintro
      isplitl [HO]
      · iexists W
        isplitr; · ipureintro; unfold Dat.bound; rw [hrec]; exact fun _ _ => Or.inl trivial
        iexact HO
      isplitr; · iapply hwaits; iempintro
      isplitl [Hinit] <;> iassumption
    isplitr; · iapply hpf; iempintro
    isplitl [HX]; · iexact HX
    isplitl [Hidle]; · iexact Hidle
    iexact Hsc
  iintro ⟨Hpost, HY, Hss2, Hsc2⟩
  unfold PerCore.EntryPost Dat.owesAt owesWithin
  icases Hpost with ⟨-, ⟨%W', -, HO⟩⟩
  rw [howedN]
  iapply Hk
  isplitl [Hsc2 Hss2 Hop]
  · unfold boundary
    isplitl [Hsc2]; · iexact Hsc2
    isplitl [Hss2] <;> iassumption
  isplitl [HY]; · iexact HY
  iexists W'; iexact HO

end Region

end Cert.Exchange

end
-- ==== Proof.Exchange.lean ====
/-
# Exchanges of blocks between devices, each semaphore of a call used once

The calls proved here share one shape. A call has `n` DMA semaphores on each device; on every device each of them is
completed by exactly one copy and waited for exactly once. A copy within a device completes one semaphore of that
device; a copy to another device completes one of the sender's (its source has been read) and one of the receiver's
(the block has landed). Every block has the same size `N`.

A `Plan` names, for each semaphore `k`, which device's copy completes it (`route`), what the completing copy hands
over (`pay`), which semaphores are completed from another device (`R`) and a level for each, so that a device only
ever waits for a semaphore whose level lies below those it has yet to complete elsewhere. From a plan this module
derives the rules for the three operations (`Plan.wp_copy`, `Plan.wp_send`, `Plan.wp_wait`) and the launch
(`Plan.run`).
-/
module

public import proofs.«01_k».proof.Proof.Launch

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

set_option Elab.async false

variable {nD : Nat} {τ : Topo} {sig : RefSig} {F : FTy → Type} [FloatOps F]

/-- The ghost state: the staging cells' rounds and the exchange's. -/
abbrev Ghost (nD : Nat) (τ : Topo) (sig : RefSig) : Type := UR sig nD τ × UR sig nD τ

local notation "𝕄" => MT nD τ sig Unit (Elt F) ℕ (Ghost nD τ sig) ℕ

abbrev EP : Emb (UR sig nD τ) (MT nD τ sig Unit (Elt F) ℕ (Ghost nD τ sig) ℕ) := embL
abbrev EX : Emb (UR sig nD τ) (MT nD τ sig Unit (Elt F) ℕ (Ghost nD τ sig) ℕ) := embR

/-- Who completes each semaphore of a call, with what, and in which order the semaphores are waited for. -/
structure Plan (nD : Nat) (τ : Topo) (sig : RefSig) (F : FTy → Type) [FloatOps F] where
  /-- The number of semaphores on each device, -/
  n : ℕ
  /-- the semaphores, pairwise distinct, -/
  os : Fin n → DmaSem sig
  inj : Function.Injective os
  /-- and the credit of one block. -/
  N : ℕ
  pos : 0 < N
  /-- What the copy that completes semaphore `k` of device `c` hands to `c`. -/
  pay : Dev nD → Fin n → sProp (MT nD τ sig Unit (Elt F) ℕ (Ghost nD τ sig) ℕ)
  storable : ∀ c k, BI.Storable (upEmb : UEmb _ (MT nD τ sig Unit (Elt F) ℕ (Ghost nD τ sig) ℕ)) (pay c k)
  /-- The device whose semaphore `k` device `c`'s copy completes. -/
  route : Fin n → Dev nD ≃ Dev nD
  /-- The semaphores completed from another device. -/
  R : Finset (Fin n)
  /-- The order of the waits. -/
  lvl : Fin n → ℕ

namespace Plan

variable (X : Plan nD τ sig F)

/-- Semaphore `k` of device `c`. -/
abbrev cell (c : Dev nD) (k : Fin X.n) : GSem nD τ sig := ((c.tc : Thread nD τ), .dma (X.os k))

theorem dma_inj {k k' : Fin X.n} (h : (SemLoc.dma (X.os k) : SemLoc sig) = .dma (X.os k')) : k = k' := X.inj (by injection h)

theorem cell_inj : Function.Injective fun ck : Dev nD × Fin X.n => X.cell ck.1 ck.2 := by
  rintro ⟨c, k⟩ ⟨c', k'⟩ h
  have h1 : c = c' := congrArg (fun g : GSem nD τ sig => g.1.1) h
  have h2 : k = k' := X.dma_inj (congrArg Prod.snd h)
  rw [h1, h2]

/-- The semaphores of the plan on the devices' TensorCores. -/
def Mine (g : GSem nD τ sig) : Prop := g.1.2 = .tc ∧ ∃ k, g.2 = .dma (X.os k)

open Classical in
/-- One round per semaphore: its completion. -/
def sched : Rounds.Schedule (GSem nD τ sig) Unit 𝕄 where
  duties g r := if r = 0 ∧ X.Mine g then {()} else ∅
  amount _ _ _ := X.N
  payload g _ _ := if h : ∃ k, g.2 = .dma (X.os k) then X.pay g.1.1 h.choose else iprop(emp)
  amount_pos _ _ _ _ := X.pos

instance payload_storable (g : GSem nD τ sig) (r : ℕ) (d : Unit) : BI.Storable (upEmb : UEmb _ 𝕄) (X.sched.payload g r d) := by
  unfold sched
  dsimp only
  split
  · exact X.storable _ _
  · infer_instance

theorem duties_cell (c : Dev nD) (k : Fin X.n) : X.sched.duties (X.cell c k) 0 = {()} := by
  unfold sched; exact if_pos ⟨rfl, rfl, k, rfl⟩
theorem duties_later (g : GSem nD τ sig) : ∀ r, 1 ≤ r → X.sched.duties g r = ∅ :=
  fun r hr => by unfold sched; exact if_neg fun h => by omega
theorem expect_cell (c : Dev nD) (k : Fin X.n) : X.sched.expect (X.cell c k) 0 = X.N := by
  unfold Schedule.expect Schedule.amountOf; rw [duties_cell, Finset.sum_singleton]; rfl
theorem payload_cell (c : Dev nD) (k : Fin X.n) (u : Unit) : X.sched.payload (X.cell c k) 0 u = X.pay c k := by
  have h : ∃ k', (X.cell c k).2 = .dma (X.os k') := ⟨k, rfl⟩
  unfold sched
  dsimp only
  rw [dif_pos h]
  exact congrArg (X.pay c) (X.dma_inj h.choose_spec).symm
theorem rest_cell (c : Dev nD) (k : Fin X.n) :
    bigSep (X.sched.duties (X.cell c k) 0 \ ∅) (fun u => X.sched.payload (X.cell c k) 0 u) = X.pay c k := by
  rw [Finset.sdiff_empty, duties_cell, bigSep_singleton, payload_cell]

/-! ## What each device holds -/

/-- Every semaphore's invariant, and that every semaphore's round has opened. -/
def recs : sProp 𝕄 :=
  iprop(∃ K : Dev nD × Fin X.n → ℕ, (bigSep Finset.univ fun ck : Dev nD × Fin X.n => cellInv EX X.sched (K ck) (X.cell ck.1 ck.2))
    ∗ bigSep Finset.univ fun ck : Dev nD × Fin X.n => reached EX (X.cell ck.1 ck.2) 0)
instance recs_persistent : BI.Persistent X.recs := by unfold recs; infer_instance

/-- The right to complete semaphore `k` of device `c`, -/
def tok (c : Dev nD) (k : Fin X.n) : sProp 𝕄 := dutyTok EX (X.cell c k) 0 ()
/-- the right to wait for it, -/
def here (c : Dev nD) (k : Fin X.n) : sProp 𝕄 := atPos EX (X.cell c k) 0 ∅ 0
/-- that its completion is due, -/
def due (c : Dev nD) (k : Fin X.n) : sProp 𝕄 := cred (tallyAt (X.cell c k) () X.N)
/-- its counter back at zero. -/
def zero (c : Dev nD) (k : Fin X.n) : sProp 𝕄 := semVal (X.cell c k) 0

/-- What device `c` owes while it has yet to complete the semaphores `S` of other devices. -/
def owed (c : Dev nD) (S : Finset (Fin X.n)) : CellTallies nD τ sig Unit := ∑ k ∈ S, tallyAt (X.cell (X.route k c) k) () X.N
def owing (c : Dev nD) (S : Finset (Fin X.n)) : sProp 𝕄 := iprop(∃ W, owes (c.tc : Thread nD τ) (X.owed c S) W)

theorem owed_empty (c : Dev nD) : X.owed c ∅ = 0 := Finset.sum_empty

def L (g : GSem nD τ sig) : Finset Unit := if g.1.2 = .tc then {()} else ∅
open Classical in
def lv (g : GSem nD τ sig) (_ : Unit) : ℕ := if h : ∃ k, g.2 = .dma (X.os k) then X.lvl h.choose else 0

theorem L_of_ne (g : GSem nD τ sig) (h : g.1.2 ≠ .tc) : L g = ∅ := if_neg h
theorem L_tc (c : Dev nD) (sm : SemLoc sig) : L ((c.tc : Thread nD τ), sm) = {()} := if_pos rfl
theorem lv_cell (c : Dev nD) (k : Fin X.n) : X.lv (X.cell c k) () = X.lvl k := by
  have h : ∃ k', (X.cell c k).2 = .dma (X.os k') := ⟨k, rfl⟩
  unfold lv
  rw [dif_pos h]
  exact congrArg X.lvl (X.dma_inj h.choose_spec).symm

/-- The levels of the semaphores. -/
def levs : sProp 𝕄 := levAts L X.lv
instance levs_persistent : BI.Persistent X.levs := by unfold levs; infer_instance

theorem mayWait (c : Dev nD) (k : Fin X.n) (S : Finset (Fin X.n)) (h : ∀ k' ∈ S, X.lvl k < X.lvl k') :
    X.levs ⊢ MayWait (c.tc : Thread nD τ) (.dma (X.os k)) () (X.owed c S) := by
  have hpos (g : GSem nD τ sig) (u : Unit) (hg : 0 < X.owed c S g u) : ∃ k' ∈ S, g = X.cell (X.route k' c) k' := by
    obtain ⟨k', hk', h'⟩ := sum_pos_exists hg
    exact ⟨k', hk', (tallyAt_pos h').1⟩
  unfold levs
  refine MayOwe.of_cut (L := L) (lev := X.lv) (X.lvl k) (fun p hp => ?_) (fun g u hg => ?_) (fun p hp => ?_) (fun g u hg => ?_)
  · rw [Finset.mem_singleton.mp hp, L_tc]; exact Finset.mem_singleton_self _
  · obtain ⟨k', -, rfl⟩ := hpos g u hg
    rw [L_tc]; exact Finset.mem_singleton_self _
  · rw [Finset.mem_singleton.mp hp]; exact (X.lv_cell c k).le
  · obtain ⟨k', hk', rfl⟩ := hpos g u hg
    rw [X.lv_cell]; exact h k' hk'

/-! ## The three operations -/

section Rules

variable {Λ : Idealize.SL.Sem.Labels} {defs : Defs nD τ sig (Elt F) Λ} (𝒱 : Variants)
variable (c : Dev nD) {α : Type} {sp sp' : Space} {s : Shape} {e : EltTy}

theorem inv_at (K : Dev nD × Fin X.n → ℕ) (c : Dev nD) (k : Fin X.n) :
    (bigSep Finset.univ fun ck : Dev nD × Fin X.n => (cellInv EX X.sched (K ck) (X.cell ck.1 ck.2) : sProp 𝕄))
      ⊢ cellInv EX X.sched (K (c, k)) (X.cell c k) := bigSep_elim (Finset.mem_univ (c, k))
theorem reached_at (c : Dev nD) (k : Fin X.n) :
    (bigSep Finset.univ fun ck : Dev nD × Fin X.n => (reached EX (X.cell ck.1 ck.2) 0 : sProp 𝕄))
      ⊢ reached EX (X.cell c k) 0 := bigSep_elim (Finset.mem_univ (c, k))

/-- A copy within the device completing its semaphore `k`: the source's share and the destination come back with it. -/
theorem wp_copy (k : Fin X.n) {src : Memref sig (c.tc : Thread nD τ).2.kind sp s e} {dst : Memref sig (c.tc : Thread nD τ).2.kind sp' s e} {sem : SemLoc sig}
    {hsrc : src.view.WordExact} {hdst : dst.view.WordExact} {hsem : DmaTarget.Typed (nD := nD) sp sem (.here dst)}
    {Q : α → sProp 𝕄} {kk : PUnit → Prog (TpuEff nD τ sig (Elt F) Λ .tc) α} (hs : sem = .dma (X.os k))
    (q : PosShare TreeShare) (fs : Buf (Elt F) (src.view.loc (c.tc : Thread nD τ))) (fd : Buf (Elt F) (dst.view.loc (c.tc : Thread nD τ)))
    (hN : dst.view.amount sem = X.N)
    (hpay : iprop((dst.view.loc (c.tc : Thread nD τ) ↦[dst.view.set]{fullShare} (dst.view.write (Elt F) fd (src.view.read (Elt F) fs) Finset.univ))
        ∗ (src.view.loc (c.tc : Thread nD τ) ↦[src.view.set]{q} fs)) ⊢ X.pay c k) :
    iprop(X.recs ∗ (src.view.loc (c.tc : Thread nD τ) ↦[src.view.set]{q} fs) ∗ (dst.view.loc (c.tc : Thread nD τ) ↦[dst.view.set]{fullShare} fd) ∗ X.tok c k)
      ⊢ iprop((X.due c k -∗ wp frame (wpE defs 𝒱 (c.tc : Thread nD τ) none) Set.univ (kk ⟨⟩) Q)
          -∗ wp frame (wpE defs 𝒱 (c.tc : Thread nD τ) none) Set.univ (.op (.enqueueDma src (.here dst) sem hsrc hdst hsem) kk) Q) := by
  subst hs
  unfold recs tok due
  iintro ⟨⟨%K, #HI, #HR⟩, Hsrc, Hdst, Ht⟩ Hk
  iapply (Rounds.wp_copy_pointsTo 𝒱 EX X.sched (c.tc : Thread nD τ) none (κ := K (c, k)) (r := 0) (d := ())
    (by rw [X.duties_cell]; exact Finset.mem_singleton_self _) () X.N hN rfl (by rw [X.payload_cell]; exact hpay)) $$ [Hsrc Hdst Ht]
  · isplitr; · iapply (X.inv_at K c k); iexact HI
    isplitl [Hsrc]; · iexact Hsrc
    isplitl [Hdst]; · iexact Hdst
    isplitl [Ht]; · iexact Ht
    iapply (X.reached_at c k); iexact HR
  iexact Hk

/-- A copy to another device: the source's share comes back with the sender's semaphore `ks`, the destination goes to
    the receiver with its semaphore `kr`. -/
theorem wp_send (c' : Dev nD) (ks kr : Fin X.n) (hc' : c' = X.route kr c) {S : Finset (Fin X.n)} (hkr : kr ∈ S)
    {src : Memref sig (c.tc : Thread nD τ).2.kind sp s e} {dst : Memref sig (c'.tc : Thread nD τ).2.kind sp' s e}
    {hsc : dst.view.ref.isScScratch = false} {sS sem : SemLoc sig}
    {hsrc : src.view.WordExact} {hdst : dst.view.WordExact} {hsem : DmaTarget.Typed sp sem (.remote (c'.tc : Thread nD τ) dst sS hsc)}
    {Q : α → sProp 𝕄} {kk : PUnit → Prog (TpuEff nD τ sig (Elt F) Λ .tc) α} (hsS : sS = .dma (X.os ks)) (hs : sem = .dma (X.os kr))
    (q : PosShare TreeShare) (fs : Buf (Elt F) (src.view.loc (c.tc : Thread nD τ))) (fd : Buf (Elt F) (dst.view.loc (c'.tc : Thread nD τ)))
    (hN : dst.view.amount sem = X.N)
    (hpay₁ : (src.view.loc (c.tc : Thread nD τ) ↦[src.view.set]{q} fs) ⊢ X.pay c ks)
    (hpay₂ : (dst.view.loc (c'.tc : Thread nD τ) ↦[dst.view.set]{fullShare} (dst.view.write (Elt F) fd (src.view.read (Elt F) fs) Finset.univ)) ⊢ X.pay c' kr) :
    iprop(X.recs ∗ (src.view.loc (c.tc : Thread nD τ) ↦[src.view.set]{q} fs) ∗ (dst.view.loc (c'.tc : Thread nD τ) ↦[dst.view.set]{fullShare} fd)
        ∗ X.owing c S ∗ X.tok c ks ∗ X.tok c' kr)
      ⊢ iprop((iprop(X.due c ks ∗ X.owing c (S.erase kr)) -∗ wp frame (wpE defs 𝒱 (c.tc : Thread nD τ) none) Set.univ (kk ⟨⟩) Q)
          -∗ wp frame (wpE defs 𝒱 (c.tc : Thread nD τ) none) Set.univ
              (.op (.enqueueDma src (.remote (c'.tc : Thread nD τ) dst sS hsc) sem hsrc hdst hsem) kk) Q) := by
  subst hsS hs
  unfold recs tok due owing
  iintro ⟨⟨%K, #HI, #HR⟩, Hsrc, Hdst, ⟨%W, HO⟩, Hts, Htr⟩ Hk
  iapply (Rounds.wp_send_pointsTo 𝒱 EX X.sched (c.tc : Thread nD τ) none (κ₁ := K (c, ks)) (κ₂ := K (c', kr)) (r₁ := 0) (r₂ := 0) (d₁ := ()) (d₂ := ())
    (by rw [X.duties_cell]; exact Finset.mem_singleton_self _) (by rw [X.duties_cell]; exact Finset.mem_singleton_self _)
    () () X.N hN rfl rfl (O₀ := X.owed c S) (X.owed c (S.erase kr)) (by unfold owed; rw [hc', Finset.sum_erase_add _ _ hkr]) (W := W)
    (by rw [X.payload_cell]; exact hpay₁) (by rw [X.payload_cell]; exact hpay₂)) $$ [Hsrc Hdst HO Hts Htr]
  · isplitr; · iapply (X.inv_at K c ks); iexact HI
    isplitr; · iapply (X.inv_at K c' kr); iexact HI
    isplitl [Hsrc]; · iexact Hsrc
    isplitl [Hdst]; · iexact Hdst
    isplitl [HO]; · iexact HO
    isplitl [Hts]; · iexact Hts
    isplitr; · iapply (X.reached_at c ks); iexact HR
    isplitl [Htr]; · iexact Htr
    iapply (X.reached_at c' kr); iexact HR
  iintro ⟨Hd, HO⟩
  iapply Hk
  isplitl [Hd]; · iexact Hd
  iexists W; iexact HO

/-- The wait for semaphore `k`: what its completion hands over, and the counter back at zero for good. -/
theorem wp_wait (k : Fin X.n) (S : Finset (Fin X.n)) (hS : ∀ k' ∈ S, X.lvl k < X.lvl k')
    {w : TpuEff nD τ sig (Elt F) Λ .tc PUnit} {sm : SemLoc sig} {k' : ℕ}
    (hw : ∀ K : PUnit → sProp 𝕄, wpE defs 𝒱 (c.tc : Thread nD τ) none Set.univ w K = waitSpec (c.tc : Thread nD τ) Set.univ sm k' K)
    (hs : sm = .dma (X.os k)) (hN : k' = X.N)
    {Q : α → sProp 𝕄} {kk : PUnit → Prog (TpuEff nD τ sig (Elt F) Λ .tc) α} :
    iprop(X.recs ∗ X.levs ∗ X.due c k ∗ X.here c k ∗ X.owing c S)
      ⊢ iprop((iprop(X.owing c S ∗ X.zero c k ∗ X.pay c k) -∗ wp frame (wpE defs 𝒱 (c.tc : Thread nD τ) none) Set.univ (kk ⟨⟩) Q)
          -∗ wp frame (wpE defs 𝒱 (c.tc : Thread nD τ) none) Set.univ (.op w kk) Q) := by
  subst hs hN
  unfold recs due here owing zero
  iintro ⟨⟨%K, #HI, #HR⟩, #Hlev, Hd, Hat, ⟨%W, HO⟩⟩ Hk
  iapply (Rounds.wp_wait_rest_token 𝒱 EX X.sched (c.tc : Thread nD τ) none (κ := K (c, k)) hw (Set.mem_univ _) () (O := X.owed c S) (W := W)
    (R := 0) (m := 0) (T := ∅) (by rw [Nat.zero_add]; exact (X.expect_cell c k).symm)) $$ [Hd Hat HO]
  · isplitr; · iapply (X.inv_at K c k); iexact HI
    isplitl [Hd]; · iexact Hd
    isplitl [HO]; · iexact HO
    isplitr; · iapply (X.mayWait c k S hS); iexact Hlev
    iexact Hat
  iintro ⟨HO, Hat, -, Hpay⟩
  ihave Hp := (Entails.of_eq (X.rest_cell c k)) $$ Hpay
  iapply (fupd_wp frame (wpE defs 𝒱 (c.tc : Thread nD τ) none) Set.univ _ _)
  imod (Rounds.cell_close EX X.sched (Set.mem_univ (K (c, k))) (fun h => h) (R := 0 + 1) (X.duties_later (X.cell c k))) $$ [Hat] with Hz
  · isplitr; · iapply (X.inv_at K c k); iexact HI
    iexact Hat
  imodintro
  iapply Hk
  isplitl [HO]; · iexists _; iexact HO
  isplitl [Hz] <;> iassumption

/-- Writing all of a memref leaves it read as what was written. -/
theorem owns_written {κt : Thread nD τ} {sp : Space} {s : Shape} {e : EltTy} (md : Memref sig κt.2.kind sp s e)
    (fd : Buf (Elt F) (md.view.loc κt)) (V : s.Idx → Elt F e) :
    ((md.view.loc κt ↦[md.view.set]{fullShare} md.view.write (Elt F) fd V Finset.univ) : sProp 𝕄) ⊢ owns κt md fullShare V := by
  refine (owns_intro κt md fullShare _).trans (Entails.of_eq ?_)
  rw [View.read_write_univ]

/-- `wp_copy` for blocks owned at known contents. -/
theorem copy (k : Fin X.n) (ms : Memref sig .tc sp s e) (md : Memref sig .tc sp' s e)
    {src : Memref sig (c.tc : Thread nD τ).2.kind sp s e} {dst : Memref sig (c.tc : Thread nD τ).2.kind sp' s e} {sem : SemLoc sig}
    {hsrc : src.view.WordExact} {hdst : dst.view.WordExact} {hsem : DmaTarget.Typed (nD := nD) sp sem (.here dst)}
    {Q : α → sProp 𝕄} {kk : PUnit → Prog (TpuEff nD τ sig (Elt F) Λ .tc) α} (hs : sem = .dma (X.os k)) (h₁ : src = ms) (h₂ : dst = md)
    (q : PosShare TreeShare) (V : s.Idx → Elt F e) (hN : md.view.amount (.dma (X.os k)) = X.N)
    (hpay : iprop(owns (c.tc : Thread nD τ) md fullShare V ∗ owns (c.tc : Thread nD τ) ms q V) ⊢ X.pay c k) :
    iprop(X.recs ∗ owns (c.tc : Thread nD τ) ms q V ∗ (∃ Z, owns (c.tc : Thread nD τ) md fullShare Z) ∗ X.tok c k)
      ⊢ iprop((X.due c k -∗ wp frame (wpE defs 𝒱 (c.tc : Thread nD τ) none) Set.univ (kk ⟨⟩) Q)
          -∗ wp frame (wpE defs 𝒱 (c.tc : Thread nD τ) none) Set.univ (.op (.enqueueDma src (.here dst) sem hsrc hdst hsem) kk) Q) := by
  subst hs h₁ h₂
  iintro ⟨#HR, Hs, ⟨%Z, Hd⟩, Ht⟩ Hk
  ihave Hs' := (show owns (c.tc : Thread nD τ) src q V ⊢ iprop(∃ f, ⌜src.view.read (Elt F) f = V⌝ ∗ (src.view.loc (c.tc : Thread nD τ) ↦[src.view.set]{q} f)) from .rfl) $$ Hs
  ihave Hd' := (show owns (c.tc : Thread nD τ) dst fullShare Z ⊢ iprop(∃ f, ⌜dst.view.read (Elt F) f = Z⌝ ∗ (dst.view.loc (c.tc : Thread nD τ) ↦[dst.view.set]{fullShare} f)) from .rfl) $$ Hd
  icases Hs' with ⟨%fs, %hfs, Hs⟩
  icases Hd' with ⟨%fd, %hfd, Hd⟩
  iapply (X.wp_copy 𝒱 c k rfl q fs fd hN (by
    have h := BIClass.sep_mono (owns_written (κt := (c.tc : Thread nD τ)) dst fd (src.view.read (Elt F) fs)) (owns_intro (c.tc : Thread nD τ) src q fs)
    refine h.trans ?_
    rw [hfs]; exact hpay)) $$ [Hs Hd Ht]
  · isplitr; · iexact HR
    isplitl [Hs]; · iexact Hs
    isplitl [Hd] <;> iassumption
  iexact Hk

/-- `wp_send` for blocks owned at known contents. -/
theorem send (n' : Dev nD) (ks kr : Fin X.n) (hn : n' = X.route kr c) {S : Finset (Fin X.n)} (hkr : kr ∈ S)
    (ms : Memref sig .tc sp s e) (md : Memref sig .tc sp' s e)
    {src : Memref sig (c.tc : Thread nD τ).2.kind sp s e} {dst : Memref sig (n'.tc : Thread nD τ).2.kind sp' s e}
    {hsc : dst.view.ref.isScScratch = false} {sS sem : SemLoc sig}
    {hsrc : src.view.WordExact} {hdst : dst.view.WordExact} {hsem : DmaTarget.Typed sp sem (.remote (n'.tc : Thread nD τ) dst sS hsc)}
    {Q : α → sProp 𝕄} {kk : PUnit → Prog (TpuEff nD τ sig (Elt F) Λ .tc) α} (hsS : sS = .dma (X.os ks)) (hs : sem = .dma (X.os kr))
    (h₁ : src = ms) (h₂ : dst = md)
    (q : PosShare TreeShare) (V : s.Idx → Elt F e) (hN : md.view.amount (.dma (X.os kr)) = X.N)
    (hpay₁ : owns (c.tc : Thread nD τ) ms q V ⊢ X.pay c ks)
    (hpay₂ : owns ((X.route kr c).tc : Thread nD τ) md fullShare V ⊢ X.pay (X.route kr c) kr) :
    iprop(X.recs ∗ owns (c.tc : Thread nD τ) ms q V ∗ (∃ Z, owns ((X.route kr c).tc : Thread nD τ) md fullShare Z)
        ∗ X.owing c S ∗ X.tok c ks ∗ X.tok (X.route kr c) kr)
      ⊢ iprop((iprop(X.due c ks ∗ X.owing c (S.erase kr)) -∗ wp frame (wpE defs 𝒱 (c.tc : Thread nD τ) none) Set.univ (kk ⟨⟩) Q)
          -∗ wp frame (wpE defs 𝒱 (c.tc : Thread nD τ) none) Set.univ
              (.op (.enqueueDma src (.remote (n'.tc : Thread nD τ) dst sS hsc) sem hsrc hdst hsem) kk) Q) := by
  subst hn hsS hs h₁ h₂
  iintro ⟨#HR, Hs, ⟨%Z, Hd⟩, HO, Ht, Ht'⟩ Hk
  ihave Hs' := (show owns (c.tc : Thread nD τ) src q V ⊢ iprop(∃ f, ⌜src.view.read (Elt F) f = V⌝ ∗ (src.view.loc (c.tc : Thread nD τ) ↦[src.view.set]{q} f)) from .rfl) $$ Hs
  ihave Hd' := (show owns ((X.route kr c).tc : Thread nD τ) dst fullShare Z ⊢ iprop(∃ f, ⌜dst.view.read (Elt F) f = Z⌝ ∗ (dst.view.loc ((X.route kr c).tc : Thread nD τ) ↦[dst.view.set]{fullShare} f)) from .rfl) $$ Hd
  icases Hs' with ⟨%fs, %hfs, Hs⟩
  icases Hd' with ⟨%fd, %hfd, Hd⟩
  iapply (X.wp_send 𝒱 c (X.route kr c) ks kr rfl hkr rfl rfl q fs fd hN
    ((owns_intro (c.tc : Thread nD τ) src q fs).trans (by rw [hfs]; exact hpay₁))
    ((owns_written (κt := ((X.route kr c).tc : Thread nD τ)) dst fd _).trans (by rw [hfs]; exact hpay₂))) $$ [Hs Hd HO Ht Ht']
  · isplitr; · iexact HR
    isplitl [Hs]; · iexact Hs
    isplitl [Hd]; · iexact Hd
    isplitl [HO]; · iexact HO
    isplitl [Ht] <;> iassumption
  iexact Hk

end Rules

/-! ## The launch -/

/-- What a device starts the call with, beside its share of the arrays. -/
def start (c : Dev nD) : sProp 𝕄 :=
  iprop(X.recs ∗ X.levs ∗ (bigSep Finset.univ fun k => X.here c k) ∗ (bigSep Finset.univ fun k => X.tok (X.route k c) k)
    ∗ bigSep X.R fun k => X.due c k)
def zeros (c : Dev nD) : sProp 𝕄 := bigSep Finset.univ fun k => X.zero c k

def xcells : Finset (GSem nD τ sig) := Finset.univ.map ⟨fun ck : Dev nD × Fin X.n => X.cell ck.1 ck.2, X.cell_inj⟩
def xtoks : Finset (GSem nD τ sig × ℕ × Unit) :=
  Finset.univ.map ⟨fun ck : Dev nD × Fin X.n => (X.cell ck.1 ck.2, 0, ()), fun _ _ h => X.cell_inj (congrArg Prod.fst h)⟩

def G (c : Dev nD) : sProp 𝕄 :=
  iprop((bigSep Finset.univ fun k => roundState EX X.sched (X.cell c k) 0)
    ∗ (bigSep Finset.univ fun k => X.here c k) ∗ (bigSep Finset.univ fun k => reached EX (X.cell c k) 0) ∗ bigSep Finset.univ fun k => X.tok c k)

theorem fund : BI.own (EX (initOf X.xcells X.xtoks)) ⊢ (|==> bigSep Finset.univ X.G : sProp 𝕄) := by
  have hX (Φ : GSem nD τ sig → sProp 𝕄) : bigSep X.xcells Φ = bigSep Finset.univ fun c : Dev nD => bigSep Finset.univ fun k => Φ (X.cell c k) := by
    unfold xcells; rw [bigSep_map, bigSep_univ_prod]; rfl
  have hT : bigSep X.xtoks (fun x => (dutyTok EX x.1 x.2.1 x.2.2 : sProp 𝕄)) = bigSep Finset.univ fun c : Dev nD => bigSep Finset.univ fun k => X.tok c k := by
    unfold xtoks; rw [bigSep_map, bigSep_univ_prod]; rfl
  iintro HX
  imod (Rounds.fund EX X.sched X.xcells X.xtoks) $$ HX with ⟨Hst, Hr, Hat, Htok⟩
  imodintro
  ihave Hst' := (Entails.of_eq (hX fun g => roundState EX X.sched g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

/-- The launch credit of the semaphores completed from other devices. -/
theorem dues (c : Dev nD) : (launchCred (fun d => X.owed d X.R) c : sProp 𝕄) ⊢ bigSep X.R fun k => X.due c k := by
  unfold owed due
  rw [launchCred_sum]
  exact bigSep_mono fun k _ => launchCred_tallyAt (.dma (X.os k)) (X.route k) (X.route k).symm
    (fun d => (X.route k).apply_symm_apply d) (fun d => (X.route k).symm_apply_apply d) () X.N c

/-- Every device's tokens dealt to the devices whose copies spend them. -/
theorem toks_dealt : (bigSep Finset.univ fun c : Dev nD => bigSep Finset.univ fun k => X.tok c k)
    = bigSep Finset.univ fun c : Dev nD => bigSep Finset.univ fun k => X.tok (X.route k c) k := by
  rw [BI.bigSep_univ_comm, BI.bigSep_univ_comm (fun c k => X.tok (X.route k c) k)]
  exact bigSep_congr fun k _ => bigSep_univ_equiv (X.route k) fun c : Dev nD => X.tok c k

/-- One device's semaphores with their invariants in place. -/
def ready (c : Dev nD) : sProp 𝕄 :=
  iprop((bigSep Finset.univ fun k => iprop(∃ κ : ℕ, cellInv EX X.sched κ (X.cell c k)))
          ∗ (bigSep Finset.univ fun k => X.here c k) ∗ (bigSep Finset.univ fun k => reached EX (X.cell c k) 0) ∗ bigSep Finset.univ fun k => X.tok c k)

/-- One device's counters at zero and its rounds make its semaphores' invariants. -/
theorem alloc (c : Dev nD) :
    iprop(X.zeros c ∗ X.G c)
      ⊢ |={Set.univ}=> X.ready c := by
  unfold G zeros zero ready
  iintro ⟨Hv, Hst, Hrest⟩
  imod (show iprop((bigSep Finset.univ fun k => semVal (X.cell c k) 0) ∗ bigSep Finset.univ fun k => roundState EX X.sched (X.cell c k) 0)
      ⊢ (|={Set.univ}=> bigSep Finset.univ fun k => iprop(∃ κ : ℕ, cellInv EX X.sched κ (X.cell c k)) : sProp 𝕄) from by
        rw [← bigSep_sep']
        exact (bigSep_mono fun k _ => (Rounds.body_intro EX X.sched (X.cell c k)).trans inv_alloc).trans (bigSep_fupd _ _)) $$ [Hv Hst] with Hinv
  · isplitl [Hv] <;> iassumption
  imodintro
  isplitl [Hinv]; · iexact Hinv
  iexact Hrest

/-- Over all devices: the records, and each device's rights. -/
theorem regroup :
    (bigSep Finset.univ X.ready)
      ⊢ iprop(X.recs ∗ (bigSep Finset.univ fun c : Dev nD => bigSep Finset.univ fun k => X.here c k)
          ∗ bigSep Finset.univ fun c : Dev nD => bigSep Finset.univ fun k => X.tok (X.route k c) k) := by
  unfold ready
  simp only [bigSep_sep']
  rw [X.toks_dealt]
  unfold recs
  iintro ⟨Hinv, Hat, Hr, Ht⟩
  isplitl [Hinv Hr]
  · ihave Hinv' := (Entails.of_eq (bigSep_univ_prod fun ck : Dev nD × Fin X.n => iprop(∃ κ : ℕ, cellInv EX X.sched κ (X.cell ck.1 ck.2))).symm) $$ Hinv
    ihave HK := (BI.bigSep_exists_pi (S := Finset.univ) (fun (ck : Dev nD × Fin X.n) (κ : ℕ) => cellInv EX X.sched κ (X.cell ck.1 ck.2))) $$ Hinv'
    icases HK with ⟨%K, HI⟩
    iexists K
    isplitl [HI]; · iexact HI
    iapply (Entails.of_eq (bigSep_univ_prod fun ck : Dev nD × Fin X.n => (reached EX (X.cell ck.1 ck.2) 0 : sProp 𝕄)).symm); iexact Hr
  isplitl [Hat] <;> iassumption

section Run

variable {Λ₀ : Idealize.SL.Sem.Labels} {P : Type} [Fintype P] [DecidableEq P]
variable (pcs : P → PCfg sig Λ₀ (Elt F)) (a : Dev nD → (p : P) → (pcs p).Adm)
  (phinj : Function.Injective (PerCore.cellOf (nD := nD) (τ := τ) (Pipeline.pinD pcs a)))
  (pdats : (p : P) → (c : Dev nD) → Dat τ (Elt F) Unit ℕ (Ghost nD τ sig) ℕ (Pipeline.pinD pcs a c p) c)
  (defs₀ : Defs nD τ sig (Elt F) Λ₀) (𝒱₀ : Variants)

include phinj in
/-- THE LAUNCH of a program that begins with the exchange `p`: `hdeal` deals the arrays of all devices, `pdats` gives the
    run of the exchange's body, and `htail` runs what follows. -/
theorem run [EP.LandsIn (upEmb : UEmb _ 𝕄)] (p : P)
    (hw : WinFacts₀ (pcs p).spec) (ho : OwnSemFacts (pcs p).spec fun k : Fin X.n => SemLoc.dma (X.os k))
    (hW : IsEmpty (Fin (pcs p).W)) (hpre : IsEmpty (Fin (pcs p).pre.K))
    (m : (ℓ : Loc nD τ sig) → Buf (Elt F) ℓ) (g : Dev nD → PrngReg)
    (k : Dev nD → PUnit → Prog (TpuEff nD τ sig (Elt F) (Pipeline.Sig Λ₀ P fun p => (pcs p).Adm) .tc) PUnit)
    (main : Dev nD → Prog (TpuEff nD τ sig (Elt F) (Pipeline.Sig Λ₀ P fun p => (pcs p).Adm) .tc) PUnit)
    (hmain : ∀ c, main c = .op (.customCall (entry p) ()) (k c))
    (hbody : ∀ c, BodyObligation (pdats p c) defs₀ 𝒱₀ () Set.univ)
    (B Y : Dev nD → sProp 𝕄)
    (hdeal : (bigSep Finset.univ fun c : Dev nD => unscopedBufs c (fun b => m ((c.tc : Thread nD τ).loc b))) ⊢ bigSep Finset.univ B)
    (hin : ∀ c, iprop((X.start c ∗ B c) ∗ scopedRest (pcs p).spec c) ⊢ (pdats p c).Φ 0)
    (hout : ∀ c, (pdats p c).Φ (Fin.last (Pipeline.pinD pcs a c p).N) ⊢ iprop(Y c ∗ X.zeros c ∗ scopedRest (pcs p).spec c))
    (howed0 : ∀ c, (pdats p c).owed 0 = X.owed c X.R)
    (howedN : ∀ c, (pdats p c).owed (Fin.last (Pipeline.pinD pcs a c p).N) = 0)
    (hrec : ∀ c, (pdats p c).recorded 0 = Set.univ)
    (Tₙ : Dev nD → sProp 𝕄)
    (htail : ∀ c, iprop((boundary (c.tc : Thread nD τ) ∗ Y c ∗ ∃ W, owes (c.tc : Thread nD τ) (0 : CellTallies nD τ sig Unit) W)
          ∗ X.levs ∗ PerCore.ghostOn pcs a EP (Finset.univ.erase p) c)
      ⊢ wp frame (wpE (Pipeline.defs pcs defs₀) (Variants.lift 𝒱₀) (c.tc : Thread nD τ) none) Set.univ (k c ⟨⟩)
          fun _ => iprop(boundary (c.tc : Thread nD τ) ∗ Tₙ c ∗ ∃ W, owes (c.tc : Thread nD τ) (0 : CellTallies nD τ sig Unit) W))
    (QY : Dev nD → MemSt nD τ sig (Elt F) → Prop)
    (hfin : ∀ c (s' : Phys nD τ sig (Elt F)), iprop(Tₙ c ∗ SI s') ⊢ |={Set.univ}=> iprop(⌜QY c s'.mem⌝ ∗ SI s')) :
    θ_run (Pipeline.defs pcs defs₀) (onTc main) ⟨m, fun _ => 0, g⟩ fun r => (∀ c : Dev nD, QY c r.2)
      ∧ ∀ g' : GSem nD τ sig, (g'.1.2 ≠ .tc ∨ g'.2.isScoped .tc = true) → r.2.sem g' = 0 := by
  classical
  let T₀ : Dev nD → sProp 𝕄 := fun c => iprop(boundaryRest pcs a phinj ho c ∗ (∃ W, owes (c.tc : Thread nD τ) (X.owed c X.R) W)
    ∗ X.recs ∗ (bigSep Finset.univ fun k => X.here c k) ∗ (bigSep Finset.univ fun k => X.tok (X.route k c) k) ∗ (bigSep X.R fun k => X.due c k) ∗ B c)
  refine θ_run_dealt pcs a phinj EP defs₀ 𝒱₀ L X.lv m g main (fun c => X.owed c X.R) L_of_ne X.G
    (initOf (PerCore.cells (Pipeline.pinD pcs a) phinj) (PerCore.launchToks (Pipeline.pinD pcs a) phinj), initOf X.xcells X.xtoks)
    ?_ T₀ Tₙ ?_ (fun c => ?_) QY hfin
  · iintro Hu
    ihave H := (ownU_pair _ _) $$ Hu
    icases H with ⟨HP, HX⟩
    imod X.fund $$ HX with HG
    imodintro
    isplitl [HP] <;> iassumption
  · have hsplit (c : Dev nD) : iprop(boundary (c.tc : Thread nD τ) ∗ unscopedBufs c (fun b => m ((c.tc : Thread nD τ).loc b))
          ∗ owes (c.tc : Thread nD τ) (X.owed c X.R) ∅ ∗ launchCred (fun d => X.owed d X.R) c ∗ X.G c)
        ⊢ |={Set.univ}=> iprop(iprop(boundaryRest pcs a phinj ho c ∗ (∃ W, owes (c.tc : Thread nD τ) (X.owed c X.R) W) ∗ (bigSep X.R fun k => X.due c k))
            ∗ unscopedBufs c (fun b => m ((c.tc : Thread nD τ).loc b))
            ∗ X.ready c) := by
      iintro ⟨Hb, Hub, HO, Hcr, HG⟩
      ihave Hb' := (boundary_take pcs a phinj hw ho c) $$ Hb
      icases Hb' with ⟨Hb, Hos⟩
      imod (X.alloc c) $$ [Hos HG] with HA
      · isplitl [Hos]; · iapply (show (ownSems0 (fun k : Fin X.n => SemLoc.dma (X.os k)) c : sProp 𝕄) ⊢ X.zeros c from BI.Entails.refl _); iexact Hos
        iexact HG
      imodintro
      isplitl [Hb HO Hcr]
      · isplitl [Hb]; · iexact Hb
        isplitl [HO]; · iexists ∅; iexact HO
        iapply (X.dues c); iexact Hcr
      isplitl [Hub] <;> iassumption
    refine ((bigSep_mono fun c _ => hsplit c).trans (bigSep_fupd _ _)).trans (show (_ : sProp 𝕄) ⊢ _ from ?_)
    refine BI.fupd_mono ?_
    simp only [T₀, bigSep_sep']
    iintro ⟨⟨Hb, HO, Hcr⟩, Hub, HA⟩
    ihave HR := X.regroup $$ HA
    icases HR with ⟨#Hrec, Hat, Ht⟩
    ihave HB := hdeal $$ Hub
    isplitl [Hb]; · iexact Hb
    isplitl [HO]; · iexact HO
    isplitr; · iapply (BI.bigSep_intro_persistent (S := Finset.univ) fun (c : Dev nD) _ => (BI.Entails.refl (X.recs : sProp 𝕄))); iexact Hrec
    isplitl [Hat]; · iexact Hat
    isplitl [Ht]; · iexact Ht
    isplitl [Hcr] <;> iassumption
  · rw [hmain c]
    simp only [T₀]
    iintro ⟨⟨Hb, HO, Hrec, Hat, Ht, Hcr, HB⟩, #Hlev, Hg⟩
    ihave Hg' := (Entails.of_eq (PerCore.ghostOn_erase pcs a EP (Finset.mem_univ p) c)) $$ Hg
    icases Hg' with ⟨⟨Hgc, Hgt⟩, Hgr⟩
    iapply (wp_region pcs a pdats () phinj EP defs₀ 𝒱₀ hw ho hW hpre c (hbody c) (X := iprop(X.start c ∗ B c)) (Y := Y c) (hin c) ((hout c).trans (BI.Entails.refl _)) (howedN c) (hrec c) (k c) _)
    isplitl [Hgr]
    · iintro HY
      iapply (htail c)
      isplitl [HY]; · iexact HY
      isplitr; · unfold levs; iexact Hlev
      iexact Hgr
    isplitl [Hb]; · iexact Hb
    isplitl [Hrec Hat Ht Hcr HB]
    · isplitr [HB]
      · unfold start
        isplitl [Hrec]; · iexact Hrec
        isplitr; · unfold levs; iexact Hlev
        isplitl [Hat]; · iexact Hat
        isplitl [Ht] <;> iassumption
      iexact HB
    isplitl [HO]; · rw [howed0 c]; iexact HO
    isplitl [Hgc] <;> iassumption

end Run

end Plan

end Cert.Exchange

end
-- ==== Proof.Slots.lean ====
/-
# The slots of a stack of blocks

An array of shape `[n, a, b]` is `n` blocks of shape `[a, b]`: block `i` is the slice at `(i, 0, 0)` with its leading unit
axis dropped (`slot`). Owning the array is owning its blocks (`owns_slots`, `slots_owns`). Shares of one array are split
and put together again by `owns_halve` and `owns_join`.
-/
module

public import proofs.«01_k».proof.Proof.Exchange
public import Idealize.ShloMosaic.Lib.ValueLayout
public import Idealize.ShloMosaic.Lib.Tactic

@[expose] public section

noncomputable section

namespace Cert.Exchange

open Idealize.ShloMosaic Idealize.ShloMosaic.TcCoe Idealize.ShloMosaic.ValueIdx
open Idealize.SL Idealize.SL.RA Idealize.SL.BI
open scoped Idealize.SL.BI Idealize.SL.RA.PCS
open Idealize.SL.BI.BIBase Idealize.SL.BI.Laws Idealize.SL.ProofMode Idealize.SL.Sem

set_option Elab.async false

variable {nD : Nat} {τ : Topo} {sig : RefSig} {F : FTy → Type} [FloatOps F]

local notation "𝕄" => MT nD τ sig Unit (Elt F) ℕ (Ghost nD τ sig) ℕ

section Shares

variable (c : Thread nD τ) {sp : Space} {s s' : Shape} {e : EltTy} (m : Memref sig c.2.kind sp s e) (q q₁ q₂ : PosShare TreeShare)

/-- Dropping unit axes renames the indices of the contents. -/
theorem owns_squeeze (h : s.Squeezes s') (X : s'.Idx → Elt F e) :
    (owns c (m.squeeze s' h) q X : sProp 𝕄) = owns c m q fun j => X ((Shape.reshapeEquiv h.numel_eq).symm j) := by
  have hr (f : Buf (Elt F) (m.view.loc c)) : (m.squeeze s' h).view.read (Elt F) f = X
      ↔ m.view.read (Elt F) f = fun j => X ((Shape.reshapeEquiv h.numel_eq).symm j) := by
    constructor
    · intro hf; funext j
      have h' := congrFun hf ((Shape.reshapeEquiv h.numel_eq).symm j)
      rw [← h']
      show m.view.read (Elt F) f j = m.view.read (Elt F) f (Shape.reshapeEquiv h.numel_eq ((Shape.reshapeEquiv h.numel_eq).symm j))
      rw [Equiv.apply_symm_apply]
    · intro hf; funext j
      show m.view.read (Elt F) f (Shape.reshapeEquiv h.numel_eq j) = X j
      rw [hf]; exact congrArg X (Equiv.symm_apply_apply _ j)
  unfold owns
  rw [Memref.view_squeeze, View.set_reshape]
  refine congrArg _ (funext fun f => ?_)
  rw [show ((m.view.reshape s' h.numel_eq).read (Elt F) f = X) = (m.view.read (Elt F) f = fun j => X ((Shape.reshapeEquiv h.numel_eq).symm j)) from propext (hr f)]

/-- A share of a block is its two halves. -/
theorem owns_halve (hq : q ∈ q₁ ·? q₂) (X : s.Idx → Elt F e) :
    (owns c m q X : sProp 𝕄) ⊢ iprop(owns c m q₁ X ∗ owns c m q₂ X) := by
  iintro H
  ihave H' := (show owns c m q X ⊢ iprop(∃ g, ⌜m.view.read (Elt F) g = X⌝ ∗ m.view.loc c ↦[m.view.set]{q} g) from .rfl) $$ H
  icases H' with ⟨%g, %hg, H⟩
  ihave H2 := (pointsTo_share hq).1 $$ H
  icases H2 with ⟨H₁, H₂⟩
  rw [← hg]
  isplitl [H₁]
  · iapply (owns_intro c m q₁ g); iexact H₁
  · iapply (owns_intro c m q₂ g); iexact H₂

/-- and back. -/
theorem owns_join (hq : q ∈ q₁ ·? q₂) (X : s.Idx → Elt F e) :
    iprop(owns c m q₁ X ∗ owns c m q₂ X) ⊢ (owns c m q X : sProp 𝕄) := by
  iintro ⟨H₁, H₂⟩
  ihave H₁' := (show owns c m q₁ X ⊢ iprop(∃ g, ⌜m.view.read (Elt F) g = X⌝ ∗ m.view.loc c ↦[m.view.set]{q₁} g) from .rfl) $$ H₁
  ihave H₂' := (show owns c m q₂ X ⊢ iprop(∃ g, ⌜m.view.read (Elt F) g = X⌝ ∗ m.view.loc c ↦[m.view.set]{q₂} g) from .rfl) $$ H₂
  icases H₁' with ⟨%g₁, %hg₁, H₁⟩
  icases H₂' with ⟨%g₂, %hg₂, H₂⟩
  have heq : ∀ i ∈ m.view.set, g₁ i = g₂ i := by
    intro i hi
    rw [View.set, Finset.mem_map] at hi
    obtain ⟨x, -, rfl⟩ := hi
    have := congrFun (hg₁.trans hg₂.symm) x
    rw [View.read_apply, View.read_apply] at this
    exact cast_inj _ |>.1 this
  rw [← hg₁]
  ihave H₂ := (Entails.of_eq (pointsTo_congr fun i hi => (heq i hi).symm)) $$ H₂
  iapply (owns_intro c m q g₁)
  iapply (pointsTo_share hq).2
  isplitl [H₁] <;> iassumption

end Shares

section Slots

variable {n a b : ℕ} {sp : Space} {e : EltTy}

theorem slot_inb (i : Fin n) : ∀ k, (![i.val, 0, 0] : Fin 3 → ℕ) k + (⟨3, ![1, a, b]⟩ : Shape).size k ≤ (⟨3, ![n, a, b]⟩ : Shape).size k := by
  intro k
  match k with
  | ⟨0, _⟩ => exact i.isLt
  | ⟨1, _⟩ => exact (Nat.zero_add a).le
  | ⟨2, _⟩ => exact (Nat.zero_add b).le

/-- The rectangle of block `i`, -/
abbrev slotRect (i : Fin n) : Rect (⟨3, ![n, a, b]⟩ : Shape) :=
  Rect.unit (s := ⟨3, ![n, a, b]⟩) ![i.val, 0, 0] (⟨3, ![1, a, b]⟩ : Shape).size (slot_inb i)

/-- and block `i`. -/
abbrev slot (m : Memref sig .tc sp ⟨3, ![n, a, b]⟩ e) (h : (⟨3, ![1, a, b]⟩ : Shape).Squeezes ⟨2, ![a, b]⟩) (i : Fin n) :
    Memref sig .tc sp ⟨2, ![a, b]⟩ e :=
  (m.slice (slotRect i) (fun _ => rfl)).squeeze ⟨2, ![a, b]⟩ h

theorem slotRect_disjoint (i j : Fin n) (h : i ≠ j) : Disjoint (slotRect (a := a) (b := b) i).set (slotRect j).set := by
  rw [Finset.disjoint_left]
  intro x hx hy
  have h₁ := Rect.mem_set_unit.1 hx (0 : Fin 3)
  have h₂ := Rect.mem_set_unit.1 hy (0 : Fin 3)
  have h₁' : i.val ≤ (x (0 : Fin 3)).val ∧ (x (0 : Fin 3)).val < i.val + 1 := h₁
  have h₂' : j.val ≤ (x (0 : Fin 3)).val ∧ (x (0 : Fin 3)).val < j.val + 1 := h₂
  exact h (Fin.ext (by omega))

theorem slotRect_cover : (Finset.univ : Finset (Fin n)).biUnion (fun i => (slotRect (a := a) (b := b) i).set) = Finset.univ := by
  ext x
  simp only [Finset.mem_biUnion, Finset.mem_univ, true_and, iff_true]
  refine ⟨x (0 : Fin 3), Rect.mem_set_unit.2 fun k => ?_⟩
  match k with
  | ⟨0, _⟩ => exact ⟨le_rfl, Nat.lt_succ_self _⟩
  | ⟨1, _⟩ => exact ⟨Nat.zero_le _, (x (1 : Fin 3)).isLt.trans_eq (Nat.zero_add a).symm⟩
  | ⟨2, _⟩ => exact ⟨Nat.zero_le _, (x (2 : Fin 3)).isLt.trans_eq (Nat.zero_add b).symm⟩

/-- Block `i` of an array of contents. -/
def part {α : Type} (X : (⟨3, ![n, a, b]⟩ : Shape).Idx → α) (i : Fin n) : (⟨2, ![a, b]⟩ : Shape).Idx → α := fun j => X (ix3 i (j 0) (j 1))

variable (d : Dev nD) (m : Memref sig .tc sp ⟨3, ![n, a, b]⟩ e) (h : (⟨3, ![1, a, b]⟩ : Shape).Squeezes ⟨2, ![a, b]⟩) (q : PosShare TreeShare)

theorem owns_slot (X : (⟨3, ![n, a, b]⟩ : Shape).Idx → Elt F e) (i : Fin n) :
    (owns (d.tc : Thread nD τ) (m.slice (slotRect i) (fun _ => rfl)) q (fun j => X ((slotRect i).emb j)) : sProp 𝕄)
      = owns (d.tc : Thread nD τ) (slot m h i) q (part X i) := by
  refine Eq.trans ?_ (owns_squeeze (d.tc : Thread nD τ) (m.slice (slotRect i) (fun _ => rfl)) q h (part X i)).symm
  refine congrArg _ (funext fun j => ?_)
  obtain ⟨k, rfl⟩ := (Shape.reshapeEquiv h.numel_eq).surjective j
  rw [Equiv.symm_apply_apply]
  have hk : k = ix2 (k 0) (k 1) := by funext t; match t with | ⟨0, _⟩ => rfl | ⟨1, _⟩ => rfl
  have hj : Shape.reshapeEquiv h.numel_eq k = ix3 (⟨0, Nat.one_pos⟩ : Fin 1) (k 0) (k 1) := by
    conv_lhs => rw [hk]
    exact reshapeEquiv_ix2_1ab h.numel_eq (k 0) (k 1)
  rw [hj]
  unfold part
  congr 1
  funext t
  apply Fin.ext
  match t with
  | ⟨0, _⟩ => show i.val + 1 * 0 = i.val; omega
  | ⟨1, _⟩ => show 0 + 1 * (k 0).val = (k 0).val; omega
  | ⟨2, _⟩ => show 0 + 1 * (k 1).val = (k 1).val; omega

/-- An array is its blocks, -/
theorem owns_slots (X : (⟨3, ![n, a, b]⟩ : Shape).Idx → Elt F e) :
    (owns (d.tc : Thread nD τ) m q X : sProp 𝕄) ⊢ bigSep Finset.univ fun i : Fin n => owns (d.tc : Thread nD τ) (slot m h i) q (part X i) := by
  refine (owns_rects (d.tc : Thread nD τ) m q (fun i : Fin n => slotRect i) (fun _ _ => rfl) slotRect_disjoint slotRect_cover X).trans ?_
  exact Entails.of_eq (congrArg _ (funext fun i => owns_slot d m h q X i))

/-- and its blocks are the array. -/
theorem slots_owns (X : (⟨3, ![n, a, b]⟩ : Shape).Idx → Elt F e) :
    (bigSep Finset.univ fun i : Fin n => owns (d.tc : Thread nD τ) (slot m h i) q (part X i)) ⊢ (owns (d.tc : Thread nD τ) m q X : sProp 𝕄) := by
  haveI : ∀ e, Nonempty (Elt F e) := fun e => inferInstance
  refine (Entails.of_eq (congrArg _ (funext fun i => (owns_slot d m h q X i).symm))).trans ?_
  exact owns_of_rects (d.tc : Thread nD τ) m q (fun i : Fin n => slotRect i) (fun _ _ => rfl) slotRect_disjoint slotRect_cover X

/-- A block spelt by a rectangle's offsets. -/
theorem slot_of_off {off : Fin 3 → ℕ} (hin) (i : Fin n) (ho : off = ![i.val, 0, 0]) (hr) (hsq : (⟨3, ![1, a, b]⟩ : Shape).Squeezes ⟨2, ![a, b]⟩) :
    (m.slice (Rect.unit (s := ⟨3, ![n, a, b]⟩) off (⟨3, ![1, a, b]⟩ : Shape).size hin) hr).squeeze ⟨2, ![a, b]⟩ hsq = slot m h i := by
  subst ho; rfl

end Slots

/-- Pieces dealt out. Each device `d` holds a piece for every `i`; numbered as `d` sees them (`σ d`), and piece `k` handed to the
    device that `ρ k` takes to `d`, they are what every device is given. -/
theorem deal {n K : ℕ} (σ : Dev nD → Fin K ≃ Fin n) (ρ : Fin K → Dev nD ≃ Dev nD) (Φ : Dev nD → Fin n → sProp 𝕄) :
    (bigSep Finset.univ fun d => bigSep Finset.univ (Φ d))
      = bigSep Finset.univ fun c => bigSep Finset.univ fun k => Φ (ρ k c) (σ (ρ k c) k) := by
  have h (d : Dev nD) : bigSep Finset.univ (Φ d) = bigSep Finset.univ fun k => Φ d (σ d k) := bigSep_univ_equiv (σ d) (Φ d)
  simp only [h]
  rw [bigSep_univ_comm]
  have h' (k : Fin K) : (bigSep Finset.univ fun d => Φ d (σ d k)) = bigSep Finset.univ fun c => Φ (ρ k c) (σ (ρ k c) k) :=
    bigSep_univ_equiv (ρ k) fun d => Φ d (σ d k)
  simp only [h']
  rw [bigSep_univ_comm]

/-- A buffer held whole at `f` holds `f`. -/
theorem held_agree (ℓ : Loc nD τ sig) (f : Buf (Elt F) ℓ) (st : Phys nD τ sig (Elt F)) :
    iprop((ℓ ↦{fullShare} f) ∗ SI st) ⊢ (iprop(⌜st.mem.mem ℓ = f⌝ ∗ (ℓ ↦{fullShare} f) ∗ SI st) : sProp 𝕄) := by
  have h : iprop((ℓ ↦{fullShare} f) ∗ SI st) ⊢ (⌜st.mem.mem ℓ = f⌝ : sProp 𝕄) := by
    iintro ⟨H, HS⟩
    ihave %h := (SI_pointsTo_agree (st := st) (I := Finset.univ) (q := fullShare) (f := f)) $$ [H HS]
    · isplitl [HS] <;> iassumption
    ipureintro
    exact funext fun i => h i (Finset.mem_univ i)
  iintro ⟨H, HS⟩
  ihave %h' := h $$ [H HS]
  · isplitl [H] <;> iassumption
  isplitr; · ipureintro; exact h'
  isplitl [H] <;> iassumption

end Cert.Exchange

end
-- ==== Proof.Gather.lean ====
/-
# The all-gather: eight blocks, one from each device

Device `c` starts with one block and ends with all eight, block `i` of the result being device `i`'s. It copies its own
block into its slot, sends it to its sibling core and to the same core of the three other chips, and passes each block a
chip sent it on to its sibling. Devices are numbered so that the sibling of `c` is `c` with its last bit changed and the
other chips' devices are `c` with one or both of the upper bits changed (`flip`).
-/
module

public import proofs.«01_k».proof.Proof.Slots
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

set_option maxRecDepth 16384

noncomputable section

namespace Cert.GatherRun

open Cert.KernelIdeal Cert.KernelIdeal.Gen Cert.Exchange
open Idealize.ShloMosaic Idealize.ShloMosaic.TcCoe Idealize.ShloMosaic.ValueIdx
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Ghost nD τ sig) ℕ

/-! ## The devices and the memrefs -/

/-- Device `c` with the bits of `n` changed. -/
def flip (n : Fin 8) : Dev nD ≃ Dev nD where
  toFun c := ⟨c.val ^^^ n.val, by revert c n; decide⟩
  invFun c := ⟨c.val ^^^ n.val, by revert c n; decide⟩
  left_inv := by revert n; decide
  right_inv := by revert n; decide

/-- The device's own block and the stack of eight. -/
abbrev xM : Memref sig .tc .hbm S3360x1024 .bf16 := Memref.whole main_arg0
abbrev oM : Memref sig .tc .hbm S8x3360x1024 .bf16 := Memref.whole main_v1
abbrev slotM (i : Dev nD) : Memref sig .tc .hbm S3360x1024 .bf16 := slot (n := 8) oM squeezes_S1x3360x1024_S3360x1024 i

theorem off1 : ∀ c : Dev nD, k0_off1 c = ![c.val, 0, 0] := by decide +kernel
theorem off2 : ∀ c : Dev nD, k0_off2 c = ![(flip 4 c).val, 0, 0] := by decide +kernel
theorem off3 : ∀ c : Dev nD, k0_off3 c = ![(flip 2 c).val, 0, 0] := by decide +kernel
theorem off4 : ∀ c : Dev nD, k0_off4 c = ![(flip 6 c).val, 0, 0] := by decide +kernel
theorem off5 : ∀ c : Dev nD, k0_off5 c = ![(flip 1 c).val, 0, 0] := by decide +kernel
theorem dev1 : ∀ c : Dev nD, (⟨k0_dev1 c, k0_dev1_lt c⟩ : Dev nD) = flip 1 c := by decide +kernel
theorem dev2 : ∀ c : Dev nD, (⟨k0_dev2 c, k0_dev2_lt c⟩ : Dev nD) = flip 4 c := by decide +kernel
theorem dev3 : ∀ c : Dev nD, (⟨k0_dev3 c, k0_dev3_lt c⟩ : Dev nD) = flip 2 c := by decide +kernel
theorem dev4 : ∀ c : Dev nD, (⟨k0_dev4 c, k0_dev4_lt c⟩ : Dev nD) = flip 6 c := by decide +kernel
theorem dev5 : ∀ c : Dev nD, (⟨k0_dev5 c, k0_dev5_lt c⟩ : Dev nD) = flip 1 c := by decide +kernel
theorem dev6 : ∀ c : Dev nD, (⟨k0_dev6 c, k0_dev6_lt c⟩ : Dev nD) = flip 1 c := by decide +kernel
theorem dev7 : ∀ c : Dev nD, (⟨k0_dev7 c, k0_dev7_lt c⟩ : Dev nD) = flip 1 c := by decide +kernel

theorem flip_back : ∀ (n : Fin 8) (c : Dev nD), flip n (flip n c) = c := by decide
theorem flip_51 : ∀ c : Dev nD, flip 5 (flip 1 c) = flip 4 c := by decide
theorem flip_31 : ∀ c : Dev nD, flip 3 (flip 1 c) = flip 2 c := by decide
theorem flip_71 : ∀ c : Dev nD, flip 7 (flip 1 c) = flip 6 c := by decide

/-! ## The plan -/

section Run

variable (x : Dev nD → S3360x1024.Idx → Elt F .bf16)

/-- The own block is read by five copies at once: a share for each. -/
abbrev sh0 : PosShare TreeShare := fullShare.left
abbrev sh1 : PosShare TreeShare := fullShare.right.left
abbrev sh2 : PosShare TreeShare := fullShare.right.right.left
abbrev sh3 : PosShare TreeShare := fullShare.right.right.right.left
abbrev sh4 : PosShare TreeShare := fullShare.right.right.right.right

/-- A share of the own block, -/
abbrev mine (c : Dev nD) (q : PosShare TreeShare) : sProp 𝕄 := owns (c.tc : Thread nD τ) xM q (x c)
/-- the slot of device `flip n c`, filled, -/
abbrev filled (c : Dev nD) (n : Fin 8) : sProp 𝕄 := owns (c.tc : Thread nD τ) (slotM (flip n c)) fullShare (x (flip n c))
/-- and on device `d` the slot of device `i`, holding anything. -/
abbrev room (d i : Dev nD) : sProp 𝕄 := iprop(∃ Z, owns (d.tc : Thread nD τ) (slotM i) fullShare Z)

/-- What each semaphore hands over when it is waited for. -/
def pay (c : Dev nD) : Fin 15 → sProp 𝕄
  | 0 => mine x c sh1
  | 1 => mine x c sh2
  | 2 => mine x c sh3
  | 3 => mine x c sh4
  | 4 => filled x c 4
  | 5 => filled x c 2
  | 6 => filled x c 6
  | 7 => filled x c 1
  | 8 => filled x c 4
  | 9 => filled x c 2
  | 10 => filled x c 6
  | 11 => filled x c 5
  | 12 => filled x c 3
  | 13 => filled x c 7
  | 14 => iprop(owns (c.tc : Thread nD τ) (slotM c) fullShare (x c) ∗ mine x c sh0)

/-- The device whose copy completes each semaphore, -/
def from_ : Fin 15 → Fin 8 := ![0, 0, 0, 0, 0, 0, 0, 1, 4, 2, 6, 1, 1, 1, 0]
/-- those completed from another device, -/
def far : Finset (Fin 15) := {7, 8, 9, 10, 11, 12, 13}
/-- and the order of the waits. -/
def level : Fin 15 → ℕ := ![0, 0, 0, 0, 0, 0, 0, 2, 1, 1, 1, 2, 2, 2, 0]

abbrev plan : Plan nD τ sig F where
  n := 15
  os := fun k => k
  inj := fun _ _ h => h
  N := (slotM 0).view.dmaCredit
  pos := View.dmaCredit_pos _ (by decide)
  pay := pay x
  storable c k := by unfold pay; fin_cases k <;> infer_instance
  route k := flip (from_ k)
  R := far
  lvl := level

theorem bigSep15 (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ
theorem bigSep8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSepFar (Φ : Fin 15 → sProp 𝕄) : bigSep far Φ = iprop(Φ 7 ∗ Φ 8 ∗ Φ 9 ∗ Φ 10 ∗ Φ 11 ∗ Φ 12 ∗ Φ 13) :=
  bigSep_eq_bigSepL_of_eq [7, 8, 9, 10, 11, 12, 13] (by decide) (by decide) Φ

/-- The device's own slot, seen from a device whose bits of `n` differ. -/
theorem filled_back (c : Dev nD) (n : Fin 8) :
    (owns ((flip n c).tc : Thread nD τ) (slotM c) fullShare (x c) : sProp 𝕄) = filled x (flip n c) n := by
  unfold filled; rw [flip_back]
theorem filled_on (c : Dev nD) {n n' k : Fin 8} (h : flip n (flip n' c) = flip k c) :
    (owns ((flip n' c).tc : Thread nD τ) (slotM (flip k c)) fullShare (x (flip k c)) : sProp 𝕄) = filled x (flip n' c) n := by
  unfold filled; rw [h]

/-- What the body starts from besides the semaphores: the own block, and the room it fills. -/
def B (c : Dev nD) : sProp 𝕄 :=
  iprop(mine x c fullShare ∗ room c c ∗ room (flip 1 c) c ∗ room (flip 4 c) c ∗ room (flip 2 c) c ∗ room (flip 6 c) c
    ∗ room (flip 1 c) (flip 4 c) ∗ room (flip 1 c) (flip 2 c) ∗ room (flip 1 c) (flip 6 c))

/-- All eight blocks. -/
def gathered : S8x3360x1024.Idx → Elt F .bf16 := fun i => x (i 0) (ix2 (i 1) (i 2))

/-- What it ends with: the own block, and all eight. -/
def Y (c : Dev nD) : sProp 𝕄 := iprop(mine x c fullShare ∗ owns (c.tc : Thread nD τ) oM fullShare (gathered x))

theorem mine_split (c : Dev nD) : mine x c fullShare ⊢ (iprop(mine x c sh0 ∗ mine x c sh1 ∗ mine x c sh2 ∗ mine x c sh3 ∗ mine x c sh4) : sProp 𝕄) := by
  iintro H
  ihave H := (owns_halve (c.tc : Thread nD τ) xM _ _ _ (PosShare.mem_left_op_right fullShare) (x c)) $$ H
  icases H with ⟨H0, H⟩
  ihave H := (owns_halve (c.tc : Thread nD τ) xM _ _ _ (PosShare.mem_left_op_right fullShare.right) (x c)) $$ H
  icases H with ⟨H1, H⟩
  ihave H := (owns_halve (c.tc : Thread nD τ) xM _ _ _ (PosShare.mem_left_op_right fullShare.right.right) (x c)) $$ H
  icases H with ⟨H2, H⟩
  ihave H := (owns_halve (c.tc : Thread nD τ) xM _ _ _ (PosShare.mem_left_op_right fullShare.right.right.right) (x c)) $$ H
  icases H with ⟨H3, H4⟩
  isplitl [H0]; · iexact H0
  isplitl [H1]; · iexact H1
  isplitl [H2]; · iexact H2
  isplitl [H3] <;> iassumption

theorem mine_join (c : Dev nD) : (iprop(mine x c sh0 ∗ mine x c sh1 ∗ mine x c sh2 ∗ mine x c sh3 ∗ mine x c sh4) : sProp 𝕄) ⊢ mine x c fullShare := by
  iintro ⟨H0, H1, H2, H3, H4⟩
  iapply (owns_join (c.tc : Thread nD τ) xM _ _ _ (PosShare.mem_left_op_right fullShare) (x c))
  isplitl [H0]; · iexact H0
  iapply (owns_join (c.tc : Thread nD τ) xM _ _ _ (PosShare.mem_left_op_right fullShare.right) (x c))
  isplitl [H1]; · iexact H1
  iapply (owns_join (c.tc : Thread nD τ) xM _ _ _ (PosShare.mem_left_op_right fullShare.right.right) (x c))
  isplitl [H2]; · iexact H2
  iapply (owns_join (c.tc : Thread nD τ) xM _ _ _ (PosShare.mem_left_op_right fullShare.right.right.right) (x c))
  isplitl [H3] <;> iassumption

/-- The slots counted from `c`'s own, and from slot 0. -/
def around (c : Dev nD) : Fin 8 ≃ Dev nD where
  toFun n := flip n c
  invFun d := ⟨c.val ^^^ d.val, by revert c d; decide⟩
  left_inv := by revert c; decide
  right_inv := by revert c; decide

theorem part_gathered (i : Fin 8) : part (gathered x) i = x i :=
  funext fun j => congrArg (x i) (funext fun t => match t with | ⟨0, _⟩ => rfl | ⟨1, _⟩ => rfl)

theorem stack_join (c : Dev nD) : (iprop(filled x c 0 ∗ filled x c 1 ∗ filled x c 2 ∗ filled x c 3 ∗ filled x c 4 ∗ filled x c 5 ∗ filled x c 6 ∗ filled x c 7) : sProp 𝕄)
    ⊢ owns (c.tc : Thread nD τ) oM fullShare (gathered x) := by
  refine (Entails.of_eq (bigSep8 (fun n => filled x c n)).symm).trans ?_
  refine (Entails.of_eq (bigSep_univ_equiv (around c) (fun i : Dev nD => owns (c.tc : Thread nD τ) (slotM i) fullShare (x i))).symm).trans ?_
  refine (Entails.of_eq (congrArg _ (funext fun i => by rw [part_gathered x i]))).trans (slots_owns (n := 8) (a := 3360) (b := 1024) c oM squeezes_S1x3360x1024_S3360x1024 fullShare (gathered x))

theorem filled_self (c : Dev nD) : (owns (c.tc : Thread nD τ) (slotM c) fullShare (x c) : sProp 𝕄) = filled x c 0 := by
  unfold filled; rw [show flip 0 c = c from by revert c; decide]
theorem tok_local (c : Dev nD) (k : Fin 15) (h : from_ k = 0) : ((plan x).tok ((plan x).route k c) k : sProp 𝕄) = (plan x).tok c k := by
  have : (plan x).route k c = c := by show flip (from_ k) c = c; rw [h]; revert c; decide
  rw [this]

abbrev 𝒱₀ : Variants := Variants.none

set_option maxHeartbeats 4000000 in
theorem body (c : Dev nD) :
    iprop((plan x).start c ∗ B x c ∗ (plan x).owing c far)
      ⊢ wp frame (wpE (defs₀ (F := F)) 𝒱₀ (c.tc : Thread nD τ) none) Set.univ
          (cc0_gather_weights (F := F) xM (Memref.isWhole_whole _) oM (Memref.isWhole_whole _) cc0_scratch0 cc0_scratch1 cc0_scratch2)
          (fun _ => iprop((Y x c ∗ (plan x).zeros c) ∗ (plan x).owing c ∅)) := by
  simp only [cc0_gather_weights_eq_skeleton]; unfold cc0_gather_weights_skel
  simp only [k0_part10_eq_skeleton]; unfold k0_part10_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton]
  unfold k0_part9_skel k0_part8_skel k0_part7_skel k0_part6_skel k0_part5_skel k0_part4_skel k0_part3_skel k0_part2_skel k0_part1_skel
  simp only [Prog.lift, Prog.bind_op, Prog.bind_ret, Prog.pure_eq_ret, wp_deviceId]
  unfold Plan.start B
  rw [bigSep15, bigSep15, bigSepFar]
  iintro ⟨⟨#HR, #HL, ⟨Hh0, Hh1, Hh2, Hh3, Hh4, Hh5, Hh6, Hh7, Hh8, Hh9, Hh10, Hh11, Hh12, Hh13, Hh14⟩, ⟨Ht0, Ht1, Ht2, Ht3, Ht4, Ht5, Ht6, Ht7, Ht8, Ht9, Ht10, Ht11, Ht12, Ht13, Ht14⟩, ⟨Hd7, Hd8, Hd9, Hd10, Hd11, Hd12, Hd13⟩⟩, ⟨Hx, Hr0, Hr1, Hr2, Hr3, Hr4, Hr5, Hr6, Hr7⟩, HO⟩
  ihave Hx := (mine_split x c) $$ Hx
  icases Hx with ⟨Hx0, Hx1, Hx2, Hx3, Hx4⟩
  ihave Ht0 := (Entails.of_eq (tok_local x c 0 rfl)) $$ Ht0
  ihave Ht1 := (Entails.of_eq (tok_local x c 1 rfl)) $$ Ht1
  ihave Ht2 := (Entails.of_eq (tok_local x c 2 rfl)) $$ Ht2
  ihave Ht3 := (Entails.of_eq (tok_local x c 3 rfl)) $$ Ht3
  ihave Ht4 := (Entails.of_eq (tok_local x c 4 rfl)) $$ Ht4
  ihave Ht5 := (Entails.of_eq (tok_local x c 5 rfl)) $$ Ht5
  ihave Ht6 := (Entails.of_eq (tok_local x c 6 rfl)) $$ Ht6
  ihave Ht14 := (Entails.of_eq (tok_local x c 14 rfl)) $$ Ht14
  -- the own block into its slot
  iapply ((plan x).copy 𝒱₀ c 14 xM (slotM c) rfl rfl (slot_of_off _ _ _ c (off1 c) _ _) sh0 (x c) rfl (Entails.refl _)) $$ [Hx0 Hr0 Ht14]
  · isplitr; · iexact HR
    isplitl [Hx0]; · iexact Hx0
    isplitl [Hr0]; · iexact Hr0
    iexact Ht14
  iintro Hd14
  -- to the sibling core
  iapply ((plan x).send 𝒱₀ c _ 0 7 (dev1 c) (S := far) (by decide : (7 : Fin 15) ∈ far) xM (slotM c) rfl rfl rfl (slot_of_off _ _ _ c (off1 c) _ _) sh1 (x c) rfl (Entails.refl _) (Entails.of_eq (filled_back x c 1))) $$ [Hx1 Hr1 HO Ht0 Ht7]
  · isplitr; · iexact HR
    isplitl [Hx1]; · iexact Hx1
    isplitl [Hr1]; · iexact Hr1
    isplitl [HO]; · iexact HO
    isplitl [Ht0]; · iexact Ht0
    iexact Ht7
  iintro ⟨Hd0, HO⟩
  -- to the three chips
  iapply ((plan x).send 𝒱₀ c _ 1 8 (dev2 c) (S := (far.erase 7)) (by decide : (8 : Fin 15) ∈ (far.erase 7)) xM (slotM c) rfl rfl rfl (slot_of_off _ _ _ c (off1 c) _ _) sh2 (x c) rfl (Entails.refl _) (Entails.of_eq (filled_back x c 4))) $$ [Hx2 Hr2 HO Ht1 Ht8]
  · isplitr; · iexact HR
    isplitl [Hx2]; · iexact Hx2
    isplitl [Hr2]; · iexact Hr2
    isplitl [HO]; · iexact HO
    isplitl [Ht1]; · iexact Ht1
    iexact Ht8
  iintro ⟨Hd1, HO⟩
  -- to the second
  iapply ((plan x).send 𝒱₀ c _ 2 9 (dev3 c) (S := ((far.erase 7).erase 8)) (by decide : (9 : Fin 15) ∈ ((far.erase 7).erase 8)) xM (slotM c) rfl rfl rfl (slot_of_off _ _ _ c (off1 c) _ _) sh3 (x c) rfl (Entails.refl _) (Entails.of_eq (filled_back x c 2))) $$ [Hx3 Hr3 HO Ht2 Ht9]
  · isplitr; · iexact HR
    isplitl [Hx3]; · iexact Hx3
    isplitl [Hr3]; · iexact Hr3
    isplitl [HO]; · iexact HO
    isplitl [Ht2]; · iexact Ht2
    iexact Ht9
  iintro ⟨Hd2, HO⟩
  -- to the third
  iapply ((plan x).send 𝒱₀ c _ 3 10 (dev4 c) (S := (((far.erase 7).erase 8).erase 9)) (by decide : (10 : Fin 15) ∈ (((far.erase 7).erase 8).erase 9)) xM (slotM c) rfl rfl rfl (slot_of_off _ _ _ c (off1 c) _ _) sh4 (x c) rfl (Entails.refl _) (Entails.of_eq (filled_back x c 6))) $$ [Hx4 Hr4 HO Ht3 Ht10]
  · isplitr; · iexact HR
    isplitl [Hx4]; · iexact Hx4
    isplitl [Hr4]; · iexact Hr4
    isplitl [HO]; · iexact HO
    isplitl [Ht3]; · iexact Ht3
    iexact Ht10
  iintro ⟨Hd3, HO⟩
  iapply ((plan x).wp_wait 𝒱₀ c 8 ((((far.erase 7).erase 8).erase 9).erase 10) (by decide : ∀ k' ∈ ((((far.erase 7).erase 8).erase 9).erase 10), level 8 < level k') (wpE_waitDma2_eq 𝒱₀ (c.tc : Thread nD τ) none Set.univ) rfl rfl) $$ [Hd8 Hh8 HO]
  · isplitr; · iexact HR
    isplitr; · iexact HL
    isplitl [Hd8]; · iexact Hd8
    isplitl [Hh8]; · iexact Hh8
    iexact HO
  iintro ⟨HO, Hz8, Hp8⟩
  ihave Hp8 := (show (plan x).pay c 8 ⊢ filled x c 4 from .rfl) $$ Hp8
  -- what that chip sent, on to the sibling
  iapply ((plan x).send 𝒱₀ c _ 4 11 (dev5 c) (S := ((((far.erase 7).erase 8).erase 9).erase 10)) (by decide : (11 : Fin 15) ∈ ((((far.erase 7).erase 8).erase 9).erase 10)) (slotM (flip 4 c)) (slotM (flip 4 c)) rfl rfl (slot_of_off _ _ _ (flip 4 c) (off2 c) _ _) (slot_of_off _ _ _ (flip 4 c) (off2 c) _ _) fullShare (x (flip 4 c)) rfl (Entails.refl _) (Entails.of_eq (filled_on x c (flip_51 c)))) $$ [Hp8 Hr5 HO Ht4 Ht11]
  · isplitr; · iexact HR
    isplitl [Hp8]; · iexact Hp8
    isplitl [Hr5]; · iexact Hr5
    isplitl [HO]; · iexact HO
    isplitl [Ht4]; · iexact Ht4
    iexact Ht11
  iintro ⟨Hd4, HO⟩
  iapply ((plan x).wp_wait 𝒱₀ c 9 (((((far.erase 7).erase 8).erase 9).erase 10).erase 11) (by decide : ∀ k' ∈ (((((far.erase 7).erase 8).erase 9).erase 10).erase 11), level 9 < level k') (wpE_waitDma2_eq 𝒱₀ (c.tc : Thread nD τ) none Set.univ) rfl rfl) $$ [Hd9 Hh9 HO]
  · isplitr; · iexact HR
    isplitr; · iexact HL
    isplitl [Hd9]; · iexact Hd9
    isplitl [Hh9]; · iexact Hh9
    iexact HO
  iintro ⟨HO, Hz9, Hp9⟩
  ihave Hp9 := (show (plan x).pay c 9 ⊢ filled x c 2 from .rfl) $$ Hp9
  -- what that chip sent, on to the sibling
  iapply ((plan x).send 𝒱₀ c _ 5 12 (dev6 c) (S := (((((far.erase 7).erase 8).erase 9).erase 10).erase 11)) (by decide : (12 : Fin 15) ∈ (((((far.erase 7).erase 8).erase 9).erase 10).erase 11)) (slotM (flip 2 c)) (slotM (flip 2 c)) rfl rfl (slot_of_off _ _ _ (flip 2 c) (off3 c) _ _) (slot_of_off _ _ _ (flip 2 c) (off3 c) _ _) fullShare (x (flip 2 c)) rfl (Entails.refl _) (Entails.of_eq (filled_on x c (flip_31 c)))) $$ [Hp9 Hr6 HO Ht5 Ht12]
  · isplitr; · iexact HR
    isplitl [Hp9]; · iexact Hp9
    isplitl [Hr6]; · iexact Hr6
    isplitl [HO]; · iexact HO
    isplitl [Ht5]; · iexact Ht5
    iexact Ht12
  iintro ⟨Hd5, HO⟩
  iapply ((plan x).wp_wait 𝒱₀ c 10 ((((((far.erase 7).erase 8).erase 9).erase 10).erase 11).erase 12) (by decide : ∀ k' ∈ ((((((far.erase 7).erase 8).erase 9).erase 10).erase 11).erase 12), level 10 < level k') (wpE_waitDma2_eq 𝒱₀ (c.tc : Thread nD τ) none Set.univ) rfl rfl) $$ [Hd10 Hh10 HO]
  · isplitr; · iexact HR
    isplitr; · iexact HL
    isplitl [Hd10]; · iexact Hd10
    isplitl [Hh10]; · iexact Hh10
    iexact HO
  iintro ⟨HO, Hz10, Hp10⟩
  ihave Hp10 := (show (plan x).pay c 10 ⊢ filled x c 6 from .rfl) $$ Hp10
  -- what that chip sent, on to the sibling
  iapply ((plan x).send 𝒱₀ c _ 6 13 (dev7 c) (S := ((((((far.erase 7).erase 8).erase 9).erase 10).erase 11).erase 12)) (by decide : (13 : Fin 15) ∈ ((((((far.erase 7).erase 8).erase 9).erase 10).erase 11).erase 12)) (slotM (flip 6 c)) (slotM (flip 6 c)) rfl rfl (slot_of_off _ _ _ (flip 6 c) (off4 c) _ _) (slot_of_off _ _ _ (flip 6 c) (off4 c) _ _) fullShare (x (flip 6 c)) rfl (Entails.refl _) (Entails.of_eq (filled_on x c (flip_71 c)))) $$ [Hp10 Hr7 HO Ht6 Ht13]
  · isplitr; · iexact HR
    isplitl [Hp10]; · iexact Hp10
    isplitl [Hr7]; · iexact Hr7
    isplitl [HO]; · iexact HO
    isplitl [Ht6]; · iexact Ht6
    iexact Ht13
  iintro ⟨Hd6, HO⟩
  iapply ((plan x).wp_wait 𝒱₀ c 7 (((((((far.erase 7).erase 8).erase 9).erase 10).erase 11).erase 12).erase 13) (by decide : ∀ k' ∈ (((((((far.erase 7).erase 8).erase 9).erase 10).erase 11).erase 12).erase 13), level 7 < level k') (wpE_waitDma2_eq 𝒱₀ (c.tc : Thread nD τ) none Set.univ) rfl rfl) $$ [Hd7 Hh7 HO]
  · isplitr; · iexact HR
    isplitr; · iexact HL
    isplitl [Hd7]; · iexact Hd7
    isplitl [Hh7]; · iexact Hh7
    iexact HO
  iintro ⟨HO, Hz7, Hp7⟩
  ihave Hp7 := (show (plan x).pay c 7 ⊢ filled x c 1 from .rfl) $$ Hp7
  iapply ((plan x).wp_wait 𝒱₀ c 11 (((((((far.erase 7).erase 8).erase 9).erase 10).erase 11).erase 12).erase 13) (by decide : ∀ k' ∈ (((((((far.erase 7).erase 8).erase 9).erase 10).erase 11).erase 12).erase 13), level 11 < level k') (wpE_waitDma2_eq 𝒱₀ (c.tc : Thread nD τ) none Set.univ) rfl rfl) $$ [Hd11 Hh11 HO]
  · isplitr; · iexact HR
    isplitr; · iexact HL
    isplitl [Hd11]; · iexact Hd11
    isplitl [Hh11]; · iexact Hh11
    iexact HO
  iintro ⟨HO, Hz11, Hp11⟩
  ihave Hp11 := (show (plan x).pay c 11 ⊢ filled x c 5 from .rfl) $$ Hp11
  iapply ((plan x).wp_wait 𝒱₀ c 12 (((((((far.erase 7).erase 8).erase 9).erase 10).erase 11).erase 12).erase 13) (by decide : ∀ k' ∈ (((((((far.erase 7).erase 8).erase 9).erase 10).erase 11).erase 12).erase 13), level 12 < level k') (wpE_waitDma2_eq 𝒱₀ (c.tc : Thread nD τ) none Set.univ) rfl rfl) $$ [Hd12 Hh12 HO]
  · isplitr; · iexact HR
    isplitr; · iexact HL
    isplitl [Hd12]; · iexact Hd12
    isplitl [Hh12]; · iexact Hh12
    iexact HO
  iintro ⟨HO, Hz12, Hp12⟩
  ihave Hp12 := (show (plan x).pay c 12 ⊢ filled x c 3 from .rfl) $$ Hp12
  iapply ((plan x).wp_wait 𝒱₀ c 13 (((((((far.erase 7).erase 8).erase 9).erase 10).erase 11).erase 12).erase 13) (by decide : ∀ k' ∈ (((((((far.erase 7).erase 8).erase 9).erase 10).erase 11).erase 12).erase 13), level 13 < level k') (wpE_waitDma2_eq 𝒱₀ (c.tc : Thread nD τ) none Set.univ) rfl rfl) $$ [Hd13 Hh13 HO]
  · isplitr; · iexact HR
    isplitr; · iexact HL
    isplitl [Hd13]; · iexact Hd13
    isplitl [Hh13]; · iexact Hh13
    iexact HO
  iintro ⟨HO, Hz13, Hp13⟩
  ihave Hp13 := (show (plan x).pay c 13 ⊢ filled x c 7 from .rfl) $$ Hp13
  iapply ((plan x).wp_wait 𝒱₀ c 0 (((((((far.erase 7).erase 8).erase 9).erase 10).erase 11).erase 12).erase 13) (by decide : ∀ k' ∈ (((((((far.erase 7).erase 8).erase 9).erase 10).erase 11).erase 12).erase 13), level 0 < level k') (wpE_waitDma2_eq 𝒱₀ (c.tc : Thread nD τ) none Set.univ) rfl rfl) $$ [Hd0 Hh0 HO]
  · isplitr; · iexact HR
    isplitr; · iexact HL
    isplitl [Hd0]; · iexact Hd0
    isplitl [Hh0]; · iexact Hh0
    iexact HO
  iintro ⟨HO, Hz0, Hp0⟩
  ihave Hp0 := (show (plan x).pay c 0 ⊢ mine x c sh1 from .rfl) $$ Hp0
  iapply ((plan x).wp_wait 𝒱₀ c 1 (((((((far.erase 7).erase 8).erase 9).erase 10).erase 11).erase 12).erase 13) (by decide : ∀ k' ∈ (((((((far.erase 7).erase 8).erase 9).erase 10).erase 11).erase 12).erase 13), level 1 < level k') (wpE_waitDma2_eq 𝒱₀ (c.tc : Thread nD τ) none Set.univ) rfl rfl) $$ [Hd1 Hh1 HO]
  · isplitr; · iexact HR
    isplitr; · iexact HL
    isplitl [Hd1]; · iexact Hd1
    isplitl [Hh1]; · iexact Hh1
    iexact HO
  iintro ⟨HO, Hz1, Hp1⟩
  ihave Hp1 := (show (plan x).pay c 1 ⊢ mine x c sh2 from .rfl) $$ Hp1
  iapply ((plan x).wp_wait 𝒱₀ c 2 (((((((far.erase 7).erase 8).erase 9).erase 10).erase 11).erase 12).erase 13) (by decide : ∀ k' ∈ (((((((far.erase 7).erase 8).erase 9).erase 10).erase 11).erase 12).erase 13), level 2 < level k') (wpE_waitDma2_eq 𝒱₀ (c.tc : Thread nD τ) none Set.univ) rfl rfl) $$ [Hd2 Hh2 HO]
  · isplitr; · iexact HR
    isplitr; · iexact HL
    isplitl [Hd2]; · iexact Hd2
    isplitl [Hh2]; · iexact Hh2
    iexact HO
  iintro ⟨HO, Hz2, Hp2⟩
  ihave Hp2 := (show (plan x).pay c 2 ⊢ mine x c sh3 from .rfl) $$ Hp2
  iapply ((plan x).wp_wait 𝒱₀ c 3 (((((((far.erase 7).erase 8).erase 9).erase 10).erase 11).erase 12).erase 13) (by decide : ∀ k' ∈ (((((((far.erase 7).erase 8).erase 9).erase 10).erase 11).erase 12).erase 13), level 3 < level k') (wpE_waitDma2_eq 𝒱₀ (c.tc : Thread nD τ) none Set.univ) rfl rfl) $$ [Hd3 Hh3 HO]
  · isplitr; · iexact HR
    isplitr; · iexact HL
    isplitl [Hd3]; · iexact Hd3
    isplitl [Hh3]; · iexact Hh3
    iexact HO
  iintro ⟨HO, Hz3, Hp3⟩
  ihave Hp3 := (show (plan x).pay c 3 ⊢ mine x c sh4 from .rfl) $$ Hp3
  iapply ((plan x).wp_wait 𝒱₀ c 4 (((((((far.erase 7).erase 8).erase 9).erase 10).erase 11).erase 12).erase 13) (by decide : ∀ k' ∈ (((((((far.erase 7).erase 8).erase 9).erase 10).erase 11).erase 12).erase 13), level 4 < level k') (wpE_waitDma2_eq 𝒱₀ (c.tc : Thread nD τ) none Set.univ) rfl rfl) $$ [Hd4 Hh4 HO]
  · isplitr; · iexact HR
    isplitr; · iexact HL
    isplitl [Hd4]; · iexact Hd4
    isplitl [Hh4]; · iexact Hh4
    iexact HO
  iintro ⟨HO, Hz4, Hp4⟩
  ihave Hp4 := (show (plan x).pay c 4 ⊢ filled x c 4 from .rfl) $$ Hp4
  iapply ((plan x).wp_wait 𝒱₀ c 5 (((((((far.erase 7).erase 8).erase 9).erase 10).erase 11).erase 12).erase 13) (by decide : ∀ k' ∈ (((((((far.erase 7).erase 8).erase 9).erase 10).erase 11).erase 12).erase 13), level 5 < level k') (wpE_waitDma2_eq 𝒱₀ (c.tc : Thread nD τ) none Set.univ) rfl rfl) $$ [Hd5 Hh5 HO]
  · isplitr; · iexact HR
    isplitr; · iexact HL
    isplitl [Hd5]; · iexact Hd5
    isplitl [Hh5]; · iexact Hh5
    iexact HO
  iintro ⟨HO, Hz5, Hp5⟩
  ihave Hp5 := (show (plan x).pay c 5 ⊢ filled x c 2 from .rfl) $$ Hp5
  iapply ((plan x).wp_wait 𝒱₀ c 6 (((((((far.erase 7).erase 8).erase 9).erase 10).erase 11).erase 12).erase 13) (by decide : ∀ k' ∈ (((((((far.erase 7).erase 8).erase 9).erase 10).erase 11).erase 12).erase 13), level 6 < level k') (wpE_waitDma2_eq 𝒱₀ (c.tc : Thread nD τ) none Set.univ) rfl rfl) $$ [Hd6 Hh6 HO]
  · isplitr; · iexact HR
    isplitr; · iexact HL
    isplitl [Hd6]; · iexact Hd6
    isplitl [Hh6]; · iexact Hh6
    iexact HO
  iintro ⟨HO, Hz6, Hp6⟩
  ihave Hp6 := (show (plan x).pay c 6 ⊢ filled x c 6 from .rfl) $$ Hp6
  iapply ((plan x).wp_wait 𝒱₀ c 14 (((((((far.erase 7).erase 8).erase 9).erase 10).erase 11).erase 12).erase 13) (by decide : ∀ k' ∈ (((((((far.erase 7).erase 8).erase 9).erase 10).erase 11).erase 12).erase 13), level 14 < level k') (wpE_waitDma2_eq 𝒱₀ (c.tc : Thread nD τ) none Set.univ) rfl rfl) $$ [Hd14 Hh14 HO]
  · isplitr; · iexact HR
    isplitr; · iexact HL
    isplitl [Hd14]; · iexact Hd14
    isplitl [Hh14]; · iexact Hh14
    iexact HO
  iintro ⟨HO, Hz14, Hp14⟩
  ihave Hp14 := (show (plan x).pay c 14 ⊢ iprop(owns (c.tc : Thread nD τ) (slotM c) fullShare (x c) ∗ mine x c sh0) from .rfl) $$ Hp14
  rw [wp_ret]; imodintro
  isplitr [HO]
  · isplitr [Hz0 Hz1 Hz2 Hz3 Hz4 Hz5 Hz6 Hz7 Hz8 Hz9 Hz10 Hz11 Hz12 Hz13 Hz14]
    · unfold Y
      icases Hp14 with ⟨Hs, Hp14⟩
      isplitl [Hp14 Hp0 Hp1 Hp2 Hp3]
      · iapply (mine_join x c)
        isplitl [Hp14]; · iexact Hp14
        isplitl [Hp0]; · iexact Hp0
        isplitl [Hp1]; · iexact Hp1
        isplitl [Hp2]; · iexact Hp2
        iexact Hp3
      iapply (stack_join x c)
      isplitl [Hs]; · iapply (Entails.of_eq (filled_self x c)); iexact Hs
      isplitl [Hp7]; · iexact Hp7
      isplitl [Hp5]; · iexact Hp5
      isplitl [Hp12]; · iexact Hp12
      isplitl [Hp4]; · iexact Hp4
      isplitl [Hp11]; · iexact Hp11
      isplitl [Hp6]; · iexact Hp6
      iexact Hp13
    unfold Plan.zeros
    rw [bigSep15]
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    iexact Hz14
  iapply (Entails.of_eq (congrArg ((plan x).owing c) (by decide : (((((((far.erase 7).erase 8).erase 9).erase 10).erase 11).erase 12).erase 13) = ∅))); iexact HO

end Run

end Cert.GatherRun

end
-- ==== Proof.GatherRun.lean ====
/-
# The all-gather's run

From any memory, every device ends with all eight blocks (`run_main`): the arrays dealt out so that each device holds the
room that its copies fill (`dealt`), the body under them (`Gather.body`), and the arrays read back at the end.
-/
module

public import proofs.«01_k».proof.Proof.Gather

@[expose] public section

set_option maxRecDepth 16384

noncomputable section

namespace Cert.GatherRun

open Cert.KernelIdeal Cert.KernelIdeal.Gen Cert.Exchange
open Idealize.ShloMosaic Idealize.ShloMosaic.TcCoe Idealize.ShloMosaic.ValueIdx
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Ghost nD τ sig) ℕ

/-! ## Dealing the arrays out -/

/-- The slot's place in the result, the device whose result it is, and the block it is for, as device `c` sees them. -/
def rcv : Fin 8 → Fin 8 := ![0, 1, 4, 2, 6, 5, 3, 7]
def dv : Fin 8 → Fin 8 := ![0, 1, 4, 2, 6, 1, 1, 1]
def sl : Fin 8 → Fin 8 := ![0, 0, 0, 0, 0, 4, 2, 6]
theorem rcv_dv : ∀ (k : Fin 8) (c : Dev nD), flip (rcv k) (flip (dv k) c) = flip (sl k) c := by decide
theorem flip_zero : ∀ c : Dev nD, flip 0 c = c := by decide

theorem dealt (x : Dev nD → S3360x1024.Idx → Elt F .bf16) (z : Dev nD → S8x3360x1024.Idx → Elt F .bf16) :
    (bigSep Finset.univ fun c : Dev nD => iprop(mine x c fullShare ∗ owns (c.tc : Thread nD τ) oM fullShare (z c)) : sProp 𝕄)
      ⊢ bigSep Finset.univ (B x) := by
  have hrooms : (bigSep Finset.univ fun c : Dev nD => owns (c.tc : Thread nD τ) oM fullShare (z c) : sProp 𝕄)
      ⊢ bigSep Finset.univ fun c : Dev nD => bigSep Finset.univ fun k : Fin 8 => room (flip (dv k) c) (flip (sl k) c) := by
    have hroom (d i : Dev nD) (Z : S3360x1024.Idx → Elt F .bf16) : (owns (d.tc : Thread nD τ) (slotM i) fullShare Z : sProp 𝕄) ⊢ room d i := by
      iintro H; iexists Z; iexact H
    have h1 (d : Dev nD) : (owns (d.tc : Thread nD τ) oM fullShare (z d) : sProp 𝕄) ⊢ bigSep Finset.univ fun i : Fin 8 => room d i :=
      (owns_slots (n := 8) (a := 3360) (b := 1024) d oM squeezes_S1x3360x1024_S3360x1024 fullShare (z d)).trans
        (show (_ : sProp 𝕄) ⊢ _ from bigSep_mono fun i _ => hroom d i (part (z d) i))
    refine (bigSep_mono fun d _ => h1 d).trans (show (_ : sProp 𝕄) ⊢ _ from ?_)
    refine (Entails.of_eq (deal (F := F) (nD := nD) (τ := τ) (sig := sig) (n := 8) (K := 8)
      (fun d => (Equiv.ofBijective rcv (by decide)).trans (around d)) (fun k => flip (dv k)) (fun d i => room d i))).trans ?_
    refine Entails.of_eq (bigSep_congr fun c _ => bigSep_congr fun k _ => ?_)
    exact congrArg (room (flip (dv k) c)) (rcv_dv k c)
  rw [bigSep_sep']
  iintro ⟨Hm, Hz⟩
  ihave Hr := hrooms $$ Hz
  ihave H := (Entails.of_eq (bigSep_sep' Finset.univ (fun c : Dev nD => mine x c fullShare)
    (fun c : Dev nD => bigSep Finset.univ fun k : Fin 8 => (room (flip (dv k) c) (flip (sl k) c) : sProp 𝕄))).symm) $$ [Hm Hr]
  · isplitl [Hm] <;> iassumption
  iapply (show (_ : sProp 𝕄) ⊢ _ from bigSep_mono fun c _ => ?_); rotate_left
  · iexact H
  have h : iprop(mine x c fullShare ∗ bigSep Finset.univ fun k : Fin 8 => (room (flip (dv k) c) (flip (sl k) c) : sProp 𝕄)) = B x c := by
    rw [bigSep8]
    show iprop(mine x c fullShare ∗ room (flip 0 c) (flip 0 c) ∗ room (flip 1 c) (flip 0 c) ∗ room (flip 4 c) (flip 0 c) ∗ room (flip 2 c) (flip 0 c)
      ∗ room (flip 6 c) (flip 0 c) ∗ room (flip 1 c) (flip 4 c) ∗ room (flip 1 c) (flip 2 c) ∗ room (flip 1 c) (flip 6 c)) = B x c
    rw [flip_zero]; rfl
  rw [h]; exact BI.Entails.refl _

/-! ## The run -/

/-- The run of the body, from the semaphores and the arrays dealt out to the arrays filled. -/
def dats (x : Dev nD → S3360x1024.Idx → Elt F .bf16) (_ : Fin 1) (c : Dev nD) : Dat τ (Elt F) Unit ℕ (Ghost nD τ sig) ℕ cfg0 c where
  A w := w.elim0
  after w _ := w.elim0
  Φ t := match t with
    | ⟨0, _⟩ => iprop((plan x).start c ∗ B x c)
    | ⟨_ + 1, _⟩ => iprop(Y x c ∗ (plan x).zeros c)
  q _ := fullShare
  owed t := match t with
    | ⟨0, _⟩ => (plan x).owed c far
    | ⟨_ + 1, _⟩ => 0

/-- The call stages no window. -/
theorem bigSep_W (Φ : Fin cfg0.W → sProp 𝕄) : bigSep Finset.univ Φ = BI.emp := by
  rw [show (Finset.univ : Finset (Fin cfg0.W)) = ∅ from rfl, BI.bigSep_empty]

theorem body_obligation (x : Dev nD → S3360x1024.Idx → Elt F .bf16) (c : Dev nD) :
    BodyObligation (dats x 0 c) (defs₀ (F := F)) 𝒱₀ () Set.univ := fun t => by
  rw [fin_N0 t, bigSep_W, bigSep_W]
  show iprop((iprop((plan x).start c ∗ B x c)) ∗ (dats x 0 c).owesAt () t0_0.castSucc ∗ BI.emp) ⊢ wp frame (wpE (defs₀ (F := F)) 𝒱₀ (c.tc : Thread nD τ) none) Set.univ
    (cc0_gather_weights (F := F) xM (Memref.isWhole_whole _) oM (Memref.isWhole_whole _) cc0_scratch0 cc0_scratch1 cc0_scratch2)
    (fun _ => iprop((iprop(Y x c ∗ (plan x).zeros c)) ∗ (dats x 0 c).owesAt () t0_0.succ ∗ BI.emp))
  have hpre : (dats x 0 c).owesAt () t0_0.castSucc ⊢ (plan x).owing c far := by
    unfold Dat.owesAt Pipeline.owesWithin Plan.owing
    iintro ⟨%W, %hW, HO⟩
    iexists W; iexact HO
  have hpost : (plan x).owing c ∅ ⊢ (dats x 0 c).owesAt () t0_0.succ := by
    unfold Dat.owesAt Pipeline.owesWithin Plan.owing
    iintro ⟨%W, HO⟩
    iexists W
    isplitr; · ipureintro; exact fun _ _ => Or.inl trivial
    iexact HO
  iintro ⟨⟨Hs, HB⟩, HO, -⟩
  ihave HO := hpre $$ HO
  iapply (wp_wand frame _ _) $$ [Hs HB HO]
  · iapply (body x c)
    isplitl [Hs]; · iexact Hs
    isplitl [HB] <;> iassumption
  iintro %_ ⟨HY, HO⟩
  isplitl [HY]; · iexact HY
  isplitl [HO]; · iapply hpost; iexact HO
  iempintro

theorem ownSemFacts : Pipeline.OwnSemFacts cfg0.spec fun k : Fin 15 => SemLoc.dma (k : DmaSem sig) := by decide

/-- A device's arrays: its own block, and what the result's array held. -/
theorem arrays (m : (ℓ : Loc nD τ sig) → Buf (Elt F) ℓ) (c : Dev nD) :
    (unscopedBufs c (fun b => m ((c.tc : Thread nD τ).loc b)) : sProp 𝕄)
      = iprop(mine (fun c => m ((c.tc : Thread nD τ).loc main_arg0)) c fullShare ∗ owns (c.tc : Thread nD τ) oM fullShare (m ((c.tc : Thread nD τ).loc main_v1))) := by
  unfold mine
  rw [owns_whole, owns_whole]
  unfold unscopedBufs
  exact bigSep_eq_bigSepL_of_eq [main_arg0, main_v1] (by decide) (by decide) _

/-- THE RUN: every device ends with all eight blocks, its own unchanged, and every counter at zero. -/
theorem run_main (m : (ℓ : Loc nD τ sig) → Buf (Elt F) ℓ) (g : Dev nD → PrngReg) :
    θ_run (defs (F := F)) (onTc (τ := τ) (main (F := F))) ⟨m, fun _ => 0, g⟩ fun r =>
      (∀ c : Dev nD, r.2.mem ((c.tc : Thread nD τ).loc main_v1) = gathered (fun d => m ((d.tc : Thread nD τ).loc main_arg0))
        ∧ r.2.mem ((c.tc : Thread nD τ).loc main_arg0) = m ((c.tc : Thread nD τ).loc main_arg0))
      ∧ r.2.sem = fun _ => 0 := by
  let x : Dev nD → S3360x1024.Idx → Elt F .bf16 := fun d => m ((d.tc : Thread nD τ).loc main_arg0)
  refine (θ_run (defs (F := F)) _ _).mono (fun r h => ⟨h.1, sem_eq_zero_of_scoped (by decide) h.2⟩)
    ((plan x).run pcfgs (fun _ p => (cfgs p).toPCfg_adm) cellOf_inj (dats x) defs₀ 𝒱₀ 0 winFacts0.to₀ ownSemFacts
      (inferInstanceAs (IsEmpty (Fin 0))) (inferInstanceAs (IsEmpty (Fin 0))) m g (fun _ _ => pure ⟨⟩) main (fun _ => rfl) (body_obligation x) (B x) (Y x)
      ?_ (fun c => ?_) (fun c => ?_) (fun _ => rfl) (fun _ => rfl) (fun _ => rfl) (Y x) (fun c => ?_)
      (fun c mem => mem.mem ((c.tc : Thread nD τ).loc main_v1) = gathered x ∧ mem.mem ((c.tc : Thread nD τ).loc main_arg0) = x c) (fun c s' => ?_))
  · exact (Entails.of_eq (bigSep_congr fun c _ => arrays m c)).trans (dealt x fun c => m ((c.tc : Thread nD τ).loc main_v1))
  · rw [show (dats x 0 c).Φ 0 = iprop((plan x).start c ∗ B x c) from rfl]
    iintro ⟨H, -⟩; iexact H
  · rw [show (dats x 0 c).Φ (Fin.last cfg0.N) = iprop(Y x c ∗ (plan x).zeros c) from rfl]
    iintro ⟨HY, Hz⟩
    isplitl [HY]; · iexact HY
    isplitl [Hz]; · iexact Hz
    iapply (Entails.of_eq (scopedRest0_eq c).symm); iempintro
  · rw [Prog.pure_eq_ret, wp_ret]
    iintro ⟨H, -, -⟩
    imodintro
    iexact H
  · unfold Y mine
    rw [owns_whole, owns_whole]
    iintro ⟨⟨Hx, Ho⟩, HS⟩
    ihave H := (held_agree _ _ s') $$ [Hx HS]
    · isplitl [Hx] <;> iassumption
    icases H with ⟨%hx, -, HS⟩
    ihave H := (held_agree _ _ s') $$ [Ho HS]
    · isplitl [Ho] <;> iassumption
    icases H with ⟨%ho, -, HS⟩
    imodintro
    isplitr; · ipureintro; exact ⟨ho, hx⟩
    iexact HS

end Cert.GatherRun

end
-- ==== Proof.GatherClaims.lean ====
/-
# The all-gather's claims

The reference only reshapes: row `3360 i + r` of the whole array is row `r` of block `i`. Device `i` starts with that block,
so the eight blocks that every device ends with are the reshaped array.
-/
module

public import proofs.«01_k».proof.Defs
public import proofs.«01_k».proof.Proof.GatherRun
public import proofs.«01_k».proof.Proof.Gen.Kernel
public import proofs.«01_k».proof.Proof.Gen.Reference.Run
public import proofs.«01_k».proof.Proof.Gen.ReferenceIdeal.Run

@[expose] public section

noncomputable section

namespace Cert.GatherRun

open Idealize.ShloMosaic Idealize.ShloMosaic.TcCoe Idealize.ShloMosaic.ValueIdx Idealize.SL.Sem

/-- Gathering the blocks of an array is reshaping the array. -/
theorem gathered_blocks {F : FTy → Type} [FloatOps F] (X : ReferenceIdeal.S26880x1024.Idx → Elt F .bf16)
    (h : ReferenceIdeal.S26880x1024.ShapeCasts ReferenceIdeal.S8x3360x1024) :
    gathered (fun c => Layout.block ⟨2, ![3360, 1024]⟩ ⟨2, ![26880, 1024]⟩ 0 8 c X) = shapeCast ReferenceIdeal.S8x3360x1024 X h := by
  funext i
  refine (shapeCast_apply X h i _ ?_).symm
  rw [Shape.rowMajor_val_three, Shape.rowMajor_val_two]
  rfl

theorem frame_kernel : quiescent_Kernel := fun m g _ =>
  (θ_run _ _ _).mono (fun _ h => ⟨fun c => (h.1 c).2, h.2⟩) (run_main (F := Bits) m g)

theorem frame_ideal : quiescent_KernelIdeal := fun m g _ =>
  (θ_run _ _ _).mono (fun _ h => ⟨fun c => (h.1 c).2, h.2⟩) (run_main (F := Ideal) m g)

theorem frame_reference : quiescent_Reference := fun m g _ =>
  (θ_run _ _ _).mono (fun r h => ⟨fun c => (h c).2, sem_eq_zero_of_no_sems (by decide) r.2⟩)
    (Reference.Value.run (F := Bits) m g)

theorem frame_reference_ideal : quiescent_ReferenceIdeal := fun m g _ =>
  (θ_run _ _ _).mono (fun r h => ⟨fun c => (h c).2, sem_eq_zero_of_no_sems (by decide) r.2⟩)
    (ReferenceIdeal.Value.run (F := Ideal) m g)

/-- Over the reals every device ends with the reference's array, -/
theorem algebraic : algebraic_KernelIdeal_ReferenceIdeal := fun m g m' g' _ hm =>
  ⟨_, (θ_run _ _ _).mono
      (fun _ h c => ⟨(h.1 c).1.trans ((congrArg gathered (funext hm)).trans (gathered_blocks _ _)), (h.1 c).2⟩) (run_main (F := Ideal) m g),
    (θ_run _ _ _).mono (fun _ h => h 0) (ReferenceIdeal.Value.run (F := Ideal) m' g')⟩

/-- and with the same words. -/
theorem bitexact : bitexact_Kernel_Reference := fun m g m' g' _ hm =>
  ⟨_, (θ_run _ _ _).mono
      (fun _ h c => ⟨(h.1 c).1.trans ((congrArg gathered (funext hm)).trans (gathered_blocks _ _)), (h.1 c).2⟩) (run_main (F := Bits) m g),
    (θ_run _ _ _).mono (fun _ h => h 0) (Reference.Value.run (F := Bits) m' g')⟩

end Cert.GatherRun

end
-- ==== Proof.Adam.lean ====
/-
# One step of AdamW, entry by entry

The step takes a weight `w`, its gradient `g` and the running averages `m` of the gradient and `v` of its square. It gives the
new averages (`newMean`, `newSquare`) and the change of the weight (`change`). The last three theorems read the reference's
results as these, for an array of any shape.
-/
module

public import Idealize.ShloMosaic.Lib.StableHlo.Run
public import Idealize.ShloMosaic.PureOps.Ideal

@[expose] public section

noncomputable section

namespace Cert.Adam

open Idealize.ShloMosaic

variable {F : FTy → Type} [FloatOps F]

/-- `0.9 m + 0.1 g`, -/
def newMean (g m : Elt F .f32) : Elt F .f32 :=
  FloatOps.addf (FloatOps.mulf (Scalar.ofBits .f32 0x3F666666#32) m) (FloatOps.mulf (Scalar.ofBits .f32 0x3DCCCCCD#32) g)

/-- `0.999 v + 0.001 g²`, -/
def newSquare (g v : Elt F .f32) : Elt F .f32 :=
  FloatOps.addf (FloatOps.mulf (Scalar.ofBits .f32 0x3F7FBE77#32) v)
    (FloatOps.mulf (Scalar.ofBits .f32 0x3A83126F#32) (FloatOps.mulf g g))

/-- and `-0.001 (m̂ / (√v̂ + 10⁻⁸) + 0.01 w)` for the new averages over `1 - 0.9¹⁰` and `1 - 0.999¹⁰`. -/
def change (w g m v : Elt F .f32) : Elt F .f32 :=
  FloatOps.mulf (Scalar.ofBits .f32 0xBA83126F#32) (FloatOps.addf
    (FloatOps.divf (FloatOps.divf (newMean g m) (Scalar.ofBits .f32 0x3F26BD02#32))
      (FloatOps.addf (FloatOps.sqrt (FloatOps.divf (newSquare g v) (Scalar.ofBits .f32 0x3C231ACC#32))) (Scalar.ofBits .f32 0x322BCC77#32)))
    (FloatOps.mulf (Scalar.ofBits .f32 0x3C23D70A#32) w))

section Reference

variable {o s : Shape} (d : Fin o.rank → Fin s.rank) (h : o.BroadcastsInDim s d)

/-- A constant for every entry of an array, as the reference writes it. -/
def every (b : BitVec 32) : FVec F s .f32 := broadcastInDim s d h (constant o .f32 b)

/-- The reference's new average of the gradient, -/
theorem mean_ref (g m : FVec F s .f32) :
    addf (mulf (every d h 0x3F666666#32) m) (mulf (every d h 0x3DCCCCCD#32) g) = fun i => newMean (g i) (m i) := rfl

/-- of its square, -/
theorem square_ref (g v : FVec F s .f32) :
    addf (mulf (every d h 0x3F7FBE77#32) v) (mulf (every d h 0x3A83126F#32) (mulf g g)) = fun i => newSquare (g i) (v i) := rfl

/-- and its change of the weight, over the reals, where the two kinds of quotient and of root are one. -/
theorem change_ref (w g m v : FVec Ideal s .f32) :
    mulf (every d h 0xBA83126F#32) (addf
      (Host.divf (Host.divf (addf (mulf (every d h 0x3F666666#32) m) (mulf (every d h 0x3DCCCCCD#32) g)) (every d h 0x3F26BD02#32))
        (addf (Host.sqrt (Host.divf (addf (mulf (every d h 0x3F7FBE77#32) v) (mulf (every d h 0x3A83126F#32) (mulf g g)))
          (every d h 0x3C231ACC#32))) (every d h 0x322BCC77#32)))
      (mulf (every d h 0x3C23D70A#32) w)) = fun i => change (F := Ideal) (w i) (g i) (m i) (v i) := rfl

/-- The reference's three results, on arguments that are equal to the kernel's. -/
theorem results_ref {w g m v w' g' m' v' x y z : FVec Ideal s .f32} {rest : Prop} (e : w' = w ∧ g' = g ∧ m' = m ∧ v' = v)
    (r : x = mulf (every d h 0xBA83126F#32) (addf
        (Host.divf (Host.divf (addf (mulf (every d h 0x3F666666#32) m') (mulf (every d h 0x3DCCCCCD#32) g')) (every d h 0x3F26BD02#32))
          (addf (Host.sqrt (Host.divf (addf (mulf (every d h 0x3F7FBE77#32) v') (mulf (every d h 0x3A83126F#32) (mulf g' g')))
            (every d h 0x3C231ACC#32))) (every d h 0x322BCC77#32)))
        (mulf (every d h 0x3C23D70A#32) w'))
      ∧ y = addf (mulf (every d h 0x3F666666#32) m') (mulf (every d h 0x3DCCCCCD#32) g')
      ∧ z = addf (mulf (every d h 0x3F7FBE77#32) v') (mulf (every d h 0x3A83126F#32) (mulf g' g')) ∧ rest) :
    (x = fun i => change (F := Ideal) (w i) (g i) (m i) (v i)) ∧ (y = fun i => newMean (F := Ideal) (g i) (m i))
      ∧ (z = fun i => newSquare (F := Ideal) (g i) (v i)) ∧ rest := by
  obtain ⟨rfl, rfl, rfl, rfl⟩ := e
  exact ⟨r.1.trans (change_ref ..), r.2.1.trans (mean_ref ..), r.2.2.1.trans (square_ref ..), r.2.2.2⟩

end Reference

end Cert.Adam

end
-- ==== Proof.Updates.lean ====
/-
# The weight updates

Each call of AdamW takes the device's shard of a weight in blocks of rows. Its three results are, entry by entry, one step of
AdamW on its four arguments, and so are the reference's.
-/
module

public import proofs.«01_k».proof.Defs
public import proofs.«01_k».proof.Proof.Adam
public import proofs.«01_k».proof.Proof.Gen.UpdateIn.Frame
public import proofs.«01_k».proof.Proof.Gen.UpdateInIdeal.Value
public import proofs.«01_k».proof.Proof.Gen.UpdateInReferenceIdeal.Run
public import proofs.«01_k».proof.Proof.Gen.UpdateOut.Frame
public import proofs.«01_k».proof.Proof.Gen.UpdateOutIdeal.Value
public import proofs.«01_k».proof.Proof.Gen.UpdateOutReferenceIdeal.Run
public import proofs.«01_k».proof.Proof.Gen.UpdateQkv.Frame
public import proofs.«01_k».proof.Proof.Gen.UpdateQkvIdeal.Value
public import proofs.«01_k».proof.Proof.Gen.UpdateQkvReferenceIdeal.Run
public import proofs.«01_k».proof.Proof.Gen.UpdateCo.Frame
public import proofs.«01_k».proof.Proof.Gen.UpdateCoIdeal.Value
public import proofs.«01_k».proof.Proof.Gen.UpdateCoReferenceIdeal.Run
public import proofs.«01_k».proof.Proof.Gen.UpdateUp.Frame
public import proofs.«01_k».proof.Proof.Gen.UpdateUpIdeal.Value
public import proofs.«01_k».proof.Proof.Gen.UpdateUpReferenceIdeal.Run
public import proofs.«01_k».proof.Proof.Gen.UpdateDown.Frame
public import proofs.«01_k».proof.Proof.Gen.UpdateDownIdeal.Value
public import proofs.«01_k».proof.Proof.Gen.UpdateDownReferenceIdeal.Run
public import proofs.«01_k».proof.Proof.Gen.UpdatePack.Frame
public import proofs.«01_k».proof.Proof.Gen.UpdatePackIdeal.Value
public import proofs.«01_k».proof.Proof.Gen.UpdatePackReferenceIdeal.Run

@[expose] public section

noncomputable section

open Cert.Adam
open Idealize.ShloMosaic Idealize.ShloMosaic.TcCoe Idealize.SL.Sem

namespace Cert.Updates

/-! ## The update of the input projection -/

theorem frame_in : quiescent_UpdateInReferenceIdeal := fun m g _ =>
  (θ_run _ _ _).mono (fun r h => ⟨fun c => (h c).2.2.2, sem_eq_zero_of_no_sems (by decide) r.2⟩)
    (UpdateInReferenceIdeal.Value.run (F := Ideal) m g)

theorem algebraic_in : algebraic_UpdateInIdeal_UpdateInReferenceIdeal := fun m g m' g' _ hm =>
  ⟨_, _, _, UpdateInIdeal.Value.run m g, (θ_run _ _ _).mono
    (fun _ h c => results_ref _ _ (hm c) (h c)) (UpdateInReferenceIdeal.Value.run (F := Ideal) m' g')⟩

/-! ## The update of the output projection -/

theorem frame_out : quiescent_UpdateOutReferenceIdeal := fun m g _ =>
  (θ_run _ _ _).mono (fun r h => ⟨fun c => (h c).2.2.2, sem_eq_zero_of_no_sems (by decide) r.2⟩)
    (UpdateOutReferenceIdeal.Value.run (F := Ideal) m g)

theorem algebraic_out : algebraic_UpdateOutIdeal_UpdateOutReferenceIdeal := fun m g m' g' _ hm =>
  ⟨_, _, _, UpdateOutIdeal.Value.run m g, (θ_run _ _ _).mono
    (fun _ h c => results_ref _ _ (hm c) (h c)) (UpdateOutReferenceIdeal.Value.run (F := Ideal) m' g')⟩

/-! ## The update of the query, key and value projections of the cross-attention -/

theorem frame_qkv : quiescent_UpdateQkvReferenceIdeal := fun m g _ =>
  (θ_run _ _ _).mono (fun r h => ⟨fun c => (h c).2.2.2, sem_eq_zero_of_no_sems (by decide) r.2⟩)
    (UpdateQkvReferenceIdeal.Value.run (F := Ideal) m g)

theorem algebraic_qkv : algebraic_UpdateQkvIdeal_UpdateQkvReferenceIdeal := fun m g m' g' _ hm =>
  ⟨_, _, _, UpdateQkvIdeal.Value.run m g, (θ_run _ _ _).mono
    (fun _ h c => results_ref _ _ (hm c) (h c)) (UpdateQkvReferenceIdeal.Value.run (F := Ideal) m' g')⟩

/-! ## The update of the output projection of the cross-attention -/

theorem frame_co : quiescent_UpdateCoReferenceIdeal := fun m g _ =>
  (θ_run _ _ _).mono (fun r h => ⟨fun c => (h c).2.2.2, sem_eq_zero_of_no_sems (by decide) r.2⟩)
    (UpdateCoReferenceIdeal.Value.run (F := Ideal) m g)

theorem algebraic_co : algebraic_UpdateCoIdeal_UpdateCoReferenceIdeal := fun m g m' g' _ hm =>
  ⟨_, _, _, UpdateCoIdeal.Value.run m g, (θ_run _ _ _).mono
    (fun _ h c => results_ref _ _ (hm c) (h c)) (UpdateCoReferenceIdeal.Value.run (F := Ideal) m' g')⟩

/-! ## The update of the feed-forward layer's first matrix -/

theorem frame_up : quiescent_UpdateUpReferenceIdeal := fun m g _ =>
  (θ_run _ _ _).mono (fun r h => ⟨fun c => (h c).2.2.2, sem_eq_zero_of_no_sems (by decide) r.2⟩)
    (UpdateUpReferenceIdeal.Value.run (F := Ideal) m g)

theorem algebraic_up : algebraic_UpdateUpIdeal_UpdateUpReferenceIdeal := fun m g m' g' _ hm =>
  ⟨_, _, _, UpdateUpIdeal.Value.run m g, (θ_run _ _ _).mono
    (fun _ h c => results_ref _ _ (hm c) (h c)) (UpdateUpReferenceIdeal.Value.run (F := Ideal) m' g')⟩

/-! ## The update of the feed-forward layer's second matrix -/

theorem frame_down : quiescent_UpdateDownReferenceIdeal := fun m g _ =>
  (θ_run _ _ _).mono (fun r h => ⟨fun c => (h c).2.2.2, sem_eq_zero_of_no_sems (by decide) r.2⟩)
    (UpdateDownReferenceIdeal.Value.run (F := Ideal) m g)

theorem algebraic_down : algebraic_UpdateDownIdeal_UpdateDownReferenceIdeal := fun m g m' g' _ hm =>
  ⟨_, _, _, UpdateDownIdeal.Value.run m g, (θ_run _ _ _).mono
    (fun _ h c => results_ref _ _ (hm c) (h c)) (UpdateDownReferenceIdeal.Value.run (F := Ideal) m' g')⟩

/-! ## The update of the packed small weights -/

theorem frame_pack : quiescent_UpdatePackReferenceIdeal := fun m g _ =>
  (θ_run _ _ _).mono (fun r h => ⟨fun c => (h c).2.2.2, sem_eq_zero_of_no_sems (by decide) r.2⟩)
    (UpdatePackReferenceIdeal.Value.run (F := Ideal) m g)

theorem algebraic_pack : algebraic_UpdatePackIdeal_UpdatePackReferenceIdeal := fun m g m' g' _ hm =>
  ⟨_, _, _, UpdatePackIdeal.Value.run m g, (θ_run _ _ _).mono
    (fun _ h c => results_ref _ _ (hm c) (h c)) (UpdatePackReferenceIdeal.Value.run (F := Ideal) m' g')⟩

end Cert.Updates

end
-- ==== Proof.Sums.lean ====
/-
# The sums of the gradients

The sum of two cores' gradients and the sum of four chips', entry by entry. Kernel and reference add in the same order, so they
agree over the reals and in every word. The sums of a layer's gradients are the same way.
-/
module

public import proofs.«01_k».proof.Defs
public import proofs.«01_k».proof.Proof.Gen.PairSum.Value
public import proofs.«01_k».proof.Proof.Gen.PairSumIdeal.Value
public import proofs.«01_k».proof.Proof.Gen.PairSumReferenceIdeal.Run
public import proofs.«01_k».proof.Proof.Gen.PairSumReference.Run
public import proofs.«01_k».proof.Proof.Gen.ChipSum.Value
public import proofs.«01_k».proof.Proof.Gen.ChipSumIdeal.Value
public import proofs.«01_k».proof.Proof.Gen.ChipSumReferenceIdeal.Run
public import proofs.«01_k».proof.Proof.Gen.ChipSumReference.Run
public import proofs.«01_k».proof.Proof.Gen.DqkvSum.Frame
public import proofs.«01_k».proof.Proof.Gen.DqkvSumIdeal.Value
public import proofs.«01_k».proof.Proof.Gen.DqkvSumReferenceIdeal.Run
public import proofs.«01_k».proof.Proof.Gen.CumSum.Frame
public import proofs.«01_k».proof.Proof.Gen.CumSumIdeal.Value
public import proofs.«01_k».proof.Proof.Gen.CumSumReferenceIdeal.Run
public import proofs.«01_k».proof.Proof.Gen.BandSum.Frame
public import proofs.«01_k».proof.Proof.Gen.BandSumIdeal.Value
public import proofs.«01_k».proof.Proof.Gen.BandSumReferenceIdeal.Run

@[expose] public section

noncomputable section

open Idealize.ShloMosaic Idealize.ShloMosaic.TcCoe Idealize.SL.Sem

namespace Cert.Sums

variable {F : FTy → Type} [FloatOps F]

/-- The reference's sum of two arrays, on arguments that are equal to the kernel's. -/
theorem two {s : Shape} {a b a' b' x : FVec F s .bf16} {rest : Prop} (e : a' = a ∧ b' = b) (h : FTy.bits .bf16 < FTy.bits .f32)
    (r : x = truncf .bf16 (addf (extf .f32 a' h) (extf .f32 b' h)) h ∧ rest) :
    (x = fun i => FloatOps.truncf .bf16 h (FloatOps.addf (FloatOps.extf .f32 h (a i)) (FloatOps.extf .f32 h (b i)))) ∧ rest := by
  obtain ⟨rfl, rfl⟩ := e
  exact ⟨r.1, r.2⟩

/-- and of four. -/
theorem four {s : Shape} {a b c d a' b' c' d' : FVec F s .bf16} {x : FVec F s .f32} {rest : Prop}
    (e : a' = a ∧ b' = b ∧ c' = c ∧ d' = d) (h : FTy.bits .bf16 < FTy.bits .f32)
    (r : x = addf (addf (addf (extf .f32 a' h) (extf .f32 b' h)) (extf .f32 c' h)) (extf .f32 d' h) ∧ rest) :
    (x = fun i => FloatOps.addf (FloatOps.addf (FloatOps.addf (FloatOps.extf .f32 h (a i)) (FloatOps.extf .f32 h (b i)))
      (FloatOps.extf .f32 h (c i))) (FloatOps.extf .f32 h (d i))) ∧ rest := by
  obtain ⟨rfl, rfl, rfl, rfl⟩ := e
  exact ⟨r.1, r.2⟩

/-- The sum of three, rounded, -/
theorem three {s : Shape} {a b c a' b' c' : FVec F s .f32} {x : FVec F s .bf16} {rest : Prop} (e : a' = a ∧ b' = b ∧ c' = c)
    (h : FTy.bits .bf16 < FTy.bits .f32) (r : x = truncf .bf16 (addf (addf a' b') c') h ∧ rest) :
    (x = fun i => FloatOps.truncf .bf16 h (FloatOps.addf (FloatOps.addf (a i) (b i)) (c i))) ∧ rest := by
  obtain ⟨rfl, rfl, rfl⟩ := e
  exact ⟨r.1, r.2⟩

/-- and of two. -/
theorem plain {s : Shape} {a b a' b' x : FVec F s .f32} {rest : Prop} (e : a' = a ∧ b' = b) (r : x = addf a' b' ∧ rest) :
    (x = fun i => FloatOps.addf (a i) (b i)) ∧ rest := by
  obtain ⟨rfl, rfl⟩ := e
  exact ⟨r.1, r.2⟩

/-! ## The sum of the two cores -/

theorem frame_pair : quiescent_PairSumReferenceIdeal := fun m g _ =>
  (θ_run _ _ _).mono (fun r h => ⟨fun c => (h c).2, sem_eq_zero_of_no_sems (by decide) r.2⟩)
    (PairSumReferenceIdeal.Value.run (F := Ideal) m g)

theorem frame_words_pair : quiescent_PairSumReference := fun m g _ =>
  (θ_run _ _ _).mono (fun r h => ⟨fun c => (h c).2, sem_eq_zero_of_no_sems (by decide) r.2⟩)
    (PairSumReference.Value.run (F := Bits) m g)

theorem algebraic_pair : algebraic_PairSumIdeal_PairSumReferenceIdeal := fun m g m' g' _ hm =>
  ⟨_, PairSumIdeal.Value.run m g, (θ_run _ _ _).mono
    (fun _ h c => two (F := Ideal) (hm c) PairSumReferenceIdeal.Gen.bitsLt_bf16_f32 (h c)) (PairSumReferenceIdeal.Value.run (F := Ideal) m' g')⟩

theorem bitexact_pair : bitexact_PairSum_PairSumReference := fun m g m' g' _ hm =>
  ⟨_, PairSum.Value.run m g, (θ_run _ _ _).mono
    (fun _ h c => two (F := Bits) (hm c) PairSumReference.Gen.bitsLt_bf16_f32 (h c)) (PairSumReference.Value.run (F := Bits) m' g')⟩

/-! ## The sum of the four chips -/

theorem frame_chip : quiescent_ChipSumReferenceIdeal := fun m g _ =>
  (θ_run _ _ _).mono (fun r h => ⟨fun c => (h c).2, sem_eq_zero_of_no_sems (by decide) r.2⟩)
    (ChipSumReferenceIdeal.Value.run (F := Ideal) m g)

theorem frame_words_chip : quiescent_ChipSumReference := fun m g _ =>
  (θ_run _ _ _).mono (fun r h => ⟨fun c => (h c).2, sem_eq_zero_of_no_sems (by decide) r.2⟩)
    (ChipSumReference.Value.run (F := Bits) m g)

theorem algebraic_chip : algebraic_ChipSumIdeal_ChipSumReferenceIdeal := fun m g m' g' _ hm =>
  ⟨_, ChipSumIdeal.Value.run m g, (θ_run _ _ _).mono
    (fun _ h c => four (F := Ideal) (hm c) ChipSumReferenceIdeal.Gen.bitsLt_bf16_f32 (h c)) (ChipSumReferenceIdeal.Value.run (F := Ideal) m' g')⟩

theorem bitexact_chip : bitexact_ChipSum_ChipSumReference := fun m g m' g' _ hm =>
  ⟨_, ChipSum.Value.run m g, (θ_run _ _ _).mono
    (fun _ h c => four (F := Bits) (hm c) ChipSumReference.Gen.bitsLt_bf16_f32 (h c)) (ChipSumReference.Value.run (F := Bits) m' g')⟩

/-! ## The sum of the three dilations -/

theorem frame_dqkv : quiescent_DqkvSumReferenceIdeal := fun m g _ =>
  (θ_run _ _ _).mono (fun r h => ⟨fun c => (h c).2, sem_eq_zero_of_no_sems (by decide) r.2⟩)
    (DqkvSumReferenceIdeal.Value.run (F := Ideal) m g)

theorem algebraic_dqkv : algebraic_DqkvSumIdeal_DqkvSumReferenceIdeal := fun m g m' g' _ hm =>
  ⟨_, DqkvSumIdeal.Value.run m g, (θ_run _ _ _).mono
    (fun _ h c => three (F := Ideal) (hm c) DqkvSumReferenceIdeal.Gen.bitsLt_bf16_f32 (h c)) (DqkvSumReferenceIdeal.Value.run (F := Ideal) m' g')⟩

/-! ## The sum of the forget gates' two parts -/

theorem frame_cum : quiescent_CumSumReferenceIdeal := fun m g _ =>
  (θ_run _ _ _).mono (fun r h => ⟨fun c => (h c).2, sem_eq_zero_of_no_sems (by decide) r.2⟩)
    (CumSumReferenceIdeal.Value.run (F := Ideal) m g)

theorem algebraic_cum : algebraic_CumSumIdeal_CumSumReferenceIdeal := fun m g m' g' _ hm =>
  ⟨_, CumSumIdeal.Value.run m g, (θ_run _ _ _).mono
    (fun _ h c => plain (F := Ideal) (hm c) (h c)) (CumSumReferenceIdeal.Value.run (F := Ideal) m' g')⟩

/-! ## The sum of the layers' biases -/

theorem frame_band : quiescent_BandSumReferenceIdeal := fun m g _ =>
  (θ_run _ _ _).mono (fun r h => ⟨fun c => (h c).2, sem_eq_zero_of_no_sems (by decide) r.2⟩)
    (BandSumReferenceIdeal.Value.run (F := Ideal) m g)

theorem algebraic_band : algebraic_BandSumIdeal_BandSumReferenceIdeal := fun m g m' g' _ hm =>
  ⟨_, BandSumIdeal.Value.run m g, (θ_run _ _ _).mono
    (fun _ h c => plain (F := Ideal) (hm c) (h c)) (BandSumReferenceIdeal.Value.run (F := Ideal) m' g')⟩

end Cert.Sums

end
-- ==== Proof.NormAlgebra.lean ====
/-
# The gradient of a root-mean-square norm, one row

Two forms of the gradient at a row's entry: the direct one, in the normalized row, and the one the chain rule gives through the
mean of the squares. They agree at every extended real: an infinite entry makes the scale zero in both, and where the row is
finite the scale is a positive real number, which distributes over any sum.
-/
module

public import Idealize.ShloMosaic.PureOps.Ideal
public import Idealize.ShloMosaic.PureOps.Ideal.Laws

@[expose] public section

noncomputable section

open Idealize.ShloMosaic

namespace Cert.Norm

/-- The mean of the squares of a row, and a little more. -/
def level {n : ℕ} (K ε : EReal) (x : Fin n → EReal) : EReal := Ideal.div (∑ k, x k * x k) K + ε

/-- The scale of a row. -/
def scale {n : ℕ} (K ε : EReal) (x : Fin n → EReal) : EReal := Ideal.rsqrt (level K ε x)

/-- The gradient at entry `j`, in the normalized row. -/
def direct {n : ℕ} (K ε : EReal) (x dy : Fin n → EReal) (j : Fin n) : EReal :=
  scale K ε x * (dy j - x j * scale K ε x * Ideal.div (∑ k, dy k * (x k * scale K ε x)) K)

/-- What the chain rule gives for each square, doubled below. -/
def bend {n : ℕ} (K ε h : EReal) (x dy : Fin n → EReal) : EReal :=
  Ideal.div ((∑ k, x k * dy k) * (h * Ideal.div (scale K ε x) (level K ε x))) K

/-- The gradient at entry `j`, by the chain rule. -/
def chained {n : ℕ} (K ε h : EReal) (x dy : Fin n → EReal) (j : Fin n) : EReal :=
  dy j * scale K ε x + x j * bend K ε h x dy + bend K ε h x dy * x j

theorem div_real {K : ℝ} (hK : K ≠ 0) (y : EReal) : Ideal.div y (K : EReal) = y * ((K⁻¹ : ℝ) : EReal) := by
  unfold Ideal.div
  rw [if_neg (by exact_mod_cast hK), EReal.coe_inv]

theorem sum_mul_real {n : ℕ} (f : Fin n → EReal) {ρ : ℝ} (hρ : 0 ≤ ρ) : ∑ k, f k * (ρ : EReal) = (∑ k, f k) * (ρ : EReal) := by
  have key : ∀ s : Finset (Fin n), ∑ k ∈ s, f k * (ρ : EReal) = (∑ k ∈ s, f k) * (ρ : EReal) := by
    intro s
    induction s using Finset.induction_on with
    | empty => simp
    | insert a s ha ih =>
      rw [Finset.sum_insert ha, Finset.sum_insert ha, ih,
        EReal.right_distrib_of_nonneg_of_ne_top (by exact_mod_cast hρ) (EReal.coe_ne_top ρ)]
  exact key _

theorem square_nonneg (a : EReal) : 0 ≤ a * a := by
  induction a with
  | bot => simp
  | top => simp
  | coe a => exact_mod_cast mul_self_nonneg a

theorem twice (a : EReal) : a + a = a * ((2 : ℝ) : EReal) := by
  induction a with
  | bot => rw [EReal.bot_mul_coe_of_pos (by norm_num)]; rfl
  | top => rw [EReal.top_mul_coe_of_pos (by norm_num)]; rfl
  | coe a => rw [← EReal.coe_add, ← EReal.coe_mul]; congr 1; ring

/-- The two forms agree. -/
theorem direct_eq_chained {n : ℕ} {K ε : ℝ} (hK : 0 < K) (hε : 0 < ε) (x dy : Fin n → EReal) (j : Fin n) :
    direct (K : EReal) (ε : EReal) x dy j = chained (K : EReal) (ε : EReal) ((-(1 / 2) : ℝ) : EReal) x dy j := by
  have hs : 0 ≤ ∑ k, x k * x k := Finset.sum_nonneg fun k _ => square_nonneg (x k)
  have hd : Ideal.div (∑ k, x k * x k) (K : EReal) = (∑ k, x k * x k) * ((K⁻¹ : ℝ) : EReal) := div_real hK.ne' _
  have hi : 0 < K⁻¹ := inv_pos.mpr hK
  by_cases ht : (∑ k, x k * x k) = ⊤
  · have hl : level (K : EReal) (ε : EReal) x = ⊤ := by
      unfold level
      rw [hd, ht, EReal.top_mul_coe_of_pos hi, EReal.top_add_coe]
    have hr : scale (K : EReal) (ε : EReal) x = 0 := by
      unfold scale
      rw [hl]
      rfl
    have h0 : Ideal.div 0 (⊤ : EReal) = 0 := by
      unfold Ideal.div
      rw [if_neg (by simp), zero_mul]
    have hk : Ideal.div 0 (K : EReal) = 0 := by rw [div_real hK.ne', zero_mul]
    unfold direct chained bend
    simp only [hr, hl, h0, mul_zero, zero_mul, hk, add_zero]
  · have hx : x j ≠ ⊤ ∧ x j ≠ ⊥ := by
      have hle : x j * x j ≤ ∑ k, x k * x k :=
        Finset.single_le_sum (f := fun k => x k * x k) (fun k _ => square_nonneg (x k)) (Finset.mem_univ j)
      constructor
      · intro h
        rw [h, EReal.top_mul_top] at hle
        exact ht (top_le_iff.mp hle)
      · intro h
        rw [h, EReal.bot_mul_bot] at hle
        exact ht (top_le_iff.mp hle)
    obtain ⟨ξ, hξ⟩ : ∃ ξ : ℝ, x j = (ξ : EReal) := ⟨(x j).toReal, (EReal.coe_toReal hx.1 hx.2).symm⟩
    obtain ⟨σ, hσ⟩ : ∃ σ : ℝ, (∑ k, x k * x k) = (σ : EReal) :=
      ⟨_, (EReal.coe_toReal ht (fun h => by rw [h] at hs; exact absurd hs (by simp))).symm⟩
    have hσ0 : 0 ≤ σ := by rw [hσ] at hs; exact_mod_cast hs
    have hl : level (K : EReal) (ε : EReal) x = ((σ * K⁻¹ + ε : ℝ) : EReal) := by
      unfold level
      rw [hd, hσ]
      push_cast
      rfl
    obtain ⟨z, hz⟩ : ∃ z : ℝ, z = σ * K⁻¹ + ε := ⟨_, rfl⟩
    have hz0 : 0 < z := by rw [hz]; positivity
    rw [← hz] at hl
    obtain ⟨ρ, hρ⟩ : ∃ ρ : ℝ, ρ = (Real.sqrt z)⁻¹ := ⟨_, rfl⟩
    have hρ0 : 0 < ρ := by rw [hρ]; exact inv_pos.mpr (Real.sqrt_pos.mpr hz0)
    have hρz : ρ * ρ = z⁻¹ := by rw [hρ, ← mul_inv, Real.mul_self_sqrt hz0.le]
    have hr : scale (K : EReal) (ε : EReal) x = (ρ : EReal) := by
      unfold scale
      rw [hl, hρ]
      show (if z < 0 then (⊥ : EReal) else if z = 0 then ⊤ else (((Real.sqrt z)⁻¹ : ℝ) : EReal)) = _
      rw [if_neg hz0.not_gt, if_neg hz0.ne']
    have hS : ∑ k, dy k * (x k * (ρ : EReal)) = (∑ k, x k * dy k) * (ρ : EReal) := by
      rw [← sum_mul_real _ hρ0.le]
      exact Finset.sum_congr rfl fun k _ => by rw [← mul_assoc, mul_comm (dy k)]
    unfold direct chained bend
    rw [hr, hl, hS, div_real hK.ne', div_real hK.ne', div_real hz0.ne', hξ]
    generalize (∑ k, x k * dy k) = S
    generalize dy j = d
    have hA : (ξ : EReal) * (ρ : EReal) * (S * (ρ : EReal) * ((K⁻¹ : ℝ) : EReal)) = S * ((ξ * ρ * ρ * K⁻¹ : ℝ) : EReal) := by
      push_cast
      ac_rfl
    have hB : S * (((-(1 / 2) : ℝ) : EReal) * ((ρ : EReal) * ((z⁻¹ : ℝ) : EReal))) * ((K⁻¹ : ℝ) : EReal)
        = S * ((-(1 / 2) * (ρ * z⁻¹) * K⁻¹ : ℝ) : EReal) := by
      rw [EReal.coe_mul, EReal.coe_mul, EReal.coe_mul]
      ac_rfl
    have hC (a : ℝ) : (ξ : EReal) * (S * (a : EReal)) = S * ((ξ * a : ℝ) : EReal) := by
      rw [EReal.coe_mul]
      ac_rfl
    rw [hA, hB, sub_eq_add_neg, EReal.left_distrib_of_nonneg_of_ne_top (by exact_mod_cast hρ0.le) (EReal.coe_ne_top ρ), add_assoc,
      mul_comm (S * _) (ξ : EReal), hC, twice, mul_comm (ρ : EReal) d]
    have hD (a : ℝ) : (ρ : EReal) * -(S * (a : EReal)) = S * ((-(ρ * a) : ℝ) : EReal) := by
      rw [EReal.coe_neg, EReal.coe_mul, mul_neg, mul_neg]
      congr 1
      ac_rfl
    rw [hD, mul_assoc S, ← EReal.coe_mul, ← hρz]
    congr 3
    ring

end Cert.Norm

end
-- ==== Proof.NormRows.lean ====
/-
# The norm's gradient, entry by entry

What a block of rows computes and what the reference's whole arrays hold, each read at an entry over the extended reals.
-/
module

public import proofs.«01_k».proof.Proof.NormAlgebra
public import proofs.«01_k».proof.Proof.Gen.NormBwdIdeal.Skeleton
public import proofs.«01_k».proof.Proof.Gen.NormBwdReferenceIdeal.Run
public import Idealize.ShloMosaic.Lib.Pointwise

@[expose] public section

noncomputable section

open Idealize.ShloMosaic

namespace Cert.Norm

/-- The width of a row, the small addend and minus one half, as the programs' constants. -/
abbrev width : EReal := Ideal.ofBits .f32 0x44800000#32
abbrev little : EReal := Ideal.ofBits .f32 0x358637BD#32
abbrev half : EReal := Ideal.ofBits .f32 0xBF000000#32

theorem width_eq : width = ((1024 : ℝ) : EReal) := by
  simp [Ideal.ofBits, Ideal.ieee, -EReal.coe_mul]; norm_num

theorem half_eq : half = ((-(1 / 2) : ℝ) : EReal) := by
  simp [Ideal.ofBits, Ideal.ieee, -EReal.coe_mul, -EReal.coe_neg]; norm_num

theorem little_eq : ∃ e : ℝ, 0 < e ∧ little = (e : EReal) := by
  refine ⟨(2 ^ 23 + 407485 : ℝ) * 2 ^ (-43 : Int), by positivity, ?_⟩
  simp [Ideal.ofBits, Ideal.ieee, -EReal.coe_mul]; norm_num

/-- Row `a` of an array. -/
abbrev row {r n : ℕ} (x : FVec Ideal ⟨2, ![r, n]⟩ .f32) (a : Fin r) : Fin n → EReal := fun k => x (ix2 a k)

/-- A row of the gradient at the norm's output, times the gain. -/
abbrev gained {r n : ℕ} (g : FVec Ideal ⟨2, ![1, n]⟩ .f32) (dh : FVec Ideal ⟨2, ![r, n]⟩ .f32) (a : Fin r) : Fin n → EReal :=
  fun k => dh (ix2 a k) * g (ix2 0 k)

/-- The gradient at the norm's input at an entry, and what goes around. -/
def dx {r n : ℕ} (x : FVec Ideal ⟨2, ![r, n]⟩ .f32) (g : FVec Ideal ⟨2, ![1, n]⟩ .f32) (dh dres : FVec Ideal ⟨2, ![r, n]⟩ .f32)
    (a : Fin r) (b : Fin n) : EReal :=
  direct width little (row x a) (gained g dh a) b + dres (ix2 a b)

theorem dx_chained {r n : ℕ} (x : FVec Ideal ⟨2, ![r, n]⟩ .f32) (g : FVec Ideal ⟨2, ![1, n]⟩ .f32) (dh dres : FVec Ideal ⟨2, ![r, n]⟩ .f32)
    (a : Fin r) (b : Fin n) : dx x g dh dres a b = chained width little half (row x a) (gained g dh a) b + dres (ix2 a b) := by
  obtain ⟨e, he, hl⟩ := little_eq
  unfold dx
  rw [width_eq, hl, half_eq, direct_eq_chained (by norm_num) he]

/-- One row's part of the gain's gradient. -/
def dg {r n : ℕ} (x dh : FVec Ideal ⟨2, ![r, n]⟩ .f32) (b : Fin n) (a : Fin r) : EReal :=
  dh (ix2 a b) * (x (ix2 a b) * scale width little (row x a))

section
open Cert.NormBwdIdeal Cert.NormBwdIdeal.Gen

theorem pay_dx (x : Vec Ideal S512x1024 .f32) (g : Vec Ideal S1x1024 .f32) (dh dres : Vec Ideal S512x1024 .f32) (p : Fin 512) (q : Fin 1024) :
    k0_pay4 (F := Ideal) x dh g dres (ix2 p q) = dx x g dh dres p q := by
  pointwise [k0_pay4, k0_pay3, k0_pay2]
  rfl

theorem pay_dg (x dh : Vec Ideal S512x1024 .f32) (q : Fin 1024) :
    k0_pay5 (F := Ideal) x dh (ix2 0 q) = ∑ p, dg x dh q p := by
  pointwise [k0_pay5, k0_pay3, k0_pay2]
  rfl

end

/-! ## The reference -/

open Idealize.ShloMosaic.TcCoe Idealize.SL.Sem

open Cert.NormBwdReferenceIdeal in
/-- The reference's run, its results read at an entry. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ (a : Fin 4096) (b : Fin 1024), r.2.mem ((c.tc : Thread nD τ).loc main_v34) (ix2 a b)
        = dx (m ((c.tc : Thread nD τ).loc main_arg0)) (m ((c.tc : Thread nD τ).loc main_arg1))
          (m ((c.tc : Thread nD τ).loc main_arg2)) (m ((c.tc : Thread nD τ).loc main_arg3)) a b)
      ∧ (∀ b : Fin 1024, r.2.mem ((c.tc : Thread nD τ).loc main_v17) (ix2 0 b)
        = ∑ a, dg (m ((c.tc : Thread nD τ).loc main_arg0)) (m ((c.tc : Thread nD τ).loc main_arg2)) b a)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ?_) (Value.run (F := Ideal) m ρ)
  obtain ⟨h1, h2, h3⟩ := h c
  refine ⟨fun a b => ?_, fun b => ?_, h3⟩
  · rw [h1]
    generalize m ((c.tc : Thread nD τ).loc main_arg0) = x
    generalize m ((c.tc : Thread nD τ).loc main_arg1) = g
    generalize m ((c.tc : Thread nD τ).loc main_arg2) = dh
    generalize m ((c.tc : Thread nD τ).loc main_arg3) = dres
    rw [dx_chained]
    pointwise
    simp only [Fin.sum_univ_one]
    rfl
  · rw [h2]
    generalize m ((c.tc : Thread nD τ).loc main_arg0) = x
    generalize m ((c.tc : Thread nD τ).loc main_arg2) = dh
    pointwise
    exact Finset.sum_congr (M := EReal) rfl fun a _ => mul_comm (G := EReal) _ _

end Cert.Norm

end
-- ==== Proof.NormBwd.lean ====
/-
# The gradient of the first norm

The kernel goes down the rows in eight blocks, writing each block of the input's gradient and adding each block's part of the
gain's gradient to what the blocks before left.
-/
module

public import proofs.«01_k».proof.Defs
public import proofs.«01_k».proof.Proof.NormRows
public import proofs.«01_k».proof.Proof.Gen.NormBwdIdeal.Value
public import proofs.«01_k».proof.Proof.Gen.NormBwd.Frame
public import Idealize.ShloMosaic.Lib.Pipeline.Value
public import Idealize.ShloMosaic.Lib.Tactic

@[expose] public section

noncomputable section

open Idealize.ShloMosaic Idealize.ShloMosaic.TcCoe Idealize.SL.Sem

namespace Cert.Norm

section
open Cert.NormBwdIdeal Cert.NormBwdIdeal.Gen

variable {F : FTy → Type} [FloatOps F]

theorem zeros : (![0, 0] : Fin 2 → Nat) = fun _ => 0 := funext fun a => by fin_cases a <;> rfl

/-! ## What a point leaves -/

theorem out_A_4 (c : Dev nD) (i : grid0.Coords) (a1 : Memref sig .tc .vmem S512x1024 .f32) (h1 : a1.IsWhole) (a2 : Memref sig .tc .vmem S1x1024 .f32) (h2 : a2.IsWhole) (a3 : Memref sig .tc .vmem S512x1024 .f32) (h3 : a3.IsWhole) (a4 : Memref sig .tc .vmem S512x1024 .f32) (h4 : a4.IsWhole) (a5 : Memref sig .tc .vmem S512x1024 .f32) (h5 : a5.IsWhole) (a6 : Memref sig .tc .vmem S1x1024 .f32) (h6 : a6.IsWhole) (hc : cond0_0 i) (hd : ¬cond0_1 i)
    (x0 : Vec F S512x1024 .f32) (x1 : Vec F S1x1024 .f32) (x2 x3 : Vec F S512x1024 .f32) :
    out0_A_4 c i a1 h1 a2 h2 a3 h3 a4 h4 a5 h5 a6 h6 hc hd x0 x1 x2 x3 = k0_pay4 x0 x2 x1 x3 := by
  unfold out0_A_4
  rw [View.read_writes_eq_canon _ _ _ fun _ => cover0_A_4 ..]
  unfold kernelRun0_A
  dsimp only
  sl_unfold_words
  rw [View.canon_unit_zero zeros]
  simp only [View.readAt_eq_ld, h1.read_unread, h2.read_unread, h3.read_unread, h4.read_unread, h6.read_unread, View.ld_unit_zero (S := S512x1024) zeros,
    View.ld_unit_zero (S := S1x1024) zeros, shapeCast_self]

theorem out_B_4 (c : Dev nD) (i : grid0.Coords) (a1 : Memref sig .tc .vmem S512x1024 .f32) (h1 : a1.IsWhole) (a2 : Memref sig .tc .vmem S1x1024 .f32) (h2 : a2.IsWhole) (a3 : Memref sig .tc .vmem S512x1024 .f32) (h3 : a3.IsWhole) (a4 : Memref sig .tc .vmem S512x1024 .f32) (h4 : a4.IsWhole) (a5 : Memref sig .tc .vmem S512x1024 .f32) (h5 : a5.IsWhole) (a6 : Memref sig .tc .vmem S1x1024 .f32) (h6 : a6.IsWhole) (hc : ¬cond0_0 i) (hd : cond0_1 i)
    (x0 : Vec F S512x1024 .f32) (x1 : Vec F S1x1024 .f32) (x2 x3 : Vec F S512x1024 .f32) (xo : Vec F S1x1024 .f32) :
    out0_B_4 c i a1 h1 a2 h2 a3 h3 a4 h4 a5 h5 a6 h6 hc hd x0 x1 x2 x3 xo = k0_pay4 x0 x2 x1 x3 := by
  unfold out0_B_4
  rw [View.read_writes_eq_canon _ _ _ fun _ => cover0_B_4 ..]
  unfold kernelRun0_B
  dsimp only
  sl_unfold_words
  rw [View.canon_unit_zero zeros]
  simp only [View.readAt_eq_ld, h1.read_unread, h2.read_unread, h3.read_unread, h4.read_unread, h6.read_unread, View.ld_unit_zero (S := S512x1024) zeros,
    View.ld_unit_zero (S := S1x1024) zeros, shapeCast_self]

theorem out_A_5 (c : Dev nD) (i : grid0.Coords) (a1 : Memref sig .tc .vmem S512x1024 .f32) (h1 : a1.IsWhole) (a2 : Memref sig .tc .vmem S1x1024 .f32) (h2 : a2.IsWhole) (a3 : Memref sig .tc .vmem S512x1024 .f32) (h3 : a3.IsWhole) (a4 : Memref sig .tc .vmem S512x1024 .f32) (h4 : a4.IsWhole) (a5 : Memref sig .tc .vmem S512x1024 .f32) (h5 : a5.IsWhole) (a6 : Memref sig .tc .vmem S1x1024 .f32) (h6 : a6.IsWhole) (hc : cond0_0 i) (hd : ¬cond0_1 i)
    (x0 : Vec F S512x1024 .f32) (x1 : Vec F S1x1024 .f32) (x2 x3 : Vec F S512x1024 .f32) :
    out0_A_5 c i a1 h1 a2 h2 a3 h3 a4 h4 a5 h5 a6 h6 hc hd x0 x1 x2 x3 = k0_pay5 x0 x2 := by
  unfold out0_A_5
  rw [View.read_writes_eq_canon _ _ _ fun _ => cover0_A_5 ..]
  unfold kernelRun0_A
  dsimp only
  sl_unfold_words
  rw [View.canon_unit_zero zeros]
  simp only [View.readAt_eq_ld, h1.read_unread, h2.read_unread, h3.read_unread, h4.read_unread, h6.read_unread, View.ld_unit_zero (S := S512x1024) zeros,
    View.ld_unit_zero (S := S1x1024) zeros, shapeCast_self]

theorem out_B_5 (c : Dev nD) (i : grid0.Coords) (a1 : Memref sig .tc .vmem S512x1024 .f32) (h1 : a1.IsWhole) (a2 : Memref sig .tc .vmem S1x1024 .f32) (h2 : a2.IsWhole) (a3 : Memref sig .tc .vmem S512x1024 .f32) (h3 : a3.IsWhole) (a4 : Memref sig .tc .vmem S512x1024 .f32) (h4 : a4.IsWhole) (a5 : Memref sig .tc .vmem S512x1024 .f32) (h5 : a5.IsWhole) (a6 : Memref sig .tc .vmem S1x1024 .f32) (h6 : a6.IsWhole) (hc : ¬cond0_0 i) (hd : cond0_1 i)
    (x0 : Vec F S512x1024 .f32) (x1 : Vec F S1x1024 .f32) (x2 x3 : Vec F S512x1024 .f32) (xo : Vec F S1x1024 .f32) :
    out0_B_5 c i a1 h1 a2 h2 a3 h3 a4 h4 a5 h5 a6 h6 hc hd x0 x1 x2 x3 xo = addf xo (k0_pay5 x0 x2) := by
  unfold out0_B_5
  rw [View.read_writes_eq_canon _ _ _ fun _ => cover0_B_5 ..]
  unfold kernelRun0_B
  dsimp only
  sl_unfold_words
  rw [View.canon_unit_zero zeros]
  unfold k0_pay1
  simp only [View.readAt_eq_ld, h1.read_unread, h2.read_unread, h3.read_unread, h4.read_unread, h6.read_unread, View.ld_unit_zero (S := S512x1024) zeros,
    View.ld_unit_zero (S := S1x1024) zeros, shapeCast_self]

/-! ## The blocks of rows -/

variable (m : (ℓ : Loc nD τ sig) → Buf (Elt Ideal) ℓ) (ρ : Dev nD → PrngReg)

/-- The arguments. -/
abbrev argX (c : Dev nD) : Vec Ideal S4096x1024 .f32 := m ((c : Thread nD τ).loc main_arg0)
abbrev argG (c : Dev nD) : Vec Ideal S1x1024 .f32 := m ((c : Thread nD τ).loc main_arg1)
abbrev argD (c : Dev nD) : Vec Ideal S4096x1024 .f32 := m ((c : Thread nD τ).loc main_arg2)
abbrev argR (c : Dev nD) : Vec Ideal S4096x1024 .f32 := m ((c : Thread nD τ).loc main_arg3)

/-- Row `p` of block `t`. -/
def down (t : ℕ) (ht : t < cfg0.N) (p : Fin 512) : Fin 4096 := finProdFinEquiv (m := 8) (n := 512) (⟨t, lt_of_lt_of_eq ht N_0⟩, p)

theorem down_val (t : ℕ) (ht : t < cfg0.N) (p : Fin 512) : (down t ht p).val = p.val + 512 * t := rfl

theorem index_rows : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0 :=
  (by decide +kernel : ∀ t : Fin grid0.N, _)

theorem block_0 (c : Dev nD) (t : Fin cfg0.N) (p : Fin 512) (q : Fin 1024) :
    (iblk m c 0 t : Vec Ideal S512x1024 .f32) (ix2 p q) = argX m c (ix2 (down t.val t.isLt p) q) := by
  have hi := index_rows t
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 2) * 512 + 1 * p.val = (down t.val t.isLt p).val; rw [down_val]; omega
  | ⟨1, _⟩ => show win0_0.index t (1 : Fin 2) * 1024 + 1 * q.val = q.val; omega

theorem block_1 (c : Dev nD) (t : Fin cfg0.N) (p : Fin 1) (q : Fin 1024) :
    (iblk m c 1 t : Vec Ideal S1x1024 .f32) (ix2 p q) = argG m c (ix2 p q) := by
  have hi := index_rows t
  unfold iblk
  rw [View.read_apply]
  show V m c main_arg1 _ = m ((c : Thread nD τ).loc main_arg1) _
  rw [V_main_arg1]
  congr 1
  funext a
  apply Fin.ext
  match a with
  | ⟨0, _⟩ => show win0_1.index t (0 : Fin 2) * 1 + 1 * p.val = p.val; omega
  | ⟨1, _⟩ => show win0_1.index t (1 : Fin 2) * 1024 + 1 * q.val = q.val; omega

theorem block_2 (c : Dev nD) (t : Fin cfg0.N) (p : Fin 512) (q : Fin 1024) :
    (iblk m c 2 t : Vec Ideal S512x1024 .f32) (ix2 p q) = argD m c (ix2 (down t.val t.isLt p) q) := by
  have hi := index_rows t
  unfold iblk
  rw [View.read_apply]
  show V m c main_arg2 _ = m ((c : Thread nD τ).loc main_arg2) _
  rw [V_main_arg2]
  congr 1
  funext a
  apply Fin.ext
  match a with
  | ⟨0, _⟩ => show win0_2.index t (0 : Fin 2) * 512 + 1 * p.val = (down t.val t.isLt p).val; rw [down_val]; omega
  | ⟨1, _⟩ => show win0_2.index t (1 : Fin 2) * 1024 + 1 * q.val = q.val; omega

theorem block_3 (c : Dev nD) (t : Fin cfg0.N) (p : Fin 512) (q : Fin 1024) :
    (iblk m c 3 t : Vec Ideal S512x1024 .f32) (ix2 p q) = argR m c (ix2 (down t.val t.isLt p) q) := by
  have hi := index_rows t
  unfold iblk
  rw [View.read_apply]
  show V m c main_arg3 _ = m ((c : Thread nD τ).loc main_arg3) _
  rw [V_main_arg3]
  congr 1
  funext a
  apply Fin.ext
  match a with
  | ⟨0, _⟩ => show win0_3.index t (0 : Fin 2) * 512 + 1 * p.val = (down t.val t.isLt p).val; rw [down_val]; omega
  | ⟨1, _⟩ => show win0_3.index t (1 : Fin 2) * 1024 + 1 * q.val = q.val; omega

/-- What a block of rows holds of the input's gradient, -/
theorem block_dx (c : Dev nD) (t : Fin cfg0.N) (p : Fin 512) (q : Fin 1024) :
    dx (r := 512) (n := 1024) (iblk m c 0 t) (iblk m c 1 t) (iblk m c 2 t) (iblk m c 3 t) p q
      = dx (argX m c) (argG m c) (argD m c) (argR m c) (down t.val t.isLt p) q := by
  have h0 : row (r := 512) (n := 1024) (iblk m c 0 t) p = row (argX m c) (down t.val t.isLt p) := funext fun k => block_0 m c t p k
  have h1 : gained (r := 512) (n := 1024) (iblk m c 1 t) (iblk m c 2 t) p = gained (argG m c) (argD m c) (down t.val t.isLt p) :=
    funext fun k => congrArg₂ (· * ·) (block_2 m c t p k) (block_1 m c t 0 k)
  unfold dx
  rw [h0, h1, block_3]

/-- and what it adds to the gain's. -/
theorem block_dg (c : Dev nD) (t : Fin cfg0.N) (q : Fin 1024) (p : Fin 512) :
    dg (r := 512) (n := 1024) (iblk m c 0 t) (iblk m c 2 t) q p = dg (argX m c) (argD m c) q (down t.val t.isLt p) := by
  have h0 : row (r := 512) (n := 1024) (iblk m c 0 t) p = row (argX m c) (down t.val t.isLt p) := funext fun k => block_0 m c t p k
  unfold dg
  rw [h0, block_0, block_2]

/-! ## The input's gradient -/

/-- Every point leaves its block of rows. -/
theorem left_dx (c : Dev nD) (t : Fin cfg0.N) (p : Fin 512) (q : Fin 1024) :
    (outsAt0 m c t.val t.isLt).1 (ix2 p q) = dx (argX m c) (argG m c) (argD m c) (argR m c) (down t.val t.isLt p) q := by
  have hN : t.val < 8 := lt_of_lt_of_eq t.isLt N_0
  rw [← block_dx m c t p q, ← pay_dx]
  by_cases h : t.val = 0
  · rw [outsAt0_A m c t (by omega) (by omega), out_A_4]
  · rw [outsAt0_B m c t (by omega) (by omega), out_B_4]

/-- The whole array. -/
abbrev wholeX (c : Dev nD) : Vec Ideal S4096x1024 .f32 := fun i => dx (argX m c) (argG m c) (argD m c) (argR m c) (i 0) (i 1)

theorem written_dx (c : Dev nD) (t : Fin cfg0.N) :
    (dats m 0 c).flushed 4 t = ((cfg0.win 4).blk t).view.read (Elt Ideal) (wholeX m c) := by
  have hi := index_rows t
  show (cfg0.win 4).cut (grid0.coords t) ((dats m 0 c).after 4 t) = _
  rw [after0_4]
  funext j
  rw [View.read_apply]
  have hj : ((cfg0.win 4).blk t).view.emb j = ix2 (down t.val t.isLt (j 0)) (j 1) := by
    funext a
    apply Fin.ext
    match a with
    | ⟨0, _⟩ => show win0_4.index t (0 : Fin 2) * 512 + 1 * (j 0).val = (j 0).val + 512 * t.val; omega
    | ⟨1, _⟩ => show win0_4.index t (1 : Fin 2) * 1024 + 1 * (j 1).val = (j 1).val; omega
  rw [hj]
  refine Eq.trans ?_ (left_dx m c t (j 0) (j 1))
  exact congrArg (outsAt0 m c t.val t.isLt).1 (ix2_eta (n0 := 512) (n1 := 1024) j).symm

theorem final_dx (c : Dev nD) : (dats m 0 c).arrAt 4 cfg0.N = wholeX m c :=
  (dats m 0 c).arrAt_eq_of_cover 4 (wholeX m c) (fun t _ => written_dx m c t) fun i => by
    have h0 : (i 0).val < 4096 := (i 0).isLt
    have h1 : (i 1).val < 1024 := (i 1).isLt
    have hN : cfg0.N = 8 := N_0
    obtain ⟨t, ht⟩ : ∃ t : Fin cfg0.N, t.val = (i 0).val / 512 := ⟨⟨(i 0).val / 512, by omega⟩, rfl⟩
    have hi := index_rows t
    refine ⟨t, flush0_4 t, ?_⟩
    show i ∈ ((View.whole main_v0_0).slice (win0_4.rect t)).set
    rw [View.set_slice_whole, Rect.mem_set_unit]
    intro a
    match a with
    | ⟨0, _⟩ => show win0_4.index t (0 : Fin 2) * 512 ≤ (i 0).val ∧ (i 0).val < win0_4.index t (0 : Fin 2) * 512 + 512; omega
    | ⟨1, _⟩ => show win0_4.index t (1 : Fin 2) * 1024 ≤ (i 1).val ∧ (i 1).val < win0_4.index t (1 : Fin 2) * 1024 + 1024; omega

/-! ## The gain's gradient -/

/-- A block's part of the gain's gradient at a column. -/
def part (c : Dev nD) (q : Fin 1024) (t : ℕ) : EReal := if ht : t < cfg0.N then ∑ p, dg (argX m c) (argD m c) q (down t ht p) else 0

theorem part_eq (c : Dev nD) (q : Fin 1024) (t : Fin cfg0.N) :
    k0_pay5 (F := Ideal) (iblk m c 0 t) (iblk m c 2 t) (ix2 0 q) = part m c q t.val := by
  rw [pay_dg]
  unfold part
  rw [dif_pos t.isLt]
  exact Finset.sum_congr (M := EReal) rfl fun p _ => block_dg m c t q p

/-- After a point the row holds the parts of the blocks down to it. -/
theorem left_dg (c : Dev nD) (q : Fin 1024) : ∀ (n : ℕ) (h : n < cfg0.N),
    (outsAt0 m c n h).2 (ix2 0 q) = ∑ t ∈ Finset.range (n + 1), part m c q t
  | 0, h => by
    have e := outsAt0_A m c ⟨0, h⟩ rfl (by simp)
    rw [out_A_5] at e
    rw [show outsAt0 m c 0 h = _ from e]
    show k0_pay5 (F := Ideal) _ _ (ix2 0 q) = _
    rw [part_eq, Finset.sum_range_one]
  | n + 1, h => by
    have hN : cfg0.N = 8 := N_0
    have e := outsAt0_B m c ⟨n + 1, h⟩ (by dsimp only; omega) (by dsimp only; omega)
    rw [out_B_5] at e
    rw [show outsAt0 m c (n + 1) h = _ from e]
    show (outsAt0 m c n _).2 (ix2 0 q) + k0_pay5 (F := Ideal) _ _ (ix2 0 q) = _
    rw [left_dg c q n, part_eq, Finset.sum_range_succ _ (n + 1)]

theorem parts_eq (c : Dev nD) (q : Fin 1024) : ∑ t ∈ Finset.range 8, part m c q t = ∑ a, dg (argX m c) (argD m c) q a := by
  rw [← (finProdFinEquiv (m := 8) (n := 512)).sum_comp (fun a : Fin 4096 => dg (argX m c) (argD m c) q a), Fintype.sum_prod_type,
    ← Fin.sum_univ_eq_sum_range (fun t => part m c q t) 8]
  refine Finset.sum_congr rfl fun t _ => ?_
  unfold part
  rw [dif_pos (lt_of_lt_of_eq t.isLt N_0.symm)]
  rfl

/-- The whole row. -/
abbrev wholeG (c : Dev nD) : Vec Ideal S1x1024 .f32 := fun i => ∑ a, dg (argX m c) (argD m c) (i 1) a

theorem written_dg (c : Dev nD) (t : Fin cfg0.N) (hf : (cfg0.win 5).flush t = true) :
    (dats m 0 c).flushed 5 t = ((cfg0.win 5).blk t).view.read (Elt Ideal) (wholeG m c) := by
  have hi := index_rows t
  have hN : t.val < 8 := lt_of_lt_of_eq t.isLt N_0
  have h7 : t.val = 7 := by have := (flush0_5 t).mp hf; omega
  show (cfg0.win 5).cut (grid0.coords t) ((dats m 0 c).after 5 t) = _
  rw [after0_5]
  funext j
  rw [View.read_apply]
  have hj0 : (j 0).val < 1 := (j 0).isLt
  have hj : ((cfg0.win 5).blk t).view.emb j = ix2 (0 : Fin 1) (j 1) := by
    funext a
    apply Fin.ext
    match a with
    | ⟨0, _⟩ => show win0_5.index t (0 : Fin 2) * 1 + 1 * (j 0).val = 0; omega
    | ⟨1, _⟩ => show win0_5.index t (1 : Fin 2) * 1024 + 1 * (j 1).val = (j 1).val; omega
  rw [hj]
  show _ = ∑ a, dg (argX m c) (argD m c) (j 1) a
  refine Eq.trans ?_ (parts_eq m c (j 1))
  refine Eq.trans ?_ ((left_dg m c (j 1) t.val t.isLt).trans (by rw [h7]))
  refine congrArg (outsAt0 m c t.val t.isLt).2 ?_
  funext a
  match a with
  | ⟨0, _⟩ => exact Fin.ext (by show (j 0).val = 0; omega)
  | ⟨1, _⟩ => rfl

theorem final_dg (c : Dev nD) : (dats m 0 c).arrAt 5 cfg0.N = wholeG m c :=
  (dats m 0 c).arrAt_eq_of_cover 5 (wholeG m c) (written_dg m c) fun i => by
    have h0 : (i 0).val < 1 := (i 0).isLt
    have h1 : (i 1).val < 1024 := (i 1).isLt
    have hN : cfg0.N = 8 := N_0
    obtain ⟨t, ht⟩ : ∃ t : Fin cfg0.N, t.val = 7 := ⟨⟨7, by omega⟩, rfl⟩
    have hi := index_rows t
    refine ⟨t, (flush0_5 t).mpr (by omega), ?_⟩
    show i ∈ ((View.whole main_v0_1).slice (win0_5.rect t)).set
    rw [View.set_slice_whole, Rect.mem_set_unit]
    intro a
    match a with
    | ⟨0, _⟩ => show win0_5.index t (0 : Fin 2) * 1 ≤ (i 0).val ∧ (i 0).val < win0_5.index t (0 : Fin 2) * 1 + 1; omega
    | ⟨1, _⟩ => show win0_5.index t (1 : Fin 2) * 1024 ≤ (i 1).val ∧ (i 1).val < win0_5.index t (1 : Fin 2) * 1024 + 1024; omega

end

/-! ## The claims -/

theorem frame_reference : quiescent_NormBwdReferenceIdeal := fun m g _ =>
  (θ_run _ _ _).mono (fun r h => ⟨fun c => (h c).2.2, sem_eq_zero_of_no_sems (by decide) r.2⟩)
    (NormBwdReferenceIdeal.Value.run (F := Ideal) m g)

theorem algebraic : algebraic_NormBwdIdeal_NormBwdReferenceIdeal := fun m g m' g' _ hm =>
  ⟨_, _, (θ_run _ _ _).mono (fun _ h c => ⟨(h c).1.trans (final_dx m c), (h c).2.1.trans (final_dg m c), (h c).2.2⟩)
      (NormBwdIdeal.Value.run_blocks m g),
    (θ_run _ _ _).mono (fun r h c => by
      obtain ⟨e0, e1, e2, e3⟩ := hm c
      obtain ⟨r1, r2, r3⟩ := h c
      rw [e0, e1, e2, e3] at r1
      rw [e0, e2] at r2
      refine ⟨funext fun i => ?_, funext fun i => ?_, r3⟩
      · exact (congrArg _ (ix2_eta (n0 := 4096) (n1 := 1024) i).symm).trans (r1 (i 0) (i 1))
      · refine (congrArg _ ?_).trans (r2 (i 1))
        funext a
        match a with
        | ⟨0, _⟩ => exact Fin.ext (by have : (i 0).val < 1 := (i 0).isLt; show (i 0).val = 0; omega)
        | ⟨1, _⟩ => rfl) (ref_run m' g')⟩

end Cert.Norm

end
-- ==== Proof.Products.lean ====
/-
# Sums cut into blocks

A product's terms are summed a block at a time, each block's sum added to what the blocks before left.
-/
module

public import Idealize.ShloMosaic.Lib.Pointwise
public import Idealize.ShloMosaic.Lib.Pipeline.Value
public import Idealize.ShloMosaic.Lib.Tactic
public import Mathlib.Algebra.BigOperators.Fin

@[expose] public section

noncomputable section

open Idealize.ShloMosaic

namespace Cert.Products

/-- Place `l` of block `k`, of `n` blocks of `w`, counted round. -/
def into (n w : ℕ) [NeZero n] (k : ℕ) (l : Fin w) : Fin (n * w) := finProdFinEquiv (⟨k % n, Nat.mod_lt _ (NeZero.pos n)⟩, l)

theorem into_val (n w : ℕ) [NeZero n] (k : ℕ) (l : Fin w) : (into n w k l).val = l.val + w * (k % n) := rfl

theorem into_congr {n w : ℕ} [NeZero n] {k k' : ℕ} (h : k % n = k' % n) (l : Fin w) : into n w k l = into n w k' l :=
  Fin.ext (by rw [into_val, into_val, h])

/-- The blocks' sums make up the whole one. -/
theorem sum_into (n w : ℕ) [NeZero n] (f : Fin (n * w) → EReal) : ∑ k ∈ Finset.range n, ∑ l, f (into n w k l) = ∑ a, f a := by
  rw [← (finProdFinEquiv (m := n) (n := w)).sum_comp f, Fintype.sum_prod_type,
    ← Fin.sum_univ_eq_sum_range (fun k => ∑ l, f (into n w k l)) n]
  refine Finset.sum_congr rfl fun k _ => Finset.sum_congr rfl fun l _ => congrArg f (Fin.ext ?_)
  rw [into_val, Nat.mod_eq_of_lt k.isLt]
  rfl

/-- A sum kept through a run of `n` points, begun anew at each run's first. -/
theorem folded {n N : ℕ} [NeZero n] (acc : ∀ t, t < N → EReal) (part : ℕ → ℕ → EReal)
    (first : ∀ t (h : t < N), t % n = 0 → acc t h = part t 0)
    (next : ∀ t (h : t + 1 < N), (t + 1) % n ≠ 0 → acc (t + 1) h = acc t (Nat.lt_of_succ_lt h) + part (t + 1) ((t + 1) % n))
    (same : ∀ t, (t + 1) % n ≠ 0 → part (t + 1) = part t) :
    ∀ t (h : t < N), acc t h = ∑ k ∈ Finset.range (t % n + 1), part t k := by
  intro t
  induction t with
  | zero => intro h; rw [first 0 h (Nat.zero_mod n), Nat.zero_mod, zero_add, Finset.sum_range_one]
  | succ t ih =>
    intro h
    by_cases h0 : (t + 1) % n = 0
    · rw [first (t + 1) h h0, h0, zero_add, Finset.sum_range_one]
    · have hs : (t + 1) % n = t % n + 1 := by
        have hn := NeZero.pos n
        have hl := Nat.mod_lt t hn
        rw [Nat.add_mod] at h0 ⊢
        by_cases h1 : n = 1
        · subst h1; omega
        · rw [Nat.mod_eq_of_lt (show 1 < n by omega)] at h0 ⊢
          by_cases h2 : t % n + 1 = n
          · rw [h2, Nat.mod_self] at h0; exact absurd rfl h0
          · exact Nat.mod_eq_of_lt (by omega)
      rw [next t h h0, ih, Finset.sum_range_succ _ ((t + 1) % n), same t h0, hs]

/-- An index of a matrix by its coordinates' values. -/
theorem at_ix2 {a b : ℕ} {i : (⟨2, ![a, b]⟩ : Shape).Idx} {x : Fin a} {y : Fin b} (h0 : (i 0).val = x.val) (h1 : (i 1).val = y.val) :
    i = ix2 x y := by
  funext k
  match k with
  | ⟨0, _⟩ => exact Fin.ext h0
  | ⟨1, _⟩ => exact Fin.ext h1

/-- A place in a block, counted from the block's first. -/
theorem off {a s p k : ℕ} (h : a = k) : a * s + 1 * p = p + s * k := by subst h; ring

theorem at_zero {a s p : ℕ} (h : a = 0) : a * s + 1 * p = p := by subst h; ring

/-- A place lies in the block that its quotient names. -/
theorem within {a s n : ℕ} (h : n / s = a) (hs : 0 < s := by decide) : a * s ≤ n ∧ n < a * s + s := by
  subst h; exact ⟨Nat.div_mul_le_self .., Nat.lt_div_mul_add hs⟩

/-! Whole blocks are read and written. -/

theorem zeros : (![0, 0] : Fin 2 → Nat) = fun _ => 0 := funext fun a => by fin_cases a <;> rfl

theorem ld_zeros {F : FTy → Type} {a b : ℕ} {e : EltTy} (inb : ∀ k, (![0, 0] : Fin 2 → ℕ) k + (![a, b] : Fin 2 → ℕ) k ≤ (⟨2, ![a, b]⟩ : Shape).size k)
    (x : (⟨2, ![a, b]⟩ : Shape).Idx → Elt F e) : View.ld x (Rect.unit (s := ⟨2, ![a, b]⟩) ![0, 0] ![a, b] inb) = x :=
  View.ld_unit_zero (S := ⟨2, ![a, b]⟩) zeros inb x

end Cert.Products

end
-- ==== Proof.FfnDown.lean ====
/-
# The hidden values put down

Each tile's product is taken in eleven steps, added up in the scratch.
-/
module

public import proofs.«01_k».proof.Defs
public import proofs.«01_k».proof.Proof.Products
public import proofs.«01_k».proof.Proof.Gen.FfnDownIdeal.Value
public import proofs.«01_k».proof.Proof.Gen.FfnDown.Frame
public import proofs.«01_k».proof.Proof.Gen.FfnDownReferenceIdeal.Run

@[expose] public section

noncomputable section

open Idealize.ShloMosaic Idealize.ShloMosaic.TcCoe Idealize.SL.Sem Cert.Products

namespace Cert.Down

section
open Cert.FfnDownIdeal Cert.FfnDownIdeal.Gen

variable {F : FTy → Type} [FloatOps F]

/-! ## What a point leaves -/

theorem acc_A {c i a1 h1 a2 h2 a3 h3 a4 h4 a5 h5 hc hd he x0 x1 x2} :
    sout0_A_0 (F := F) c i a1 h1 a2 h2 a3 h3 a4 h4 a5 h5 hc hd he x0 x1 x2 = k0_pay2 x0 x1 := by
  unfold sout0_A_0
  rw [View.read_writes_eq_canon _ _ _ fun _ => scover0_A_0 ..]
  unfold kernelRun0_A
  dsimp only
  sl_unfold_words
  rw [View.canon_unit_zero zeros]
  simp only [View.readAt_eq_ld, h1.read_unread, h2.read_unread, h3.read_unread, h5.read_unread, ld_zeros, shapeCast_self]

theorem acc_B {c i a1 h1 a2 h2 a3 h3 a4 h4 a5 h5 hc hd he x0 x1 x2 y} :
    sout0_B_0 (F := F) c i a1 h1 a2 h2 a3 h3 a4 h4 a5 h5 hc hd he x0 x1 x2 y = k0_pay3 x0 x1 y := by
  unfold sout0_B_0
  rw [View.read_writes_eq_canon _ _ _ fun _ => scover0_B_0 ..]
  unfold kernelRun0_B
  dsimp only
  sl_unfold_words
  rw [View.canon_unit_zero zeros]
  simp only [View.readAt_eq_ld, h1.read_unread, h2.read_unread, h3.read_unread, h5.read_unread, ld_zeros, shapeCast_self]

theorem acc_C {c i a1 h1 a2 h2 a3 h3 a4 h4 a5 h5 hc hd he x0 x1 x2 y} :
    sout0_C_0 (F := F) c i a1 h1 a2 h2 a3 h3 a4 h4 a5 h5 hc hd he x0 x1 x2 y = k0_pay3 x0 x1 y := by
  unfold sout0_C_0
  rw [View.read_writes_eq_canon _ _ _ fun _ => scover0_C_0 ..]
  unfold kernelRun0_C
  dsimp only
  sl_unfold_words
  rw [View.canon_unit_zero zeros]
  simp only [View.readAt_eq_ld, h1.read_unread, h2.read_unread, h3.read_unread, h5.read_unread, ld_zeros, shapeCast_self]

theorem out_C {c i a1 h1 a2 h2 a3 h3 a4 h4 a5 h5 hc hd he x0 x1 x2 y} :
    out0_C_3 (F := F) c i a1 h1 a2 h2 a3 h3 a4 h4 a5 h5 hc hd he x0 x1 x2 y = k0_pay4 (k0_pay3 x0 x1 y) x2 := by
  unfold out0_C_3
  rw [View.read_writes_eq_canon _ _ _ fun _ => cover0_C_3 ..]
  unfold kernelRun0_C
  dsimp only
  sl_unfold_words
  rw [View.canon_unit_zero zeros]
  simp only [View.readAt_eq_ld, h1.read_unread, h2.read_unread, h3.read_unread, h5.read_unread, ld_zeros, View.readCov_unit_zero (S := S512x512) _ zeros, shapeCast_self]

/-- A tile's product. -/
def tile (x0 : Vec Ideal S512x256 .bf16) (x1 : Vec Ideal S256x512 .bf16) (p : Fin 512) (q : Fin 512) : EReal := ∑ l, x0 (ix2 p l) * x1 (ix2 l q)

theorem pay_first (x0 : Vec Ideal S512x256 .bf16) (x1 : Vec Ideal S256x512 .bf16) (p : Fin 512) (q : Fin 512) :
    k0_pay2 (F := Ideal) x0 x1 (ix2 p q) = tile x0 x1 p q := by
  unfold tile
  pointwise [k0_pay1, k0_pay2, k0_pay3, k0_pay4]

theorem pay_next (x0 : Vec Ideal S512x256 .bf16) (x1 : Vec Ideal S256x512 .bf16) (y : Vec Ideal S512x512 .f32) (p : Fin 512) (q : Fin 512) :
    k0_pay3 (F := Ideal) x0 x1 y (ix2 p q) = y (ix2 p q) + tile x0 x1 p q := by
  unfold tile
  pointwise [k0_pay1, k0_pay2, k0_pay3, k0_pay4]

theorem pay_last (y : Vec Ideal S512x512 .f32) (x2 : Vec Ideal S512x512 .f32) (p : Fin 512) (q : Fin 512) :
    (k0_pay4 (y) x2 : Vec Ideal S512x512 .f32) (ix2 p q) = y (ix2 p q) + x2 (ix2 p q) := by
  pointwise [k0_pay1, k0_pay2, k0_pay3, k0_pay4]

/-! ## The blocks -/

variable (m : (ℓ : Loc nD τ sig) → Buf (Elt Ideal) ℓ)

/-- The arguments. -/
abbrev argA (c : Dev nD) : Vec Ideal S4096x2816 .bf16 := m ((c : Thread nD τ).loc main_arg0)
abbrev argB (c : Dev nD) : Vec Ideal S2816x1024 .bf16 := m ((c : Thread nD τ).loc main_arg1)
abbrev argR (c : Dev nD) : Vec Ideal S4096x1024 .f32 := m ((c : Thread nD τ).loc main_arg2)

/-- Where the tile of a point lies. -/
abbrev down (t : ℕ) (p : Fin 512) : Fin 4096 := into 8 512 (t / 22) p
abbrev across (t : ℕ) (q : Fin 512) : Fin 1024 := into 2 512 (t / 11) q
abbrev along (k : ℕ) (l : Fin 256) : Fin 2816 := into 11 256 k l

theorem index_tile : ∀ t : Fin cfg0.N, win0_0.index t (0 : Fin 2) = t.val / 22 % 8 ∧ win0_0.index t (1 : Fin 2) = t.val % 11
    ∧ win0_1.index t (0 : Fin 2) = t.val % 11 ∧ win0_1.index t (1 : Fin 2) = t.val / 11 % 2
    ∧ win0_2.index t (0 : Fin 2) = t.val / 22 % 8 ∧ win0_2.index t (1 : Fin 2) = t.val / 11 % 2
    ∧ win0_3.index t (0 : Fin 2) = t.val / 22 % 8 ∧ win0_3.index t (1 : Fin 2) = t.val / 11 % 2 :=
  (by decide +kernel : ∀ t : Fin grid0.N, _)

theorem block_0 (c : Dev nD) (t : Fin cfg0.N) (p : Fin 512) (l : Fin 256) :
    (iblk m c 0 t : Vec Ideal S512x256 .bf16) (ix2 p l) = argA m c (ix2 (down t.val p) (along t.val l)) :=
  have hi := index_tile t
  congrArg (argA m c) (at_ix2 (off hi.1) (off hi.2.1))

theorem block_1 (c : Dev nD) (t : Fin cfg0.N) (l : Fin 256) (q : Fin 512) :
    (iblk m c 1 t : Vec Ideal S256x512 .bf16) (ix2 l q) = argB m c (ix2 (along t.val l) (across t.val q)) :=
  have hi := index_tile t
  congrArg (argB m c) (at_ix2 (off hi.2.2.1) (off hi.2.2.2.1))

theorem block_2 (c : Dev nD) (t : Fin cfg0.N) (p : Fin 512) (q : Fin 512) :
    (iblk m c 2 t : Vec Ideal S512x512 .f32) (ix2 p q) = argR m c (ix2 (down t.val p) (across t.val q)) :=
  have hi := index_tile t
  congrArg (argR m c) (at_ix2 (off hi.2.2.2.2.1) (off hi.2.2.2.2.2.1))

/-! ## The products -/

/-- An entry of the result. -/
def entry (c : Dev nD) (i : Fin 4096) (j : Fin 1024) : EReal :=
  (∑ k : Fin 2816, argA m c (ix2 i k) * argB m c (ix2 k j)) + argR m c (ix2 i j)

/-- Block `k`'s part of the sum. -/
def part (c : Dev nD) (i : Fin 4096) (j : Fin 1024) (k : ℕ) : EReal :=
  ∑ l : Fin 256, argA m c (ix2 (i) (along k l)) * argB m c (ix2 (along k l) (j))

theorem part_eq (c : Dev nD) (t : Fin cfg0.N) (p : Fin 512) (q : Fin 512) :
    tile (iblk m c 0 t) (iblk m c 1 t) p q = part m c (down t.val p) (across t.val q) (t.val % 11) := by
  unfold tile part
  refine Finset.sum_congr (M := EReal) rfl fun l _ => ?_
  have e : along (t.val % 11) l = along t.val l := into_congr (Nat.mod_mod _ _) l
  rw [e]
  exact congrArg₂ (fun a b : EReal => a * b) (block_0 m c t p l) (block_1 m c t l q)

theorem left (c : Dev nD) (t : Fin cfg0.N) (ht : t.val % 11 = 10) (p : Fin 512) (q : Fin 512) :
    (outsAt0 m c t.val t.isLt).1 (ix2 p q) = entry m c (down t.val p) (across t.val q) := by
  have hN : cfg0.N = 176 := N_0
  have e : (outsAt0 m c t.val t.isLt).2 (ix2 p q) = _ := folded (n := 11) (N := cfg0.N)
    (fun n h => (outsAt0 m c n h).2 (ix2 p q)) (fun n => part m c (down n p) (across n q))
    (fun n h h0 => by
      rw [outsAt0_A m c ⟨n, h⟩ h0 (by dsimp only; omega) (by dsimp only; omega), acc_A]
      dsimp only
      rw [pay_first, part_eq, h0])
    (fun n h h0 => by
      have e : (outsAt0 m c (n + 1) h).2 = k0_pay3 (F := Ideal) (iblk m c 0 ⟨n + 1, h⟩) (iblk m c 1 ⟨n + 1, h⟩) (outsAt0 m c n (Nat.lt_of_succ_lt h)).2 := by
        by_cases h1 : (n + 1) % 11 = 10
        · rw [outsAt0_C m c ⟨n + 1, h⟩ h0 (by dsimp only; omega) h1, acc_C]
          rfl
        · rw [outsAt0_B m c ⟨n + 1, h⟩ h0 (by dsimp only; omega) h1, acc_B]
          rfl
      rw [e, pay_next, part_eq])
    (fun n h0 => by
      have hd : down (n + 1) p = down n p := into_congr (by omega) p
      have hc : across (n + 1) q = across n q := into_congr (by omega) q
      rw [hd, hc]) t.val t.isLt
  rw [outsAt0_C m c t (by omega) (by omega) ht] at e ⊢
  rw [acc_C] at e
  rw [out_C]
  dsimp only at e ⊢
  rw [pay_last]
  unfold entry
  rw [← sum_into 11 256]
  refine congrArg₂ (fun a b : EReal => a + b) (e.trans ?_) (block_2 m c t p q)
  rw [ht]
  rfl

/-- The whole array. -/
abbrev whole (c : Dev nD) : Vec Ideal S4096x1024 .f32 := fun i => entry m c (i 0) (i 1)

theorem written (c : Dev nD) (t : Fin cfg0.N) (hf : (cfg0.win 3).flush t = true) :
    (dats m 0 c).flushed 3 t = ((cfg0.win 3).blk t).view.read (Elt Ideal) (whole m c) := by
  have hi := index_tile t
  show (cfg0.win 3).cut (grid0.coords t) ((dats m 0 c).after 3 t) = _
  rw [after0_3]
  funext j
  rw [View.read_apply]
  have hj : ((cfg0.win 3).blk t).view.emb j = ix2 (down t.val (j 0)) (across t.val (j 1)) := at_ix2 (off hi.2.2.2.2.2.2.1) (off hi.2.2.2.2.2.2.2)
  rw [hj]
  refine Eq.trans ?_ (left m c t ((flush0_3 t).mp hf) (j 0) (j 1))
  exact congrArg (outsAt0 m c t.val t.isLt).1 (ix2_eta (n0 := 512) (n1 := 512) j).symm

theorem final (c : Dev nD) : (dats m 0 c).arrAt 3 cfg0.N = whole m c :=
  (dats m 0 c).arrAt_eq_of_cover 3 (whole m c) (written m c) fun i => by
    have h0 : (i 0).val < 4096 := (i 0).isLt
    have h1 : (i 1).val < 1024 := (i 1).isLt
    have hN : cfg0.N = 176 := N_0
    obtain ⟨t, ht⟩ : ∃ t : Fin cfg0.N, t.val = ((i 0).val / 512 * 2 + (i 1).val / 512) * 11 + 10 := ⟨⟨_, by omega⟩, rfl⟩
    have hi := index_tile t
    refine ⟨t, (flush0_3 t).mpr (by omega), ?_⟩
    show i ∈ ((View.whole main_v0).slice (win0_3.rect t)).set
    rw [View.set_slice_whole, Rect.mem_set_unit]
    exact Fin.forall_fin_two.mpr ⟨within (s := 512) (by omega), within (s := 512) (by omega)⟩

end

/-! ## The reference -/

section
open Cert.FfnDownReferenceIdeal Cert.FfnDownReferenceIdeal.Gen

theorem ref_entry (a : FVec Ideal S4096x2816 .bf16) (b : FVec Ideal S2816x1024 .bf16) (r : FVec Ideal S4096x1024 .f32) (i : Fin 4096) (j : Fin 1024) :
    (addf r (Host.dotGeneral dot_S4096x2816_S2816x1024_S4096x1024_1_0_0_1_n_n none (extf .f32 a bitsLt_bf16_f32) (extf .f32 b bitsLt_bf16_f32)) : FVec Ideal S4096x1024 .f32) (ix2 i j)
      = (∑ k, a (ix2 i k) * b (ix2 k j)) + r (ix2 i j) := by
  pointwise
  exact add_comm _ _

end

/-! ## The claims -/

theorem frame_reference : quiescent_FfnDownReferenceIdeal := fun m g _ =>
  (θ_run _ _ _).mono (fun r h => ⟨fun c => (h c).2, sem_eq_zero_of_no_sems (by decide) r.2⟩)
    (FfnDownReferenceIdeal.Value.run (F := Ideal) m g)

theorem algebraic : algebraic_FfnDownIdeal_FfnDownReferenceIdeal := fun m g m' g' _ hm =>
  ⟨_, (θ_run _ _ _).mono (fun _ h c => ⟨(h c).1.trans ((FfnDownIdeal.Value.final3 m c).symm.trans (final m c)), (h c).2⟩)
      (FfnDownIdeal.Value.run m g),
    (θ_run _ _ _).mono (fun r h c => by
      obtain ⟨e0, e1, e2⟩ := hm c
      obtain ⟨r1, r2⟩ := h c
      refine ⟨funext fun i => ?_, r2⟩
      rw [r1, e0, e1, e2]
      exact (congrArg _ (ix2_eta (n0 := 4096) (n1 := 1024) i).symm).trans (ref_entry _ _ _ (i 0) (i 1)))
      (FfnDownReferenceIdeal.Value.run (F := Ideal) m' g')⟩

end Cert.Down

end
-- ==== Proof.MixOut.lean ====
/-
# The mixture put out

Each tile of the result is one product.
-/
module

public import proofs.«01_k».proof.Defs
public import proofs.«01_k».proof.Proof.Products
public import proofs.«01_k».proof.Proof.Gen.MixOutIdeal.Value
public import proofs.«01_k».proof.Proof.Gen.MixOut.Frame
public import proofs.«01_k».proof.Proof.Gen.MixOutReferenceIdeal.Run

@[expose] public section

noncomputable section

open Idealize.ShloMosaic Idealize.ShloMosaic.TcCoe Idealize.SL.Sem Cert.Products

namespace Cert.MixOut

section
open Cert.MixOutIdeal Cert.MixOutIdeal.Gen

variable {F : FTy → Type} [FloatOps F]

/-! ## What a point leaves -/

theorem out_A {c i a1 h1 a2 h2 a3 h3 a4 h4 a5 h5 hc hd he x0 x1 x2} :
    out0_A_3 (F := F) c i a1 h1 a2 h2 a3 h3 a4 h4 a5 h5 hc hd he x0 x1 x2 = k0_pay4 (k0_pay2 x0 x1) x2 := by
  unfold out0_A_3
  rw [View.read_writes_eq_canon _ _ _ fun _ => cover0_A_3 ..]
  unfold kernelRun0_A
  dsimp only
  sl_unfold_words
  rw [View.canon_unit_zero zeros]
  simp only [View.readAt_eq_ld, h1.read_unread, h2.read_unread, h3.read_unread, h5.read_unread, ld_zeros, View.readCov_unit_zero (S := S512x512) _ zeros, shapeCast_self]

theorem pay_out (x0 : Vec Ideal S512x1024 .bf16) (x1 : Vec Ideal S1024x512 .bf16) (x2 : Vec Ideal S512x512 .f32) (p : Fin 512) (q : Fin 512) :
    (k0_pay4 (k0_pay2 x0 x1) x2 : Vec Ideal S512x512 .f32) (ix2 p q) = (∑ l, x0 (ix2 p l) * x1 (ix2 l q)) + x2 (ix2 p q) := by
  pointwise [k0_pay1, k0_pay2, k0_pay3, k0_pay4]

/-! ## The blocks -/

variable (m : (ℓ : Loc nD τ sig) → Buf (Elt Ideal) ℓ)

/-- The arguments. -/
abbrev argA (c : Dev nD) : Vec Ideal S4096x1024 .bf16 := m ((c : Thread nD τ).loc main_arg0)
abbrev argB (c : Dev nD) : Vec Ideal S1024x1024 .bf16 := m ((c : Thread nD τ).loc main_arg1)
abbrev argR (c : Dev nD) : Vec Ideal S4096x1024 .f32 := m ((c : Thread nD τ).loc main_arg2)

/-- Where the tile of a point lies. -/
abbrev down (t : ℕ) (p : Fin 512) : Fin 4096 := into 8 512 (t / 2) p
abbrev across (t : ℕ) (q : Fin 512) : Fin 1024 := into 2 512 (t / 1) q
abbrev along (k : ℕ) (l : Fin 1024) : Fin 1024 := into 1 1024 k l

theorem index_tile : ∀ t : Fin cfg0.N, win0_0.index t (0 : Fin 2) = t.val / 2 % 8 ∧ win0_0.index t (1 : Fin 2) = t.val % 1
    ∧ win0_1.index t (0 : Fin 2) = t.val % 1 ∧ win0_1.index t (1 : Fin 2) = t.val / 1 % 2
    ∧ win0_2.index t (0 : Fin 2) = t.val / 2 % 8 ∧ win0_2.index t (1 : Fin 2) = t.val / 1 % 2
    ∧ win0_3.index t (0 : Fin 2) = t.val / 2 % 8 ∧ win0_3.index t (1 : Fin 2) = t.val / 1 % 2 :=
  (by decide +kernel : ∀ t : Fin grid0.N, _)

theorem block_0 (c : Dev nD) (t : Fin cfg0.N) (p : Fin 512) (l : Fin 1024) :
    (iblk m c 0 t : Vec Ideal S512x1024 .bf16) (ix2 p l) = argA m c (ix2 (down t.val p) (along t.val l)) :=
  have hi := index_tile t
  congrArg (argA m c) (at_ix2 (off hi.1) (off hi.2.1))

theorem block_1 (c : Dev nD) (t : Fin cfg0.N) (l : Fin 1024) (q : Fin 512) :
    (iblk m c 1 t : Vec Ideal S1024x512 .bf16) (ix2 l q) = argB m c (ix2 (along t.val l) (across t.val q)) :=
  have hi := index_tile t
  congrArg (argB m c) (at_ix2 (off hi.2.2.1) (off hi.2.2.2.1))

theorem block_2 (c : Dev nD) (t : Fin cfg0.N) (p : Fin 512) (q : Fin 512) :
    (iblk m c 2 t : Vec Ideal S512x512 .f32) (ix2 p q) = argR m c (ix2 (down t.val p) (across t.val q)) :=
  have hi := index_tile t
  congrArg (argR m c) (at_ix2 (off hi.2.2.2.2.1) (off hi.2.2.2.2.2.1))

/-! ## The products -/

/-- An entry of the result. -/
def entry (c : Dev nD) (i : Fin 4096) (j : Fin 1024) : EReal :=
  (∑ k : Fin 1024, argA m c (ix2 i k) * argB m c (ix2 k j)) + argR m c (ix2 i j)

theorem along_one (t : ℕ) (l : Fin 1024) : along t l = l :=
  Fin.ext (by rw [into_val]; omega)

theorem left (c : Dev nD) (t : Fin cfg0.N) (p : Fin 512) (q : Fin 512) :
    (outsAt0 m c t) (ix2 p q) = entry m c (down t.val p) (across t.val q) := by
  unfold outsAt0 entry
  rw [out_A, pay_out]
  simp only [block_0 m c t, block_1 m c t, block_2 m c t, along_one]

/-- The whole array. -/
abbrev whole (c : Dev nD) : Vec Ideal S4096x1024 .f32 := fun i => entry m c (i 0) (i 1)

theorem written (c : Dev nD) (t : Fin cfg0.N) :
    (dats m 0 c).flushed 3 t = ((cfg0.win 3).blk t).view.read (Elt Ideal) (whole m c) := by
  have hi := index_tile t
  show (cfg0.win 3).cut (grid0.coords t) ((dats m 0 c).after 3 t) = _
  rw [after0_3]
  funext j
  rw [View.read_apply]
  have hj : ((cfg0.win 3).blk t).view.emb j = ix2 (down t.val (j 0)) (across t.val (j 1)) := at_ix2 (off hi.2.2.2.2.2.2.1) (off hi.2.2.2.2.2.2.2)
  rw [hj]
  refine Eq.trans ?_ (left m c t (j 0) (j 1))
  exact congrArg (outsAt0 m c t) (ix2_eta (n0 := 512) (n1 := 512) j).symm

theorem final (c : Dev nD) : (dats m 0 c).arrAt 3 cfg0.N = whole m c :=
  (dats m 0 c).arrAt_eq_of_cover 3 (whole m c) (fun t _ => written m c t) fun i => by
    have h0 : (i 0).val < 4096 := (i 0).isLt
    have h1 : (i 1).val < 1024 := (i 1).isLt
    have hN : cfg0.N = 16 := N_0
    obtain ⟨t, ht⟩ : ∃ t : Fin cfg0.N, t.val = ((i 0).val / 512 * 2 + (i 1).val / 512) * 1 + 0 := ⟨⟨_, by omega⟩, rfl⟩
    have hi := index_tile t
    refine ⟨t, flush0_3 t, ?_⟩
    show i ∈ ((View.whole main_v0).slice (win0_3.rect t)).set
    rw [View.set_slice_whole, Rect.mem_set_unit]
    exact Fin.forall_fin_two.mpr ⟨within (s := 512) (by omega), within (s := 512) (by omega)⟩

end

/-! ## The reference -/

section
open Cert.MixOutReferenceIdeal Cert.MixOutReferenceIdeal.Gen

theorem ref_entry (a : FVec Ideal S4096x1024 .bf16) (b : FVec Ideal S1024x1024 .bf16) (r : FVec Ideal S4096x1024 .f32) (i : Fin 4096) (j : Fin 1024) :
    (addf r (Host.dotGeneral dot_S4096x1024_S1024x1024_S4096x1024_1_0_0_1_n_n none (extf .f32 a bitsLt_bf16_f32) (extf .f32 b bitsLt_bf16_f32)) : FVec Ideal S4096x1024 .f32) (ix2 i j)
      = (∑ k, a (ix2 i k) * b (ix2 k j)) + r (ix2 i j) := by
  pointwise
  exact add_comm _ _

end

/-! ## The claims -/

theorem frame_reference : quiescent_MixOutReferenceIdeal := fun m g _ =>
  (θ_run _ _ _).mono (fun r h => ⟨fun c => (h c).2, sem_eq_zero_of_no_sems (by decide) r.2⟩)
    (MixOutReferenceIdeal.Value.run (F := Ideal) m g)

theorem algebraic : algebraic_MixOutIdeal_MixOutReferenceIdeal := fun m g m' g' _ hm =>
  ⟨_, (θ_run _ _ _).mono (fun _ h c => ⟨(h c).1.trans (final m c), (h c).2⟩)
      (MixOutIdeal.Value.run_blocks m g),
    (θ_run _ _ _).mono (fun r h c => by
      obtain ⟨e0, e1, e2⟩ := hm c
      obtain ⟨r1, r2⟩ := h c
      refine ⟨funext fun i => ?_, r2⟩
      rw [r1, e0, e1, e2]
      exact (congrArg _ (ix2_eta (n0 := 4096) (n1 := 1024) i).symm).trans (ref_entry _ _ _ (i 0) (i 1)))
      (MixOutReferenceIdeal.Value.run (F := Ideal) m' g')⟩

end Cert.MixOut

end
-- ==== Proof.CrossFwd.lean ====
/-
# Cross attention

Each point takes a block of rows against its batch's memory, head by head; each head writes its own columns.
-/
module

public import proofs.«01_k».proof.Defs
public import proofs.«01_k».proof.Proof.Products
public import proofs.«01_k».proof.Proof.Gen.CrossFwdIdeal.Value
public import proofs.«01_k».proof.Proof.Gen.CrossFwd.Frame
public import proofs.«01_k».proof.Proof.Gen.CrossFwdReferenceIdeal.Run
public import Idealize.ShloMosaic.Lib.Pipeline.ValueKit.Tiles

@[expose] public section

noncomputable section

open Idealize.ShloMosaic Idealize.ShloMosaic.TcCoe Idealize.SL.Sem Cert.Products

namespace Cert.Cross

/-! ## Attention of one query -/

abbrev eighth : EReal := Ideal.ofBits .bf16 0x3E00#16
abbrev lowest : EReal := Ideal.ofBits .f32 0xFF800000#32

theorem eighth_eq : Ideal.ofBits .f32 0x3E000000#32 = eighth := by
  have h : Ideal.ofBits .f32 0x3E000000#32 = ((1 / 8 : ℝ) : EReal) := by
    simp [Ideal.ofBits, Ideal.ieee, -EReal.coe_mul]; norm_num
  have h' : eighth = ((1 / 8 : ℝ) : EReal) := by
    simp [eighth, Ideal.ofBits, Ideal.ieee, -EReal.coe_mul]; norm_num
  rw [h, h']

/-- The scores of a query against the keys. -/
def score (x : Fin 64 → EReal) (k : Fin 256 → Fin 64 → EReal) (n : Fin 256) : EReal := ∑ d, x d * eighth * k n d

/-- Their exponentials, the largest score taken off first. -/
def rise (s : Fin 256 → EReal) (n : Fin 256) : EReal := Ideal.exp (s n - Finset.fold max lowest (fun n => s n) Finset.univ)

/-- Their softmax. -/
def weight (s : Fin 256 → EReal) (n : Fin 256) : EReal := Ideal.div (rise s n) (∑ n, rise s n)

/-- The values, averaged by it. -/
def attend (x : Fin 64 → EReal) (k : Fin 256 → Fin 64 → EReal) (v : Fin 256 → EReal) : EReal := ∑ n, weight (score x k) n * v n

theorem attend_congr {x x' : Fin 64 → EReal} {k k' : Fin 256 → Fin 64 → EReal} {v v' : Fin 256 → EReal}
    (hx : ∀ d, x d = x' d) (hk : ∀ n d, k n d = k' n d) (hv : ∀ n, v n = v' n) : attend x k v = attend x' k' v' := by
  rw [show x = x' from funext hx, show k = k' from funext fun n => funext (hk n), show v = v' from funext hv]

/-! ## Where a head's numbers lie -/

/-- A column of the queries' head that column `j` of the result belongs to, of its keys, and the values' column. -/
abbrev ofQuery (j : Fin 256) (d : Fin 64) : Fin 256 := ⟨64 * (j.val / 64) + d.val, by omega⟩
abbrev ofKey (j : Fin 256) (d : Fin 64) : Fin 512 := ⟨64 * (j.val / 64) + d.val, by omega⟩
abbrev ofValue (j : Fin 256) : Fin 512 := ⟨256 + j.val, by omega⟩

/-- A row of the memory of the batch that row `i` belongs to. -/
abbrev ofMemory (i : Fin 4096) (n : Fin 256) : Fin 512 := ⟨256 * (i.val / 2048) + n.val, by omega⟩

/-- An entry of the result. -/
def entry (a : FVec Ideal ⟨2, ![4096, 256]⟩ .bf16) (b : FVec Ideal ⟨2, ![512, 512]⟩ .bf16) (i : Fin 4096) (j : Fin 256) : EReal :=
  attend (fun d => a (ix2 i (ofQuery j d))) (fun n d => b (ix2 (ofMemory i n) (ofKey j d))) (fun n => b (ix2 (ofMemory i n) (ofValue j)))

section
open Cert.CrossFwdIdeal Cert.CrossFwdIdeal.Gen

/-! ## One head's stripe -/

section
variable (q : Vec Ideal S512x64 .bf16) (k v : Vec Ideal S256x64 .bf16) (p : Fin 512) (e : Fin 64)

theorem head_0 : (k0_pay2 q k v : Vec Ideal S512x64 .bf16) (ix2 p e) = attend (fun d => q (ix2 p d)) (fun n d => k (ix2 n d)) (fun n => v (ix2 n e)) := by
  unfold attend weight rise score
  pointwise [k0_pay2]

theorem head_1 : (k0_pay4 v (k0_pay3 q k) : Vec Ideal S512x64 .bf16) (ix2 p e) = attend (fun d => q (ix2 p d)) (fun n d => k (ix2 n d)) (fun n => v (ix2 n e)) := by
  unfold attend weight rise score
  pointwise [k0_pay4, k0_pay3]

theorem head_2 : (k0_pay5 q k v : Vec Ideal S512x64 .bf16) (ix2 p e) = attend (fun d => q (ix2 p d)) (fun n d => k (ix2 n d)) (fun n => v (ix2 n e)) := by
  unfold attend weight rise score
  pointwise [k0_pay5]

theorem head_3 : (k0_pay1 v (k0_pay6 q k) : Vec Ideal S512x64 .bf16) (ix2 p e) = attend (fun d => q (ix2 p d)) (fun n d => k (ix2 n d)) (fun n => v (ix2 n e)) := by
  unfold attend weight rise score
  pointwise [k0_pay1, k0_pay6]

end

variable (x0 : Vec Ideal S512x256 .bf16) (x1 : Vec Ideal S256x512 .bf16)

/-- A stripe's reads are its head's columns. -/
theorem stripe {o o' : ℕ} {i0 : ∀ a, (![0, o] : Fin 2 → ℕ) a + S512x64.size a ≤ S512x256.size a}
    {i1 : ∀ a, (![0, o] : Fin 2 → ℕ) a + S256x64.size a ≤ S256x512.size a} {i2 : ∀ a, (![0, o'] : Fin 2 → ℕ) a + S256x64.size a ≤ S256x512.size a}
    (ho : o % 64 = 0) (ho' : o' = 256 + o) {p p' : Fin 512} {j : Fin 256} {e : Fin 64} (hp : p.val = 0 + p'.val) (hj : j.val = o + e.val) :
    attend (fun d => View.ld x0 (Rect.unit (s := S512x256) ![0, o] S512x64.size i0) (ix2 p' d))
        (fun n d => View.ld x1 (Rect.unit (s := S256x512) ![0, o] S256x64.size i1) (ix2 n d))
        (fun n => View.ld x1 (Rect.unit (s := S256x512) ![0, o'] S256x64.size i2) (ix2 n e))
      = attend (fun d => x0 (ix2 p (ofQuery j d))) (fun n d => x1 (ix2 n (ofKey j d))) (fun n => x1 (ix2 n (ofValue j))) := by
  refine attend_congr (fun d => congrArg x0 (at_ix2 ?_ ?_)) (fun n d => congrArg x1 (at_ix2 ?_ ?_))
    (fun n => congrArg x1 (at_ix2 ?_ ?_))
  · show 0 + 1 * p'.val = p.val; omega
  · show o + 1 * d.val = 64 * (j.val / 64) + d.val; omega
  · show 0 + 1 * n.val = n.val; omega
  · show o + 1 * d.val = 64 * (j.val / 64) + d.val; omega
  · show 0 + 1 * n.val = n.val; omega
  · show o' + 1 * e.val = 256 + j.val; omega

theorem out_at (p : Fin 512) (j : Fin 256) :
    out0_2 x0 x1 (ix2 p j) = attend (fun d => x0 (ix2 p (ofQuery j d))) (fun n d => x1 (ix2 n (ofKey j d))) (fun n => x1 (ix2 n (ofValue j))) := by
  unfold out0_2
  refine View.canon_eq_of_allAt _ _ _ (cover0_2 _ _ _ _ _)
    (View.allAt_cons_unit _ _ _ _ _ (fun x hx => ?_) (View.allAt_cons_unit _ _ _ _ _ (fun x hx => ?_)
      (View.allAt_cons_unit _ _ _ _ _ (fun x hx => ?_) (View.allAt_cons_unit _ _ _ _ _ (fun x hx => ?_) (View.allAt_nil _ _)))))
  · exact (congrArg _ (ix2_eta (n0 := 512) (n1 := 64) x).symm).trans ((head_3 _ _ _ _ _).trans (stripe x0 x1 rfl rfl (hx 0) (hx 1)))
  · exact (congrArg _ (ix2_eta (n0 := 512) (n1 := 64) x).symm).trans ((head_2 _ _ _ _ _).trans (stripe x0 x1 rfl rfl (hx 0) (hx 1)))
  · exact (congrArg _ (ix2_eta (n0 := 512) (n1 := 64) x).symm).trans ((head_1 _ _ _ _ _).trans (stripe x0 x1 rfl rfl (hx 0) (hx 1)))
  · exact (congrArg _ (ix2_eta (n0 := 512) (n1 := 64) x).symm).trans ((head_0 _ _ _ _ _).trans (stripe x0 x1 rfl rfl (hx 0) (hx 1)))

/-! ## The blocks -/

variable (m : (ℓ : Loc nD τ sig) → Buf (Elt Ideal) ℓ)

/-- The arguments. -/
abbrev argA (c : Dev nD) : Vec Ideal S4096x256 .bf16 := m ((c : Thread nD τ).loc main_arg0)
abbrev argB (c : Dev nD) : Vec Ideal S512x512 .bf16 := m ((c : Thread nD τ).loc main_arg1)

/-- Where a point's rows lie, and its memory's. -/
abbrev down (t : ℕ) (p : Fin 512) : Fin 4096 := into 8 512 t p

theorem index_tile : ∀ t : Fin cfg0.N, win0_0.index t (0 : Fin 2) = t.val % 8 ∧ win0_0.index t (1 : Fin 2) = 0
    ∧ win0_1.index t (0 : Fin 2) = t.val / 4 ∧ win0_1.index t (1 : Fin 2) = 0
    ∧ win0_2.index t (0 : Fin 2) = t.val % 8 ∧ win0_2.index t (1 : Fin 2) = 0 :=
  (by decide +kernel : ∀ t : Fin grid0.N, _)

theorem block_0 (c : Dev nD) (t : Fin cfg0.N) (p : Fin 512) (l : Fin 256) :
    (iblk m c 0 t : Vec Ideal S512x256 .bf16) (ix2 p l) = argA m c (ix2 (down t.val p) l) :=
  have hi := index_tile t
  congrArg (argA m c) (at_ix2 (off hi.1) (at_zero hi.2.1))

theorem block_1 (c : Dev nD) (t : Fin cfg0.N) (p : Fin 512) (n : Fin 256) (l : Fin 512) :
    (iblk m c 1 t : Vec Ideal S256x512 .bf16) (ix2 n l) = argB m c (ix2 (ofMemory (down t.val p) n) l) := by
  have hi := index_tile t
  have hN : t.val < 8 := lt_of_lt_of_eq t.isLt N_0
  unfold iblk
  rw [View.read_apply]
  exact congrArg (argB m c) (at_ix2
    (by show win0_1.index t (0 : Fin 2) * 256 + 1 * n.val = 256 * ((p.val + 512 * (t.val % 8)) / 2048) + n.val; omega)
    (at_zero hi.2.2.2.1))

/-- The whole array. -/
abbrev whole (c : Dev nD) : Vec Ideal S4096x256 .bf16 := fun i => entry (argA m c) (argB m c) (i 0) (i 1)

theorem written (c : Dev nD) (t : Fin cfg0.N) (hf : (cfg0.win 2).flush t = true) :
    (dats m 0 c).flushed 2 t = ((cfg0.win 2).blk t).view.read (Elt Ideal) (whole m c) := by
  have hi := index_tile t
  rw [CrossFwdIdeal.Value.flushed2]
  funext j
  rw [View.read_apply]
  have hj : ((cfg0.win 2).blk t).view.emb j = ix2 (down t.val (j 0)) (j 1) := at_ix2 (off hi.2.2.2.2.1) (at_zero hi.2.2.2.2.2)
  rw [hj]
  refine (congrArg (out0_2 (iblk m c 0 t) (iblk m c 1 t)) (ix2_eta (n0 := 512) (n1 := 256) j).symm).trans
    ((out_at _ _ (j 0) (j 1)).trans ?_)
  exact attend_congr (fun d => block_0 m c t (j 0) _) (fun n d => block_1 m c t (j 0) n _) (fun n => block_1 m c t (j 0) n _)

theorem final (c : Dev nD) : (dats m 0 c).arrAt 2 cfg0.N = whole m c :=
  (dats m 0 c).arrAt_eq_of_cover 2 (whole m c) (written m c) fun i => by
    have h0 : (i 0).val < 4096 := (i 0).isLt
    have h1 : (i 1).val < 256 := (i 1).isLt
    have hN : cfg0.N = 8 := N_0
    obtain ⟨t, ht⟩ : ∃ t : Fin cfg0.N, t.val = (i 0).val / 512 := ⟨⟨_, by omega⟩, rfl⟩
    have hi := index_tile t
    refine ⟨t, flush0_2 t, ?_⟩
    show i ∈ ((View.whole main_v0).slice (win0_2.rect t)).set
    rw [View.set_slice_whole, Rect.mem_set_unit]
    exact Fin.forall_fin_two.mpr ⟨within (s := 512) (by omega), within (s := 256) (by omega)⟩

end

/-! ## The reference -/

section
open Cert.CrossFwdReferenceIdeal Cert.CrossFwdReferenceIdeal.Gen

abbrev row (b : Fin 2) (s : Fin 2048) : Fin 4096 := ⟨b.val * 2048 + s.val, by omega⟩
abbrev col (h : Fin 4) (d : Fin 64) : Fin 256 := ⟨h.val * 64 + d.val, by omega⟩
abbrev memRow (b : Fin 2) (n : Fin 256) : Fin 512 := ⟨b.val * 256 + n.val, by omega⟩
abbrev memCol (w : Fin 2) (h : Fin 4) (d : Fin 64) : Fin 512 := ⟨w.val * 256 + (h.val * 64 + d.val), by omega⟩

variable (b : Fin 2) (h : Fin 4) (s : Fin 2048) (n : Fin 256) (d : Fin 64)

/-! ### Heads cut out of the rows, and put back -/

theorem cut_query (a : FVec Ideal S4096x256 .f32) :
    (shapeCast _ a shapeCasts_S4096x256_S2x2048x4x64 : FVec Ideal S2x2048x4x64 .f32) (ix4 b s h d) = a (ix2 (row b s) (col h d)) := by
  refine shapeCast_apply _ _ _ _ ?_
  rw [Shape.rowMajor_val_two, Shape.rowMajor_val_four]
  show (b.val * 2048 + s.val) * 256 + (h.val * 64 + d.val) = ((b.val * 2048 + s.val) * 4 + h.val) * 64 + d.val
  omega

theorem cut_memory (w : Fin 2) (a : FVec Ideal S512x512 .f32) :
    (shapeCast _ a shapeCasts_S512x512_S2x256x2x4x64 : FVec Ideal S2x256x2x4x64 .f32) (ix5 b n w h d) = a (ix2 (memRow b n) (memCol w h d)) := by
  refine shapeCast_apply _ _ _ _ ?_
  rw [Shape.rowMajor_val_two, Shape.rowMajor_val_five]
  show (b.val * 256 + n.val) * 512 + (w.val * 256 + (h.val * 64 + d.val)) = (((b.val * 256 + n.val) * 2 + w.val) * 4 + h.val) * 64 + d.val
  omega

theorem put_back (a : FVec Ideal S2x2048x4x64 .f32) :
    (shapeCast _ a shapeCasts_S2x2048x4x64_S4096x256 : FVec Ideal S4096x256 .f32) (ix2 (row b s) (col h d)) = a (ix4 b s h d) := by
  refine shapeCast_apply _ _ _ _ ?_
  rw [Shape.rowMajor_val_two, Shape.rowMajor_val_four]
  show ((b.val * 2048 + s.val) * 4 + h.val) * 64 + d.val = (b.val * 2048 + s.val) * 256 + (h.val * 64 + d.val)
  omega

/-- The queries, scaled; the keys; the values. -/
def queries (a : FVec Ideal S4096x256 .bf16) : FVec Ideal S2x4x2048x64 .f32 :=
  mulf (transpose S2x4x2048x64 [0, 2, 1, 3] (shapeCast _ (extf .f32 a bitsLt_bf16_f32) shapeCasts_S4096x256_S2x2048x4x64) transposes_S2x2048x4x64_S2x4x2048x64_0_2_1_3) (broadcastInDim S2x4x2048x64 ![] bcast_S_S2x4x2048x64 (constant S_ .f32 0x3E000000#32))

def keys (a : FVec Ideal S512x512 .bf16) : FVec Ideal S2x4x256x64 .f32 :=
  shapeCast _ (extractStridedSlice S1x2x4x256x64 ![0, 0, 0, 0, 0] (transpose S2x2x4x256x64 [2, 0, 3, 1, 4] (shapeCast _ (extf .f32 a bitsLt_bf16_f32) shapeCasts_S512x512_S2x256x2x4x64) transposes_S2x256x2x4x64_S2x2x4x256x64_2_0_3_1_4) slices_S2x2x4x256x64_S1x2x4x256x64_0_0_0_0_0) shapeCasts_S1x2x4x256x64_S2x4x256x64

def values (a : FVec Ideal S512x512 .bf16) : FVec Ideal S2x4x256x64 .f32 :=
  shapeCast _ (extractStridedSlice S1x2x4x256x64 ![1, 0, 0, 0, 0] (transpose S2x2x4x256x64 [2, 0, 3, 1, 4] (shapeCast _ (extf .f32 a bitsLt_bf16_f32) shapeCasts_S512x512_S2x256x2x4x64) transposes_S2x256x2x4x64_S2x2x4x256x64_2_0_3_1_4) slices_S2x2x4x256x64_S1x2x4x256x64_1_0_0_0_0) shapeCasts_S1x2x4x256x64_S2x4x256x64

theorem turn_query (a : FVec Ideal S2x2048x4x64 .f32) :
    (mulf (transpose S2x4x2048x64 [0, 2, 1, 3] a transposes_S2x2048x4x64_S2x4x2048x64_0_2_1_3) (broadcastInDim S2x4x2048x64 ![] bcast_S_S2x4x2048x64 (constant S_ .f32 0x3E000000#32)) : FVec Ideal S2x4x2048x64 .f32) (ix4 b h s d) = a (ix4 b s h d) * Ideal.ofBits .f32 0x3E000000#32 := by
  pointwise

theorem turn_key (a : FVec Ideal S2x256x2x4x64 .f32) :
    (shapeCast _ (extractStridedSlice S1x2x4x256x64 ![0, 0, 0, 0, 0] (transpose S2x2x4x256x64 [2, 0, 3, 1, 4] a transposes_S2x256x2x4x64_S2x2x4x256x64_2_0_3_1_4) slices_S2x2x4x256x64_S1x2x4x256x64_0_0_0_0_0) shapeCasts_S1x2x4x256x64_S2x4x256x64 : FVec Ideal S2x4x256x64 .f32) (ix4 b h n d) = a (ix5 b n 0 h d) := by
  pointwise

theorem turn_value (a : FVec Ideal S2x256x2x4x64 .f32) :
    (shapeCast _ (extractStridedSlice S1x2x4x256x64 ![1, 0, 0, 0, 0] (transpose S2x2x4x256x64 [2, 0, 3, 1, 4] a transposes_S2x256x2x4x64_S2x2x4x256x64_2_0_3_1_4) slices_S2x2x4x256x64_S1x2x4x256x64_1_0_0_0_0) shapeCasts_S1x2x4x256x64_S2x4x256x64 : FVec Ideal S2x4x256x64 .f32) (ix4 b h n d) = a (ix5 b n 1 h d) := by
  pointwise

theorem turn_back (a : FVec Ideal S2x4x2048x64 .f32) :
    (transpose S2x2048x4x64 [0, 2, 1, 3] a transposes_S2x4x2048x64_S2x2048x4x64_0_2_1_3 : FVec Ideal S2x2048x4x64 .f32) (ix4 b s h d) = a (ix4 b h s d) := by
  pointwise

theorem queries_at (a : FVec Ideal S4096x256 .bf16) : queries a (ix4 b h s d) = a (ix2 (row b s) (col h d)) * eighth := by
  rw [← eighth_eq]
  exact (turn_query b h s d _).trans (congrArg (fun x : EReal => x * Ideal.ofBits .f32 0x3E000000#32) (cut_query b h s d _))

theorem keys_at (a : FVec Ideal S512x512 .bf16) : keys a (ix4 b h n d) = a (ix2 (memRow b n) (memCol 0 h d)) :=
  (turn_key b h n d _).trans (cut_memory b h n d 0 _)

theorem values_at (a : FVec Ideal S512x512 .bf16) : values a (ix4 b h n d) = a (ix2 (memRow b n) (memCol 1 h d)) :=
  (turn_value b h n d _).trans (cut_memory b h n d 1 _)

/-! ### The softmax -/

theorem scores_at (q : FVec Ideal S2x4x2048x64 .f32) (k : FVec Ideal S2x4x256x64 .f32) :
    (Host.dotGeneral dot_S2x4x2048x64_S2x4x256x64_S2x4x2048x256_3_3_2_2_01_01 none q k : FVec Ideal S2x4x2048x256 .f32) (ix4 b h s n) = ∑ d, q (ix4 b h s d) * k (ix4 b h n d) := by
  pointwise

theorem top_at (x : FVec Ideal S2x4x2048x256 .f32) :
    (Host.reduce FloatOps.maximumf x (constant S_ .f32 0xFF800000#32) reducesTo_S2x4x2048x256_S2x4x2048_d3 h_S_ : FVec Ideal S2x4x2048 .f32) (ix3 b h s)
      = Finset.fold max lowest (fun n => x (ix4 b h s n)) Finset.univ := by
  pointwise

theorem shifted_at (x : FVec Ideal S2x4x2048x256 .f32) (y : FVec Ideal S2x4x2048 .f32) :
    (Host.exp (subf x (broadcastInDim S2x4x2048x256 ![0, 1, 2, 3] bcast_S2x4x2048x1_S2x4x2048x256_0_1_2_3 (broadcastInDim S2x4x2048x1 ![0, 1, 2] bcast_S2x4x2048_S2x4x2048x1_0_1_2 (maximumf (broadcastInDim S2x4x2048 ![] bcast_S_S2x4x2048 (constant S_ .f32 0xFF800000#32)) y)))) : FVec Ideal S2x4x2048x256 .f32) (ix4 b h s n)
      = Ideal.exp (x (ix4 b h s n) - max lowest (y (ix3 b h s))) := by
  pointwise

theorem shared_at (x : FVec Ideal S2x4x2048x256 .f32) (y : FVec Ideal S2x4x2048 .f32) :
    (Host.divf x (broadcastInDim S2x4x2048x256 ![0, 1, 2, 3] bcast_S2x4x2048x1_S2x4x2048x256_0_1_2_3 (broadcastInDim S2x4x2048x1 ![0, 1, 2] bcast_S2x4x2048_S2x4x2048x1_0_1_2 y)) : FVec Ideal S2x4x2048x256 .f32) (ix4 b h s n)
      = Ideal.div (x (ix4 b h s n)) (y (ix3 b h s)) := by
  pointwise

theorem total_at (x : FVec Ideal S2x4x2048x256 .f32) :
    (Host.reduceAdd x (constant S_ .f32 0x00000000#32) reducesTo_S2x4x2048x256_S2x4x2048_d3 h_S_ : FVec Ideal S2x4x2048 .f32) (ix3 b h s)
      = ∑ n, x (ix4 b h s n) := by
  pointwise

theorem mean_at (x : FVec Ideal S2x4x2048x256 .f32) (v : FVec Ideal S2x4x256x64 .f32) :
    (Host.dotGeneral dot_S2x4x2048x256_S2x4x256x64_S2x4x2048x64_3_2_2_3_01_01 none x v : FVec Ideal S2x4x2048x64 .f32) (ix4 b h s d) = ∑ n, x (ix4 b h s n) * v (ix4 b h n d) := by
  pointwise

/-- The exponentials, and the softmax. -/
def rises (x : FVec Ideal S2x4x2048x256 .f32) : FVec Ideal S2x4x2048x256 .f32 :=
  Host.exp (subf x (broadcastInDim S2x4x2048x256 ![0, 1, 2, 3] bcast_S2x4x2048x1_S2x4x2048x256_0_1_2_3 (broadcastInDim S2x4x2048x1 ![0, 1, 2] bcast_S2x4x2048_S2x4x2048x1_0_1_2 (maximumf (broadcastInDim S2x4x2048 ![] bcast_S_S2x4x2048 (constant S_ .f32 0xFF800000#32)) (Host.reduce FloatOps.maximumf x (constant S_ .f32 0xFF800000#32) reducesTo_S2x4x2048x256_S2x4x2048_d3 h_S_)))))

def weights (x : FVec Ideal S2x4x2048x256 .f32) : FVec Ideal S2x4x2048x256 .f32 :=
  Host.divf (rises x) (broadcastInDim S2x4x2048x256 ![0, 1, 2, 3] bcast_S2x4x2048x1_S2x4x2048x256_0_1_2_3 (broadcastInDim S2x4x2048x1 ![0, 1, 2] bcast_S2x4x2048_S2x4x2048x1_0_1_2 (Host.reduceAdd (rises x) (constant S_ .f32 0x00000000#32) reducesTo_S2x4x2048x256_S2x4x2048_d3 h_S_)))

theorem rises_at (x : FVec Ideal S2x4x2048x256 .f32) : rises x (ix4 b h s n) = rise (fun n => x (ix4 b h s n)) n := by
  refine (shifted_at b h s n x _).trans ?_
  rw [top_at, max_eq_right ((Finset.le_fold_max _).mpr (Or.inl le_rfl))]
  rfl

theorem weights_at (x : FVec Ideal S2x4x2048x256 .f32) : weights x (ix4 b h s n) = weight (fun n => x (ix4 b h s n)) n := by
  refine (shared_at b h s n _ _).trans ?_
  rw [total_at, rises_at]
  exact congrArg (Ideal.div _) (Finset.sum_congr (M := EReal) rfl fun k _ => rises_at b h s k x)

/-- The result. -/
def result (a : FVec Ideal S4096x256 .bf16) (c : FVec Ideal S512x512 .bf16) : FVec Ideal S4096x256 .bf16 :=
  truncf .bf16 (shapeCast _ (transpose S2x2048x4x64 [0, 2, 1, 3] (Host.dotGeneral dot_S2x4x2048x256_S2x4x256x64_S2x4x2048x64_3_2_2_3_01_01 none
    (weights (Host.dotGeneral dot_S2x4x2048x64_S2x4x256x64_S2x4x2048x256_3_3_2_2_01_01 none (queries a) (keys c))) (values c))
    transposes_S2x4x2048x64_S2x2048x4x64_0_2_1_3) shapeCasts_S2x2048x4x64_S4096x256) bitsLt_bf16_f32

theorem result_at (a : FVec Ideal S4096x256 .bf16) (c : FVec Ideal S512x512 .bf16) :
    result a c (ix2 (row b s) (col h d)) = entry a c (row b s) (col h d) := by
  refine (put_back b h s d _).trans ((turn_back b h s d _).trans ((mean_at b h s d _ _).trans ?_))
  unfold entry attend
  refine Finset.sum_congr (M := EReal) rfl fun n _ => ?_
  rw [weights_at, values_at]
  refine congrArg₂ (fun x y : EReal => x * y) (congrArg (fun f => weight f n) (funext fun n => ?_)) (congrArg c (congrArg₂ ix2 (Fin.ext ?_) (Fin.ext ?_)))
  · rw [scores_at]
    unfold score
    refine Finset.sum_congr (M := EReal) rfl fun e _ => ?_
    rw [queries_at, keys_at]
    refine congrArg₂ (fun x y : EReal => x * y) (congrArg (fun x : EReal => x * eighth) (congrArg a (congrArg₂ ix2 rfl (Fin.ext ?_))))
      (congrArg c (congrArg₂ ix2 (Fin.ext ?_) (Fin.ext ?_)))
    · show h.val * 64 + e.val = 64 * ((h.val * 64 + d.val) / 64) + e.val; omega
    · show b.val * 256 + n.val = 256 * ((b.val * 2048 + s.val) / 2048) + n.val; omega
    · show 0 * 256 + (h.val * 64 + e.val) = 64 * ((h.val * 64 + d.val) / 64) + e.val; omega
  · show b.val * 256 + n.val = 256 * ((b.val * 2048 + s.val) / 2048) + n.val; omega
  · show 1 * 256 + (h.val * 64 + d.val) = 256 + (h.val * 64 + d.val); omega

theorem ref_entry (a : FVec Ideal S4096x256 .bf16) (c : FVec Ideal S512x512 .bf16) (i : Fin 4096) (j : Fin 256) :
    result a c (ix2 i j) = entry a c i j := by
  have hi : row ⟨i.val / 2048, by omega⟩ ⟨i.val % 2048, by omega⟩ = i := Fin.ext (by show i.val / 2048 * 2048 + i.val % 2048 = i.val; omega)
  have hj : col ⟨j.val / 64, by omega⟩ ⟨j.val % 64, by omega⟩ = j := Fin.ext (by show j.val / 64 * 64 + j.val % 64 = j.val; omega)
  have e := result_at ⟨i.val / 2048, by omega⟩ ⟨j.val / 64, by omega⟩ ⟨i.val % 2048, by omega⟩ ⟨j.val % 64, by omega⟩ a c
  rw [hi, hj] at e
  exact e

theorem res_eq (m : (ℓ : Loc nD τ sig) → Buf (Elt Ideal) ℓ) (c : Dev nD) :
    CrossFwdReferenceIdeal.Value.res_out0 (F := Ideal) m c
      = result (m ((c.tc : Thread nD τ).loc main_arg0)) (m ((c.tc : Thread nD τ).loc main_arg1)) := rfl

end

/-! ## The claims -/

theorem frame_reference : quiescent_CrossFwdReferenceIdeal := fun m g _ =>
  (θ_run _ _ _).mono (fun r h => ⟨fun c => (h c).2, sem_eq_zero_of_no_sems (by decide) r.2⟩)
    (CrossFwdReferenceIdeal.Value.run (F := Ideal) m g)

theorem algebraic : algebraic_CrossFwdIdeal_CrossFwdReferenceIdeal := fun m g m' g' _ hm =>
  ⟨_, (θ_run _ _ _).mono (fun _ h c => ⟨(h c).1.trans (final m c), (h c).2⟩)
      (CrossFwdIdeal.Value.run_blocks m g),
    (θ_run _ _ _).mono (fun r h c => by
      obtain ⟨e0, e1⟩ := hm c
      obtain ⟨r1, r2⟩ := h c
      refine ⟨funext fun i => ?_, r2⟩
      rw [r1]
      refine (congrFun (res_eq m' c) i).trans ?_
      rw [e0, e1]
      exact (congrArg _ (ix2_eta (n0 := 4096) (n1 := 256) i).symm).trans (ref_entry _ _ (i 0) (i 1)))
      (CrossFwdReferenceIdeal.Value.run (F := Ideal) m' g')⟩

end Cert.Cross

end
-- ==== Proof.LossRows.lean ====
/-
# The loss, entry by entry

What a block of rows computes of the loss and of its gradients, and what the reference's whole arrays hold, each read at an entry
over the extended reals. The gradient at the norm's input is the norm's, from the error's.
-/
module

public import proofs.«01_k».proof.Proof.NormRows
public import proofs.«01_k».proof.Proof.Gen.LossHeadIdeal.Skeleton
public import proofs.«01_k».proof.Proof.Gen.LossHeadReferenceIdeal.Run
public import Idealize.ShloMosaic.Lib.Pointwise

@[expose] public section

noncomputable section

open Idealize.ShloMosaic

namespace Cert.Loss

open Cert.Norm (width little row scale direct chained)

/-- One half, two and the width's inverse, as the programs' constants. -/
abbrev aHalf : EReal := Ideal.ofBits .f32 0x3F000000#32
abbrev two : EReal := Ideal.ofBits .f32 0x40000000#32
abbrev thin : EReal := Ideal.ofBits .f32 0x3A800000#32

theorem aHalf_eq : aHalf = ((1 / 2 : ℝ) : EReal) := by
  simp [Ideal.ofBits, Ideal.ieee, -EReal.coe_mul]; norm_num

theorem two_eq : two = ((2 : ℝ) : EReal) := by
  simp [Ideal.ofBits, Ideal.ieee, -EReal.coe_mul]; norm_num

theorem thin_eq : thin = ((1 / 1024 : ℝ) : EReal) := by
  simp [Ideal.ofBits, Ideal.ieee, -EReal.coe_mul]; norm_num

/-- What the chain rule gives for the error's square, is the error by the width. -/
theorem slope_eq (e : EReal) : Ideal.div aHalf width * (two * e) = e * thin := by
  rw [Norm.width_eq, Norm.div_real (by norm_num), aHalf_eq, two_eq, thin_eq, ← mul_assoc, mul_comm e]
  congr 1
  rw [← EReal.coe_mul, ← EReal.coe_mul]
  norm_num

variable {r n : ℕ}

/-- The error at an entry. -/
def err (x : FVec Ideal ⟨2, ![r, n]⟩ .f32) (g : FVec Ideal ⟨2, ![1, n]⟩ .f32) (t : FVec Ideal ⟨2, ![r, n]⟩ .f32) (a : Fin r) (k : Fin n) : EReal :=
  x (ix2 a k) * scale width little (row x a) * g (ix2 0 k) - t (ix2 a k)

/-- A row's mean squared error. -/
def square (x : FVec Ideal ⟨2, ![r, n]⟩ .f32) (g : FVec Ideal ⟨2, ![1, n]⟩ .f32) (t : FVec Ideal ⟨2, ![r, n]⟩ .f32) (a : Fin r) : EReal :=
  Ideal.div (∑ k, err x g t a k * err x g t a k) width

/-- The gradient at the norm's input at an entry. -/
def dx (x : FVec Ideal ⟨2, ![r, n]⟩ .f32) (g : FVec Ideal ⟨2, ![1, n]⟩ .f32) (t : FVec Ideal ⟨2, ![r, n]⟩ .f32) (a : Fin r) (b : Fin n) : EReal :=
  direct width little (row x a) (fun k => err x g t a k * thin * g (ix2 0 k)) b

/-- One row's part of the gain's gradient. -/
def dg (x : FVec Ideal ⟨2, ![r, n]⟩ .f32) (g : FVec Ideal ⟨2, ![1, n]⟩ .f32) (t : FVec Ideal ⟨2, ![r, n]⟩ .f32) (b : Fin n) (a : Fin r) : EReal :=
  err x g t a b * thin * (x (ix2 a b) * scale width little (row x a))

theorem dx_chained (x : FVec Ideal ⟨2, ![r, n]⟩ .f32) (g : FVec Ideal ⟨2, ![1, n]⟩ .f32) (t : FVec Ideal ⟨2, ![r, n]⟩ .f32) (a : Fin r) (b : Fin n) :
    dx x g t a b = chained width little Norm.half (row x a) (fun k => Ideal.div aHalf width * (two * err x g t a k) * g (ix2 0 k)) b := by
  obtain ⟨e, he, hl⟩ := Norm.little_eq
  simp only [slope_eq]
  unfold dx
  rw [Norm.width_eq, hl, Norm.half_eq, Norm.direct_eq_chained (by norm_num) he]

section
open Cert.LossHeadIdeal Cert.LossHeadIdeal.Gen

theorem pay_loss (x : Vec Ideal S256x1024 .f32) (g : Vec Ideal S1x1024 .f32) (t : Vec Ideal S256x1024 .f32) (q : Fin 128) :
    k0_pay8 (F := Ideal) x g t (ix2 0 q) = (∑ p, square x g t p) * aHalf := by
  pointwise [k0_pay8, k0_pay7, k0_pay6, k0_pay5]
  simp only [Fin.sum_univ_one]
  exact mul_comm (G := EReal) _ _

theorem pay_dx (x : Vec Ideal S256x1024 .f32) (g : Vec Ideal S1x1024 .f32) (t : Vec Ideal S256x1024 .f32) (p : Fin 256) (q : Fin 1024) :
    mulf (k0_pay11 (F := Ideal) x) (k0_pay10 x g t) (ix2 p q) = dx x g t p q := by
  pointwise [k0_pay11, k0_pay10, k0_pay9, k0_pay7, k0_pay6, k0_pay5]
  rfl

theorem pay_dg (x : Vec Ideal S256x1024 .f32) (g : Vec Ideal S1x1024 .f32) (t : Vec Ideal S256x1024 .f32) (q : Fin 1024) :
    k0_pay2 (F := Ideal) (k0_pay6 x) (k0_pay9 x g t) (ix2 0 q) = ∑ p, dg x g t q p := by
  pointwise [k0_pay2, k0_pay9, k0_pay7, k0_pay6, k0_pay5]
  rfl

end

/-! ## The reference -/

open Idealize.ShloMosaic.TcCoe Idealize.SL.Sem

open Cert.LossHeadReferenceIdeal in
/-- The reference's run, its results read at an entry. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      (∀ q : Fin 128, r.2.mem ((c.tc : Thread nD τ).loc main_v49) (ix2 0 q)
        = (∑ a, square (m ((c.tc : Thread nD τ).loc main_arg0)) (m ((c.tc : Thread nD τ).loc main_arg1)) (m ((c.tc : Thread nD τ).loc main_arg2)) a) * aHalf)
      ∧ (∀ (a : Fin 4096) (b : Fin 1024), r.2.mem ((c.tc : Thread nD τ).loc main_v48) (ix2 a b)
        = dx (m ((c.tc : Thread nD τ).loc main_arg0)) (m ((c.tc : Thread nD τ).loc main_arg1)) (m ((c.tc : Thread nD τ).loc main_arg2)) a b)
      ∧ (∀ b : Fin 1024, r.2.mem ((c.tc : Thread nD τ).loc main_v32) (ix2 0 b)
        = ∑ a, dg (m ((c.tc : Thread nD τ).loc main_arg0)) (m ((c.tc : Thread nD τ).loc main_arg1)) (m ((c.tc : Thread nD τ).loc main_arg2)) b a)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  refine (θ_run defs _ _).mono (fun r h c => ?_) (Value.run (F := Ideal) m ρ)
  obtain ⟨h1, h2, h3, h4⟩ := h c
  refine ⟨fun q => ?_, fun a b => ?_, fun b => ?_, h4⟩
  · rw [h1]
    generalize m ((c.tc : Thread nD τ).loc main_arg0) = x
    generalize m ((c.tc : Thread nD τ).loc main_arg1) = g
    generalize m ((c.tc : Thread nD τ).loc main_arg2) = t
    pointwise
    exact mul_comm (G := EReal) _ _
  · rw [h2]
    unfold Value.res_main_v48
    generalize m ((c.tc : Thread nD τ).loc main_arg0) = x
    generalize m ((c.tc : Thread nD τ).loc main_arg1) = g
    generalize m ((c.tc : Thread nD τ).loc main_arg2) = t
    rw [dx_chained]
    pointwise
    simp only [Fin.sum_univ_one]
    rfl
  · rw [h3]
    generalize m ((c.tc : Thread nD τ).loc main_arg0) = x
    generalize m ((c.tc : Thread nD τ).loc main_arg1) = g
    generalize m ((c.tc : Thread nD τ).loc main_arg2) = t
    pointwise
    refine Finset.sum_congr (M := EReal) rfl fun a _ => ?_
    unfold dg
    rw [← slope_eq]
    exact mul_comm (G := EReal) _ _

end Cert.Loss

end
-- ==== Proof.LossHead.lean ====
/-
# The loss

The kernel goes down the rows in sixteen blocks, writing each block of the input's gradient and adding each block's part of the
loss and of the gain's gradient to what the blocks before left.
-/
module

public import proofs.«01_k».proof.Defs
public import proofs.«01_k».proof.Proof.LossRows
public import proofs.«01_k».proof.Proof.Gen.LossHeadIdeal.Value
public import proofs.«01_k».proof.Proof.Gen.LossHead.Frame
public import Idealize.ShloMosaic.Lib.Pipeline.Value
public import Idealize.ShloMosaic.Lib.Tactic

@[expose] public section

noncomputable section

open Idealize.ShloMosaic Idealize.ShloMosaic.TcCoe Idealize.SL.Sem

namespace Cert.Loss

section
open Cert.LossHeadIdeal Cert.LossHeadIdeal.Gen

variable {F : FTy → Type} [FloatOps F]

theorem zeros : (![0, 0] : Fin 2 → Nat) = fun _ => 0 := funext fun a => by fin_cases a <;> rfl

/-! ## What a point leaves -/

theorem out_A_3 (c : Dev nD) (i : grid0.Coords) (a1 : Memref sig .tc .vmem S256x1024 .f32) (h1 : a1.IsWhole) (a2 : Memref sig .tc .vmem S1x1024 .f32) (h2 : a2.IsWhole) (a3 : Memref sig .tc .vmem S256x1024 .f32) (h3 : a3.IsWhole) (a4 : Memref sig .tc .vmem S1x128 .f32) (h4 : a4.IsWhole) (a5 : Memref sig .tc .vmem S256x1024 .f32) (h5 : a5.IsWhole) (a6 : Memref sig .tc .vmem S1x1024 .f32) (h6 : a6.IsWhole) (hc : cond0_0 i) (hd : ¬cond0_1 i)
    (x0 : Vec F S256x1024 .f32) (x1 : Vec F S1x1024 .f32) (x2 : Vec F S256x1024 .f32) :
    out0_A_3 c i a1 h1 a2 h2 a3 h3 a4 h4 a5 h5 a6 h6 hc hd x0 x1 x2 = k0_pay8 x0 x1 x2 := by
  unfold out0_A_3
  rw [View.read_writes_eq_canon _ _ _ fun _ => cover0_A_3 ..]
  unfold kernelRun0_A
  dsimp only
  sl_unfold_words
  rw [View.canon_unit_zero zeros]
  simp only [View.readAt_eq_ld, h1.read_unread, h2.read_unread, h3.read_unread, h4.read_unread, h6.read_unread, View.ld_unit_zero (S := S256x1024) zeros,
    View.ld_unit_zero (S := S1x1024) zeros, View.ld_unit_zero (S := S1x128) zeros, shapeCast_self]

theorem out_A_4 (c : Dev nD) (i : grid0.Coords) (a1 : Memref sig .tc .vmem S256x1024 .f32) (h1 : a1.IsWhole) (a2 : Memref sig .tc .vmem S1x1024 .f32) (h2 : a2.IsWhole) (a3 : Memref sig .tc .vmem S256x1024 .f32) (h3 : a3.IsWhole) (a4 : Memref sig .tc .vmem S1x128 .f32) (h4 : a4.IsWhole) (a5 : Memref sig .tc .vmem S256x1024 .f32) (h5 : a5.IsWhole) (a6 : Memref sig .tc .vmem S1x1024 .f32) (h6 : a6.IsWhole) (hc : cond0_0 i) (hd : ¬cond0_1 i)
    (x0 : Vec F S256x1024 .f32) (x1 : Vec F S1x1024 .f32) (x2 : Vec F S256x1024 .f32) :
    out0_A_4 c i a1 h1 a2 h2 a3 h3 a4 h4 a5 h5 a6 h6 hc hd x0 x1 x2 = mulf (k0_pay11 x0) (k0_pay10 x0 x1 x2) := by
  unfold out0_A_4
  rw [View.read_writes_eq_canon _ _ _ fun _ => cover0_A_4 ..]
  unfold kernelRun0_A
  dsimp only
  sl_unfold_words
  rw [View.canon_unit_zero zeros]
  unfold k0_pay1
  simp only [View.readAt_eq_ld, h1.read_unread, h2.read_unread, h3.read_unread, h4.read_unread, h6.read_unread, View.ld_unit_zero (S := S256x1024) zeros,
    View.ld_unit_zero (S := S1x1024) zeros, View.ld_unit_zero (S := S1x128) zeros, shapeCast_self]

theorem out_A_5 (c : Dev nD) (i : grid0.Coords) (a1 : Memref sig .tc .vmem S256x1024 .f32) (h1 : a1.IsWhole) (a2 : Memref sig .tc .vmem S1x1024 .f32) (h2 : a2.IsWhole) (a3 : Memref sig .tc .vmem S256x1024 .f32) (h3 : a3.IsWhole) (a4 : Memref sig .tc .vmem S1x128 .f32) (h4 : a4.IsWhole) (a5 : Memref sig .tc .vmem S256x1024 .f32) (h5 : a5.IsWhole) (a6 : Memref sig .tc .vmem S1x1024 .f32) (h6 : a6.IsWhole) (hc : cond0_0 i) (hd : ¬cond0_1 i)
    (x0 : Vec F S256x1024 .f32) (x1 : Vec F S1x1024 .f32) (x2 : Vec F S256x1024 .f32) :
    out0_A_5 c i a1 h1 a2 h2 a3 h3 a4 h4 a5 h5 a6 h6 hc hd x0 x1 x2 = k0_pay2 (k0_pay6 x0) (k0_pay9 x0 x1 x2) := by
  unfold out0_A_5
  rw [View.read_writes_eq_canon _ _ _ fun _ => cover0_A_5 ..]
  unfold kernelRun0_A
  dsimp only
  sl_unfold_words
  rw [View.canon_unit_zero zeros]
  simp only [View.readAt_eq_ld, h1.read_unread, h2.read_unread, h3.read_unread, h4.read_unread, h6.read_unread, View.ld_unit_zero (S := S256x1024) zeros,
    View.ld_unit_zero (S := S1x1024) zeros, View.ld_unit_zero (S := S1x128) zeros, shapeCast_self]

theorem out_B_3 (c : Dev nD) (i : grid0.Coords) (a1 : Memref sig .tc .vmem S256x1024 .f32) (h1 : a1.IsWhole) (a2 : Memref sig .tc .vmem S1x1024 .f32) (h2 : a2.IsWhole) (a3 : Memref sig .tc .vmem S256x1024 .f32) (h3 : a3.IsWhole) (a4 : Memref sig .tc .vmem S1x128 .f32) (h4 : a4.IsWhole) (a5 : Memref sig .tc .vmem S256x1024 .f32) (h5 : a5.IsWhole) (a6 : Memref sig .tc .vmem S1x1024 .f32) (h6 : a6.IsWhole) (hc : ¬cond0_0 i) (hd : cond0_1 i)
    (x0 : Vec F S256x1024 .f32) (x1 : Vec F S1x1024 .f32) (x2 : Vec F S256x1024 .f32) (y3 : Vec F S1x128 .f32) (y5 : Vec F S1x1024 .f32) :
    out0_B_3 c i a1 h1 a2 h2 a3 h3 a4 h4 a5 h5 a6 h6 hc hd x0 x1 x2 y3 y5 = addf y3 (k0_pay8 x0 x1 x2) := by
  unfold out0_B_3
  rw [View.read_writes_eq_canon _ _ _ fun _ => cover0_B_3 ..]
  unfold kernelRun0_B
  dsimp only
  sl_unfold_words
  rw [View.canon_unit_zero zeros]
  unfold k0_pay3
  simp only [View.readAt_eq_ld, h1.read_unread, h2.read_unread, h3.read_unread, h4.read_unread, h6.read_unread, View.ld_unit_zero (S := S256x1024) zeros,
    View.ld_unit_zero (S := S1x1024) zeros, View.ld_unit_zero (S := S1x128) zeros, shapeCast_self]

theorem out_B_4 (c : Dev nD) (i : grid0.Coords) (a1 : Memref sig .tc .vmem S256x1024 .f32) (h1 : a1.IsWhole) (a2 : Memref sig .tc .vmem S1x1024 .f32) (h2 : a2.IsWhole) (a3 : Memref sig .tc .vmem S256x1024 .f32) (h3 : a3.IsWhole) (a4 : Memref sig .tc .vmem S1x128 .f32) (h4 : a4.IsWhole) (a5 : Memref sig .tc .vmem S256x1024 .f32) (h5 : a5.IsWhole) (a6 : Memref sig .tc .vmem S1x1024 .f32) (h6 : a6.IsWhole) (hc : ¬cond0_0 i) (hd : cond0_1 i)
    (x0 : Vec F S256x1024 .f32) (x1 : Vec F S1x1024 .f32) (x2 : Vec F S256x1024 .f32) (y3 : Vec F S1x128 .f32) (y5 : Vec F S1x1024 .f32) :
    out0_B_4 c i a1 h1 a2 h2 a3 h3 a4 h4 a5 h5 a6 h6 hc hd x0 x1 x2 y3 y5 = mulf (k0_pay11 x0) (k0_pay10 x0 x1 x2) := by
  unfold out0_B_4
  rw [View.read_writes_eq_canon _ _ _ fun _ => cover0_B_4 ..]
  unfold kernelRun0_B
  dsimp only
  sl_unfold_words
  rw [View.canon_unit_zero zeros]
  unfold k0_pay1
  simp only [View.readAt_eq_ld, h1.read_unread, h2.read_unread, h3.read_unread, h4.read_unread, h6.read_unread, View.ld_unit_zero (S := S256x1024) zeros,
    View.ld_unit_zero (S := S1x1024) zeros, View.ld_unit_zero (S := S1x128) zeros, shapeCast_self]

theorem out_B_5 (c : Dev nD) (i : grid0.Coords) (a1 : Memref sig .tc .vmem S256x1024 .f32) (h1 : a1.IsWhole) (a2 : Memref sig .tc .vmem S1x1024 .f32) (h2 : a2.IsWhole) (a3 : Memref sig .tc .vmem S256x1024 .f32) (h3 : a3.IsWhole) (a4 : Memref sig .tc .vmem S1x128 .f32) (h4 : a4.IsWhole) (a5 : Memref sig .tc .vmem S256x1024 .f32) (h5 : a5.IsWhole) (a6 : Memref sig .tc .vmem S1x1024 .f32) (h6 : a6.IsWhole) (hc : ¬cond0_0 i) (hd : cond0_1 i)
    (x0 : Vec F S256x1024 .f32) (x1 : Vec F S1x1024 .f32) (x2 : Vec F S256x1024 .f32) (y3 : Vec F S1x128 .f32) (y5 : Vec F S1x1024 .f32) :
    out0_B_5 c i a1 h1 a2 h2 a3 h3 a4 h4 a5 h5 a6 h6 hc hd x0 x1 x2 y3 y5 = addf y5 (k0_pay2 (k0_pay6 x0) (k0_pay9 x0 x1 x2)) := by
  unfold out0_B_5
  rw [View.read_writes_eq_canon _ _ _ fun _ => cover0_B_5 ..]
  unfold kernelRun0_B
  dsimp only
  sl_unfold_words
  rw [View.canon_unit_zero zeros]
  unfold k0_pay4
  simp only [View.readAt_eq_ld, h1.read_unread, h2.read_unread, h3.read_unread, h4.read_unread, h6.read_unread, View.ld_unit_zero (S := S256x1024) zeros,
    View.ld_unit_zero (S := S1x1024) zeros, View.ld_unit_zero (S := S1x128) zeros, shapeCast_self]

/-! ## The blocks of rows -/

variable (m : (ℓ : Loc nD τ sig) → Buf (Elt Ideal) ℓ) (ρ : Dev nD → PrngReg)

/-- The arguments. -/
abbrev argX (c : Dev nD) : Vec Ideal S4096x1024 .f32 := m ((c : Thread nD τ).loc main_arg0)
abbrev argG (c : Dev nD) : Vec Ideal S1x1024 .f32 := m ((c : Thread nD τ).loc main_arg1)
abbrev argT (c : Dev nD) : Vec Ideal S4096x1024 .f32 := m ((c : Thread nD τ).loc main_arg2)

/-- Row `p` of block `t`. -/
def down (t : ℕ) (ht : t < cfg0.N) (p : Fin 256) : Fin 4096 := finProdFinEquiv (m := 16) (n := 256) (⟨t, lt_of_lt_of_eq ht N_0⟩, p)

theorem down_val (t : ℕ) (ht : t < cfg0.N) (p : Fin 256) : (down t ht p).val = p.val + 256 * t := rfl

theorem index_rows : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0 :=
  (by decide +kernel : ∀ t : Fin grid0.N, _)

theorem block_0 (c : Dev nD) (t : Fin cfg0.N) (p : Fin 256) (q : Fin 1024) :
    (iblk m c 0 t : Vec Ideal S256x1024 .f32) (ix2 p q) = argX m c (ix2 (down t.val t.isLt p) q) := by
  have hi := index_rows t
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 2) * 256 + 1 * p.val = (down t.val t.isLt p).val; rw [down_val]; omega
  | ⟨1, _⟩ => show win0_0.index t (1 : Fin 2) * 1024 + 1 * q.val = q.val; omega

theorem block_1 (c : Dev nD) (t : Fin cfg0.N) (p : Fin 1) (q : Fin 1024) :
    (iblk m c 1 t : Vec Ideal S1x1024 .f32) (ix2 p q) = argG m c (ix2 p q) := by
  have hi := index_rows t
  unfold iblk
  rw [View.read_apply]
  show V m c main_arg1 _ = m ((c : Thread nD τ).loc main_arg1) _
  rw [V_main_arg1]
  congr 1
  funext a
  apply Fin.ext
  match a with
  | ⟨0, _⟩ => show win0_1.index t (0 : Fin 2) * 1 + 1 * p.val = p.val; omega
  | ⟨1, _⟩ => show win0_1.index t (1 : Fin 2) * 1024 + 1 * q.val = q.val; omega

theorem block_2 (c : Dev nD) (t : Fin cfg0.N) (p : Fin 256) (q : Fin 1024) :
    (iblk m c 2 t : Vec Ideal S256x1024 .f32) (ix2 p q) = argT m c (ix2 (down t.val t.isLt p) q) := by
  have hi := index_rows t
  unfold iblk
  rw [View.read_apply]
  show V m c main_arg2 _ = m ((c : Thread nD τ).loc main_arg2) _
  rw [V_main_arg2]
  congr 1
  funext a
  apply Fin.ext
  match a with
  | ⟨0, _⟩ => show win0_2.index t (0 : Fin 2) * 256 + 1 * p.val = (down t.val t.isLt p).val; rw [down_val]; omega
  | ⟨1, _⟩ => show win0_2.index t (1 : Fin 2) * 1024 + 1 * q.val = q.val; omega

/-- What a block of rows holds of each. -/
theorem block_err (c : Dev nD) (t : Fin cfg0.N) (p : Fin 256) (k : Fin 1024) :
    err (r := 256) (n := 1024) (iblk m c 0 t) (iblk m c 1 t) (iblk m c 2 t) p k
      = err (argX m c) (argG m c) (argT m c) (down t.val t.isLt p) k := by
  have h0 : Norm.row (r := 256) (n := 1024) (iblk m c 0 t) p = Norm.row (argX m c) (down t.val t.isLt p) := funext fun k => block_0 m c t p k
  unfold err
  rw [h0, block_0, block_1, block_2]

theorem block_square (c : Dev nD) (t : Fin cfg0.N) (p : Fin 256) :
    square (r := 256) (n := 1024) (iblk m c 0 t) (iblk m c 1 t) (iblk m c 2 t) p
      = square (argX m c) (argG m c) (argT m c) (down t.val t.isLt p) := by
  unfold square
  simp only [block_err m c t p]

theorem block_dx (c : Dev nD) (t : Fin cfg0.N) (p : Fin 256) (q : Fin 1024) :
    dx (r := 256) (n := 1024) (iblk m c 0 t) (iblk m c 1 t) (iblk m c 2 t) p q
      = dx (argX m c) (argG m c) (argT m c) (down t.val t.isLt p) q := by
  have h0 : Norm.row (r := 256) (n := 1024) (iblk m c 0 t) p = Norm.row (argX m c) (down t.val t.isLt p) := funext fun k => block_0 m c t p k
  unfold dx
  rw [h0]
  simp only [block_err m c t p, block_1 m c t 0]

theorem block_dg (c : Dev nD) (t : Fin cfg0.N) (q : Fin 1024) (p : Fin 256) :
    dg (r := 256) (n := 1024) (iblk m c 0 t) (iblk m c 1 t) (iblk m c 2 t) q p
      = dg (argX m c) (argG m c) (argT m c) q (down t.val t.isLt p) := by
  have h0 : Norm.row (r := 256) (n := 1024) (iblk m c 0 t) p = Norm.row (argX m c) (down t.val t.isLt p) := funext fun k => block_0 m c t p k
  unfold dg
  rw [h0, block_0, block_err]

/-! ## The input's gradient -/

/-- Every point leaves its block of rows. -/
theorem left_dx (c : Dev nD) (t : Fin cfg0.N) (p : Fin 256) (q : Fin 1024) :
    (outsAt0 m c t.val t.isLt).2.1 (ix2 p q) = dx (argX m c) (argG m c) (argT m c) (down t.val t.isLt p) q := by
  have hN : t.val < 16 := lt_of_lt_of_eq t.isLt N_0
  rw [← block_dx m c t p q, ← pay_dx]
  by_cases h : t.val = 0
  · rw [outsAt0_A m c t (by omega) (by omega), out_A_4]
  · rw [outsAt0_B m c t (by omega) (by omega), out_B_4]

/-- The whole array. -/
abbrev wholeX (c : Dev nD) : Vec Ideal S4096x1024 .f32 := fun i => dx (argX m c) (argG m c) (argT m c) (i 0) (i 1)

theorem written_dx (c : Dev nD) (t : Fin cfg0.N) :
    (dats m 0 c).flushed 4 t = ((cfg0.win 4).blk t).view.read (Elt Ideal) (wholeX m c) := by
  have hi := index_rows t
  show (cfg0.win 4).cut (grid0.coords t) ((dats m 0 c).after 4 t) = _
  rw [after0_4]
  funext j
  rw [View.read_apply]
  have hj : ((cfg0.win 4).blk t).view.emb j = ix2 (down t.val t.isLt (j 0)) (j 1) := by
    funext a
    apply Fin.ext
    match a with
    | ⟨0, _⟩ => show win0_4.index t (0 : Fin 2) * 256 + 1 * (j 0).val = (j 0).val + 256 * t.val; omega
    | ⟨1, _⟩ => show win0_4.index t (1 : Fin 2) * 1024 + 1 * (j 1).val = (j 1).val; omega
  rw [hj]
  refine Eq.trans ?_ (left_dx m c t (j 0) (j 1))
  exact congrArg (outsAt0 m c t.val t.isLt).2.1 (ix2_eta (n0 := 256) (n1 := 1024) j).symm

theorem final_dx (c : Dev nD) : (dats m 0 c).arrAt 4 cfg0.N = wholeX m c :=
  (dats m 0 c).arrAt_eq_of_cover 4 (wholeX m c) (fun t _ => written_dx m c t) fun i => by
    have h0 : (i 0).val < 4096 := (i 0).isLt
    have h1 : (i 1).val < 1024 := (i 1).isLt
    have hN : cfg0.N = 16 := N_0
    obtain ⟨t, ht⟩ : ∃ t : Fin cfg0.N, t.val = (i 0).val / 256 := ⟨⟨(i 0).val / 256, by omega⟩, rfl⟩
    have hi := index_rows t
    refine ⟨t, flush0_4 t, ?_⟩
    show i ∈ ((View.whole main_v0_1).slice (win0_4.rect t)).set
    rw [View.set_slice_whole, Rect.mem_set_unit]
    intro a
    match a with
    | ⟨0, _⟩ => show win0_4.index t (0 : Fin 2) * 256 ≤ (i 0).val ∧ (i 0).val < win0_4.index t (0 : Fin 2) * 256 + 256; omega
    | ⟨1, _⟩ => show win0_4.index t (1 : Fin 2) * 1024 ≤ (i 1).val ∧ (i 1).val < win0_4.index t (1 : Fin 2) * 1024 + 1024; omega

/-! ## The loss and the gain's gradient -/

/-- A sum over the rows is one over the blocks of sums over each. -/
theorem sum_down (f : Fin 4096 → EReal) : ∑ t ∈ Finset.range 16, (if ht : t < cfg0.N then ∑ p, f (down t ht p) else 0) = ∑ a, f a := by
  rw [← (finProdFinEquiv (m := 16) (n := 256)).sum_comp f, Fintype.sum_prod_type,
    ← Fin.sum_univ_eq_sum_range (fun t => if ht : t < cfg0.N then ∑ p, f (down t ht p) else 0) 16]
  refine Finset.sum_congr rfl fun t _ => ?_
  rw [dif_pos (lt_of_lt_of_eq t.isLt N_0.symm)]
  rfl

/-- A block's part of the loss, -/
def partL (c : Dev nD) (t : ℕ) : EReal :=
  if ht : t < cfg0.N then ∑ p, square (argX m c) (argG m c) (argT m c) (down t ht p) * aHalf else 0

/-- and of the gain's gradient at a column. -/
def partG (c : Dev nD) (q : Fin 1024) (t : ℕ) : EReal :=
  if ht : t < cfg0.N then ∑ p, dg (argX m c) (argG m c) (argT m c) q (down t ht p) else 0

theorem partL_eq (c : Dev nD) (q : Fin 128) (t : Fin cfg0.N) :
    k0_pay8 (F := Ideal) (iblk m c 0 t) (iblk m c 1 t) (iblk m c 2 t) (ix2 0 q) = partL m c t.val := by
  rw [pay_loss, aHalf_eq, ← Norm.sum_mul_real _ (by norm_num : (0 : ℝ) ≤ 1 / 2), ← aHalf_eq]
  unfold partL
  rw [dif_pos t.isLt]
  exact Finset.sum_congr (M := EReal) rfl fun p _ => congrArg (· * aHalf) (block_square m c t p)

theorem partG_eq (c : Dev nD) (q : Fin 1024) (t : Fin cfg0.N) :
    k0_pay2 (F := Ideal) (k0_pay6 (iblk m c 0 t)) (k0_pay9 (iblk m c 0 t) (iblk m c 1 t) (iblk m c 2 t)) (ix2 0 q) = partG m c q t.val := by
  rw [pay_dg]
  unfold partG
  rw [dif_pos t.isLt]
  exact Finset.sum_congr (M := EReal) rfl fun p _ => block_dg m c t q p

/-- After a point the lanes and the row hold the parts of the blocks down to it. -/
theorem left_sums (c : Dev nD) : ∀ (n : ℕ) (h : n < cfg0.N),
    (∀ q, (outsAt0 m c n h).1 (ix2 0 q) = ∑ t ∈ Finset.range (n + 1), partL m c t)
    ∧ ∀ q, (outsAt0 m c n h).2.2 (ix2 0 q) = ∑ t ∈ Finset.range (n + 1), partG m c q t
  | 0, h => by
    have e := outsAt0_A m c ⟨0, h⟩ rfl (by simp)
    rw [out_A_3, out_A_5] at e
    rw [show outsAt0 m c 0 h = _ from e]
    refine ⟨fun q => ?_, fun q => ?_⟩
    · show k0_pay8 (F := Ideal) _ _ _ (ix2 0 q) = _
      rw [partL_eq, Finset.sum_range_one]
    · show k0_pay2 (F := Ideal) _ _ (ix2 0 q) = _
      rw [partG_eq, Finset.sum_range_one]
  | n + 1, h => by
    have hN : cfg0.N = 16 := N_0
    have e := outsAt0_B m c ⟨n + 1, h⟩ (by dsimp only; omega) (by dsimp only; omega)
    rw [out_B_3, out_B_5] at e
    rw [show outsAt0 m c (n + 1) h = _ from e]
    obtain ⟨hl, hg⟩ := left_sums c n (Nat.lt_of_succ_lt h)
    refine ⟨fun q => ?_, fun q => ?_⟩
    · show (outsAt0 m c n _).1 (ix2 0 q) + k0_pay8 (F := Ideal) _ _ _ (ix2 0 q) = _
      rw [hl, partL_eq, Finset.sum_range_succ _ (n + 1)]
    · show (outsAt0 m c n _).2.2 (ix2 0 q) + k0_pay2 (F := Ideal) _ _ (ix2 0 q) = _
      rw [hg, partG_eq, Finset.sum_range_succ _ (n + 1)]

theorem parts_loss (c : Dev nD) : ∑ t ∈ Finset.range 16, partL m c t = (∑ a, square (argX m c) (argG m c) (argT m c) a) * aHalf := by
  rw [aHalf_eq, ← Norm.sum_mul_real _ (by norm_num : (0 : ℝ) ≤ 1 / 2), ← aHalf_eq]
  exact sum_down fun a => square (argX m c) (argG m c) (argT m c) a * aHalf

theorem parts_dg (c : Dev nD) (q : Fin 1024) : ∑ t ∈ Finset.range 16, partG m c q t = ∑ a, dg (argX m c) (argG m c) (argT m c) q a :=
  sum_down fun a => dg (argX m c) (argG m c) (argT m c) q a

/-- The loss in every lane, and the whole row. -/
abbrev wholeL (c : Dev nD) : Vec Ideal S1x128 .f32 := fun _ => (∑ a, square (argX m c) (argG m c) (argT m c) a) * aHalf
abbrev wholeG (c : Dev nD) : Vec Ideal S1x1024 .f32 := fun i => ∑ a, dg (argX m c) (argG m c) (argT m c) (i 1) a

theorem written_loss (c : Dev nD) (t : Fin cfg0.N) (hf : (cfg0.win 3).flush t = true) :
    (dats m 0 c).flushed 3 t = ((cfg0.win 3).blk t).view.read (Elt Ideal) (wholeL m c) := by
  have hi := index_rows t
  have hN : t.val < 16 := lt_of_lt_of_eq t.isLt N_0
  have h15 : t.val = 15 := by have := (flush0_3 t).mp hf; omega
  show (cfg0.win 3).cut (grid0.coords t) ((dats m 0 c).after 3 t) = _
  rw [after0_3]
  funext j
  rw [View.read_apply]
  have hj0 : (j 0).val < 1 := (j 0).isLt
  have hj : ((cfg0.win 3).blk t).view.emb j = ix2 (0 : Fin 1) (j 1) := by
    funext a
    apply Fin.ext
    match a with
    | ⟨0, _⟩ => show win0_3.index t (0 : Fin 2) * 1 + 1 * (j 0).val = 0; omega
    | ⟨1, _⟩ => show win0_3.index t (1 : Fin 2) * 128 + 1 * (j 1).val = (j 1).val; omega
  rw [hj]
  show _ = (∑ a, square (argX m c) (argG m c) (argT m c) a) * aHalf
  refine Eq.trans ?_ (parts_loss m c)
  refine Eq.trans ?_ (((left_sums m c t.val t.isLt).1 (j 1)).trans (by rw [h15]))
  refine congrArg (outsAt0 m c t.val t.isLt).1 ?_
  funext a
  match a with
  | ⟨0, _⟩ => exact Fin.ext (by show (j 0).val = 0; omega)
  | ⟨1, _⟩ => rfl

theorem final_loss (c : Dev nD) : (dats m 0 c).arrAt 3 cfg0.N = wholeL m c :=
  (dats m 0 c).arrAt_eq_of_cover 3 (wholeL m c) (written_loss m c) fun i => by
    have h0 : (i 0).val < 1 := (i 0).isLt
    have h1 : (i 1).val < 128 := (i 1).isLt
    have hN : cfg0.N = 16 := N_0
    obtain ⟨t, ht⟩ : ∃ t : Fin cfg0.N, t.val = 15 := ⟨⟨15, by omega⟩, rfl⟩
    have hi := index_rows t
    refine ⟨t, (flush0_3 t).mpr (by omega), ?_⟩
    show i ∈ ((View.whole main_v0_0).slice (win0_3.rect t)).set
    rw [View.set_slice_whole, Rect.mem_set_unit]
    intro a
    match a with
    | ⟨0, _⟩ => show win0_3.index t (0 : Fin 2) * 1 ≤ (i 0).val ∧ (i 0).val < win0_3.index t (0 : Fin 2) * 1 + 1; omega
    | ⟨1, _⟩ => show win0_3.index t (1 : Fin 2) * 128 ≤ (i 1).val ∧ (i 1).val < win0_3.index t (1 : Fin 2) * 128 + 128; omega

theorem written_dg (c : Dev nD) (t : Fin cfg0.N) (hf : (cfg0.win 5).flush t = true) :
    (dats m 0 c).flushed 5 t = ((cfg0.win 5).blk t).view.read (Elt Ideal) (wholeG m c) := by
  have hi := index_rows t
  have hN : t.val < 16 := lt_of_lt_of_eq t.isLt N_0
  have h15 : t.val = 15 := by have := (flush0_5 t).mp hf; omega
  show (cfg0.win 5).cut (grid0.coords t) ((dats m 0 c).after 5 t) = _
  rw [after0_5]
  funext j
  rw [View.read_apply]
  have hj0 : (j 0).val < 1 := (j 0).isLt
  have hj : ((cfg0.win 5).blk t).view.emb j = ix2 (0 : Fin 1) (j 1) := by
    funext a
    apply Fin.ext
    match a with
    | ⟨0, _⟩ => show win0_5.index t (0 : Fin 2) * 1 + 1 * (j 0).val = 0; omega
    | ⟨1, _⟩ => show win0_5.index t (1 : Fin 2) * 1024 + 1 * (j 1).val = (j 1).val; omega
  rw [hj]
  show _ = ∑ a, dg (argX m c) (argG m c) (argT m c) (j 1) a
  refine Eq.trans ?_ (parts_dg m c (j 1))
  refine Eq.trans ?_ (((left_sums m c t.val t.isLt).2 (j 1)).trans (by rw [h15]))
  refine congrArg (outsAt0 m c t.val t.isLt).2.2 ?_
  funext a
  match a with
  | ⟨0, _⟩ => exact Fin.ext (by show (j 0).val = 0; omega)
  | ⟨1, _⟩ => rfl

theorem final_dg (c : Dev nD) : (dats m 0 c).arrAt 5 cfg0.N = wholeG m c :=
  (dats m 0 c).arrAt_eq_of_cover 5 (wholeG m c) (written_dg m c) fun i => by
    have h0 : (i 0).val < 1 := (i 0).isLt
    have h1 : (i 1).val < 1024 := (i 1).isLt
    have hN : cfg0.N = 16 := N_0
    obtain ⟨t, ht⟩ : ∃ t : Fin cfg0.N, t.val = 15 := ⟨⟨15, by omega⟩, rfl⟩
    have hi := index_rows t
    refine ⟨t, (flush0_5 t).mpr (by omega), ?_⟩
    show i ∈ ((View.whole main_v0_2).slice (win0_5.rect t)).set
    rw [View.set_slice_whole, Rect.mem_set_unit]
    intro a
    match a with
    | ⟨0, _⟩ => show win0_5.index t (0 : Fin 2) * 1 ≤ (i 0).val ∧ (i 0).val < win0_5.index t (0 : Fin 2) * 1 + 1; omega
    | ⟨1, _⟩ => show win0_5.index t (1 : Fin 2) * 1024 ≤ (i 1).val ∧ (i 1).val < win0_5.index t (1 : Fin 2) * 1024 + 1024; omega

end

/-! ## The claims -/

theorem frame_reference : quiescent_LossHeadReferenceIdeal := fun m g _ =>
  (θ_run _ _ _).mono (fun r h => ⟨fun c => (h c).2.2.2, sem_eq_zero_of_no_sems (by decide) r.2⟩)
    (LossHeadReferenceIdeal.Value.run (F := Ideal) m g)

/-- An index into one row. -/
theorem in_row {n : ℕ} (i : (⟨2, ![1, n]⟩ : Shape).Idx) : i = ix2 0 (i 1) := by
  funext a
  match a with
  | ⟨0, _⟩ => exact Fin.ext (by have : (i 0).val < 1 := (i 0).isLt; show (i 0).val = 0; omega)
  | ⟨1, _⟩ => rfl

theorem algebraic : algebraic_LossHeadIdeal_LossHeadReferenceIdeal := fun m g m' g' _ hm =>
  ⟨_, _, _, (θ_run _ _ _).mono (fun _ h c => ⟨(h c).1.trans (final_loss m c), (h c).2.1.trans (final_dx m c),
        (h c).2.2.1.trans (final_dg m c), (h c).2.2.2⟩)
      (LossHeadIdeal.Value.run_blocks m g),
    (θ_run _ _ _).mono (fun r h c => by
      obtain ⟨e0, e1, e2⟩ := hm c
      obtain ⟨r1, r2, r3, r4⟩ := h c
      rw [e0, e1, e2] at r1 r2 r3
      refine ⟨funext fun i => ?_, funext fun i => ?_, funext fun i => ?_, r4⟩
      · exact (congrArg _ (in_row (n := 128) i)).trans (r1 (i 1))
      · exact (congrArg _ (ix2_eta (n0 := 4096) (n1 := 1024) i).symm).trans (r2 (i 0) (i 1))
      · exact (congrArg _ (in_row (n := 1024) i)).trans (r3 (i 1))) (ref_run m' g')⟩

end Cert.Loss

end
-- ==== Proof.MixQkv.lean ====
/-
# The queries, keys and values

Each tile of the result is one product.
-/
module

public import proofs.«01_k».proof.Defs
public import proofs.«01_k».proof.Proof.Products
public import proofs.«01_k».proof.Proof.Gen.MixQkvIdeal.Value
public import proofs.«01_k».proof.Proof.Gen.MixQkv.Frame
public import proofs.«01_k».proof.Proof.Gen.MixQkvReferenceIdeal.Run

@[expose] public section

noncomputable section

open Idealize.ShloMosaic Idealize.ShloMosaic.TcCoe Idealize.SL.Sem Cert.Products

namespace Cert.Qkv

section
open Cert.MixQkvIdeal Cert.MixQkvIdeal.Gen

variable {F : FTy → Type} [FloatOps F]

/-! ## What a point leaves -/

theorem out_A {c i a1 h1 a2 h2 a3 h3 a4 h4 hc hd he x0 x1} :
    out0_A_2 (F := F) c i a1 h1 a2 h2 a3 h3 a4 h4 hc hd he x0 x1 = k0_pay4 (k0_pay2 x0 x1) := by
  unfold out0_A_2
  rw [View.read_writes_eq_canon _ _ _ fun _ => cover0_A_2 ..]
  unfold kernelRun0_A
  dsimp only
  sl_unfold_words
  rw [View.canon_unit_zero zeros]
  simp only [View.readAt_eq_ld, h1.read_unread, h2.read_unread, h4.read_unread, ld_zeros, View.readCov_unit_zero (S := S512x768) _ zeros, shapeCast_self]

theorem pay_out (x0 : Vec Ideal S512x1024 .bf16) (x1 : Vec Ideal S1024x768 .bf16) (p : Fin 512) (q : Fin 768) :
    (k0_pay4 (k0_pay2 x0 x1) : Vec Ideal S512x768 .bf16) (ix2 p q) = (∑ l, x0 (ix2 p l) * x1 (ix2 l q)) := by
  pointwise [k0_pay1, k0_pay2, k0_pay3, k0_pay4]

/-! ## The blocks -/

variable (m : (ℓ : Loc nD τ sig) → Buf (Elt Ideal) ℓ)

/-- The arguments. -/
abbrev argA (c : Dev nD) : Vec Ideal S4096x1024 .bf16 := m ((c : Thread nD τ).loc main_arg0)
abbrev argB (c : Dev nD) : Vec Ideal S1024x2304 .bf16 := m ((c : Thread nD τ).loc main_arg1)

/-- Where the tile of a point lies. -/
abbrev down (t : ℕ) (p : Fin 512) : Fin 4096 := into 8 512 (t / 3) p
abbrev across (t : ℕ) (q : Fin 768) : Fin 2304 := into 3 768 (t / 1) q
abbrev along (k : ℕ) (l : Fin 1024) : Fin 1024 := into 1 1024 k l

theorem index_tile : ∀ t : Fin cfg0.N, win0_0.index t (0 : Fin 2) = t.val / 3 % 8 ∧ win0_0.index t (1 : Fin 2) = t.val % 1
    ∧ win0_1.index t (0 : Fin 2) = t.val % 1 ∧ win0_1.index t (1 : Fin 2) = t.val / 1 % 3
    ∧ win0_2.index t (0 : Fin 2) = t.val / 3 % 8 ∧ win0_2.index t (1 : Fin 2) = t.val / 1 % 3 :=
  (by decide +kernel : ∀ t : Fin grid0.N, _)

theorem block_0 (c : Dev nD) (t : Fin cfg0.N) (p : Fin 512) (l : Fin 1024) :
    (iblk m c 0 t : Vec Ideal S512x1024 .bf16) (ix2 p l) = argA m c (ix2 (down t.val p) (along t.val l)) :=
  have hi := index_tile t
  congrArg (argA m c) (at_ix2 (off hi.1) (off hi.2.1))

theorem block_1 (c : Dev nD) (t : Fin cfg0.N) (l : Fin 1024) (q : Fin 768) :
    (iblk m c 1 t : Vec Ideal S1024x768 .bf16) (ix2 l q) = argB m c (ix2 (along t.val l) (across t.val q)) :=
  have hi := index_tile t
  congrArg (argB m c) (at_ix2 (off hi.2.2.1) (off hi.2.2.2.1))

/-! ## The products -/

/-- An entry of the result. -/
def entry (c : Dev nD) (i : Fin 4096) (j : Fin 2304) : EReal :=
  (∑ k : Fin 1024, argA m c (ix2 i k) * argB m c (ix2 k j))

theorem along_one (t : ℕ) (l : Fin 1024) : along t l = l :=
  Fin.ext (by rw [into_val]; omega)

theorem left (c : Dev nD) (t : Fin cfg0.N) (p : Fin 512) (q : Fin 768) :
    (outsAt0 m c t) (ix2 p q) = entry m c (down t.val p) (across t.val q) := by
  unfold outsAt0 entry
  rw [out_A, pay_out]
  simp only [block_0 m c t, block_1 m c t, along_one]

/-- The whole array. -/
abbrev whole (c : Dev nD) : Vec Ideal S4096x2304 .bf16 := fun i => entry m c (i 0) (i 1)

theorem written (c : Dev nD) (t : Fin cfg0.N) :
    (dats m 0 c).flushed 2 t = ((cfg0.win 2).blk t).view.read (Elt Ideal) (whole m c) := by
  have hi := index_tile t
  show (cfg0.win 2).cut (grid0.coords t) ((dats m 0 c).after 2 t) = _
  rw [after0_2]
  funext j
  rw [View.read_apply]
  have hj : ((cfg0.win 2).blk t).view.emb j = ix2 (down t.val (j 0)) (across t.val (j 1)) := at_ix2 (off hi.2.2.2.2.1) (off hi.2.2.2.2.2)
  rw [hj]
  refine Eq.trans ?_ (left m c t (j 0) (j 1))
  exact congrArg (outsAt0 m c t) (ix2_eta (n0 := 512) (n1 := 768) j).symm

theorem final (c : Dev nD) : (dats m 0 c).arrAt 2 cfg0.N = whole m c :=
  (dats m 0 c).arrAt_eq_of_cover 2 (whole m c) (fun t _ => written m c t) fun i => by
    have h0 : (i 0).val < 4096 := (i 0).isLt
    have h1 : (i 1).val < 2304 := (i 1).isLt
    have hN : cfg0.N = 24 := N_0
    obtain ⟨t, ht⟩ : ∃ t : Fin cfg0.N, t.val = ((i 0).val / 512 * 3 + (i 1).val / 768) * 1 + 0 := ⟨⟨_, by omega⟩, rfl⟩
    have hi := index_tile t
    refine ⟨t, flush0_2 t, ?_⟩
    show i ∈ ((View.whole main_v0).slice (win0_2.rect t)).set
    rw [View.set_slice_whole, Rect.mem_set_unit]
    exact Fin.forall_fin_two.mpr ⟨within (s := 512) (by omega), within (s := 768) (by omega)⟩

end

/-! ## The reference -/

section
open Cert.MixQkvReferenceIdeal Cert.MixQkvReferenceIdeal.Gen

theorem ref_entry (a : FVec Ideal S4096x1024 .bf16) (b : FVec Ideal S1024x2304 .bf16) (i : Fin 4096) (j : Fin 2304) :
    (truncf .bf16 (Host.dotGeneral dot_S4096x1024_S1024x2304_S4096x2304_1_0_0_1_n_n none (extf .f32 a bitsLt_bf16_f32) (extf .f32 b bitsLt_bf16_f32)) bitsLt_bf16_f32 : FVec Ideal S4096x2304 .bf16) (ix2 i j)
      = (∑ k, a (ix2 i k) * b (ix2 k j)) := by
  pointwise

end

/-! ## The claims -/

theorem frame_reference : quiescent_MixQkvReferenceIdeal := fun m g _ =>
  (θ_run _ _ _).mono (fun r h => ⟨fun c => (h c).2, sem_eq_zero_of_no_sems (by decide) r.2⟩)
    (MixQkvReferenceIdeal.Value.run (F := Ideal) m g)

theorem algebraic : algebraic_MixQkvIdeal_MixQkvReferenceIdeal := fun m g m' g' _ hm =>
  ⟨_, (θ_run _ _ _).mono (fun _ h c => ⟨(h c).1.trans (final m c), (h c).2⟩)
      (MixQkvIdeal.Value.run_blocks m g),
    (θ_run _ _ _).mono (fun r h c => by
      obtain ⟨e0, e1⟩ := hm c
      obtain ⟨r1, r2⟩ := h c
      refine ⟨funext fun i => ?_, r2⟩
      rw [r1, e0, e1]
      exact (congrArg _ (ix2_eta (n0 := 4096) (n1 := 2304) i).symm).trans (ref_entry _ _ (i 0) (i 1)))
      (MixQkvReferenceIdeal.Value.run (F := Ideal) m' g')⟩

end Cert.Qkv

end
-- ==== Proof.MixAux.lean ====
/-
# The recurrence's and the forgetting's inputs

Each tile of the result is one product.
-/
module

public import proofs.«01_k».proof.Defs
public import proofs.«01_k».proof.Proof.Products
public import proofs.«01_k».proof.Proof.Gen.MixAuxIdeal.Value
public import proofs.«01_k».proof.Proof.Gen.MixAux.Frame
public import proofs.«01_k».proof.Proof.Gen.MixAuxReferenceIdeal.Run

@[expose] public section

noncomputable section

open Idealize.ShloMosaic Idealize.ShloMosaic.TcCoe Idealize.SL.Sem Cert.Products

namespace Cert.Aux

section
open Cert.MixAuxIdeal Cert.MixAuxIdeal.Gen

variable {F : FTy → Type} [FloatOps F]

/-! ## What a point leaves -/

theorem out_A {c i a1 h1 a2 h2 a3 h3 a4 h4 hc hd he x0 x1} :
    out0_A_2 (F := F) c i a1 h1 a2 h2 a3 h3 a4 h4 hc hd he x0 x1 = k0_pay2 x0 x1 := by
  unfold out0_A_2
  rw [View.read_writes_eq_canon _ _ _ fun _ => cover0_A_2 ..]
  unfold kernelRun0_A
  dsimp only
  sl_unfold_words
  rw [View.canon_unit_zero zeros]
  simp only [View.readAt_eq_ld, h1.read_unread, h2.read_unread, h4.read_unread, ld_zeros, View.readCov_unit_zero (S := S512x640) _ zeros, shapeCast_self]

theorem pay_out (x0 : Vec Ideal S512x1024 .bf16) (x1 : Vec Ideal S1024x640 .bf16) (p : Fin 512) (q : Fin 640) :
    (k0_pay2 x0 x1 : Vec Ideal S512x640 .f32) (ix2 p q) = (∑ l, x0 (ix2 p l) * x1 (ix2 l q)) := by
  pointwise [k0_pay1, k0_pay2, k0_pay3]

/-! ## The blocks -/

variable (m : (ℓ : Loc nD τ sig) → Buf (Elt Ideal) ℓ)

/-- The arguments. -/
abbrev argA (c : Dev nD) : Vec Ideal S4096x1024 .bf16 := m ((c : Thread nD τ).loc main_arg0)
abbrev argB (c : Dev nD) : Vec Ideal S1024x640 .bf16 := m ((c : Thread nD τ).loc main_arg1)

/-- Where the tile of a point lies. -/
abbrev down (t : ℕ) (p : Fin 512) : Fin 4096 := into 8 512 (t / 1) p
abbrev across (t : ℕ) (q : Fin 640) : Fin 640 := into 1 640 (t / 1) q
abbrev along (k : ℕ) (l : Fin 1024) : Fin 1024 := into 1 1024 k l

theorem index_tile : ∀ t : Fin cfg0.N, win0_0.index t (0 : Fin 2) = t.val / 1 % 8 ∧ win0_0.index t (1 : Fin 2) = t.val % 1
    ∧ win0_1.index t (0 : Fin 2) = t.val % 1 ∧ win0_1.index t (1 : Fin 2) = t.val / 1 % 1
    ∧ win0_2.index t (0 : Fin 2) = t.val / 1 % 8 ∧ win0_2.index t (1 : Fin 2) = t.val / 1 % 1 :=
  (by decide +kernel : ∀ t : Fin grid0.N, _)

theorem block_0 (c : Dev nD) (t : Fin cfg0.N) (p : Fin 512) (l : Fin 1024) :
    (iblk m c 0 t : Vec Ideal S512x1024 .bf16) (ix2 p l) = argA m c (ix2 (down t.val p) (along t.val l)) :=
  have hi := index_tile t
  congrArg (argA m c) (at_ix2 (off hi.1) (off hi.2.1))

theorem block_1 (c : Dev nD) (t : Fin cfg0.N) (l : Fin 1024) (q : Fin 640) :
    (iblk m c 1 t : Vec Ideal S1024x640 .bf16) (ix2 l q) = argB m c (ix2 (along t.val l) (across t.val q)) :=
  have hi := index_tile t
  congrArg (argB m c) (at_ix2 (off hi.2.2.1) (off hi.2.2.2.1))

/-! ## The products -/

/-- An entry of the result. -/
def entry (c : Dev nD) (i : Fin 4096) (j : Fin 640) : EReal :=
  (∑ k : Fin 1024, argA m c (ix2 i k) * argB m c (ix2 k j))

theorem along_one (t : ℕ) (l : Fin 1024) : along t l = l :=
  Fin.ext (by rw [into_val]; omega)

theorem left (c : Dev nD) (t : Fin cfg0.N) (p : Fin 512) (q : Fin 640) :
    (outsAt0 m c t) (ix2 p q) = entry m c (down t.val p) (across t.val q) := by
  unfold outsAt0 entry
  rw [out_A, pay_out]
  simp only [block_0 m c t, block_1 m c t, along_one]

/-- The whole array. -/
abbrev whole (c : Dev nD) : Vec Ideal S4096x640 .f32 := fun i => entry m c (i 0) (i 1)

theorem written (c : Dev nD) (t : Fin cfg0.N) :
    (dats m 0 c).flushed 2 t = ((cfg0.win 2).blk t).view.read (Elt Ideal) (whole m c) := by
  have hi := index_tile t
  show (cfg0.win 2).cut (grid0.coords t) ((dats m 0 c).after 2 t) = _
  rw [after0_2]
  funext j
  rw [View.read_apply]
  have hj : ((cfg0.win 2).blk t).view.emb j = ix2 (down t.val (j 0)) (across t.val (j 1)) := at_ix2 (off hi.2.2.2.2.1) (off hi.2.2.2.2.2)
  rw [hj]
  refine Eq.trans ?_ (left m c t (j 0) (j 1))
  exact congrArg (outsAt0 m c t) (ix2_eta (n0 := 512) (n1 := 640) j).symm

theorem final (c : Dev nD) : (dats m 0 c).arrAt 2 cfg0.N = whole m c :=
  (dats m 0 c).arrAt_eq_of_cover 2 (whole m c) (fun t _ => written m c t) fun i => by
    have h0 : (i 0).val < 4096 := (i 0).isLt
    have h1 : (i 1).val < 640 := (i 1).isLt
    have hN : cfg0.N = 8 := N_0
    obtain ⟨t, ht⟩ : ∃ t : Fin cfg0.N, t.val = ((i 0).val / 512 * 1 + (i 1).val / 640) * 1 + 0 := ⟨⟨_, by omega⟩, rfl⟩
    have hi := index_tile t
    refine ⟨t, flush0_2 t, ?_⟩
    show i ∈ ((View.whole main_v0).slice (win0_2.rect t)).set
    rw [View.set_slice_whole, Rect.mem_set_unit]
    exact Fin.forall_fin_two.mpr ⟨within (s := 512) (by omega), within (s := 640) (by omega)⟩

end

/-! ## The reference -/

section
open Cert.MixAuxReferenceIdeal Cert.MixAuxReferenceIdeal.Gen

theorem ref_entry (a : FVec Ideal S4096x1024 .bf16) (b : FVec Ideal S1024x640 .bf16) (i : Fin 4096) (j : Fin 640) :
    (Host.dotGeneral dot_S4096x1024_S1024x640_S4096x640_1_0_0_1_n_n none (extf .f32 a bitsLt_bf16_f32) (extf .f32 b bitsLt_bf16_f32) : FVec Ideal S4096x640 .f32) (ix2 i j)
      = (∑ k, a (ix2 i k) * b (ix2 k j)) := by
  pointwise

end

/-! ## The claims -/

theorem frame_reference : quiescent_MixAuxReferenceIdeal := fun m g _ =>
  (θ_run _ _ _).mono (fun r h => ⟨fun c => (h c).2, sem_eq_zero_of_no_sems (by decide) r.2⟩)
    (MixAuxReferenceIdeal.Value.run (F := Ideal) m g)

theorem algebraic : algebraic_MixAuxIdeal_MixAuxReferenceIdeal := fun m g m' g' _ hm =>
  ⟨_, (θ_run _ _ _).mono (fun _ h c => ⟨(h c).1.trans (final m c), (h c).2⟩)
      (MixAuxIdeal.Value.run_blocks m g),
    (θ_run _ _ _).mono (fun r h c => by
      obtain ⟨e0, e1⟩ := hm c
      obtain ⟨r1, r2⟩ := h c
      refine ⟨funext fun i => ?_, r2⟩
      rw [r1, e0, e1]
      exact (congrArg _ (ix2_eta (n0 := 4096) (n1 := 640) i).symm).trans (ref_entry _ _ (i 0) (i 1)))
      (MixAuxReferenceIdeal.Value.run (F := Ideal) m' g')⟩

end Cert.Aux

end
-- ==== Proof.CrossQ.lean ====
/-
# The cross-attention's queries

Each tile of the result is one product.
-/
module

public import proofs.«01_k».proof.Defs
public import proofs.«01_k».proof.Proof.Products
public import proofs.«01_k».proof.Proof.Gen.CrossQIdeal.Value
public import proofs.«01_k».proof.Proof.Gen.CrossQ.Frame
public import proofs.«01_k».proof.Proof.Gen.CrossQReferenceIdeal.Run

@[expose] public section

noncomputable section

open Idealize.ShloMosaic Idealize.ShloMosaic.TcCoe Idealize.SL.Sem Cert.Products

namespace Cert.CrossQ

section
open Cert.CrossQIdeal Cert.CrossQIdeal.Gen

variable {F : FTy → Type} [FloatOps F]

/-! ## What a point leaves -/

theorem out_A {c i a1 h1 a2 h2 a3 h3 a4 h4 hc hd he x0 x1} :
    out0_A_2 (F := F) c i a1 h1 a2 h2 a3 h3 a4 h4 hc hd he x0 x1 = k0_pay4 (k0_pay2 x0 x1) := by
  unfold out0_A_2
  rw [View.read_writes_eq_canon _ _ _ fun _ => cover0_A_2 ..]
  unfold kernelRun0_A
  dsimp only
  sl_unfold_words
  rw [View.canon_unit_zero zeros]
  simp only [View.readAt_eq_ld, h1.read_unread, h2.read_unread, h4.read_unread, ld_zeros, View.readCov_unit_zero (S := S512x256) _ zeros, shapeCast_self]

theorem pay_out (x0 : Vec Ideal S512x1024 .bf16) (x1 : Vec Ideal S1024x256 .bf16) (p : Fin 512) (q : Fin 256) :
    (k0_pay4 (k0_pay2 x0 x1) : Vec Ideal S512x256 .bf16) (ix2 p q) = (∑ l, x0 (ix2 p l) * x1 (ix2 l q)) := by
  pointwise [k0_pay1, k0_pay2, k0_pay3, k0_pay4]

/-! ## The blocks -/

variable (m : (ℓ : Loc nD τ sig) → Buf (Elt Ideal) ℓ)

/-- The arguments. -/
abbrev argA (c : Dev nD) : Vec Ideal S4096x1024 .bf16 := m ((c : Thread nD τ).loc main_arg0)
abbrev argB (c : Dev nD) : Vec Ideal S1024x256 .bf16 := m ((c : Thread nD τ).loc main_arg1)

/-- Where the tile of a point lies. -/
abbrev down (t : ℕ) (p : Fin 512) : Fin 4096 := into 8 512 (t / 1) p
abbrev across (t : ℕ) (q : Fin 256) : Fin 256 := into 1 256 (t / 1) q
abbrev along (k : ℕ) (l : Fin 1024) : Fin 1024 := into 1 1024 k l

theorem index_tile : ∀ t : Fin cfg0.N, win0_0.index t (0 : Fin 2) = t.val / 1 % 8 ∧ win0_0.index t (1 : Fin 2) = t.val % 1
    ∧ win0_1.index t (0 : Fin 2) = t.val % 1 ∧ win0_1.index t (1 : Fin 2) = t.val / 1 % 1
    ∧ win0_2.index t (0 : Fin 2) = t.val / 1 % 8 ∧ win0_2.index t (1 : Fin 2) = t.val / 1 % 1 :=
  (by decide +kernel : ∀ t : Fin grid0.N, _)

theorem block_0 (c : Dev nD) (t : Fin cfg0.N) (p : Fin 512) (l : Fin 1024) :
    (iblk m c 0 t : Vec Ideal S512x1024 .bf16) (ix2 p l) = argA m c (ix2 (down t.val p) (along t.val l)) :=
  have hi := index_tile t
  congrArg (argA m c) (at_ix2 (off hi.1) (off hi.2.1))

theorem block_1 (c : Dev nD) (t : Fin cfg0.N) (l : Fin 1024) (q : Fin 256) :
    (iblk m c 1 t : Vec Ideal S1024x256 .bf16) (ix2 l q) = argB m c (ix2 (along t.val l) (across t.val q)) :=
  have hi := index_tile t
  congrArg (argB m c) (at_ix2 (off hi.2.2.1) (off hi.2.2.2.1))

/-! ## The products -/

/-- An entry of the result. -/
def entry (c : Dev nD) (i : Fin 4096) (j : Fin 256) : EReal :=
  (∑ k : Fin 1024, argA m c (ix2 i k) * argB m c (ix2 k j))

theorem along_one (t : ℕ) (l : Fin 1024) : along t l = l :=
  Fin.ext (by rw [into_val]; omega)

theorem left (c : Dev nD) (t : Fin cfg0.N) (p : Fin 512) (q : Fin 256) :
    (outsAt0 m c t) (ix2 p q) = entry m c (down t.val p) (across t.val q) := by
  unfold outsAt0 entry
  rw [out_A, pay_out]
  simp only [block_0 m c t, block_1 m c t, along_one]

/-- The whole array. -/
abbrev whole (c : Dev nD) : Vec Ideal S4096x256 .bf16 := fun i => entry m c (i 0) (i 1)

theorem written (c : Dev nD) (t : Fin cfg0.N) :
    (dats m 0 c).flushed 2 t = ((cfg0.win 2).blk t).view.read (Elt Ideal) (whole m c) := by
  have hi := index_tile t
  show (cfg0.win 2).cut (grid0.coords t) ((dats m 0 c).after 2 t) = _
  rw [after0_2]
  funext j
  rw [View.read_apply]
  have hj : ((cfg0.win 2).blk t).view.emb j = ix2 (down t.val (j 0)) (across t.val (j 1)) := at_ix2 (off hi.2.2.2.2.1) (off hi.2.2.2.2.2)
  rw [hj]
  refine Eq.trans ?_ (left m c t (j 0) (j 1))
  exact congrArg (outsAt0 m c t) (ix2_eta (n0 := 512) (n1 := 256) j).symm

theorem final (c : Dev nD) : (dats m 0 c).arrAt 2 cfg0.N = whole m c :=
  (dats m 0 c).arrAt_eq_of_cover 2 (whole m c) (fun t _ => written m c t) fun i => by
    have h0 : (i 0).val < 4096 := (i 0).isLt
    have h1 : (i 1).val < 256 := (i 1).isLt
    have hN : cfg0.N = 8 := N_0
    obtain ⟨t, ht⟩ : ∃ t : Fin cfg0.N, t.val = ((i 0).val / 512 * 1 + (i 1).val / 256) * 1 + 0 := ⟨⟨_, by omega⟩, rfl⟩
    have hi := index_tile t
    refine ⟨t, flush0_2 t, ?_⟩
    show i ∈ ((View.whole main_v0).slice (win0_2.rect t)).set
    rw [View.set_slice_whole, Rect.mem_set_unit]
    exact Fin.forall_fin_two.mpr ⟨within (s := 512) (by omega), within (s := 256) (by omega)⟩

end

/-! ## The reference -/

section
open Cert.CrossQReferenceIdeal Cert.CrossQReferenceIdeal.Gen

theorem ref_entry (a : FVec Ideal S4096x1024 .bf16) (b : FVec Ideal S1024x256 .bf16) (i : Fin 4096) (j : Fin 256) :
    (truncf .bf16 (Host.dotGeneral dot_S4096x1024_S1024x256_S4096x256_1_0_0_1_n_n none (extf .f32 a bitsLt_bf16_f32) (extf .f32 b bitsLt_bf16_f32)) bitsLt_bf16_f32 : FVec Ideal S4096x256 .bf16) (ix2 i j)
      = (∑ k, a (ix2 i k) * b (ix2 k j)) := by
  pointwise

end

/-! ## The claims -/

theorem frame_reference : quiescent_CrossQReferenceIdeal := fun m g _ =>
  (θ_run _ _ _).mono (fun r h => ⟨fun c => (h c).2, sem_eq_zero_of_no_sems (by decide) r.2⟩)
    (CrossQReferenceIdeal.Value.run (F := Ideal) m g)

theorem algebraic : algebraic_CrossQIdeal_CrossQReferenceIdeal := fun m g m' g' _ hm =>
  ⟨_, (θ_run _ _ _).mono (fun _ h c => ⟨(h c).1.trans (final m c), (h c).2⟩)
      (CrossQIdeal.Value.run_blocks m g),
    (θ_run _ _ _).mono (fun r h c => by
      obtain ⟨e0, e1⟩ := hm c
      obtain ⟨r1, r2⟩ := h c
      refine ⟨funext fun i => ?_, r2⟩
      rw [r1, e0, e1]
      exact (congrArg _ (ix2_eta (n0 := 4096) (n1 := 256) i).symm).trans (ref_entry _ _ (i 0) (i 1)))
      (CrossQReferenceIdeal.Value.run (F := Ideal) m' g')⟩

end Cert.CrossQ

end
-- ==== Proof.CrossKv.lean ====
/-
# The memory's keys and values

Each tile of the result is one product.
-/
module

public import proofs.«01_k».proof.Defs
public import proofs.«01_k».proof.Proof.Products
public import proofs.«01_k».proof.Proof.Gen.CrossKvIdeal.Value
public import proofs.«01_k».proof.Proof.Gen.CrossKv.Frame
public import proofs.«01_k».proof.Proof.Gen.CrossKvReferenceIdeal.Run

@[expose] public section

noncomputable section

open Idealize.ShloMosaic Idealize.ShloMosaic.TcCoe Idealize.SL.Sem Cert.Products

namespace Cert.CrossKv

section
open Cert.CrossKvIdeal Cert.CrossKvIdeal.Gen

variable {F : FTy → Type} [FloatOps F]

/-! ## What a point leaves -/

theorem out_A {c i a1 h1 a2 h2 a3 h3 a4 h4 hc hd he x0 x1} :
    out0_A_2 (F := F) c i a1 h1 a2 h2 a3 h3 a4 h4 hc hd he x0 x1 = k0_pay4 (k0_pay2 x0 x1) := by
  unfold out0_A_2
  rw [View.read_writes_eq_canon _ _ _ fun _ => cover0_A_2 ..]
  unfold kernelRun0_A
  dsimp only
  sl_unfold_words
  rw [View.canon_unit_zero zeros]
  simp only [View.readAt_eq_ld, h1.read_unread, h2.read_unread, h4.read_unread, ld_zeros, View.readCov_unit_zero (S := S512x512) _ zeros, shapeCast_self]

theorem pay_out (x0 : Vec Ideal S512x1024 .bf16) (x1 : Vec Ideal S1024x512 .bf16) (p : Fin 512) (q : Fin 512) :
    (k0_pay4 (k0_pay2 x0 x1) : Vec Ideal S512x512 .bf16) (ix2 p q) = (∑ l, x0 (ix2 p l) * x1 (ix2 l q)) := by
  pointwise [k0_pay1, k0_pay2, k0_pay3, k0_pay4]

/-! ## The blocks -/

variable (m : (ℓ : Loc nD τ sig) → Buf (Elt Ideal) ℓ)

/-- The arguments. -/
abbrev argA (c : Dev nD) : Vec Ideal S512x1024 .bf16 := m ((c : Thread nD τ).loc main_arg0)
abbrev argB (c : Dev nD) : Vec Ideal S1024x512 .bf16 := m ((c : Thread nD τ).loc main_arg1)

/-- Where the tile of a point lies. -/
abbrev down (t : ℕ) (p : Fin 512) : Fin 512 := into 1 512 (t / 1) p
abbrev across (t : ℕ) (q : Fin 512) : Fin 512 := into 1 512 (t / 1) q
abbrev along (k : ℕ) (l : Fin 1024) : Fin 1024 := into 1 1024 k l

theorem index_tile : ∀ t : Fin cfg0.N, win0_0.index t (0 : Fin 2) = t.val / 1 % 1 ∧ win0_0.index t (1 : Fin 2) = t.val % 1
    ∧ win0_1.index t (0 : Fin 2) = t.val % 1 ∧ win0_1.index t (1 : Fin 2) = t.val / 1 % 1
    ∧ win0_2.index t (0 : Fin 2) = t.val / 1 % 1 ∧ win0_2.index t (1 : Fin 2) = t.val / 1 % 1 :=
  (by decide +kernel : ∀ t : Fin grid0.N, _)

theorem block_0 (c : Dev nD) (t : Fin cfg0.N) (p : Fin 512) (l : Fin 1024) :
    (iblk m c 0 t : Vec Ideal S512x1024 .bf16) (ix2 p l) = argA m c (ix2 (down t.val p) (along t.val l)) :=
  have hi := index_tile t
  congrArg (argA m c) (at_ix2 (off hi.1) (off hi.2.1))

theorem block_1 (c : Dev nD) (t : Fin cfg0.N) (l : Fin 1024) (q : Fin 512) :
    (iblk m c 1 t : Vec Ideal S1024x512 .bf16) (ix2 l q) = argB m c (ix2 (along t.val l) (across t.val q)) :=
  have hi := index_tile t
  congrArg (argB m c) (at_ix2 (off hi.2.2.1) (off hi.2.2.2.1))

/-! ## The products -/

/-- An entry of the result. -/
def entry (c : Dev nD) (i : Fin 512) (j : Fin 512) : EReal :=
  (∑ k : Fin 1024, argA m c (ix2 i k) * argB m c (ix2 k j))

theorem along_one (t : ℕ) (l : Fin 1024) : along t l = l :=
  Fin.ext (by rw [into_val]; omega)

theorem left (c : Dev nD) (t : Fin cfg0.N) (p : Fin 512) (q : Fin 512) :
    (outsAt0 m c t) (ix2 p q) = entry m c (down t.val p) (across t.val q) := by
  unfold outsAt0 entry
  rw [out_A, pay_out]
  simp only [block_0 m c t, block_1 m c t, along_one]

/-- The whole array. -/
abbrev whole (c : Dev nD) : Vec Ideal S512x512 .bf16 := fun i => entry m c (i 0) (i 1)

theorem written (c : Dev nD) (t : Fin cfg0.N) :
    (dats m 0 c).flushed 2 t = ((cfg0.win 2).blk t).view.read (Elt Ideal) (whole m c) := by
  have hi := index_tile t
  show (cfg0.win 2).cut (grid0.coords t) ((dats m 0 c).after 2 t) = _
  rw [after0_2]
  funext j
  rw [View.read_apply]
  have hj : ((cfg0.win 2).blk t).view.emb j = ix2 (down t.val (j 0)) (across t.val (j 1)) := at_ix2 (off hi.2.2.2.2.1) (off hi.2.2.2.2.2)
  rw [hj]
  refine Eq.trans ?_ (left m c t (j 0) (j 1))
  exact congrArg (outsAt0 m c t) (ix2_eta (n0 := 512) (n1 := 512) j).symm

theorem final (c : Dev nD) : (dats m 0 c).arrAt 2 cfg0.N = whole m c :=
  (dats m 0 c).arrAt_eq_of_cover 2 (whole m c) (fun t _ => written m c t) fun i => by
    have h0 : (i 0).val < 512 := (i 0).isLt
    have h1 : (i 1).val < 512 := (i 1).isLt
    have hN : cfg0.N = 1 := N_0
    obtain ⟨t, ht⟩ : ∃ t : Fin cfg0.N, t.val = ((i 0).val / 512 * 1 + (i 1).val / 512) * 1 + 0 := ⟨⟨_, by omega⟩, rfl⟩
    have hi := index_tile t
    refine ⟨t, flush0_2 t, ?_⟩
    show i ∈ ((View.whole main_v0).slice (win0_2.rect t)).set
    rw [View.set_slice_whole, Rect.mem_set_unit]
    exact Fin.forall_fin_two.mpr ⟨within (s := 512) (by omega), within (s := 512) (by omega)⟩

end

/-! ## The reference -/

section
open Cert.CrossKvReferenceIdeal Cert.CrossKvReferenceIdeal.Gen

theorem ref_entry (a : FVec Ideal S512x1024 .bf16) (b : FVec Ideal S1024x512 .bf16) (i : Fin 512) (j : Fin 512) :
    (truncf .bf16 (Host.dotGeneral dot_S512x1024_S1024x512_S512x512_1_0_0_1_n_n none (extf .f32 a bitsLt_bf16_f32) (extf .f32 b bitsLt_bf16_f32)) bitsLt_bf16_f32 : FVec Ideal S512x512 .bf16) (ix2 i j)
      = (∑ k, a (ix2 i k) * b (ix2 k j)) := by
  pointwise

end

/-! ## The claims -/

theorem frame_reference : quiescent_CrossKvReferenceIdeal := fun m g _ =>
  (θ_run _ _ _).mono (fun r h => ⟨fun c => (h c).2, sem_eq_zero_of_no_sems (by decide) r.2⟩)
    (CrossKvReferenceIdeal.Value.run (F := Ideal) m g)

theorem algebraic : algebraic_CrossKvIdeal_CrossKvReferenceIdeal := fun m g m' g' _ hm =>
  ⟨_, (θ_run _ _ _).mono (fun _ h c => ⟨(h c).1.trans (final m c), (h c).2⟩)
      (CrossKvIdeal.Value.run_blocks m g),
    (θ_run _ _ _).mono (fun r h c => by
      obtain ⟨e0, e1⟩ := hm c
      obtain ⟨r1, r2⟩ := h c
      refine ⟨funext fun i => ?_, r2⟩
      rw [r1, e0, e1]
      exact (congrArg _ (ix2_eta (n0 := 512) (n1 := 512) i).symm).trans (ref_entry _ _ (i 0) (i 1)))
      (CrossKvReferenceIdeal.Value.run (F := Ideal) m' g')⟩

end Cert.CrossKv

end
-- ==== Proof.CrossOut.lean ====
/-
# The cross-attention put out

Each tile of the result is one product.
-/
module

public import proofs.«01_k».proof.Defs
public import proofs.«01_k».proof.Proof.Products
public import proofs.«01_k».proof.Proof.Gen.CrossOutIdeal.Value
public import proofs.«01_k».proof.Proof.Gen.CrossOut.Frame
public import proofs.«01_k».proof.Proof.Gen.CrossOutReferenceIdeal.Run

@[expose] public section

noncomputable section

open Idealize.ShloMosaic Idealize.ShloMosaic.TcCoe Idealize.SL.Sem Cert.Products

namespace Cert.CrossOut

section
open Cert.CrossOutIdeal Cert.CrossOutIdeal.Gen

variable {F : FTy → Type} [FloatOps F]

/-! ## What a point leaves -/

theorem out_A {c i a1 h1 a2 h2 a3 h3 a4 h4 a5 h5 hc hd he x0 x1 x2} :
    out0_A_3 (F := F) c i a1 h1 a2 h2 a3 h3 a4 h4 a5 h5 hc hd he x0 x1 x2 = k0_pay4 (k0_pay2 x0 x1) x2 := by
  unfold out0_A_3
  rw [View.read_writes_eq_canon _ _ _ fun _ => cover0_A_3 ..]
  unfold kernelRun0_A
  dsimp only
  sl_unfold_words
  rw [View.canon_unit_zero zeros]
  simp only [View.readAt_eq_ld, h1.read_unread, h2.read_unread, h3.read_unread, h5.read_unread, ld_zeros, View.readCov_unit_zero (S := S512x512) _ zeros, shapeCast_self]

theorem pay_out (x0 : Vec Ideal S512x256 .bf16) (x1 : Vec Ideal S512x256 .bf16) (x2 : Vec Ideal S512x512 .f32) (p : Fin 512) (q : Fin 512) :
    (k0_pay4 (k0_pay2 x0 x1) x2 : Vec Ideal S512x512 .f32) (ix2 p q) = (∑ l, x0 (ix2 p l) * x1 (ix2 q l)) + x2 (ix2 p q) := by
  pointwise [k0_pay1, k0_pay2, k0_pay3, k0_pay4]

/-! ## The blocks -/

variable (m : (ℓ : Loc nD τ sig) → Buf (Elt Ideal) ℓ)

/-- The arguments. -/
abbrev argA (c : Dev nD) : Vec Ideal S4096x256 .bf16 := m ((c : Thread nD τ).loc main_arg0)
abbrev argB (c : Dev nD) : Vec Ideal S1024x256 .bf16 := m ((c : Thread nD τ).loc main_arg1)
abbrev argR (c : Dev nD) : Vec Ideal S4096x1024 .f32 := m ((c : Thread nD τ).loc main_arg2)

/-- Where the tile of a point lies. -/
abbrev down (t : ℕ) (p : Fin 512) : Fin 4096 := into 8 512 (t / 2) p
abbrev across (t : ℕ) (q : Fin 512) : Fin 1024 := into 2 512 (t / 1) q
abbrev along (k : ℕ) (l : Fin 256) : Fin 256 := into 1 256 k l

theorem index_tile : ∀ t : Fin cfg0.N, win0_0.index t (0 : Fin 2) = t.val / 2 % 8 ∧ win0_0.index t (1 : Fin 2) = t.val % 1
    ∧ win0_1.index t (0 : Fin 2) = t.val / 1 % 2 ∧ win0_1.index t (1 : Fin 2) = t.val % 1
    ∧ win0_2.index t (0 : Fin 2) = t.val / 2 % 8 ∧ win0_2.index t (1 : Fin 2) = t.val / 1 % 2
    ∧ win0_3.index t (0 : Fin 2) = t.val / 2 % 8 ∧ win0_3.index t (1 : Fin 2) = t.val / 1 % 2 :=
  (by decide +kernel : ∀ t : Fin grid0.N, _)

theorem block_0 (c : Dev nD) (t : Fin cfg0.N) (p : Fin 512) (l : Fin 256) :
    (iblk m c 0 t : Vec Ideal S512x256 .bf16) (ix2 p l) = argA m c (ix2 (down t.val p) (along t.val l)) :=
  have hi := index_tile t
  congrArg (argA m c) (at_ix2 (off hi.1) (off hi.2.1))

theorem block_1 (c : Dev nD) (t : Fin cfg0.N) (q : Fin 512) (l : Fin 256) :
    (iblk m c 1 t : Vec Ideal S512x256 .bf16) (ix2 q l) = argB m c (ix2 (across t.val q) (along t.val l)) :=
  have hi := index_tile t
  congrArg (argB m c) (at_ix2 (off hi.2.2.1) (off hi.2.2.2.1))

theorem block_2 (c : Dev nD) (t : Fin cfg0.N) (p : Fin 512) (q : Fin 512) :
    (iblk m c 2 t : Vec Ideal S512x512 .f32) (ix2 p q) = argR m c (ix2 (down t.val p) (across t.val q)) :=
  have hi := index_tile t
  congrArg (argR m c) (at_ix2 (off hi.2.2.2.2.1) (off hi.2.2.2.2.2.1))

/-! ## The products -/

/-- An entry of the result. -/
def entry (c : Dev nD) (i : Fin 4096) (j : Fin 1024) : EReal :=
  (∑ k : Fin 256, argA m c (ix2 i k) * argB m c (ix2 j k)) + argR m c (ix2 i j)

theorem along_one (t : ℕ) (l : Fin 256) : along t l = l :=
  Fin.ext (by rw [into_val]; omega)

theorem left (c : Dev nD) (t : Fin cfg0.N) (p : Fin 512) (q : Fin 512) :
    (outsAt0 m c t) (ix2 p q) = entry m c (down t.val p) (across t.val q) := by
  unfold outsAt0 entry
  rw [out_A, pay_out]
  simp only [block_0 m c t, block_1 m c t, block_2 m c t, along_one]

/-- The whole array. -/
abbrev whole (c : Dev nD) : Vec Ideal S4096x1024 .f32 := fun i => entry m c (i 0) (i 1)

theorem written (c : Dev nD) (t : Fin cfg0.N) :
    (dats m 0 c).flushed 3 t = ((cfg0.win 3).blk t).view.read (Elt Ideal) (whole m c) := by
  have hi := index_tile t
  show (cfg0.win 3).cut (grid0.coords t) ((dats m 0 c).after 3 t) = _
  rw [after0_3]
  funext j
  rw [View.read_apply]
  have hj : ((cfg0.win 3).blk t).view.emb j = ix2 (down t.val (j 0)) (across t.val (j 1)) := at_ix2 (off hi.2.2.2.2.2.2.1) (off hi.2.2.2.2.2.2.2)
  rw [hj]
  refine Eq.trans ?_ (left m c t (j 0) (j 1))
  exact congrArg (outsAt0 m c t) (ix2_eta (n0 := 512) (n1 := 512) j).symm

theorem final (c : Dev nD) : (dats m 0 c).arrAt 3 cfg0.N = whole m c :=
  (dats m 0 c).arrAt_eq_of_cover 3 (whole m c) (fun t _ => written m c t) fun i => by
    have h0 : (i 0).val < 4096 := (i 0).isLt
    have h1 : (i 1).val < 1024 := (i 1).isLt
    have hN : cfg0.N = 16 := N_0
    obtain ⟨t, ht⟩ : ∃ t : Fin cfg0.N, t.val = ((i 0).val / 512 * 2 + (i 1).val / 512) * 1 + 0 := ⟨⟨_, by omega⟩, rfl⟩
    have hi := index_tile t
    refine ⟨t, flush0_3 t, ?_⟩
    show i ∈ ((View.whole main_v0).slice (win0_3.rect t)).set
    rw [View.set_slice_whole, Rect.mem_set_unit]
    exact Fin.forall_fin_two.mpr ⟨within (s := 512) (by omega), within (s := 512) (by omega)⟩

end

/-! ## The reference -/

section
open Cert.CrossOutReferenceIdeal Cert.CrossOutReferenceIdeal.Gen

theorem ref_entry (a : FVec Ideal S4096x256 .bf16) (b : FVec Ideal S1024x256 .bf16) (r : FVec Ideal S4096x1024 .f32) (i : Fin 4096) (j : Fin 1024) :
    (addf r (Host.dotGeneral dot_S4096x256_S256x1024_S4096x1024_1_0_0_1_n_n none (extf .f32 a bitsLt_bf16_f32) (transpose S256x1024 [1, 0] (extf .f32 b bitsLt_bf16_f32) transposes_S1024x256_S256x1024_1_0)) : FVec Ideal S4096x1024 .f32) (ix2 i j)
      = (∑ k, a (ix2 i k) * b (ix2 j k)) + r (ix2 i j) := by
  pointwise
  exact add_comm _ _

end

/-! ## The claims -/

theorem frame_reference : quiescent_CrossOutReferenceIdeal := fun m g _ =>
  (θ_run _ _ _).mono (fun r h => ⟨fun c => (h c).2, sem_eq_zero_of_no_sems (by decide) r.2⟩)
    (CrossOutReferenceIdeal.Value.run (F := Ideal) m g)

theorem algebraic : algebraic_CrossOutIdeal_CrossOutReferenceIdeal := fun m g m' g' _ hm =>
  ⟨_, (θ_run _ _ _).mono (fun _ h c => ⟨(h c).1.trans (final m c), (h c).2⟩)
      (CrossOutIdeal.Value.run_blocks m g),
    (θ_run _ _ _).mono (fun r h c => by
      obtain ⟨e0, e1, e2⟩ := hm c
      obtain ⟨r1, r2⟩ := h c
      refine ⟨funext fun i => ?_, r2⟩
      rw [r1, e0, e1, e2]
      exact (congrArg _ (ix2_eta (n0 := 4096) (n1 := 1024) i).symm).trans (ref_entry _ _ _ (i 0) (i 1)))
      (CrossOutReferenceIdeal.Value.run (F := Ideal) m' g')⟩

end Cert.CrossOut

end
-- ==== Proof.FfnUp.lean ====
/-
# The hidden values

Each tile of the result is one product.
-/
module

public import proofs.«01_k».proof.Defs
public import proofs.«01_k».proof.Proof.Products
public import proofs.«01_k».proof.Proof.Gen.FfnUpIdeal.Value
public import proofs.«01_k».proof.Proof.Gen.FfnUp.Frame
public import proofs.«01_k».proof.Proof.Gen.FfnUpReferenceIdeal.Run

@[expose] public section

noncomputable section

open Idealize.ShloMosaic Idealize.ShloMosaic.TcCoe Idealize.SL.Sem Cert.Products

namespace Cert.Up

section
open Cert.FfnUpIdeal Cert.FfnUpIdeal.Gen

variable {F : FTy → Type} [FloatOps F]

/-! ## What a point leaves -/

theorem out_A {c i a1 h1 a2 h2 a3 h3 a4 h4 hc hd he x0 x1} :
    out0_A_2 (F := F) c i a1 h1 a2 h2 a3 h3 a4 h4 hc hd he x0 x1 = k0_pay2 x0 x1 := by
  unfold out0_A_2
  rw [View.read_writes_eq_canon _ _ _ fun _ => cover0_A_2 ..]
  unfold kernelRun0_A
  dsimp only
  sl_unfold_words
  rw [View.canon_unit_zero zeros]
  simp only [View.readAt_eq_ld, h1.read_unread, h2.read_unread, h4.read_unread, ld_zeros, View.readCov_unit_zero (S := S512x256) _ zeros, shapeCast_self]

theorem pay_out (x0 : Vec Ideal S512x1024 .bf16) (x1 : Vec Ideal S256x1024 .bf16) (p : Fin 512) (q : Fin 256) :
    (k0_pay2 x0 x1 : Vec Ideal S512x256 .f32) (ix2 p q) = (∑ l, x0 (ix2 p l) * x1 (ix2 q l)) := by
  pointwise [k0_pay1, k0_pay2, k0_pay3]

/-! ## The blocks -/

variable (m : (ℓ : Loc nD τ sig) → Buf (Elt Ideal) ℓ)

/-- The arguments. -/
abbrev argA (c : Dev nD) : Vec Ideal S4096x1024 .bf16 := m ((c : Thread nD τ).loc main_arg0)
abbrev argB (c : Dev nD) : Vec Ideal S2816x1024 .bf16 := m ((c : Thread nD τ).loc main_arg1)

/-- Where the tile of a point lies. -/
abbrev down (t : ℕ) (p : Fin 512) : Fin 4096 := into 8 512 (t / 11) p
abbrev across (t : ℕ) (q : Fin 256) : Fin 2816 := into 11 256 (t / 1) q
abbrev along (k : ℕ) (l : Fin 1024) : Fin 1024 := into 1 1024 k l

theorem index_tile : ∀ t : Fin cfg0.N, win0_0.index t (0 : Fin 2) = t.val / 11 % 8 ∧ win0_0.index t (1 : Fin 2) = t.val % 1
    ∧ win0_1.index t (0 : Fin 2) = t.val / 1 % 11 ∧ win0_1.index t (1 : Fin 2) = t.val % 1
    ∧ win0_2.index t (0 : Fin 2) = t.val / 11 % 8 ∧ win0_2.index t (1 : Fin 2) = t.val / 1 % 11 :=
  (by decide +kernel : ∀ t : Fin grid0.N, _)

theorem block_0 (c : Dev nD) (t : Fin cfg0.N) (p : Fin 512) (l : Fin 1024) :
    (iblk m c 0 t : Vec Ideal S512x1024 .bf16) (ix2 p l) = argA m c (ix2 (down t.val p) (along t.val l)) :=
  have hi := index_tile t
  congrArg (argA m c) (at_ix2 (off hi.1) (off hi.2.1))

theorem block_1 (c : Dev nD) (t : Fin cfg0.N) (q : Fin 256) (l : Fin 1024) :
    (iblk m c 1 t : Vec Ideal S256x1024 .bf16) (ix2 q l) = argB m c (ix2 (across t.val q) (along t.val l)) :=
  have hi := index_tile t
  congrArg (argB m c) (at_ix2 (off hi.2.2.1) (off hi.2.2.2.1))

/-! ## The products -/

/-- An entry of the result. -/
def entry (c : Dev nD) (i : Fin 4096) (j : Fin 2816) : EReal :=
  (∑ k : Fin 1024, argA m c (ix2 i k) * argB m c (ix2 j k))

theorem along_one (t : ℕ) (l : Fin 1024) : along t l = l :=
  Fin.ext (by rw [into_val]; omega)

theorem left (c : Dev nD) (t : Fin cfg0.N) (p : Fin 512) (q : Fin 256) :
    (outsAt0 m c t) (ix2 p q) = entry m c (down t.val p) (across t.val q) := by
  unfold outsAt0 entry
  rw [out_A, pay_out]
  simp only [block_0 m c t, block_1 m c t, along_one]

/-- The whole array. -/
abbrev whole (c : Dev nD) : Vec Ideal S4096x2816 .f32 := fun i => entry m c (i 0) (i 1)

theorem written (c : Dev nD) (t : Fin cfg0.N) :
    (dats m 0 c).flushed 2 t = ((cfg0.win 2).blk t).view.read (Elt Ideal) (whole m c) := by
  have hi := index_tile t
  show (cfg0.win 2).cut (grid0.coords t) ((dats m 0 c).after 2 t) = _
  rw [after0_2]
  funext j
  rw [View.read_apply]
  have hj : ((cfg0.win 2).blk t).view.emb j = ix2 (down t.val (j 0)) (across t.val (j 1)) := at_ix2 (off hi.2.2.2.2.1) (off hi.2.2.2.2.2)
  rw [hj]
  refine Eq.trans ?_ (left m c t (j 0) (j 1))
  exact congrArg (outsAt0 m c t) (ix2_eta (n0 := 512) (n1 := 256) j).symm

theorem final (c : Dev nD) : (dats m 0 c).arrAt 2 cfg0.N = whole m c :=
  (dats m 0 c).arrAt_eq_of_cover 2 (whole m c) (fun t _ => written m c t) fun i => by
    have h0 : (i 0).val < 4096 := (i 0).isLt
    have h1 : (i 1).val < 2816 := (i 1).isLt
    have hN : cfg0.N = 88 := N_0
    obtain ⟨t, ht⟩ : ∃ t : Fin cfg0.N, t.val = ((i 0).val / 512 * 11 + (i 1).val / 256) * 1 + 0 := ⟨⟨_, by omega⟩, rfl⟩
    have hi := index_tile t
    refine ⟨t, flush0_2 t, ?_⟩
    show i ∈ ((View.whole main_v0).slice (win0_2.rect t)).set
    rw [View.set_slice_whole, Rect.mem_set_unit]
    exact Fin.forall_fin_two.mpr ⟨within (s := 512) (by omega), within (s := 256) (by omega)⟩

end

/-! ## The reference -/

section
open Cert.FfnUpReferenceIdeal Cert.FfnUpReferenceIdeal.Gen

theorem ref_entry (a : FVec Ideal S4096x1024 .bf16) (b : FVec Ideal S2816x1024 .bf16) (i : Fin 4096) (j : Fin 2816) :
    (Host.dotGeneral dot_S4096x1024_S1024x2816_S4096x2816_1_0_0_1_n_n none (extf .f32 a bitsLt_bf16_f32) (transpose S1024x2816 [1, 0] (extf .f32 b bitsLt_bf16_f32) transposes_S2816x1024_S1024x2816_1_0) : FVec Ideal S4096x2816 .f32) (ix2 i j)
      = (∑ k, a (ix2 i k) * b (ix2 j k)) := by
  pointwise

end

/-! ## The claims -/

theorem frame_reference : quiescent_FfnUpReferenceIdeal := fun m g _ =>
  (θ_run _ _ _).mono (fun r h => ⟨fun c => (h c).2, sem_eq_zero_of_no_sems (by decide) r.2⟩)
    (FfnUpReferenceIdeal.Value.run (F := Ideal) m g)

theorem algebraic : algebraic_FfnUpIdeal_FfnUpReferenceIdeal := fun m g m' g' _ hm =>
  ⟨_, (θ_run _ _ _).mono (fun _ h c => ⟨(h c).1.trans (final m c), (h c).2⟩)
      (FfnUpIdeal.Value.run_blocks m g),
    (θ_run _ _ _).mono (fun r h c => by
      obtain ⟨e0, e1⟩ := hm c
      obtain ⟨r1, r2⟩ := h c
      refine ⟨funext fun i => ?_, r2⟩
      rw [r1, e0, e1]
      exact (congrArg _ (ix2_eta (n0 := 4096) (n1 := 2816) i).symm).trans (ref_entry _ _ (i 0) (i 1)))
      (FfnUpReferenceIdeal.Value.run (F := Ideal) m' g')⟩

end Cert.Up

end
-- ==== Proof.GradAct.lean ====
/-
# The gradient at the hidden values

Each tile of the result is one product.
-/
module

public import proofs.«01_k».proof.Defs
public import proofs.«01_k».proof.Proof.Products
public import proofs.«01_k».proof.Proof.Gen.GradActIdeal.Value
public import proofs.«01_k».proof.Proof.Gen.GradAct.Frame
public import proofs.«01_k».proof.Proof.Gen.GradActReferenceIdeal.Run

@[expose] public section

noncomputable section

open Idealize.ShloMosaic Idealize.ShloMosaic.TcCoe Idealize.SL.Sem Cert.Products

namespace Cert.GradAct

section
open Cert.GradActIdeal Cert.GradActIdeal.Gen

variable {F : FTy → Type} [FloatOps F]

/-! ## What a point leaves -/

theorem out_A {c i a1 h1 a2 h2 a3 h3 a4 h4 hc hd he x0 x1} :
    out0_A_2 (F := F) c i a1 h1 a2 h2 a3 h3 a4 h4 hc hd he x0 x1 = k0_pay2 x0 x1 := by
  unfold out0_A_2
  rw [View.read_writes_eq_canon _ _ _ fun _ => cover0_A_2 ..]
  unfold kernelRun0_A
  dsimp only
  sl_unfold_words
  rw [View.canon_unit_zero zeros]
  simp only [View.readAt_eq_ld, h1.read_unread, h2.read_unread, h4.read_unread, ld_zeros, View.readCov_unit_zero (S := S512x256) _ zeros, shapeCast_self]

theorem pay_out (x0 : Vec Ideal S512x1024 .f32) (x1 : Vec Ideal S256x1024 .bf16) (p : Fin 512) (q : Fin 256) :
    (k0_pay2 x0 x1 : Vec Ideal S512x256 .f32) (ix2 p q) = (∑ l, x0 (ix2 p l) * x1 (ix2 q l)) := by
  pointwise [k0_pay1, k0_pay2, k0_pay3]

/-! ## The blocks -/

variable (m : (ℓ : Loc nD τ sig) → Buf (Elt Ideal) ℓ)

/-- The arguments. -/
abbrev argA (c : Dev nD) : Vec Ideal S4096x1024 .f32 := m ((c : Thread nD τ).loc main_arg0)
abbrev argB (c : Dev nD) : Vec Ideal S2816x1024 .bf16 := m ((c : Thread nD τ).loc main_arg1)

/-- Where the tile of a point lies. -/
abbrev down (t : ℕ) (p : Fin 512) : Fin 4096 := into 8 512 (t / 11) p
abbrev across (t : ℕ) (q : Fin 256) : Fin 2816 := into 11 256 (t / 1) q
abbrev along (k : ℕ) (l : Fin 1024) : Fin 1024 := into 1 1024 k l

theorem index_tile : ∀ t : Fin cfg0.N, win0_0.index t (0 : Fin 2) = t.val / 11 % 8 ∧ win0_0.index t (1 : Fin 2) = t.val % 1
    ∧ win0_1.index t (0 : Fin 2) = t.val / 1 % 11 ∧ win0_1.index t (1 : Fin 2) = t.val % 1
    ∧ win0_2.index t (0 : Fin 2) = t.val / 11 % 8 ∧ win0_2.index t (1 : Fin 2) = t.val / 1 % 11 :=
  (by decide +kernel : ∀ t : Fin grid0.N, _)

theorem block_0 (c : Dev nD) (t : Fin cfg0.N) (p : Fin 512) (l : Fin 1024) :
    (iblk m c 0 t : Vec Ideal S512x1024 .f32) (ix2 p l) = argA m c (ix2 (down t.val p) (along t.val l)) :=
  have hi := index_tile t
  congrArg (argA m c) (at_ix2 (off hi.1) (off hi.2.1))

theorem block_1 (c : Dev nD) (t : Fin cfg0.N) (q : Fin 256) (l : Fin 1024) :
    (iblk m c 1 t : Vec Ideal S256x1024 .bf16) (ix2 q l) = argB m c (ix2 (across t.val q) (along t.val l)) :=
  have hi := index_tile t
  congrArg (argB m c) (at_ix2 (off hi.2.2.1) (off hi.2.2.2.1))

/-! ## The products -/

/-- An entry of the result. -/
def entry (c : Dev nD) (i : Fin 4096) (j : Fin 2816) : EReal :=
  (∑ k : Fin 1024, argA m c (ix2 i k) * argB m c (ix2 j k))

theorem along_one (t : ℕ) (l : Fin 1024) : along t l = l :=
  Fin.ext (by rw [into_val]; omega)

theorem left (c : Dev nD) (t : Fin cfg0.N) (p : Fin 512) (q : Fin 256) :
    (outsAt0 m c t) (ix2 p q) = entry m c (down t.val p) (across t.val q) := by
  unfold outsAt0 entry
  rw [out_A, pay_out]
  simp only [block_0 m c t, block_1 m c t, along_one]

/-- The whole array. -/
abbrev whole (c : Dev nD) : Vec Ideal S4096x2816 .f32 := fun i => entry m c (i 0) (i 1)

theorem written (c : Dev nD) (t : Fin cfg0.N) :
    (dats m 0 c).flushed 2 t = ((cfg0.win 2).blk t).view.read (Elt Ideal) (whole m c) := by
  have hi := index_tile t
  show (cfg0.win 2).cut (grid0.coords t) ((dats m 0 c).after 2 t) = _
  rw [after0_2]
  funext j
  rw [View.read_apply]
  have hj : ((cfg0.win 2).blk t).view.emb j = ix2 (down t.val (j 0)) (across t.val (j 1)) := at_ix2 (off hi.2.2.2.2.1) (off hi.2.2.2.2.2)
  rw [hj]
  refine Eq.trans ?_ (left m c t (j 0) (j 1))
  exact congrArg (outsAt0 m c t) (ix2_eta (n0 := 512) (n1 := 256) j).symm

theorem final (c : Dev nD) : (dats m 0 c).arrAt 2 cfg0.N = whole m c :=
  (dats m 0 c).arrAt_eq_of_cover 2 (whole m c) (fun t _ => written m c t) fun i => by
    have h0 : (i 0).val < 4096 := (i 0).isLt
    have h1 : (i 1).val < 2816 := (i 1).isLt
    have hN : cfg0.N = 88 := N_0
    obtain ⟨t, ht⟩ : ∃ t : Fin cfg0.N, t.val = ((i 0).val / 512 * 11 + (i 1).val / 256) * 1 + 0 := ⟨⟨_, by omega⟩, rfl⟩
    have hi := index_tile t
    refine ⟨t, flush0_2 t, ?_⟩
    show i ∈ ((View.whole main_v0).slice (win0_2.rect t)).set
    rw [View.set_slice_whole, Rect.mem_set_unit]
    exact Fin.forall_fin_two.mpr ⟨within (s := 512) (by omega), within (s := 256) (by omega)⟩

end

/-! ## The reference -/

section
open Cert.GradActReferenceIdeal Cert.GradActReferenceIdeal.Gen

theorem ref_entry (a : FVec Ideal S4096x1024 .f32) (b : FVec Ideal S2816x1024 .bf16) (i : Fin 4096) (j : Fin 2816) :
    (Host.dotGeneral dot_S4096x1024_S1024x2816_S4096x2816_1_0_0_1_n_n none (a) (transpose S1024x2816 [1, 0] (extf .f32 b bitsLt_bf16_f32) transposes_S2816x1024_S1024x2816_1_0) : FVec Ideal S4096x2816 .f32) (ix2 i j)
      = (∑ k, a (ix2 i k) * b (ix2 j k)) := by
  pointwise

end

/-! ## The claims -/

theorem frame_reference : quiescent_GradActReferenceIdeal := fun m g _ =>
  (θ_run _ _ _).mono (fun r h => ⟨fun c => (h c).2, sem_eq_zero_of_no_sems (by decide) r.2⟩)
    (GradActReferenceIdeal.Value.run (F := Ideal) m g)

theorem algebraic : algebraic_GradActIdeal_GradActReferenceIdeal := fun m g m' g' _ hm =>
  ⟨_, (θ_run _ _ _).mono (fun _ h c => ⟨(h c).1.trans (final m c), (h c).2⟩)
      (GradActIdeal.Value.run_blocks m g),
    (θ_run _ _ _).mono (fun r h c => by
      obtain ⟨e0, e1⟩ := hm c
      obtain ⟨r1, r2⟩ := h c
      refine ⟨funext fun i => ?_, r2⟩
      rw [r1, e0, e1]
      exact (congrArg _ (ix2_eta (n0 := 4096) (n1 := 2816) i).symm).trans (ref_entry _ _ (i 0) (i 1)))
      (GradActReferenceIdeal.Value.run (F := Ideal) m' g')⟩

end Cert.GradAct

end
-- ==== Proof.GradDown.lean ====
/-
# The gradient of the down projection

Each tile's product is taken in four steps, added up in the scratch.
-/
module

public import proofs.«01_k».proof.Defs
public import proofs.«01_k».proof.Proof.Products
public import proofs.«01_k».proof.Proof.Gen.GradDownIdeal.Value
public import proofs.«01_k».proof.Proof.Gen.GradDown.Frame
public import proofs.«01_k».proof.Proof.Gen.GradDownReferenceIdeal.Run

@[expose] public section

noncomputable section

open Idealize.ShloMosaic Idealize.ShloMosaic.TcCoe Idealize.SL.Sem Cert.Products

namespace Cert.GradDown

section
open Cert.GradDownIdeal Cert.GradDownIdeal.Gen

variable {F : FTy → Type} [FloatOps F]

/-! ## What a point leaves -/

theorem acc_A {c i a1 h1 a2 h2 a3 h3 a4 h4 hc hd he x0 x1} :
    sout0_A_0 (F := F) c i a1 h1 a2 h2 a3 h3 a4 h4 hc hd he x0 x1 = k0_pay2 x0 x1 := by
  unfold sout0_A_0
  rw [View.read_writes_eq_canon _ _ _ fun _ => scover0_A_0 ..]
  unfold kernelRun0_A
  dsimp only
  sl_unfold_words
  rw [View.canon_unit_zero zeros]
  simp only [View.readAt_eq_ld, h1.read_unread, h2.read_unread, h4.read_unread, ld_zeros, shapeCast_self]

theorem acc_B {c i a1 h1 a2 h2 a3 h3 a4 h4 hc hd he x0 x1 y} :
    sout0_B_0 (F := F) c i a1 h1 a2 h2 a3 h3 a4 h4 hc hd he x0 x1 y = k0_pay3 x0 x1 y := by
  unfold sout0_B_0
  rw [View.read_writes_eq_canon _ _ _ fun _ => scover0_B_0 ..]
  unfold kernelRun0_B
  dsimp only
  sl_unfold_words
  rw [View.canon_unit_zero zeros]
  simp only [View.readAt_eq_ld, h1.read_unread, h2.read_unread, h4.read_unread, ld_zeros, shapeCast_self]

theorem acc_C {c i a1 h1 a2 h2 a3 h3 a4 h4 hc hd he x0 x1 y} :
    sout0_C_0 (F := F) c i a1 h1 a2 h2 a3 h3 a4 h4 hc hd he x0 x1 y = k0_pay3 x0 x1 y := by
  unfold sout0_C_0
  rw [View.read_writes_eq_canon _ _ _ fun _ => scover0_C_0 ..]
  unfold kernelRun0_C
  dsimp only
  sl_unfold_words
  rw [View.canon_unit_zero zeros]
  simp only [View.readAt_eq_ld, h1.read_unread, h2.read_unread, h4.read_unread, ld_zeros, shapeCast_self]

theorem out_C {c i a1 h1 a2 h2 a3 h3 a4 h4 hc hd he x0 x1 y} :
    out0_C_2 (F := F) c i a1 h1 a2 h2 a3 h3 a4 h4 hc hd he x0 x1 y = k0_pay4 (k0_pay3 x0 x1 y) := by
  unfold out0_C_2
  rw [View.read_writes_eq_canon _ _ _ fun _ => cover0_C_2 ..]
  unfold kernelRun0_C
  dsimp only
  sl_unfold_words
  rw [View.canon_unit_zero zeros]
  simp only [View.readAt_eq_ld, h1.read_unread, h2.read_unread, h4.read_unread, ld_zeros, View.readCov_unit_zero (S := S256x512) _ zeros, shapeCast_self]

/-- A tile's product. -/
def tile (x0 : Vec Ideal S1024x256 .bf16) (x1 : Vec Ideal S1024x512 .f32) (p : Fin 256) (q : Fin 512) : EReal := ∑ l, x0 (ix2 l p) * x1 (ix2 l q)

theorem pay_first (x0 : Vec Ideal S1024x256 .bf16) (x1 : Vec Ideal S1024x512 .f32) (p : Fin 256) (q : Fin 512) :
    k0_pay2 (F := Ideal) x0 x1 (ix2 p q) = tile x0 x1 p q := by
  unfold tile
  pointwise [k0_pay1, k0_pay2, k0_pay3, k0_pay4]

theorem pay_next (x0 : Vec Ideal S1024x256 .bf16) (x1 : Vec Ideal S1024x512 .f32) (y : Vec Ideal S256x512 .f32) (p : Fin 256) (q : Fin 512) :
    k0_pay3 (F := Ideal) x0 x1 y (ix2 p q) = y (ix2 p q) + tile x0 x1 p q := by
  unfold tile
  pointwise [k0_pay1, k0_pay2, k0_pay3, k0_pay4]

theorem pay_last (y : Vec Ideal S256x512 .f32) (p : Fin 256) (q : Fin 512) :
    (k0_pay4 (y) : Vec Ideal S256x512 .bf16) (ix2 p q) = y (ix2 p q) := by
  pointwise [k0_pay1, k0_pay2, k0_pay3, k0_pay4]

/-! ## The blocks -/

variable (m : (ℓ : Loc nD τ sig) → Buf (Elt Ideal) ℓ)

/-- The arguments. -/
abbrev argA (c : Dev nD) : Vec Ideal S4096x2816 .bf16 := m ((c : Thread nD τ).loc main_arg0)
abbrev argB (c : Dev nD) : Vec Ideal S4096x1024 .f32 := m ((c : Thread nD τ).loc main_arg1)

/-- Where the tile of a point lies. -/
abbrev down (t : ℕ) (p : Fin 256) : Fin 2816 := into 11 256 (t / 8) p
abbrev across (t : ℕ) (q : Fin 512) : Fin 1024 := into 2 512 (t / 4) q
abbrev along (k : ℕ) (l : Fin 1024) : Fin 4096 := into 4 1024 k l

theorem index_tile : ∀ t : Fin cfg0.N, win0_0.index t (0 : Fin 2) = t.val % 4 ∧ win0_0.index t (1 : Fin 2) = t.val / 8 % 11
    ∧ win0_1.index t (0 : Fin 2) = t.val % 4 ∧ win0_1.index t (1 : Fin 2) = t.val / 4 % 2
    ∧ win0_2.index t (0 : Fin 2) = t.val / 8 % 11 ∧ win0_2.index t (1 : Fin 2) = t.val / 4 % 2 :=
  (by decide +kernel : ∀ t : Fin grid0.N, _)

theorem block_0 (c : Dev nD) (t : Fin cfg0.N) (l : Fin 1024) (p : Fin 256) :
    (iblk m c 0 t : Vec Ideal S1024x256 .bf16) (ix2 l p) = argA m c (ix2 (along t.val l) (down t.val p)) :=
  have hi := index_tile t
  congrArg (argA m c) (at_ix2 (off hi.1) (off hi.2.1))

theorem block_1 (c : Dev nD) (t : Fin cfg0.N) (l : Fin 1024) (q : Fin 512) :
    (iblk m c 1 t : Vec Ideal S1024x512 .f32) (ix2 l q) = argB m c (ix2 (along t.val l) (across t.val q)) :=
  have hi := index_tile t
  congrArg (argB m c) (at_ix2 (off hi.2.2.1) (off hi.2.2.2.1))

/-! ## The products -/

/-- An entry of the result. -/
def entry (c : Dev nD) (i : Fin 2816) (j : Fin 1024) : EReal :=
  (∑ k : Fin 4096, argA m c (ix2 k i) * argB m c (ix2 k j))

/-- Block `k`'s part of the sum. -/
def part (c : Dev nD) (i : Fin 2816) (j : Fin 1024) (k : ℕ) : EReal :=
  ∑ l : Fin 1024, argA m c (ix2 (along k l) (i)) * argB m c (ix2 (along k l) (j))

theorem part_eq (c : Dev nD) (t : Fin cfg0.N) (p : Fin 256) (q : Fin 512) :
    tile (iblk m c 0 t) (iblk m c 1 t) p q = part m c (down t.val p) (across t.val q) (t.val % 4) := by
  unfold tile part
  refine Finset.sum_congr (M := EReal) rfl fun l _ => ?_
  have e : along (t.val % 4) l = along t.val l := into_congr (Nat.mod_mod _ _) l
  rw [e]
  exact congrArg₂ (fun a b : EReal => a * b) (block_0 m c t l p) (block_1 m c t l q)

theorem left (c : Dev nD) (t : Fin cfg0.N) (ht : t.val % 4 = 3) (p : Fin 256) (q : Fin 512) :
    (outsAt0 m c t.val t.isLt).1 (ix2 p q) = entry m c (down t.val p) (across t.val q) := by
  have hN : cfg0.N = 88 := N_0
  have e : (outsAt0 m c t.val t.isLt).2 (ix2 p q) = _ := folded (n := 4) (N := cfg0.N)
    (fun n h => (outsAt0 m c n h).2 (ix2 p q)) (fun n => part m c (down n p) (across n q))
    (fun n h h0 => by
      rw [outsAt0_A m c ⟨n, h⟩ h0 (by dsimp only; omega) (by dsimp only; omega), acc_A]
      dsimp only
      rw [pay_first, part_eq, h0])
    (fun n h h0 => by
      have e : (outsAt0 m c (n + 1) h).2 = k0_pay3 (F := Ideal) (iblk m c 0 ⟨n + 1, h⟩) (iblk m c 1 ⟨n + 1, h⟩) (outsAt0 m c n (Nat.lt_of_succ_lt h)).2 := by
        by_cases h1 : (n + 1) % 4 = 3
        · rw [outsAt0_C m c ⟨n + 1, h⟩ h0 (by dsimp only; omega) h1, acc_C]
          rfl
        · rw [outsAt0_B m c ⟨n + 1, h⟩ h0 (by dsimp only; omega) h1, acc_B]
          rfl
      rw [e, pay_next, part_eq])
    (fun n h0 => by
      have hd : down (n + 1) p = down n p := into_congr (by omega) p
      have hc : across (n + 1) q = across n q := into_congr (by omega) q
      rw [hd, hc]) t.val t.isLt
  rw [outsAt0_C m c t (by omega) (by omega) ht] at e ⊢
  rw [acc_C] at e
  rw [out_C]
  dsimp only at e ⊢
  rw [pay_last]
  unfold entry
  rw [← sum_into 4 1024]
  refine e.trans ?_
  rw [ht]
  rfl

/-- The whole array. -/
abbrev whole (c : Dev nD) : Vec Ideal S2816x1024 .bf16 := fun i => entry m c (i 0) (i 1)

theorem written (c : Dev nD) (t : Fin cfg0.N) (hf : (cfg0.win 2).flush t = true) :
    (dats m 0 c).flushed 2 t = ((cfg0.win 2).blk t).view.read (Elt Ideal) (whole m c) := by
  have hi := index_tile t
  show (cfg0.win 2).cut (grid0.coords t) ((dats m 0 c).after 2 t) = _
  rw [after0_2]
  funext j
  rw [View.read_apply]
  have hj : ((cfg0.win 2).blk t).view.emb j = ix2 (down t.val (j 0)) (across t.val (j 1)) := at_ix2 (off hi.2.2.2.2.1) (off hi.2.2.2.2.2)
  rw [hj]
  refine Eq.trans ?_ (left m c t ((flush0_2 t).mp hf) (j 0) (j 1))
  exact congrArg (outsAt0 m c t.val t.isLt).1 (ix2_eta (n0 := 256) (n1 := 512) j).symm

theorem final (c : Dev nD) : (dats m 0 c).arrAt 2 cfg0.N = whole m c :=
  (dats m 0 c).arrAt_eq_of_cover 2 (whole m c) (written m c) fun i => by
    have h0 : (i 0).val < 2816 := (i 0).isLt
    have h1 : (i 1).val < 1024 := (i 1).isLt
    have hN : cfg0.N = 88 := N_0
    obtain ⟨t, ht⟩ : ∃ t : Fin cfg0.N, t.val = ((i 0).val / 256 * 2 + (i 1).val / 512) * 4 + 3 := ⟨⟨_, by omega⟩, rfl⟩
    have hi := index_tile t
    refine ⟨t, (flush0_2 t).mpr (by omega), ?_⟩
    show i ∈ ((View.whole main_v0).slice (win0_2.rect t)).set
    rw [View.set_slice_whole, Rect.mem_set_unit]
    exact Fin.forall_fin_two.mpr ⟨within (s := 256) (by omega), within (s := 512) (by omega)⟩

end

/-! ## The reference -/

section
open Cert.GradDownReferenceIdeal Cert.GradDownReferenceIdeal.Gen

theorem ref_entry (a : FVec Ideal S4096x2816 .bf16) (b : FVec Ideal S4096x1024 .f32) (i : Fin 2816) (j : Fin 1024) :
    (truncf .bf16 (Host.dotGeneral dot_S2816x4096_S4096x1024_S2816x1024_1_0_0_1_n_n none (transpose S2816x4096 [1, 0] (extf .f32 a bitsLt_bf16_f32) transposes_S4096x2816_S2816x4096_1_0) (b)) bitsLt_bf16_f32 : FVec Ideal S2816x1024 .bf16) (ix2 i j)
      = (∑ k, a (ix2 k i) * b (ix2 k j)) := by
  pointwise

end

/-! ## The claims -/

theorem frame_reference : quiescent_GradDownReferenceIdeal := fun m g _ =>
  (θ_run _ _ _).mono (fun r h => ⟨fun c => (h c).2, sem_eq_zero_of_no_sems (by decide) r.2⟩)
    (GradDownReferenceIdeal.Value.run (F := Ideal) m g)

theorem algebraic : algebraic_GradDownIdeal_GradDownReferenceIdeal := fun m g m' g' _ hm =>
  ⟨_, (θ_run _ _ _).mono (fun _ h c => ⟨(h c).1.trans ((GradDownIdeal.Value.final2 m c).symm.trans (final m c)), (h c).2⟩)
      (GradDownIdeal.Value.run m g),
    (θ_run _ _ _).mono (fun r h c => by
      obtain ⟨e0, e1⟩ := hm c
      obtain ⟨r1, r2⟩ := h c
      refine ⟨funext fun i => ?_, r2⟩
      rw [r1, e0, e1]
      exact (congrArg _ (ix2_eta (n0 := 2816) (n1 := 1024) i).symm).trans (ref_entry _ _ (i 0) (i 1)))
      (GradDownReferenceIdeal.Value.run (F := Ideal) m' g')⟩

end Cert.GradDown

end
-- ==== Proof.GradHalf.lean ====
/-
# The gradient at the feed-forward's input, one half

Each tile's product is taken in eleven steps, added up in the scratch.
-/
module

public import proofs.«01_k».proof.Defs
public import proofs.«01_k».proof.Proof.Products
public import proofs.«01_k».proof.Proof.Gen.GradHalfIdeal.Value
public import proofs.«01_k».proof.Proof.Gen.GradHalf.Frame
public import proofs.«01_k».proof.Proof.Gen.GradHalfReferenceIdeal.Run

@[expose] public section

noncomputable section

open Idealize.ShloMosaic Idealize.ShloMosaic.TcCoe Idealize.SL.Sem Cert.Products

namespace Cert.GradHalf

section
open Cert.GradHalfIdeal Cert.GradHalfIdeal.Gen

variable {F : FTy → Type} [FloatOps F]

/-! ## What a point leaves -/

theorem acc_A {c i a1 h1 a2 h2 a3 h3 a4 h4 hc hd he x0 x1} :
    sout0_A_0 (F := F) c i a1 h1 a2 h2 a3 h3 a4 h4 hc hd he x0 x1 = k0_pay2 x0 x1 := by
  unfold sout0_A_0
  rw [View.read_writes_eq_canon _ _ _ fun _ => scover0_A_0 ..]
  unfold kernelRun0_A
  dsimp only
  sl_unfold_words
  rw [View.canon_unit_zero zeros]
  simp only [View.readAt_eq_ld, h1.read_unread, h2.read_unread, h4.read_unread, ld_zeros, shapeCast_self]

theorem acc_B {c i a1 h1 a2 h2 a3 h3 a4 h4 hc hd he x0 x1 y} :
    sout0_B_0 (F := F) c i a1 h1 a2 h2 a3 h3 a4 h4 hc hd he x0 x1 y = k0_pay3 x0 x1 y := by
  unfold sout0_B_0
  rw [View.read_writes_eq_canon _ _ _ fun _ => scover0_B_0 ..]
  unfold kernelRun0_B
  dsimp only
  sl_unfold_words
  rw [View.canon_unit_zero zeros]
  simp only [View.readAt_eq_ld, h1.read_unread, h2.read_unread, h4.read_unread, ld_zeros, shapeCast_self]

theorem acc_C {c i a1 h1 a2 h2 a3 h3 a4 h4 hc hd he x0 x1 y} :
    sout0_C_0 (F := F) c i a1 h1 a2 h2 a3 h3 a4 h4 hc hd he x0 x1 y = k0_pay3 x0 x1 y := by
  unfold sout0_C_0
  rw [View.read_writes_eq_canon _ _ _ fun _ => scover0_C_0 ..]
  unfold kernelRun0_C
  dsimp only
  sl_unfold_words
  rw [View.canon_unit_zero zeros]
  simp only [View.readAt_eq_ld, h1.read_unread, h2.read_unread, h4.read_unread, ld_zeros, shapeCast_self]

theorem out_C {c i a1 h1 a2 h2 a3 h3 a4 h4 hc hd he x0 x1 y} :
    out0_C_2 (F := F) c i a1 h1 a2 h2 a3 h3 a4 h4 hc hd he x0 x1 y = k0_pay3 x0 x1 y := by
  unfold out0_C_2
  rw [View.read_writes_eq_canon _ _ _ fun _ => cover0_C_2 ..]
  unfold kernelRun0_C
  dsimp only
  sl_unfold_words
  rw [View.canon_unit_zero zeros]
  simp only [View.readAt_eq_ld, h1.read_unread, h2.read_unread, h4.read_unread, ld_zeros, View.readCov_unit_zero (S := S512x512) _ zeros, shapeCast_self]

/-- A tile's product. -/
def tile (x0 : Vec Ideal S512x256 .bf16) (x1 : Vec Ideal S256x512 .bf16) (p : Fin 512) (q : Fin 512) : EReal := ∑ l, x0 (ix2 p l) * x1 (ix2 l q)

theorem pay_first (x0 : Vec Ideal S512x256 .bf16) (x1 : Vec Ideal S256x512 .bf16) (p : Fin 512) (q : Fin 512) :
    k0_pay2 (F := Ideal) x0 x1 (ix2 p q) = tile x0 x1 p q := by
  unfold tile
  pointwise [k0_pay1, k0_pay2, k0_pay3]

theorem pay_next (x0 : Vec Ideal S512x256 .bf16) (x1 : Vec Ideal S256x512 .bf16) (y : Vec Ideal S512x512 .f32) (p : Fin 512) (q : Fin 512) :
    k0_pay3 (F := Ideal) x0 x1 y (ix2 p q) = y (ix2 p q) + tile x0 x1 p q := by
  unfold tile
  pointwise [k0_pay1, k0_pay2, k0_pay3]

/-! ## The blocks -/

variable (m : (ℓ : Loc nD τ sig) → Buf (Elt Ideal) ℓ)

/-- The arguments. -/
abbrev argA (c : Dev nD) : Vec Ideal S4096x2816 .bf16 := m ((c : Thread nD τ).loc main_arg0)
abbrev argB (c : Dev nD) : Vec Ideal S2816x1024 .bf16 := m ((c : Thread nD τ).loc main_arg1)

/-- Where the tile of a point lies. -/
abbrev down (t : ℕ) (p : Fin 512) : Fin 4096 := into 8 512 (t / 22) p
abbrev across (t : ℕ) (q : Fin 512) : Fin 1024 := into 2 512 (t / 11) q
abbrev along (k : ℕ) (l : Fin 256) : Fin 2816 := into 11 256 k l

theorem index_tile : ∀ t : Fin cfg0.N, win0_0.index t (0 : Fin 2) = t.val / 22 % 8 ∧ win0_0.index t (1 : Fin 2) = t.val % 11
    ∧ win0_1.index t (0 : Fin 2) = t.val % 11 ∧ win0_1.index t (1 : Fin 2) = t.val / 11 % 2
    ∧ win0_2.index t (0 : Fin 2) = t.val / 22 % 8 ∧ win0_2.index t (1 : Fin 2) = t.val / 11 % 2 :=
  (by decide +kernel : ∀ t : Fin grid0.N, _)

theorem block_0 (c : Dev nD) (t : Fin cfg0.N) (p : Fin 512) (l : Fin 256) :
    (iblk m c 0 t : Vec Ideal S512x256 .bf16) (ix2 p l) = argA m c (ix2 (down t.val p) (along t.val l)) :=
  have hi := index_tile t
  congrArg (argA m c) (at_ix2 (off hi.1) (off hi.2.1))

theorem block_1 (c : Dev nD) (t : Fin cfg0.N) (l : Fin 256) (q : Fin 512) :
    (iblk m c 1 t : Vec Ideal S256x512 .bf16) (ix2 l q) = argB m c (ix2 (along t.val l) (across t.val q)) :=
  have hi := index_tile t
  congrArg (argB m c) (at_ix2 (off hi.2.2.1) (off hi.2.2.2.1))

/-! ## The products -/

/-- An entry of the result. -/
def entry (c : Dev nD) (i : Fin 4096) (j : Fin 1024) : EReal :=
  (∑ k : Fin 2816, argA m c (ix2 i k) * argB m c (ix2 k j))

/-- Block `k`'s part of the sum. -/
def part (c : Dev nD) (i : Fin 4096) (j : Fin 1024) (k : ℕ) : EReal :=
  ∑ l : Fin 256, argA m c (ix2 (i) (along k l)) * argB m c (ix2 (along k l) (j))

theorem part_eq (c : Dev nD) (t : Fin cfg0.N) (p : Fin 512) (q : Fin 512) :
    tile (iblk m c 0 t) (iblk m c 1 t) p q = part m c (down t.val p) (across t.val q) (t.val % 11) := by
  unfold tile part
  refine Finset.sum_congr (M := EReal) rfl fun l _ => ?_
  have e : along (t.val % 11) l = along t.val l := into_congr (Nat.mod_mod _ _) l
  rw [e]
  exact congrArg₂ (fun a b : EReal => a * b) (block_0 m c t p l) (block_1 m c t l q)

theorem left (c : Dev nD) (t : Fin cfg0.N) (ht : t.val % 11 = 10) (p : Fin 512) (q : Fin 512) :
    (outsAt0 m c t.val t.isLt).1 (ix2 p q) = entry m c (down t.val p) (across t.val q) := by
  have hN : cfg0.N = 176 := N_0
  have e : (outsAt0 m c t.val t.isLt).2 (ix2 p q) = _ := folded (n := 11) (N := cfg0.N)
    (fun n h => (outsAt0 m c n h).2 (ix2 p q)) (fun n => part m c (down n p) (across n q))
    (fun n h h0 => by
      rw [outsAt0_A m c ⟨n, h⟩ h0 (by dsimp only; omega) (by dsimp only; omega), acc_A]
      dsimp only
      rw [pay_first, part_eq, h0])
    (fun n h h0 => by
      have e : (outsAt0 m c (n + 1) h).2 = k0_pay3 (F := Ideal) (iblk m c 0 ⟨n + 1, h⟩) (iblk m c 1 ⟨n + 1, h⟩) (outsAt0 m c n (Nat.lt_of_succ_lt h)).2 := by
        by_cases h1 : (n + 1) % 11 = 10
        · rw [outsAt0_C m c ⟨n + 1, h⟩ h0 (by dsimp only; omega) h1, acc_C]
          rfl
        · rw [outsAt0_B m c ⟨n + 1, h⟩ h0 (by dsimp only; omega) h1, acc_B]
          rfl
      rw [e, pay_next, part_eq])
    (fun n h0 => by
      have hd : down (n + 1) p = down n p := into_congr (by omega) p
      have hc : across (n + 1) q = across n q := into_congr (by omega) q
      rw [hd, hc]) t.val t.isLt
  rw [outsAt0_C m c t (by omega) (by omega) ht] at e ⊢
  rw [acc_C] at e
  rw [out_C]
  dsimp only at e ⊢
  unfold entry
  rw [← sum_into 11 256]
  refine e.trans ?_
  rw [ht]
  rfl

/-- The whole array. -/
abbrev whole (c : Dev nD) : Vec Ideal S4096x1024 .f32 := fun i => entry m c (i 0) (i 1)

theorem written (c : Dev nD) (t : Fin cfg0.N) (hf : (cfg0.win 2).flush t = true) :
    (dats m 0 c).flushed 2 t = ((cfg0.win 2).blk t).view.read (Elt Ideal) (whole m c) := by
  have hi := index_tile t
  show (cfg0.win 2).cut (grid0.coords t) ((dats m 0 c).after 2 t) = _
  rw [after0_2]
  funext j
  rw [View.read_apply]
  have hj : ((cfg0.win 2).blk t).view.emb j = ix2 (down t.val (j 0)) (across t.val (j 1)) := at_ix2 (off hi.2.2.2.2.1) (off hi.2.2.2.2.2)
  rw [hj]
  refine Eq.trans ?_ (left m c t ((flush0_2 t).mp hf) (j 0) (j 1))
  exact congrArg (outsAt0 m c t.val t.isLt).1 (ix2_eta (n0 := 512) (n1 := 512) j).symm

theorem final (c : Dev nD) : (dats m 0 c).arrAt 2 cfg0.N = whole m c :=
  (dats m 0 c).arrAt_eq_of_cover 2 (whole m c) (written m c) fun i => by
    have h0 : (i 0).val < 4096 := (i 0).isLt
    have h1 : (i 1).val < 1024 := (i 1).isLt
    have hN : cfg0.N = 176 := N_0
    obtain ⟨t, ht⟩ : ∃ t : Fin cfg0.N, t.val = ((i 0).val / 512 * 2 + (i 1).val / 512) * 11 + 10 := ⟨⟨_, by omega⟩, rfl⟩
    have hi := index_tile t
    refine ⟨t, (flush0_2 t).mpr (by omega), ?_⟩
    show i ∈ ((View.whole main_v0).slice (win0_2.rect t)).set
    rw [View.set_slice_whole, Rect.mem_set_unit]
    exact Fin.forall_fin_two.mpr ⟨within (s := 512) (by omega), within (s := 512) (by omega)⟩

end

/-! ## The reference -/

section
open Cert.GradHalfReferenceIdeal Cert.GradHalfReferenceIdeal.Gen

theorem ref_entry (a : FVec Ideal S4096x2816 .bf16) (b : FVec Ideal S2816x1024 .bf16) (i : Fin 4096) (j : Fin 1024) :
    (Host.dotGeneral dot_S4096x2816_S2816x1024_S4096x1024_1_0_0_1_n_n none (extf .f32 a bitsLt_bf16_f32) (extf .f32 b bitsLt_bf16_f32) : FVec Ideal S4096x1024 .f32) (ix2 i j)
      = (∑ k, a (ix2 i k) * b (ix2 k j)) := by
  pointwise

end

/-! ## The claims -/

theorem frame_reference : quiescent_GradHalfReferenceIdeal := fun m g _ =>
  (θ_run _ _ _).mono (fun r h => ⟨fun c => (h c).2, sem_eq_zero_of_no_sems (by decide) r.2⟩)
    (GradHalfReferenceIdeal.Value.run (F := Ideal) m g)

theorem algebraic : algebraic_GradHalfIdeal_GradHalfReferenceIdeal := fun m g m' g' _ hm =>
  ⟨_, (θ_run _ _ _).mono (fun _ h c => ⟨(h c).1.trans ((GradHalfIdeal.Value.final2 m c).symm.trans (final m c)), (h c).2⟩)
      (GradHalfIdeal.Value.run m g),
    (θ_run _ _ _).mono (fun r h c => by
      obtain ⟨e0, e1⟩ := hm c
      obtain ⟨r1, r2⟩ := h c
      refine ⟨funext fun i => ?_, r2⟩
      rw [r1, e0, e1]
      exact (congrArg _ (ix2_eta (n0 := 4096) (n1 := 1024) i).symm).trans (ref_entry _ _ (i 0) (i 1)))
      (GradHalfReferenceIdeal.Value.run (F := Ideal) m' g')⟩

end Cert.GradHalf

end
-- ==== Proof.GradFfn.lean ====
/-
# The gradient at the feed-forward's input, both halves

Each tile's product is taken in eleven steps, added up in the scratch.
-/
module

public import proofs.«01_k».proof.Defs
public import proofs.«01_k».proof.Proof.Products
public import proofs.«01_k».proof.Proof.Gen.GradFfnIdeal.Value
public import proofs.«01_k».proof.Proof.Gen.GradFfn.Frame
public import proofs.«01_k».proof.Proof.Gen.GradFfnReferenceIdeal.Run

@[expose] public section

noncomputable section

open Idealize.ShloMosaic Idealize.ShloMosaic.TcCoe Idealize.SL.Sem Cert.Products

namespace Cert.GradFfn

section
open Cert.GradFfnIdeal Cert.GradFfnIdeal.Gen

variable {F : FTy → Type} [FloatOps F]

/-! ## What a point leaves -/

theorem acc_A {c i a1 h1 a2 h2 a3 h3 a4 h4 a5 h5 hc hd he x0 x1 x2} :
    sout0_A_0 (F := F) c i a1 h1 a2 h2 a3 h3 a4 h4 a5 h5 hc hd he x0 x1 x2 = k0_pay2 x0 x1 := by
  unfold sout0_A_0
  rw [View.read_writes_eq_canon _ _ _ fun _ => scover0_A_0 ..]
  unfold kernelRun0_A
  dsimp only
  sl_unfold_words
  rw [View.canon_unit_zero zeros]
  simp only [View.readAt_eq_ld, h1.read_unread, h2.read_unread, h3.read_unread, h5.read_unread, ld_zeros, shapeCast_self]

theorem acc_B {c i a1 h1 a2 h2 a3 h3 a4 h4 a5 h5 hc hd he x0 x1 x2 y} :
    sout0_B_0 (F := F) c i a1 h1 a2 h2 a3 h3 a4 h4 a5 h5 hc hd he x0 x1 x2 y = k0_pay3 x0 x1 y := by
  unfold sout0_B_0
  rw [View.read_writes_eq_canon _ _ _ fun _ => scover0_B_0 ..]
  unfold kernelRun0_B
  dsimp only
  sl_unfold_words
  rw [View.canon_unit_zero zeros]
  simp only [View.readAt_eq_ld, h1.read_unread, h2.read_unread, h3.read_unread, h5.read_unread, ld_zeros, shapeCast_self]

theorem acc_C {c i a1 h1 a2 h2 a3 h3 a4 h4 a5 h5 hc hd he x0 x1 x2 y} :
    sout0_C_0 (F := F) c i a1 h1 a2 h2 a3 h3 a4 h4 a5 h5 hc hd he x0 x1 x2 y = k0_pay3 x0 x1 y := by
  unfold sout0_C_0
  rw [View.read_writes_eq_canon _ _ _ fun _ => scover0_C_0 ..]
  unfold kernelRun0_C
  dsimp only
  sl_unfold_words
  rw [View.canon_unit_zero zeros]
  simp only [View.readAt_eq_ld, h1.read_unread, h2.read_unread, h3.read_unread, h5.read_unread, ld_zeros, shapeCast_self]

theorem out_C {c i a1 h1 a2 h2 a3 h3 a4 h4 a5 h5 hc hd he x0 x1 x2 y} :
    out0_C_3 (F := F) c i a1 h1 a2 h2 a3 h3 a4 h4 a5 h5 hc hd he x0 x1 x2 y = k0_pay4 (k0_pay3 x0 x1 y) x2 := by
  unfold out0_C_3
  rw [View.read_writes_eq_canon _ _ _ fun _ => cover0_C_3 ..]
  unfold kernelRun0_C
  dsimp only
  sl_unfold_words
  rw [View.canon_unit_zero zeros]
  simp only [View.readAt_eq_ld, h1.read_unread, h2.read_unread, h3.read_unread, h5.read_unread, ld_zeros, View.readCov_unit_zero (S := S512x512) _ zeros, shapeCast_self]

/-- A tile's product. -/
def tile (x0 : Vec Ideal S512x256 .bf16) (x1 : Vec Ideal S256x512 .bf16) (p : Fin 512) (q : Fin 512) : EReal := ∑ l, x0 (ix2 p l) * x1 (ix2 l q)

theorem pay_first (x0 : Vec Ideal S512x256 .bf16) (x1 : Vec Ideal S256x512 .bf16) (p : Fin 512) (q : Fin 512) :
    k0_pay2 (F := Ideal) x0 x1 (ix2 p q) = tile x0 x1 p q := by
  unfold tile
  pointwise [k0_pay1, k0_pay2, k0_pay3, k0_pay4]

theorem pay_next (x0 : Vec Ideal S512x256 .bf16) (x1 : Vec Ideal S256x512 .bf16) (y : Vec Ideal S512x512 .f32) (p : Fin 512) (q : Fin 512) :
    k0_pay3 (F := Ideal) x0 x1 y (ix2 p q) = y (ix2 p q) + tile x0 x1 p q := by
  unfold tile
  pointwise [k0_pay1, k0_pay2, k0_pay3, k0_pay4]

theorem pay_last (y : Vec Ideal S512x512 .f32) (x2 : Vec Ideal S512x512 .f32) (p : Fin 512) (q : Fin 512) :
    (k0_pay4 (y) x2 : Vec Ideal S512x512 .f32) (ix2 p q) = y (ix2 p q) + x2 (ix2 p q) := by
  pointwise [k0_pay1, k0_pay2, k0_pay3, k0_pay4]

/-! ## The blocks -/

variable (m : (ℓ : Loc nD τ sig) → Buf (Elt Ideal) ℓ)

/-- The arguments. -/
abbrev argA (c : Dev nD) : Vec Ideal S4096x2816 .bf16 := m ((c : Thread nD τ).loc main_arg0)
abbrev argB (c : Dev nD) : Vec Ideal S2816x1024 .bf16 := m ((c : Thread nD τ).loc main_arg1)
abbrev argR (c : Dev nD) : Vec Ideal S4096x1024 .f32 := m ((c : Thread nD τ).loc main_arg2)

/-- Where the tile of a point lies. -/
abbrev down (t : ℕ) (p : Fin 512) : Fin 4096 := into 8 512 (t / 22) p
abbrev across (t : ℕ) (q : Fin 512) : Fin 1024 := into 2 512 (t / 11) q
abbrev along (k : ℕ) (l : Fin 256) : Fin 2816 := into 11 256 k l

theorem index_tile : ∀ t : Fin cfg0.N, win0_0.index t (0 : Fin 2) = t.val / 22 % 8 ∧ win0_0.index t (1 : Fin 2) = t.val % 11
    ∧ win0_1.index t (0 : Fin 2) = t.val % 11 ∧ win0_1.index t (1 : Fin 2) = t.val / 11 % 2
    ∧ win0_2.index t (0 : Fin 2) = t.val / 22 % 8 ∧ win0_2.index t (1 : Fin 2) = t.val / 11 % 2
    ∧ win0_3.index t (0 : Fin 2) = t.val / 22 % 8 ∧ win0_3.index t (1 : Fin 2) = t.val / 11 % 2 :=
  (by decide +kernel : ∀ t : Fin grid0.N, _)

theorem block_0 (c : Dev nD) (t : Fin cfg0.N) (p : Fin 512) (l : Fin 256) :
    (iblk m c 0 t : Vec Ideal S512x256 .bf16) (ix2 p l) = argA m c (ix2 (down t.val p) (along t.val l)) :=
  have hi := index_tile t
  congrArg (argA m c) (at_ix2 (off hi.1) (off hi.2.1))

theorem block_1 (c : Dev nD) (t : Fin cfg0.N) (l : Fin 256) (q : Fin 512) :
    (iblk m c 1 t : Vec Ideal S256x512 .bf16) (ix2 l q) = argB m c (ix2 (along t.val l) (across t.val q)) :=
  have hi := index_tile t
  congrArg (argB m c) (at_ix2 (off hi.2.2.1) (off hi.2.2.2.1))

theorem block_2 (c : Dev nD) (t : Fin cfg0.N) (p : Fin 512) (q : Fin 512) :
    (iblk m c 2 t : Vec Ideal S512x512 .f32) (ix2 p q) = argR m c (ix2 (down t.val p) (across t.val q)) :=
  have hi := index_tile t
  congrArg (argR m c) (at_ix2 (off hi.2.2.2.2.1) (off hi.2.2.2.2.2.1))

/-! ## The products -/

/-- An entry of the result. -/
def entry (c : Dev nD) (i : Fin 4096) (j : Fin 1024) : EReal :=
  (∑ k : Fin 2816, argA m c (ix2 i k) * argB m c (ix2 k j)) + argR m c (ix2 i j)

/-- Block `k`'s part of the sum. -/
def part (c : Dev nD) (i : Fin 4096) (j : Fin 1024) (k : ℕ) : EReal :=
  ∑ l : Fin 256, argA m c (ix2 (i) (along k l)) * argB m c (ix2 (along k l) (j))

theorem part_eq (c : Dev nD) (t : Fin cfg0.N) (p : Fin 512) (q : Fin 512) :
    tile (iblk m c 0 t) (iblk m c 1 t) p q = part m c (down t.val p) (across t.val q) (t.val % 11) := by
  unfold tile part
  refine Finset.sum_congr (M := EReal) rfl fun l _ => ?_
  have e : along (t.val % 11) l = along t.val l := into_congr (Nat.mod_mod _ _) l
  rw [e]
  exact congrArg₂ (fun a b : EReal => a * b) (block_0 m c t p l) (block_1 m c t l q)

theorem left (c : Dev nD) (t : Fin cfg0.N) (ht : t.val % 11 = 10) (p : Fin 512) (q : Fin 512) :
    (outsAt0 m c t.val t.isLt).1 (ix2 p q) = entry m c (down t.val p) (across t.val q) := by
  have hN : cfg0.N = 176 := N_0
  have e : (outsAt0 m c t.val t.isLt).2 (ix2 p q) = _ := folded (n := 11) (N := cfg0.N)
    (fun n h => (outsAt0 m c n h).2 (ix2 p q)) (fun n => part m c (down n p) (across n q))
    (fun n h h0 => by
      rw [outsAt0_A m c ⟨n, h⟩ h0 (by dsimp only; omega) (by dsimp only; omega), acc_A]
      dsimp only
      rw [pay_first, part_eq, h0])
    (fun n h h0 => by
      have e : (outsAt0 m c (n + 1) h).2 = k0_pay3 (F := Ideal) (iblk m c 0 ⟨n + 1, h⟩) (iblk m c 1 ⟨n + 1, h⟩) (outsAt0 m c n (Nat.lt_of_succ_lt h)).2 := by
        by_cases h1 : (n + 1) % 11 = 10
        · rw [outsAt0_C m c ⟨n + 1, h⟩ h0 (by dsimp only; omega) h1, acc_C]
          rfl
        · rw [outsAt0_B m c ⟨n + 1, h⟩ h0 (by dsimp only; omega) h1, acc_B]
          rfl
      rw [e, pay_next, part_eq])
    (fun n h0 => by
      have hd : down (n + 1) p = down n p := into_congr (by omega) p
      have hc : across (n + 1) q = across n q := into_congr (by omega) q
      rw [hd, hc]) t.val t.isLt
  rw [outsAt0_C m c t (by omega) (by omega) ht] at e ⊢
  rw [acc_C] at e
  rw [out_C]
  dsimp only at e ⊢
  rw [pay_last]
  unfold entry
  rw [← sum_into 11 256]
  refine congrArg₂ (fun a b : EReal => a + b) (e.trans ?_) (block_2 m c t p q)
  rw [ht]
  rfl

/-- The whole array. -/
abbrev whole (c : Dev nD) : Vec Ideal S4096x1024 .f32 := fun i => entry m c (i 0) (i 1)

theorem written (c : Dev nD) (t : Fin cfg0.N) (hf : (cfg0.win 3).flush t = true) :
    (dats m 0 c).flushed 3 t = ((cfg0.win 3).blk t).view.read (Elt Ideal) (whole m c) := by
  have hi := index_tile t
  show (cfg0.win 3).cut (grid0.coords t) ((dats m 0 c).after 3 t) = _
  rw [after0_3]
  funext j
  rw [View.read_apply]
  have hj : ((cfg0.win 3).blk t).view.emb j = ix2 (down t.val (j 0)) (across t.val (j 1)) := at_ix2 (off hi.2.2.2.2.2.2.1) (off hi.2.2.2.2.2.2.2)
  rw [hj]
  refine Eq.trans ?_ (left m c t ((flush0_3 t).mp hf) (j 0) (j 1))
  exact congrArg (outsAt0 m c t.val t.isLt).1 (ix2_eta (n0 := 512) (n1 := 512) j).symm

theorem final (c : Dev nD) : (dats m 0 c).arrAt 3 cfg0.N = whole m c :=
  (dats m 0 c).arrAt_eq_of_cover 3 (whole m c) (written m c) fun i => by
    have h0 : (i 0).val < 4096 := (i 0).isLt
    have h1 : (i 1).val < 1024 := (i 1).isLt
    have hN : cfg0.N = 176 := N_0
    obtain ⟨t, ht⟩ : ∃ t : Fin cfg0.N, t.val = ((i 0).val / 512 * 2 + (i 1).val / 512) * 11 + 10 := ⟨⟨_, by omega⟩, rfl⟩
    have hi := index_tile t
    refine ⟨t, (flush0_3 t).mpr (by omega), ?_⟩
    show i ∈ ((View.whole main_v0).slice (win0_3.rect t)).set
    rw [View.set_slice_whole, Rect.mem_set_unit]
    exact Fin.forall_fin_two.mpr ⟨within (s := 512) (by omega), within (s := 512) (by omega)⟩

end

/-! ## The reference -/

section
open Cert.GradFfnReferenceIdeal Cert.GradFfnReferenceIdeal.Gen

theorem ref_entry (a : FVec Ideal S4096x2816 .bf16) (b : FVec Ideal S2816x1024 .bf16) (r : FVec Ideal S4096x1024 .f32) (i : Fin 4096) (j : Fin 1024) :
    (addf r (Host.dotGeneral dot_S4096x2816_S2816x1024_S4096x1024_1_0_0_1_n_n none (extf .f32 a bitsLt_bf16_f32) (extf .f32 b bitsLt_bf16_f32)) : FVec Ideal S4096x1024 .f32) (ix2 i j)
      = (∑ k, a (ix2 i k) * b (ix2 k j)) + r (ix2 i j) := by
  pointwise
  exact add_comm _ _

end

/-! ## The claims -/

theorem frame_reference : quiescent_GradFfnReferenceIdeal := fun m g _ =>
  (θ_run _ _ _).mono (fun r h => ⟨fun c => (h c).2, sem_eq_zero_of_no_sems (by decide) r.2⟩)
    (GradFfnReferenceIdeal.Value.run (F := Ideal) m g)

theorem algebraic : algebraic_GradFfnIdeal_GradFfnReferenceIdeal := fun m g m' g' _ hm =>
  ⟨_, (θ_run _ _ _).mono (fun _ h c => ⟨(h c).1.trans ((GradFfnIdeal.Value.final3 m c).symm.trans (final m c)), (h c).2⟩)
      (GradFfnIdeal.Value.run m g),
    (θ_run _ _ _).mono (fun r h c => by
      obtain ⟨e0, e1, e2⟩ := hm c
      obtain ⟨r1, r2⟩ := h c
      refine ⟨funext fun i => ?_, r2⟩
      rw [r1, e0, e1, e2]
      exact (congrArg _ (ix2_eta (n0 := 4096) (n1 := 1024) i).symm).trans (ref_entry _ _ _ (i 0) (i 1)))
      (GradFfnReferenceIdeal.Value.run (F := Ideal) m' g')⟩

end Cert.GradFfn

end
-- ==== Proof.GradUp.lean ====
/-
# The gradient of an up projection

Each tile's product is taken in four steps, added up in the scratch.
-/
module

public import proofs.«01_k».proof.Defs
public import proofs.«01_k».proof.Proof.Products
public import proofs.«01_k».proof.Proof.Gen.GradUpIdeal.Value
public import proofs.«01_k».proof.Proof.Gen.GradUp.Frame
public import proofs.«01_k».proof.Proof.Gen.GradUpReferenceIdeal.Run

@[expose] public section

noncomputable section

open Idealize.ShloMosaic Idealize.ShloMosaic.TcCoe Idealize.SL.Sem Cert.Products

namespace Cert.GradUp

section
open Cert.GradUpIdeal Cert.GradUpIdeal.Gen

variable {F : FTy → Type} [FloatOps F]

/-! ## What a point leaves -/

theorem acc_A {c i a1 h1 a2 h2 a3 h3 a4 h4 hc hd he x0 x1} :
    sout0_A_0 (F := F) c i a1 h1 a2 h2 a3 h3 a4 h4 hc hd he x0 x1 = k0_pay2 x0 x1 := by
  unfold sout0_A_0
  rw [View.read_writes_eq_canon _ _ _ fun _ => scover0_A_0 ..]
  unfold kernelRun0_A
  dsimp only
  sl_unfold_words
  rw [View.canon_unit_zero zeros]
  simp only [View.readAt_eq_ld, h1.read_unread, h2.read_unread, h4.read_unread, ld_zeros, shapeCast_self]

theorem acc_B {c i a1 h1 a2 h2 a3 h3 a4 h4 hc hd he x0 x1 y} :
    sout0_B_0 (F := F) c i a1 h1 a2 h2 a3 h3 a4 h4 hc hd he x0 x1 y = k0_pay3 x0 x1 y := by
  unfold sout0_B_0
  rw [View.read_writes_eq_canon _ _ _ fun _ => scover0_B_0 ..]
  unfold kernelRun0_B
  dsimp only
  sl_unfold_words
  rw [View.canon_unit_zero zeros]
  simp only [View.readAt_eq_ld, h1.read_unread, h2.read_unread, h4.read_unread, ld_zeros, shapeCast_self]

theorem acc_C {c i a1 h1 a2 h2 a3 h3 a4 h4 hc hd he x0 x1 y} :
    sout0_C_0 (F := F) c i a1 h1 a2 h2 a3 h3 a4 h4 hc hd he x0 x1 y = k0_pay3 x0 x1 y := by
  unfold sout0_C_0
  rw [View.read_writes_eq_canon _ _ _ fun _ => scover0_C_0 ..]
  unfold kernelRun0_C
  dsimp only
  sl_unfold_words
  rw [View.canon_unit_zero zeros]
  simp only [View.readAt_eq_ld, h1.read_unread, h2.read_unread, h4.read_unread, ld_zeros, shapeCast_self]

theorem out_C {c i a1 h1 a2 h2 a3 h3 a4 h4 hc hd he x0 x1 y} :
    out0_C_2 (F := F) c i a1 h1 a2 h2 a3 h3 a4 h4 hc hd he x0 x1 y = k0_pay4 (k0_pay3 x0 x1 y) := by
  unfold out0_C_2
  rw [View.read_writes_eq_canon _ _ _ fun _ => cover0_C_2 ..]
  unfold kernelRun0_C
  dsimp only
  sl_unfold_words
  rw [View.canon_unit_zero zeros]
  simp only [View.readAt_eq_ld, h1.read_unread, h2.read_unread, h4.read_unread, ld_zeros, View.readCov_unit_zero (S := S256x512) _ zeros, shapeCast_self]

/-- A tile's product. -/
def tile (x0 : Vec Ideal S1024x256 .bf16) (x1 : Vec Ideal S1024x512 .bf16) (p : Fin 256) (q : Fin 512) : EReal := ∑ l, x0 (ix2 l p) * x1 (ix2 l q)

theorem pay_first (x0 : Vec Ideal S1024x256 .bf16) (x1 : Vec Ideal S1024x512 .bf16) (p : Fin 256) (q : Fin 512) :
    k0_pay2 (F := Ideal) x0 x1 (ix2 p q) = tile x0 x1 p q := by
  unfold tile
  pointwise [k0_pay1, k0_pay2, k0_pay3, k0_pay4]

theorem pay_next (x0 : Vec Ideal S1024x256 .bf16) (x1 : Vec Ideal S1024x512 .bf16) (y : Vec Ideal S256x512 .f32) (p : Fin 256) (q : Fin 512) :
    k0_pay3 (F := Ideal) x0 x1 y (ix2 p q) = y (ix2 p q) + tile x0 x1 p q := by
  unfold tile
  pointwise [k0_pay1, k0_pay2, k0_pay3, k0_pay4]

theorem pay_last (y : Vec Ideal S256x512 .f32) (p : Fin 256) (q : Fin 512) :
    (k0_pay4 (y) : Vec Ideal S256x512 .bf16) (ix2 p q) = y (ix2 p q) := by
  pointwise [k0_pay1, k0_pay2, k0_pay3, k0_pay4]

/-! ## The blocks -/

variable (m : (ℓ : Loc nD τ sig) → Buf (Elt Ideal) ℓ)

/-- The arguments. -/
abbrev argA (c : Dev nD) : Vec Ideal S4096x2816 .bf16 := m ((c : Thread nD τ).loc main_arg0)
abbrev argB (c : Dev nD) : Vec Ideal S4096x1024 .bf16 := m ((c : Thread nD τ).loc main_arg1)

/-- Where the tile of a point lies. -/
abbrev down (t : ℕ) (p : Fin 256) : Fin 2816 := into 11 256 (t / 8) p
abbrev across (t : ℕ) (q : Fin 512) : Fin 1024 := into 2 512 (t / 4) q
abbrev along (k : ℕ) (l : Fin 1024) : Fin 4096 := into 4 1024 k l

theorem index_tile : ∀ t : Fin cfg0.N, win0_0.index t (0 : Fin 2) = t.val % 4 ∧ win0_0.index t (1 : Fin 2) = t.val / 8 % 11
    ∧ win0_1.index t (0 : Fin 2) = t.val % 4 ∧ win0_1.index t (1 : Fin 2) = t.val / 4 % 2
    ∧ win0_2.index t (0 : Fin 2) = t.val / 8 % 11 ∧ win0_2.index t (1 : Fin 2) = t.val / 4 % 2 :=
  (by decide +kernel : ∀ t : Fin grid0.N, _)

theorem block_0 (c : Dev nD) (t : Fin cfg0.N) (l : Fin 1024) (p : Fin 256) :
    (iblk m c 0 t : Vec Ideal S1024x256 .bf16) (ix2 l p) = argA m c (ix2 (along t.val l) (down t.val p)) :=
  have hi := index_tile t
  congrArg (argA m c) (at_ix2 (off hi.1) (off hi.2.1))

theorem block_1 (c : Dev nD) (t : Fin cfg0.N) (l : Fin 1024) (q : Fin 512) :
    (iblk m c 1 t : Vec Ideal S1024x512 .bf16) (ix2 l q) = argB m c (ix2 (along t.val l) (across t.val q)) :=
  have hi := index_tile t
  congrArg (argB m c) (at_ix2 (off hi.2.2.1) (off hi.2.2.2.1))

/-! ## The products -/

/-- An entry of the result. -/
def entry (c : Dev nD) (i : Fin 2816) (j : Fin 1024) : EReal :=
  (∑ k : Fin 4096, argA m c (ix2 k i) * argB m c (ix2 k j))

/-- Block `k`'s part of the sum. -/
def part (c : Dev nD) (i : Fin 2816) (j : Fin 1024) (k : ℕ) : EReal :=
  ∑ l : Fin 1024, argA m c (ix2 (along k l) (i)) * argB m c (ix2 (along k l) (j))

theorem part_eq (c : Dev nD) (t : Fin cfg0.N) (p : Fin 256) (q : Fin 512) :
    tile (iblk m c 0 t) (iblk m c 1 t) p q = part m c (down t.val p) (across t.val q) (t.val % 4) := by
  unfold tile part
  refine Finset.sum_congr (M := EReal) rfl fun l _ => ?_
  have e : along (t.val % 4) l = along t.val l := into_congr (Nat.mod_mod _ _) l
  rw [e]
  exact congrArg₂ (fun a b : EReal => a * b) (block_0 m c t l p) (block_1 m c t l q)

theorem left (c : Dev nD) (t : Fin cfg0.N) (ht : t.val % 4 = 3) (p : Fin 256) (q : Fin 512) :
    (outsAt0 m c t.val t.isLt).1 (ix2 p q) = entry m c (down t.val p) (across t.val q) := by
  have hN : cfg0.N = 88 := N_0
  have e : (outsAt0 m c t.val t.isLt).2 (ix2 p q) = _ := folded (n := 4) (N := cfg0.N)
    (fun n h => (outsAt0 m c n h).2 (ix2 p q)) (fun n => part m c (down n p) (across n q))
    (fun n h h0 => by
      rw [outsAt0_A m c ⟨n, h⟩ h0 (by dsimp only; omega) (by dsimp only; omega), acc_A]
      dsimp only
      rw [pay_first, part_eq, h0])
    (fun n h h0 => by
      have e : (outsAt0 m c (n + 1) h).2 = k0_pay3 (F := Ideal) (iblk m c 0 ⟨n + 1, h⟩) (iblk m c 1 ⟨n + 1, h⟩) (outsAt0 m c n (Nat.lt_of_succ_lt h)).2 := by
        by_cases h1 : (n + 1) % 4 = 3
        · rw [outsAt0_C m c ⟨n + 1, h⟩ h0 (by dsimp only; omega) h1, acc_C]
          rfl
        · rw [outsAt0_B m c ⟨n + 1, h⟩ h0 (by dsimp only; omega) h1, acc_B]
          rfl
      rw [e, pay_next, part_eq])
    (fun n h0 => by
      have hd : down (n + 1) p = down n p := into_congr (by omega) p
      have hc : across (n + 1) q = across n q := into_congr (by omega) q
      rw [hd, hc]) t.val t.isLt
  rw [outsAt0_C m c t (by omega) (by omega) ht] at e ⊢
  rw [acc_C] at e
  rw [out_C]
  dsimp only at e ⊢
  rw [pay_last]
  unfold entry
  rw [← sum_into 4 1024]
  refine e.trans ?_
  rw [ht]
  rfl

/-- The whole array. -/
abbrev whole (c : Dev nD) : Vec Ideal S2816x1024 .bf16 := fun i => entry m c (i 0) (i 1)

theorem written (c : Dev nD) (t : Fin cfg0.N) (hf : (cfg0.win 2).flush t = true) :
    (dats m 0 c).flushed 2 t = ((cfg0.win 2).blk t).view.read (Elt Ideal) (whole m c) := by
  have hi := index_tile t
  show (cfg0.win 2).cut (grid0.coords t) ((dats m 0 c).after 2 t) = _
  rw [after0_2]
  funext j
  rw [View.read_apply]
  have hj : ((cfg0.win 2).blk t).view.emb j = ix2 (down t.val (j 0)) (across t.val (j 1)) := at_ix2 (off hi.2.2.2.2.1) (off hi.2.2.2.2.2)
  rw [hj]
  refine Eq.trans ?_ (left m c t ((flush0_2 t).mp hf) (j 0) (j 1))
  exact congrArg (outsAt0 m c t.val t.isLt).1 (ix2_eta (n0 := 256) (n1 := 512) j).symm

theorem final (c : Dev nD) : (dats m 0 c).arrAt 2 cfg0.N = whole m c :=
  (dats m 0 c).arrAt_eq_of_cover 2 (whole m c) (written m c) fun i => by
    have h0 : (i 0).val < 2816 := (i 0).isLt
    have h1 : (i 1).val < 1024 := (i 1).isLt
    have hN : cfg0.N = 88 := N_0
    obtain ⟨t, ht⟩ : ∃ t : Fin cfg0.N, t.val = ((i 0).val / 256 * 2 + (i 1).val / 512) * 4 + 3 := ⟨⟨_, by omega⟩, rfl⟩
    have hi := index_tile t
    refine ⟨t, (flush0_2 t).mpr (by omega), ?_⟩
    show i ∈ ((View.whole main_v0).slice (win0_2.rect t)).set
    rw [View.set_slice_whole, Rect.mem_set_unit]
    exact Fin.forall_fin_two.mpr ⟨within (s := 256) (by omega), within (s := 512) (by omega)⟩

end

/-! ## The reference -/

section
open Cert.GradUpReferenceIdeal Cert.GradUpReferenceIdeal.Gen

theorem ref_entry (a : FVec Ideal S4096x2816 .bf16) (b : FVec Ideal S4096x1024 .bf16) (i : Fin 2816) (j : Fin 1024) :
    (truncf .bf16 (Host.dotGeneral dot_S2816x4096_S4096x1024_S2816x1024_1_0_0_1_n_n none (transpose S2816x4096 [1, 0] (extf .f32 a bitsLt_bf16_f32) transposes_S4096x2816_S2816x4096_1_0) (extf .f32 b bitsLt_bf16_f32)) bitsLt_bf16_f32 : FVec Ideal S2816x1024 .bf16) (ix2 i j)
      = (∑ k, a (ix2 k i) * b (ix2 k j)) := by
  pointwise

end

/-! ## The claims -/

theorem frame_reference : quiescent_GradUpReferenceIdeal := fun m g _ =>
  (θ_run _ _ _).mono (fun r h => ⟨fun c => (h c).2, sem_eq_zero_of_no_sems (by decide) r.2⟩)
    (GradUpReferenceIdeal.Value.run (F := Ideal) m g)

theorem algebraic : algebraic_GradUpIdeal_GradUpReferenceIdeal := fun m g m' g' _ hm =>
  ⟨_, (θ_run _ _ _).mono (fun _ h c => ⟨(h c).1.trans ((GradUpIdeal.Value.final2 m c).symm.trans (final m c)), (h c).2⟩)
      (GradUpIdeal.Value.run m g),
    (θ_run _ _ _).mono (fun r h c => by
      obtain ⟨e0, e1⟩ := hm c
      obtain ⟨r1, r2⟩ := h c
      refine ⟨funext fun i => ?_, r2⟩
      rw [r1, e0, e1]
      exact (congrArg _ (ix2_eta (n0 := 2816) (n1 := 1024) i).symm).trans (ref_entry _ _ (i 0) (i 1)))
      (GradUpReferenceIdeal.Value.run (F := Ideal) m' g')⟩

end Cert.GradUp

end
-- ==== Proof.GradOc.lean ====
/-
# The gradient at the cross-attention's result

Each tile of the result is one product.
-/
module

public import proofs.«01_k».proof.Defs
public import proofs.«01_k».proof.Proof.Products
public import proofs.«01_k».proof.Proof.Gen.GradOcIdeal.Value
public import proofs.«01_k».proof.Proof.Gen.GradOc.Frame
public import proofs.«01_k».proof.Proof.Gen.GradOcReferenceIdeal.Run

@[expose] public section

noncomputable section

open Idealize.ShloMosaic Idealize.ShloMosaic.TcCoe Idealize.SL.Sem Cert.Products

namespace Cert.GradOc

section
open Cert.GradOcIdeal Cert.GradOcIdeal.Gen

variable {F : FTy → Type} [FloatOps F]

/-! ## What a point leaves -/

theorem out_A {c i a1 h1 a2 h2 a3 h3 a4 h4 hc hd he x0 x1} :
    out0_A_2 (F := F) c i a1 h1 a2 h2 a3 h3 a4 h4 hc hd he x0 x1 = k0_pay2 x0 x1 := by
  unfold out0_A_2
  rw [View.read_writes_eq_canon _ _ _ fun _ => cover0_A_2 ..]
  unfold kernelRun0_A
  dsimp only
  sl_unfold_words
  rw [View.canon_unit_zero zeros]
  simp only [View.readAt_eq_ld, h1.read_unread, h2.read_unread, h4.read_unread, ld_zeros, View.readCov_unit_zero (S := S512x256) _ zeros, shapeCast_self]

theorem pay_out (x0 : Vec Ideal S512x1024 .f32) (x1 : Vec Ideal S1024x256 .bf16) (p : Fin 512) (q : Fin 256) :
    (k0_pay2 x0 x1 : Vec Ideal S512x256 .f32) (ix2 p q) = (∑ l, x0 (ix2 p l) * x1 (ix2 l q)) := by
  pointwise [k0_pay1, k0_pay2, k0_pay3]

/-! ## The blocks -/

variable (m : (ℓ : Loc nD τ sig) → Buf (Elt Ideal) ℓ)

/-- The arguments. -/
abbrev argA (c : Dev nD) : Vec Ideal S4096x1024 .f32 := m ((c : Thread nD τ).loc main_arg0)
abbrev argB (c : Dev nD) : Vec Ideal S1024x256 .bf16 := m ((c : Thread nD τ).loc main_arg1)

/-- Where the tile of a point lies. -/
abbrev down (t : ℕ) (p : Fin 512) : Fin 4096 := into 8 512 (t / 1) p
abbrev across (t : ℕ) (q : Fin 256) : Fin 256 := into 1 256 (t / 1) q
abbrev along (k : ℕ) (l : Fin 1024) : Fin 1024 := into 1 1024 k l

theorem index_tile : ∀ t : Fin cfg0.N, win0_0.index t (0 : Fin 2) = t.val / 1 % 8 ∧ win0_0.index t (1 : Fin 2) = t.val % 1
    ∧ win0_1.index t (0 : Fin 2) = t.val % 1 ∧ win0_1.index t (1 : Fin 2) = t.val / 1 % 1
    ∧ win0_2.index t (0 : Fin 2) = t.val / 1 % 8 ∧ win0_2.index t (1 : Fin 2) = t.val / 1 % 1 :=
  (by decide +kernel : ∀ t : Fin grid0.N, _)

theorem block_0 (c : Dev nD) (t : Fin cfg0.N) (p : Fin 512) (l : Fin 1024) :
    (iblk m c 0 t : Vec Ideal S512x1024 .f32) (ix2 p l) = argA m c (ix2 (down t.val p) (along t.val l)) :=
  have hi := index_tile t
  congrArg (argA m c) (at_ix2 (off hi.1) (off hi.2.1))

theorem block_1 (c : Dev nD) (t : Fin cfg0.N) (l : Fin 1024) (q : Fin 256) :
    (iblk m c 1 t : Vec Ideal S1024x256 .bf16) (ix2 l q) = argB m c (ix2 (along t.val l) (across t.val q)) :=
  have hi := index_tile t
  congrArg (argB m c) (at_ix2 (off hi.2.2.1) (off hi.2.2.2.1))

/-! ## The products -/

/-- An entry of the result. -/
def entry (c : Dev nD) (i : Fin 4096) (j : Fin 256) : EReal :=
  (∑ k : Fin 1024, argA m c (ix2 i k) * argB m c (ix2 k j))

theorem along_one (t : ℕ) (l : Fin 1024) : along t l = l :=
  Fin.ext (by rw [into_val]; omega)

theorem left (c : Dev nD) (t : Fin cfg0.N) (p : Fin 512) (q : Fin 256) :
    (outsAt0 m c t) (ix2 p q) = entry m c (down t.val p) (across t.val q) := by
  unfold outsAt0 entry
  rw [out_A, pay_out]
  simp only [block_0 m c t, block_1 m c t, along_one]

/-- The whole array. -/
abbrev whole (c : Dev nD) : Vec Ideal S4096x256 .f32 := fun i => entry m c (i 0) (i 1)

theorem written (c : Dev nD) (t : Fin cfg0.N) :
    (dats m 0 c).flushed 2 t = ((cfg0.win 2).blk t).view.read (Elt Ideal) (whole m c) := by
  have hi := index_tile t
  show (cfg0.win 2).cut (grid0.coords t) ((dats m 0 c).after 2 t) = _
  rw [after0_2]
  funext j
  rw [View.read_apply]
  have hj : ((cfg0.win 2).blk t).view.emb j = ix2 (down t.val (j 0)) (across t.val (j 1)) := at_ix2 (off hi.2.2.2.2.1) (off hi.2.2.2.2.2)
  rw [hj]
  refine Eq.trans ?_ (left m c t (j 0) (j 1))
  exact congrArg (outsAt0 m c t) (ix2_eta (n0 := 512) (n1 := 256) j).symm

theorem final (c : Dev nD) : (dats m 0 c).arrAt 2 cfg0.N = whole m c :=
  (dats m 0 c).arrAt_eq_of_cover 2 (whole m c) (fun t _ => written m c t) fun i => by
    have h0 : (i 0).val < 4096 := (i 0).isLt
    have h1 : (i 1).val < 256 := (i 1).isLt
    have hN : cfg0.N = 8 := N_0
    obtain ⟨t, ht⟩ : ∃ t : Fin cfg0.N, t.val = ((i 0).val / 512 * 1 + (i 1).val / 256) * 1 + 0 := ⟨⟨_, by omega⟩, rfl⟩
    have hi := index_tile t
    refine ⟨t, flush0_2 t, ?_⟩
    show i ∈ ((View.whole main_v0).slice (win0_2.rect t)).set
    rw [View.set_slice_whole, Rect.mem_set_unit]
    exact Fin.forall_fin_two.mpr ⟨within (s := 512) (by omega), within (s := 256) (by omega)⟩

end

/-! ## The reference -/

section
open Cert.GradOcReferenceIdeal Cert.GradOcReferenceIdeal.Gen

theorem ref_entry (a : FVec Ideal S4096x1024 .f32) (b : FVec Ideal S1024x256 .bf16) (i : Fin 4096) (j : Fin 256) :
    (Host.dotGeneral dot_S4096x1024_S1024x256_S4096x256_1_0_0_1_n_n none (a) (extf .f32 b bitsLt_bf16_f32) : FVec Ideal S4096x256 .f32) (ix2 i j)
      = (∑ k, a (ix2 i k) * b (ix2 k j)) := by
  pointwise

end

/-! ## The claims -/

theorem frame_reference : quiescent_GradOcReferenceIdeal := fun m g _ =>
  (θ_run _ _ _).mono (fun r h => ⟨fun c => (h c).2, sem_eq_zero_of_no_sems (by decide) r.2⟩)
    (GradOcReferenceIdeal.Value.run (F := Ideal) m g)

theorem algebraic : algebraic_GradOcIdeal_GradOcReferenceIdeal := fun m g m' g' _ hm =>
  ⟨_, (θ_run _ _ _).mono (fun _ h c => ⟨(h c).1.trans (final m c), (h c).2⟩)
      (GradOcIdeal.Value.run_blocks m g),
    (θ_run _ _ _).mono (fun r h c => by
      obtain ⟨e0, e1⟩ := hm c
      obtain ⟨r1, r2⟩ := h c
      refine ⟨funext fun i => ?_, r2⟩
      rw [r1, e0, e1]
      exact (congrArg _ (ix2_eta (n0 := 4096) (n1 := 256) i).symm).trans (ref_entry _ _ (i 0) (i 1)))
      (GradOcReferenceIdeal.Value.run (F := Ideal) m' g')⟩

end Cert.GradOc

end
-- ==== Proof.GradCo.lean ====
/-
# The gradient of the cross-attention's output projection

Each tile's product is taken in four steps, added up in the scratch.
-/
module

public import proofs.«01_k».proof.Defs
public import proofs.«01_k».proof.Proof.Products
public import proofs.«01_k».proof.Proof.Gen.GradCoIdeal.Value
public import proofs.«01_k».proof.Proof.Gen.GradCo.Frame
public import proofs.«01_k».proof.Proof.Gen.GradCoReferenceIdeal.Run

@[expose] public section

noncomputable section

open Idealize.ShloMosaic Idealize.ShloMosaic.TcCoe Idealize.SL.Sem Cert.Products

namespace Cert.GradCo

section
open Cert.GradCoIdeal Cert.GradCoIdeal.Gen

variable {F : FTy → Type} [FloatOps F]

/-! ## What a point leaves -/

theorem acc_A {c i a1 h1 a2 h2 a3 h3 a4 h4 hc hd he x0 x1} :
    sout0_A_0 (F := F) c i a1 h1 a2 h2 a3 h3 a4 h4 hc hd he x0 x1 = k0_pay2 x0 x1 := by
  unfold sout0_A_0
  rw [View.read_writes_eq_canon _ _ _ fun _ => scover0_A_0 ..]
  unfold kernelRun0_A
  dsimp only
  sl_unfold_words
  rw [View.canon_unit_zero zeros]
  simp only [View.readAt_eq_ld, h1.read_unread, h2.read_unread, h4.read_unread, ld_zeros, shapeCast_self]

theorem acc_B {c i a1 h1 a2 h2 a3 h3 a4 h4 hc hd he x0 x1 y} :
    sout0_B_0 (F := F) c i a1 h1 a2 h2 a3 h3 a4 h4 hc hd he x0 x1 y = k0_pay3 x0 x1 y := by
  unfold sout0_B_0
  rw [View.read_writes_eq_canon _ _ _ fun _ => scover0_B_0 ..]
  unfold kernelRun0_B
  dsimp only
  sl_unfold_words
  rw [View.canon_unit_zero zeros]
  simp only [View.readAt_eq_ld, h1.read_unread, h2.read_unread, h4.read_unread, ld_zeros, shapeCast_self]

theorem acc_C {c i a1 h1 a2 h2 a3 h3 a4 h4 hc hd he x0 x1 y} :
    sout0_C_0 (F := F) c i a1 h1 a2 h2 a3 h3 a4 h4 hc hd he x0 x1 y = k0_pay3 x0 x1 y := by
  unfold sout0_C_0
  rw [View.read_writes_eq_canon _ _ _ fun _ => scover0_C_0 ..]
  unfold kernelRun0_C
  dsimp only
  sl_unfold_words
  rw [View.canon_unit_zero zeros]
  simp only [View.readAt_eq_ld, h1.read_unread, h2.read_unread, h4.read_unread, ld_zeros, shapeCast_self]

theorem out_C {c i a1 h1 a2 h2 a3 h3 a4 h4 hc hd he x0 x1 y} :
    out0_C_2 (F := F) c i a1 h1 a2 h2 a3 h3 a4 h4 hc hd he x0 x1 y = k0_pay4 (k0_pay3 x0 x1 y) := by
  unfold out0_C_2
  rw [View.read_writes_eq_canon _ _ _ fun _ => cover0_C_2 ..]
  unfold kernelRun0_C
  dsimp only
  sl_unfold_words
  rw [View.canon_unit_zero zeros]
  simp only [View.readAt_eq_ld, h1.read_unread, h2.read_unread, h4.read_unread, ld_zeros, View.readCov_unit_zero (S := S512x256) _ zeros, shapeCast_self]

/-- A tile's product. -/
def tile (x0 : Vec Ideal S1024x512 .f32) (x1 : Vec Ideal S1024x256 .bf16) (p : Fin 512) (q : Fin 256) : EReal := ∑ l, x0 (ix2 l p) * x1 (ix2 l q)

theorem pay_first (x0 : Vec Ideal S1024x512 .f32) (x1 : Vec Ideal S1024x256 .bf16) (p : Fin 512) (q : Fin 256) :
    k0_pay2 (F := Ideal) x0 x1 (ix2 p q) = tile x0 x1 p q := by
  unfold tile
  pointwise [k0_pay1, k0_pay2, k0_pay3, k0_pay4]

theorem pay_next (x0 : Vec Ideal S1024x512 .f32) (x1 : Vec Ideal S1024x256 .bf16) (y : Vec Ideal S512x256 .f32) (p : Fin 512) (q : Fin 256) :
    k0_pay3 (F := Ideal) x0 x1 y (ix2 p q) = y (ix2 p q) + tile x0 x1 p q := by
  unfold tile
  pointwise [k0_pay1, k0_pay2, k0_pay3, k0_pay4]

theorem pay_last (y : Vec Ideal S512x256 .f32) (p : Fin 512) (q : Fin 256) :
    (k0_pay4 (y) : Vec Ideal S512x256 .bf16) (ix2 p q) = y (ix2 p q) := by
  pointwise [k0_pay1, k0_pay2, k0_pay3, k0_pay4]

/-! ## The blocks -/

variable (m : (ℓ : Loc nD τ sig) → Buf (Elt Ideal) ℓ)

/-- The arguments. -/
abbrev argA (c : Dev nD) : Vec Ideal S4096x1024 .f32 := m ((c : Thread nD τ).loc main_arg0)
abbrev argB (c : Dev nD) : Vec Ideal S4096x256 .bf16 := m ((c : Thread nD τ).loc main_arg1)

/-- Where the tile of a point lies. -/
abbrev down (t : ℕ) (p : Fin 512) : Fin 1024 := into 2 512 (t / 4) p
abbrev across (t : ℕ) (q : Fin 256) : Fin 256 := into 1 256 (t / 4) q
abbrev along (k : ℕ) (l : Fin 1024) : Fin 4096 := into 4 1024 k l

theorem index_tile : ∀ t : Fin cfg0.N, win0_0.index t (0 : Fin 2) = t.val % 4 ∧ win0_0.index t (1 : Fin 2) = t.val / 4 % 2
    ∧ win0_1.index t (0 : Fin 2) = t.val % 4 ∧ win0_1.index t (1 : Fin 2) = t.val / 4 % 1
    ∧ win0_2.index t (0 : Fin 2) = t.val / 4 % 2 ∧ win0_2.index t (1 : Fin 2) = t.val / 4 % 1 :=
  (by decide +kernel : ∀ t : Fin grid0.N, _)

theorem block_0 (c : Dev nD) (t : Fin cfg0.N) (l : Fin 1024) (p : Fin 512) :
    (iblk m c 0 t : Vec Ideal S1024x512 .f32) (ix2 l p) = argA m c (ix2 (along t.val l) (down t.val p)) :=
  have hi := index_tile t
  congrArg (argA m c) (at_ix2 (off hi.1) (off hi.2.1))

theorem block_1 (c : Dev nD) (t : Fin cfg0.N) (l : Fin 1024) (q : Fin 256) :
    (iblk m c 1 t : Vec Ideal S1024x256 .bf16) (ix2 l q) = argB m c (ix2 (along t.val l) (across t.val q)) :=
  have hi := index_tile t
  congrArg (argB m c) (at_ix2 (off hi.2.2.1) (off hi.2.2.2.1))

/-! ## The products -/

/-- An entry of the result. -/
def entry (c : Dev nD) (i : Fin 1024) (j : Fin 256) : EReal :=
  (∑ k : Fin 4096, argA m c (ix2 k i) * argB m c (ix2 k j))

/-- Block `k`'s part of the sum. -/
def part (c : Dev nD) (i : Fin 1024) (j : Fin 256) (k : ℕ) : EReal :=
  ∑ l : Fin 1024, argA m c (ix2 (along k l) (i)) * argB m c (ix2 (along k l) (j))

theorem part_eq (c : Dev nD) (t : Fin cfg0.N) (p : Fin 512) (q : Fin 256) :
    tile (iblk m c 0 t) (iblk m c 1 t) p q = part m c (down t.val p) (across t.val q) (t.val % 4) := by
  unfold tile part
  refine Finset.sum_congr (M := EReal) rfl fun l _ => ?_
  have e : along (t.val % 4) l = along t.val l := into_congr (Nat.mod_mod _ _) l
  rw [e]
  exact congrArg₂ (fun a b : EReal => a * b) (block_0 m c t l p) (block_1 m c t l q)

theorem left (c : Dev nD) (t : Fin cfg0.N) (ht : t.val % 4 = 3) (p : Fin 512) (q : Fin 256) :
    (outsAt0 m c t.val t.isLt).1 (ix2 p q) = entry m c (down t.val p) (across t.val q) := by
  have hN : cfg0.N = 8 := N_0
  have e : (outsAt0 m c t.val t.isLt).2 (ix2 p q) = _ := folded (n := 4) (N := cfg0.N)
    (fun n h => (outsAt0 m c n h).2 (ix2 p q)) (fun n => part m c (down n p) (across n q))
    (fun n h h0 => by
      rw [outsAt0_A m c ⟨n, h⟩ h0 (by dsimp only; omega) (by dsimp only; omega), acc_A]
      dsimp only
      rw [pay_first, part_eq, h0])
    (fun n h h0 => by
      have e : (outsAt0 m c (n + 1) h).2 = k0_pay3 (F := Ideal) (iblk m c 0 ⟨n + 1, h⟩) (iblk m c 1 ⟨n + 1, h⟩) (outsAt0 m c n (Nat.lt_of_succ_lt h)).2 := by
        by_cases h1 : (n + 1) % 4 = 3
        · rw [outsAt0_C m c ⟨n + 1, h⟩ h0 (by dsimp only; omega) h1, acc_C]
          rfl
        · rw [outsAt0_B m c ⟨n + 1, h⟩ h0 (by dsimp only; omega) h1, acc_B]
          rfl
      rw [e, pay_next, part_eq])
    (fun n h0 => by
      have hd : down (n + 1) p = down n p := into_congr (by omega) p
      have hc : across (n + 1) q = across n q := into_congr (by omega) q
      rw [hd, hc]) t.val t.isLt
  rw [outsAt0_C m c t (by omega) (by omega) ht] at e ⊢
  rw [acc_C] at e
  rw [out_C]
  dsimp only at e ⊢
  rw [pay_last]
  unfold entry
  rw [← sum_into 4 1024]
  refine e.trans ?_
  rw [ht]
  rfl

/-- The whole array. -/
abbrev whole (c : Dev nD) : Vec Ideal S1024x256 .bf16 := fun i => entry m c (i 0) (i 1)

theorem written (c : Dev nD) (t : Fin cfg0.N) (hf : (cfg0.win 2).flush t = true) :
    (dats m 0 c).flushed 2 t = ((cfg0.win 2).blk t).view.read (Elt Ideal) (whole m c) := by
  have hi := index_tile t
  show (cfg0.win 2).cut (grid0.coords t) ((dats m 0 c).after 2 t) = _
  rw [after0_2]
  funext j
  rw [View.read_apply]
  have hj : ((cfg0.win 2).blk t).view.emb j = ix2 (down t.val (j 0)) (across t.val (j 1)) := at_ix2 (off hi.2.2.2.2.1) (off hi.2.2.2.2.2)
  rw [hj]
  refine Eq.trans ?_ (left m c t ((flush0_2 t).mp hf) (j 0) (j 1))
  exact congrArg (outsAt0 m c t.val t.isLt).1 (ix2_eta (n0 := 512) (n1 := 256) j).symm

theorem final (c : Dev nD) : (dats m 0 c).arrAt 2 cfg0.N = whole m c :=
  (dats m 0 c).arrAt_eq_of_cover 2 (whole m c) (written m c) fun i => by
    have h0 : (i 0).val < 1024 := (i 0).isLt
    have h1 : (i 1).val < 256 := (i 1).isLt
    have hN : cfg0.N = 8 := N_0
    obtain ⟨t, ht⟩ : ∃ t : Fin cfg0.N, t.val = ((i 0).val / 512 * 1 + (i 1).val / 256) * 4 + 3 := ⟨⟨_, by omega⟩, rfl⟩
    have hi := index_tile t
    refine ⟨t, (flush0_2 t).mpr (by omega), ?_⟩
    show i ∈ ((View.whole main_v0).slice (win0_2.rect t)).set
    rw [View.set_slice_whole, Rect.mem_set_unit]
    exact Fin.forall_fin_two.mpr ⟨within (s := 512) (by omega), within (s := 256) (by omega)⟩

end

/-! ## The reference -/

section
open Cert.GradCoReferenceIdeal Cert.GradCoReferenceIdeal.Gen

theorem ref_entry (a : FVec Ideal S4096x1024 .f32) (b : FVec Ideal S4096x256 .bf16) (i : Fin 1024) (j : Fin 256) :
    (truncf .bf16 (Host.dotGeneral dot_S1024x4096_S4096x256_S1024x256_1_0_0_1_n_n none (transpose S1024x4096 [1, 0] (a) transposes_S4096x1024_S1024x4096_1_0) (extf .f32 b bitsLt_bf16_f32)) bitsLt_bf16_f32 : FVec Ideal S1024x256 .bf16) (ix2 i j)
      = (∑ k, a (ix2 k i) * b (ix2 k j)) := by
  pointwise

end

/-! ## The claims -/

theorem frame_reference : quiescent_GradCoReferenceIdeal := fun m g _ =>
  (θ_run _ _ _).mono (fun r h => ⟨fun c => (h c).2, sem_eq_zero_of_no_sems (by decide) r.2⟩)
    (GradCoReferenceIdeal.Value.run (F := Ideal) m g)

theorem algebraic : algebraic_GradCoIdeal_GradCoReferenceIdeal := fun m g m' g' _ hm =>
  ⟨_, (θ_run _ _ _).mono (fun _ h c => ⟨(h c).1.trans ((GradCoIdeal.Value.final2 m c).symm.trans (final m c)), (h c).2⟩)
      (GradCoIdeal.Value.run m g),
    (θ_run _ _ _).mono (fun r h c => by
      obtain ⟨e0, e1⟩ := hm c
      obtain ⟨r1, r2⟩ := h c
      refine ⟨funext fun i => ?_, r2⟩
      rw [r1, e0, e1]
      exact (congrArg _ (ix2_eta (n0 := 1024) (n1 := 256) i).symm).trans (ref_entry _ _ (i 0) (i 1)))
      (GradCoReferenceIdeal.Value.run (F := Ideal) m' g')⟩

end Cert.GradCo

end
-- ==== Proof.GradHq.lean ====
/-
# The gradient at the cross-attention's input

Each tile of the result is one product.
-/
module

public import proofs.«01_k».proof.Defs
public import proofs.«01_k».proof.Proof.Products
public import proofs.«01_k».proof.Proof.Gen.GradHqIdeal.Value
public import proofs.«01_k».proof.Proof.Gen.GradHq.Frame
public import proofs.«01_k».proof.Proof.Gen.GradHqReferenceIdeal.Run

@[expose] public section

noncomputable section

open Idealize.ShloMosaic Idealize.ShloMosaic.TcCoe Idealize.SL.Sem Cert.Products

namespace Cert.GradHq

section
open Cert.GradHqIdeal Cert.GradHqIdeal.Gen

variable {F : FTy → Type} [FloatOps F]

/-! ## What a point leaves -/

theorem out_A {c i a1 h1 a2 h2 a3 h3 a4 h4 hc hd he x0 x1} :
    out0_A_2 (F := F) c i a1 h1 a2 h2 a3 h3 a4 h4 hc hd he x0 x1 = k0_pay2 x0 x1 := by
  unfold out0_A_2
  rw [View.read_writes_eq_canon _ _ _ fun _ => cover0_A_2 ..]
  unfold kernelRun0_A
  dsimp only
  sl_unfold_words
  rw [View.canon_unit_zero zeros]
  simp only [View.readAt_eq_ld, h1.read_unread, h2.read_unread, h4.read_unread, ld_zeros, View.readCov_unit_zero (S := S512x512) _ zeros, shapeCast_self]

theorem pay_out (x0 : Vec Ideal S512x256 .bf16) (x1 : Vec Ideal S512x256 .bf16) (p : Fin 512) (q : Fin 512) :
    (k0_pay2 x0 x1 : Vec Ideal S512x512 .f32) (ix2 p q) = (∑ l, x0 (ix2 p l) * x1 (ix2 q l)) := by
  pointwise [k0_pay1, k0_pay2, k0_pay3]

/-! ## The blocks -/

variable (m : (ℓ : Loc nD τ sig) → Buf (Elt Ideal) ℓ)

/-- The arguments. -/
abbrev argA (c : Dev nD) : Vec Ideal S4096x256 .bf16 := m ((c : Thread nD τ).loc main_arg0)
abbrev argB (c : Dev nD) : Vec Ideal S1024x256 .bf16 := m ((c : Thread nD τ).loc main_arg1)

/-- Where the tile of a point lies. -/
abbrev down (t : ℕ) (p : Fin 512) : Fin 4096 := into 8 512 (t / 2) p
abbrev across (t : ℕ) (q : Fin 512) : Fin 1024 := into 2 512 (t / 1) q
abbrev along (k : ℕ) (l : Fin 256) : Fin 256 := into 1 256 k l

theorem index_tile : ∀ t : Fin cfg0.N, win0_0.index t (0 : Fin 2) = t.val / 2 % 8 ∧ win0_0.index t (1 : Fin 2) = t.val % 1
    ∧ win0_1.index t (0 : Fin 2) = t.val / 1 % 2 ∧ win0_1.index t (1 : Fin 2) = t.val % 1
    ∧ win0_2.index t (0 : Fin 2) = t.val / 2 % 8 ∧ win0_2.index t (1 : Fin 2) = t.val / 1 % 2 :=
  (by decide +kernel : ∀ t : Fin grid0.N, _)

theorem block_0 (c : Dev nD) (t : Fin cfg0.N) (p : Fin 512) (l : Fin 256) :
    (iblk m c 0 t : Vec Ideal S512x256 .bf16) (ix2 p l) = argA m c (ix2 (down t.val p) (along t.val l)) :=
  have hi := index_tile t
  congrArg (argA m c) (at_ix2 (off hi.1) (off hi.2.1))

theorem block_1 (c : Dev nD) (t : Fin cfg0.N) (q : Fin 512) (l : Fin 256) :
    (iblk m c 1 t : Vec Ideal S512x256 .bf16) (ix2 q l) = argB m c (ix2 (across t.val q) (along t.val l)) :=
  have hi := index_tile t
  congrArg (argB m c) (at_ix2 (off hi.2.2.1) (off hi.2.2.2.1))

/-! ## The products -/

/-- An entry of the result. -/
def entry (c : Dev nD) (i : Fin 4096) (j : Fin 1024) : EReal :=
  (∑ k : Fin 256, argA m c (ix2 i k) * argB m c (ix2 j k))

theorem along_one (t : ℕ) (l : Fin 256) : along t l = l :=
  Fin.ext (by rw [into_val]; omega)

theorem left (c : Dev nD) (t : Fin cfg0.N) (p : Fin 512) (q : Fin 512) :
    (outsAt0 m c t) (ix2 p q) = entry m c (down t.val p) (across t.val q) := by
  unfold outsAt0 entry
  rw [out_A, pay_out]
  simp only [block_0 m c t, block_1 m c t, along_one]

/-- The whole array. -/
abbrev whole (c : Dev nD) : Vec Ideal S4096x1024 .f32 := fun i => entry m c (i 0) (i 1)

theorem written (c : Dev nD) (t : Fin cfg0.N) :
    (dats m 0 c).flushed 2 t = ((cfg0.win 2).blk t).view.read (Elt Ideal) (whole m c) := by
  have hi := index_tile t
  show (cfg0.win 2).cut (grid0.coords t) ((dats m 0 c).after 2 t) = _
  rw [after0_2]
  funext j
  rw [View.read_apply]
  have hj : ((cfg0.win 2).blk t).view.emb j = ix2 (down t.val (j 0)) (across t.val (j 1)) := at_ix2 (off hi.2.2.2.2.1) (off hi.2.2.2.2.2)
  rw [hj]
  refine Eq.trans ?_ (left m c t (j 0) (j 1))
  exact congrArg (outsAt0 m c t) (ix2_eta (n0 := 512) (n1 := 512) j).symm

theorem final (c : Dev nD) : (dats m 0 c).arrAt 2 cfg0.N = whole m c :=
  (dats m 0 c).arrAt_eq_of_cover 2 (whole m c) (fun t _ => written m c t) fun i => by
    have h0 : (i 0).val < 4096 := (i 0).isLt
    have h1 : (i 1).val < 1024 := (i 1).isLt
    have hN : cfg0.N = 16 := N_0
    obtain ⟨t, ht⟩ : ∃ t : Fin cfg0.N, t.val = ((i 0).val / 512 * 2 + (i 1).val / 512) * 1 + 0 := ⟨⟨_, by omega⟩, rfl⟩
    have hi := index_tile t
    refine ⟨t, flush0_2 t, ?_⟩
    show i ∈ ((View.whole main_v0).slice (win0_2.rect t)).set
    rw [View.set_slice_whole, Rect.mem_set_unit]
    exact Fin.forall_fin_two.mpr ⟨within (s := 512) (by omega), within (s := 512) (by omega)⟩

end

/-! ## The reference -/

section
open Cert.GradHqReferenceIdeal Cert.GradHqReferenceIdeal.Gen

theorem ref_entry (a : FVec Ideal S4096x256 .bf16) (b : FVec Ideal S1024x256 .bf16) (i : Fin 4096) (j : Fin 1024) :
    (Host.dotGeneral dot_S4096x256_S256x1024_S4096x1024_1_0_0_1_n_n none (extf .f32 a bitsLt_bf16_f32) (transpose S256x1024 [1, 0] (extf .f32 b bitsLt_bf16_f32) transposes_S1024x256_S256x1024_1_0) : FVec Ideal S4096x1024 .f32) (ix2 i j)
      = (∑ k, a (ix2 i k) * b (ix2 j k)) := by
  pointwise

end

/-! ## The claims -/

theorem frame_reference : quiescent_GradHqReferenceIdeal := fun m g _ =>
  (θ_run _ _ _).mono (fun r h => ⟨fun c => (h c).2, sem_eq_zero_of_no_sems (by decide) r.2⟩)
    (GradHqReferenceIdeal.Value.run (F := Ideal) m g)

theorem algebraic : algebraic_GradHqIdeal_GradHqReferenceIdeal := fun m g m' g' _ hm =>
  ⟨_, (θ_run _ _ _).mono (fun _ h c => ⟨(h c).1.trans (final m c), (h c).2⟩)
      (GradHqIdeal.Value.run_blocks m g),
    (θ_run _ _ _).mono (fun r h c => by
      obtain ⟨e0, e1⟩ := hm c
      obtain ⟨r1, r2⟩ := h c
      refine ⟨funext fun i => ?_, r2⟩
      rw [r1, e0, e1]
      exact (congrArg _ (ix2_eta (n0 := 4096) (n1 := 1024) i).symm).trans (ref_entry _ _ (i 0) (i 1)))
      (GradHqReferenceIdeal.Value.run (F := Ideal) m' g')⟩

end Cert.GradHq

end
-- ==== Proof.GradCq.lean ====
/-
# The gradient of the query projection

Each tile's product is taken in four steps, added up in the scratch.
-/
module

public import proofs.«01_k».proof.Defs
public import proofs.«01_k».proof.Proof.Products
public import proofs.«01_k».proof.Proof.Gen.GradCqIdeal.Value
public import proofs.«01_k».proof.Proof.Gen.GradCq.Frame
public import proofs.«01_k».proof.Proof.Gen.GradCqReferenceIdeal.Run

@[expose] public section

noncomputable section

open Idealize.ShloMosaic Idealize.ShloMosaic.TcCoe Idealize.SL.Sem Cert.Products

namespace Cert.GradCq

section
open Cert.GradCqIdeal Cert.GradCqIdeal.Gen

variable {F : FTy → Type} [FloatOps F]

/-! ## What a point leaves -/

theorem acc_A {c i a1 h1 a2 h2 a3 h3 a4 h4 hc hd he x0 x1} :
    sout0_A_0 (F := F) c i a1 h1 a2 h2 a3 h3 a4 h4 hc hd he x0 x1 = k0_pay2 x0 x1 := by
  unfold sout0_A_0
  rw [View.read_writes_eq_canon _ _ _ fun _ => scover0_A_0 ..]
  unfold kernelRun0_A
  dsimp only
  sl_unfold_words
  rw [View.canon_unit_zero zeros]
  simp only [View.readAt_eq_ld, h1.read_unread, h2.read_unread, h4.read_unread, ld_zeros, shapeCast_self]

theorem acc_B {c i a1 h1 a2 h2 a3 h3 a4 h4 hc hd he x0 x1 y} :
    sout0_B_0 (F := F) c i a1 h1 a2 h2 a3 h3 a4 h4 hc hd he x0 x1 y = k0_pay3 x0 x1 y := by
  unfold sout0_B_0
  rw [View.read_writes_eq_canon _ _ _ fun _ => scover0_B_0 ..]
  unfold kernelRun0_B
  dsimp only
  sl_unfold_words
  rw [View.canon_unit_zero zeros]
  simp only [View.readAt_eq_ld, h1.read_unread, h2.read_unread, h4.read_unread, ld_zeros, shapeCast_self]

theorem acc_C {c i a1 h1 a2 h2 a3 h3 a4 h4 hc hd he x0 x1 y} :
    sout0_C_0 (F := F) c i a1 h1 a2 h2 a3 h3 a4 h4 hc hd he x0 x1 y = k0_pay3 x0 x1 y := by
  unfold sout0_C_0
  rw [View.read_writes_eq_canon _ _ _ fun _ => scover0_C_0 ..]
  unfold kernelRun0_C
  dsimp only
  sl_unfold_words
  rw [View.canon_unit_zero zeros]
  simp only [View.readAt_eq_ld, h1.read_unread, h2.read_unread, h4.read_unread, ld_zeros, shapeCast_self]

theorem out_C {c i a1 h1 a2 h2 a3 h3 a4 h4 hc hd he x0 x1 y} :
    out0_C_2 (F := F) c i a1 h1 a2 h2 a3 h3 a4 h4 hc hd he x0 x1 y = k0_pay4 (k0_pay3 x0 x1 y) := by
  unfold out0_C_2
  rw [View.read_writes_eq_canon _ _ _ fun _ => cover0_C_2 ..]
  unfold kernelRun0_C
  dsimp only
  sl_unfold_words
  rw [View.canon_unit_zero zeros]
  simp only [View.readAt_eq_ld, h1.read_unread, h2.read_unread, h4.read_unread, ld_zeros, View.readCov_unit_zero (S := S512x256) _ zeros, shapeCast_self]

/-- A tile's product. -/
def tile (x0 : Vec Ideal S1024x512 .bf16) (x1 : Vec Ideal S1024x256 .bf16) (p : Fin 512) (q : Fin 256) : EReal := ∑ l, x0 (ix2 l p) * x1 (ix2 l q)

theorem pay_first (x0 : Vec Ideal S1024x512 .bf16) (x1 : Vec Ideal S1024x256 .bf16) (p : Fin 512) (q : Fin 256) :
    k0_pay2 (F := Ideal) x0 x1 (ix2 p q) = tile x0 x1 p q := by
  unfold tile
  pointwise [k0_pay1, k0_pay2, k0_pay3, k0_pay4]

theorem pay_next (x0 : Vec Ideal S1024x512 .bf16) (x1 : Vec Ideal S1024x256 .bf16) (y : Vec Ideal S512x256 .f32) (p : Fin 512) (q : Fin 256) :
    k0_pay3 (F := Ideal) x0 x1 y (ix2 p q) = y (ix2 p q) + tile x0 x1 p q := by
  unfold tile
  pointwise [k0_pay1, k0_pay2, k0_pay3, k0_pay4]

theorem pay_last (y : Vec Ideal S512x256 .f32) (p : Fin 512) (q : Fin 256) :
    (k0_pay4 (y) : Vec Ideal S512x256 .bf16) (ix2 p q) = y (ix2 p q) := by
  pointwise [k0_pay1, k0_pay2, k0_pay3, k0_pay4]

/-! ## The blocks -/

variable (m : (ℓ : Loc nD τ sig) → Buf (Elt Ideal) ℓ)

/-- The arguments. -/
abbrev argA (c : Dev nD) : Vec Ideal S4096x1024 .bf16 := m ((c : Thread nD τ).loc main_arg0)
abbrev argB (c : Dev nD) : Vec Ideal S4096x256 .bf16 := m ((c : Thread nD τ).loc main_arg1)

/-- Where the tile of a point lies. -/
abbrev down (t : ℕ) (p : Fin 512) : Fin 1024 := into 2 512 (t / 4) p
abbrev across (t : ℕ) (q : Fin 256) : Fin 256 := into 1 256 (t / 4) q
abbrev along (k : ℕ) (l : Fin 1024) : Fin 4096 := into 4 1024 k l

theorem index_tile : ∀ t : Fin cfg0.N, win0_0.index t (0 : Fin 2) = t.val % 4 ∧ win0_0.index t (1 : Fin 2) = t.val / 4 % 2
    ∧ win0_1.index t (0 : Fin 2) = t.val % 4 ∧ win0_1.index t (1 : Fin 2) = t.val / 4 % 1
    ∧ win0_2.index t (0 : Fin 2) = t.val / 4 % 2 ∧ win0_2.index t (1 : Fin 2) = t.val / 4 % 1 :=
  (by decide +kernel : ∀ t : Fin grid0.N, _)

theorem block_0 (c : Dev nD) (t : Fin cfg0.N) (l : Fin 1024) (p : Fin 512) :
    (iblk m c 0 t : Vec Ideal S1024x512 .bf16) (ix2 l p) = argA m c (ix2 (along t.val l) (down t.val p)) :=
  have hi := index_tile t
  congrArg (argA m c) (at_ix2 (off hi.1) (off hi.2.1))

theorem block_1 (c : Dev nD) (t : Fin cfg0.N) (l : Fin 1024) (q : Fin 256) :
    (iblk m c 1 t : Vec Ideal S1024x256 .bf16) (ix2 l q) = argB m c (ix2 (along t.val l) (across t.val q)) :=
  have hi := index_tile t
  congrArg (argB m c) (at_ix2 (off hi.2.2.1) (off hi.2.2.2.1))

/-! ## The products -/

/-- An entry of the result. -/
def entry (c : Dev nD) (i : Fin 1024) (j : Fin 256) : EReal :=
  (∑ k : Fin 4096, argA m c (ix2 k i) * argB m c (ix2 k j))

/-- Block `k`'s part of the sum. -/
def part (c : Dev nD) (i : Fin 1024) (j : Fin 256) (k : ℕ) : EReal :=
  ∑ l : Fin 1024, argA m c (ix2 (along k l) (i)) * argB m c (ix2 (along k l) (j))

theorem part_eq (c : Dev nD) (t : Fin cfg0.N) (p : Fin 512) (q : Fin 256) :
    tile (iblk m c 0 t) (iblk m c 1 t) p q = part m c (down t.val p) (across t.val q) (t.val % 4) := by
  unfold tile part
  refine Finset.sum_congr (M := EReal) rfl fun l _ => ?_
  have e : along (t.val % 4) l = along t.val l := into_congr (Nat.mod_mod _ _) l
  rw [e]
  exact congrArg₂ (fun a b : EReal => a * b) (block_0 m c t l p) (block_1 m c t l q)

theorem left (c : Dev nD) (t : Fin cfg0.N) (ht : t.val % 4 = 3) (p : Fin 512) (q : Fin 256) :
    (outsAt0 m c t.val t.isLt).1 (ix2 p q) = entry m c (down t.val p) (across t.val q) := by
  have hN : cfg0.N = 8 := N_0
  have e : (outsAt0 m c t.val t.isLt).2 (ix2 p q) = _ := folded (n := 4) (N := cfg0.N)
    (fun n h => (outsAt0 m c n h).2 (ix2 p q)) (fun n => part m c (down n p) (across n q))
    (fun n h h0 => by
      rw [outsAt0_A m c ⟨n, h⟩ h0 (by dsimp only; omega) (by dsimp only; omega), acc_A]
      dsimp only
      rw [pay_first, part_eq, h0])
    (fun n h h0 => by
      have e : (outsAt0 m c (n + 1) h).2 = k0_pay3 (F := Ideal) (iblk m c 0 ⟨n + 1, h⟩) (iblk m c 1 ⟨n + 1, h⟩) (outsAt0 m c n (Nat.lt_of_succ_lt h)).2 := by
        by_cases h1 : (n + 1) % 4 = 3
        · rw [outsAt0_C m c ⟨n + 1, h⟩ h0 (by dsimp only; omega) h1, acc_C]
          rfl
        · rw [outsAt0_B m c ⟨n + 1, h⟩ h0 (by dsimp only; omega) h1, acc_B]
          rfl
      rw [e, pay_next, part_eq])
    (fun n h0 => by
      have hd : down (n + 1) p = down n p := into_congr (by omega) p
      have hc : across (n + 1) q = across n q := into_congr (by omega) q
      rw [hd, hc]) t.val t.isLt
  rw [outsAt0_C m c t (by omega) (by omega) ht] at e ⊢
  rw [acc_C] at e
  rw [out_C]
  dsimp only at e ⊢
  rw [pay_last]
  unfold entry
  rw [← sum_into 4 1024]
  refine e.trans ?_
  rw [ht]
  rfl

/-- The whole array. -/
abbrev whole (c : Dev nD) : Vec Ideal S1024x256 .bf16 := fun i => entry m c (i 0) (i 1)

theorem written (c : Dev nD) (t : Fin cfg0.N) (hf : (cfg0.win 2).flush t = true) :
    (dats m 0 c).flushed 2 t = ((cfg0.win 2).blk t).view.read (Elt Ideal) (whole m c) := by
  have hi := index_tile t
  show (cfg0.win 2).cut (grid0.coords t) ((dats m 0 c).after 2 t) = _
  rw [after0_2]
  funext j
  rw [View.read_apply]
  have hj : ((cfg0.win 2).blk t).view.emb j = ix2 (down t.val (j 0)) (across t.val (j 1)) := at_ix2 (off hi.2.2.2.2.1) (off hi.2.2.2.2.2)
  rw [hj]
  refine Eq.trans ?_ (left m c t ((flush0_2 t).mp hf) (j 0) (j 1))
  exact congrArg (outsAt0 m c t.val t.isLt).1 (ix2_eta (n0 := 512) (n1 := 256) j).symm

theorem final (c : Dev nD) : (dats m 0 c).arrAt 2 cfg0.N = whole m c :=
  (dats m 0 c).arrAt_eq_of_cover 2 (whole m c) (written m c) fun i => by
    have h0 : (i 0).val < 1024 := (i 0).isLt
    have h1 : (i 1).val < 256 := (i 1).isLt
    have hN : cfg0.N = 8 := N_0
    obtain ⟨t, ht⟩ : ∃ t : Fin cfg0.N, t.val = ((i 0).val / 512 * 1 + (i 1).val / 256) * 4 + 3 := ⟨⟨_, by omega⟩, rfl⟩
    have hi := index_tile t
    refine ⟨t, (flush0_2 t).mpr (by omega), ?_⟩
    show i ∈ ((View.whole main_v0).slice (win0_2.rect t)).set
    rw [View.set_slice_whole, Rect.mem_set_unit]
    exact Fin.forall_fin_two.mpr ⟨within (s := 512) (by omega), within (s := 256) (by omega)⟩

end

/-! ## The reference -/

section
open Cert.GradCqReferenceIdeal Cert.GradCqReferenceIdeal.Gen

theorem ref_entry (a : FVec Ideal S4096x1024 .bf16) (b : FVec Ideal S4096x256 .bf16) (i : Fin 1024) (j : Fin 256) :
    (truncf .bf16 (Host.dotGeneral dot_S1024x4096_S4096x256_S1024x256_1_0_0_1_n_n none (transpose S1024x4096 [1, 0] (extf .f32 a bitsLt_bf16_f32) transposes_S4096x1024_S1024x4096_1_0) (extf .f32 b bitsLt_bf16_f32)) bitsLt_bf16_f32 : FVec Ideal S1024x256 .bf16) (ix2 i j)
      = (∑ k, a (ix2 k i) * b (ix2 k j)) := by
  pointwise

end

/-! ## The claims -/

theorem frame_reference : quiescent_GradCqReferenceIdeal := fun m g _ =>
  (θ_run _ _ _).mono (fun r h => ⟨fun c => (h c).2, sem_eq_zero_of_no_sems (by decide) r.2⟩)
    (GradCqReferenceIdeal.Value.run (F := Ideal) m g)

theorem algebraic : algebraic_GradCqIdeal_GradCqReferenceIdeal := fun m g m' g' _ hm =>
  ⟨_, (θ_run _ _ _).mono (fun _ h c => ⟨(h c).1.trans ((GradCqIdeal.Value.final2 m c).symm.trans (final m c)), (h c).2⟩)
      (GradCqIdeal.Value.run m g),
    (θ_run _ _ _).mono (fun r h c => by
      obtain ⟨e0, e1⟩ := hm c
      obtain ⟨r1, r2⟩ := h c
      refine ⟨funext fun i => ?_, r2⟩
      rw [r1, e0, e1]
      exact (congrArg _ (ix2_eta (n0 := 1024) (n1 := 256) i).symm).trans (ref_entry _ _ (i 0) (i 1)))
      (GradCqReferenceIdeal.Value.run (F := Ideal) m' g')⟩

end Cert.GradCq

end
-- ==== Proof.GradMem.lean ====
/-
# The gradient at the memory

Each tile of the result is one product.
-/
module

public import proofs.«01_k».proof.Defs
public import proofs.«01_k».proof.Proof.Products
public import proofs.«01_k».proof.Proof.Gen.GradMemIdeal.Value
public import proofs.«01_k».proof.Proof.Gen.GradMem.Frame
public import proofs.«01_k».proof.Proof.Gen.GradMemReferenceIdeal.Run

@[expose] public section

noncomputable section

open Idealize.ShloMosaic Idealize.ShloMosaic.TcCoe Idealize.SL.Sem Cert.Products

namespace Cert.GradMem

section
open Cert.GradMemIdeal Cert.GradMemIdeal.Gen

variable {F : FTy → Type} [FloatOps F]

/-! ## What a point leaves -/

theorem out_A {c i a1 h1 a2 h2 a3 h3 a4 h4 hc hd he x0 x1} :
    out0_A_2 (F := F) c i a1 h1 a2 h2 a3 h3 a4 h4 hc hd he x0 x1 = k0_pay2 x0 x1 := by
  unfold out0_A_2
  rw [View.read_writes_eq_canon _ _ _ fun _ => cover0_A_2 ..]
  unfold kernelRun0_A
  dsimp only
  sl_unfold_words
  rw [View.canon_unit_zero zeros]
  simp only [View.readAt_eq_ld, h1.read_unread, h2.read_unread, h4.read_unread, ld_zeros, View.readCov_unit_zero (S := S512x512) _ zeros, shapeCast_self]

theorem pay_out (x0 : Vec Ideal S512x512 .f32) (x1 : Vec Ideal S512x512 .bf16) (p : Fin 512) (q : Fin 512) :
    (k0_pay2 x0 x1 : Vec Ideal S512x512 .f32) (ix2 p q) = (∑ l, x0 (ix2 p l) * x1 (ix2 q l)) := by
  pointwise [k0_pay1, k0_pay2, k0_pay3]

/-! ## The blocks -/

variable (m : (ℓ : Loc nD τ sig) → Buf (Elt Ideal) ℓ)

/-- The arguments. -/
abbrev argA (c : Dev nD) : Vec Ideal S512x512 .f32 := m ((c : Thread nD τ).loc main_arg0)
abbrev argB (c : Dev nD) : Vec Ideal S1024x512 .bf16 := m ((c : Thread nD τ).loc main_arg1)

/-- Where the tile of a point lies. -/
abbrev down (t : ℕ) (p : Fin 512) : Fin 512 := into 1 512 (t / 2) p
abbrev across (t : ℕ) (q : Fin 512) : Fin 1024 := into 2 512 (t / 1) q
abbrev along (k : ℕ) (l : Fin 512) : Fin 512 := into 1 512 k l

theorem index_tile : ∀ t : Fin cfg0.N, win0_0.index t (0 : Fin 2) = t.val / 2 % 1 ∧ win0_0.index t (1 : Fin 2) = t.val % 1
    ∧ win0_1.index t (0 : Fin 2) = t.val / 1 % 2 ∧ win0_1.index t (1 : Fin 2) = t.val % 1
    ∧ win0_2.index t (0 : Fin 2) = t.val / 2 % 1 ∧ win0_2.index t (1 : Fin 2) = t.val / 1 % 2 :=
  (by decide +kernel : ∀ t : Fin grid0.N, _)

theorem block_0 (c : Dev nD) (t : Fin cfg0.N) (p : Fin 512) (l : Fin 512) :
    (iblk m c 0 t : Vec Ideal S512x512 .f32) (ix2 p l) = argA m c (ix2 (down t.val p) (along t.val l)) :=
  have hi := index_tile t
  congrArg (argA m c) (at_ix2 (off hi.1) (off hi.2.1))

theorem block_1 (c : Dev nD) (t : Fin cfg0.N) (q : Fin 512) (l : Fin 512) :
    (iblk m c 1 t : Vec Ideal S512x512 .bf16) (ix2 q l) = argB m c (ix2 (across t.val q) (along t.val l)) :=
  have hi := index_tile t
  congrArg (argB m c) (at_ix2 (off hi.2.2.1) (off hi.2.2.2.1))

/-! ## The products -/

/-- An entry of the result. -/
def entry (c : Dev nD) (i : Fin 512) (j : Fin 1024) : EReal :=
  (∑ k : Fin 512, argA m c (ix2 i k) * argB m c (ix2 j k))

theorem along_one (t : ℕ) (l : Fin 512) : along t l = l :=
  Fin.ext (by rw [into_val]; omega)

theorem left (c : Dev nD) (t : Fin cfg0.N) (p : Fin 512) (q : Fin 512) :
    (outsAt0 m c t) (ix2 p q) = entry m c (down t.val p) (across t.val q) := by
  unfold outsAt0 entry
  rw [out_A, pay_out]
  simp only [block_0 m c t, block_1 m c t, along_one]

/-- The whole array. -/
abbrev whole (c : Dev nD) : Vec Ideal S512x1024 .f32 := fun i => entry m c (i 0) (i 1)

theorem written (c : Dev nD) (t : Fin cfg0.N) :
    (dats m 0 c).flushed 2 t = ((cfg0.win 2).blk t).view.read (Elt Ideal) (whole m c) := by
  have hi := index_tile t
  show (cfg0.win 2).cut (grid0.coords t) ((dats m 0 c).after 2 t) = _
  rw [after0_2]
  funext j
  rw [View.read_apply]
  have hj : ((cfg0.win 2).blk t).view.emb j = ix2 (down t.val (j 0)) (across t.val (j 1)) := at_ix2 (off hi.2.2.2.2.1) (off hi.2.2.2.2.2)
  rw [hj]
  refine Eq.trans ?_ (left m c t (j 0) (j 1))
  exact congrArg (outsAt0 m c t) (ix2_eta (n0 := 512) (n1 := 512) j).symm

theorem final (c : Dev nD) : (dats m 0 c).arrAt 2 cfg0.N = whole m c :=
  (dats m 0 c).arrAt_eq_of_cover 2 (whole m c) (fun t _ => written m c t) fun i => by
    have h0 : (i 0).val < 512 := (i 0).isLt
    have h1 : (i 1).val < 1024 := (i 1).isLt
    have hN : cfg0.N = 2 := N_0
    obtain ⟨t, ht⟩ : ∃ t : Fin cfg0.N, t.val = ((i 0).val / 512 * 2 + (i 1).val / 512) * 1 + 0 := ⟨⟨_, by omega⟩, rfl⟩
    have hi := index_tile t
    refine ⟨t, flush0_2 t, ?_⟩
    show i ∈ ((View.whole main_v0).slice (win0_2.rect t)).set
    rw [View.set_slice_whole, Rect.mem_set_unit]
    exact Fin.forall_fin_two.mpr ⟨within (s := 512) (by omega), within (s := 512) (by omega)⟩

end

/-! ## The reference -/

section
open Cert.GradMemReferenceIdeal Cert.GradMemReferenceIdeal.Gen

theorem ref_entry (a : FVec Ideal S512x512 .f32) (b : FVec Ideal S1024x512 .bf16) (i : Fin 512) (j : Fin 1024) :
    (Host.dotGeneral dot_S512x512_S512x1024_S512x1024_1_0_0_1_n_n none (a) (transpose S512x1024 [1, 0] (extf .f32 b bitsLt_bf16_f32) transposes_S1024x512_S512x1024_1_0) : FVec Ideal S512x1024 .f32) (ix2 i j)
      = (∑ k, a (ix2 i k) * b (ix2 j k)) := by
  pointwise

end

/-! ## The claims -/

theorem frame_reference : quiescent_GradMemReferenceIdeal := fun m g _ =>
  (θ_run _ _ _).mono (fun r h => ⟨fun c => (h c).2, sem_eq_zero_of_no_sems (by decide) r.2⟩)
    (GradMemReferenceIdeal.Value.run (F := Ideal) m g)

theorem algebraic : algebraic_GradMemIdeal_GradMemReferenceIdeal := fun m g m' g' _ hm =>
  ⟨_, (θ_run _ _ _).mono (fun _ h c => ⟨(h c).1.trans (final m c), (h c).2⟩)
      (GradMemIdeal.Value.run_blocks m g),
    (θ_run _ _ _).mono (fun r h c => by
      obtain ⟨e0, e1⟩ := hm c
      obtain ⟨r1, r2⟩ := h c
      refine ⟨funext fun i => ?_, r2⟩
      rw [r1, e0, e1]
      exact (congrArg _ (ix2_eta (n0 := 512) (n1 := 1024) i).symm).trans (ref_entry _ _ (i 0) (i 1)))
      (GradMemReferenceIdeal.Value.run (F := Ideal) m' g')⟩

end Cert.GradMem

end
-- ==== Proof.GradCkv.lean ====
/-
# The gradient of the memory's projections

Each tile of the result is one product.
-/
module

public import proofs.«01_k».proof.Defs
public import proofs.«01_k».proof.Proof.Products
public import proofs.«01_k».proof.Proof.Gen.GradCkvIdeal.Value
public import proofs.«01_k».proof.Proof.Gen.GradCkv.Frame
public import proofs.«01_k».proof.Proof.Gen.GradCkvReferenceIdeal.Run

@[expose] public section

noncomputable section

open Idealize.ShloMosaic Idealize.ShloMosaic.TcCoe Idealize.SL.Sem Cert.Products

namespace Cert.GradCkv

section
open Cert.GradCkvIdeal Cert.GradCkvIdeal.Gen

variable {F : FTy → Type} [FloatOps F]

/-! ## What a point leaves -/

theorem out_A {c i a1 h1 a2 h2 a3 h3 a4 h4 hc hd he x0 x1} :
    out0_A_2 (F := F) c i a1 h1 a2 h2 a3 h3 a4 h4 hc hd he x0 x1 = k0_pay4 (k0_pay2 x0 x1) := by
  unfold out0_A_2
  rw [View.read_writes_eq_canon _ _ _ fun _ => cover0_A_2 ..]
  unfold kernelRun0_A
  dsimp only
  sl_unfold_words
  rw [View.canon_unit_zero zeros]
  simp only [View.readAt_eq_ld, h1.read_unread, h2.read_unread, h4.read_unread, ld_zeros, View.readCov_unit_zero (S := S512x512) _ zeros, shapeCast_self]

theorem pay_out (x0 : Vec Ideal S512x512 .bf16) (x1 : Vec Ideal S512x512 .f32) (p : Fin 512) (q : Fin 512) :
    (k0_pay4 (k0_pay2 x0 x1) : Vec Ideal S512x512 .bf16) (ix2 p q) = (∑ l, x0 (ix2 l p) * x1 (ix2 l q)) := by
  pointwise [k0_pay1, k0_pay2, k0_pay3, k0_pay4]

/-! ## The blocks -/

variable (m : (ℓ : Loc nD τ sig) → Buf (Elt Ideal) ℓ)

/-- The arguments. -/
abbrev argA (c : Dev nD) : Vec Ideal S512x1024 .bf16 := m ((c : Thread nD τ).loc main_arg0)
abbrev argB (c : Dev nD) : Vec Ideal S512x512 .f32 := m ((c : Thread nD τ).loc main_arg1)

/-- Where the tile of a point lies. -/
abbrev down (t : ℕ) (p : Fin 512) : Fin 1024 := into 2 512 (t / 1) p
abbrev across (t : ℕ) (q : Fin 512) : Fin 512 := into 1 512 (t / 1) q
abbrev along (k : ℕ) (l : Fin 512) : Fin 512 := into 1 512 k l

theorem index_tile : ∀ t : Fin cfg0.N, win0_0.index t (0 : Fin 2) = t.val % 1 ∧ win0_0.index t (1 : Fin 2) = t.val / 1 % 2
    ∧ win0_1.index t (0 : Fin 2) = t.val % 1 ∧ win0_1.index t (1 : Fin 2) = t.val / 1 % 1
    ∧ win0_2.index t (0 : Fin 2) = t.val / 1 % 2 ∧ win0_2.index t (1 : Fin 2) = t.val / 1 % 1 :=
  (by decide +kernel : ∀ t : Fin grid0.N, _)

theorem block_0 (c : Dev nD) (t : Fin cfg0.N) (l : Fin 512) (p : Fin 512) :
    (iblk m c 0 t : Vec Ideal S512x512 .bf16) (ix2 l p) = argA m c (ix2 (along t.val l) (down t.val p)) :=
  have hi := index_tile t
  congrArg (argA m c) (at_ix2 (off hi.1) (off hi.2.1))

theorem block_1 (c : Dev nD) (t : Fin cfg0.N) (l : Fin 512) (q : Fin 512) :
    (iblk m c 1 t : Vec Ideal S512x512 .f32) (ix2 l q) = argB m c (ix2 (along t.val l) (across t.val q)) :=
  have hi := index_tile t
  congrArg (argB m c) (at_ix2 (off hi.2.2.1) (off hi.2.2.2.1))

/-! ## The products -/

/-- An entry of the result. -/
def entry (c : Dev nD) (i : Fin 1024) (j : Fin 512) : EReal :=
  (∑ k : Fin 512, argA m c (ix2 k i) * argB m c (ix2 k j))

theorem along_one (t : ℕ) (l : Fin 512) : along t l = l :=
  Fin.ext (by rw [into_val]; omega)

theorem left (c : Dev nD) (t : Fin cfg0.N) (p : Fin 512) (q : Fin 512) :
    (outsAt0 m c t) (ix2 p q) = entry m c (down t.val p) (across t.val q) := by
  unfold outsAt0 entry
  rw [out_A, pay_out]
  simp only [block_0 m c t, block_1 m c t, along_one]

/-- The whole array. -/
abbrev whole (c : Dev nD) : Vec Ideal S1024x512 .bf16 := fun i => entry m c (i 0) (i 1)

theorem written (c : Dev nD) (t : Fin cfg0.N) :
    (dats m 0 c).flushed 2 t = ((cfg0.win 2).blk t).view.read (Elt Ideal) (whole m c) := by
  have hi := index_tile t
  show (cfg0.win 2).cut (grid0.coords t) ((dats m 0 c).after 2 t) = _
  rw [after0_2]
  funext j
  rw [View.read_apply]
  have hj : ((cfg0.win 2).blk t).view.emb j = ix2 (down t.val (j 0)) (across t.val (j 1)) := at_ix2 (off hi.2.2.2.2.1) (off hi.2.2.2.2.2)
  rw [hj]
  refine Eq.trans ?_ (left m c t (j 0) (j 1))
  exact congrArg (outsAt0 m c t) (ix2_eta (n0 := 512) (n1 := 512) j).symm

theorem final (c : Dev nD) : (dats m 0 c).arrAt 2 cfg0.N = whole m c :=
  (dats m 0 c).arrAt_eq_of_cover 2 (whole m c) (fun t _ => written m c t) fun i => by
    have h0 : (i 0).val < 1024 := (i 0).isLt
    have h1 : (i 1).val < 512 := (i 1).isLt
    have hN : cfg0.N = 2 := N_0
    obtain ⟨t, ht⟩ : ∃ t : Fin cfg0.N, t.val = ((i 0).val / 512 * 1 + (i 1).val / 512) * 1 + 0 := ⟨⟨_, by omega⟩, rfl⟩
    have hi := index_tile t
    refine ⟨t, flush0_2 t, ?_⟩
    show i ∈ ((View.whole main_v0).slice (win0_2.rect t)).set
    rw [View.set_slice_whole, Rect.mem_set_unit]
    exact Fin.forall_fin_two.mpr ⟨within (s := 512) (by omega), within (s := 512) (by omega)⟩

end

/-! ## The reference -/

section
open Cert.GradCkvReferenceIdeal Cert.GradCkvReferenceIdeal.Gen

theorem ref_entry (a : FVec Ideal S512x1024 .bf16) (b : FVec Ideal S512x512 .f32) (i : Fin 1024) (j : Fin 512) :
    (truncf .bf16 (Host.dotGeneral dot_S1024x512_S512x512_S1024x512_1_0_0_1_n_n none (transpose S1024x512 [1, 0] (extf .f32 a bitsLt_bf16_f32) transposes_S512x1024_S1024x512_1_0) (b)) bitsLt_bf16_f32 : FVec Ideal S1024x512 .bf16) (ix2 i j)
      = (∑ k, a (ix2 k i) * b (ix2 k j)) := by
  pointwise

end

/-! ## The claims -/

theorem frame_reference : quiescent_GradCkvReferenceIdeal := fun m g _ =>
  (θ_run _ _ _).mono (fun r h => ⟨fun c => (h c).2, sem_eq_zero_of_no_sems (by decide) r.2⟩)
    (GradCkvReferenceIdeal.Value.run (F := Ideal) m g)

theorem algebraic : algebraic_GradCkvIdeal_GradCkvReferenceIdeal := fun m g m' g' _ hm =>
  ⟨_, (θ_run _ _ _).mono (fun _ h c => ⟨(h c).1.trans (final m c), (h c).2⟩)
      (GradCkvIdeal.Value.run_blocks m g),
    (θ_run _ _ _).mono (fun r h c => by
      obtain ⟨e0, e1⟩ := hm c
      obtain ⟨r1, r2⟩ := h c
      refine ⟨funext fun i => ?_, r2⟩
      rw [r1, e0, e1]
      exact (congrArg _ (ix2_eta (n0 := 1024) (n1 := 512) i).symm).trans (ref_entry _ _ (i 0) (i 1)))
      (GradCkvReferenceIdeal.Value.run (F := Ideal) m' g')⟩

end Cert.GradCkv

end
-- ==== Proof.GradMixed.lean ====
/-
# The gradient at the mixture

Each tile of the result is one product.
-/
module

public import proofs.«01_k».proof.Defs
public import proofs.«01_k».proof.Proof.Products
public import proofs.«01_k».proof.Proof.Gen.GradMixedIdeal.Value
public import proofs.«01_k».proof.Proof.Gen.GradMixed.Frame
public import proofs.«01_k».proof.Proof.Gen.GradMixedReferenceIdeal.Run

@[expose] public section

noncomputable section

open Idealize.ShloMosaic Idealize.ShloMosaic.TcCoe Idealize.SL.Sem Cert.Products

namespace Cert.GradMixed

section
open Cert.GradMixedIdeal Cert.GradMixedIdeal.Gen

variable {F : FTy → Type} [FloatOps F]

/-! ## What a point leaves -/

theorem out_A {c i a1 h1 a2 h2 a3 h3 a4 h4 hc hd he x0 x1} :
    out0_A_2 (F := F) c i a1 h1 a2 h2 a3 h3 a4 h4 hc hd he x0 x1 = k0_pay2 x0 x1 := by
  unfold out0_A_2
  rw [View.read_writes_eq_canon _ _ _ fun _ => cover0_A_2 ..]
  unfold kernelRun0_A
  dsimp only
  sl_unfold_words
  rw [View.canon_unit_zero zeros]
  simp only [View.readAt_eq_ld, h1.read_unread, h2.read_unread, h4.read_unread, ld_zeros, View.readCov_unit_zero (S := S512x512) _ zeros, shapeCast_self]

theorem pay_out (x0 : Vec Ideal S512x1024 .f32) (x1 : Vec Ideal S512x1024 .bf16) (p : Fin 512) (q : Fin 512) :
    (k0_pay2 x0 x1 : Vec Ideal S512x512 .f32) (ix2 p q) = (∑ l, x0 (ix2 p l) * x1 (ix2 q l)) := by
  pointwise [k0_pay1, k0_pay2, k0_pay3]

/-! ## The blocks -/

variable (m : (ℓ : Loc nD τ sig) → Buf (Elt Ideal) ℓ)

/-- The arguments. -/
abbrev argA (c : Dev nD) : Vec Ideal S4096x1024 .f32 := m ((c : Thread nD τ).loc main_arg0)
abbrev argB (c : Dev nD) : Vec Ideal S1024x1024 .bf16 := m ((c : Thread nD τ).loc main_arg1)

/-- Where the tile of a point lies. -/
abbrev down (t : ℕ) (p : Fin 512) : Fin 4096 := into 8 512 (t / 2) p
abbrev across (t : ℕ) (q : Fin 512) : Fin 1024 := into 2 512 (t / 1) q
abbrev along (k : ℕ) (l : Fin 1024) : Fin 1024 := into 1 1024 k l

theorem index_tile : ∀ t : Fin cfg0.N, win0_0.index t (0 : Fin 2) = t.val / 2 % 8 ∧ win0_0.index t (1 : Fin 2) = t.val % 1
    ∧ win0_1.index t (0 : Fin 2) = t.val / 1 % 2 ∧ win0_1.index t (1 : Fin 2) = t.val % 1
    ∧ win0_2.index t (0 : Fin 2) = t.val / 2 % 8 ∧ win0_2.index t (1 : Fin 2) = t.val / 1 % 2 :=
  (by decide +kernel : ∀ t : Fin grid0.N, _)

theorem block_0 (c : Dev nD) (t : Fin cfg0.N) (p : Fin 512) (l : Fin 1024) :
    (iblk m c 0 t : Vec Ideal S512x1024 .f32) (ix2 p l) = argA m c (ix2 (down t.val p) (along t.val l)) :=
  have hi := index_tile t
  congrArg (argA m c) (at_ix2 (off hi.1) (off hi.2.1))

theorem block_1 (c : Dev nD) (t : Fin cfg0.N) (q : Fin 512) (l : Fin 1024) :
    (iblk m c 1 t : Vec Ideal S512x1024 .bf16) (ix2 q l) = argB m c (ix2 (across t.val q) (along t.val l)) :=
  have hi := index_tile t
  congrArg (argB m c) (at_ix2 (off hi.2.2.1) (off hi.2.2.2.1))

/-! ## The products -/

/-- An entry of the result. -/
def entry (c : Dev nD) (i : Fin 4096) (j : Fin 1024) : EReal :=
  (∑ k : Fin 1024, argA m c (ix2 i k) * argB m c (ix2 j k))

theorem along_one (t : ℕ) (l : Fin 1024) : along t l = l :=
  Fin.ext (by rw [into_val]; omega)

theorem left (c : Dev nD) (t : Fin cfg0.N) (p : Fin 512) (q : Fin 512) :
    (outsAt0 m c t) (ix2 p q) = entry m c (down t.val p) (across t.val q) := by
  unfold outsAt0 entry
  rw [out_A, pay_out]
  simp only [block_0 m c t, block_1 m c t, along_one]

/-- The whole array. -/
abbrev whole (c : Dev nD) : Vec Ideal S4096x1024 .f32 := fun i => entry m c (i 0) (i 1)

theorem written (c : Dev nD) (t : Fin cfg0.N) :
    (dats m 0 c).flushed 2 t = ((cfg0.win 2).blk t).view.read (Elt Ideal) (whole m c) := by
  have hi := index_tile t
  show (cfg0.win 2).cut (grid0.coords t) ((dats m 0 c).after 2 t) = _
  rw [after0_2]
  funext j
  rw [View.read_apply]
  have hj : ((cfg0.win 2).blk t).view.emb j = ix2 (down t.val (j 0)) (across t.val (j 1)) := at_ix2 (off hi.2.2.2.2.1) (off hi.2.2.2.2.2)
  rw [hj]
  refine Eq.trans ?_ (left m c t (j 0) (j 1))
  exact congrArg (outsAt0 m c t) (ix2_eta (n0 := 512) (n1 := 512) j).symm

theorem final (c : Dev nD) : (dats m 0 c).arrAt 2 cfg0.N = whole m c :=
  (dats m 0 c).arrAt_eq_of_cover 2 (whole m c) (fun t _ => written m c t) fun i => by
    have h0 : (i 0).val < 4096 := (i 0).isLt
    have h1 : (i 1).val < 1024 := (i 1).isLt
    have hN : cfg0.N = 16 := N_0
    obtain ⟨t, ht⟩ : ∃ t : Fin cfg0.N, t.val = ((i 0).val / 512 * 2 + (i 1).val / 512) * 1 + 0 := ⟨⟨_, by omega⟩, rfl⟩
    have hi := index_tile t
    refine ⟨t, flush0_2 t, ?_⟩
    show i ∈ ((View.whole main_v0).slice (win0_2.rect t)).set
    rw [View.set_slice_whole, Rect.mem_set_unit]
    exact Fin.forall_fin_two.mpr ⟨within (s := 512) (by omega), within (s := 512) (by omega)⟩

end

/-! ## The reference -/

section
open Cert.GradMixedReferenceIdeal Cert.GradMixedReferenceIdeal.Gen

theorem ref_entry (a : FVec Ideal S4096x1024 .f32) (b : FVec Ideal S1024x1024 .bf16) (i : Fin 4096) (j : Fin 1024) :
    (Host.dotGeneral dot_S4096x1024_S1024x1024_S4096x1024_1_0_0_1_n_n none (a) (transpose S1024x1024 [1, 0] (extf .f32 b bitsLt_bf16_f32) transposes_S1024x1024_S1024x1024_1_0) : FVec Ideal S4096x1024 .f32) (ix2 i j)
      = (∑ k, a (ix2 i k) * b (ix2 j k)) := by
  pointwise

end

/-! ## The claims -/

theorem frame_reference : quiescent_GradMixedReferenceIdeal := fun m g _ =>
  (θ_run _ _ _).mono (fun r h => ⟨fun c => (h c).2, sem_eq_zero_of_no_sems (by decide) r.2⟩)
    (GradMixedReferenceIdeal.Value.run (F := Ideal) m g)

theorem algebraic : algebraic_GradMixedIdeal_GradMixedReferenceIdeal := fun m g m' g' _ hm =>
  ⟨_, (θ_run _ _ _).mono (fun _ h c => ⟨(h c).1.trans (final m c), (h c).2⟩)
      (GradMixedIdeal.Value.run_blocks m g),
    (θ_run _ _ _).mono (fun r h c => by
      obtain ⟨e0, e1⟩ := hm c
      obtain ⟨r1, r2⟩ := h c
      refine ⟨funext fun i => ?_, r2⟩
      rw [r1, e0, e1]
      exact (congrArg _ (ix2_eta (n0 := 4096) (n1 := 1024) i).symm).trans (ref_entry _ _ (i 0) (i 1)))
      (GradMixedReferenceIdeal.Value.run (F := Ideal) m' g')⟩

end Cert.GradMixed

end
-- ==== Proof.GradOut.lean ====
/-
# The gradient of the mixture's output projection

Each tile's product is taken in four steps, added up in the scratch.
-/
module

public import proofs.«01_k».proof.Defs
public import proofs.«01_k».proof.Proof.Products
public import proofs.«01_k».proof.Proof.Gen.GradOutIdeal.Value
public import proofs.«01_k».proof.Proof.Gen.GradOut.Frame
public import proofs.«01_k».proof.Proof.Gen.GradOutReferenceIdeal.Run

@[expose] public section

noncomputable section

open Idealize.ShloMosaic Idealize.ShloMosaic.TcCoe Idealize.SL.Sem Cert.Products

namespace Cert.GradOut

section
open Cert.GradOutIdeal Cert.GradOutIdeal.Gen

variable {F : FTy → Type} [FloatOps F]

/-! ## What a point leaves -/

theorem acc_A {c i a1 h1 a2 h2 a3 h3 a4 h4 hc hd he x0 x1} :
    sout0_A_0 (F := F) c i a1 h1 a2 h2 a3 h3 a4 h4 hc hd he x0 x1 = k0_pay2 x0 x1 := by
  unfold sout0_A_0
  rw [View.read_writes_eq_canon _ _ _ fun _ => scover0_A_0 ..]
  unfold kernelRun0_A
  dsimp only
  sl_unfold_words
  rw [View.canon_unit_zero zeros]
  simp only [View.readAt_eq_ld, h1.read_unread, h2.read_unread, h4.read_unread, ld_zeros, shapeCast_self]

theorem acc_B {c i a1 h1 a2 h2 a3 h3 a4 h4 hc hd he x0 x1 y} :
    sout0_B_0 (F := F) c i a1 h1 a2 h2 a3 h3 a4 h4 hc hd he x0 x1 y = k0_pay3 x0 x1 y := by
  unfold sout0_B_0
  rw [View.read_writes_eq_canon _ _ _ fun _ => scover0_B_0 ..]
  unfold kernelRun0_B
  dsimp only
  sl_unfold_words
  rw [View.canon_unit_zero zeros]
  simp only [View.readAt_eq_ld, h1.read_unread, h2.read_unread, h4.read_unread, ld_zeros, shapeCast_self]

theorem acc_C {c i a1 h1 a2 h2 a3 h3 a4 h4 hc hd he x0 x1 y} :
    sout0_C_0 (F := F) c i a1 h1 a2 h2 a3 h3 a4 h4 hc hd he x0 x1 y = k0_pay3 x0 x1 y := by
  unfold sout0_C_0
  rw [View.read_writes_eq_canon _ _ _ fun _ => scover0_C_0 ..]
  unfold kernelRun0_C
  dsimp only
  sl_unfold_words
  rw [View.canon_unit_zero zeros]
  simp only [View.readAt_eq_ld, h1.read_unread, h2.read_unread, h4.read_unread, ld_zeros, shapeCast_self]

theorem out_C {c i a1 h1 a2 h2 a3 h3 a4 h4 hc hd he x0 x1 y} :
    out0_C_2 (F := F) c i a1 h1 a2 h2 a3 h3 a4 h4 hc hd he x0 x1 y = k0_pay4 (k0_pay3 x0 x1 y) := by
  unfold out0_C_2
  rw [View.read_writes_eq_canon _ _ _ fun _ => cover0_C_2 ..]
  unfold kernelRun0_C
  dsimp only
  sl_unfold_words
  rw [View.canon_unit_zero zeros]
  simp only [View.readAt_eq_ld, h1.read_unread, h2.read_unread, h4.read_unread, ld_zeros, View.readCov_unit_zero (S := S512x512) _ zeros, shapeCast_self]

/-- A tile's product. -/
def tile (x0 : Vec Ideal S1024x512 .bf16) (x1 : Vec Ideal S1024x512 .f32) (p : Fin 512) (q : Fin 512) : EReal := ∑ l, x0 (ix2 l p) * x1 (ix2 l q)

theorem pay_first (x0 : Vec Ideal S1024x512 .bf16) (x1 : Vec Ideal S1024x512 .f32) (p : Fin 512) (q : Fin 512) :
    k0_pay2 (F := Ideal) x0 x1 (ix2 p q) = tile x0 x1 p q := by
  unfold tile
  pointwise [k0_pay1, k0_pay2, k0_pay3, k0_pay4]

theorem pay_next (x0 : Vec Ideal S1024x512 .bf16) (x1 : Vec Ideal S1024x512 .f32) (y : Vec Ideal S512x512 .f32) (p : Fin 512) (q : Fin 512) :
    k0_pay3 (F := Ideal) x0 x1 y (ix2 p q) = y (ix2 p q) + tile x0 x1 p q := by
  unfold tile
  pointwise [k0_pay1, k0_pay2, k0_pay3, k0_pay4]

theorem pay_last (y : Vec Ideal S512x512 .f32) (p : Fin 512) (q : Fin 512) :
    (k0_pay4 (y) : Vec Ideal S512x512 .bf16) (ix2 p q) = y (ix2 p q) := by
  pointwise [k0_pay1, k0_pay2, k0_pay3, k0_pay4]

/-! ## The blocks -/

variable (m : (ℓ : Loc nD τ sig) → Buf (Elt Ideal) ℓ)

/-- The arguments. -/
abbrev argA (c : Dev nD) : Vec Ideal S4096x1024 .bf16 := m ((c : Thread nD τ).loc main_arg0)
abbrev argB (c : Dev nD) : Vec Ideal S4096x1024 .f32 := m ((c : Thread nD τ).loc main_arg1)

/-- Where the tile of a point lies. -/
abbrev down (t : ℕ) (p : Fin 512) : Fin 1024 := into 2 512 (t / 8) p
abbrev across (t : ℕ) (q : Fin 512) : Fin 1024 := into 2 512 (t / 4) q
abbrev along (k : ℕ) (l : Fin 1024) : Fin 4096 := into 4 1024 k l

theorem index_tile : ∀ t : Fin cfg0.N, win0_0.index t (0 : Fin 2) = t.val % 4 ∧ win0_0.index t (1 : Fin 2) = t.val / 8 % 2
    ∧ win0_1.index t (0 : Fin 2) = t.val % 4 ∧ win0_1.index t (1 : Fin 2) = t.val / 4 % 2
    ∧ win0_2.index t (0 : Fin 2) = t.val / 8 % 2 ∧ win0_2.index t (1 : Fin 2) = t.val / 4 % 2 :=
  (by decide +kernel : ∀ t : Fin grid0.N, _)

theorem block_0 (c : Dev nD) (t : Fin cfg0.N) (l : Fin 1024) (p : Fin 512) :
    (iblk m c 0 t : Vec Ideal S1024x512 .bf16) (ix2 l p) = argA m c (ix2 (along t.val l) (down t.val p)) :=
  have hi := index_tile t
  congrArg (argA m c) (at_ix2 (off hi.1) (off hi.2.1))

theorem block_1 (c : Dev nD) (t : Fin cfg0.N) (l : Fin 1024) (q : Fin 512) :
    (iblk m c 1 t : Vec Ideal S1024x512 .f32) (ix2 l q) = argB m c (ix2 (along t.val l) (across t.val q)) :=
  have hi := index_tile t
  congrArg (argB m c) (at_ix2 (off hi.2.2.1) (off hi.2.2.2.1))

/-! ## The products -/

/-- An entry of the result. -/
def entry (c : Dev nD) (i : Fin 1024) (j : Fin 1024) : EReal :=
  (∑ k : Fin 4096, argA m c (ix2 k i) * argB m c (ix2 k j))

/-- Block `k`'s part of the sum. -/
def part (c : Dev nD) (i : Fin 1024) (j : Fin 1024) (k : ℕ) : EReal :=
  ∑ l : Fin 1024, argA m c (ix2 (along k l) (i)) * argB m c (ix2 (along k l) (j))

theorem part_eq (c : Dev nD) (t : Fin cfg0.N) (p : Fin 512) (q : Fin 512) :
    tile (iblk m c 0 t) (iblk m c 1 t) p q = part m c (down t.val p) (across t.val q) (t.val % 4) := by
  unfold tile part
  refine Finset.sum_congr (M := EReal) rfl fun l _ => ?_
  have e : along (t.val % 4) l = along t.val l := into_congr (Nat.mod_mod _ _) l
  rw [e]
  exact congrArg₂ (fun a b : EReal => a * b) (block_0 m c t l p) (block_1 m c t l q)

theorem left (c : Dev nD) (t : Fin cfg0.N) (ht : t.val % 4 = 3) (p : Fin 512) (q : Fin 512) :
    (outsAt0 m c t.val t.isLt).1 (ix2 p q) = entry m c (down t.val p) (across t.val q) := by
  have hN : cfg0.N = 16 := N_0
  have e : (outsAt0 m c t.val t.isLt).2 (ix2 p q) = _ := folded (n := 4) (N := cfg0.N)
    (fun n h => (outsAt0 m c n h).2 (ix2 p q)) (fun n => part m c (down n p) (across n q))
    (fun n h h0 => by
      rw [outsAt0_A m c ⟨n, h⟩ h0 (by dsimp only; omega) (by dsimp only; omega), acc_A]
      dsimp only
      rw [pay_first, part_eq, h0])
    (fun n h h0 => by
      have e : (outsAt0 m c (n + 1) h).2 = k0_pay3 (F := Ideal) (iblk m c 0 ⟨n + 1, h⟩) (iblk m c 1 ⟨n + 1, h⟩) (outsAt0 m c n (Nat.lt_of_succ_lt h)).2 := by
        by_cases h1 : (n + 1) % 4 = 3
        · rw [outsAt0_C m c ⟨n + 1, h⟩ h0 (by dsimp only; omega) h1, acc_C]
          rfl
        · rw [outsAt0_B m c ⟨n + 1, h⟩ h0 (by dsimp only; omega) h1, acc_B]
          rfl
      rw [e, pay_next, part_eq])
    (fun n h0 => by
      have hd : down (n + 1) p = down n p := into_congr (by omega) p
      have hc : across (n + 1) q = across n q := into_congr (by omega) q
      rw [hd, hc]) t.val t.isLt
  rw [outsAt0_C m c t (by omega) (by omega) ht] at e ⊢
  rw [acc_C] at e
  rw [out_C]
  dsimp only at e ⊢
  rw [pay_last]
  unfold entry
  rw [← sum_into 4 1024]
  refine e.trans ?_
  rw [ht]
  rfl

/-- The whole array. -/
abbrev whole (c : Dev nD) : Vec Ideal S1024x1024 .bf16 := fun i => entry m c (i 0) (i 1)

theorem written (c : Dev nD) (t : Fin cfg0.N) (hf : (cfg0.win 2).flush t = true) :
    (dats m 0 c).flushed 2 t = ((cfg0.win 2).blk t).view.read (Elt Ideal) (whole m c) := by
  have hi := index_tile t
  show (cfg0.win 2).cut (grid0.coords t) ((dats m 0 c).after 2 t) = _
  rw [after0_2]
  funext j
  rw [View.read_apply]
  have hj : ((cfg0.win 2).blk t).view.emb j = ix2 (down t.val (j 0)) (across t.val (j 1)) := at_ix2 (off hi.2.2.2.2.1) (off hi.2.2.2.2.2)
  rw [hj]
  refine Eq.trans ?_ (left m c t ((flush0_2 t).mp hf) (j 0) (j 1))
  exact congrArg (outsAt0 m c t.val t.isLt).1 (ix2_eta (n0 := 512) (n1 := 512) j).symm

theorem final (c : Dev nD) : (dats m 0 c).arrAt 2 cfg0.N = whole m c :=
  (dats m 0 c).arrAt_eq_of_cover 2 (whole m c) (written m c) fun i => by
    have h0 : (i 0).val < 1024 := (i 0).isLt
    have h1 : (i 1).val < 1024 := (i 1).isLt
    have hN : cfg0.N = 16 := N_0
    obtain ⟨t, ht⟩ : ∃ t : Fin cfg0.N, t.val = ((i 0).val / 512 * 2 + (i 1).val / 512) * 4 + 3 := ⟨⟨_, by omega⟩, rfl⟩
    have hi := index_tile t
    refine ⟨t, (flush0_2 t).mpr (by omega), ?_⟩
    show i ∈ ((View.whole main_v0).slice (win0_2.rect t)).set
    rw [View.set_slice_whole, Rect.mem_set_unit]
    exact Fin.forall_fin_two.mpr ⟨within (s := 512) (by omega), within (s := 512) (by omega)⟩

end

/-! ## The reference -/

section
open Cert.GradOutReferenceIdeal Cert.GradOutReferenceIdeal.Gen

theorem ref_entry (a : FVec Ideal S4096x1024 .bf16) (b : FVec Ideal S4096x1024 .f32) (i : Fin 1024) (j : Fin 1024) :
    (truncf .bf16 (Host.dotGeneral dot_S1024x4096_S4096x1024_S1024x1024_1_0_0_1_n_n none (transpose S1024x4096 [1, 0] (extf .f32 a bitsLt_bf16_f32) transposes_S4096x1024_S1024x4096_1_0) (b)) bitsLt_bf16_f32 : FVec Ideal S1024x1024 .bf16) (ix2 i j)
      = (∑ k, a (ix2 k i) * b (ix2 k j)) := by
  pointwise

end

/-! ## The claims -/

theorem frame_reference : quiescent_GradOutReferenceIdeal := fun m g _ =>
  (θ_run _ _ _).mono (fun r h => ⟨fun c => (h c).2, sem_eq_zero_of_no_sems (by decide) r.2⟩)
    (GradOutReferenceIdeal.Value.run (F := Ideal) m g)

theorem algebraic : algebraic_GradOutIdeal_GradOutReferenceIdeal := fun m g m' g' _ hm =>
  ⟨_, (θ_run _ _ _).mono (fun _ h c => ⟨(h c).1.trans ((GradOutIdeal.Value.final2 m c).symm.trans (final m c)), (h c).2⟩)
      (GradOutIdeal.Value.run m g),
    (θ_run _ _ _).mono (fun r h c => by
      obtain ⟨e0, e1⟩ := hm c
      obtain ⟨r1, r2⟩ := h c
      refine ⟨funext fun i => ?_, r2⟩
      rw [r1, e0, e1]
      exact (congrArg _ (ix2_eta (n0 := 1024) (n1 := 1024) i).symm).trans (ref_entry _ _ (i 0) (i 1)))
      (GradOutReferenceIdeal.Value.run (F := Ideal) m' g')⟩

end Cert.GradOut

end
-- ==== Proof.GradMain.lean ====
/-
# The gradient at the mixers' input, from queries, keys and values

Each tile's product is taken in nine steps, added up in the scratch.
-/
module

public import proofs.«01_k».proof.Defs
public import proofs.«01_k».proof.Proof.Products
public import proofs.«01_k».proof.Proof.Gen.GradMainIdeal.Value
public import proofs.«01_k».proof.Proof.Gen.GradMain.Frame
public import proofs.«01_k».proof.Proof.Gen.GradMainReferenceIdeal.Run

@[expose] public section

noncomputable section

open Idealize.ShloMosaic Idealize.ShloMosaic.TcCoe Idealize.SL.Sem Cert.Products

namespace Cert.GradMain

section
open Cert.GradMainIdeal Cert.GradMainIdeal.Gen

variable {F : FTy → Type} [FloatOps F]

/-! ## What a point leaves -/

theorem acc_A {c i a1 h1 a2 h2 a3 h3 a4 h4 hc hd he x0 x1} :
    sout0_A_0 (F := F) c i a1 h1 a2 h2 a3 h3 a4 h4 hc hd he x0 x1 = k0_pay2 x0 x1 := by
  unfold sout0_A_0
  rw [View.read_writes_eq_canon _ _ _ fun _ => scover0_A_0 ..]
  unfold kernelRun0_A
  dsimp only
  sl_unfold_words
  rw [View.canon_unit_zero zeros]
  simp only [View.readAt_eq_ld, h1.read_unread, h2.read_unread, h4.read_unread, ld_zeros, shapeCast_self]

theorem acc_B {c i a1 h1 a2 h2 a3 h3 a4 h4 hc hd he x0 x1 y} :
    sout0_B_0 (F := F) c i a1 h1 a2 h2 a3 h3 a4 h4 hc hd he x0 x1 y = k0_pay3 x0 x1 y := by
  unfold sout0_B_0
  rw [View.read_writes_eq_canon _ _ _ fun _ => scover0_B_0 ..]
  unfold kernelRun0_B
  dsimp only
  sl_unfold_words
  rw [View.canon_unit_zero zeros]
  simp only [View.readAt_eq_ld, h1.read_unread, h2.read_unread, h4.read_unread, ld_zeros, shapeCast_self]

theorem acc_C {c i a1 h1 a2 h2 a3 h3 a4 h4 hc hd he x0 x1 y} :
    sout0_C_0 (F := F) c i a1 h1 a2 h2 a3 h3 a4 h4 hc hd he x0 x1 y = k0_pay3 x0 x1 y := by
  unfold sout0_C_0
  rw [View.read_writes_eq_canon _ _ _ fun _ => scover0_C_0 ..]
  unfold kernelRun0_C
  dsimp only
  sl_unfold_words
  rw [View.canon_unit_zero zeros]
  simp only [View.readAt_eq_ld, h1.read_unread, h2.read_unread, h4.read_unread, ld_zeros, shapeCast_self]

theorem out_C {c i a1 h1 a2 h2 a3 h3 a4 h4 hc hd he x0 x1 y} :
    out0_C_2 (F := F) c i a1 h1 a2 h2 a3 h3 a4 h4 hc hd he x0 x1 y = k0_pay3 x0 x1 y := by
  unfold out0_C_2
  rw [View.read_writes_eq_canon _ _ _ fun _ => cover0_C_2 ..]
  unfold kernelRun0_C
  dsimp only
  sl_unfold_words
  rw [View.canon_unit_zero zeros]
  simp only [View.readAt_eq_ld, h1.read_unread, h2.read_unread, h4.read_unread, ld_zeros, View.readCov_unit_zero (S := S512x512) _ zeros, shapeCast_self]

/-- A tile's product. -/
def tile (x0 : Vec Ideal S512x256 .bf16) (x1 : Vec Ideal S512x256 .bf16) (p : Fin 512) (q : Fin 512) : EReal := ∑ l, x0 (ix2 p l) * x1 (ix2 q l)

theorem pay_first (x0 : Vec Ideal S512x256 .bf16) (x1 : Vec Ideal S512x256 .bf16) (p : Fin 512) (q : Fin 512) :
    k0_pay2 (F := Ideal) x0 x1 (ix2 p q) = tile x0 x1 p q := by
  unfold tile
  pointwise [k0_pay1, k0_pay2, k0_pay3]

theorem pay_next (x0 : Vec Ideal S512x256 .bf16) (x1 : Vec Ideal S512x256 .bf16) (y : Vec Ideal S512x512 .f32) (p : Fin 512) (q : Fin 512) :
    k0_pay3 (F := Ideal) x0 x1 y (ix2 p q) = y (ix2 p q) + tile x0 x1 p q := by
  unfold tile
  pointwise [k0_pay1, k0_pay2, k0_pay3]

/-! ## The blocks -/

variable (m : (ℓ : Loc nD τ sig) → Buf (Elt Ideal) ℓ)

/-- The arguments. -/
abbrev argA (c : Dev nD) : Vec Ideal S4096x2304 .bf16 := m ((c : Thread nD τ).loc main_arg0)
abbrev argB (c : Dev nD) : Vec Ideal S1024x2304 .bf16 := m ((c : Thread nD τ).loc main_arg1)

/-- Where the tile of a point lies. -/
abbrev down (t : ℕ) (p : Fin 512) : Fin 4096 := into 8 512 (t / 18) p
abbrev across (t : ℕ) (q : Fin 512) : Fin 1024 := into 2 512 (t / 9) q
abbrev along (k : ℕ) (l : Fin 256) : Fin 2304 := into 9 256 k l

theorem index_tile : ∀ t : Fin cfg0.N, win0_0.index t (0 : Fin 2) = t.val / 18 % 8 ∧ win0_0.index t (1 : Fin 2) = t.val % 9
    ∧ win0_1.index t (0 : Fin 2) = t.val / 9 % 2 ∧ win0_1.index t (1 : Fin 2) = t.val % 9
    ∧ win0_2.index t (0 : Fin 2) = t.val / 18 % 8 ∧ win0_2.index t (1 : Fin 2) = t.val / 9 % 2 :=
  (by decide +kernel : ∀ t : Fin grid0.N, _)

theorem block_0 (c : Dev nD) (t : Fin cfg0.N) (p : Fin 512) (l : Fin 256) :
    (iblk m c 0 t : Vec Ideal S512x256 .bf16) (ix2 p l) = argA m c (ix2 (down t.val p) (along t.val l)) :=
  have hi := index_tile t
  congrArg (argA m c) (at_ix2 (off hi.1) (off hi.2.1))

theorem block_1 (c : Dev nD) (t : Fin cfg0.N) (q : Fin 512) (l : Fin 256) :
    (iblk m c 1 t : Vec Ideal S512x256 .bf16) (ix2 q l) = argB m c (ix2 (across t.val q) (along t.val l)) :=
  have hi := index_tile t
  congrArg (argB m c) (at_ix2 (off hi.2.2.1) (off hi.2.2.2.1))

/-! ## The products -/

/-- An entry of the result. -/
def entry (c : Dev nD) (i : Fin 4096) (j : Fin 1024) : EReal :=
  (∑ k : Fin 2304, argA m c (ix2 i k) * argB m c (ix2 j k))

/-- Block `k`'s part of the sum. -/
def part (c : Dev nD) (i : Fin 4096) (j : Fin 1024) (k : ℕ) : EReal :=
  ∑ l : Fin 256, argA m c (ix2 (i) (along k l)) * argB m c (ix2 (j) (along k l))

theorem part_eq (c : Dev nD) (t : Fin cfg0.N) (p : Fin 512) (q : Fin 512) :
    tile (iblk m c 0 t) (iblk m c 1 t) p q = part m c (down t.val p) (across t.val q) (t.val % 9) := by
  unfold tile part
  refine Finset.sum_congr (M := EReal) rfl fun l _ => ?_
  have e : along (t.val % 9) l = along t.val l := into_congr (Nat.mod_mod _ _) l
  rw [e]
  exact congrArg₂ (fun a b : EReal => a * b) (block_0 m c t p l) (block_1 m c t q l)

theorem left (c : Dev nD) (t : Fin cfg0.N) (ht : t.val % 9 = 8) (p : Fin 512) (q : Fin 512) :
    (outsAt0 m c t.val t.isLt).1 (ix2 p q) = entry m c (down t.val p) (across t.val q) := by
  have hN : cfg0.N = 144 := N_0
  have e : (outsAt0 m c t.val t.isLt).2 (ix2 p q) = _ := folded (n := 9) (N := cfg0.N)
    (fun n h => (outsAt0 m c n h).2 (ix2 p q)) (fun n => part m c (down n p) (across n q))
    (fun n h h0 => by
      rw [outsAt0_A m c ⟨n, h⟩ h0 (by dsimp only; omega) (by dsimp only; omega), acc_A]
      dsimp only
      rw [pay_first, part_eq, h0])
    (fun n h h0 => by
      have e : (outsAt0 m c (n + 1) h).2 = k0_pay3 (F := Ideal) (iblk m c 0 ⟨n + 1, h⟩) (iblk m c 1 ⟨n + 1, h⟩) (outsAt0 m c n (Nat.lt_of_succ_lt h)).2 := by
        by_cases h1 : (n + 1) % 9 = 8
        · rw [outsAt0_C m c ⟨n + 1, h⟩ h0 (by dsimp only; omega) h1, acc_C]
          rfl
        · rw [outsAt0_B m c ⟨n + 1, h⟩ h0 (by dsimp only; omega) h1, acc_B]
          rfl
      rw [e, pay_next, part_eq])
    (fun n h0 => by
      have hd : down (n + 1) p = down n p := into_congr (by omega) p
      have hc : across (n + 1) q = across n q := into_congr (by omega) q
      rw [hd, hc]) t.val t.isLt
  rw [outsAt0_C m c t (by omega) (by omega) ht] at e ⊢
  rw [acc_C] at e
  rw [out_C]
  dsimp only at e ⊢
  unfold entry
  rw [← sum_into 9 256]
  refine e.trans ?_
  rw [ht]
  rfl

/-- The whole array. -/
abbrev whole (c : Dev nD) : Vec Ideal S4096x1024 .f32 := fun i => entry m c (i 0) (i 1)

theorem written (c : Dev nD) (t : Fin cfg0.N) (hf : (cfg0.win 2).flush t = true) :
    (dats m 0 c).flushed 2 t = ((cfg0.win 2).blk t).view.read (Elt Ideal) (whole m c) := by
  have hi := index_tile t
  show (cfg0.win 2).cut (grid0.coords t) ((dats m 0 c).after 2 t) = _
  rw [after0_2]
  funext j
  rw [View.read_apply]
  have hj : ((cfg0.win 2).blk t).view.emb j = ix2 (down t.val (j 0)) (across t.val (j 1)) := at_ix2 (off hi.2.2.2.2.1) (off hi.2.2.2.2.2)
  rw [hj]
  refine Eq.trans ?_ (left m c t ((flush0_2 t).mp hf) (j 0) (j 1))
  exact congrArg (outsAt0 m c t.val t.isLt).1 (ix2_eta (n0 := 512) (n1 := 512) j).symm

theorem final (c : Dev nD) : (dats m 0 c).arrAt 2 cfg0.N = whole m c :=
  (dats m 0 c).arrAt_eq_of_cover 2 (whole m c) (written m c) fun i => by
    have h0 : (i 0).val < 4096 := (i 0).isLt
    have h1 : (i 1).val < 1024 := (i 1).isLt
    have hN : cfg0.N = 144 := N_0
    obtain ⟨t, ht⟩ : ∃ t : Fin cfg0.N, t.val = ((i 0).val / 512 * 2 + (i 1).val / 512) * 9 + 8 := ⟨⟨_, by omega⟩, rfl⟩
    have hi := index_tile t
    refine ⟨t, (flush0_2 t).mpr (by omega), ?_⟩
    show i ∈ ((View.whole main_v0).slice (win0_2.rect t)).set
    rw [View.set_slice_whole, Rect.mem_set_unit]
    exact Fin.forall_fin_two.mpr ⟨within (s := 512) (by omega), within (s := 512) (by omega)⟩

end

/-! ## The reference -/

section
open Cert.GradMainReferenceIdeal Cert.GradMainReferenceIdeal.Gen

theorem ref_entry (a : FVec Ideal S4096x2304 .bf16) (b : FVec Ideal S1024x2304 .bf16) (i : Fin 4096) (j : Fin 1024) :
    (Host.dotGeneral dot_S4096x2304_S2304x1024_S4096x1024_1_0_0_1_n_n none (extf .f32 a bitsLt_bf16_f32) (transpose S2304x1024 [1, 0] (extf .f32 b bitsLt_bf16_f32) transposes_S1024x2304_S2304x1024_1_0) : FVec Ideal S4096x1024 .f32) (ix2 i j)
      = (∑ k, a (ix2 i k) * b (ix2 j k)) := by
  pointwise

end

/-! ## The claims -/

theorem frame_reference : quiescent_GradMainReferenceIdeal := fun m g _ =>
  (θ_run _ _ _).mono (fun r h => ⟨fun c => (h c).2, sem_eq_zero_of_no_sems (by decide) r.2⟩)
    (GradMainReferenceIdeal.Value.run (F := Ideal) m g)

theorem algebraic : algebraic_GradMainIdeal_GradMainReferenceIdeal := fun m g m' g' _ hm =>
  ⟨_, (θ_run _ _ _).mono (fun _ h c => ⟨(h c).1.trans ((GradMainIdeal.Value.final2 m c).symm.trans (final m c)), (h c).2⟩)
      (GradMainIdeal.Value.run m g),
    (θ_run _ _ _).mono (fun r h c => by
      obtain ⟨e0, e1⟩ := hm c
      obtain ⟨r1, r2⟩ := h c
      refine ⟨funext fun i => ?_, r2⟩
      rw [r1, e0, e1]
      exact (congrArg _ (ix2_eta (n0 := 4096) (n1 := 1024) i).symm).trans (ref_entry _ _ (i 0) (i 1)))
      (GradMainReferenceIdeal.Value.run (F := Ideal) m' g')⟩

end Cert.GradMain

end
-- ==== Proof.GradMix.lean ====
/-
# The gradient at the mixers' input

Each tile's product is taken in five steps, added up in the scratch.
-/
module

public import proofs.«01_k».proof.Defs
public import proofs.«01_k».proof.Proof.Products
public import proofs.«01_k».proof.Proof.Gen.GradMixIdeal.Value
public import proofs.«01_k».proof.Proof.Gen.GradMix.Frame
public import proofs.«01_k».proof.Proof.Gen.GradMixReferenceIdeal.Run

@[expose] public section

noncomputable section

open Idealize.ShloMosaic Idealize.ShloMosaic.TcCoe Idealize.SL.Sem Cert.Products

namespace Cert.GradMix

section
open Cert.GradMixIdeal Cert.GradMixIdeal.Gen

variable {F : FTy → Type} [FloatOps F]

/-! ## What a point leaves -/

theorem acc_A {c i a1 h1 a2 h2 a3 h3 a4 h4 a5 h5 hc hd he x0 x1 x2} :
    sout0_A_0 (F := F) c i a1 h1 a2 h2 a3 h3 a4 h4 a5 h5 hc hd he x0 x1 x2 = k0_pay2 x0 x1 := by
  unfold sout0_A_0
  rw [View.read_writes_eq_canon _ _ _ fun _ => scover0_A_0 ..]
  unfold kernelRun0_A
  dsimp only
  sl_unfold_words
  rw [View.canon_unit_zero zeros]
  simp only [View.readAt_eq_ld, h1.read_unread, h2.read_unread, h3.read_unread, h5.read_unread, ld_zeros, shapeCast_self]

theorem acc_B {c i a1 h1 a2 h2 a3 h3 a4 h4 a5 h5 hc hd he x0 x1 x2 y} :
    sout0_B_0 (F := F) c i a1 h1 a2 h2 a3 h3 a4 h4 a5 h5 hc hd he x0 x1 x2 y = k0_pay3 x0 x1 y := by
  unfold sout0_B_0
  rw [View.read_writes_eq_canon _ _ _ fun _ => scover0_B_0 ..]
  unfold kernelRun0_B
  dsimp only
  sl_unfold_words
  rw [View.canon_unit_zero zeros]
  simp only [View.readAt_eq_ld, h1.read_unread, h2.read_unread, h3.read_unread, h5.read_unread, ld_zeros, shapeCast_self]

theorem acc_C {c i a1 h1 a2 h2 a3 h3 a4 h4 a5 h5 hc hd he x0 x1 x2 y} :
    sout0_C_0 (F := F) c i a1 h1 a2 h2 a3 h3 a4 h4 a5 h5 hc hd he x0 x1 x2 y = k0_pay3 x0 x1 y := by
  unfold sout0_C_0
  rw [View.read_writes_eq_canon _ _ _ fun _ => scover0_C_0 ..]
  unfold kernelRun0_C
  dsimp only
  sl_unfold_words
  rw [View.canon_unit_zero zeros]
  simp only [View.readAt_eq_ld, h1.read_unread, h2.read_unread, h3.read_unread, h5.read_unread, ld_zeros, shapeCast_self]

theorem out_C {c i a1 h1 a2 h2 a3 h3 a4 h4 a5 h5 hc hd he x0 x1 x2 y} :
    out0_C_3 (F := F) c i a1 h1 a2 h2 a3 h3 a4 h4 a5 h5 hc hd he x0 x1 x2 y = k0_pay4 (k0_pay3 x0 x1 y) x2 := by
  unfold out0_C_3
  rw [View.read_writes_eq_canon _ _ _ fun _ => cover0_C_3 ..]
  unfold kernelRun0_C
  dsimp only
  sl_unfold_words
  rw [View.canon_unit_zero zeros]
  simp only [View.readAt_eq_ld, h1.read_unread, h2.read_unread, h3.read_unread, h5.read_unread, ld_zeros, View.readCov_unit_zero (S := S512x512) _ zeros, shapeCast_self]

/-- A tile's product. -/
def tile (x0 : Vec Ideal S512x128 .f32) (x1 : Vec Ideal S512x128 .bf16) (p : Fin 512) (q : Fin 512) : EReal := ∑ l, x0 (ix2 p l) * x1 (ix2 q l)

theorem pay_first (x0 : Vec Ideal S512x128 .f32) (x1 : Vec Ideal S512x128 .bf16) (p : Fin 512) (q : Fin 512) :
    k0_pay2 (F := Ideal) x0 x1 (ix2 p q) = tile x0 x1 p q := by
  unfold tile
  pointwise [k0_pay1, k0_pay2, k0_pay3, k0_pay4]

theorem pay_next (x0 : Vec Ideal S512x128 .f32) (x1 : Vec Ideal S512x128 .bf16) (y : Vec Ideal S512x512 .f32) (p : Fin 512) (q : Fin 512) :
    k0_pay3 (F := Ideal) x0 x1 y (ix2 p q) = y (ix2 p q) + tile x0 x1 p q := by
  unfold tile
  pointwise [k0_pay1, k0_pay2, k0_pay3, k0_pay4]

theorem pay_last (y : Vec Ideal S512x512 .f32) (x2 : Vec Ideal S512x512 .f32) (p : Fin 512) (q : Fin 512) :
    (k0_pay4 (y) x2 : Vec Ideal S512x512 .f32) (ix2 p q) = y (ix2 p q) + x2 (ix2 p q) := by
  pointwise [k0_pay1, k0_pay2, k0_pay3, k0_pay4]

/-! ## The blocks -/

variable (m : (ℓ : Loc nD τ sig) → Buf (Elt Ideal) ℓ)

/-- The arguments. -/
abbrev argA (c : Dev nD) : Vec Ideal S4096x640 .f32 := m ((c : Thread nD τ).loc main_arg0)
abbrev argB (c : Dev nD) : Vec Ideal S1024x640 .bf16 := m ((c : Thread nD τ).loc main_arg1)
abbrev argR (c : Dev nD) : Vec Ideal S4096x1024 .f32 := m ((c : Thread nD τ).loc main_arg2)

/-- Where the tile of a point lies. -/
abbrev down (t : ℕ) (p : Fin 512) : Fin 4096 := into 8 512 (t / 10) p
abbrev across (t : ℕ) (q : Fin 512) : Fin 1024 := into 2 512 (t / 5) q
abbrev along (k : ℕ) (l : Fin 128) : Fin 640 := into 5 128 k l

theorem index_tile : ∀ t : Fin cfg0.N, win0_0.index t (0 : Fin 2) = t.val / 10 % 8 ∧ win0_0.index t (1 : Fin 2) = t.val % 5
    ∧ win0_1.index t (0 : Fin 2) = t.val / 5 % 2 ∧ win0_1.index t (1 : Fin 2) = t.val % 5
    ∧ win0_2.index t (0 : Fin 2) = t.val / 10 % 8 ∧ win0_2.index t (1 : Fin 2) = t.val / 5 % 2
    ∧ win0_3.index t (0 : Fin 2) = t.val / 10 % 8 ∧ win0_3.index t (1 : Fin 2) = t.val / 5 % 2 :=
  (by decide +kernel : ∀ t : Fin grid0.N, _)

theorem block_0 (c : Dev nD) (t : Fin cfg0.N) (p : Fin 512) (l : Fin 128) :
    (iblk m c 0 t : Vec Ideal S512x128 .f32) (ix2 p l) = argA m c (ix2 (down t.val p) (along t.val l)) :=
  have hi := index_tile t
  congrArg (argA m c) (at_ix2 (off hi.1) (off hi.2.1))

theorem block_1 (c : Dev nD) (t : Fin cfg0.N) (q : Fin 512) (l : Fin 128) :
    (iblk m c 1 t : Vec Ideal S512x128 .bf16) (ix2 q l) = argB m c (ix2 (across t.val q) (along t.val l)) :=
  have hi := index_tile t
  congrArg (argB m c) (at_ix2 (off hi.2.2.1) (off hi.2.2.2.1))

theorem block_2 (c : Dev nD) (t : Fin cfg0.N) (p : Fin 512) (q : Fin 512) :
    (iblk m c 2 t : Vec Ideal S512x512 .f32) (ix2 p q) = argR m c (ix2 (down t.val p) (across t.val q)) :=
  have hi := index_tile t
  congrArg (argR m c) (at_ix2 (off hi.2.2.2.2.1) (off hi.2.2.2.2.2.1))

/-! ## The products -/

/-- An entry of the result. -/
def entry (c : Dev nD) (i : Fin 4096) (j : Fin 1024) : EReal :=
  (∑ k : Fin 640, argA m c (ix2 i k) * argB m c (ix2 j k)) + argR m c (ix2 i j)

/-- Block `k`'s part of the sum. -/
def part (c : Dev nD) (i : Fin 4096) (j : Fin 1024) (k : ℕ) : EReal :=
  ∑ l : Fin 128, argA m c (ix2 (i) (along k l)) * argB m c (ix2 (j) (along k l))

theorem part_eq (c : Dev nD) (t : Fin cfg0.N) (p : Fin 512) (q : Fin 512) :
    tile (iblk m c 0 t) (iblk m c 1 t) p q = part m c (down t.val p) (across t.val q) (t.val % 5) := by
  unfold tile part
  refine Finset.sum_congr (M := EReal) rfl fun l _ => ?_
  have e : along (t.val % 5) l = along t.val l := into_congr (Nat.mod_mod _ _) l
  rw [e]
  exact congrArg₂ (fun a b : EReal => a * b) (block_0 m c t p l) (block_1 m c t q l)

theorem left (c : Dev nD) (t : Fin cfg0.N) (ht : t.val % 5 = 4) (p : Fin 512) (q : Fin 512) :
    (outsAt0 m c t.val t.isLt).1 (ix2 p q) = entry m c (down t.val p) (across t.val q) := by
  have hN : cfg0.N = 80 := N_0
  have e : (outsAt0 m c t.val t.isLt).2 (ix2 p q) = _ := folded (n := 5) (N := cfg0.N)
    (fun n h => (outsAt0 m c n h).2 (ix2 p q)) (fun n => part m c (down n p) (across n q))
    (fun n h h0 => by
      rw [outsAt0_A m c ⟨n, h⟩ h0 (by dsimp only; omega) (by dsimp only; omega), acc_A]
      dsimp only
      rw [pay_first, part_eq, h0])
    (fun n h h0 => by
      have e : (outsAt0 m c (n + 1) h).2 = k0_pay3 (F := Ideal) (iblk m c 0 ⟨n + 1, h⟩) (iblk m c 1 ⟨n + 1, h⟩) (outsAt0 m c n (Nat.lt_of_succ_lt h)).2 := by
        by_cases h1 : (n + 1) % 5 = 4
        · rw [outsAt0_C m c ⟨n + 1, h⟩ h0 (by dsimp only; omega) h1, acc_C]
          rfl
        · rw [outsAt0_B m c ⟨n + 1, h⟩ h0 (by dsimp only; omega) h1, acc_B]
          rfl
      rw [e, pay_next, part_eq])
    (fun n h0 => by
      have hd : down (n + 1) p = down n p := into_congr (by omega) p
      have hc : across (n + 1) q = across n q := into_congr (by omega) q
      rw [hd, hc]) t.val t.isLt
  rw [outsAt0_C m c t (by omega) (by omega) ht] at e ⊢
  rw [acc_C] at e
  rw [out_C]
  dsimp only at e ⊢
  rw [pay_last]
  unfold entry
  rw [← sum_into 5 128]
  refine congrArg₂ (fun a b : EReal => a + b) (e.trans ?_) (block_2 m c t p q)
  rw [ht]
  rfl

/-- The whole array. -/
abbrev whole (c : Dev nD) : Vec Ideal S4096x1024 .f32 := fun i => entry m c (i 0) (i 1)

theorem written (c : Dev nD) (t : Fin cfg0.N) (hf : (cfg0.win 3).flush t = true) :
    (dats m 0 c).flushed 3 t = ((cfg0.win 3).blk t).view.read (Elt Ideal) (whole m c) := by
  have hi := index_tile t
  show (cfg0.win 3).cut (grid0.coords t) ((dats m 0 c).after 3 t) = _
  rw [after0_3]
  funext j
  rw [View.read_apply]
  have hj : ((cfg0.win 3).blk t).view.emb j = ix2 (down t.val (j 0)) (across t.val (j 1)) := at_ix2 (off hi.2.2.2.2.2.2.1) (off hi.2.2.2.2.2.2.2)
  rw [hj]
  refine Eq.trans ?_ (left m c t ((flush0_3 t).mp hf) (j 0) (j 1))
  exact congrArg (outsAt0 m c t.val t.isLt).1 (ix2_eta (n0 := 512) (n1 := 512) j).symm

theorem final (c : Dev nD) : (dats m 0 c).arrAt 3 cfg0.N = whole m c :=
  (dats m 0 c).arrAt_eq_of_cover 3 (whole m c) (written m c) fun i => by
    have h0 : (i 0).val < 4096 := (i 0).isLt
    have h1 : (i 1).val < 1024 := (i 1).isLt
    have hN : cfg0.N = 80 := N_0
    obtain ⟨t, ht⟩ : ∃ t : Fin cfg0.N, t.val = ((i 0).val / 512 * 2 + (i 1).val / 512) * 5 + 4 := ⟨⟨_, by omega⟩, rfl⟩
    have hi := index_tile t
    refine ⟨t, (flush0_3 t).mpr (by omega), ?_⟩
    show i ∈ ((View.whole main_v0).slice (win0_3.rect t)).set
    rw [View.set_slice_whole, Rect.mem_set_unit]
    exact Fin.forall_fin_two.mpr ⟨within (s := 512) (by omega), within (s := 512) (by omega)⟩

end

/-! ## The reference -/

section
open Cert.GradMixReferenceIdeal Cert.GradMixReferenceIdeal.Gen

theorem ref_entry (a : FVec Ideal S4096x640 .f32) (b : FVec Ideal S1024x640 .bf16) (r : FVec Ideal S4096x1024 .f32) (i : Fin 4096) (j : Fin 1024) :
    (addf r (Host.dotGeneral dot_S4096x640_S640x1024_S4096x1024_1_0_0_1_n_n none (a) (transpose S640x1024 [1, 0] (extf .f32 b bitsLt_bf16_f32) transposes_S1024x640_S640x1024_1_0)) : FVec Ideal S4096x1024 .f32) (ix2 i j)
      = (∑ k, a (ix2 i k) * b (ix2 j k)) + r (ix2 i j) := by
  pointwise
  exact add_comm _ _

end

/-! ## The claims -/

theorem frame_reference : quiescent_GradMixReferenceIdeal := fun m g _ =>
  (θ_run _ _ _).mono (fun r h => ⟨fun c => (h c).2, sem_eq_zero_of_no_sems (by decide) r.2⟩)
    (GradMixReferenceIdeal.Value.run (F := Ideal) m g)

theorem algebraic : algebraic_GradMixIdeal_GradMixReferenceIdeal := fun m g m' g' _ hm =>
  ⟨_, (θ_run _ _ _).mono (fun _ h c => ⟨(h c).1.trans ((GradMixIdeal.Value.final3 m c).symm.trans (final m c)), (h c).2⟩)
      (GradMixIdeal.Value.run m g),
    (θ_run _ _ _).mono (fun r h c => by
      obtain ⟨e0, e1, e2⟩ := hm c
      obtain ⟨r1, r2⟩ := h c
      refine ⟨funext fun i => ?_, r2⟩
      rw [r1, e0, e1, e2]
      exact (congrArg _ (ix2_eta (n0 := 4096) (n1 := 1024) i).symm).trans (ref_entry _ _ _ (i 0) (i 1)))
      (GradMixReferenceIdeal.Value.run (F := Ideal) m' g')⟩

end Cert.GradMix

end
-- ==== Proof.GradQkv.lean ====
/-
# The gradient of the mixers' main projection

Each tile's product is taken in four steps, added up in the scratch.
-/
module

public import proofs.«01_k».proof.Defs
public import proofs.«01_k».proof.Proof.Products
public import proofs.«01_k».proof.Proof.Gen.GradQkvIdeal.Value
public import proofs.«01_k».proof.Proof.Gen.GradQkv.Frame
public import proofs.«01_k».proof.Proof.Gen.GradQkvReferenceIdeal.Run

@[expose] public section

noncomputable section

open Idealize.ShloMosaic Idealize.ShloMosaic.TcCoe Idealize.SL.Sem Cert.Products

namespace Cert.GradQkv

section
open Cert.GradQkvIdeal Cert.GradQkvIdeal.Gen

variable {F : FTy → Type} [FloatOps F]

/-! ## What a point leaves -/

theorem acc_A {c i a1 h1 a2 h2 a3 h3 a4 h4 hc hd he x0 x1} :
    sout0_A_0 (F := F) c i a1 h1 a2 h2 a3 h3 a4 h4 hc hd he x0 x1 = k0_pay2 x0 x1 := by
  unfold sout0_A_0
  rw [View.read_writes_eq_canon _ _ _ fun _ => scover0_A_0 ..]
  unfold kernelRun0_A
  dsimp only
  sl_unfold_words
  rw [View.canon_unit_zero zeros]
  simp only [View.readAt_eq_ld, h1.read_unread, h2.read_unread, h4.read_unread, ld_zeros, shapeCast_self]

theorem acc_B {c i a1 h1 a2 h2 a3 h3 a4 h4 hc hd he x0 x1 y} :
    sout0_B_0 (F := F) c i a1 h1 a2 h2 a3 h3 a4 h4 hc hd he x0 x1 y = k0_pay3 x0 x1 y := by
  unfold sout0_B_0
  rw [View.read_writes_eq_canon _ _ _ fun _ => scover0_B_0 ..]
  unfold kernelRun0_B
  dsimp only
  sl_unfold_words
  rw [View.canon_unit_zero zeros]
  simp only [View.readAt_eq_ld, h1.read_unread, h2.read_unread, h4.read_unread, ld_zeros, shapeCast_self]

theorem acc_C {c i a1 h1 a2 h2 a3 h3 a4 h4 hc hd he x0 x1 y} :
    sout0_C_0 (F := F) c i a1 h1 a2 h2 a3 h3 a4 h4 hc hd he x0 x1 y = k0_pay3 x0 x1 y := by
  unfold sout0_C_0
  rw [View.read_writes_eq_canon _ _ _ fun _ => scover0_C_0 ..]
  unfold kernelRun0_C
  dsimp only
  sl_unfold_words
  rw [View.canon_unit_zero zeros]
  simp only [View.readAt_eq_ld, h1.read_unread, h2.read_unread, h4.read_unread, ld_zeros, shapeCast_self]

theorem out_C {c i a1 h1 a2 h2 a3 h3 a4 h4 hc hd he x0 x1 y} :
    out0_C_2 (F := F) c i a1 h1 a2 h2 a3 h3 a4 h4 hc hd he x0 x1 y = k0_pay4 (k0_pay3 x0 x1 y) := by
  unfold out0_C_2
  rw [View.read_writes_eq_canon _ _ _ fun _ => cover0_C_2 ..]
  unfold kernelRun0_C
  dsimp only
  sl_unfold_words
  rw [View.canon_unit_zero zeros]
  simp only [View.readAt_eq_ld, h1.read_unread, h2.read_unread, h4.read_unread, ld_zeros, View.readCov_unit_zero (S := S512x768) _ zeros, shapeCast_self]

/-- A tile's product. -/
def tile (x0 : Vec Ideal S1024x512 .bf16) (x1 : Vec Ideal S1024x768 .bf16) (p : Fin 512) (q : Fin 768) : EReal := ∑ l, x0 (ix2 l p) * x1 (ix2 l q)

theorem pay_first (x0 : Vec Ideal S1024x512 .bf16) (x1 : Vec Ideal S1024x768 .bf16) (p : Fin 512) (q : Fin 768) :
    k0_pay2 (F := Ideal) x0 x1 (ix2 p q) = tile x0 x1 p q := by
  unfold tile
  pointwise [k0_pay1, k0_pay2, k0_pay3, k0_pay4]

theorem pay_next (x0 : Vec Ideal S1024x512 .bf16) (x1 : Vec Ideal S1024x768 .bf16) (y : Vec Ideal S512x768 .f32) (p : Fin 512) (q : Fin 768) :
    k0_pay3 (F := Ideal) x0 x1 y (ix2 p q) = y (ix2 p q) + tile x0 x1 p q := by
  unfold tile
  pointwise [k0_pay1, k0_pay2, k0_pay3, k0_pay4]

theorem pay_last (y : Vec Ideal S512x768 .f32) (p : Fin 512) (q : Fin 768) :
    (k0_pay4 (y) : Vec Ideal S512x768 .bf16) (ix2 p q) = y (ix2 p q) := by
  pointwise [k0_pay1, k0_pay2, k0_pay3, k0_pay4]

/-! ## The blocks -/

variable (m : (ℓ : Loc nD τ sig) → Buf (Elt Ideal) ℓ)

/-- The arguments. -/
abbrev argA (c : Dev nD) : Vec Ideal S4096x1024 .bf16 := m ((c : Thread nD τ).loc main_arg0)
abbrev argB (c : Dev nD) : Vec Ideal S4096x2304 .bf16 := m ((c : Thread nD τ).loc main_arg1)

/-- Where the tile of a point lies. -/
abbrev down (t : ℕ) (p : Fin 512) : Fin 1024 := into 2 512 (t / 12) p
abbrev across (t : ℕ) (q : Fin 768) : Fin 2304 := into 3 768 (t / 4) q
abbrev along (k : ℕ) (l : Fin 1024) : Fin 4096 := into 4 1024 k l

theorem index_tile : ∀ t : Fin cfg0.N, win0_0.index t (0 : Fin 2) = t.val % 4 ∧ win0_0.index t (1 : Fin 2) = t.val / 12 % 2
    ∧ win0_1.index t (0 : Fin 2) = t.val % 4 ∧ win0_1.index t (1 : Fin 2) = t.val / 4 % 3
    ∧ win0_2.index t (0 : Fin 2) = t.val / 12 % 2 ∧ win0_2.index t (1 : Fin 2) = t.val / 4 % 3 :=
  (by decide +kernel : ∀ t : Fin grid0.N, _)

theorem block_0 (c : Dev nD) (t : Fin cfg0.N) (l : Fin 1024) (p : Fin 512) :
    (iblk m c 0 t : Vec Ideal S1024x512 .bf16) (ix2 l p) = argA m c (ix2 (along t.val l) (down t.val p)) :=
  have hi := index_tile t
  congrArg (argA m c) (at_ix2 (off hi.1) (off hi.2.1))

theorem block_1 (c : Dev nD) (t : Fin cfg0.N) (l : Fin 1024) (q : Fin 768) :
    (iblk m c 1 t : Vec Ideal S1024x768 .bf16) (ix2 l q) = argB m c (ix2 (along t.val l) (across t.val q)) :=
  have hi := index_tile t
  congrArg (argB m c) (at_ix2 (off hi.2.2.1) (off hi.2.2.2.1))

/-! ## The products -/

/-- An entry of the result. -/
def entry (c : Dev nD) (i : Fin 1024) (j : Fin 2304) : EReal :=
  (∑ k : Fin 4096, argA m c (ix2 k i) * argB m c (ix2 k j))

/-- Block `k`'s part of the sum. -/
def part (c : Dev nD) (i : Fin 1024) (j : Fin 2304) (k : ℕ) : EReal :=
  ∑ l : Fin 1024, argA m c (ix2 (along k l) (i)) * argB m c (ix2 (along k l) (j))

theorem part_eq (c : Dev nD) (t : Fin cfg0.N) (p : Fin 512) (q : Fin 768) :
    tile (iblk m c 0 t) (iblk m c 1 t) p q = part m c (down t.val p) (across t.val q) (t.val % 4) := by
  unfold tile part
  refine Finset.sum_congr (M := EReal) rfl fun l _ => ?_
  have e : along (t.val % 4) l = along t.val l := into_congr (Nat.mod_mod _ _) l
  rw [e]
  exact congrArg₂ (fun a b : EReal => a * b) (block_0 m c t l p) (block_1 m c t l q)

theorem left (c : Dev nD) (t : Fin cfg0.N) (ht : t.val % 4 = 3) (p : Fin 512) (q : Fin 768) :
    (outsAt0 m c t.val t.isLt).1 (ix2 p q) = entry m c (down t.val p) (across t.val q) := by
  have hN : cfg0.N = 24 := N_0
  have e : (outsAt0 m c t.val t.isLt).2 (ix2 p q) = _ := folded (n := 4) (N := cfg0.N)
    (fun n h => (outsAt0 m c n h).2 (ix2 p q)) (fun n => part m c (down n p) (across n q))
    (fun n h h0 => by
      rw [outsAt0_A m c ⟨n, h⟩ h0 (by dsimp only; omega) (by dsimp only; omega), acc_A]
      dsimp only
      rw [pay_first, part_eq, h0])
    (fun n h h0 => by
      have e : (outsAt0 m c (n + 1) h).2 = k0_pay3 (F := Ideal) (iblk m c 0 ⟨n + 1, h⟩) (iblk m c 1 ⟨n + 1, h⟩) (outsAt0 m c n (Nat.lt_of_succ_lt h)).2 := by
        by_cases h1 : (n + 1) % 4 = 3
        · rw [outsAt0_C m c ⟨n + 1, h⟩ h0 (by dsimp only; omega) h1, acc_C]
          rfl
        · rw [outsAt0_B m c ⟨n + 1, h⟩ h0 (by dsimp only; omega) h1, acc_B]
          rfl
      rw [e, pay_next, part_eq])
    (fun n h0 => by
      have hd : down (n + 1) p = down n p := into_congr (by omega) p
      have hc : across (n + 1) q = across n q := into_congr (by omega) q
      rw [hd, hc]) t.val t.isLt
  rw [outsAt0_C m c t (by omega) (by omega) ht] at e ⊢
  rw [acc_C] at e
  rw [out_C]
  dsimp only at e ⊢
  rw [pay_last]
  unfold entry
  rw [← sum_into 4 1024]
  refine e.trans ?_
  rw [ht]
  rfl

/-- The whole array. -/
abbrev whole (c : Dev nD) : Vec Ideal S1024x2304 .bf16 := fun i => entry m c (i 0) (i 1)

theorem written (c : Dev nD) (t : Fin cfg0.N) (hf : (cfg0.win 2).flush t = true) :
    (dats m 0 c).flushed 2 t = ((cfg0.win 2).blk t).view.read (Elt Ideal) (whole m c) := by
  have hi := index_tile t
  show (cfg0.win 2).cut (grid0.coords t) ((dats m 0 c).after 2 t) = _
  rw [after0_2]
  funext j
  rw [View.read_apply]
  have hj : ((cfg0.win 2).blk t).view.emb j = ix2 (down t.val (j 0)) (across t.val (j 1)) := at_ix2 (off hi.2.2.2.2.1) (off hi.2.2.2.2.2)
  rw [hj]
  refine Eq.trans ?_ (left m c t ((flush0_2 t).mp hf) (j 0) (j 1))
  exact congrArg (outsAt0 m c t.val t.isLt).1 (ix2_eta (n0 := 512) (n1 := 768) j).symm

theorem final (c : Dev nD) : (dats m 0 c).arrAt 2 cfg0.N = whole m c :=
  (dats m 0 c).arrAt_eq_of_cover 2 (whole m c) (written m c) fun i => by
    have h0 : (i 0).val < 1024 := (i 0).isLt
    have h1 : (i 1).val < 2304 := (i 1).isLt
    have hN : cfg0.N = 24 := N_0
    obtain ⟨t, ht⟩ : ∃ t : Fin cfg0.N, t.val = ((i 0).val / 512 * 3 + (i 1).val / 768) * 4 + 3 := ⟨⟨_, by omega⟩, rfl⟩
    have hi := index_tile t
    refine ⟨t, (flush0_2 t).mpr (by omega), ?_⟩
    show i ∈ ((View.whole main_v0).slice (win0_2.rect t)).set
    rw [View.set_slice_whole, Rect.mem_set_unit]
    exact Fin.forall_fin_two.mpr ⟨within (s := 512) (by omega), within (s := 768) (by omega)⟩

end

/-! ## The reference -/

section
open Cert.GradQkvReferenceIdeal Cert.GradQkvReferenceIdeal.Gen

theorem ref_entry (a : FVec Ideal S4096x1024 .bf16) (b : FVec Ideal S4096x2304 .bf16) (i : Fin 1024) (j : Fin 2304) :
    (truncf .bf16 (Host.dotGeneral dot_S1024x4096_S4096x2304_S1024x2304_1_0_0_1_n_n none (transpose S1024x4096 [1, 0] (extf .f32 a bitsLt_bf16_f32) transposes_S4096x1024_S1024x4096_1_0) (extf .f32 b bitsLt_bf16_f32)) bitsLt_bf16_f32 : FVec Ideal S1024x2304 .bf16) (ix2 i j)
      = (∑ k, a (ix2 k i) * b (ix2 k j)) := by
  pointwise

end

/-! ## The claims -/

theorem frame_reference : quiescent_GradQkvReferenceIdeal := fun m g _ =>
  (θ_run _ _ _).mono (fun r h => ⟨fun c => (h c).2, sem_eq_zero_of_no_sems (by decide) r.2⟩)
    (GradQkvReferenceIdeal.Value.run (F := Ideal) m g)

theorem algebraic : algebraic_GradQkvIdeal_GradQkvReferenceIdeal := fun m g m' g' _ hm =>
  ⟨_, (θ_run _ _ _).mono (fun _ h c => ⟨(h c).1.trans ((GradQkvIdeal.Value.final2 m c).symm.trans (final m c)), (h c).2⟩)
      (GradQkvIdeal.Value.run m g),
    (θ_run _ _ _).mono (fun r h c => by
      obtain ⟨e0, e1⟩ := hm c
      obtain ⟨r1, r2⟩ := h c
      refine ⟨funext fun i => ?_, r2⟩
      rw [r1, e0, e1]
      exact (congrArg _ (ix2_eta (n0 := 1024) (n1 := 2304) i).symm).trans (ref_entry _ _ (i 0) (i 1)))
      (GradQkvReferenceIdeal.Value.run (F := Ideal) m' g')⟩

end Cert.GradQkv

end
-- ==== Proof.GradAux.lean ====
/-
# The gradient of the mixers' other projection

Each tile's product is taken in four steps, added up in the scratch.
-/
module

public import proofs.«01_k».proof.Defs
public import proofs.«01_k».proof.Proof.Products
public import proofs.«01_k».proof.Proof.Gen.GradAuxIdeal.Value
public import proofs.«01_k».proof.Proof.Gen.GradAux.Frame
public import proofs.«01_k».proof.Proof.Gen.GradAuxReferenceIdeal.Run

@[expose] public section

noncomputable section

open Idealize.ShloMosaic Idealize.ShloMosaic.TcCoe Idealize.SL.Sem Cert.Products

namespace Cert.GradAux

section
open Cert.GradAuxIdeal Cert.GradAuxIdeal.Gen

variable {F : FTy → Type} [FloatOps F]

/-! ## What a point leaves -/

theorem acc_A {c i a1 h1 a2 h2 a3 h3 a4 h4 hc hd he x0 x1} :
    sout0_A_0 (F := F) c i a1 h1 a2 h2 a3 h3 a4 h4 hc hd he x0 x1 = k0_pay2 x0 x1 := by
  unfold sout0_A_0
  rw [View.read_writes_eq_canon _ _ _ fun _ => scover0_A_0 ..]
  unfold kernelRun0_A
  dsimp only
  sl_unfold_words
  rw [View.canon_unit_zero zeros]
  simp only [View.readAt_eq_ld, h1.read_unread, h2.read_unread, h4.read_unread, ld_zeros, shapeCast_self]

theorem acc_B {c i a1 h1 a2 h2 a3 h3 a4 h4 hc hd he x0 x1 y} :
    sout0_B_0 (F := F) c i a1 h1 a2 h2 a3 h3 a4 h4 hc hd he x0 x1 y = k0_pay3 x0 x1 y := by
  unfold sout0_B_0
  rw [View.read_writes_eq_canon _ _ _ fun _ => scover0_B_0 ..]
  unfold kernelRun0_B
  dsimp only
  sl_unfold_words
  rw [View.canon_unit_zero zeros]
  simp only [View.readAt_eq_ld, h1.read_unread, h2.read_unread, h4.read_unread, ld_zeros, shapeCast_self]

theorem acc_C {c i a1 h1 a2 h2 a3 h3 a4 h4 hc hd he x0 x1 y} :
    sout0_C_0 (F := F) c i a1 h1 a2 h2 a3 h3 a4 h4 hc hd he x0 x1 y = k0_pay3 x0 x1 y := by
  unfold sout0_C_0
  rw [View.read_writes_eq_canon _ _ _ fun _ => scover0_C_0 ..]
  unfold kernelRun0_C
  dsimp only
  sl_unfold_words
  rw [View.canon_unit_zero zeros]
  simp only [View.readAt_eq_ld, h1.read_unread, h2.read_unread, h4.read_unread, ld_zeros, shapeCast_self]

theorem out_C {c i a1 h1 a2 h2 a3 h3 a4 h4 hc hd he x0 x1 y} :
    out0_C_2 (F := F) c i a1 h1 a2 h2 a3 h3 a4 h4 hc hd he x0 x1 y = k0_pay4 (k0_pay3 x0 x1 y) := by
  unfold out0_C_2
  rw [View.read_writes_eq_canon _ _ _ fun _ => cover0_C_2 ..]
  unfold kernelRun0_C
  dsimp only
  sl_unfold_words
  rw [View.canon_unit_zero zeros]
  simp only [View.readAt_eq_ld, h1.read_unread, h2.read_unread, h4.read_unread, ld_zeros, View.readCov_unit_zero (S := S512x640) _ zeros, shapeCast_self]

/-- A tile's product. -/
def tile (x0 : Vec Ideal S1024x512 .bf16) (x1 : Vec Ideal S1024x640 .f32) (p : Fin 512) (q : Fin 640) : EReal := ∑ l, x0 (ix2 l p) * x1 (ix2 l q)

theorem pay_first (x0 : Vec Ideal S1024x512 .bf16) (x1 : Vec Ideal S1024x640 .f32) (p : Fin 512) (q : Fin 640) :
    k0_pay2 (F := Ideal) x0 x1 (ix2 p q) = tile x0 x1 p q := by
  unfold tile
  pointwise [k0_pay1, k0_pay2, k0_pay3, k0_pay4]

theorem pay_next (x0 : Vec Ideal S1024x512 .bf16) (x1 : Vec Ideal S1024x640 .f32) (y : Vec Ideal S512x640 .f32) (p : Fin 512) (q : Fin 640) :
    k0_pay3 (F := Ideal) x0 x1 y (ix2 p q) = y (ix2 p q) + tile x0 x1 p q := by
  unfold tile
  pointwise [k0_pay1, k0_pay2, k0_pay3, k0_pay4]

theorem pay_last (y : Vec Ideal S512x640 .f32) (p : Fin 512) (q : Fin 640) :
    (k0_pay4 (y) : Vec Ideal S512x640 .bf16) (ix2 p q) = y (ix2 p q) := by
  pointwise [k0_pay1, k0_pay2, k0_pay3, k0_pay4]

/-! ## The blocks -/

variable (m : (ℓ : Loc nD τ sig) → Buf (Elt Ideal) ℓ)

/-- The arguments. -/
abbrev argA (c : Dev nD) : Vec Ideal S4096x1024 .bf16 := m ((c : Thread nD τ).loc main_arg0)
abbrev argB (c : Dev nD) : Vec Ideal S4096x640 .f32 := m ((c : Thread nD τ).loc main_arg1)

/-- Where the tile of a point lies. -/
abbrev down (t : ℕ) (p : Fin 512) : Fin 1024 := into 2 512 (t / 4) p
abbrev across (t : ℕ) (q : Fin 640) : Fin 640 := into 1 640 (t / 4) q
abbrev along (k : ℕ) (l : Fin 1024) : Fin 4096 := into 4 1024 k l

theorem index_tile : ∀ t : Fin cfg0.N, win0_0.index t (0 : Fin 2) = t.val % 4 ∧ win0_0.index t (1 : Fin 2) = t.val / 4 % 2
    ∧ win0_1.index t (0 : Fin 2) = t.val % 4 ∧ win0_1.index t (1 : Fin 2) = t.val / 4 % 1
    ∧ win0_2.index t (0 : Fin 2) = t.val / 4 % 2 ∧ win0_2.index t (1 : Fin 2) = t.val / 4 % 1 :=
  (by decide +kernel : ∀ t : Fin grid0.N, _)

theorem block_0 (c : Dev nD) (t : Fin cfg0.N) (l : Fin 1024) (p : Fin 512) :
    (iblk m c 0 t : Vec Ideal S1024x512 .bf16) (ix2 l p) = argA m c (ix2 (along t.val l) (down t.val p)) :=
  have hi := index_tile t
  congrArg (argA m c) (at_ix2 (off hi.1) (off hi.2.1))

theorem block_1 (c : Dev nD) (t : Fin cfg0.N) (l : Fin 1024) (q : Fin 640) :
    (iblk m c 1 t : Vec Ideal S1024x640 .f32) (ix2 l q) = argB m c (ix2 (along t.val l) (across t.val q)) :=
  have hi := index_tile t
  congrArg (argB m c) (at_ix2 (off hi.2.2.1) (off hi.2.2.2.1))

/-! ## The products -/

/-- An entry of the result. -/
def entry (c : Dev nD) (i : Fin 1024) (j : Fin 640) : EReal :=
  (∑ k : Fin 4096, argA m c (ix2 k i) * argB m c (ix2 k j))

/-- Block `k`'s part of the sum. -/
def part (c : Dev nD) (i : Fin 1024) (j : Fin 640) (k : ℕ) : EReal :=
  ∑ l : Fin 1024, argA m c (ix2 (along k l) (i)) * argB m c (ix2 (along k l) (j))

theorem part_eq (c : Dev nD) (t : Fin cfg0.N) (p : Fin 512) (q : Fin 640) :
    tile (iblk m c 0 t) (iblk m c 1 t) p q = part m c (down t.val p) (across t.val q) (t.val % 4) := by
  unfold tile part
  refine Finset.sum_congr (M := EReal) rfl fun l _ => ?_
  have e : along (t.val % 4) l = along t.val l := into_congr (Nat.mod_mod _ _) l
  rw [e]
  exact congrArg₂ (fun a b : EReal => a * b) (block_0 m c t l p) (block_1 m c t l q)

theorem left (c : Dev nD) (t : Fin cfg0.N) (ht : t.val % 4 = 3) (p : Fin 512) (q : Fin 640) :
    (outsAt0 m c t.val t.isLt).1 (ix2 p q) = entry m c (down t.val p) (across t.val q) := by
  have hN : cfg0.N = 8 := N_0
  have e : (outsAt0 m c t.val t.isLt).2 (ix2 p q) = _ := folded (n := 4) (N := cfg0.N)
    (fun n h => (outsAt0 m c n h).2 (ix2 p q)) (fun n => part m c (down n p) (across n q))
    (fun n h h0 => by
      rw [outsAt0_A m c ⟨n, h⟩ h0 (by dsimp only; omega) (by dsimp only; omega), acc_A]
      dsimp only
      rw [pay_first, part_eq, h0])
    (fun n h h0 => by
      have e : (outsAt0 m c (n + 1) h).2 = k0_pay3 (F := Ideal) (iblk m c 0 ⟨n + 1, h⟩) (iblk m c 1 ⟨n + 1, h⟩) (outsAt0 m c n (Nat.lt_of_succ_lt h)).2 := by
        by_cases h1 : (n + 1) % 4 = 3
        · rw [outsAt0_C m c ⟨n + 1, h⟩ h0 (by dsimp only; omega) h1, acc_C]
          rfl
        · rw [outsAt0_B m c ⟨n + 1, h⟩ h0 (by dsimp only; omega) h1, acc_B]
          rfl
      rw [e, pay_next, part_eq])
    (fun n h0 => by
      have hd : down (n + 1) p = down n p := into_congr (by omega) p
      have hc : across (n + 1) q = across n q := into_congr (by omega) q
      rw [hd, hc]) t.val t.isLt
  rw [outsAt0_C m c t (by omega) (by omega) ht] at e ⊢
  rw [acc_C] at e
  rw [out_C]
  dsimp only at e ⊢
  rw [pay_last]
  unfold entry
  rw [← sum_into 4 1024]
  refine e.trans ?_
  rw [ht]
  rfl

/-- The whole array. -/
abbrev whole (c : Dev nD) : Vec Ideal S1024x640 .bf16 := fun i => entry m c (i 0) (i 1)

theorem written (c : Dev nD) (t : Fin cfg0.N) (hf : (cfg0.win 2).flush t = true) :
    (dats m 0 c).flushed 2 t = ((cfg0.win 2).blk t).view.read (Elt Ideal) (whole m c) := by
  have hi := index_tile t
  show (cfg0.win 2).cut (grid0.coords t) ((dats m 0 c).after 2 t) = _
  rw [after0_2]
  funext j
  rw [View.read_apply]
  have hj : ((cfg0.win 2).blk t).view.emb j = ix2 (down t.val (j 0)) (across t.val (j 1)) := at_ix2 (off hi.2.2.2.2.1) (off hi.2.2.2.2.2)
  rw [hj]
  refine Eq.trans ?_ (left m c t ((flush0_2 t).mp hf) (j 0) (j 1))
  exact congrArg (outsAt0 m c t.val t.isLt).1 (ix2_eta (n0 := 512) (n1 := 640) j).symm

theorem final (c : Dev nD) : (dats m 0 c).arrAt 2 cfg0.N = whole m c :=
  (dats m 0 c).arrAt_eq_of_cover 2 (whole m c) (written m c) fun i => by
    have h0 : (i 0).val < 1024 := (i 0).isLt
    have h1 : (i 1).val < 640 := (i 1).isLt
    have hN : cfg0.N = 8 := N_0
    obtain ⟨t, ht⟩ : ∃ t : Fin cfg0.N, t.val = ((i 0).val / 512 * 1 + (i 1).val / 640) * 4 + 3 := ⟨⟨_, by omega⟩, rfl⟩
    have hi := index_tile t
    refine ⟨t, (flush0_2 t).mpr (by omega), ?_⟩
    show i ∈ ((View.whole main_v0).slice (win0_2.rect t)).set
    rw [View.set_slice_whole, Rect.mem_set_unit]
    exact Fin.forall_fin_two.mpr ⟨within (s := 512) (by omega), within (s := 640) (by omega)⟩

end

/-! ## The reference -/

section
open Cert.GradAuxReferenceIdeal Cert.GradAuxReferenceIdeal.Gen

theorem ref_entry (a : FVec Ideal S4096x1024 .bf16) (b : FVec Ideal S4096x640 .f32) (i : Fin 1024) (j : Fin 640) :
    (truncf .bf16 (Host.dotGeneral dot_S1024x4096_S4096x640_S1024x640_1_0_0_1_n_n none (transpose S1024x4096 [1, 0] (extf .f32 a bitsLt_bf16_f32) transposes_S4096x1024_S1024x4096_1_0) (b)) bitsLt_bf16_f32 : FVec Ideal S1024x640 .bf16) (ix2 i j)
      = (∑ k, a (ix2 k i) * b (ix2 k j)) := by
  pointwise

end

/-! ## The claims -/

theorem frame_reference : quiescent_GradAuxReferenceIdeal := fun m g _ =>
  (θ_run _ _ _).mono (fun r h => ⟨fun c => (h c).2, sem_eq_zero_of_no_sems (by decide) r.2⟩)
    (GradAuxReferenceIdeal.Value.run (F := Ideal) m g)

theorem algebraic : algebraic_GradAuxIdeal_GradAuxReferenceIdeal := fun m g m' g' _ hm =>
  ⟨_, (θ_run _ _ _).mono (fun _ h c => ⟨(h c).1.trans ((GradAuxIdeal.Value.final2 m c).symm.trans (final m c)), (h c).2⟩)
      (GradAuxIdeal.Value.run m g),
    (θ_run _ _ _).mono (fun r h c => by
      obtain ⟨e0, e1⟩ := hm c
      obtain ⟨r1, r2⟩ := h c
      refine ⟨funext fun i => ?_, r2⟩
      rw [r1, e0, e1]
      exact (congrArg _ (ix2_eta (n0 := 1024) (n1 := 640) i).symm).trans (ref_entry _ _ (i 0) (i 1)))
      (GradAuxReferenceIdeal.Value.run (F := Ideal) m' g')⟩

end Cert.GradAux

end
-- ==== Proof.NormFwd.lean ====
/-
# Normed rows

What an entry of a norm's rows is, whatever the rows' count.
-/
module

public import proofs.«01_k».proof.Defs
public import proofs.«01_k».proof.Proof.Products

@[expose] public section

noncomputable section

open Idealize.ShloMosaic

namespace Cert.NormFwd

/-- An entry of the normed rows: the number over the root of the row's mean square, times its column's gain. -/
def entry {r : ℕ} (x : FVec Ideal ⟨2, ![r, 1024]⟩ .f32) (g : FVec Ideal ⟨2, ![1, 1024]⟩ .f32) (i : Fin r) (j : Fin 1024) : EReal :=
  x (ix2 i j) * Ideal.rsqrt (Ideal.div (∑ k, x (ix2 i k) * x (ix2 i k)) (Ideal.ofBits .f32 0x44800000#32) + Ideal.ofBits .f32 0x358637BD#32) * g (ix2 0 j)

theorem entry_congr {r r' : ℕ} {x : FVec Ideal ⟨2, ![r, 1024]⟩ .f32} {x' : FVec Ideal ⟨2, ![r', 1024]⟩ .f32} {g g' : FVec Ideal ⟨2, ![1, 1024]⟩ .f32}
    {i : Fin r} {i' : Fin r'} (hx : ∀ k, x (ix2 i k) = x' (ix2 i' k)) (hg : ∀ k, g (ix2 0 k) = g' (ix2 0 k)) (j : Fin 1024) :
    entry x g i j = entry x' g' i' j := by
  unfold entry
  rw [hx, hg, Finset.sum_congr (M := EReal) rfl fun k _ => by rw [hx]]

end Cert.NormFwd

end
-- ==== Proof.NormMix.lean ====
/-
# The norm of the stream

Each block of rows is normed on its own.
-/
module

public import proofs.«01_k».proof.Defs
public import proofs.«01_k».proof.Proof.NormFwd
public import proofs.«01_k».proof.Proof.Gen.NormMixIdeal.Value
public import proofs.«01_k».proof.Proof.Gen.NormMix.Frame
public import proofs.«01_k».proof.Proof.Gen.NormMixReferenceIdeal.Run

@[expose] public section

noncomputable section

open Idealize.ShloMosaic Idealize.ShloMosaic.TcCoe Idealize.SL.Sem Cert.NormFwd Cert.Products

namespace Cert.NormMix

section
open Cert.NormMixIdeal Cert.NormMixIdeal.Gen

theorem pay_at (x : Vec Ideal S512x1024 .f32) (g : Vec Ideal S1x1024 .f32) (p : Fin 512) (q : Fin 1024) :
    (k0_pay1 x g : Vec Ideal S512x1024 .bf16) (ix2 p q) = entry x g p q := by
  unfold entry
  pointwise [k0_pay1]

theorem out_at (x : Vec Ideal S512x1024 .f32) (g : Vec Ideal S1x1024 .f32) (p : Fin 512) (q : Fin 1024) :
    (out0_2 x g : Vec Ideal S512x1024 .bf16) (ix2 p q) = entry x g p q := by
  unfold out0_2
  rw [View.canon_unit_zero zeros, View.ld_unit_zero (S := S512x1024) zeros, View.ld_unit_zero (S := S1x1024) zeros]
  exact pay_at x g p q

/-! ## The blocks -/

variable (m : (ℓ : Loc nD τ sig) → Buf (Elt Ideal) ℓ)

/-- The arguments. -/
abbrev argX (c : Dev nD) : Vec Ideal S4096x1024 .f32 := m ((c : Thread nD τ).loc main_arg0)
abbrev argG (c : Dev nD) : Vec Ideal S1x1024 .f32 := m ((c : Thread nD τ).loc main_arg1)

/-- Where a point's rows lie. -/
abbrev down (t : ℕ) (p : Fin 512) : Fin 4096 := into 8 512 t p

theorem index_tile : ∀ t : Fin cfg0.N, win0_0.index t (0 : Fin 2) = t.val % 8 ∧ win0_0.index t (1 : Fin 2) = 0
    ∧ win0_1.index t (0 : Fin 2) = 0 ∧ win0_1.index t (1 : Fin 2) = 0
    ∧ win0_2.index t (0 : Fin 2) = t.val % 8 ∧ win0_2.index t (1 : Fin 2) = 0 :=
  (by decide +kernel : ∀ t : Fin grid0.N, _)

theorem block_0 (c : Dev nD) (t : Fin cfg0.N) (p : Fin 512) (l : Fin 1024) :
    (iblk m c 0 t : Vec Ideal S512x1024 .f32) (ix2 p l) = argX m c (ix2 (down t.val p) l) :=
  have hi := index_tile t
  congrArg (argX m c) (at_ix2 (off hi.1) (at_zero hi.2.1))

theorem block_1 (c : Dev nD) (t : Fin cfg0.N) (n : Fin 1) (l : Fin 1024) :
    (iblk m c 1 t : Vec Ideal S1x1024 .f32) (ix2 n l) = argG m c (ix2 n l) :=
  have hi := index_tile t
  congrArg (argG m c) (at_ix2 (at_zero hi.2.2.1) (at_zero hi.2.2.2.1))

/-- The whole array. -/
abbrev whole (c : Dev nD) : Vec Ideal S4096x1024 .bf16 := fun i => entry (argX m c) (argG m c) (i 0) (i 1)

theorem written (c : Dev nD) (t : Fin cfg0.N) (hf : (cfg0.win 2).flush t = true) :
    (dats m 0 c).flushed 2 t = ((cfg0.win 2).blk t).view.read (Elt Ideal) (whole m c) := by
  have hi := index_tile t
  rw [NormMixIdeal.Value.flushed2]
  funext j
  rw [View.read_apply]
  have hj : ((cfg0.win 2).blk t).view.emb j = ix2 (down t.val (j 0)) (j 1) := at_ix2 (off hi.2.2.2.2.1) (at_zero hi.2.2.2.2.2)
  rw [hj]
  exact (congrArg (out0_2 (iblk m c 0 t) (iblk m c 1 t)) (ix2_eta (n0 := 512) (n1 := 1024) j).symm).trans
    ((out_at _ _ (j 0) (j 1)).trans (entry_congr (fun l => block_0 m c t (j 0) l) (fun l => block_1 m c t 0 l) (j 1)))

theorem final (c : Dev nD) : (dats m 0 c).arrAt 2 cfg0.N = whole m c :=
  (dats m 0 c).arrAt_eq_of_cover 2 (whole m c) (written m c) fun i => by
    have h0 : (i 0).val < 4096 := (i 0).isLt
    have h1 : (i 1).val < 1024 := (i 1).isLt
    have hN : cfg0.N = 8 := N_0
    obtain ⟨t, ht⟩ : ∃ t : Fin cfg0.N, t.val = (i 0).val / 512 := ⟨⟨_, by omega⟩, rfl⟩
    have hi := index_tile t
    refine ⟨t, flush0_2 t, ?_⟩
    show i ∈ ((View.whole main_v0).slice (win0_2.rect t)).set
    rw [View.set_slice_whole, Rect.mem_set_unit]
    exact Fin.forall_fin_two.mpr ⟨within (s := 512) (by omega), within (s := 1024) (by omega)⟩

end

section
open Cert.NormMixReferenceIdeal Cert.NormMixReferenceIdeal.Gen

/-- The reference's result: the same entry. -/
theorem ref_entry (x : FVec Ideal S4096x1024 .f32) (g : FVec Ideal S1x1024 .f32) (i : Fin 4096) (j : Fin 1024) :
    (truncf .bf16 (mulf (mulf x (broadcastInDim S4096x1024 ![0, 1] bcast_S4096x1_S4096x1024_0_1
        (Host.rsqrt (addf (Host.divf (broadcastInDim S4096x1 ![0] bcast_S4096_S4096x1_0
            (Host.reduceAdd (mulf x x) (constant S_ .f32 0#32) reducesTo_S4096x1024_S4096_d1 h_S_))
          (broadcastInDim S4096x1 ![] bcast_S_S4096x1 (constant S_ .f32 1149239296#32)))
          (broadcastInDim S4096x1 ![] bcast_S_S4096x1 (constant S_ .f32 897988541#32))))))
      (broadcastInDim S4096x1024 ![0, 1] bcast_S1x1024_S4096x1024_0_1 g)) bitsLt_bf16_f32 : FVec Ideal S4096x1024 .bf16) (ix2 i j)
      = entry x g i j := by
  unfold entry
  pointwise

end

/-! ## The claims -/

theorem frame_reference : quiescent_NormMixReferenceIdeal := fun m g _ =>
  (θ_run _ _ _).mono (fun r h => ⟨fun c => (h c).2, sem_eq_zero_of_no_sems (by decide) r.2⟩)
    (NormMixReferenceIdeal.Value.run (F := Ideal) m g)

theorem algebraic : algebraic_NormMixIdeal_NormMixReferenceIdeal := fun m g m' g' _ hm =>
  ⟨_, (θ_run _ _ _).mono (fun _ h c => ⟨(h c).1.trans (final m c), (h c).2⟩)
      (NormMixIdeal.Value.run_blocks m g),
    (θ_run _ _ _).mono (fun r h c => by
      obtain ⟨e0, e1⟩ := hm c
      obtain ⟨r1, r2⟩ := h c
      refine ⟨funext fun i => ?_, r2⟩
      rw [r1, e0, e1]
      exact (congrArg _ (ix2_eta (n0 := 4096) (n1 := 1024) i).symm).trans (ref_entry _ _ (i 0) (i 1)))
      (NormMixReferenceIdeal.Value.run (F := Ideal) m' g')⟩

end Cert.NormMix

end
-- ==== Proof.NormMem.lean ====
/-
# The norm of the memory

Each block of rows is normed on its own.
-/
module

public import proofs.«01_k».proof.Defs
public import proofs.«01_k».proof.Proof.NormFwd
public import proofs.«01_k».proof.Proof.Gen.NormMemIdeal.Value
public import proofs.«01_k».proof.Proof.Gen.NormMem.Frame
public import proofs.«01_k».proof.Proof.Gen.NormMemReferenceIdeal.Run

@[expose] public section

noncomputable section

open Idealize.ShloMosaic Idealize.ShloMosaic.TcCoe Idealize.SL.Sem Cert.NormFwd Cert.Products

namespace Cert.NormMem

section
open Cert.NormMemIdeal Cert.NormMemIdeal.Gen

theorem pay_at (x : Vec Ideal S512x1024 .f32) (g : Vec Ideal S1x1024 .f32) (p : Fin 512) (q : Fin 1024) :
    (k0_pay1 x g : Vec Ideal S512x1024 .bf16) (ix2 p q) = entry x g p q := by
  unfold entry
  pointwise [k0_pay1]

theorem out_at (x : Vec Ideal S512x1024 .f32) (g : Vec Ideal S1x1024 .f32) (p : Fin 512) (q : Fin 1024) :
    (out0_2 x g : Vec Ideal S512x1024 .bf16) (ix2 p q) = entry x g p q := by
  unfold out0_2
  rw [View.canon_unit_zero zeros, View.ld_unit_zero (S := S512x1024) zeros, View.ld_unit_zero (S := S1x1024) zeros]
  exact pay_at x g p q

/-! ## The blocks -/

variable (m : (ℓ : Loc nD τ sig) → Buf (Elt Ideal) ℓ)

/-- The arguments. -/
abbrev argX (c : Dev nD) : Vec Ideal S512x1024 .f32 := m ((c : Thread nD τ).loc main_arg0)
abbrev argG (c : Dev nD) : Vec Ideal S1x1024 .f32 := m ((c : Thread nD τ).loc main_arg1)

/-- Where a point's rows lie. -/
abbrev down (t : ℕ) (p : Fin 512) : Fin 512 := into 1 512 t p

theorem index_tile : ∀ t : Fin cfg0.N, win0_0.index t (0 : Fin 2) = t.val % 1 ∧ win0_0.index t (1 : Fin 2) = 0
    ∧ win0_1.index t (0 : Fin 2) = 0 ∧ win0_1.index t (1 : Fin 2) = 0
    ∧ win0_2.index t (0 : Fin 2) = t.val % 1 ∧ win0_2.index t (1 : Fin 2) = 0 :=
  (by decide +kernel : ∀ t : Fin grid0.N, _)

theorem block_0 (c : Dev nD) (t : Fin cfg0.N) (p : Fin 512) (l : Fin 1024) :
    (iblk m c 0 t : Vec Ideal S512x1024 .f32) (ix2 p l) = argX m c (ix2 (down t.val p) l) :=
  have hi := index_tile t
  congrArg (argX m c) (at_ix2 (off hi.1) (at_zero hi.2.1))

theorem block_1 (c : Dev nD) (t : Fin cfg0.N) (n : Fin 1) (l : Fin 1024) :
    (iblk m c 1 t : Vec Ideal S1x1024 .f32) (ix2 n l) = argG m c (ix2 n l) :=
  have hi := index_tile t
  congrArg (argG m c) (at_ix2 (at_zero hi.2.2.1) (at_zero hi.2.2.2.1))

/-- The whole array. -/
abbrev whole (c : Dev nD) : Vec Ideal S512x1024 .bf16 := fun i => entry (argX m c) (argG m c) (i 0) (i 1)

theorem written (c : Dev nD) (t : Fin cfg0.N) (hf : (cfg0.win 2).flush t = true) :
    (dats m 0 c).flushed 2 t = ((cfg0.win 2).blk t).view.read (Elt Ideal) (whole m c) := by
  have hi := index_tile t
  rw [NormMemIdeal.Value.flushed2]
  funext j
  rw [View.read_apply]
  have hj : ((cfg0.win 2).blk t).view.emb j = ix2 (down t.val (j 0)) (j 1) := at_ix2 (off hi.2.2.2.2.1) (at_zero hi.2.2.2.2.2)
  rw [hj]
  exact (congrArg (out0_2 (iblk m c 0 t) (iblk m c 1 t)) (ix2_eta (n0 := 512) (n1 := 1024) j).symm).trans
    ((out_at _ _ (j 0) (j 1)).trans (entry_congr (fun l => block_0 m c t (j 0) l) (fun l => block_1 m c t 0 l) (j 1)))

theorem final (c : Dev nD) : (dats m 0 c).arrAt 2 cfg0.N = whole m c :=
  (dats m 0 c).arrAt_eq_of_cover 2 (whole m c) (written m c) fun i => by
    have h0 : (i 0).val < 512 := (i 0).isLt
    have h1 : (i 1).val < 1024 := (i 1).isLt
    have hN : cfg0.N = 1 := N_0
    obtain ⟨t, ht⟩ : ∃ t : Fin cfg0.N, t.val = (i 0).val / 512 := ⟨⟨_, by omega⟩, rfl⟩
    have hi := index_tile t
    refine ⟨t, flush0_2 t, ?_⟩
    show i ∈ ((View.whole main_v0).slice (win0_2.rect t)).set
    rw [View.set_slice_whole, Rect.mem_set_unit]
    exact Fin.forall_fin_two.mpr ⟨within (s := 512) (by omega), within (s := 1024) (by omega)⟩

end

section
open Cert.NormMemReferenceIdeal Cert.NormMemReferenceIdeal.Gen

/-- The reference's result: the same entry. -/
theorem ref_entry (x : FVec Ideal S512x1024 .f32) (g : FVec Ideal S1x1024 .f32) (i : Fin 512) (j : Fin 1024) :
    (truncf .bf16 (mulf (mulf x (broadcastInDim S512x1024 ![0, 1] bcast_S512x1_S512x1024_0_1
        (Host.rsqrt (addf (Host.divf (broadcastInDim S512x1 ![0] bcast_S512_S512x1_0
            (Host.reduceAdd (mulf x x) (constant S_ .f32 0#32) reducesTo_S512x1024_S512_d1 h_S_))
          (broadcastInDim S512x1 ![] bcast_S_S512x1 (constant S_ .f32 1149239296#32)))
          (broadcastInDim S512x1 ![] bcast_S_S512x1 (constant S_ .f32 897988541#32))))))
      (broadcastInDim S512x1024 ![0, 1] bcast_S1x1024_S512x1024_0_1 g)) bitsLt_bf16_f32 : FVec Ideal S512x1024 .bf16) (ix2 i j)
      = entry x g i j := by
  unfold entry
  pointwise

end

/-! ## The claims -/

theorem frame_reference : quiescent_NormMemReferenceIdeal := fun m g _ =>
  (θ_run _ _ _).mono (fun r h => ⟨fun c => (h c).2, sem_eq_zero_of_no_sems (by decide) r.2⟩)
    (NormMemReferenceIdeal.Value.run (F := Ideal) m g)

theorem algebraic : algebraic_NormMemIdeal_NormMemReferenceIdeal := fun m g m' g' _ hm =>
  ⟨_, (θ_run _ _ _).mono (fun _ h c => ⟨(h c).1.trans (final m c), (h c).2⟩)
      (NormMemIdeal.Value.run_blocks m g),
    (θ_run _ _ _).mono (fun r h c => by
      obtain ⟨e0, e1⟩ := hm c
      obtain ⟨r1, r2⟩ := h c
      refine ⟨funext fun i => ?_, r2⟩
      rw [r1, e0, e1]
      exact (congrArg _ (ix2_eta (n0 := 512) (n1 := 1024) i).symm).trans (ref_entry _ _ (i 0) (i 1)))
      (NormMemReferenceIdeal.Value.run (F := Ideal) m' g')⟩

end Cert.NormMem

end
-- ==== Proof.Dilated.lean ====
/-
# Attention in a band

A query sees itself and the 128 positions before it. A key out of sight has the score −∞, so its weight is zero whatever its value.
-/
module

public import proofs.«01_k».proof.Defs
public import proofs.«01_k».proof.Proof.CrossFwd
public import Idealize.ShloMosaic.Lib.Pipeline.FrameBody

@[expose] public section

noncomputable section

open Idealize.ShloMosaic Cert.Cross

namespace Cert.Dilated

theorem rise_of_bot {s : Fin 256 → EReal} {n : Fin 256} (h : s n = ⊥) : rise s n = 0 := by
  unfold rise
  rw [h, sub_eq_add_neg, EReal.bot_add]
  rfl

/-- The values, averaged by the softmax of the scores; and the logarithm of its denominator. -/
def blend (s v : Fin 256 → EReal) : EReal := Ideal.div (∑ n, rise s n * v n) (∑ n, rise s n)
def height (s : Fin 256 → EReal) : EReal := Finset.fold max lowest (fun n => s n) Finset.univ + Ideal.log (∑ n, rise s n)

theorem blend_congr {s v v' : Fin 256 → EReal} (h : ∀ n, s n = ⊥ ∨ v n = v' n) : blend s v = blend s v' := by
  unfold blend
  refine congrArg (fun x => Ideal.div x _) (Finset.sum_congr (M := EReal) rfl fun n _ => ?_)
  rcases h n with e | e
  · rw [rise_of_bot e, zero_mul, zero_mul]
  · rw [e]

/-- A sum over the two halves of the keys. -/
theorem sum_halves (f : Fin 256 → EReal) : (∑ n : Fin 128, f ⟨n.val, by omega⟩) + ∑ n : Fin 128, f ⟨128 + n.val, by omega⟩ = ∑ n, f n :=
  (Fin.sum_univ_add (M := EReal) (a := 128) (b := 128) f).symm

/-- What a query sees: `c` blocks to a class. -/
def sees (c : ℕ) (g : ℕ) (p : Fin 128) (n : Fin 256) : Prop := p.val ≤ n.val ∧ n.val ≤ p.val + 128 ∧ (g % c ≠ 0 ∨ 128 ≤ n.val)

instance (c g : ℕ) (p : Fin 128) (n : Fin 256) : Decidable (sees c g p n) := inferInstanceAs (Decidable (_ ∧ _ ∧ _))

theorem toInt_small (z : ℕ) (hz : z < 2 ^ 31) : (BitVec.ofNat 32 z).toInt = z := by
  rw [BitVec.toInt_eq_toNat_cond, BitVec.toNat_ofNat, Nat.mod_eq_of_lt (by omega), if_pos (by omega)]

theorem le_bit (x y : BitVec 32) : IntOp.cmpi .sle x y = if x.toInt ≤ y.toInt then 1#1 else 0#1 := by
  show BitVec.ofBool (decide (x.toInt ≤ y.toInt)) = _
  by_cases h : x.toInt ≤ y.toInt
  · rw [if_pos h, decide_eq_true h]; rfl
  · rw [if_neg h, decide_eq_false h]; rfl

theorem ge_bit (x y : BitVec 32) : IntOp.cmpi .sge x y = if y.toInt ≤ x.toInt then 1#1 else 0#1 := le_bit y x

theorem both_bit (A B : Prop) [Decidable A] [Decidable B] : IntOp.andi (if A then 1#1 else 0#1) (if B then 1#1 else 0#1) = if A ∧ B then 1#1 else 0#1 := by
  by_cases hA : A <;> by_cases hB : B <;> simp only [hA, hB, and_self, and_false, false_and, if_true, if_false] <;> rfl

theorem either_bit (A B : Prop) [Decidable A] [Decidable B] : IntOp.ori (if A then 1#1 else 0#1) (if B then 1#1 else 0#1) = if A ∨ B then 1#1 else 0#1 := by
  by_cases hA : A <;> by_cases hB : B <;> simp only [hA, hB, or_self, or_false, false_or, if_true, if_false] <;> rfl

theorem near_bit (p : Fin 128) (n : Fin 256) :
    IntOp.andi (IntOp.cmpi .sge (BitVec.ofNat 32 n.val) (BitVec.ofNat 32 p.val))
        (IntOp.cmpi .sle (BitVec.ofNat 32 n.val) (IntOp.addi (BitVec.ofNat 32 p.val) 128#32))
      = if p.val ≤ n.val ∧ n.val ≤ p.val + 128 then 1#1 else 0#1 := by
  rw [show IntOp.addi (BitVec.ofNat 32 p.val) 128#32 = BitVec.ofNat 32 (p.val + 128) from (BitVec.ofNat_add _ _).symm, ge_bit, le_bit, both_bit,
    toInt_small _ (by omega), toInt_small _ (by omega), toInt_small _ (by omega)]
  exact if_congr (by omega) rfl rfl

theorem past_bit (n : Fin 256) : IntOp.cmpi .sge (BitVec.ofNat 32 n.val) 128#32 = if 128 ≤ n.val then 1#1 else 0#1 := by
  rw [ge_bit, toInt_small _ (by omega), toInt_small _ (by omega)]
  exact if_congr (by omega) rfl rfl

theorem sees_bit (c g : ℕ) (p : Fin 128) (n : Fin 256) :
    IntOp.andi (if p.val ≤ n.val ∧ n.val ≤ p.val + 128 then 1#1 else 0#1)
        (IntOp.ori (if g % c ≠ 0 then 1#1 else 0#1) (if 128 ≤ n.val then 1#1 else 0#1))
      = if sees c g p n then 1#1 else 0#1 := by
  rw [either_bit, both_bit]
  exact if_congr and_assoc rfl rfl

/-- The row of a key of row `i`'s block. -/
def keyRow (i : Fin 4096) (n : Fin 256) : Fin 4096 :=
  if h : n.val < 128 then ⟨128 * (i.val / 128 - 1) + n.val, by omega⟩ else ⟨128 * (i.val / 128) + (n.val - 128), by omega⟩

abbrev within (i : Fin 4096) : Fin 128 := ⟨i.val % 128, by omega⟩
abbrev ofQuery (h : Fin 4) (d : Fin 64) : Fin 768 := ⟨64 * h.val + d.val, by omega⟩
abbrev ofKey (h : Fin 4) (d : Fin 64) : Fin 768 := ⟨256 + (64 * h.val + d.val), by omega⟩
abbrev ofValue (h : Fin 4) (d : Fin 64) : Fin 768 := ⟨512 + (64 * h.val + d.val), by omega⟩

section
variable (c : ℕ) (o : Fin 9) (a : FVec Ideal ⟨2, ![4096, 768]⟩ .bf16) (b : FVec Ideal ⟨3, ![12, 128, 256]⟩ .f32)

/-- The scores of row `i` in head `h`, with the biases from the `o`-th on. -/
def score (i : Fin 4096) (h : Fin 4) (n : Fin 256) : EReal :=
  if sees c (i.val / 128) (within i) n then
    (∑ d, a (ix2 i (ofQuery h d)) * eighth * a (ix2 (keyRow i n) (ofKey h d))) + b (ix3 (⟨o.val + h.val, by omega⟩ : Fin 12) (within i) n)
  else ⊥

/-- An entry of the attention, and of its denominators' logarithms. -/
def mixed (i : Fin 4096) (h : Fin 4) (d : Fin 64) : EReal :=
  blend (score c o a b i h) (fun n => a (ix2 (keyRow i n) (ofValue h d)))

def logged (i : Fin 4096) (l : Fin 128) : EReal :=
  if h : l.val < 4 then height (score c o a b i ⟨l.val, h⟩) else 0

end

/-- The scores from one head's columns: its queries, the block of keys before and the queries' own, the biases. -/
def seen (c g : ℕ) (q k k' : FVec Ideal ⟨2, ![128, 64]⟩ .bf16) (b : FVec Ideal ⟨3, ![1, 128, 256]⟩ .f32) (p : Fin 128) (n : Fin 256) : EReal :=
  if sees c g p n then
    (if h : n.val < 128 then ∑ d, q (ix2 p d) * eighth * k (ix2 ⟨n.val, h⟩ d) else ∑ d, q (ix2 p d) * eighth * k' (ix2 ⟨n.val - 128, by omega⟩ d)) + b (ix3 0 p n)
  else ⊥

def either (v v' : FVec Ideal ⟨2, ![128, 64]⟩ .bf16) (e : Fin 64) (n : Fin 256) : EReal :=
  if h : n.val < 128 then v (ix2 ⟨n.val, h⟩ e) else v' (ix2 ⟨n.val - 128, by omega⟩ e)

/-- Row `p` of block `g`. -/
abbrev down (g : Fin 32) (p : Fin 128) : Fin 4096 := ⟨128 * g.val + p.val, by omega⟩

/-- They are the row's, if the columns are its head's. -/
theorem seen_eq {c : ℕ} {o : Fin 9} {a : FVec Ideal ⟨2, ![4096, 768]⟩ .bf16} {b : FVec Ideal ⟨3, ![12, 128, 256]⟩ .f32} {g : Fin 32} {h : Fin 4} {p : Fin 128}
    {q k k' : FVec Ideal ⟨2, ![128, 64]⟩ .bf16} {b' : FVec Ideal ⟨3, ![1, 128, 256]⟩ .f32}
    (hq : ∀ d, q (ix2 p d) = a (ix2 (down g p) (ofQuery h d)))
    (hk : ∀ n d, k (ix2 n d) = a (ix2 (⟨128 * (g.val - 1) + n.val, by omega⟩ : Fin 4096) (ofKey h d)))
    (hk' : ∀ n d, k' (ix2 n d) = a (ix2 (down g n) (ofKey h d)))
    (hb : ∀ n, b' (ix3 0 p n) = b (ix3 (⟨o.val + h.val, by omega⟩ : Fin 12) p n)) :
    seen c g.val q k k' b' p = score c o a b (down g p) h := by
  have hg : (128 * g.val + p.val) / 128 = g.val := by omega
  have hp : within (down g p) = p := Fin.ext (by show (128 * g.val + p.val) % 128 = p.val; omega)
  funext n
  unfold seen score
  rw [hp, hb]
  refine (if_congr (iff_of_eq (congrArg (fun x => sees c x p n) hg.symm)) (congrArg (fun x : EReal => x + _) ?_) rfl)
  unfold keyRow
  by_cases hn : n.val < 128
  · rw [dif_pos hn]
    refine Finset.sum_congr (M := EReal) rfl fun d _ => ?_
    rw [hq, hk]
    refine congrArg (fun x : EReal => _ * x) (congrArg a (congrArg (fun r => ix2 r _) ?_))
    rw [dif_pos hn]
    exact Fin.ext (by show 128 * (g.val - 1) + n.val = 128 * ((128 * g.val + p.val) / 128 - 1) + n.val; omega)
  · rw [dif_neg hn]
    refine Finset.sum_congr (M := EReal) rfl fun d _ => ?_
    rw [hq, hk']
    refine congrArg (fun x : EReal => _ * x) (congrArg a (congrArg (fun r => ix2 r _) ?_))
    rw [dif_neg hn]
    exact Fin.ext (by show 128 * g.val + (n.val - 128) = 128 * ((128 * g.val + p.val) / 128) + (n.val - 128); omega)

theorem either_eq {a : FVec Ideal ⟨2, ![4096, 768]⟩ .bf16} {g : Fin 32} {h : Fin 4} {p : Fin 128} {e : Fin 64} {v v' : FVec Ideal ⟨2, ![128, 64]⟩ .bf16}
    (hv : ∀ n, v (ix2 n e) = a (ix2 (⟨128 * (g.val - 1) + n.val, by omega⟩ : Fin 4096) (ofValue h e)))
    (hv' : ∀ n, v' (ix2 n e) = a (ix2 (down g n) (ofValue h e))) :
    either v v' e = fun n => a (ix2 (keyRow (down g p) n) (ofValue h e)) := by
  funext n
  unfold either keyRow
  by_cases hn : n.val < 128
  · rw [dif_pos hn, hv, dif_pos hn]
    refine congrArg a (congrArg (fun r => ix2 r _) (Fin.ext ?_))
    show 128 * (g.val - 1) + n.val = 128 * ((128 * g.val + p.val) / 128 - 1) + n.val; omega
  · rw [dif_neg hn, hv', dif_neg hn]
    refine congrArg a (congrArg (fun r => ix2 r _) (Fin.ext ?_))
    show 128 * g.val + (n.val - 128) = 128 * ((128 * g.val + p.val) / 128) + (n.val - 128); omega

/-- A column written last. -/
theorem canon_column {o : ℕ} (inb : ∀ a, (![0, o] : Fin 2 → ℕ) a + (⟨2, ![128, 1]⟩ : Shape).size a ≤ (⟨2, ![128, 128]⟩ : Shape).size a)
    (w : (⟨2, ![128, 1]⟩ : Shape).Idx → Elt Ideal .f32) (L : List (View.Piece (Elt Ideal) ⟨2, ![128, 128]⟩ .f32)) (p j : Fin 128) :
    View.canon ((⟨Rect.unit (s := (⟨2, ![128, 128]⟩ : Shape)) ![0, o] (⟨2, ![128, 1]⟩ : Shape).size inb, w⟩ : View.Piece (Elt Ideal) ⟨2, ![128, 128]⟩ .f32) :: L) (ix2 p j)
      = if j.val = o then w (ix2 p 0) else View.canon L (ix2 p j) := by
  by_cases h : j.val = o
  · rw [if_pos h]
    have e : (Rect.unit (s := (⟨2, ![128, 128]⟩ : Shape)) ![0, o] (⟨2, ![128, 1]⟩ : Shape).size inb).emb (ix2 p (0 : Fin 1)) = ix2 p j :=
      Products.at_ix2 (by show 0 + 1 * p.val = p.val; omega) (by show o + 1 * 0 = j.val; omega)
    rw [← e]
    exact View.canon_cons_emb (Val := Elt Ideal) (Rect.unit (s := (⟨2, ![128, 128]⟩ : Shape)) ![0, o] (⟨2, ![128, 1]⟩ : Shape).size inb) w L (ix2 p (0 : Fin 1))
  · rw [if_neg h]
    refine View.canon_cons_of_not_mem _ L fun hm => h ?_
    rw [Rect.mem_set_unit] at hm
    have h0 : o ≤ j.val ∧ j.val < o + 1 := hm 1
    omega

end Cert.Dilated

end
-- ==== Proof.Band0.lean ====
/-
# Attention in a band, undilated

Each point takes a block of queries against the block of keys before and its own; each head writes its own columns.
-/
module

public import proofs.«01_k».proof.Defs
public import proofs.«01_k».proof.Proof.Dilated
public import proofs.«01_k».proof.Proof.Gen.Band0Ideal.Value
public import proofs.«01_k».proof.Proof.Gen.Band0.Frame
public import proofs.«01_k».proof.Proof.Gen.Band0ReferenceIdeal.Run
public import Idealize.ShloMosaic.Lib.Pipeline.Value
public import Idealize.ShloMosaic.Lib.Pipeline.ValueKit.Tiles
public import Idealize.ShloMosaic.Lib.Tactic

@[expose] public section

noncomputable section

open Idealize.ShloMosaic Idealize.ShloMosaic.TcCoe Idealize.SL.Sem Cert.Cross Cert.Dilated Cert.Products

namespace Cert.Dilated.Short

section
open Cert.Band0Ideal Cert.Band0Ideal.Gen

/-! ## One head -/

theorem masked : (Named.named Band0Ideal.κ "mask" 0xF149F2CA#32 : Ideal .f32) = ⊥ := IdealRules.named_const.ideal_named_scalar _ _ _ _ rfl

/-- Whether a point's block is not its class's first, as it is computed. -/
def k0_first (x : BitVec 32) : BitVec 1 :=
  let v1 : BitVec 32 := Scalar.select (Scalar.cmpi .eq 16#32 0#32) 1#32 16#32
  let v2 : BitVec 32 := Scalar.remsi x v1
  Scalar.xori (Scalar.cmpi .eq (Scalar.select (Scalar.andi (Scalar.xori (Scalar.cmpi .slt v2 0#32) (Scalar.cmpi .slt v1 0#32)) (Scalar.cmpi .ne v2 0#32))
    (Scalar.addi v2 v1) v2) 0#32) 1#1

section
variable (w : IVec S128x256 1) (q k k' v v' : Vec Ideal S128x64 .bf16) (b : Vec Ideal S1x128x256 .f32) (p : Fin 128)

theorem first_at : ∀ t : Fin grid0.N, k0_first (BitVec.ofNat 32 (grid0.coords t 0).val) = if t.val % 16 ≠ 0 then 1#1 else 0#1 := by
  decide +kernel

theorem mask_at (t : Fin grid0.N) (n : Fin 256) : (k0_pay7 (grid0.coords t) : IVec S128x256 1) (ix2 p n) = if sees 16 t.val p n then 1#1 else 0#1 := by
  pointwise [k0_pay7]
  exact (congrArg₂ (fun x y : BitVec 1 => IntOp.andi x (IntOp.ori y _)) (near_bit p n) (first_at t)).trans
    ((congrArg (fun x : BitVec 1 => IntOp.andi _ (IntOp.ori _ x)) (past_bit n)).trans (sees_bit 16 t.val p n))

theorem pair_at (n : Fin 256) : (k0_pay9 (F := Ideal) q k k' : FVec Ideal S128x256 .f32) (ix2 p n)
    = if h : n.val < 128 then ∑ d, q (ix2 p d) * eighth * k (ix2 ⟨n.val, h⟩ d) else ∑ d, q (ix2 p d) * eighth * k' (ix2 ⟨n.val - 128, by omega⟩ d) := by
  pointwise [k0_pay9]

theorem score_at (s : FVec Ideal S128x256 .f32) (n : Fin 256) : (k0_pay10 (F := Ideal) w s b : FVec Ideal S128x256 .f32) (ix2 p n)
    = if w (ix2 p n) = 1#1 then s (ix2 p n) + b (ix3 0 p n) else ⊥ := by
  pointwise [k0_pay10]
  rw [masked]
  by_cases h : w (ix2 p n) = 1#1
  · rw [if_pos h, h]; rfl
  · rw [if_neg h, show w (ix2 p n) = 0#1 from (by revert h; generalize w (ix2 p n) = x; revert x; decide)]; rfl

theorem rise_at (s : FVec Ideal S128x256 .f32) (n : Fin 256) : (k0_pay12 (F := Ideal) w s b : FVec Ideal S128x256 .f32) (ix2 p n)
    = rise (fun n => (k0_pay10 (F := Ideal) w s b : FVec Ideal S128x256 .f32) (ix2 p n)) n := by
  unfold rise
  pointwise [k0_pay12, k0_pay11]

theorem top_at (s : FVec Ideal S128x256 .f32) (n : Fin 1) : (k0_pay11 (F := Ideal) w s b : FVec Ideal S128x1 .f32) (ix2 p n)
    = Finset.fold max lowest (fun n => (k0_pay10 (F := Ideal) w s b : FVec Ideal S128x256 .f32) (ix2 p n)) Finset.univ := by
  pointwise [k0_pay11]

theorem total_at (s : FVec Ideal S128x256 .f32) (n : Fin 1) : (k0_pay13 (F := Ideal) w s b : FVec Ideal S128x1 .f32) (ix2 p n)
    = ∑ n, (k0_pay12 (F := Ideal) w s b : FVec Ideal S128x256 .f32) (ix2 p n) := by
  pointwise [k0_pay13]

theorem halves_at (s : FVec Ideal S128x256 .f32) (e : Fin 64) : (k0_pay14 (F := Ideal) w s b v v' : FVec Ideal S128x64 .f32) (ix2 p e)
    = Ideal.div ((∑ n : Fin 128, (k0_pay12 (F := Ideal) w s b : FVec Ideal S128x256 .f32) (ix2 p ⟨n.val, by omega⟩) * v (ix2 n e))
        + ∑ n : Fin 128, (k0_pay12 (F := Ideal) w s b : FVec Ideal S128x256 .f32) (ix2 p ⟨128 + n.val, by omega⟩) * v' (ix2 n e))
      ((k0_pay13 (F := Ideal) w s b : FVec Ideal S128x1 .f32) (ix2 p 0)) := by
  pointwise [k0_pay14]

theorem sum_at (s : FVec Ideal S128x256 .f32) (n : Fin 1) : (k0_pay15 (F := Ideal) w s b : FVec Ideal S128x1 .f32) (ix2 p n)
    = (k0_pay11 (F := Ideal) w s b : FVec Ideal S128x1 .f32) (ix2 p n) + Ideal.log ((k0_pay13 (F := Ideal) w s b : FVec Ideal S128x1 .f32) (ix2 p n)) := by
  pointwise [k0_pay15]

theorem score_head (t : Fin grid0.N) (n : Fin 256) : (k0_pay10 (F := Ideal) (k0_pay7 (grid0.coords t)) (k0_pay9 q k k') b : FVec Ideal S128x256 .f32) (ix2 p n)
    = seen 16 t.val q k k' b p n := by
  rw [score_at, mask_at, pair_at]
  unfold seen
  by_cases h : sees 16 t.val p n
  · rw [if_pos h, if_pos rfl, if_pos h]
  · rw [if_neg h, if_neg (by decide), if_neg h]

theorem rise_head (t : Fin grid0.N) (n : Fin 256) : (k0_pay12 (F := Ideal) (k0_pay7 (grid0.coords t)) (k0_pay9 q k k') b : FVec Ideal S128x256 .f32) (ix2 p n)
    = rise (seen 16 t.val q k k' b p) n :=
  (rise_at _ _ _ _ _).trans (congrArg (fun f => rise f n) (funext fun n => score_head q k k' b p t n))

theorem head_0 (t : Fin grid0.N) (e : Fin 64) : (k0_pay14 (F := Ideal) (k0_pay7 (grid0.coords t)) (k0_pay9 q k k') b v v' : FVec Ideal S128x64 .f32) (ix2 p e)
    = blend (seen 16 t.val q k k' b p) (either v v' e) := by
  rw [halves_at, total_at]
  unfold blend
  refine congrArg₂ Ideal.div ?_ ?_
  · rw [← sum_halves]
    refine congrArg₂ (fun x y : EReal => x + y) (Finset.sum_congr (M := EReal) rfl fun n _ => ?_) (Finset.sum_congr (M := EReal) rfl fun n _ => ?_)
    · rw [rise_head, show either v v' e ⟨n.val, by omega⟩ = v (ix2 n e) from dif_pos n.isLt]
    · rw [rise_head, show either v v' e ⟨128 + n.val, by omega⟩ = v' (ix2 n e) from (dif_neg (by show ¬ 128 + n.val < 128; omega)).trans
        (congrArg v' (congrArg (fun r => ix2 r e) (Fin.ext (by show 128 + n.val - 128 = n.val; omega))))]
  · exact Finset.sum_congr (M := EReal) rfl fun n _ => rise_head q k k' b p t n

theorem log_0 (t : Fin grid0.N) (n : Fin 1) : (k0_pay15 (F := Ideal) (k0_pay7 (grid0.coords t)) (k0_pay9 q k k') b : FVec Ideal S128x1 .f32) (ix2 p n)
    = height (seen 16 t.val q k k' b p) := by
  rw [sum_at, top_at, total_at]
  unfold height
  refine congrArg₂ (fun x y : EReal => x + Ideal.log y) (congrArg (fun f => Finset.fold max lowest f Finset.univ) (funext fun n => score_head q k k' b p t n)) ?_
  exact Finset.sum_congr (M := EReal) rfl fun n _ => rise_head q k k' b p t n

/-! The other heads compute the same. -/

theorem head_1 : k0_pay21 (F := Ideal) w (k0_pay16 q k k') b v v' = k0_pay14 w (k0_pay9 q k k') b v v' := rfl
theorem head_2 : k0_pay28 (F := Ideal) w (k0_pay23 q k k') b v v' = k0_pay14 w (k0_pay9 q k k') b v v' := rfl
theorem head_3 : k0_pay5 (F := Ideal) w (k0_pay31 q k) (k0_pay32 q k') b v v' = k0_pay14 w (k0_pay9 q k k') b v v' := rfl
theorem log_1 : k0_pay22 (F := Ideal) w (k0_pay16 q k k') b = k0_pay15 w (k0_pay9 q k k') b := rfl
theorem log_2 : k0_pay29 (F := Ideal) w (k0_pay23 q k k') b = k0_pay15 w (k0_pay9 q k k') b := rfl
theorem log_3 : k0_pay6 (F := Ideal) w (k0_pay31 q k) (k0_pay32 q k') b = k0_pay15 w (k0_pay9 q k k') b := rfl

end

section
variable (a : FVec Ideal ⟨2, ![4096, 768]⟩ .bf16) (b : FVec Ideal ⟨3, ![12, 128, 256]⟩ .f32) (c : Dev nD) (t : Fin grid0.N) (g : Fin 32)
    (arg1 : Memref sig .tc .vmem S128x256 .bf16) (h1 : arg1.IsWhole) (arg2 : Memref sig .tc .vmem S128x256 .bf16) (h2 : arg2.IsWhole)
    (arg3 : Memref sig .tc .vmem S128x256 .bf16) (h3 : arg3.IsWhole) (arg4 : Memref sig .tc .vmem S128x256 .bf16) (h4 : arg4.IsWhole)
    (arg5 : Memref sig .tc .vmem S128x256 .bf16) (h5 : arg5.IsWhole) (arg6 : Memref sig .tc .vmem S4x128x256 .f32) (h6 : arg6.IsWhole)
    (arg7 : Memref sig .tc .vmem S128x256 .f32) (h7 : arg7.IsWhole) (arg8 : Memref sig .tc .vmem S128x128 .f32) (h8 : arg8.IsWhole)
    (x0 x1 x2 x3 x4 : Vec Ideal S128x256 .bf16) (x5 : Vec Ideal S4x128x256 .f32)

/-- What a point's blocks hold of the arrays. -/
structure Holds : Prop where
  point : t.val = g.val
  q : ∀ (p : Fin 128) (l : Fin 256), x0 (ix2 p l) = a (ix2 (down g p) (⟨l.val, by omega⟩ : Fin 768))
  k : ∀ (p : Fin 128) (l : Fin 256), x1 (ix2 p l) = a (ix2 (⟨128 * (g.val - 1) + p.val, by omega⟩ : Fin 4096) (⟨256 + l.val, by omega⟩ : Fin 768))
  k' : ∀ (p : Fin 128) (l : Fin 256), x2 (ix2 p l) = a (ix2 (down g p) (⟨256 + l.val, by omega⟩ : Fin 768))
  v : ∀ (p : Fin 128) (l : Fin 256), x3 (ix2 p l) = a (ix2 (⟨128 * (g.val - 1) + p.val, by omega⟩ : Fin 4096) (⟨512 + l.val, by omega⟩ : Fin 768))
  v' : ∀ (p : Fin 128) (l : Fin 256), x4 (ix2 p l) = a (ix2 (down g p) (⟨512 + l.val, by omega⟩ : Fin 768))
  b : ∀ (h : Fin 4) (p : Fin 128) (n : Fin 256), x5 (ix3 h p n) = b (ix3 (⟨0 + h.val, by omega⟩ : Fin 12) p n)

variable {a b t g x0 x1 x2 x3 x4 x5}

/-- One head's scores, and its values, from the blocks. -/
theorem head_scores (H : Holds a b t g x0 x1 x2 x3 x4 x5) (h : Fin 4) {o u : ℕ} (ho : o = 64 * h.val) (hu : u = h.val)
    {i : ∀ a, (![0, o] : Fin 2 → ℕ) a + S128x64.size a ≤ S128x256.size a} {i' : ∀ a, (![u, 0, 0] : Fin 3 → ℕ) a + S1x128x256.size a ≤ S4x128x256.size a} (p : Fin 128) :
    seen 16 t.val (View.ld x0 (Rect.unit (s := S128x256) ![0, o] S128x64.size i)) (View.ld x1 (Rect.unit (s := S128x256) ![0, o] S128x64.size i))
        (View.ld x2 (Rect.unit (s := S128x256) ![0, o] S128x64.size i)) (View.ld x5 (Rect.unit (s := S4x128x256) ![u, 0, 0] S1x128x256.size i')) p
      = score 16 0 a b (down g p) h := by
  rw [H.point]
  have e (p : Fin 128) (d : Fin 64) : (Rect.unit (s := S128x256) ![0, o] S128x64.size i).idx (ix2 p d) = ix2 p (⟨64 * h.val + d.val, by omega⟩ : Fin 256) :=
    at_ix2 (by show 0 + 1 * p.val = p.val; omega) (by show o + 1 * d.val = 64 * h.val + d.val; omega)
  refine seen_eq (fun d => (congrArg x0 (e p d)).trans (H.q _ _)) (fun n d => (congrArg x1 (e n d)).trans (H.k _ _))
    (fun n d => (congrArg x2 (e n d)).trans (H.k' _ _)) (fun n => ?_)
  refine (congrArg x5 (funext fun a => ?_)).trans (H.b h p n)
  match a with
  | ⟨0, _⟩ => exact Fin.ext (by show u + 1 * 0 = h.val; omega)
  | ⟨1, _⟩ => exact Fin.ext (by show 0 + 1 * p.val = p.val; omega)
  | ⟨2, _⟩ => exact Fin.ext (by show 0 + 1 * n.val = n.val; omega)

theorem head_values (H : Holds a b t g x0 x1 x2 x3 x4 x5) (h : Fin 4) {o : ℕ} (ho : o = 64 * h.val)
    {i : ∀ a, (![0, o] : Fin 2 → ℕ) a + S128x64.size a ≤ S128x256.size a} (p : Fin 128) (d : Fin 64) :
    either (View.ld x3 (Rect.unit (s := S128x256) ![0, o] S128x64.size i)) (View.ld x4 (Rect.unit (s := S128x256) ![0, o] S128x64.size i)) d
      = fun n => a (ix2 (keyRow (down g p) n) (ofValue h d)) := by
  have e (p : Fin 128) : (Rect.unit (s := S128x256) ![0, o] S128x64.size i).idx (ix2 p d) = ix2 p (⟨64 * h.val + d.val, by omega⟩ : Fin 256) :=
    at_ix2 (by show 0 + 1 * p.val = p.val; omega) (by show o + 1 * d.val = 64 * h.val + d.val; omega)
  exact either_eq (fun n => (congrArg x3 (e n)).trans (H.v _ _)) (fun n => (congrArg x4 (e n)).trans (H.v' _ _))

abbrev headOf (j : Fin 256) : Fin 4 := ⟨j.val / 64, by omega⟩
abbrev laneOf (j : Fin 256) : Fin 64 := ⟨j.val % 64, by omega⟩

theorem stripe (H : Holds a b t g x0 x1 x2 x3 x4 x5) (h : Fin 4) {o u : ℕ} (ho : o = 64 * h.val) (hu : u = h.val)
    {i : ∀ a, (![0, o] : Fin 2 → ℕ) a + S128x64.size a ≤ S128x256.size a} {i' : ∀ a, (![u, 0, 0] : Fin 3 → ℕ) a + S1x128x256.size a ≤ S4x128x256.size a}
    {p : Fin 128} {j : Fin 256} (x : S128x64.Idx) (hp : p.val = 0 + (x 0).val) (hj : j.val = o + (x 1).val) :
    k0_pay14 (F := Ideal) (k0_pay7 (grid0.coords t)) (k0_pay9 (View.ld x0 (Rect.unit (s := S128x256) ![0, o] S128x64.size i))
        (View.ld x1 (Rect.unit (s := S128x256) ![0, o] S128x64.size i)) (View.ld x2 (Rect.unit (s := S128x256) ![0, o] S128x64.size i)))
        (View.ld x5 (Rect.unit (s := S4x128x256) ![u, 0, 0] S1x128x256.size i'))
        (View.ld x3 (Rect.unit (s := S128x256) ![0, o] S128x64.size i)) (View.ld x4 (Rect.unit (s := S128x256) ![0, o] S128x64.size i)) x
      = mixed 16 0 a b (down g p) (headOf j) (laneOf j) := by
  have h1 : (x 1).val < 64 := (x 1).isLt
  have eh : headOf j = h := Fin.ext (by show j.val / 64 = h.val; omega)
  have el : laneOf j = x 1 := Fin.ext (by show j.val % 64 = (x 1).val; omega)
  have ep : p = x 0 := Fin.ext (by omega)
  rw [eh, el, ep]
  refine (congrArg _ (ix2_eta (n0 := 128) (n1 := 64) x).symm).trans ((head_0 _ _ _ _ _ _ (x 0) t (x 1)).trans ?_)
  unfold mixed
  rw [head_scores H h ho hu (x 0), head_values H h ho (x 0) (x 1)]

theorem out_at (H : Holds a b t g x0 x1 x2 x3 x4 x5) (p : Fin 128) (j : Fin 256) :
    out0_A_6 c (grid0.coords t) arg1 h1 arg2 h2 arg3 h3 arg4 h4 arg5 h5 arg6 h6 arg7 h7 arg8 h8 x0 x1 x2 x3 x4 x5 (ix2 p j)
      = mixed 16 0 a b (down g p) (headOf j) (laneOf j) := by
  unfold out0_A_6
  rw [View.read_writes_eq_canon _ _ _ fun _ => cover0_A_6 ..]
  refine View.canon_eq_of_allAt _ _ _ (cover0_A_6 ..) ?_
  unfold kernelRun0_A
  dsimp only
  sl_unfold_words
  simp only [View.readAt_eq_ld, h1.read_unread, h2.read_unread, h3.read_unread, h4.read_unread, h5.read_unread, h6.read_unread, head_1, head_2, head_3]
  exact (View.allAt_cons_unit _ _ _ _ _ (fun x hx => stripe H 3 rfl rfl x (hx 0) (hx 1)) (View.allAt_cons_unit _ _ _ _ _ (fun x hx => stripe H 2 rfl rfl x (hx 0) (hx 1))
    (View.allAt_cons_unit _ _ _ _ _ (fun x hx => stripe H 1 rfl rfl x (hx 0) (hx 1)) (View.allAt_cons_unit _ _ _ _ _ (fun x hx => stripe H 0 rfl rfl x (hx 0) (hx 1))
      (View.allAt_nil _ _)))))

theorem zeros : (![0, 0] : Fin 2 → Nat) = fun _ => 0 := funext fun a => by fin_cases a <;> rfl

theorem blank_at (i : S128x128.Idx) : (k0_pay8 (F := Ideal) : FVec Ideal S128x128 .f32) i = 0 := by
  pointwise [k0_pay8]

theorem log_at (H : Holds a b t g x0 x1 x2 x3 x4 x5) (p j : Fin 128) :
    out0_A_7 c (grid0.coords t) arg1 h1 arg2 h2 arg3 h3 arg4 h4 arg5 h5 arg6 h6 arg7 h7 arg8 h8 x0 x1 x2 x3 x4 x5 (ix2 p j)
      = logged 16 0 a b (down g p) j := by
  unfold out0_A_7
  rw [View.read_writes_eq_canon _ _ _ fun _ => cover0_A_7 ..]
  unfold kernelRun0_A
  dsimp only
  sl_unfold_words
  simp only [View.readAt_eq_ld, h1.read_unread, h2.read_unread, h3.read_unread, h4.read_unread, h5.read_unread, h6.read_unread, log_1, log_2, log_3]
  have e (h : Fin 4) (hj : j.val = h.val) : height (score 16 0 a b (down g p) h) = logged 16 0 a b (down g p) j := by
    unfold logged
    rw [dif_pos (show j.val < 4 by omega)]
    exact congrArg (fun h => height (score 16 0 a b (down g p) h)) (Fin.ext hj.symm)
  refine (canon_column _ _ _ p j).trans ?_
  by_cases j3 : j.val = 3
  · rw [if_pos j3, ← e 3 j3, ← head_scores H 3 rfl rfl p]; exact log_0 _ _ _ _ _ _ _
  rw [if_neg j3]
  refine (canon_column _ _ _ p j).trans ?_
  by_cases j2 : j.val = 2
  · rw [if_pos j2, ← e 2 j2, ← head_scores H 2 rfl rfl p]; exact log_0 _ _ _ _ _ _ _
  rw [if_neg j2]
  refine (canon_column _ _ _ p j).trans ?_
  by_cases j1 : j.val = 1
  · rw [if_pos j1, ← e 1 j1, ← head_scores H 1 rfl rfl p]; exact log_0 _ _ _ _ _ _ _
  rw [if_neg j1]
  refine (canon_column _ _ _ p j).trans ?_
  by_cases j0 : j.val = 0
  · rw [if_pos j0, ← e 0 j0, ← head_scores H 0 rfl rfl p]; exact log_0 _ _ _ _ _ _ _
  rw [if_neg j0, View.canon_unit_zero zeros, blank_at]
  unfold logged
  rw [dif_neg (by omega)]

end

/-! ## The blocks -/

variable (m : (ℓ : Loc nD τ sig) → Buf (Elt Ideal) ℓ)

/-- The arguments. -/
abbrev argA (c : Dev nD) : Vec Ideal S4096x768 .bf16 := m ((c : Thread nD τ).loc main_arg0)
abbrev argB (c : Dev nD) : Vec Ideal S12x128x256 .f32 := m ((c : Thread nD τ).loc main_arg1)

abbrev point (t : Fin cfg0.N) : Fin 32 := ⟨t.val, lt_of_lt_of_eq t.isLt N_0⟩

theorem index_tile : ∀ t : Fin cfg0.N, (win0_0.index t (0 : Fin 2) = t.val ∧ win0_0.index t (1 : Fin 2) = 0)
    ∧ (win0_1.index t (0 : Fin 2) = t.val - 1 ∧ win0_1.index t (1 : Fin 2) = 1) ∧ (win0_2.index t (0 : Fin 2) = t.val ∧ win0_2.index t (1 : Fin 2) = 1)
    ∧ (win0_3.index t (0 : Fin 2) = t.val - 1 ∧ win0_3.index t (1 : Fin 2) = 2) ∧ (win0_4.index t (0 : Fin 2) = t.val ∧ win0_4.index t (1 : Fin 2) = 2)
    ∧ (win0_5.index t (0 : Fin 3) = 0 ∧ win0_5.index t (1 : Fin 3) = 0 ∧ win0_5.index t (2 : Fin 3) = 0)
    ∧ (win0_6.index t (0 : Fin 2) = t.val ∧ win0_6.index t (1 : Fin 2) = 0) ∧ (win0_7.index t (0 : Fin 2) = t.val ∧ win0_7.index t (1 : Fin 2) = 0) :=
  (by decide +kernel : ∀ t : Fin grid0.N, _)

theorem holds (c : Dev nD) (t : Fin cfg0.N) :
    Holds (argA m c) (argB m c) t (point t) (iblk m c 0 t) (iblk m c 1 t) (iblk m c 2 t) (iblk m c 3 t) (iblk m c 4 t) (iblk m c 5 t) := by
  have hi := index_tile t
  have hN : t.val < 32 := lt_of_lt_of_eq t.isLt N_0
  refine ⟨rfl, fun p l => ?_, fun p l => ?_, fun p l => ?_, fun p l => ?_, fun p l => ?_, fun h p n => ?_⟩ <;> unfold iblk <;> rw [View.read_apply]
  · exact congrArg (argA m c) (at_ix2
      (by show win0_0.index t (0 : Fin 2) * 128 + 1 * p.val = 128 * t.val + p.val; omega)
      (by show win0_0.index t (1 : Fin 2) * 256 + 1 * l.val = l.val; omega))
  · exact congrArg (argA m c) (at_ix2
      (by show win0_1.index t (0 : Fin 2) * 128 + 1 * p.val = 128 * (t.val - 1) + p.val; omega)
      (by show win0_1.index t (1 : Fin 2) * 256 + 1 * l.val = 256 + l.val; omega))
  · exact congrArg (argA m c) (at_ix2
      (by show win0_2.index t (0 : Fin 2) * 128 + 1 * p.val = 128 * t.val + p.val; omega)
      (by show win0_2.index t (1 : Fin 2) * 256 + 1 * l.val = 256 + l.val; omega))
  · exact congrArg (argA m c) (at_ix2
      (by show win0_3.index t (0 : Fin 2) * 128 + 1 * p.val = 128 * (t.val - 1) + p.val; omega)
      (by show win0_3.index t (1 : Fin 2) * 256 + 1 * l.val = 512 + l.val; omega))
  · exact congrArg (argA m c) (at_ix2
      (by show win0_4.index t (0 : Fin 2) * 128 + 1 * p.val = 128 * t.val + p.val; omega)
      (by show win0_4.index t (1 : Fin 2) * 256 + 1 * l.val = 512 + l.val; omega))
  · refine congrArg (argB m c) (funext fun a => ?_)
    match a with
    | ⟨0, _⟩ => exact Fin.ext (by show win0_5.index t (0 : Fin 3) * 4 + 1 * h.val = 0 + h.val; omega)
    | ⟨1, _⟩ => exact Fin.ext (by show win0_5.index t (1 : Fin 3) * 128 + 1 * p.val = p.val; omega)
    | ⟨2, _⟩ => exact Fin.ext (by show win0_5.index t (2 : Fin 3) * 256 + 1 * n.val = n.val; omega)

/-- The whole arrays. -/
abbrev whole (c : Dev nD) : Vec Ideal S4096x256 .f32 := fun i => mixed 16 0 (argA m c) (argB m c) (i 0) (headOf (i 1)) (laneOf (i 1))
abbrev wholeLog (c : Dev nD) : Vec Ideal S4096x128 .f32 := fun i => logged 16 0 (argA m c) (argB m c) (i 0) (i 1)

theorem written (c : Dev nD) (t : Fin cfg0.N) (hf : (cfg0.win 6).flush t = true) :
    (dats m 0 c).flushed 6 t = ((cfg0.win 6).blk t).view.read (Elt Ideal) (whole m c) := by
  have hi := index_tile t
  have hN : t.val < 32 := lt_of_lt_of_eq t.isLt N_0
  rw [Band0Ideal.Value.flushed6_A]
  funext j
  rw [View.read_apply]
  have hj : ((cfg0.win 6).blk t).view.emb j = ix2 (down (point t) (j 0)) (j 1) := at_ix2
    (by show win0_6.index t (0 : Fin 2) * 128 + 1 * (j 0).val = 128 * t.val + (j 0).val; omega)
    (by show win0_6.index t (1 : Fin 2) * 256 + 1 * (j 1).val = (j 1).val; omega)
  rw [hj]
  exact (congrArg _ (ix2_eta (n0 := 128) (n1 := 256) j).symm).trans
    (out_at c _ _ _ _ _ _ _ _ _ _ _ _ _ _ _ _ (holds m c t) (j 0) (j 1))

theorem writtenLog (c : Dev nD) (t : Fin cfg0.N) (hf : (cfg0.win 7).flush t = true) :
    (dats m 0 c).flushed 7 t = ((cfg0.win 7).blk t).view.read (Elt Ideal) (wholeLog m c) := by
  have hi := index_tile t
  have hN : t.val < 32 := lt_of_lt_of_eq t.isLt N_0
  rw [Band0Ideal.Value.flushed7_A]
  funext j
  rw [View.read_apply]
  have hj : ((cfg0.win 7).blk t).view.emb j = ix2 (down (point t) (j 0)) (j 1) := at_ix2
    (by show win0_7.index t (0 : Fin 2) * 128 + 1 * (j 0).val = 128 * t.val + (j 0).val; omega)
    (by show win0_7.index t (1 : Fin 2) * 128 + 1 * (j 1).val = (j 1).val; omega)
  rw [hj]
  exact (congrArg _ (ix2_eta (n0 := 128) (n1 := 128) j).symm).trans
    (log_at c _ _ _ _ _ _ _ _ _ _ _ _ _ _ _ _ (holds m c t) (j 0) (j 1))

theorem final (c : Dev nD) : (dats m 0 c).arrAt 6 cfg0.N = whole m c :=
  (dats m 0 c).arrAt_eq_of_cover 6 (whole m c) (written m c) fun i => by
    have h0 : (i 0).val < 4096 := (i 0).isLt
    have h1 : (i 1).val < 256 := (i 1).isLt
    have hN : cfg0.N = 32 := N_0
    obtain ⟨t, ht⟩ : ∃ t : Fin cfg0.N, t.val = (i 0).val / 128 := ⟨⟨_, by omega⟩, rfl⟩
    have hi := index_tile t
    refine ⟨t, flush0_6 t, ?_⟩
    show i ∈ ((View.whole main_v0_0).slice (win0_6.rect t)).set
    rw [View.set_slice_whole, Rect.mem_set_unit]
    intro a
    match a with
    | ⟨0, _⟩ => show win0_6.index t (0 : Fin 2) * 128 ≤ (i 0).val ∧ (i 0).val < win0_6.index t (0 : Fin 2) * 128 + 128; omega
    | ⟨1, _⟩ => show win0_6.index t (1 : Fin 2) * 256 ≤ (i 1).val ∧ (i 1).val < win0_6.index t (1 : Fin 2) * 256 + 256; omega

theorem finalLog (c : Dev nD) : (dats m 0 c).arrAt 7 cfg0.N = wholeLog m c :=
  (dats m 0 c).arrAt_eq_of_cover 7 (wholeLog m c) (writtenLog m c) fun i => by
    have h0 : (i 0).val < 4096 := (i 0).isLt
    have h1 : (i 1).val < 128 := (i 1).isLt
    have hN : cfg0.N = 32 := N_0
    obtain ⟨t, ht⟩ : ∃ t : Fin cfg0.N, t.val = (i 0).val / 128 := ⟨⟨_, by omega⟩, rfl⟩
    have hi := index_tile t
    refine ⟨t, flush0_7 t, ?_⟩
    show i ∈ ((View.whole main_v0_1).slice (win0_7.rect t)).set
    rw [View.set_slice_whole, Rect.mem_set_unit]
    intro a
    match a with
    | ⟨0, _⟩ => show win0_7.index t (0 : Fin 2) * 128 ≤ (i 0).val ∧ (i 0).val < win0_7.index t (0 : Fin 2) * 128 + 128; omega
    | ⟨1, _⟩ => show win0_7.index t (1 : Fin 2) * 128 ≤ (i 1).val ∧ (i 1).val < win0_7.index t (1 : Fin 2) * 128 + 128; omega

end

/-! ## The reference -/

section
open Cert.Band0ReferenceIdeal Cert.Band0ReferenceIdeal.Gen

abbrev pos (k : Fin 16) (p : Fin 128) : Fin 2048 := ⟨k.val * 128 + p.val, by omega⟩
abbrev rowAt (c : Fin 2) (s : Fin 2048) : Fin 4096 := ⟨c.val * 2048 + s.val, by omega⟩
abbrev part (w : Fin 3) (h : Fin 4) (d : Fin 64) : Fin 768 := ⟨w.val * 256 + (h.val * 64 + d.val), by omega⟩

variable (c : Fin 2) (h : Fin 4) (k : Fin 16) (p : Fin 128) (n : Fin 256) (s : Fin 2048) (d : Fin 64)

/-! ### What a query sees -/

theorem toInt_back : ∀ n : Fin 256, (IntOp.subi (BitVec.ofNat 32 n.val) 128#32).toInt = (n.val : ℤ) - 128 := by decide +kernel

theorem behind_bit : IntOp.cmpi .sle (IntOp.subi (BitVec.ofNat 32 n.val) 128#32) (BitVec.ofNat 32 p.val) = if n.val ≤ p.val + 128 then 1#1 else 0#1 := by
  rw [le_bit, toInt_back, toInt_small _ (by omega)]
  exact if_congr (by omega) rfl rfl

theorem reach_bit : IntOp.cmpi .sle (IntOp.subi (BitVec.ofNat 32 p.val) (IntOp.subi (BitVec.ofNat 32 n.val) 128#32)) 128#32 = if p.val ≤ n.val then 1#1 else 0#1 := by
  have e : (IntOp.subi (BitVec.ofNat 32 p.val) (IntOp.subi (BitVec.ofNat 32 n.val) 128#32)).toInt = (p.val : ℤ) - ((n.val : ℤ) - 128) := by
    refine (BitVec.toInt_sub ..).trans ?_
    rw [toInt_back, toInt_small _ (by omega), Int.bmod_eq_of_le (by omega) (by omega)]
  rw [le_bit, e, toInt_small _ (by omega)]
  exact if_congr (by omega) rfl rfl

theorem inside_bit : IntOp.cmpi .sge (IntOp.addi (IntOp.muli (BitVec.ofNat 32 k.val) 128#32) (IntOp.subi (BitVec.ofNat 32 n.val) 128#32)) 0#32
    = if k.val ≠ 0 ∨ 128 ≤ n.val then 1#1 else 0#1 := by
  have e : (IntOp.addi (IntOp.muli (BitVec.ofNat 32 k.val) 128#32) (IntOp.subi (BitVec.ofNat 32 n.val) 128#32)).toInt = (k.val * 128 : ℤ) + ((n.val : ℤ) - 128) := by
    rw [show IntOp.muli (BitVec.ofNat 32 k.val) 128#32 = BitVec.ofNat 32 (k.val * 128) from (BitVec.ofNat_mul ..).symm]
    refine (BitVec.toInt_add ..).trans ?_
    rw [toInt_back, toInt_small _ (by omega), Int.bmod_eq_of_le (by omega) (by omega)]
    omega
  rw [ge_bit, e, show (0#32 : BitVec 32).toInt = 0 from rfl]
  exact if_congr (by omega) rfl rfl

def near : IVec S128x256 1 :=
  andi (cmpi .sle (broadcastInDim S128x256 ![0, 1] bcast_S1x256_S128x256_0_1 (subi (broadcastInDim S1x256 ![1] bcast_S256_S1x256_1 (iotaInDim S256 32 0)) (broadcastInDim S1x256 ![] bcast_S_S1x256 (constantI S_ 32 128#32)))) (broadcastInDim S128x256 ![0, 1] bcast_S128x1_S128x256_0_1 (broadcastInDim S128x1 ![0] bcast_S128_S128x1_0 (iotaInDim S128 32 0)))) (cmpi .sle (subi (broadcastInDim S128x256 ![0, 1] bcast_S128x1_S128x256_0_1 (broadcastInDim S128x1 ![0] bcast_S128_S128x1_0 (iotaInDim S128 32 0))) (broadcastInDim S128x256 ![0, 1] bcast_S1x256_S128x256_0_1 (subi (broadcastInDim S1x256 ![1] bcast_S256_S1x256_1 (iotaInDim S256 32 0)) (broadcastInDim S1x256 ![] bcast_S_S1x256 (constantI S_ 32 128#32))))) (broadcastInDim S128x256 ![] bcast_S_S128x256 (constantI S_ 32 128#32)))

def inside : IVec S16x1x256 1 :=
  cmpi .sge (addi (broadcastInDim S16x1x256 ![0, 1, 2] bcast_S16x1x1_S16x1x256_0_1_2 (muli (broadcastInDim S16x1x1 ![0] bcast_S16_S16x1x1_0 (iotaInDim S16 32 0)) (broadcastInDim S16x1x1 ![] bcast_S_S16x1x1 (constantI S_ 32 128#32)))) (broadcastInDim S16x1x256 ![0, 1, 2] bcast_S1x1x256_S16x1x256_0_1_2 (broadcastInDim S1x1x256 ![1, 2] bcast_S1x256_S1x1x256_1_2 (subi (broadcastInDim S1x256 ![1] bcast_S256_S1x256_1 (iotaInDim S256 32 0)) (broadcastInDim S1x256 ![] bcast_S_S1x256 (constantI S_ 32 128#32)))))) (broadcastInDim S16x1x256 ![] bcast_S_S16x1x256 (constantI S_ 32 0#32))

theorem near_at : near (ix2 p n) = if n.val ≤ p.val + 128 ∧ p.val ≤ n.val then 1#1 else 0#1 := by
  rw [← both_bit, ← behind_bit, ← reach_bit]
  pointwise [near]

theorem inside_at : inside (ix3 k (0 : Fin 1) n) = if k.val ≠ 0 ∨ 128 ≤ n.val then 1#1 else 0#1 := by
  rw [← inside_bit]
  pointwise [inside]

/-- The numbers in sight, and others elsewhere. -/
def pick (x : IVec S128x256 1) (y : IVec S16x1x256 1) (u v : FVec Ideal S2x4x16x128x256 .f32) : FVec Ideal S2x4x16x128x256 .f32 :=
  select (broadcastInDim S2x4x16x128x256 ![2, 3, 4] bcast_S16x128x256_S2x4x16x128x256_2_3_4 (andi (broadcastInDim S16x128x256 ![0, 1, 2] bcast_S1x128x256_S16x128x256_0_1_2 (broadcastInDim S1x128x256 ![1, 2] bcast_S128x256_S1x128x256_1_2 x)) (broadcastInDim S16x128x256 ![0, 1, 2] bcast_S16x1x256_S16x128x256_0_1_2 y))) u v

theorem pick_at (x : IVec S128x256 1) (y : IVec S16x1x256 1) (u v : FVec Ideal S2x4x16x128x256 .f32) :
    pick x y u v (ix5 c h k p n) = Scalar.select (IntOp.andi (x (ix2 p n)) (y (ix3 k (0 : Fin 1) n))) (u (ix5 c h k p n)) (v (ix5 c h k p n)) := by
  pointwise [pick]

/-! ### Queries, keys and values -/

theorem cut_rows (w : Fin 3) (a : FVec Ideal S4096x768 .f32) :
    (shapeCast _ a shapeCasts_S4096x768_S2x2048x3x4x64 : FVec Ideal S2x2048x3x4x64 .f32) (ix5 c s w h d) = a (ix2 (rowAt c s) (part w h d)) := by
  refine shapeCast_apply _ _ _ _ ?_
  rw [Shape.rowMajor_val_two, Shape.rowMajor_val_five]
  show (c.val * 2048 + s.val) * 768 + (w.val * 256 + (h.val * 64 + d.val)) = (((c.val * 2048 + s.val) * 3 + w.val) * 4 + h.val) * 64 + d.val
  omega

theorem fold_at (x : FVec Ideal S2x4x2048x64 .f32) :
    (shapeCast _ x shapeCasts_S2x4x2048x64_S2x4x16x128x64 : FVec Ideal S2x4x16x128x64 .f32) (ix5 c h k p d) = x (ix4 c h (pos k p) d) := by
  refine shapeCast_apply _ _ _ _ ?_
  rw [Shape.rowMajor_val_four, Shape.rowMajor_val_five]
  show ((c.val * 4 + h.val) * 2048 + (k.val * 128 + p.val)) * 64 + d.val = (((c.val * 4 + h.val) * 16 + k.val) * 128 + p.val) * 64 + d.val
  omega

def apart (a : FVec Ideal S4096x768 .bf16) : FVec Ideal S3x2x4x2048x64 .f32 :=
  transpose S3x2x4x2048x64 [2, 0, 3, 1, 4] (shapeCast _ (extf .f32 a bitsLt_bf16_f32) shapeCasts_S4096x768_S2x2048x3x4x64) transposes_S2x2048x3x4x64_S3x2x4x2048x64_2_0_3_1_4

theorem turn_at (w : Fin 3) (x : FVec Ideal S2x2048x3x4x64 .f32) :
    (transpose S3x2x4x2048x64 [2, 0, 3, 1, 4] x transposes_S2x2048x3x4x64_S3x2x4x2048x64_2_0_3_1_4 : FVec Ideal S3x2x4x2048x64 .f32) (ix5 w c h s d) = x (ix5 c s w h d) := by
  pointwise

theorem apart_at (w : Fin 3) (a : FVec Ideal S4096x768 .bf16) : apart a (ix5 w c h s d) = a (ix2 (rowAt c s) (part w h d)) :=
  (turn_at c h s d w _).trans (cut_rows c h s d w _)

def queries (x : FVec Ideal S3x2x4x2048x64 .f32) : FVec Ideal S2x4x2048x64 .f32 :=
  mulf (shapeCast _ (extractStridedSlice S1x2x4x2048x64 ![0, 0, 0, 0, 0] x slices_S3x2x4x2048x64_S1x2x4x2048x64_0_0_0_0_0) shapeCasts_S1x2x4x2048x64_S2x4x2048x64) (broadcastInDim S2x4x2048x64 ![] bcast_S_S2x4x2048x64 (constant S_ .f32 0x3E000000#32))

def keys (x : FVec Ideal S3x2x4x2048x64 .f32) : FVec Ideal S2x4x2048x64 .f32 :=
  shapeCast _ (extractStridedSlice S1x2x4x2048x64 ![1, 0, 0, 0, 0] x slices_S3x2x4x2048x64_S1x2x4x2048x64_1_0_0_0_0) shapeCasts_S1x2x4x2048x64_S2x4x2048x64

def values (x : FVec Ideal S3x2x4x2048x64 .f32) : FVec Ideal S2x4x2048x64 .f32 :=
  shapeCast _ (extractStridedSlice S1x2x4x2048x64 ![2, 0, 0, 0, 0] x slices_S3x2x4x2048x64_S1x2x4x2048x64_2_0_0_0_0) shapeCasts_S1x2x4x2048x64_S2x4x2048x64

theorem queries_at (x : FVec Ideal S3x2x4x2048x64 .f32) : queries x (ix4 c h s d) = x (ix5 0 c h s d) * eighth := by
  rw [← eighth_eq]
  pointwise [queries]

theorem keys_at (x : FVec Ideal S3x2x4x2048x64 .f32) : keys x (ix4 c h s d) = x (ix5 1 c h s d) := by
  pointwise [keys]

theorem values_at (x : FVec Ideal S3x2x4x2048x64 .f32) : values x (ix4 c h s d) = x (ix5 2 c h s d) := by
  pointwise [values]

/-- A block's rows, and those before them. -/
def before (x : FVec Ideal S2x4x2048x64 .f32) : FVec Ideal S2x4x2048x64 .f32 :=
  concatenate S2x4x2048x64 2 [⟨S2x4x128x64, broadcastInDim S2x4x128x64 ![] bcast_S_S2x4x128x64 (constant S_ .f32 0x00000000#32)⟩, ⟨S2x4x1920x64, extractStridedSlice S2x4x1920x64 ![0, 0, 0, 0] x slices_S2x4x2048x64_S2x4x1920x64_0_0_0_0⟩] concatenates_S2x4x128x64_S2x4x1920x64_S2x4x2048x64_d2

def window (x : FVec Ideal S2x4x2048x64 .f32) : FVec Ideal S2x4x16x256x64 .f32 :=
  concatenate S2x4x16x256x64 3 [⟨S2x4x16x128x64, shapeCast _ (before x) shapeCasts_S2x4x2048x64_S2x4x16x128x64⟩, ⟨S2x4x16x128x64, shapeCast _ x shapeCasts_S2x4x2048x64_S2x4x16x128x64⟩] concatenates_S2x4x16x128x64_S2x4x16x128x64_S2x4x16x256x64_d3

theorem before_at (x : FVec Ideal S2x4x2048x64 .f32) : before x (ix4 c h s d) = if hs : s.val < 128 then 0 else x (ix4 c h ⟨s.val - 128, by omega⟩ d) := by
  pointwise [before]

theorem join_at (x y : FVec Ideal S2x4x16x128x64 .f32) :
    (concatenate S2x4x16x256x64 3 [⟨S2x4x16x128x64, x⟩, ⟨S2x4x16x128x64, y⟩] concatenates_S2x4x16x128x64_S2x4x16x128x64_S2x4x16x256x64_d3 : FVec Ideal S2x4x16x256x64 .f32) (ix5 c h k n d)
      = if hn : n.val < 128 then x (ix5 c h k ⟨n.val, hn⟩ d) else y (ix5 c h k ⟨n.val - 128, by omega⟩ d) := by
  pointwise

theorem window_at (x : FVec Ideal S2x4x2048x64 .f32) (hn : k.val ≠ 0 ∨ 128 ≤ n.val) (hs : s.val = k.val * 128 + n.val - 128) :
    window x (ix5 c h k n d) = x (ix4 c h s d) := by
  refine (join_at c h k n d _ _).trans ?_
  by_cases e : n.val < 128
  · rw [dif_pos e, fold_at, before_at, dif_neg (by show ¬ k.val * 128 + n.val < 128; omega)]
    exact congrArg (fun s => x (ix4 c h s d)) (Fin.ext (by show k.val * 128 + n.val - 128 = s.val; omega))
  · rw [dif_neg e, fold_at]
    exact congrArg (fun s => x (ix4 c h s d)) (Fin.ext (by show k.val * 128 + (n.val - 128) = s.val; omega))

/-! ### The softmax -/

def scores (q : FVec Ideal S2x4x16x128x64 .f32) (y : FVec Ideal S2x4x16x256x64 .f32) (b : FVec Ideal S12x128x256 .f32) : FVec Ideal S2x4x16x128x256 .f32 :=
  addf (Host.dotGeneral dot_S2x4x16x128x64_S2x4x16x256x64_S2x4x16x128x256_4_4_3_3_012_012 none q y) (broadcastInDim S2x4x16x128x256 ![0, 1, 2, 3, 4] bcast_S1x4x1x128x256_S2x4x16x128x256_0_1_2_3_4 (broadcastInDim S1x4x1x128x256 ![1, 2, 3, 4] bcast_S4x1x128x256_S1x4x1x128x256_1_2_3_4 (broadcastInDim S4x1x128x256 ![0, 2, 3] bcast_S4x128x256_S4x1x128x256_0_2_3 (extractStridedSlice S4x128x256 ![0, 0, 0] b slices_S12x128x256_S4x128x256_0_0_0))))

theorem scores_at (q : FVec Ideal S2x4x16x128x64 .f32) (y : FVec Ideal S2x4x16x256x64 .f32) (b : FVec Ideal S12x128x256 .f32) :
    scores q y b (ix5 c h k p n) = (∑ d, q (ix5 c h k p d) * y (ix5 c h k n d)) + b (ix3 (⟨0 + h.val, by omega⟩ : Fin 12) p n) := by
  pointwise [scores]

def unseen : FVec Ideal S2x4x16x128x256 .f32 := broadcastInDim S2x4x16x128x256 ![] bcast_S_S2x4x16x128x256 (id (constant S_ .f32 0xFF800000#32))

theorem unseen_at : unseen (ix5 c h k p n) = ⊥ := by
  refine Eq.trans (b := lowest) ?_ (by simp [Ideal.ofBits, Ideal.ieee])
  pointwise [unseen]
  rfl

variable (a : FVec Ideal S4096x768 .bf16) (b : FVec Ideal S12x128x256 .f32)

/-- The scores, cut off out of sight. -/
def bounded : FVec Ideal S2x4x16x128x256 .f32 :=
  pick near inside
    (scores (shapeCast _ (queries (apart a)) shapeCasts_S2x4x2048x64_S2x4x16x128x64) (window (keys (apart a))) b)
    unseen

theorem key_row (hn : k.val ≠ 0 ∨ 128 ≤ n.val) :
    (⟨c.val * 2048 + (k.val * 128 + n.val - 128), by omega⟩ : Fin 4096) = keyRow (rowAt c (pos k p)) n := by
  unfold keyRow
  by_cases e : n.val < 128
  · rw [dif_pos e]
    exact Fin.ext (by show c.val * 2048 + (k.val * 128 + n.val - 128) = 128 * ((c.val * 2048 + (k.val * 128 + p.val)) / 128 - 1) + n.val; omega)
  · rw [dif_neg e]
    exact Fin.ext (by show c.val * 2048 + (k.val * 128 + n.val - 128) = 128 * ((c.val * 2048 + (k.val * 128 + p.val)) / 128) + (n.val - 128); omega)

theorem sees_iff : (n.val ≤ p.val + 128 ∧ p.val ≤ n.val) ∧ (k.val ≠ 0 ∨ 128 ≤ n.val) ↔ sees 16 ((rowAt c (pos k p)).val / 128) (within (rowAt c (pos k p))) n := by
  show _ ↔ (c.val * 2048 + (k.val * 128 + p.val)) % 128 ≤ n.val ∧ n.val ≤ (c.val * 2048 + (k.val * 128 + p.val)) % 128 + 128
    ∧ ((c.val * 2048 + (k.val * 128 + p.val)) / 128 % 16 ≠ 0 ∨ 128 ≤ n.val)
  omega

theorem bounded_at :
    bounded a b (ix5 c h k p n) = score 16 0 a b (rowAt c (pos k p)) h n := by
  refine (pick_at c h k p n _ _ _ _).trans ?_
  rw [near_at, inside_at, both_bit, unseen_at, scores_at]
  unfold score
  by_cases e : (n.val ≤ p.val + 128 ∧ p.val ≤ n.val) ∧ (k.val ≠ 0 ∨ 128 ≤ n.val)
  · rw [if_pos e, if_pos ((sees_iff c k p n).mp e)]
    refine congrArg₂ (fun x y : EReal => x + y) (Finset.sum_congr (M := EReal) rfl fun d _ => ?_) (congrArg b (congrArg (fun p => ix3 _ p n) (Fin.ext ?_)))
    · rw [fold_at, queries_at, apart_at, window_at c h k n ⟨k.val * 128 + n.val - 128, by omega⟩ d _ e.2 rfl, keys_at, apart_at]
      refine congrArg₂ (fun x y : EReal => x * y) (congrArg (fun x : EReal => x * eighth) (congrArg a (congrArg₂ ix2 rfl (Fin.ext ?_))))
        (congrArg a (congrArg₂ ix2 (key_row c k p n e.2) (Fin.ext ?_)))
      · show 0 * 256 + (h.val * 64 + d.val) = 64 * h.val + d.val; omega
      · show 1 * 256 + (h.val * 64 + d.val) = 256 + (64 * h.val + d.val); omega
    · show p.val = (c.val * 2048 + (k.val * 128 + p.val)) % 128; omega
  · rw [if_neg e, if_neg (fun x => e ((sees_iff c k p n).mpr x))]
    rfl

def most (x : FVec Ideal S2x4x16x128x256 .f32) : FVec Ideal S2x4x16x128 .f32 :=
  Host.reduce FloatOps.maximumf x (constant S_ .f32 0xFF800000#32) reducesTo_S2x4x16x128x256_S2x4x16x128_d4 h_S_

def all (x : FVec Ideal S2x4x16x128x256 .f32) : FVec Ideal S2x4x16x128 .f32 :=
  Host.reduceAdd x (constant S_ .f32 0x00000000#32) reducesTo_S2x4x16x128x256_S2x4x16x128_d4 h_S_

def shifted (x : FVec Ideal S2x4x16x128x256 .f32) (y : FVec Ideal S2x4x16x128 .f32) : FVec Ideal S2x4x16x128x256 .f32 :=
  Host.exp (subf x (broadcastInDim S2x4x16x128x256 ![0, 1, 2, 3, 4] bcast_S2x4x16x128x1_S2x4x16x128x256_0_1_2_3_4 (broadcastInDim S2x4x16x128x1 ![0, 1, 2, 3] bcast_S2x4x16x128_S2x4x16x128x1_0_1_2_3 y)))

def share (x : FVec Ideal S2x4x16x128x256 .f32) (y : FVec Ideal S2x4x16x256x64 .f32) (z : FVec Ideal S2x4x16x128 .f32) : FVec Ideal S2x4x16x128x64 .f32 :=
  Host.divf (Host.dotGeneral dot_S2x4x16x128x256_S2x4x16x256x64_S2x4x16x128x64_4_3_3_4_012_012 none x y)
    (broadcastInDim S2x4x16x128x64 ![0, 1, 2, 3, 4] bcast_S2x4x16x128x1_S2x4x16x128x64_0_1_2_3_4 (broadcastInDim S2x4x16x128x1 ![0, 1, 2, 3] bcast_S2x4x16x128_S2x4x16x128x1_0_1_2_3 z))

def rest (x y : FVec Ideal S2x4x16x128 .f32) : FVec Ideal S2x4x16x128x1 .f32 :=
  addf (broadcastInDim S2x4x16x128x1 ![0, 1, 2, 3] bcast_S2x4x16x128_S2x4x16x128x1_0_1_2_3 x) (Host.log (broadcastInDim S2x4x16x128x1 ![0, 1, 2, 3] bcast_S2x4x16x128_S2x4x16x128x1_0_1_2_3 y))

theorem most_at (x : FVec Ideal S2x4x16x128x256 .f32) : most x (ix4 c h k p) = Finset.fold max lowest (fun n => x (ix5 c h k p n)) Finset.univ := by
  pointwise [most]

theorem all_at (x : FVec Ideal S2x4x16x128x256 .f32) : all x (ix4 c h k p) = ∑ n, x (ix5 c h k p n) := by
  pointwise [all]

theorem shifted_at (x : FVec Ideal S2x4x16x128x256 .f32) (y : FVec Ideal S2x4x16x128 .f32) : shifted x y (ix5 c h k p n) = Ideal.exp (x (ix5 c h k p n) - y (ix4 c h k p)) := by
  pointwise [shifted]

theorem share_at (x : FVec Ideal S2x4x16x128x256 .f32) (y : FVec Ideal S2x4x16x256x64 .f32) (z : FVec Ideal S2x4x16x128 .f32) :
    share x y z (ix5 c h k p d) = Ideal.div (∑ n, x (ix5 c h k p n) * y (ix5 c h k n d)) (z (ix4 c h k p)) := by
  pointwise [share]

theorem rest_at (x y : FVec Ideal S2x4x16x128 .f32) : rest x y (ix5 c h k p (0 : Fin 1)) = x (ix4 c h k p) + Ideal.log (y (ix4 c h k p)) := by
  pointwise [rest]

def rises (x : FVec Ideal S2x4x16x128x256 .f32) : FVec Ideal S2x4x16x128x256 .f32 := shifted x (most x)

theorem rises_at (x : FVec Ideal S2x4x16x128x256 .f32) : rises x (ix5 c h k p n) = rise (fun n => x (ix5 c h k p n)) n := by
  refine (shifted_at c h k p n x _).trans ?_
  rw [most_at]
  rfl

/-! ### The results -/

def back (x : FVec Ideal S2x4x16x128x64 .f32) : FVec Ideal S4096x256 .f32 :=
  shapeCast _ (transpose S2x2048x4x64 [0, 2, 1, 3] (shapeCast _ x shapeCasts_S2x4x16x128x64_S2x4x2048x64) transposes_S2x4x2048x64_S2x2048x4x64_0_2_1_3) shapeCasts_S2x2048x4x64_S4096x256

def heads (x : FVec Ideal S2x4x16x128x1 .f32) : FVec Ideal S4096x4 .f32 :=
  shapeCast _ (transpose S2x2048x4 [0, 2, 1] (shapeCast _ x shapeCasts_S2x4x16x128x1_S2x4x2048) transposes_S2x4x2048_S2x2048x4_0_2_1) shapeCasts_S2x2048x4_S4096x4

def beside (x : FVec Ideal S4096x4 .f32) : FVec Ideal S4096x128 .f32 :=
  concatenate S4096x128 1 [⟨S4096x4, x⟩, ⟨S4096x124, broadcastInDim S4096x124 ![] bcast_S_S4096x124 (constant S_ .f32 0x00000000#32)⟩] concatenates_S4096x4_S4096x124_S4096x128_d1

theorem back_at (x : FVec Ideal S2x4x16x128x64 .f32) :
    back x (ix2 (rowAt c (pos k p)) (⟨h.val * 64 + d.val, by omega⟩ : Fin 256))
      = x (ix5 c h k p d) := by
  have e (y : FVec Ideal S2x4x2048x64 .f32) :
      (transpose S2x2048x4x64 [0, 2, 1, 3] y transposes_S2x4x2048x64_S2x2048x4x64_0_2_1_3 : FVec Ideal S2x2048x4x64 .f32) (ix4 c (pos k p) h d) = y (ix4 c h (pos k p) d) := by
    pointwise
  refine (shapeCast_apply _ _ _ (ix4 c (pos k p) h d) ?_).trans ((e _).trans (shapeCast_apply _ _ _ (ix5 c h k p d) ?_))
  · rw [Shape.rowMajor_val_two, Shape.rowMajor_val_four]
    show ((c.val * 2048 + (k.val * 128 + p.val)) * 4 + h.val) * 64 + d.val = (c.val * 2048 + (k.val * 128 + p.val)) * 256 + (h.val * 64 + d.val)
    omega
  · rw [Shape.rowMajor_val_four, Shape.rowMajor_val_five]
    show (((c.val * 4 + h.val) * 16 + k.val) * 128 + p.val) * 64 + d.val = ((c.val * 4 + h.val) * 2048 + (k.val * 128 + p.val)) * 64 + d.val
    omega

theorem heads_at (x : FVec Ideal S2x4x16x128x1 .f32) :
    heads x (ix2 (rowAt c (pos k p)) h)
      = x (ix5 c h k p (0 : Fin 1)) := by
  have e (y : FVec Ideal S2x4x2048 .f32) :
      (transpose S2x2048x4 [0, 2, 1] y transposes_S2x4x2048_S2x2048x4_0_2_1 : FVec Ideal S2x2048x4 .f32) (ix3 c (pos k p) h) = y (ix3 c h (pos k p)) := by
    pointwise
  refine (shapeCast_apply _ _ _ (ix3 c (pos k p) h) ?_).trans ((e _).trans (shapeCast_apply _ _ _ (ix5 c h k p (0 : Fin 1)) ?_))
  · rw [Shape.rowMajor_val_two, Shape.rowMajor_val_three]
    show (c.val * 2048 + (k.val * 128 + p.val)) * 4 + h.val = (c.val * 2048 + (k.val * 128 + p.val)) * 4 + h.val
    omega
  · rw [Shape.rowMajor_val_three, Shape.rowMajor_val_five]
    show (((c.val * 4 + h.val) * 16 + k.val) * 128 + p.val) * 1 + 0 = (c.val * 4 + h.val) * 2048 + (k.val * 128 + p.val)
    omega

/-- The attention, and its denominators' logarithms. -/
def outs : FVec Ideal S4096x256 .f32 :=
  back (share (rises (bounded a b)) (window (values (apart a))) (all (rises (bounded a b))))

def logs : FVec Ideal S4096x128 .f32 :=
  beside (heads (rest (most (bounded a b)) (all (rises (bounded a b)))))

theorem rises_bounded :
    rises (bounded a b) (ix5 c h k p n) = rise (score 16 0 a b (rowAt c (pos k p)) h) n :=
  (rises_at c h k p n _).trans (congrArg (fun f => rise f n) (funext fun n => bounded_at c h k p n a b))

theorem outs_at :
    outs a b (ix2 (rowAt c (pos k p)) (⟨h.val * 64 + d.val, by omega⟩ : Fin 256)) = mixed 16 0 a b (rowAt c (pos k p)) h d := by
  refine (back_at c h k p d _).trans ((share_at c h k p d _ _ _).trans ?_)
  rw [all_at]
  unfold mixed
  rw [← blend_congr (v := fun n => window (values (apart a)) (ix5 c h k n d))]
  · unfold blend
    exact congrArg₂ Ideal.div (Finset.sum_congr (M := EReal) rfl fun n _ => congrArg (fun x : EReal => x * _) (rises_bounded c h k p n a b))
      (Finset.sum_congr (M := EReal) rfl fun n _ => rises_bounded c h k p n a b)
  · intro n
    by_cases e : (n.val ≤ p.val + 128 ∧ p.val ≤ n.val) ∧ (k.val ≠ 0 ∨ 128 ≤ n.val)
    · refine Or.inr ?_
      rw [window_at c h k n ⟨k.val * 128 + n.val - 128, by omega⟩ d _ e.2 rfl, values_at, apart_at]
      refine congrArg a (congrArg₂ ix2 (key_row c k p n e.2) (Fin.ext ?_))
      show 2 * 256 + (h.val * 64 + d.val) = 512 + (64 * h.val + d.val); omega
    · exact Or.inl (if_neg fun x => e ((sees_iff c k p n).mpr x))

theorem beside_at (x : FVec Ideal S4096x4 .f32) (i : Fin 4096) (l : Fin 128) :
    beside x (ix2 i l)
      = if hl : l.val < 4 then x (ix2 i ⟨l.val, hl⟩) else 0 := by
  pointwise [beside]

theorem logs_at (l : Fin 128) :
    logs a b (ix2 (rowAt c (pos k p)) l) = logged 16 0 a b (rowAt c (pos k p)) l := by
  refine (beside_at _ _ l).trans ?_
  unfold logged
  by_cases hl : l.val < 4
  · rw [dif_pos hl, dif_pos hl]
    refine (heads_at c ⟨l.val, hl⟩ k p _).trans ((rest_at c ⟨l.val, hl⟩ k p _ _).trans ?_)
    rw [most_at, all_at]
    unfold height
    exact congrArg₂ (fun x y : EReal => x + Ideal.log y) (congrArg (fun f => Finset.fold max lowest f Finset.univ) (funext fun n => bounded_at c _ k p n a b))
      (Finset.sum_congr (M := EReal) rfl fun n _ => rises_bounded c _ k p n a b)
  · rw [dif_neg hl, dif_neg hl]

theorem row_eq (i : Fin 4096) : rowAt ⟨i.val / 2048, by omega⟩ (pos ⟨i.val % 2048 / 128, by omega⟩ (within i)) = i :=
  Fin.ext (by show i.val / 2048 * 2048 + (i.val % 2048 / 128 * 128 + i.val % 128) = i.val; omega)

theorem outs_entry (i : Fin 4096) (j : Fin 256) :
    outs a b (ix2 i j) = mixed 16 0 a b i (headOf j) (laneOf j) := by
  have hj : (⟨(headOf j).val * 64 + (laneOf j).val, by omega⟩ : Fin 256) = j := Fin.ext (by show j.val / 64 * 64 + j.val % 64 = j.val; omega)
  have e := outs_at ⟨i.val / 2048, by omega⟩ (headOf j) ⟨i.val % 2048 / 128, by omega⟩ (within i) (laneOf j) a b
  rw [row_eq, hj] at e
  exact e

theorem logs_entry (i : Fin 4096) (l : Fin 128) : logs a b (ix2 i l) = logged 16 0 a b i l := by
  have e := logs_at ⟨i.val / 2048, by omega⟩ ⟨i.val % 2048 / 128, by omega⟩ (within i) a b l
  rw [row_eq] at e
  exact e

variable (m : (ℓ : Loc nD τ sig) → Buf (Elt Ideal) ℓ) (e : Dev nD)

theorem outs_eq : Band0ReferenceIdeal.Value.res_out0 (F := Ideal) m e
    = outs (m ((e.tc : Thread nD τ).loc main_arg0)) (m ((e.tc : Thread nD τ).loc main_arg1)) := rfl

theorem logs_eq : Band0ReferenceIdeal.Value.res_out1 (F := Ideal) m e
    = logs (m ((e.tc : Thread nD τ).loc main_arg0)) (m ((e.tc : Thread nD τ).loc main_arg1)) := rfl

end

/-! ## The claims -/

theorem frame_reference : quiescent_Band0ReferenceIdeal := fun m g _ =>
  (θ_run _ _ _).mono (fun r h => ⟨fun c => (h c).2.2, sem_eq_zero_of_no_sems (by decide) r.2⟩)
    (Band0ReferenceIdeal.Value.run (F := Ideal) m g)

theorem preserves : preserves_Band0_Band0Ideal := IdealRules.named_const.statement Band0Ideal.κ "mask" .f32 0xF149F2CA#32 ⊥ rfl

theorem algebraic : algebraic_Band0Ideal_Band0ReferenceIdeal := fun m g m' g' _ hm =>
  ⟨_, _, (θ_run _ _ _).mono (fun _ h c => ⟨(h c).1.trans (final m c), (h c).2.1.trans (finalLog m c), (h c).2.2⟩)
      (Band0Ideal.Value.run_blocks m g),
    (θ_run _ _ _).mono (fun r h c => by
      obtain ⟨e0, e1⟩ := hm c
      obtain ⟨r1, r2, r3⟩ := h c
      refine ⟨funext fun i => ?_, funext fun i => ?_, r3⟩
      · rw [r1]
        refine (congrFun (outs_eq m' c) i).trans ?_
        rw [e0, e1]
        exact (congrArg _ (ix2_eta (n0 := 4096) (n1 := 256) i).symm).trans (outs_entry _ _ (i 0) (i 1))
      · rw [r2]
        refine (congrFun (logs_eq m' c) i).trans ?_
        rw [e0, e1]
        exact (congrArg _ (ix2_eta (n0 := 4096) (n1 := 128) i).symm).trans (logs_entry _ _ (i 0) (i 1)))
      (Band0ReferenceIdeal.Value.run (F := Ideal) m' g')⟩

end Cert.Dilated.Short

end
-- ==== Proof.ShiftAdd.lean ====
/-
# The shifted sum

Each block adds the block after it; the last adds nothing.
-/
module

public import proofs.«01_k».proof.Defs
public import proofs.«01_k».proof.Proof.Products
public import proofs.«01_k».proof.Proof.Gen.ShiftAddIdeal.Value
public import proofs.«01_k».proof.Proof.Gen.ShiftAdd.Frame
public import proofs.«01_k».proof.Proof.Gen.ShiftAddReferenceIdeal.Run

@[expose] public section

noncomputable section

open Idealize.ShloMosaic Idealize.ShloMosaic.TcCoe Idealize.SL.Sem Cert.Products

namespace Cert.Shifted

/-- An entry: the row's own, plus the row a block further down, or nothing past the end. -/
abbrev entry (x y : (⟨2, ![4096, 256]⟩ : Shape).Idx → EReal) (i : Fin 4096) (j : Fin 256) : EReal :=
  x (ix2 i j) + if h : i.val < 3968 then y (ix2 ⟨128 + i.val, by omega⟩ j) else 0

section
open Cert.ShiftAddIdeal Cert.ShiftAddIdeal.Gen

/-- The factor: one but at the last point. -/
abbrev keep (t : Fin grid0.N) : BitVec 32 := Scalar.extui (Scalar.cmpi .slt (BitVec.ofNat 32 (grid0.coords t 0).val) 31#32)

theorem keep_at : ∀ t : Fin grid0.N, (keep t).toInt = if t.val < 31 then 1 else 0 := by
  decide +kernel

theorem factor_at (t : Fin grid0.N) : (Scalar.sitofp .f32 (keep t) : Ideal .f32) = if t.val < 31 then 1 else 0 := by
  show (((keep t).toInt : ℝ) : EReal) = _
  rw [keep_at]
  split <;> simp

theorem pay_at (t : Fin grid0.N) (x y : Vec Ideal S128x256 .f32) (p : Fin 128) (q : Fin 256) :
    (k0_pay1 (grid0.coords t) x y : Vec Ideal S128x256 .f32) (ix2 p q) = x (ix2 p q) + if t.val < 31 then y (ix2 p q) else 0 := by
  have e : (k0_pay1 (grid0.coords t) x y : Vec Ideal S128x256 .f32) (ix2 p q)
      = x (ix2 p q) + (Scalar.sitofp .f32 (keep t) : Ideal .f32) * y (ix2 p q) := by
    pointwise [k0_pay1]
  rw [e, factor_at]
  split
  · rw [one_mul]
  · rw [zero_mul]

theorem out_at (t : Fin grid0.N) (x y : Vec Ideal S128x256 .f32) (p : Fin 128) (q : Fin 256) :
    (out0_2 (grid0.coords t) x y : Vec Ideal S128x256 .f32) (ix2 p q) = x (ix2 p q) + if t.val < 31 then y (ix2 p q) else 0 := by
  unfold out0_2
  rw [View.canon_unit_zero zeros, View.ld_unit_zero (S := S128x256) zeros, View.ld_unit_zero (S := S128x256) zeros]
  exact pay_at t x y p q

/-! ## The blocks -/

variable (m : (ℓ : Loc nD τ sig) → Buf (Elt Ideal) ℓ)

/-- The arguments. -/
abbrev argX (c : Dev nD) : Vec Ideal S4096x256 .f32 := m ((c : Thread nD τ).loc main_arg0)
abbrev argY (c : Dev nD) : Vec Ideal S4096x256 .f32 := m ((c : Thread nD τ).loc main_arg1)

/-- Where a point's rows lie. -/
abbrev down (t : ℕ) (p : Fin 128) : Fin 4096 := into 32 128 t p

theorem index_tile : ∀ t : Fin cfg0.N, win0_0.index t (0 : Fin 2) = t.val % 32 ∧ win0_0.index t (1 : Fin 2) = 0
    ∧ (t.val < 31 → win0_1.index t (0 : Fin 2) = (t.val + 1) % 32) ∧ win0_1.index t (1 : Fin 2) = 0
    ∧ win0_2.index t (0 : Fin 2) = t.val % 32 ∧ win0_2.index t (1 : Fin 2) = 0 :=
  (by decide +kernel : ∀ t : Fin grid0.N, _)

theorem block_0 (c : Dev nD) (t : Fin cfg0.N) (p : Fin 128) (l : Fin 256) :
    (iblk m c 0 t : Vec Ideal S128x256 .f32) (ix2 p l) = argX m c (ix2 (down t.val p) l) :=
  have hi := index_tile t
  congrArg (argX m c) (at_ix2 (off hi.1) (at_zero hi.2.1))

theorem block_1 (c : Dev nD) (t : Fin cfg0.N) (h : t.val < 31) (p : Fin 128) (l : Fin 256) :
    (iblk m c 1 t : Vec Ideal S128x256 .f32) (ix2 p l) = argY m c (ix2 (down (t.val + 1) p) l) :=
  have hi := index_tile t
  congrArg (argY m c) (at_ix2 (off (hi.2.2.1 h)) (at_zero hi.2.2.2.1))

/-- The whole array. -/
abbrev whole (c : Dev nD) : Vec Ideal S4096x256 .f32 := fun i => entry (argX m c) (argY m c) (i 0) (i 1)

theorem sum_at (c : Dev nD) (t : Fin cfg0.N) (p : Fin 128) (q : Fin 256) :
    (out0_2 (grid0.coords t) (iblk m c 0 t) (iblk m c 1 t) : Vec Ideal S128x256 .f32) (ix2 p q) = entry (argX m c) (argY m c) (down t.val p) q := by
  have hN : cfg0.N = 32 := N_0
  have ht := t.isLt
  have hp := p.isLt
  have hv : (down t.val p).val = p.val + 128 * (t.val % 32) := rfl
  refine (out_at t _ _ p q).trans (congrArg₂ (· + ·) (block_0 m c t p q) ?_)
  by_cases h : t.val < 31
  · rw [if_pos h, dif_pos (by omega)]
    refine (block_1 m c t h p q).trans (congrArg (fun r => argY m c (ix2 r q)) (Fin.ext ?_))
    show p.val + 128 * ((t.val + 1) % 32) = 128 + (down t.val p).val
    omega
  · rw [if_neg h, dif_neg (by omega)]

theorem written (c : Dev nD) (t : Fin cfg0.N) (hf : (cfg0.win 2).flush t = true) :
    (dats m 0 c).flushed 2 t = ((cfg0.win 2).blk t).view.read (Elt Ideal) (whole m c) := by
  have hi := index_tile t
  rw [ShiftAddIdeal.Value.flushed2]
  funext j
  rw [View.read_apply]
  have hj : ((cfg0.win 2).blk t).view.emb j = ix2 (down t.val (j 0)) (j 1) := at_ix2
    (off hi.2.2.2.2.1) (at_zero hi.2.2.2.2.2)
  rw [hj]
  exact (congrArg (out0_2 (grid0.coords t) (iblk m c 0 t) (iblk m c 1 t)) (ix2_eta (n0 := 128) (n1 := 256) j).symm).trans
    (sum_at m c t (j 0) (j 1))

theorem final (c : Dev nD) : (dats m 0 c).arrAt 2 cfg0.N = whole m c :=
  (dats m 0 c).arrAt_eq_of_cover 2 (whole m c) (written m c) fun i => by
    have h0 : (i 0).val < 4096 := (i 0).isLt
    have h1 : (i 1).val < 256 := (i 1).isLt
    have hN : cfg0.N = 32 := N_0
    obtain ⟨t, ht⟩ : ∃ t : Fin cfg0.N, t.val = (i 0).val / 128 := ⟨⟨_, by omega⟩, rfl⟩
    have hi := index_tile t
    refine ⟨t, flush0_2 t, ?_⟩
    show i ∈ ((View.whole main_v0).slice (win0_2.rect t)).set
    rw [View.set_slice_whole, Rect.mem_set_unit]
    exact Fin.forall_fin_two.mpr ⟨within (s := 128) (by omega), within (s := 256) (by omega)⟩

end

section
open Cert.ShiftAddReferenceIdeal Cert.ShiftAddReferenceIdeal.Gen

/-- The reference's result: the same entry. -/
theorem ref_entry (x y : FVec Ideal S4096x256 .f32) (i : Fin 4096) (j : Fin 256) :
    (addf x (concatenate S4096x256 0 [⟨S3968x256, extractStridedSlice S3968x256 ![128, 0] y slices_S4096x256_S3968x256_128_0⟩,
        ⟨S128x256, broadcastInDim S128x256 ![] bcast_S_S128x256 (constant (F := Ideal) S_ .f32 0x00000000#32)⟩]
        concatenates_S3968x256_S128x256_S4096x256_d0) : FVec Ideal S4096x256 .f32) (ix2 i j)
      = entry x y i j := by
  unfold entry
  pointwise

end

/-! ## The claims -/

theorem frame_reference : quiescent_ShiftAddReferenceIdeal := fun m g _ =>
  (θ_run _ _ _).mono (fun r h => ⟨fun c => (h c).2, sem_eq_zero_of_no_sems (by decide) r.2⟩)
    (ShiftAddReferenceIdeal.Value.run (F := Ideal) m g)

theorem algebraic : algebraic_ShiftAddIdeal_ShiftAddReferenceIdeal := fun m g m' g' _ hm =>
  ⟨_, (θ_run _ _ _).mono (fun _ h c => ⟨(h c).1.trans (final m c), (h c).2⟩)
      (ShiftAddIdeal.Value.run_blocks m g),
    (θ_run _ _ _).mono (fun r h c => by
      obtain ⟨e0, e1⟩ := hm c
      obtain ⟨r1, r2⟩ := h c
      refine ⟨funext fun i => ?_, r2⟩
      rw [r1, e0, e1]
      exact (congrArg _ (ix2_eta (n0 := 4096) (n1 := 256) i).symm).trans (ref_entry _ _ (i 0) (i 1)))
      (ShiftAddReferenceIdeal.Value.run (F := Ideal) m' g')⟩

end Cert.Shifted

end
-- ==== Proof.Combine.lean ====
/-
# The dilations' combination

The three dilations' attention, weighted by the softmax of their denominators, head by head.
-/
module

public import proofs.«01_k».proof.Defs
public import proofs.«01_k».proof.Proof.Products
public import proofs.«01_k».proof.Proof.Gen.CombineIdeal.Value
public import proofs.«01_k».proof.Proof.Gen.Combine.Frame
public import proofs.«01_k».proof.Proof.Gen.CombineReferenceIdeal.Run
public import Idealize.ShloMosaic.Lib.Pipeline.ValueKit.Tiles

@[expose] public section

noncomputable section

open Idealize.ShloMosaic Idealize.ShloMosaic.TcCoe Idealize.SL.Sem Cert.Products

namespace Cert.Combined

/-- The largest of three, and the three's softmax as weights. -/
abbrev top (a b c : EReal) : EReal := max (max a b) c
abbrev total (a b c : EReal) : EReal := Ideal.exp (a - top a b c) + Ideal.exp (b - top a b c) + Ideal.exp (c - top a b c)
abbrev mix (a b c x y z : EReal) : EReal :=
  Ideal.div (Ideal.exp (a - top a b c)) (total a b c) * x + Ideal.div (Ideal.exp (b - top a b c)) (total a b c) * y
    + Ideal.div (Ideal.exp (c - top a b c)) (total a b c) * z

theorem mix_congr {a b c x y z a' b' c' x' y' z' : EReal} (ha : a = a') (hb : b = b') (hc : c = c') (hx : x = x') (hy : y = y') (hz : z = z') :
    mix a b c x y z = mix a' b' c' x' y' z' := by
  subst ha hb hc hx hy hz; rfl

/-- An entry's head. -/
abbrev head (j : Fin 256) : Fin 128 := ⟨j.val / 64, by omega⟩

/-- An entry: its three values, weighted by its head's denominators. -/
abbrev entry {n : ℕ} (x y z : (⟨2, ![n, 256]⟩ : Shape).Idx → EReal) (a b c : (⟨2, ![n, 128]⟩ : Shape).Idx → EReal) (i : Fin n) (j : Fin 256) : EReal :=
  mix (a (ix2 i (head j))) (b (ix2 i (head j))) (c (ix2 i (head j))) (x (ix2 i j)) (y (ix2 i j)) (z (ix2 i j))

section
open Cert.CombineIdeal Cert.CombineIdeal.Gen

section
variable (a b c : Vec Ideal S512x1 .f32) (x y z : Vec Ideal S512x64 .f32) (p : Fin 512) (e : Fin 64)

theorem head_0 : (k0_pay3 a b c x y z : Vec Ideal S512x64 .bf16) (ix2 p e)
    = mix (a (ix2 p 0)) (b (ix2 p 0)) (c (ix2 p 0)) (x (ix2 p e)) (y (ix2 p e)) (z (ix2 p e)) := by
  unfold mix
  pointwise [k0_pay3]

theorem head_1 : (k0_pay7 c (k0_pay4 a b c) (k0_pay5 a b c) (k0_pay6 a b c) x y z : Vec Ideal S512x64 .bf16) (ix2 p e)
    = mix (a (ix2 p 0)) (b (ix2 p 0)) (c (ix2 p 0)) (x (ix2 p e)) (y (ix2 p e)) (z (ix2 p e)) := head_0 a b c x y z p e

theorem head_2 : (k0_pay1 (k0_pay13 a b c) (k0_pay14 a b c x) y (k0_pay15 a b c) z : Vec Ideal S512x64 .bf16) (ix2 p e)
    = mix (a (ix2 p 0)) (b (ix2 p 0)) (c (ix2 p 0)) (x (ix2 p e)) (y (ix2 p e)) (z (ix2 p e)) := head_0 a b c x y z p e

theorem head_3 : (k0_pay2 a b c x y z : Vec Ideal S512x64 .bf16) (ix2 p e)
    = mix (a (ix2 p 0)) (b (ix2 p 0)) (c (ix2 p 0)) (x (ix2 p e)) (y (ix2 p e)) (z (ix2 p e)) := head_0 a b c x y z p e

end

variable (x y z : Vec Ideal S512x256 .f32) (a b c : Vec Ideal S512x128 .f32)

/-- A stripe's reads are its head's columns. -/
theorem stripe {o o' : ℕ} {i0 : ∀ a, (![0, o] : Fin 2 → ℕ) a + S512x64.size a ≤ S512x256.size a}
    {i1 : ∀ a, (![0, o'] : Fin 2 → ℕ) a + S512x1.size a ≤ S512x128.size a} (ho : o = 64 * o')
    {p p' : Fin 512} {j : Fin 256} {e : Fin 64} (hp : p.val = 0 + p'.val) (hj : j.val = o + e.val) :
    mix (View.ld a (Rect.unit (s := S512x128) ![0, o'] S512x1.size i1) (ix2 p' 0)) (View.ld b (Rect.unit (s := S512x128) ![0, o'] S512x1.size i1) (ix2 p' 0))
        (View.ld c (Rect.unit (s := S512x128) ![0, o'] S512x1.size i1) (ix2 p' 0)) (View.ld x (Rect.unit (s := S512x256) ![0, o] S512x64.size i0) (ix2 p' e))
        (View.ld y (Rect.unit (s := S512x256) ![0, o] S512x64.size i0) (ix2 p' e)) (View.ld z (Rect.unit (s := S512x256) ![0, o] S512x64.size i0) (ix2 p' e))
      = entry x y z a b c p j := by
  have hl (l : Vec Ideal S512x128 .f32) : View.ld l (Rect.unit (s := S512x128) ![0, o'] S512x1.size i1) (ix2 p' 0) = l (ix2 p (head j)) :=
    congrArg l (at_ix2 (by show 0 + 1 * p'.val = p.val; omega) (by show o' + 1 * 0 = j.val / 64; omega))
  have hv (v : Vec Ideal S512x256 .f32) : View.ld v (Rect.unit (s := S512x256) ![0, o] S512x64.size i0) (ix2 p' e) = v (ix2 p j) :=
    congrArg v (at_ix2 (by show 0 + 1 * p'.val = p.val; omega) (by show o + 1 * e.val = j.val; omega))
  exact mix_congr (hl a) (hl b) (hl c) (hv x) (hv y) (hv z)

theorem out_at (p : Fin 512) (j : Fin 256) : (out0_6 x y z a b c : Vec Ideal S512x256 .bf16) (ix2 p j) = entry x y z a b c p j := by
  unfold out0_6
  refine View.canon_eq_of_allAt _ _ _ (cover0_6 _ _ _ _ _)
    (View.allAt_cons_unit _ _ _ _ _ (fun w hw => ?_) (View.allAt_cons_unit _ _ _ _ _ (fun w hw => ?_)
      (View.allAt_cons_unit _ _ _ _ _ (fun w hw => ?_) (View.allAt_cons_unit _ _ _ _ _ (fun w hw => ?_) (View.allAt_nil _ _)))))
  · exact (congrArg _ (ix2_eta (n0 := 512) (n1 := 64) w).symm).trans ((head_3 _ _ _ _ _ _ _ _).trans (stripe x y z a b c rfl (hw 0) (hw 1)))
  · exact (congrArg _ (ix2_eta (n0 := 512) (n1 := 64) w).symm).trans ((head_2 _ _ _ _ _ _ _ _).trans (stripe x y z a b c rfl (hw 0) (hw 1)))
  · exact (congrArg _ (ix2_eta (n0 := 512) (n1 := 64) w).symm).trans ((head_1 _ _ _ _ _ _ _ _).trans (stripe x y z a b c rfl (hw 0) (hw 1)))
  · exact (congrArg _ (ix2_eta (n0 := 512) (n1 := 64) w).symm).trans ((head_0 _ _ _ _ _ _ _ _).trans (stripe x y z a b c rfl (hw 0) (hw 1)))

/-! ## The blocks -/

variable (m : (ℓ : Loc nD τ sig) → Buf (Elt Ideal) ℓ)

/-- The arguments. -/
abbrev argX (c : Dev nD) : Vec Ideal S4096x256 .f32 := m ((c : Thread nD τ).loc main_arg0)
abbrev argY (c : Dev nD) : Vec Ideal S4096x256 .f32 := m ((c : Thread nD τ).loc main_arg1)
abbrev argZ (c : Dev nD) : Vec Ideal S4096x256 .f32 := m ((c : Thread nD τ).loc main_arg2)
abbrev argA (c : Dev nD) : Vec Ideal S4096x128 .f32 := m ((c : Thread nD τ).loc main_arg3)
abbrev argB (c : Dev nD) : Vec Ideal S4096x128 .f32 := m ((c : Thread nD τ).loc main_arg4)
abbrev argC (c : Dev nD) : Vec Ideal S4096x128 .f32 := m ((c : Thread nD τ).loc main_arg5)

/-- Where a point's rows lie. -/
abbrev down (t : ℕ) (p : Fin 512) : Fin 4096 := into 8 512 t p

theorem index_tile : ∀ t : Fin cfg0.N, (win0_0.index t (0 : Fin 2) = t.val % 8 ∧ win0_0.index t (1 : Fin 2) = 0)
    ∧ (win0_1.index t (0 : Fin 2) = t.val % 8 ∧ win0_1.index t (1 : Fin 2) = 0)
    ∧ (win0_2.index t (0 : Fin 2) = t.val % 8 ∧ win0_2.index t (1 : Fin 2) = 0)
    ∧ (win0_3.index t (0 : Fin 2) = t.val % 8 ∧ win0_3.index t (1 : Fin 2) = 0)
    ∧ (win0_4.index t (0 : Fin 2) = t.val % 8 ∧ win0_4.index t (1 : Fin 2) = 0)
    ∧ (win0_5.index t (0 : Fin 2) = t.val % 8 ∧ win0_5.index t (1 : Fin 2) = 0)
    ∧ win0_6.index t (0 : Fin 2) = t.val % 8 ∧ win0_6.index t (1 : Fin 2) = 0 :=
  (by decide +kernel : ∀ t : Fin grid0.N, _)

/-- A block's entries are its rows' entries. -/
theorem blocks (d : Dev nD) (t : Fin cfg0.N) (p : Fin 512) (j : Fin 256) :
    entry (iblk m d 0 t : Vec Ideal S512x256 .f32) (iblk m d 1 t : Vec Ideal S512x256 .f32) (iblk m d 2 t : Vec Ideal S512x256 .f32)
        (iblk m d 3 t : Vec Ideal S512x128 .f32) (iblk m d 4 t : Vec Ideal S512x128 .f32) (iblk m d 5 t : Vec Ideal S512x128 .f32) p j
      = entry (argX m d) (argY m d) (argZ m d) (argA m d) (argB m d) (argC m d) (down t.val p) j := by
  obtain ⟨h0, h1, h2, h3, h4, h5, -⟩ := index_tile t
  unfold iblk
  refine mix_congr ?_ ?_ ?_ ?_ ?_ ?_ <;> rw [View.read_apply]
  · exact congrArg (argA m d) (at_ix2 (off h3.1) (at_zero h3.2))
  · exact congrArg (argB m d) (at_ix2 (off h4.1) (at_zero h4.2))
  · exact congrArg (argC m d) (at_ix2 (off h5.1) (at_zero h5.2))
  · exact congrArg (argX m d) (at_ix2 (off h0.1) (at_zero h0.2))
  · exact congrArg (argY m d) (at_ix2 (off h1.1) (at_zero h1.2))
  · exact congrArg (argZ m d) (at_ix2 (off h2.1) (at_zero h2.2))

/-- The whole array. -/
abbrev whole (d : Dev nD) : Vec Ideal S4096x256 .bf16 := fun i => entry (argX m d) (argY m d) (argZ m d) (argA m d) (argB m d) (argC m d) (i 0) (i 1)

theorem written (d : Dev nD) (t : Fin cfg0.N) (hf : (cfg0.win 6).flush t = true) :
    (dats m 0 d).flushed 6 t = ((cfg0.win 6).blk t).view.read (Elt Ideal) (whole m d) := by
  obtain ⟨-, -, -, -, -, -, hi⟩ := index_tile t
  rw [CombineIdeal.Value.flushed6]
  funext j
  rw [View.read_apply]
  have hj : ((cfg0.win 6).blk t).view.emb j = ix2 (down t.val (j 0)) (j 1) := at_ix2 (off hi.1) (at_zero hi.2)
  rw [hj]
  exact (congrArg (out0_6 (iblk m d 0 t) (iblk m d 1 t) (iblk m d 2 t) (iblk m d 3 t) (iblk m d 4 t) (iblk m d 5 t))
    (ix2_eta (n0 := 512) (n1 := 256) j).symm).trans ((out_at _ _ _ _ _ _ (j 0) (j 1)).trans (blocks m d t (j 0) (j 1)))

theorem final (d : Dev nD) : (dats m 0 d).arrAt 6 cfg0.N = whole m d :=
  (dats m 0 d).arrAt_eq_of_cover 6 (whole m d) (written m d) fun i => by
    have h0 : (i 0).val < 4096 := (i 0).isLt
    have h1 : (i 1).val < 256 := (i 1).isLt
    have hN : cfg0.N = 8 := N_0
    obtain ⟨t, ht⟩ : ∃ t : Fin cfg0.N, t.val = (i 0).val / 512 := ⟨⟨_, by omega⟩, rfl⟩
    obtain ⟨-, -, -, -, -, -, hi⟩ := index_tile t
    refine ⟨t, flush0_6 t, ?_⟩
    show i ∈ ((View.whole main_v0).slice (win0_6.rect t)).set
    rw [View.set_slice_whole, Rect.mem_set_unit]
    exact Fin.forall_fin_two.mpr ⟨within (s := 512) (by omega), within (s := 256) (by omega)⟩

end

section
open Cert.CombineReferenceIdeal Cert.CombineReferenceIdeal.Gen

abbrev lowest : EReal := Ideal.ofBits .f32 0xFF800000#32

theorem lowest_eq : lowest = ⊥ := by simp [Ideal.ofBits, Ideal.ieee]

theorem top_eq (f : Fin 3 → EReal) : max lowest (Finset.fold max lowest f Finset.univ) = top (f 0) (f 1) (f 2) := by
  rw [max_eq_right ((Finset.le_fold_max _).mpr (Or.inl le_rfl)), lowest_eq]
  refine eq_of_forall_ge_iff fun c => ?_
  rw [Finset.fold_max_le, max_le_iff, max_le_iff]
  constructor
  · rintro ⟨-, h⟩
    exact ⟨⟨h 0 (Finset.mem_univ _), h 1 (Finset.mem_univ _)⟩, h 2 (Finset.mem_univ _)⟩
  · rintro ⟨⟨h0, h1⟩, h2⟩
    refine ⟨bot_le, fun k _ => ?_⟩
    match k with
    | 0 => exact h0
    | 1 => exact h1
    | 2 => exact h2

/-- The three denominators, one upon another, and the three values. -/
def lse (a b c : FVec Ideal S4096x128 .f32) : FVec Ideal S3x4096x4 .f32 :=
  extractStridedSlice S3x4096x4 ![0, 0, 0] (concatenate S3x4096x128 0 [⟨S1x4096x128, broadcastInDim S1x4096x128 ![1, 2] bcast_S4096x128_S1x4096x128_1_2 a⟩,
    ⟨S1x4096x128, broadcastInDim S1x4096x128 ![1, 2] bcast_S4096x128_S1x4096x128_1_2 b⟩, ⟨S1x4096x128, broadcastInDim S1x4096x128 ![1, 2] bcast_S4096x128_S1x4096x128_1_2 c⟩]
    concatenates_S1x4096x128_S1x4096x128_S1x4096x128_S3x4096x128_d0) slices_S3x4096x128_S3x4096x4_0_0_0

def outs (a b c : FVec Ideal S4096x256 .f32) : FVec Ideal S3x4096x4x64 .f32 :=
  shapeCast _ (concatenate S3x4096x256 0 [⟨S1x4096x256, broadcastInDim S1x4096x256 ![1, 2] bcast_S4096x256_S1x4096x256_1_2 a⟩,
    ⟨S1x4096x256, broadcastInDim S1x4096x256 ![1, 2] bcast_S4096x256_S1x4096x256_1_2 b⟩, ⟨S1x4096x256, broadcastInDim S1x4096x256 ![1, 2] bcast_S4096x256_S1x4096x256_1_2 c⟩]
    concatenates_S1x4096x256_S1x4096x256_S1x4096x256_S3x4096x256_d0 : FVec Ideal S3x4096x256 .f32) shapeCasts_S3x4096x256_S3x4096x4x64

section
variable (a b c : FVec Ideal S4096x128 .f32) (x y z : FVec Ideal S4096x256 .f32) (i : Fin 4096) (h : Fin 4) (e : Fin 64)

theorem lse_at (k : Fin 3) : lse a b c (ix3 k i h) = (![a, b, c] k) (ix2 i ⟨h.val, by omega⟩) := by
  match k with
  | 0 => show lse a b c (ix3 (0 : Fin 3) i h) = a (ix2 i ⟨h.val, by omega⟩); pointwise [lse]
  | 1 => show lse a b c (ix3 (1 : Fin 3) i h) = b (ix2 i ⟨h.val, by omega⟩); pointwise [lse]
  | 2 => show lse a b c (ix3 (2 : Fin 3) i h) = c (ix2 i ⟨h.val, by omega⟩); pointwise [lse]

theorem outs_at (k : Fin 3) : outs x y z (ix4 k i h e) = (![x, y, z] k) (ix2 i ⟨h.val * 64 + e.val, by omega⟩) := by
  match k with
  | 0 => show outs x y z (ix4 (0 : Fin 3) i h e) = x (ix2 i ⟨h.val * 64 + e.val, by omega⟩); pointwise [outs]
  | 1 => show outs x y z (ix4 (1 : Fin 3) i h e) = y (ix2 i ⟨h.val * 64 + e.val, by omega⟩); pointwise [outs]
  | 2 => show outs x y z (ix4 (2 : Fin 3) i h e) = z (ix2 i ⟨h.val * 64 + e.val, by omega⟩); pointwise [outs]

theorem most_at (l : FVec Ideal S3x4096x4 .f32) :
    (Host.reduce FloatOps.maximumf l (constant S_ .f32 0xFF800000#32) reducesTo_S3x4096x4_S4096x4_d0 h_S_ : FVec Ideal S4096x4 .f32) (ix2 i h)
      = Finset.fold max lowest (fun k => l (ix3 k i h)) Finset.univ := by
  pointwise

theorem sum_at (l : FVec Ideal S3x4096x4 .f32) :
    (Host.reduceAdd l (constant S_ .f32 0x00000000#32) reducesTo_S3x4096x4_S4096x4_d0 h_S_ : FVec Ideal S4096x4 .f32) (ix2 i h) = ∑ k, l (ix3 k i h) := by
  pointwise

theorem shifted_at (l : FVec Ideal S3x4096x4 .f32) (v : FVec Ideal S4096x4 .f32) (k : Fin 3) :
    (Host.exp (subf l (broadcastInDim S3x4096x4 ![0, 1, 2] bcast_S1x4096x4_S3x4096x4_0_1_2 (broadcastInDim S1x4096x4 ![1, 2] bcast_S4096x4_S1x4096x4_1_2
      (maximumf (broadcastInDim S4096x4 ![] bcast_S_S4096x4 (constant S_ .f32 0xFF800000#32)) v)))) : FVec Ideal S3x4096x4 .f32) (ix3 k i h)
      = Ideal.exp (l (ix3 k i h) - max lowest (v (ix2 i h))) := by
  pointwise

theorem shared_at (l : FVec Ideal S3x4096x4 .f32) (v : FVec Ideal S4096x4 .f32) (k : Fin 3) :
    (Host.divf l (broadcastInDim S3x4096x4 ![0, 1, 2] bcast_S1x4096x4_S3x4096x4_0_1_2 (broadcastInDim S1x4096x4 ![1, 2] bcast_S4096x4_S1x4096x4_1_2 v)) : FVec Ideal S3x4096x4 .f32) (ix3 k i h)
      = Ideal.div (l (ix3 k i h)) (v (ix2 i h)) := by
  pointwise

theorem joined_at (w : FVec Ideal S3x4096x4 .f32) (o : FVec Ideal S3x4096x4x64 .f32) (j : Fin 256) :
    (truncf .bf16 (shapeCast _ (Host.reduceAdd (mulf (broadcastInDim S3x4096x4x64 ![0, 1, 2, 3] bcast_S3x4096x4x1_S3x4096x4x64_0_1_2_3
      (broadcastInDim S3x4096x4x1 ![0, 1, 2] bcast_S3x4096x4_S3x4096x4x1_0_1_2 w)) o) (constant S_ .f32 0x00000000#32) reducesTo_S3x4096x4x64_S4096x4x64_d0 h_S_)
      shapeCasts_S4096x4x64_S4096x256) bitsLt_bf16_f32 : FVec Ideal S4096x256 .bf16) (ix2 i j)
      = ∑ k : Fin 3, w (ix3 k i ⟨j.val / 64, by omega⟩) * o (ix4 k i ⟨j.val / 64, by omega⟩ ⟨j.val % 64, by omega⟩) := by
  pointwise

end

/-- The exponentials, and the softmax. -/
def rises (l : FVec Ideal S3x4096x4 .f32) : FVec Ideal S3x4096x4 .f32 :=
  Host.exp (subf l (broadcastInDim S3x4096x4 ![0, 1, 2] bcast_S1x4096x4_S3x4096x4_0_1_2 (broadcastInDim S1x4096x4 ![1, 2] bcast_S4096x4_S1x4096x4_1_2
    (maximumf (broadcastInDim S4096x4 ![] bcast_S_S4096x4 (constant S_ .f32 0xFF800000#32))
      (Host.reduce FloatOps.maximumf l (constant S_ .f32 0xFF800000#32) reducesTo_S3x4096x4_S4096x4_d0 h_S_)))))

def weights (l : FVec Ideal S3x4096x4 .f32) : FVec Ideal S3x4096x4 .f32 :=
  Host.divf (rises l) (broadcastInDim S3x4096x4 ![0, 1, 2] bcast_S1x4096x4_S3x4096x4_0_1_2 (broadcastInDim S1x4096x4 ![1, 2] bcast_S4096x4_S1x4096x4_1_2
    (Host.reduceAdd (rises l) (constant S_ .f32 0x00000000#32) reducesTo_S3x4096x4_S4096x4_d0 h_S_)))

theorem rises_at (l : FVec Ideal S3x4096x4 .f32) (i : Fin 4096) (h : Fin 4) (k : Fin 3) :
    rises l (ix3 k i h) = Ideal.exp (l (ix3 k i h) - top (l (ix3 0 i h)) (l (ix3 1 i h)) (l (ix3 2 i h))) := by
  refine (shifted_at i h l _ k).trans ?_
  rw [most_at, top_eq]

theorem weights_at (l : FVec Ideal S3x4096x4 .f32) (i : Fin 4096) (h : Fin 4) (k : Fin 3) :
    weights l (ix3 k i h) = Ideal.div (Ideal.exp (l (ix3 k i h) - top (l (ix3 0 i h)) (l (ix3 1 i h)) (l (ix3 2 i h))))
      (total (l (ix3 0 i h)) (l (ix3 1 i h)) (l (ix3 2 i h))) := by
  refine (shared_at i h _ _ k).trans ?_
  rw [sum_at, Fin.sum_univ_three, rises_at, rises_at, rises_at, rises_at]

/-- The reference's result. -/
def result (x y z : FVec Ideal S4096x256 .f32) (a b c : FVec Ideal S4096x128 .f32) : FVec Ideal S4096x256 .bf16 :=
  truncf .bf16 (shapeCast _ (Host.reduceAdd (mulf (broadcastInDim S3x4096x4x64 ![0, 1, 2, 3] bcast_S3x4096x4x1_S3x4096x4x64_0_1_2_3
    (broadcastInDim S3x4096x4x1 ![0, 1, 2] bcast_S3x4096x4_S3x4096x4x1_0_1_2 (weights (lse a b c)))) (outs x y z)) (constant S_ .f32 0x00000000#32)
    reducesTo_S3x4096x4x64_S4096x4x64_d0 h_S_) shapeCasts_S4096x4x64_S4096x256) bitsLt_bf16_f32

/-- It is the same entry. -/
theorem ref_entry (x y z : FVec Ideal S4096x256 .f32) (a b c : FVec Ideal S4096x128 .f32) (i : Fin 4096) (j : Fin 256) :
    result x y z a b c (ix2 i j) = entry x y z a b c i j := by
  have hj : (⟨j.val / 64 * 64 + j.val % 64, by omega⟩ : Fin 256) = j := Fin.ext (Nat.div_add_mod' ..)
  refine (joined_at i _ _ j).trans ?_
  rw [Fin.sum_univ_three]
  simp only [weights_at, lse_at, outs_at]
  rw [hj]
  rfl

theorem res_eq (m : (ℓ : Loc nD τ sig) → Buf (Elt Ideal) ℓ) (c : Dev nD) :
    CombineReferenceIdeal.Value.res_out0 (F := Ideal) m c
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := rfl

end

/-! ## The claims -/

theorem frame_reference : quiescent_CombineReferenceIdeal := fun m g _ =>
  (θ_run _ _ _).mono (fun r h => ⟨fun c => (h c).2, sem_eq_zero_of_no_sems (by decide) r.2⟩)
    (CombineReferenceIdeal.Value.run (F := Ideal) m g)

theorem algebraic : algebraic_CombineIdeal_CombineReferenceIdeal := fun m g m' g' _ hm =>
  ⟨_, (θ_run _ _ _).mono (fun _ h c => ⟨(h c).1.trans (final m c), (h c).2⟩)
      (CombineIdeal.Value.run_blocks m g),
    (θ_run _ _ _).mono (fun r h c => by
      obtain ⟨e0, e1, e2, e3, e4, e5⟩ := hm c
      obtain ⟨r1, r2⟩ := h c
      refine ⟨funext fun i => ?_, r2⟩
      rw [r1]
      refine (congrFun (res_eq m' c) i).trans ?_
      rw [e0, e1, e2, e3, e4, e5]
      exact (congrArg _ (ix2_eta (n0 := 4096) (n1 := 256) i).symm).trans (ref_entry _ _ _ _ _ _ (i 0) (i 1)))
      (CombineReferenceIdeal.Value.run (F := Ideal) m' g')⟩

end Cert.Combined

end
-- ==== Proof.BackConv.lean ====
/-
# The transposed convolution

Each row takes its own, the next and the next but one, within its sequence.
-/
module

public import proofs.«01_k».proof.Defs
public import proofs.«01_k».proof.Proof.Products
public import proofs.«01_k».proof.Proof.Gen.BackConvIdeal.Value
public import proofs.«01_k».proof.Proof.Gen.BackConv.Frame
public import proofs.«01_k».proof.Proof.Gen.BackConvReferenceIdeal.Run

@[expose] public section

noncomputable section

open Idealize.ShloMosaic Idealize.ShloMosaic.TcCoe Idealize.SL.Sem Cert.Products

namespace Cert.Transposed

/-- The row `k` further down in the same sequence, or nothing past its end. -/
abbrev tail (x : (⟨2, ![4096, 2816]⟩ : Shape).Idx → EReal) (k : ℕ) (i : Fin 4096) (j : Fin 2816) : EReal :=
  if h : k + i.val % 2048 < 2048 then x (ix2 ⟨k + i.val, by omega⟩ j) else 0

abbrev entry (x : (⟨2, ![4096, 2816]⟩ : Shape).Idx → EReal) (w : (⟨2, ![3, 2816]⟩ : Shape).Idx → EReal) (i : Fin 4096) (j : Fin 2816) : EReal :=
  w (ix2 2 j) * x (ix2 i j) + w (ix2 1 j) * tail x 1 i j + w (ix2 0 j) * tail x 2 i j

section
open Cert.BackConvIdeal Cert.BackConvIdeal.Gen

/-- Whether the block is its sequence's last. -/
abbrev final_bit (t : Fin grid0.N) : BitVec 1 :=
  let v1 : BitVec 32 := Scalar.select (Scalar.cmpi .eq 8#32 0#32) 1#32 8#32
  let v2 : BitVec 32 := Scalar.remsi (BitVec.ofNat 32 (grid0.coords t 0).val) v1
  Scalar.cmpi .eq (Scalar.select (Scalar.andi (Scalar.xori (Scalar.cmpi .slt v2 0#32) (Scalar.cmpi .slt v1 0#32)) (Scalar.cmpi .ne v2 0#32))
    (Scalar.addi v2 v1) v2) 7#32

theorem final_at : ∀ t : Fin grid0.N, final_bit t = if t.val / 11 % 8 = 7 then 1#1 else 0#1 := by
  decide +kernel

/-- The block with the rows after it. -/
abbrev ext (t : Fin grid0.N) (a : Vec Ideal S256x256 .f32) (h : Vec Ideal S8x256 .f32) : FVec Ideal S264x256 .f32 :=
  concatenate S264x256 0 [⟨S256x256, a⟩, ⟨S8x256, Scalar.select (final_bit t) (broadcast S8x256 (Scalar.ofBits (F := Ideal) .f32 0x00000000#32)) h⟩]
    concatenates_S256x256_S8x256_S264x256_d0

theorem ext_at (t : Fin grid0.N) (a : Vec Ideal S256x256 .f32) (h : Vec Ideal S8x256 .f32) (r : Fin 264) (q : Fin 256) :
    ext t a h (ix2 r q) = if g : r.val < 256 then a (ix2 ⟨r.val, g⟩ q) else if t.val / 11 % 8 = 7 then 0 else h (ix2 ⟨r.val - 256, by omega⟩ q) := by
  unfold ext
  rw [final_at]
  by_cases e : t.val / 11 % 8 = 7
  · simp only [if_pos e]
    show (concatenate S264x256 0 [⟨S256x256, a⟩, ⟨S8x256, broadcast S8x256 (Scalar.ofBits (F := Ideal) .f32 0x00000000#32)⟩] _ : FVec Ideal S264x256 .f32) (ix2 r q) = _
    pointwise
  · simp only [if_neg e]
    show (concatenate S264x256 0 [⟨S256x256, a⟩, ⟨S8x256, h⟩] _ : FVec Ideal S264x256 .f32) (ix2 r q) = _
    pointwise

/-- The rows moved up by `k`. -/
abbrev up (n : BitVec 32) (x : FVec Ideal S264x256 .f32) : FVec Ideal S256x256 .f32 :=
  extractStridedSlice S256x256 ![0, 0] (dynamicRotate 0 n none x rotates_S264x256_d0) slices_S264x256_o0_0_S256x256

theorem up_at (n : BitVec 32) (x : FVec Ideal S264x256 .f32) (k : ℕ) (hk : k ≤ 2) (hn : n.toNat = 264 - k) (hk' : 0 < k) (p q : Fin 256) :
    up n x (ix2 p q) = x (ix2 ⟨k + p.val, by omega⟩ q) := by
  have e : up n x (ix2 p q) = (dynamicRotate 0 n none x rotates_S264x256_d0 : FVec Ideal S264x256 .f32) (ix2 ⟨p.val, by omega⟩ q) := by
    unfold up
    generalize (dynamicRotate 0 n none x rotates_S264x256_d0 : FVec Ideal S264x256 .f32) = y
    pointwise
  refine e.trans (congrArg x (at_ix2 ?_ rfl))
  have hp := p.isLt
  show (p.val + 264 - (n.toNat + 0) % 264) % 264 = k + p.val
  rw [hn]
  omega

theorem mixed (a b c : FVec Ideal S256x256 .f32) (w : Vec Ideal S3x256 .f32) (p q : Fin 256) :
    (truncf .bf16 (addf (addf (mulf (broadcastTo S256x256 (extractStridedSlice S1x256 ![2, 0] w slices_S3x256_o2_0_S1x256) broadcasts_S1x256_S256x256) a)
        (mulf (broadcastTo S256x256 (extractStridedSlice S1x256 ![1, 0] w slices_S3x256_o1_0_S1x256) broadcasts_S1x256_S256x256) b))
        (mulf (broadcastTo S256x256 (extractStridedSlice S1x256 ![0, 0] w slices_S3x256_o0_0_S1x256) broadcasts_S1x256_S256x256) c)) bitsLt_bf16_f32
      : FVec Ideal S256x256 .bf16) (ix2 p q)
      = w (ix2 2 q) * a (ix2 p q) + w (ix2 1 q) * b (ix2 p q) + w (ix2 0 q) * c (ix2 p q) := by
  pointwise

theorem out_at (t : Fin grid0.N) (a : Vec Ideal S256x256 .f32) (h : Vec Ideal S8x256 .f32) (w : Vec Ideal S3x256 .f32) (p q : Fin 256) :
    (out0_3 (grid0.coords t) a h w : Vec Ideal S256x256 .bf16) (ix2 p q)
      = w (ix2 2 q) * a (ix2 p q) + w (ix2 1 q) * ext t a h (ix2 ⟨1 + p.val, by omega⟩ q) + w (ix2 0 q) * ext t a h (ix2 ⟨2 + p.val, by omega⟩ q) := by
  unfold out0_3
  rw [View.canon_unit_zero zeros, View.ld_unit_zero (S := S256x256) zeros, View.ld_unit_zero (S := S8x256) zeros,
    View.ld_unit_zero (S := S3x256) zeros]
  refine (mixed a (up 263#32 (ext t a h)) (up 262#32 (ext t a h)) w p q).trans ?_
  rw [up_at 263#32 _ 1 (by decide) rfl (by decide), up_at 262#32 _ 2 (by decide) rfl (by decide)]

/-! ## The blocks -/

variable (m : (ℓ : Loc nD τ sig) → Buf (Elt Ideal) ℓ)

/-- The arguments. -/
abbrev argX (c : Dev nD) : Vec Ideal S4096x2816 .f32 := m ((c : Thread nD τ).loc main_arg0)
abbrev argW (c : Dev nD) : Vec Ideal S3x2816 .f32 := m ((c : Thread nD τ).loc main_arg1)

/-- Where a point's rows and columns lie. -/
abbrev down (t : ℕ) (p : Fin 256) : Fin 4096 := into 16 256 (t / 11) p
abbrev along (t : ℕ) (q : Fin 256) : Fin 2816 := into 11 256 t q

theorem index_tile : ∀ t : Fin cfg0.N, (win0_0.index t (0 : Fin 2) = t.val / 11 % 16 ∧ win0_0.index t (1 : Fin 2) = t.val % 11)
    ∧ ((t.val / 11 % 8 ≠ 7 → win0_1.index t (0 : Fin 2) = 32 * (t.val / 11 + 1)) ∧ win0_1.index t (1 : Fin 2) = t.val % 11)
    ∧ (win0_2.index t (0 : Fin 2) = 0 ∧ win0_2.index t (1 : Fin 2) = t.val % 11)
    ∧ win0_3.index t (0 : Fin 2) = t.val / 11 % 16 ∧ win0_3.index t (1 : Fin 2) = t.val % 11 :=
  (by decide +kernel : ∀ t : Fin grid0.N, _)

theorem block_0 (c : Dev nD) (t : Fin cfg0.N) (p l : Fin 256) :
    (iblk m c 0 t : Vec Ideal S256x256 .f32) (ix2 p l) = argX m c (ix2 (down t.val p) (along t.val l)) :=
  have hi := index_tile t
  congrArg (argX m c) (at_ix2 (off hi.1.1) (off hi.1.2))

theorem block_1 (c : Dev nD) (t : Fin cfg0.N) (h : t.val / 11 % 8 ≠ 7) (p : Fin 8) (l : Fin 256) (r : Fin 4096) (hr : p.val + 8 * (32 * (t.val / 11 + 1)) = r.val) :
    (iblk m c 1 t : Vec Ideal S8x256 .f32) (ix2 p l) = argX m c (ix2 r (along t.val l)) :=
  have hi := index_tile t
  congrArg (argX m c) (at_ix2 ((off (hi.2.1.1 h)).trans hr) (off hi.2.1.2))

theorem block_2 (c : Dev nD) (t : Fin cfg0.N) (n : Fin 3) (l : Fin 256) :
    (iblk m c 2 t : Vec Ideal S3x256 .f32) (ix2 n l) = argW m c (ix2 n (along t.val l)) :=
  have hi := index_tile t
  congrArg (argW m c) (at_ix2 (at_zero hi.2.2.1.1) (off hi.2.2.1.2))

theorem tail_at (c : Dev nD) (t : Fin cfg0.N) (k : ℕ) (hk : k ≤ 2) (p q : Fin 256) :
    ext t (iblk m c 0 t) (iblk m c 1 t) (ix2 ⟨k + p.val, by omega⟩ q) = tail (argX m c) k (down t.val p) (along t.val q) := by
  have hN : cfg0.N = 176 := N_0
  have ht := t.isLt
  have hp := p.isLt
  have hv : (down t.val p).val = p.val + 256 * (t.val / 11 % 16) := rfl
  rw [ext_at]
  unfold tail
  by_cases h : k + p.val < 256
  · rw [dif_pos h, dif_pos (by omega)]
    refine (block_0 m c t ⟨k + p.val, h⟩ q).trans (congrArg (fun r => argX m c (ix2 r (along t.val q))) (Fin.ext ?_))
    show k + p.val + 256 * (t.val / 11 % 16) = k + (down t.val p).val
    omega
  · rw [dif_neg h]
    by_cases e : t.val / 11 % 8 = 7
    · rw [if_pos e, dif_neg (by omega)]
    · rw [if_neg e, dif_pos (by omega)]
      refine block_1 m c t e ⟨k + p.val - 256, by omega⟩ q _ ?_
      show k + p.val - 256 + 8 * (32 * (t.val / 11 + 1)) = k + (down t.val p).val
      omega

theorem sum_at (c : Dev nD) (t : Fin cfg0.N) (p q : Fin 256) :
    (out0_3 (grid0.coords t) (iblk m c 0 t) (iblk m c 1 t) (iblk m c 2 t) : Vec Ideal S256x256 .bf16) (ix2 p q)
      = entry (argX m c) (argW m c) (down t.val p) (along t.val q) := by
  refine (out_at t _ _ _ p q).trans ?_
  rw [block_2, block_2, block_2, block_0, tail_at m c t 1 (by decide), tail_at m c t 2 (by decide)]

/-- The whole array. -/
abbrev whole (c : Dev nD) : Vec Ideal S4096x2816 .bf16 := fun i => entry (argX m c) (argW m c) (i 0) (i 1)

theorem written (c : Dev nD) (t : Fin cfg0.N) (hf : (cfg0.win 3).flush t = true) :
    (dats m 0 c).flushed 3 t = ((cfg0.win 3).blk t).view.read (Elt Ideal) (whole m c) := by
  have hi := index_tile t
  rw [BackConvIdeal.Value.flushed3]
  funext j
  rw [View.read_apply]
  have hj : ((cfg0.win 3).blk t).view.emb j = ix2 (down t.val (j 0)) (along t.val (j 1)) := at_ix2
    (off hi.2.2.2.1) (off hi.2.2.2.2)
  rw [hj]
  exact (congrArg (out0_3 (grid0.coords t) (iblk m c 0 t) (iblk m c 1 t) (iblk m c 2 t)) (ix2_eta (n0 := 256) (n1 := 256) j).symm).trans
    (sum_at m c t (j 0) (j 1))

theorem final (c : Dev nD) : (dats m 0 c).arrAt 3 cfg0.N = whole m c :=
  (dats m 0 c).arrAt_eq_of_cover 3 (whole m c) (written m c) fun i => by
    have h0 : (i 0).val < 4096 := (i 0).isLt
    have h1 : (i 1).val < 2816 := (i 1).isLt
    have hN : cfg0.N = 176 := N_0
    obtain ⟨t, ht⟩ : ∃ t : Fin cfg0.N, t.val = 11 * ((i 0).val / 256) + (i 1).val / 256 := ⟨⟨_, by omega⟩, rfl⟩
    have hi := index_tile t
    refine ⟨t, flush0_3 t, ?_⟩
    show i ∈ ((View.whole main_v0).slice (win0_3.rect t)).set
    rw [View.set_slice_whole, Rect.mem_set_unit]
    exact Fin.forall_fin_two.mpr ⟨within (s := 256) (by omega), within (s := 256) (by omega)⟩

end

section
open Cert.BackConvReferenceIdeal Cert.BackConvReferenceIdeal.Gen

/-- The two sequences, each with two rows of zeros after it. -/
abbrev padded (x : FVec Ideal S4096x2816 .f32) : FVec Ideal S2x2050x2816 .f32 :=
  concatenate S2x2050x2816 1 [⟨S2x2048x2816, (shapeCast _ x shapeCasts_S4096x2816_S2x2048x2816)⟩,
    ⟨S2x2x2816, (broadcastInDim S2x2x2816 ![] bcast_S_S2x2x2816 (constant (F := Ideal) S_ .f32 0x00000000#32))⟩] concatenates_S2x2048x2816_S2x2x2816_S2x2050x2816_d1

theorem padded_at (x : FVec Ideal S4096x2816 .f32) (b : Fin 2) (s : Fin 2050) (j : Fin 2816) :
    padded x (ix3 b s j) = if h : s.val < 2048 then x (ix2 ⟨b.val * 2048 + s.val, by omega⟩ j) else 0 := by
  unfold padded
  pointwise

/-- A row of the weights, for every row of a sequence. -/
abbrev spread (v : FVec Ideal S1x2816 .f32) : FVec Ideal S2x2048x2816 .f32 :=
  broadcastInDim S2x2048x2816 ![0, 1, 2] bcast_S1x1x2816_S2x2048x2816_0_1_2 (broadcastInDim S1x1x2816 ![2] bcast_S2816_S1x1x2816_2 (shapeCast _ v shapeCasts_S1x2816_S2816))

/-- The weighted sum. -/
abbrev weighed (a b c : FVec Ideal S2x2048x2816 .f32) (w : FVec Ideal S3x2816 .f32) : FVec Ideal S4096x2816 .bf16 :=
  truncf .bf16 (shapeCast _ (addf (addf (mulf (spread (extractStridedSlice S1x2816 ![2, 0] w slices_S3x2816_S1x2816_2_0)) a)
    (mulf (spread (extractStridedSlice S1x2816 ![1, 0] w slices_S3x2816_S1x2816_1_0)) b)) (mulf (spread (extractStridedSlice S1x2816 ![0, 0] w slices_S3x2816_S1x2816_0_0)) c))
    shapeCasts_S2x2048x2816_S4096x2816) bitsLt_bf16_f32

theorem joined (a b c : FVec Ideal S2x2048x2816 .f32) (w : FVec Ideal S3x2816 .f32) (i : Fin 4096) (j : Fin 2816) :
    weighed a b c w (ix2 i j)
      = w (ix2 2 j) * a (ix3 ⟨i.val / 2048, by omega⟩ ⟨i.val % 2048, by omega⟩ j) + w (ix2 1 j) * b (ix3 ⟨i.val / 2048, by omega⟩ ⟨i.val % 2048, by omega⟩ j)
        + w (ix2 0 j) * c (ix3 ⟨i.val / 2048, by omega⟩ ⟨i.val % 2048, by omega⟩ j) := by
  unfold weighed spread
  pointwise

theorem cut_0 (x : FVec Ideal S2x2050x2816 .f32) (b : Fin 2) (s : Fin 2048) (j : Fin 2816) :
    extractStridedSlice S2x2048x2816 ![0, 0, 0] x slices_S2x2050x2816_S2x2048x2816_0_0_0 (ix3 b s j) = x (ix3 b ⟨0 + s.val, by omega⟩ j) := by
  pointwise

theorem cut_1 (x : FVec Ideal S2x2050x2816 .f32) (b : Fin 2) (s : Fin 2048) (j : Fin 2816) :
    extractStridedSlice S2x2048x2816 ![0, 1, 0] x slices_S2x2050x2816_S2x2048x2816_0_1_0 (ix3 b s j) = x (ix3 b ⟨1 + s.val, by omega⟩ j) := by
  pointwise

theorem cut_2 (x : FVec Ideal S2x2050x2816 .f32) (b : Fin 2) (s : Fin 2048) (j : Fin 2816) :
    extractStridedSlice S2x2048x2816 ![0, 2, 0] x slices_S2x2050x2816_S2x2048x2816_0_2_0 (ix3 b s j) = x (ix3 b ⟨2 + s.val, by omega⟩ j) := by
  pointwise

theorem tail_of (x : FVec Ideal S4096x2816 .f32) (k : ℕ) (hk : k ≤ 2) (i : Fin 4096) (j : Fin 2816) :
    padded x (ix3 ⟨i.val / 2048, by omega⟩ ⟨k + i.val % 2048, by omega⟩ j) = tail x k i j := by
  rw [padded_at]
  unfold tail
  split
  · exact congrArg (fun r => x (ix2 r j)) (Fin.ext (by show i.val / 2048 * 2048 + (k + i.val % 2048) = k + i.val; omega))
  · rfl

theorem tail_zero (x : FVec Ideal S4096x2816 .f32) (i : Fin 4096) (j : Fin 2816) : tail x 0 i j = x (ix2 i j) := by
  unfold tail
  rw [dif_pos (by omega)]
  exact congrArg (fun r => x (ix2 r j)) (Fin.ext (Nat.zero_add _))

/-- The reference's result. -/
abbrev result (x : FVec Ideal S4096x2816 .f32) (w : FVec Ideal S3x2816 .f32) : FVec Ideal S4096x2816 .bf16 :=
  weighed (extractStridedSlice S2x2048x2816 ![0, 0, 0] (padded x) slices_S2x2050x2816_S2x2048x2816_0_0_0)
    (extractStridedSlice S2x2048x2816 ![0, 1, 0] (padded x) slices_S2x2050x2816_S2x2048x2816_0_1_0)
    (extractStridedSlice S2x2048x2816 ![0, 2, 0] (padded x) slices_S2x2050x2816_S2x2048x2816_0_2_0) w

/-- It is the same entry. -/
theorem ref_entry (x : FVec Ideal S4096x2816 .f32) (w : FVec Ideal S3x2816 .f32) (i : Fin 4096) (j : Fin 2816) :
    result x w (ix2 i j) = entry x w i j := by
  refine (joined _ _ _ w i j).trans ?_
  rw [cut_0, cut_1, cut_2, tail_of x 0 (by decide), tail_of x 1 (by decide), tail_of x 2 (by decide), tail_zero]

end

/-! ## The claims -/

theorem frame_reference : quiescent_BackConvReferenceIdeal := fun m g _ =>
  (θ_run _ _ _).mono (fun r h => ⟨fun c => (h c).2, sem_eq_zero_of_no_sems (by decide) r.2⟩)
    (BackConvReferenceIdeal.Value.run (F := Ideal) m g)

theorem algebraic : algebraic_BackConvIdeal_BackConvReferenceIdeal := fun m g m' g' _ hm =>
  ⟨_, (θ_run _ _ _).mono (fun _ h c => ⟨(h c).1.trans (final m c), (h c).2⟩)
      (BackConvIdeal.Value.run_blocks m g),
    (θ_run _ _ _).mono (fun r h c => by
      obtain ⟨e0, e1⟩ := hm c
      obtain ⟨r1, r2⟩ := h c
      refine ⟨funext fun i => ?_, r2⟩
      rw [r1, e0, e1]
      exact (congrArg _ (ix2_eta (n0 := 4096) (n1 := 2816) i).symm).trans (ref_entry _ _ (i 0) (i 1)))
      (BackConvReferenceIdeal.Value.run (F := Ideal) m' g')⟩

end Cert.Transposed

end
-- ==== Proof.Steps.lean ====
/-
# The steps of an exchange's body

The three rules of an exchange as a body uses them, one hypothesis at a time: a copy within the device, a copy to another
device, and a wait.
-/
module

public import proofs.«01_k».proof.Proof.Slots

@[expose] public section

noncomputable section

namespace Cert.Exchange.Plan

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

set_option Elab.async false

variable {nD : Nat} {τ : Topo} {sig : RefSig} {F : FTy → Type} [FloatOps F]

local notation "𝕄" => MT nD τ sig Unit (Elt F) ℕ (Ghost nD τ sig) ℕ

variable (X : Plan nD τ sig F) {Λ : Idealize.SL.Sem.Labels} {defs : Defs nD τ sig (Elt F) Λ} (𝒱 : Variants)
variable (c : Dev nD) {α : Type} {sp sp' : Space} {s : Shape} {e : EltTy}

/-- A block that holds anything. -/
abbrev room (d : Dev nD) (m : Memref sig .tc sp s e) : sProp 𝕄 := iprop(∃ Z, owns (d.tc : Thread nD τ) m fullShare Z)

/-- A copy within the device. -/
theorem copy_step (k : Fin X.n) (ms : Memref sig .tc sp s e) (md : Memref sig .tc sp' s e)
    {src : Memref sig (c.tc : Thread nD τ).2.kind sp s e} {dst : Memref sig (c.tc : Thread nD τ).2.kind sp' s e} {sem : SemLoc sig}
    {hsrc : src.view.WordExact} {hdst : dst.view.WordExact} {hsem : DmaTarget.Typed (nD := nD) sp sem (.here dst)}
    {Q : α → sProp 𝕄} {kk : PUnit → Prog (TpuEff nD τ sig (Elt F) Λ .tc) α} (hs : sem = .dma (X.os k)) (h₁ : src = ms) (h₂ : dst = md)
    (q : PosShare TreeShare) (V : s.Idx → Elt F e) (hN : md.view.amount (.dma (X.os k)) = X.N)
    (hpay : iprop(owns (c.tc : Thread nD τ) md fullShare V ∗ owns (c.tc : Thread nD τ) ms q V) ⊢ X.pay c k) :
    X.recs ⊢ iprop(owns (c.tc : Thread nD τ) ms q V -∗ room c md -∗ X.tok c k
      -∗ (X.due c k -∗ wp frame (wpE defs 𝒱 (c.tc : Thread nD τ) none) Set.univ (kk ⟨⟩) Q)
      -∗ wp frame (wpE defs 𝒱 (c.tc : Thread nD τ) none) Set.univ (.op (.enqueueDma src (.here dst) sem hsrc hdst hsem) kk) Q) := by
  iintro #HR Hs Hd Ht Hk
  iapply (X.copy 𝒱 c k ms md hs h₁ h₂ q V hN hpay) $$ [Hs Hd Ht]
  · isplitr; · iexact HR
    isplitl [Hs]; · iexact Hs
    isplitl [Hd] <;> iassumption
  iexact Hk

/-- A copy to another device. -/
theorem send_step (n' : Dev nD) (ks kr : Fin X.n) (hn : n' = X.route kr c) {S S' : Finset (Fin X.n)} (hkr : kr ∈ S) (hS : S.erase kr = S')
    (ms : Memref sig .tc sp s e) (md : Memref sig .tc sp' s e)
    {src : Memref sig (c.tc : Thread nD τ).2.kind sp s e} {dst : Memref sig (n'.tc : Thread nD τ).2.kind sp' s e}
    {hsc : dst.view.ref.isScScratch = false} {sS sem : SemLoc sig}
    {hsrc : src.view.WordExact} {hdst : dst.view.WordExact} {hsem : DmaTarget.Typed sp sem (.remote (n'.tc : Thread nD τ) dst sS hsc)}
    {Q : α → sProp 𝕄} {kk : PUnit → Prog (TpuEff nD τ sig (Elt F) Λ .tc) α} (hsS : sS = .dma (X.os ks)) (hs : sem = .dma (X.os kr))
    (h₁ : src = ms) (h₂ : dst = md)
    (q : PosShare TreeShare) (V : s.Idx → Elt F e) (hN : md.view.amount (.dma (X.os kr)) = X.N)
    (hpay₁ : owns (c.tc : Thread nD τ) ms q V ⊢ X.pay c ks)
    (hpay₂ : owns ((X.route kr c).tc : Thread nD τ) md fullShare V ⊢ X.pay (X.route kr c) kr) :
    X.recs ⊢ iprop(owns (c.tc : Thread nD τ) ms q V -∗ room (X.route kr c) md -∗ X.owing c S -∗ X.tok c ks -∗ X.tok (X.route kr c) kr
      -∗ (iprop(X.due c ks ∗ X.owing c S') -∗ wp frame (wpE defs 𝒱 (c.tc : Thread nD τ) none) Set.univ (kk ⟨⟩) Q)
      -∗ wp frame (wpE defs 𝒱 (c.tc : Thread nD τ) none) Set.univ
          (.op (.enqueueDma src (.remote (n'.tc : Thread nD τ) dst sS hsc) sem hsrc hdst hsem) kk) Q) := by
  subst hS
  iintro #HR Hs Hd HO Ht Ht' Hk
  iapply (X.send 𝒱 c n' ks kr hn hkr ms md hsS hs h₁ h₂ q V hN hpay₁ hpay₂) $$ [Hs Hd HO Ht Ht']
  · isplitr; · iexact HR
    isplitl [Hs]; · iexact Hs
    isplitl [Hd]; · iexact Hd
    isplitl [HO]; · iexact HO
    isplitl [Ht] <;> iassumption
  iexact Hk

/-- A wait when nothing is owed to another device any more. -/
theorem wait_step (k : Fin X.n) {P : sProp 𝕄} (hP : X.pay c k ⊢ P)
    {w : TpuEff nD τ sig (Elt F) Λ .tc PUnit} {sm : SemLoc sig} {k' : ℕ}
    (hw : ∀ K : PUnit → sProp 𝕄, wpE defs 𝒱 (c.tc : Thread nD τ) none Set.univ w K = waitSpec (c.tc : Thread nD τ) Set.univ sm k' K)
    (hs : sm = .dma (X.os k)) (hN : k' = X.N)
    {Q : α → sProp 𝕄} {kk : PUnit → Prog (TpuEff nD τ sig (Elt F) Λ .tc) α} :
    X.recs ⊢ iprop(X.levs -∗ X.due c k -∗ X.here c k -∗ X.owing c ∅
      -∗ (iprop(X.owing c ∅ ∗ X.zero c k ∗ P) -∗ wp frame (wpE defs 𝒱 (c.tc : Thread nD τ) none) Set.univ (kk ⟨⟩) Q)
      -∗ wp frame (wpE defs 𝒱 (c.tc : Thread nD τ) none) Set.univ (.op w kk) Q) := by
  iintro #HR #HL Hd Hh HO Hk
  iapply (X.wp_wait 𝒱 c k ∅ (fun k' h => absurd h (Finset.notMem_empty k')) hw hs hN) $$ [Hd Hh HO]
  · isplitr; · iexact HR
    isplitr; · iexact HL
    isplitl [Hd]; · iexact Hd
    isplitl [Hh] <;> iassumption
  iintro ⟨HO, Hz, Hp⟩
  iapply Hk
  isplitl [HO]; · iexact HO
  isplitl [Hz]; · iexact Hz
  iapply hP; iexact Hp

end Cert.Exchange.Plan

end
-- ==== Proof.Pair.lean ====
/-
# The exchange between the two cores of a chip

Device `c` starts with eight blocks, two for each chip, one for each core. It keeps the blocks for its own place and sends
the others to its sibling: block `q` of its first result is its own block for its place on chip `q`, block `q` of the second
is its sibling's.
-/
module

public import proofs.«01_k».proof.Proof.Steps
public import proofs.«01_k».proof.Proof.Gen.PairKernel
public import proofs.«01_k».proof.Proof.Gen.PairKernelIdeal
public import proofs.«01_k».proof.Proof.Gen.PairKernelIdeal.Skeleton
public import proofs.«01_k».proof.Proof.Gen.PairKernelIdeal.Launch
public import proofs.«01_k».proof.Proof.Gen.PairKernelIdeal.Points

@[expose] public section

set_option maxRecDepth 16384

noncomputable section

namespace Cert.PairRun

open Cert.PairKernelIdeal Cert.PairKernelIdeal.Gen Cert.Exchange Cert.Exchange.Plan
open Idealize.ShloMosaic Idealize.ShloMosaic.TcCoe Idealize.ShloMosaic.ValueIdx
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Ghost nD τ sig) ℕ

/-! ## The devices, the blocks and the memrefs -/

/-- The other core of a device's chip. -/
def sib : Dev nD ≃ Dev nD where
  toFun c := ⟨c.val ^^^ 1, by revert c; decide⟩
  invFun c := ⟨c.val ^^^ 1, by revert c; decide⟩
  left_inv := by decide
  right_inv := by decide

theorem sib_sib : ∀ c : Dev nD, sib (sib c) = c := by decide

/-- A device's blocks: first those for its sibling's place on each chip, then those for its own. -/
def blk (c : Dev nD) (k : Fin 8) : Fin 8 := ⟨2 * (k.val % 4) + (if k.val < 4 then 1 - c.val % 2 else c.val % 2), by revert c k; decide⟩

/-- The blocks in that order. -/
def order (c : Dev nD) : Fin 8 ≃ Fin 8 := Equiv.ofBijective (blk c) (by revert c; decide)

abbrev gM : Memref sig .tc .hbm S8x3360x1024 .bf16 := Memref.whole main_arg0
abbrev oM : Memref sig .tc .hbm S4x3360x1024 .bf16 := Memref.whole main_v1_0
abbrev rM : Memref sig .tc .hbm S4x3360x1024 .bf16 := Memref.whole main_v1_1
abbrev srcM (i : Fin 8) : Memref sig .tc .hbm S3360x1024 .bf16 := slot (n := 8) gM squeezes_S1x3360x1024_S3360x1024 i
abbrev ownM (q : Fin 4) : Memref sig .tc .hbm S3360x1024 .bf16 := slot (n := 4) oM squeezes_S1x3360x1024_S3360x1024 q
abbrev recM (q : Fin 4) : Memref sig .tc .hbm S3360x1024 .bf16 := slot (n := 4) rM squeezes_S1x3360x1024_S3360x1024 q

theorem away0 : ∀ c : Dev nD, k0_off1 c 0#32 = ![(blk c 0).val, 0, 0] := by decide +kernel
theorem away1 : ∀ c : Dev nD, k0_off1 c 2#32 = ![(blk c 1).val, 0, 0] := by decide +kernel
theorem away2 : ∀ c : Dev nD, k0_off1 c 4#32 = ![(blk c 2).val, 0, 0] := by decide +kernel
theorem away3 : ∀ c : Dev nD, k0_off1 c 6#32 = ![(blk c 3).val, 0, 0] := by decide +kernel
theorem home0 : ∀ c : Dev nD, k0_off2 c 0#32 = ![(blk c 4).val, 0, 0] := by decide +kernel
theorem home1 : ∀ c : Dev nD, k0_off2 c 2#32 = ![(blk c 5).val, 0, 0] := by decide +kernel
theorem home2 : ∀ c : Dev nD, k0_off2 c 4#32 = ![(blk c 6).val, 0, 0] := by decide +kernel
theorem home3 : ∀ c : Dev nD, k0_off2 c 6#32 = ![(blk c 7).val, 0, 0] := by decide +kernel
theorem dev1 : ∀ c : Dev nD, (⟨k0_dev1 c, k0_dev1_lt c⟩ : Dev nD) = sib c := by decide +kernel
theorem dev2 : ∀ c : Dev nD, (⟨k0_dev2 c, k0_dev2_lt c⟩ : Dev nD) = sib c := by decide +kernel
theorem dev3 : ∀ c : Dev nD, (⟨k0_dev3 c, k0_dev3_lt c⟩ : Dev nD) = sib c := by decide +kernel
theorem dev4 : ∀ c : Dev nD, (⟨k0_dev4 c, k0_dev4_lt c⟩ : Dev nD) = sib c := by decide +kernel

/-! ## The plan -/

section Run

variable (x : Dev nD → S8x3360x1024.Idx → Elt F .bf16)

/-- A block of the argument, -/
abbrev source (c : Dev nD) (k : Fin 8) : sProp 𝕄 := owns (c.tc : Thread nD τ) (srcM (blk c k)) fullShare (part (x c) (blk c k))
/-- a block of the first result, -/
abbrev kept (c : Dev nD) (q : Fin 4) : sProp 𝕄 := owns (c.tc : Thread nD τ) (ownM q) fullShare (part (x c) (blk c ⟨q.val + 4, by omega⟩))
/-- and one of the second. -/
abbrev got (c : Dev nD) (q : Fin 4) : sProp 𝕄 := owns (c.tc : Thread nD τ) (recM q) fullShare (part (x (sib c)) (blk (sib c) ⟨q.val, by omega⟩))

/-- What each semaphore hands over when it is waited for. -/
def pay (c : Dev nD) : Fin 12 → sProp 𝕄
  | 0 => source x c 0
  | 1 => source x c 1
  | 2 => source x c 2
  | 3 => source x c 3
  | 4 => got x c 0
  | 5 => got x c 1
  | 6 => got x c 2
  | 7 => got x c 3
  | 8 => iprop(kept x c 0 ∗ source x c 4)
  | 9 => iprop(kept x c 1 ∗ source x c 5)
  | 10 => iprop(kept x c 2 ∗ source x c 6)
  | 11 => iprop(kept x c 3 ∗ source x c 7)

/-- The device whose semaphore a device's copy completes, -/
def route : Fin 12 → Dev nD ≃ Dev nD := ![.refl _, .refl _, .refl _, .refl _, sib, sib, sib, sib, .refl _, .refl _, .refl _, .refl _]
/-- and the semaphores completed from another device, from the `q`th on. -/
def farFrom (q : ℕ) : Finset (Fin 12) := Finset.univ.filter fun k => 4 + q ≤ k.val ∧ k.val < 8

abbrev plan : Plan nD τ sig F where
  n := 12
  os := fun k => k
  inj := fun _ _ h => h
  N := (recM 0).view.dmaCredit
  pos := View.dmaCredit_pos _ (by decide)
  pay := pay x
  storable c k := by unfold pay; fin_cases k <;> infer_instance
  route := route
  R := farFrom 0
  lvl := fun _ => 0

theorem bigSep12 (Φ : Fin 12 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ
theorem bigSep8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem bigSep4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSepFar (Φ : Fin 12 → sProp 𝕄) : bigSep (farFrom 0) Φ = iprop(Φ 4 ∗ Φ 5 ∗ Φ 6 ∗ Φ 7) :=
  bigSep_eq_bigSepL_of_eq [4, 5, 6, 7] (by decide) (by decide) Φ

/-- A block sent is the receiver's block. -/
theorem landed (c : Dev nD) (q : Fin 4) : (owns ((sib c).tc : Thread nD τ) (recM q) fullShare (part (x c) (blk c ⟨q.val, by omega⟩)) : sProp 𝕄) = got x (sib c) q := by
  unfold got; rw [sib_sib]

/-- What the body starts from besides the semaphores: the argument's blocks, and the room it fills. -/
def B (c : Dev nD) : sProp 𝕄 :=
  iprop((bigSep Finset.univ fun k : Fin 8 => source x c k) ∗ (bigSep Finset.univ fun q : Fin 4 => room c (ownM q))
    ∗ bigSep Finset.univ fun q : Fin 4 => room (sib c) (recM q))

/-- The first result, -/
def keptAll (c : Dev nD) : S4x3360x1024.Idx → Elt F .bf16 := fun i => x c (ix3 (blk c ⟨(i 0).val + 4, by have := (i 0).isLt; change _ < 4 at this; omega⟩) (i 1) (i 2))
/-- and the second. -/
def gotAll (c : Dev nD) : S4x3360x1024.Idx → Elt F .bf16 := fun i => x (sib c) (ix3 (blk (sib c) ⟨(i 0).val, by have := (i 0).isLt; change _ < 4 at this; omega⟩) (i 1) (i 2))

/-- What the body ends with. -/
def Y (c : Dev nD) : sProp 𝕄 :=
  iprop(owns (c.tc : Thread nD τ) gM fullShare (x c) ∗ owns (c.tc : Thread nD τ) oM fullShare (keptAll x c) ∗ owns (c.tc : Thread nD τ) rM fullShare (gotAll x c))

/-- The argument is its blocks, -/
theorem sources (c : Dev nD) : (owns (c.tc : Thread nD τ) gM fullShare (x c) : sProp 𝕄) ⊢ bigSep Finset.univ fun k : Fin 8 => source x c k :=
  (owns_slots (n := 8) (a := 3360) (b := 1024) c gM squeezes_S1x3360x1024_S3360x1024 fullShare (x c)).trans
    (Entails.of_eq (bigSep_univ_equiv (order c) _))
/-- and its blocks are the argument. -/
theorem sources_join (c : Dev nD) : (bigSep Finset.univ fun k : Fin 8 => source x c k) ⊢ (owns (c.tc : Thread nD τ) gM fullShare (x c) : sProp 𝕄) :=
  (Entails.of_eq (bigSep_univ_equiv (order c) fun i => owns (c.tc : Thread nD τ) (srcM i) fullShare (part (x c) i)).symm).trans
    (slots_owns (n := 8) (a := 3360) (b := 1024) c gM squeezes_S1x3360x1024_S3360x1024 fullShare (x c))
theorem kept_join (c : Dev nD) : (bigSep Finset.univ fun q : Fin 4 => kept x c q) ⊢ (owns (c.tc : Thread nD τ) oM fullShare (keptAll x c) : sProp 𝕄) :=
  slots_owns (n := 4) (a := 3360) (b := 1024) c oM squeezes_S1x3360x1024_S3360x1024 fullShare (keptAll x c)
theorem got_join (c : Dev nD) : (bigSep Finset.univ fun q : Fin 4 => got x c q) ⊢ (owns (c.tc : Thread nD τ) rM fullShare (gotAll x c) : sProp 𝕄) :=
  slots_owns (n := 4) (a := 3360) (b := 1024) c rM squeezes_S1x3360x1024_S3360x1024 fullShare (gotAll x c)

theorem toks (c : Dev nD) : (bigSep Finset.univ fun k => (plan x).tok ((plan x).route k c) k : sProp 𝕄)
    = iprop((plan x).tok c 0 ∗ (plan x).tok c 1 ∗ (plan x).tok c 2 ∗ (plan x).tok c 3 ∗ (plan x).tok ((plan x).route 4 c) 4 ∗ (plan x).tok ((plan x).route 5 c) 5 ∗ (plan x).tok ((plan x).route 6 c) 6 ∗ (plan x).tok ((plan x).route 7 c) 7 ∗ (plan x).tok c 8 ∗ (plan x).tok c 9 ∗ (plan x).tok c 10 ∗ (plan x).tok c 11) := by rw [bigSep12]; rfl

theorem rooms (c : Dev nD) : (bigSep Finset.univ fun q : Fin 4 => room (sib c) (recM q) : sProp 𝕄)
    = iprop(room ((plan x).route 4 c) (recM 0) ∗ room ((plan x).route 5 c) (recM 1) ∗ room ((plan x).route 6 c) (recM 2) ∗ room ((plan x).route 7 c) (recM 3)) := by rw [bigSep4]; rfl

abbrev 𝒱₀ : Variants := Variants.none

set_option maxHeartbeats 4000000 in
theorem body (c : Dev nD) :
    iprop((plan x).start c ∗ B x c ∗ (plan x).owing c (farFrom 0))
      ⊢ wp frame (wpE (defs₀ (F := F)) 𝒱₀ (c.tc : Thread nD τ) none) Set.univ
          (cc0_grads_pair_exchange (F := F) gM (Memref.isWhole_whole _) oM (Memref.isWhole_whole _) rM (Memref.isWhole_whole _) cc0_scratch0 cc0_scratch1 cc0_scratch2)
          (fun _ => iprop((Y x c ∗ (plan x).zeros c) ∗ (plan x).owing c ∅)) := by
  simp only [cc0_grads_pair_exchange_eq_skeleton]; unfold cc0_grads_pair_exchange_skel
  simp only [k0_part1_eq_skeleton, k0_part2_eq_skeleton, k0_part3_eq_skeleton, k0_part4_eq_skeleton, k0_part5_eq_skeleton, k0_part6_eq_skeleton]
  unfold k0_part6_skel k0_part5_skel k0_part4_skel k0_part3_skel k0_part2_skel k0_part1_skel
  simp only [Prog.lift, Prog.bind_op, Prog.bind_ret, Prog.pure_eq_ret, wp_deviceId]
  unfold Plan.start B
  rw [toks, bigSep12, bigSepFar, rooms x, bigSep8, bigSep4]
  iintro ⟨⟨#HR, #HL, ⟨Hh0, Hh1, Hh2, Hh3, Hh4, Hh5, Hh6, Hh7, Hh8, Hh9, Hh10, Hh11⟩, ⟨Ht0, Ht1, Ht2, Ht3, Ht4, Ht5, Ht6, Ht7, Ht8, Ht9, Ht10, Ht11⟩, ⟨Hd4, Hd5, Hd6, Hd7⟩⟩, ⟨⟨Hs0, Hs1, Hs2, Hs3, Hs4, Hs5, Hs6, Hs7⟩, ⟨Ho0, Ho1, Ho2, Ho3⟩, ⟨Hr0, Hr1, Hr2, Hr3⟩⟩, HO⟩
  -- to the sibling
  iapply ((plan x).send_step 𝒱₀ c _ 0 4 (dev1 c) (show (4 : Fin 12) ∈ farFrom 0 by decide) (show (farFrom 0).erase (4 : Fin 12) = farFrom 1 by decide) (srcM (blk c 0)) (recM 0) rfl rfl
    (slot_of_off _ _ _ (blk c 0) (away0 c) _ _) rfl fullShare (part (x c) (blk c 0)) rfl (Entails.refl _) (Entails.of_eq (landed x c 0))) $$ HR Hs0 Hr0 HO Ht0 Ht4
  iintro ⟨Hd0, HO⟩
  iapply ((plan x).send_step 𝒱₀ c _ 1 5 (dev2 c) (show (5 : Fin 12) ∈ farFrom 1 by decide) (show (farFrom 1).erase (5 : Fin 12) = farFrom 2 by decide) (srcM (blk c 1)) (recM 1) rfl rfl
    (slot_of_off _ _ _ (blk c 1) (away1 c) _ _) rfl fullShare (part (x c) (blk c 1)) rfl (Entails.refl _) (Entails.of_eq (landed x c 1))) $$ HR Hs1 Hr1 HO Ht1 Ht5
  iintro ⟨Hd1, HO⟩
  iapply ((plan x).send_step 𝒱₀ c _ 2 6 (dev3 c) (show (6 : Fin 12) ∈ farFrom 2 by decide) (show (farFrom 2).erase (6 : Fin 12) = farFrom 3 by decide) (srcM (blk c 2)) (recM 2) rfl rfl
    (slot_of_off _ _ _ (blk c 2) (away2 c) _ _) rfl fullShare (part (x c) (blk c 2)) rfl (Entails.refl _) (Entails.of_eq (landed x c 2))) $$ HR Hs2 Hr2 HO Ht2 Ht6
  iintro ⟨Hd2, HO⟩
  iapply ((plan x).send_step 𝒱₀ c _ 3 7 (dev4 c) (show (7 : Fin 12) ∈ farFrom 3 by decide) (show (farFrom 3).erase (7 : Fin 12) = farFrom 4 by decide) (srcM (blk c 3)) (recM 3) rfl rfl
    (slot_of_off _ _ _ (blk c 3) (away3 c) _ _) rfl fullShare (part (x c) (blk c 3)) rfl (Entails.refl _) (Entails.of_eq (landed x c 3))) $$ HR Hs3 Hr3 HO Ht3 Ht7
  iintro ⟨Hd3, HO⟩
  ihave HO := (Entails.of_eq (congrArg ((plan x).owing c) (by decide : farFrom 4 = ∅))) $$ HO
  -- to the own place
  iapply ((plan x).copy_step 𝒱₀ c 8 (srcM (blk c 4)) (ownM 0) rfl (slot_of_off _ _ _ (blk c 4) (home0 c) _ _) rfl fullShare (part (x c) (blk c 4)) rfl
    (Entails.refl _)) $$ HR Hs4 Ho0 Ht8
  iintro Hd8
  iapply ((plan x).copy_step 𝒱₀ c 9 (srcM (blk c 5)) (ownM 1) rfl (slot_of_off _ _ _ (blk c 5) (home1 c) _ _) rfl fullShare (part (x c) (blk c 5)) rfl
    (Entails.refl _)) $$ HR Hs5 Ho1 Ht9
  iintro Hd9
  iapply ((plan x).copy_step 𝒱₀ c 10 (srcM (blk c 6)) (ownM 2) rfl (slot_of_off _ _ _ (blk c 6) (home2 c) _ _) rfl fullShare (part (x c) (blk c 6)) rfl
    (Entails.refl _)) $$ HR Hs6 Ho2 Ht10
  iintro Hd10
  iapply ((plan x).copy_step 𝒱₀ c 11 (srcM (blk c 7)) (ownM 3) rfl (slot_of_off _ _ _ (blk c 7) (home3 c) _ _) rfl fullShare (part (x c) (blk c 7)) rfl
    (Entails.refl _)) $$ HR Hs7 Ho3 Ht11
  iintro Hd11
  -- the waits
  iapply ((plan x).wait_step 𝒱₀ c 4 (P := got x c 0) (.rfl) (wpE_waitDma2_eq 𝒱₀ (c.tc : Thread nD τ) none Set.univ) rfl rfl) $$ HR HL Hd4 Hh4 HO
  iintro ⟨HO, Hz4, Hp4⟩
  iapply ((plan x).wait_step 𝒱₀ c 5 (P := got x c 1) (.rfl) (wpE_waitDma2_eq 𝒱₀ (c.tc : Thread nD τ) none Set.univ) rfl rfl) $$ HR HL Hd5 Hh5 HO
  iintro ⟨HO, Hz5, Hp5⟩
  iapply ((plan x).wait_step 𝒱₀ c 6 (P := got x c 2) (.rfl) (wpE_waitDma2_eq 𝒱₀ (c.tc : Thread nD τ) none Set.univ) rfl rfl) $$ HR HL Hd6 Hh6 HO
  iintro ⟨HO, Hz6, Hp6⟩
  iapply ((plan x).wait_step 𝒱₀ c 7 (P := got x c 3) (.rfl) (wpE_waitDma2_eq 𝒱₀ (c.tc : Thread nD τ) none Set.univ) rfl rfl) $$ HR HL Hd7 Hh7 HO
  iintro ⟨HO, Hz7, Hp7⟩
  iapply ((plan x).wait_step 𝒱₀ c 0 (P := source x c 0) (.rfl) (wpE_waitDma2_eq 𝒱₀ (c.tc : Thread nD τ) none Set.univ) rfl rfl) $$ HR HL Hd0 Hh0 HO
  iintro ⟨HO, Hz0, Hp0⟩
  iapply ((plan x).wait_step 𝒱₀ c 1 (P := source x c 1) (.rfl) (wpE_waitDma2_eq 𝒱₀ (c.tc : Thread nD τ) none Set.univ) rfl rfl) $$ HR HL Hd1 Hh1 HO
  iintro ⟨HO, Hz1, Hp1⟩
  iapply ((plan x).wait_step 𝒱₀ c 2 (P := source x c 2) (.rfl) (wpE_waitDma2_eq 𝒱₀ (c.tc : Thread nD τ) none Set.univ) rfl rfl) $$ HR HL Hd2 Hh2 HO
  iintro ⟨HO, Hz2, Hp2⟩
  iapply ((plan x).wait_step 𝒱₀ c 3 (P := source x c 3) (.rfl) (wpE_waitDma2_eq 𝒱₀ (c.tc : Thread nD τ) none Set.univ) rfl rfl) $$ HR HL Hd3 Hh3 HO
  iintro ⟨HO, Hz3, Hp3⟩
  iapply ((plan x).wait_step 𝒱₀ c 8 (P := iprop(kept x c 0 ∗ source x c 4)) (.rfl) (wpE_waitDma2_eq 𝒱₀ (c.tc : Thread nD τ) none Set.univ) rfl rfl) $$ HR HL Hd8 Hh8 HO
  iintro ⟨HO, Hz8, ⟨Ho0, Hp8⟩⟩
  iapply ((plan x).wait_step 𝒱₀ c 9 (P := iprop(kept x c 1 ∗ source x c 5)) (.rfl) (wpE_waitDma2_eq 𝒱₀ (c.tc : Thread nD τ) none Set.univ) rfl rfl) $$ HR HL Hd9 Hh9 HO
  iintro ⟨HO, Hz9, ⟨Ho1, Hp9⟩⟩
  iapply ((plan x).wait_step 𝒱₀ c 10 (P := iprop(kept x c 2 ∗ source x c 6)) (.rfl) (wpE_waitDma2_eq 𝒱₀ (c.tc : Thread nD τ) none Set.univ) rfl rfl) $$ HR HL Hd10 Hh10 HO
  iintro ⟨HO, Hz10, ⟨Ho2, Hp10⟩⟩
  iapply ((plan x).wait_step 𝒱₀ c 11 (P := iprop(kept x c 3 ∗ source x c 7)) (.rfl) (wpE_waitDma2_eq 𝒱₀ (c.tc : Thread nD τ) none Set.univ) rfl rfl) $$ HR HL Hd11 Hh11 HO
  iintro ⟨HO, Hz11, ⟨Ho3, Hp11⟩⟩
  rw [wp_ret]; imodintro
  isplitr [HO]
  · isplitr [Hz0 Hz1 Hz2 Hz3 Hz4 Hz5 Hz6 Hz7 Hz8 Hz9 Hz10 Hz11]
    · unfold Y
      isplitl [Hp0 Hp1 Hp2 Hp3 Hp8 Hp9 Hp10 Hp11]
      · iapply (sources_join x c)
        rw [bigSep8]
        isplitl [Hp0]; · iexact Hp0
        isplitl [Hp1]; · iexact Hp1
        isplitl [Hp2]; · iexact Hp2
        isplitl [Hp3]; · iexact Hp3
        isplitl [Hp8]; · iexact Hp8
        isplitl [Hp9]; · iexact Hp9
        isplitl [Hp10]; · iexact Hp10
        iexact Hp11
      isplitl [Ho0 Ho1 Ho2 Ho3]
      · iapply (kept_join x c)
        rw [bigSep4]
        isplitl [Ho0]; · iexact Ho0
        isplitl [Ho1]; · iexact Ho1
        isplitl [Ho2]; · iexact Ho2
        iexact Ho3
      iapply (got_join x c)
      rw [bigSep4]
      isplitl [Hp4]; · iexact Hp4
      isplitl [Hp5]; · iexact Hp5
      isplitl [Hp6]; · iexact Hp6
      iexact Hp7
    unfold Plan.zeros
    rw [bigSep12]
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    iexact Hz11
  iexact HO

end Run

end Cert.PairRun

end
-- ==== Proof.PairRun.lean ====
/-
# The run of the exchange between cores

From any memory, every device ends with its own blocks for its place in the first result and its sibling's in the second
(`run_main`): the arrays dealt out so that each device holds the room that its copies fill (`dealt`), the body under them
(`body`), and the arrays read back at the end.
-/
module

public import proofs.«01_k».proof.Proof.Pair

@[expose] public section

set_option maxRecDepth 16384

noncomputable section

namespace Cert.PairRun

open Cert.PairKernelIdeal Cert.PairKernelIdeal.Gen Cert.Exchange Cert.Exchange.Plan
open Idealize.ShloMosaic Idealize.ShloMosaic.TcCoe Idealize.ShloMosaic.ValueIdx
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Ghost nD τ sig) ℕ

/-! ## Dealing the arrays out -/

/-- A result's array is room for its four blocks. -/
theorem room_blocks (d : Dev nD) (M : Memref sig .tc .hbm S4x3360x1024 .bf16) (z : S4x3360x1024.Idx → Elt F .bf16) :
    (owns (d.tc : Thread nD τ) M fullShare z : sProp 𝕄)
      ⊢ bigSep Finset.univ fun q : Fin 4 => room d (slot (n := 4) M squeezes_S1x3360x1024_S3360x1024 q) := by
  have h (q : Fin 4) (Z : S3360x1024.Idx → Elt F .bf16) :
      (owns (d.tc : Thread nD τ) (slot (n := 4) M squeezes_S1x3360x1024_S3360x1024 q) fullShare Z : sProp 𝕄) ⊢ room d (slot (n := 4) M squeezes_S1x3360x1024_S3360x1024 q) := by
    iintro H; iexists Z; iexact H
  exact (owns_slots (n := 4) (a := 3360) (b := 1024) d M squeezes_S1x3360x1024_S3360x1024 fullShare z).trans
    (show (_ : sProp 𝕄) ⊢ _ from bigSep_mono fun q _ => h q (part z q))

theorem dealt (x : Dev nD → S8x3360x1024.Idx → Elt F .bf16) (z z' : Dev nD → S4x3360x1024.Idx → Elt F .bf16) :
    (bigSep Finset.univ fun c : Dev nD => iprop(owns (c.tc : Thread nD τ) gM fullShare (x c)
        ∗ owns (c.tc : Thread nD τ) oM fullShare (z c) ∗ owns (c.tc : Thread nD τ) rM fullShare (z' c)) : sProp 𝕄)
      ⊢ bigSep Finset.univ (B x) := by
  have hg : (bigSep Finset.univ fun c : Dev nD => owns (c.tc : Thread nD τ) gM fullShare (x c) : sProp 𝕄)
      ⊢ bigSep Finset.univ fun c : Dev nD => bigSep Finset.univ fun k : Fin 8 => source x c k :=
    show (_ : sProp 𝕄) ⊢ _ from bigSep_mono fun c _ => sources x c
  have ho : (bigSep Finset.univ fun c : Dev nD => owns (c.tc : Thread nD τ) oM fullShare (z c) : sProp 𝕄)
      ⊢ bigSep Finset.univ fun c : Dev nD => bigSep Finset.univ fun q : Fin 4 => room c (ownM q) :=
    show (_ : sProp 𝕄) ⊢ _ from bigSep_mono fun c _ => room_blocks c oM (z c)
  have hr : (bigSep Finset.univ fun c : Dev nD => owns (c.tc : Thread nD τ) rM fullShare (z' c) : sProp 𝕄)
      ⊢ bigSep Finset.univ fun c : Dev nD => bigSep Finset.univ fun q : Fin 4 => room (sib c) (recM q) :=
    (show (_ : sProp 𝕄) ⊢ _ from bigSep_mono fun c _ => room_blocks c rM (z' c)).trans
      (Entails.of_eq (bigSep_univ_equiv sib fun c : Dev nD => bigSep Finset.univ fun q : Fin 4 => (room c (recM q) : sProp 𝕄)))
  unfold B
  rw [bigSep_sep', bigSep_sep', bigSep_sep', bigSep_sep']
  iintro ⟨Hg, Ho, Hr⟩
  isplitl [Hg]; · iapply hg; iexact Hg
  isplitl [Ho]; · iapply ho; iexact Ho
  iapply hr; iexact Hr

/-! ## The run -/

/-- The run of the body, from the semaphores and the arrays dealt out to the arrays filled. -/
def dats (x : Dev nD → S8x3360x1024.Idx → Elt F .bf16) (_ : Fin 1) (c : Dev nD) : Dat τ (Elt F) Unit ℕ (Ghost nD τ sig) ℕ cfg0 c where
  A w := w.elim0
  after w _ := w.elim0
  Φ t := match t with
    | ⟨0, _⟩ => iprop((plan x).start c ∗ B x c)
    | ⟨_ + 1, _⟩ => iprop(Y x c ∗ (plan x).zeros c)
  q _ := fullShare
  owed t := match t with
    | ⟨0, _⟩ => (plan x).owed c (farFrom 0)
    | ⟨_ + 1, _⟩ => 0

/-- The call stages no window. -/
theorem bigSep_W (Φ : Fin cfg0.W → sProp 𝕄) : bigSep Finset.univ Φ = BI.emp := by
  rw [show (Finset.univ : Finset (Fin cfg0.W)) = ∅ from rfl, BI.bigSep_empty]

theorem body_obligation (x : Dev nD → S8x3360x1024.Idx → Elt F .bf16) (c : Dev nD) :
    BodyObligation (dats x 0 c) (defs₀ (F := F)) 𝒱₀ () Set.univ := fun t => by
  rw [fin_N0 t, bigSep_W, bigSep_W]
  show iprop((iprop((plan x).start c ∗ B x c)) ∗ (dats x 0 c).owesAt () t0_0.castSucc ∗ BI.emp) ⊢ wp frame (wpE (defs₀ (F := F)) 𝒱₀ (c.tc : Thread nD τ) none) Set.univ
    (cc0_grads_pair_exchange (F := F) gM (Memref.isWhole_whole _) oM (Memref.isWhole_whole _) rM (Memref.isWhole_whole _) cc0_scratch0 cc0_scratch1 cc0_scratch2)
    (fun _ => iprop((iprop(Y x c ∗ (plan x).zeros c)) ∗ (dats x 0 c).owesAt () t0_0.succ ∗ BI.emp))
  have hpre : (dats x 0 c).owesAt () t0_0.castSucc ⊢ (plan x).owing c (farFrom 0) := by
    unfold Dat.owesAt Pipeline.owesWithin Plan.owing
    iintro ⟨%W, %hW, HO⟩
    iexists W; iexact HO
  have hpost : (plan x).owing c ∅ ⊢ (dats x 0 c).owesAt () t0_0.succ := by
    unfold Dat.owesAt Pipeline.owesWithin Plan.owing
    iintro ⟨%W, HO⟩
    iexists W
    isplitr; · ipureintro; exact fun _ _ => Or.inl trivial
    iexact HO
  iintro ⟨⟨Hs, HB⟩, HO, -⟩
  ihave HO := hpre $$ HO
  iapply (wp_wand frame _ _) $$ [Hs HB HO]
  · iapply (body x c)
    isplitl [Hs]; · iexact Hs
    isplitl [HB] <;> iassumption
  iintro %_ ⟨HY, HO⟩
  isplitl [HY]; · iexact HY
  isplitl [HO]; · iapply hpost; iexact HO
  iempintro

theorem ownSemFacts : Pipeline.OwnSemFacts cfg0.spec fun k : Fin 12 => SemLoc.dma (k : DmaSem sig) := by decide

/-- A device's arrays: the argument, and what the results' arrays held. -/
theorem arrays (m : (ℓ : Loc nD τ sig) → Buf (Elt F) ℓ) (c : Dev nD) :
    (unscopedBufs c (fun b => m ((c.tc : Thread nD τ).loc b)) : sProp 𝕄)
      = iprop(owns (c.tc : Thread nD τ) gM fullShare (m ((c.tc : Thread nD τ).loc main_arg0))
          ∗ owns (c.tc : Thread nD τ) oM fullShare (m ((c.tc : Thread nD τ).loc main_v1_0)) ∗ owns (c.tc : Thread nD τ) rM fullShare (m ((c.tc : Thread nD τ).loc main_v1_1))) := by
  rw [owns_whole, owns_whole, owns_whole]
  unfold unscopedBufs
  exact bigSep_eq_bigSepL_of_eq [main_arg0, main_v1_0, main_v1_1] (by decide) (by decide) _

/-- THE RUN: every device ends with its own blocks for its place and its sibling's, its argument unchanged, and every
counter at zero. -/
theorem run_main (m : (ℓ : Loc nD τ sig) → Buf (Elt F) ℓ) (g : Dev nD → PrngReg) :
    θ_run (defs (F := F)) (onTc (τ := τ) (main (F := F))) ⟨m, fun _ => 0, g⟩ fun r =>
      (∀ c : Dev nD, r.2.mem ((c.tc : Thread nD τ).loc main_v1_0) = keptAll (fun d => m ((d.tc : Thread nD τ).loc main_arg0)) c
        ∧ r.2.mem ((c.tc : Thread nD τ).loc main_v1_1) = gotAll (fun d => m ((d.tc : Thread nD τ).loc main_arg0)) c
        ∧ r.2.mem ((c.tc : Thread nD τ).loc main_arg0) = m ((c.tc : Thread nD τ).loc main_arg0))
      ∧ r.2.sem = fun _ => 0 := by
  let x : Dev nD → S8x3360x1024.Idx → Elt F .bf16 := fun d => m ((d.tc : Thread nD τ).loc main_arg0)
  refine (θ_run (defs (F := F)) _ _).mono (fun r h => ⟨h.1, sem_eq_zero_of_scoped (by decide) h.2⟩)
    ((plan x).run pcfgs (fun _ p => (cfgs p).toPCfg_adm) cellOf_inj (dats x) defs₀ 𝒱₀ 0 winFacts0.to₀ ownSemFacts
      (inferInstanceAs (IsEmpty (Fin 0))) (inferInstanceAs (IsEmpty (Fin 0))) m g (fun _ _ => pure ⟨⟩) main (fun _ => rfl) (body_obligation x) (B x) (Y x)
      ?_ (fun c => ?_) (fun c => ?_) (fun _ => rfl) (fun _ => rfl) (fun _ => rfl) (Y x) (fun c => ?_)
      (fun c mem => mem.mem ((c.tc : Thread nD τ).loc main_v1_0) = keptAll x c ∧ mem.mem ((c.tc : Thread nD τ).loc main_v1_1) = gotAll x c
        ∧ mem.mem ((c.tc : Thread nD τ).loc main_arg0) = x c) (fun c s' => ?_))
  · exact (Entails.of_eq (bigSep_congr fun c _ => arrays m c)).trans
      (dealt x (fun c => m ((c.tc : Thread nD τ).loc main_v1_0)) fun c => m ((c.tc : Thread nD τ).loc main_v1_1))
  · rw [show (dats x 0 c).Φ 0 = iprop((plan x).start c ∗ B x c) from rfl]
    iintro ⟨H, -⟩; iexact H
  · rw [show (dats x 0 c).Φ (Fin.last cfg0.N) = iprop(Y x c ∗ (plan x).zeros c) from rfl]
    iintro ⟨HY, Hz⟩
    isplitl [HY]; · iexact HY
    isplitl [Hz]; · iexact Hz
    iapply (Entails.of_eq (scopedRest0_eq c).symm); iempintro
  · rw [Prog.pure_eq_ret, wp_ret]
    iintro ⟨H, -, -⟩
    imodintro
    iexact H
  · unfold Y
    rw [owns_whole, owns_whole, owns_whole]
    iintro ⟨⟨Hx, Ho, Hr⟩, HS⟩
    ihave H := (held_agree _ _ s') $$ [Hx HS]
    · isplitl [Hx] <;> iassumption
    icases H with ⟨%hx, -, HS⟩
    ihave H := (held_agree _ _ s') $$ [Ho HS]
    · isplitl [Ho] <;> iassumption
    icases H with ⟨%ho, -, HS⟩
    ihave H := (held_agree _ _ s') $$ [Hr HS]
    · isplitl [Hr] <;> iassumption
    icases H with ⟨%hr, -, HS⟩
    imodintro
    isplitr; · ipureintro; exact ⟨ho, hr, hx⟩
    iexact HS

end Cert.PairRun

end
-- ==== Proof.Blocks.lean ====
/-
# Where a block's index is in the whole array
-/
module

public import Idealize.ShloMosaic.Lib.Layout
public import Idealize.ShloMosaic.Lib.PointwiseCore

@[expose] public section

namespace Cert.Exchange

open Idealize.ShloMosaic

/-- An index in a block, in the whole array. -/
theorem idx_blocks {n N a b : ℕ} (h : Layout.Tiles ⟨3, ![n, a, b]⟩ ⟨3, ![N, a, b]⟩ 0 8) (c : Fin 8) (q : Fin n) (r : Fin a) (k : Fin b) (hN : c.val * n + q.val < N) :
    h.idx c (ix3 q r k) = ix3 ⟨c.val * n + q.val, hN⟩ r k := by
  funext d
  match d with
  | ⟨0, _⟩ => rfl
  | ⟨1, _⟩ => rfl
  | ⟨2, _⟩ => rfl
theorem idx_rows {n N a : ℕ} (h : Layout.Tiles ⟨2, ![n, a]⟩ ⟨2, ![N, a]⟩ 0 8) (c : Fin 8) (r : Fin n) (k : Fin a) (hN : c.val * n + r.val < N) :
    h.idx c (ix2 r k) = ix2 ⟨c.val * n + r.val, hN⟩ k := by
  funext d
  match d with
  | ⟨0, _⟩ => rfl
  | ⟨1, _⟩ => rfl

end Cert.Exchange

end
-- ==== Proof.PairClaims.lean ====
/-
# The claims of the exchange between cores

Entry `8 p + 4 k + q` of a reference's result stands for core `k` of chip `p` and for chip `q`: of `g`'s entry
`16 p + 8 k + 2 q + k` for the first result, and of the sibling's `16 p + 8 (1 - k) + 2 q + k` for the second (`own_at`,
`got_at`). These are the blocks that device `2 p + k` keeps and is sent.
-/
module

public import proofs.«01_k».proof.Defs
public import proofs.«01_k».proof.Proof.PairRun
public import proofs.«01_k».proof.Proof.Blocks
public import proofs.«01_k».proof.Proof.Gen.PairReference.Run
public import proofs.«01_k».proof.Proof.Gen.PairReferenceIdeal.Run
public import Idealize.ShloMosaic.Lib.PointwiseCore

@[expose] public section

set_option maxRecDepth 16384

noncomputable section

namespace Cert.PairRun

open Cert.Exchange
open Idealize.ShloMosaic Idealize.ShloMosaic.TcCoe Idealize.SL.Sem

section Values

open Cert.PairReferenceIdeal Cert.PairReferenceIdeal.Gen

variable {F : FTy → Type} [FloatOps F] (X : S64x3360x1024.Idx → Elt F .bf16)

/-- The reference's first result, -/
def ownRef : S32x3360x1024.Idx → Elt F .bf16 :=
  shapeCast S32x3360x1024 (concatenate S4x2x4x3360x1024 1
    [⟨S4x1x4x3360x1024, (broadcastInDim S4x1x4x3360x1024 ![0, 2, 3, 4] bcast_S4x4x3360x1024_S4x1x4x3360x1024_0_2_3_4 (shapeCast S4x4x3360x1024 (extractStridedSlice S4x1x4x1x3360x1024 ![0, 0, 0, 0, 0, 0] (shapeCast S4x2x4x2x3360x1024 X shapeCasts_S64x3360x1024_S4x2x4x2x3360x1024) slices_S4x2x4x2x3360x1024_S4x1x4x1x3360x1024_0_0_0_0_0_0) shapeCasts_S4x1x4x1x3360x1024_S4x4x3360x1024))⟩,
      ⟨S4x1x4x3360x1024, (broadcastInDim S4x1x4x3360x1024 ![0, 2, 3, 4] bcast_S4x4x3360x1024_S4x1x4x3360x1024_0_2_3_4 (shapeCast S4x4x3360x1024 (extractStridedSlice S4x1x4x1x3360x1024 ![0, 1, 0, 1, 0, 0] (shapeCast S4x2x4x2x3360x1024 X shapeCasts_S64x3360x1024_S4x2x4x2x3360x1024) slices_S4x2x4x2x3360x1024_S4x1x4x1x3360x1024_0_1_0_1_0_0) shapeCasts_S4x1x4x1x3360x1024_S4x4x3360x1024))⟩]
    concatenates_S4x1x4x3360x1024_S4x1x4x3360x1024_S4x2x4x3360x1024_d1) shapeCasts_S4x2x4x3360x1024_S32x3360x1024

/-- and its second. -/
def gotRef : S32x3360x1024.Idx → Elt F .bf16 :=
  shapeCast S32x3360x1024 (concatenate S4x2x4x3360x1024 1
    [⟨S4x1x4x3360x1024, (broadcastInDim S4x1x4x3360x1024 ![0, 2, 3, 4] bcast_S4x4x3360x1024_S4x1x4x3360x1024_0_2_3_4 (shapeCast S4x4x3360x1024 (extractStridedSlice S4x1x4x1x3360x1024 ![0, 1, 0, 0, 0, 0] (shapeCast S4x2x4x2x3360x1024 X shapeCasts_S64x3360x1024_S4x2x4x2x3360x1024) slices_S4x2x4x2x3360x1024_S4x1x4x1x3360x1024_0_1_0_0_0_0) shapeCasts_S4x1x4x1x3360x1024_S4x4x3360x1024))⟩,
      ⟨S4x1x4x3360x1024, (broadcastInDim S4x1x4x3360x1024 ![0, 2, 3, 4] bcast_S4x4x3360x1024_S4x1x4x3360x1024_0_2_3_4 (shapeCast S4x4x3360x1024 (extractStridedSlice S4x1x4x1x3360x1024 ![0, 0, 0, 1, 0, 0] (shapeCast S4x2x4x2x3360x1024 X shapeCasts_S64x3360x1024_S4x2x4x2x3360x1024) slices_S4x2x4x2x3360x1024_S4x1x4x1x3360x1024_0_0_0_1_0_0) shapeCasts_S4x1x4x1x3360x1024_S4x4x3360x1024))⟩]
    concatenates_S4x1x4x3360x1024_S4x1x4x3360x1024_S4x2x4x3360x1024_d1) shapeCasts_S4x2x4x3360x1024_S32x3360x1024

theorem own_at (j : S32x3360x1024.Idx) : ownRef X j
    = X (ix3 ⟨(j 0).val / 8 * 16 + (j 0).val / 4 % 2 * 8 + (j 0).val % 4 * 2 + (j 0).val / 4 % 2, by have h := (j 0).isLt; change _ < 32 at h; omega⟩ (j 1) (j 2)) := by
  pointwise [ownRef]
  split <;> exact congrArg (fun k => X (ix3 k (j 1) (j 2))) (Fin.ext (by dsimp only; omega))

theorem got_at (j : S32x3360x1024.Idx) : gotRef X j
    = X (ix3 ⟨(j 0).val / 8 * 16 + (1 - (j 0).val / 4 % 2) * 8 + (j 0).val % 4 * 2 + (j 0).val / 4 % 2, by have h := (j 0).isLt; change _ < 32 at h; omega⟩ (j 1) (j 2)) := by
  pointwise [gotRef]
  split <;> exact congrArg (fun k => X (ix3 k (j 1) (j 2))) (Fin.ext (by dsimp only; omega))

/-- The blocks kept and sent, of the whole array's. -/
theorem kept_entry : ∀ (c : Fin 8) (q : Fin 4), c.val * 8 + (blk c ⟨q.val + 4, by omega⟩).val
    = (c.val * 4 + q.val) / 8 * 16 + (c.val * 4 + q.val) / 4 % 2 * 8 + (c.val * 4 + q.val) % 4 * 2 + (c.val * 4 + q.val) / 4 % 2 := by decide
theorem got_entry : ∀ (c : Fin 8) (q : Fin 4), (sib c).val * 8 + (blk (sib c) ⟨q.val, by omega⟩).val
    = (c.val * 4 + q.val) / 8 * 16 + (1 - (c.val * 4 + q.val) / 4 % 2) * 8 + (c.val * 4 + q.val) % 4 * 2 + (c.val * 4 + q.val) / 4 % 2 := by decide

theorem kept_blocks (c : Fin 8) : keptAll (fun d => Layout.block ⟨3, ![8, 3360, 1024]⟩ ⟨3, ![64, 3360, 1024]⟩ 0 8 d X) c
    = Layout.block ⟨3, ![4, 3360, 1024]⟩ ⟨3, ![32, 3360, 1024]⟩ 0 8 c (ownRef X) := by
  funext i
  obtain ⟨q, r, k, rfl⟩ : ∃ (q : Fin 4) (r : Fin 3360) (k : Fin 1024), i = ix3 q r k := ⟨i 0, i 1, i 2, eq_ix3 i⟩
  rw [Layout.block_apply, idx_blocks _ c q r k (by omega), own_at]
  refine Eq.trans (congrArg X (idx_blocks _ c (blk c ⟨q.val + 4, by omega⟩) r k (by omega))) ?_
  exact congrArg (fun n => X (ix3 n r k)) (Fin.ext (kept_entry c q))

theorem got_blocks (c : Fin 8) : gotAll (fun d => Layout.block ⟨3, ![8, 3360, 1024]⟩ ⟨3, ![64, 3360, 1024]⟩ 0 8 d X) c
    = Layout.block ⟨3, ![4, 3360, 1024]⟩ ⟨3, ![32, 3360, 1024]⟩ 0 8 c (gotRef X) := by
  funext i
  obtain ⟨q, r, k, rfl⟩ : ∃ (q : Fin 4) (r : Fin 3360) (k : Fin 1024), i = ix3 q r k := ⟨i 0, i 1, i 2, eq_ix3 i⟩
  rw [Layout.block_apply, idx_blocks _ c q r k (by omega), got_at]
  refine Eq.trans (congrArg X (idx_blocks _ (sib c) (blk (sib c) ⟨q.val, by omega⟩) r k (by have h : (sib c).val < 8 := (sib c).isLt; omega))) ?_
  exact congrArg (fun n => X (ix3 n r k)) (Fin.ext (got_entry c q))

end Values

theorem frame_kernel : quiescent_PairKernel := fun m g _ =>
  (θ_run _ _ _).mono (fun _ h => ⟨fun c => (h.1 c).2.2, h.2⟩) (run_main (F := Bits) m g)

theorem frame_ideal : quiescent_PairKernelIdeal := fun m g _ =>
  (θ_run _ _ _).mono (fun _ h => ⟨fun c => (h.1 c).2.2, h.2⟩) (run_main (F := Ideal) m g)

theorem frame_reference : quiescent_PairReference := fun m g _ =>
  (θ_run _ _ _).mono (fun r h => ⟨fun c => (h c).2.2, sem_eq_zero_of_no_sems (by decide) r.2⟩)
    (PairReference.Value.run (F := Bits) m g)

theorem frame_reference_ideal : quiescent_PairReferenceIdeal := fun m g _ =>
  (θ_run _ _ _).mono (fun r h => ⟨fun c => (h c).2.2, sem_eq_zero_of_no_sems (by decide) r.2⟩)
    (PairReferenceIdeal.Value.run (F := Ideal) m g)

/-- Over the reals every device ends with its part of the reference's arrays, -/
theorem algebraic : algebraic_PairKernelIdeal_PairReferenceIdeal := fun m g m' g' _ hm =>
  ⟨ownRef _, gotRef _, (θ_run _ _ _).mono
      (fun _ h c => ⟨(h.1 c).1.trans ((congrArg (keptAll · c) (funext hm)).trans (kept_blocks _ c)),
        (h.1 c).2.1.trans ((congrArg (gotAll · c) (funext hm)).trans (got_blocks _ c)), (h.1 c).2.2⟩) (run_main (F := Ideal) m g),
    (θ_run _ _ _).mono (fun _ h => h 0) (PairReferenceIdeal.Value.run (F := Ideal) m' g')⟩

/-- and with the same words. -/
theorem bitexact : bitexact_PairKernel_PairReference := fun m g m' g' _ hm =>
  ⟨ownRef _, gotRef _, (θ_run _ _ _).mono
      (fun _ h c => ⟨(h.1 c).1.trans ((congrArg (keptAll · c) (funext hm)).trans (kept_blocks _ c)),
        (h.1 c).2.1.trans ((congrArg (gotAll · c) (funext hm)).trans (got_blocks _ c)), (h.1 c).2.2⟩) (run_main (F := Bits) m g),
    (θ_run _ _ _).mono (fun _ h => h 0) (PairReference.Value.run (F := Bits) m' g')⟩

end Cert.PairRun

end
-- ==== Proof.Chip.lean ====
/-
# The exchange between the four chips

Device `c` starts with four blocks, one for each chip. It keeps the block for its own chip and sends each other block to the
same core of that chip: result `k` is the block for its own chip from the device across in one direction, in the other, in
both, and from itself.
-/
module

public import proofs.«01_k».proof.Proof.Steps
public import proofs.«01_k».proof.Proof.Gen.ChipKernel
public import proofs.«01_k».proof.Proof.Gen.ChipKernelIdeal
public import proofs.«01_k».proof.Proof.Gen.ChipKernelIdeal.Skeleton
public import proofs.«01_k».proof.Proof.Gen.ChipKernelIdeal.Launch
public import proofs.«01_k».proof.Proof.Gen.ChipKernelIdeal.Points

@[expose] public section

set_option maxRecDepth 16384

noncomputable section

namespace Cert.ChipRun

open Cert.ChipKernelIdeal Cert.ChipKernelIdeal.Gen Cert.Exchange Cert.Exchange.Plan
open Idealize.ShloMosaic Idealize.ShloMosaic.TcCoe Idealize.ShloMosaic.ValueIdx
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Ghost nD τ sig) ℕ

/-! ## The devices, the blocks and the memrefs -/

/-- Device `c` with the bits of `n` changed. -/
def flip (n : Fin 8) : Dev nD ≃ Dev nD where
  toFun c := ⟨c.val ^^^ n.val, by revert c n; decide⟩
  invFun c := ⟨c.val ^^^ n.val, by revert c n; decide⟩
  left_inv := by revert n; decide
  right_inv := by revert n; decide

/-- The same core of each chip, as device `c` sees them: across in one direction, in the other, in both, and itself. -/
def mate : Fin 4 → Dev nD ≃ Dev nD := ![flip 4, flip 2, flip 6, .refl _]

theorem mate_mate : ∀ (k : Fin 4) (c : Dev nD), mate k (mate k c) = c := by decide

/-- A device's chip. -/
def chip (c : Dev nD) : Fin 4 := ⟨c.val / 2, by revert c; decide⟩

/-- A device's blocks, in the order of `mate`. -/
def blk (c : Dev nD) (k : Fin 4) : Fin 4 := chip (mate k c)
def order (c : Dev nD) : Fin 4 ≃ Fin 4 := Equiv.ofBijective (blk c) (by revert c; decide)

abbrev sM : Memref sig .tc .hbm S4x3360x1024 .bf16 := Memref.whole main_arg0
abbrev srcM (i : Fin 4) : Memref sig .tc .hbm S3360x1024 .bf16 := slot (n := 4) sM squeezes_S1x3360x1024_S3360x1024 i
/-- The four results. -/
abbrev outM : Fin 4 → Memref sig .tc .hbm S3360x1024 .bf16 := ![Memref.whole main_v1_0, Memref.whole main_v1_1, Memref.whole main_v1_2, Memref.whole main_v1_3]

theorem place3 : ∀ c : Dev nD, k0_off1 c = ![(blk c 3).val, 0, 0] := by decide +kernel
theorem place0 : ∀ c : Dev nD, k0_off2 c = ![(blk c 0).val, 0, 0] := by decide +kernel
theorem place1 : ∀ c : Dev nD, k0_off3 c = ![(blk c 1).val, 0, 0] := by decide +kernel
theorem place2 : ∀ c : Dev nD, k0_off4 c = ![(blk c 2).val, 0, 0] := by decide +kernel
theorem dev1 : ∀ c : Dev nD, (⟨k0_dev1 c, k0_dev1_lt c⟩ : Dev nD) = mate 0 c := by decide +kernel
theorem dev2 : ∀ c : Dev nD, (⟨k0_dev2 c, k0_dev2_lt c⟩ : Dev nD) = mate 1 c := by decide +kernel
theorem dev3 : ∀ c : Dev nD, (⟨k0_dev3 c, k0_dev3_lt c⟩ : Dev nD) = mate 2 c := by decide +kernel

/-! ## The plan -/

section Run

variable (x : Dev nD → S4x3360x1024.Idx → Elt F .bf16)

/-- A block of the argument, -/
abbrev source (c : Dev nD) (k : Fin 4) : sProp 𝕄 := owns (c.tc : Thread nD τ) (srcM (blk c k)) fullShare (part (x c) (blk c k))
/-- and a result. -/
abbrev got (c : Dev nD) (k : Fin 4) : sProp 𝕄 := owns (c.tc : Thread nD τ) (outM k) fullShare (part (x (mate k c)) (chip c))

/-- What each semaphore hands over when it is waited for. -/
def pay (c : Dev nD) : Fin 7 → sProp 𝕄
  | 0 => source x c 0
  | 1 => source x c 1
  | 2 => source x c 2
  | 3 => got x c 0
  | 4 => got x c 1
  | 5 => got x c 2
  | 6 => iprop(got x c 3 ∗ source x c 3)

/-- The device whose semaphore a device's copy completes, -/
def route : Fin 7 → Dev nD ≃ Dev nD := ![.refl _, .refl _, .refl _, mate 0, mate 1, mate 2, .refl _]
/-- and the semaphores completed from another device, from the `q`th on. -/
def farFrom (q : ℕ) : Finset (Fin 7) := Finset.univ.filter fun k => 3 + q ≤ k.val ∧ k.val < 6

abbrev plan : Plan nD τ sig F where
  n := 7
  os := fun k => k
  inj := fun _ _ h => h
  N := (outM 0).view.dmaCredit
  pos := View.dmaCredit_pos _ (by decide)
  pay := pay x
  storable c k := by unfold pay; fin_cases k <;> infer_instance
  route := route
  R := farFrom 0
  lvl := fun _ => 0

theorem bigSep7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep4 (Φ : Fin 4 → sProp 𝕄) : bigSep Finset.univ Φ = iprop(Φ 0 ∗ Φ 1 ∗ Φ 2 ∗ Φ 3) :=
  bigSep_univ_eq_bigSepL [0, 1, 2, 3] (by decide) (by decide) Φ
theorem bigSepFar (Φ : Fin 7 → sProp 𝕄) : bigSep (farFrom 0) Φ = iprop(Φ 3 ∗ Φ 4 ∗ Φ 5) :=
  bigSep_eq_bigSepL_of_eq [3, 4, 5] (by decide) (by decide) Φ

/-- A block sent is the receiver's block. -/
theorem landed (c : Dev nD) (k : Fin 4) : (owns ((mate k c).tc : Thread nD τ) (outM k) fullShare (part (x c) (blk c k)) : sProp 𝕄) = got x (mate k c) k := by
  unfold got; rw [mate_mate]; rfl

/-- What the body starts from besides the semaphores: the argument's blocks, and the room it fills. -/
def B (c : Dev nD) : sProp 𝕄 :=
  iprop((bigSep Finset.univ fun k : Fin 4 => source x c k) ∗ bigSep Finset.univ fun k : Fin 4 => room (mate k c) (outM k))

/-- What the body ends with. -/
def Y (c : Dev nD) : sProp 𝕄 := iprop(owns (c.tc : Thread nD τ) sM fullShare (x c) ∗ bigSep Finset.univ fun k : Fin 4 => got x c k)

/-- The argument is its blocks, -/
theorem sources (c : Dev nD) : (owns (c.tc : Thread nD τ) sM fullShare (x c) : sProp 𝕄) ⊢ bigSep Finset.univ fun k : Fin 4 => source x c k :=
  (owns_slots (n := 4) (a := 3360) (b := 1024) c sM squeezes_S1x3360x1024_S3360x1024 fullShare (x c)).trans
    (Entails.of_eq (bigSep_univ_equiv (order c) _))
/-- and its blocks are the argument. -/
theorem sources_join (c : Dev nD) : (bigSep Finset.univ fun k : Fin 4 => source x c k) ⊢ (owns (c.tc : Thread nD τ) sM fullShare (x c) : sProp 𝕄) :=
  (Entails.of_eq (bigSep_univ_equiv (order c) fun i => owns (c.tc : Thread nD τ) (srcM i) fullShare (part (x c) i)).symm).trans
    (slots_owns (n := 4) (a := 3360) (b := 1024) c sM squeezes_S1x3360x1024_S3360x1024 fullShare (x c))

theorem toks (c : Dev nD) : (bigSep Finset.univ fun k => (plan x).tok ((plan x).route k c) k : sProp 𝕄)
    = iprop((plan x).tok c 0 ∗ (plan x).tok c 1 ∗ (plan x).tok c 2 ∗ (plan x).tok ((plan x).route 3 c) 3 ∗ (plan x).tok ((plan x).route 4 c) 4 ∗ (plan x).tok ((plan x).route 5 c) 5 ∗ (plan x).tok c 6) := by rw [bigSep7]; rfl
theorem rooms (c : Dev nD) : (bigSep Finset.univ fun k : Fin 4 => room (mate k c) (outM k) : sProp 𝕄)
    = iprop(room ((plan x).route 3 c) (outM 0) ∗ room ((plan x).route 4 c) (outM 1) ∗ room ((plan x).route 5 c) (outM 2) ∗ room c (outM 3)) := by rw [bigSep4]; rfl

abbrev 𝒱₀ : Variants := Variants.none

set_option maxHeartbeats 4000000 in
theorem body (c : Dev nD) :
    iprop((plan x).start c ∗ B x c ∗ (plan x).owing c (farFrom 0))
      ⊢ wp frame (wpE (defs₀ (F := F)) 𝒱₀ (c.tc : Thread nD τ) none) Set.univ
          (cc0_grads_chip_exchange (F := F) sM (Memref.isWhole_whole _) (Memref.whole main_v1_0) (Memref.isWhole_whole _) (Memref.whole main_v1_1) (Memref.isWhole_whole _)
            (Memref.whole main_v1_2) (Memref.isWhole_whole _) (Memref.whole main_v1_3) (Memref.isWhole_whole _) cc0_scratch0 cc0_scratch1 cc0_scratch2)
          (fun _ => iprop((Y x c ∗ (plan x).zeros c) ∗ (plan x).owing c ∅)) := by
  simp only [cc0_grads_chip_exchange_eq_skeleton]; unfold cc0_grads_chip_exchange_skel
  simp only [k0_part1_eq_skeleton, k0_part2_eq_skeleton, k0_part3_eq_skeleton]
  unfold k0_part3_skel k0_part2_skel k0_part1_skel
  simp only [Prog.lift, Prog.bind_op, Prog.bind_ret, Prog.pure_eq_ret, wp_deviceId]
  unfold Plan.start B
  rw [toks, bigSep7, bigSepFar, rooms x, bigSep4]
  iintro ⟨⟨#HR, #HL, ⟨Hh0, Hh1, Hh2, Hh3, Hh4, Hh5, Hh6⟩, ⟨Ht0, Ht1, Ht2, Ht3, Ht4, Ht5, Ht6⟩, ⟨Hd3, Hd4, Hd5⟩⟩, ⟨⟨Hs0, Hs1, Hs2, Hs3⟩, ⟨Hr0, Hr1, Hr2, Hr3⟩⟩, HO⟩
  -- the block for its own chip
  iapply ((plan x).copy_step 𝒱₀ c 6 (srcM (blk c 3)) (outM 3) rfl (slot_of_off _ _ _ (blk c 3) (place3 c) _ _) rfl fullShare (part (x c) (blk c 3)) rfl
    (Entails.refl _)) $$ HR Hs3 Hr3 Ht6
  iintro Hd6
  -- to the other chips
  iapply ((plan x).send_step 𝒱₀ c _ 0 3 (dev1 c) (show (3 : Fin 7) ∈ farFrom 0 by decide) (show (farFrom 0).erase (3 : Fin 7) = farFrom 1 by decide) (srcM (blk c 0)) (outM 0) rfl rfl
    (slot_of_off _ _ _ (blk c 0) (place0 c) _ _) rfl fullShare (part (x c) (blk c 0)) rfl (Entails.refl _) (Entails.of_eq (landed x c 0))) $$ HR Hs0 Hr0 HO Ht0 Ht3
  iintro ⟨Hd0, HO⟩
  iapply ((plan x).send_step 𝒱₀ c _ 1 4 (dev2 c) (show (4 : Fin 7) ∈ farFrom 1 by decide) (show (farFrom 1).erase (4 : Fin 7) = farFrom 2 by decide) (srcM (blk c 1)) (outM 1) rfl rfl
    (slot_of_off _ _ _ (blk c 1) (place1 c) _ _) rfl fullShare (part (x c) (blk c 1)) rfl (Entails.refl _) (Entails.of_eq (landed x c 1))) $$ HR Hs1 Hr1 HO Ht1 Ht4
  iintro ⟨Hd1, HO⟩
  iapply ((plan x).send_step 𝒱₀ c _ 2 5 (dev3 c) (show (5 : Fin 7) ∈ farFrom 2 by decide) (show (farFrom 2).erase (5 : Fin 7) = farFrom 3 by decide) (srcM (blk c 2)) (outM 2) rfl rfl
    (slot_of_off _ _ _ (blk c 2) (place2 c) _ _) rfl fullShare (part (x c) (blk c 2)) rfl (Entails.refl _) (Entails.of_eq (landed x c 2))) $$ HR Hs2 Hr2 HO Ht2 Ht5
  iintro ⟨Hd2, HO⟩
  ihave HO := (Entails.of_eq (congrArg ((plan x).owing c) (by decide : farFrom 3 = ∅))) $$ HO
  -- the waits
  iapply ((plan x).wait_step 𝒱₀ c 3 (P := got x c 0) (.rfl) (wpE_waitDma2_eq 𝒱₀ (c.tc : Thread nD τ) none Set.univ) rfl rfl) $$ HR HL Hd3 Hh3 HO
  iintro ⟨HO, Hz3, Hp3⟩
  iapply ((plan x).wait_step 𝒱₀ c 4 (P := got x c 1) (.rfl) (wpE_waitDma2_eq 𝒱₀ (c.tc : Thread nD τ) none Set.univ) rfl rfl) $$ HR HL Hd4 Hh4 HO
  iintro ⟨HO, Hz4, Hp4⟩
  iapply ((plan x).wait_step 𝒱₀ c 5 (P := got x c 2) (.rfl) (wpE_waitDma2_eq 𝒱₀ (c.tc : Thread nD τ) none Set.univ) rfl rfl) $$ HR HL Hd5 Hh5 HO
  iintro ⟨HO, Hz5, Hp5⟩
  iapply ((plan x).wait_step 𝒱₀ c 0 (P := source x c 0) (.rfl) (wpE_waitDma2_eq 𝒱₀ (c.tc : Thread nD τ) none Set.univ) rfl rfl) $$ HR HL Hd0 Hh0 HO
  iintro ⟨HO, Hz0, Hp0⟩
  iapply ((plan x).wait_step 𝒱₀ c 1 (P := source x c 1) (.rfl) (wpE_waitDma2_eq 𝒱₀ (c.tc : Thread nD τ) none Set.univ) rfl rfl) $$ HR HL Hd1 Hh1 HO
  iintro ⟨HO, Hz1, Hp1⟩
  iapply ((plan x).wait_step 𝒱₀ c 2 (P := source x c 2) (.rfl) (wpE_waitDma2_eq 𝒱₀ (c.tc : Thread nD τ) none Set.univ) rfl rfl) $$ HR HL Hd2 Hh2 HO
  iintro ⟨HO, Hz2, Hp2⟩
  iapply ((plan x).wait_step 𝒱₀ c 6 (P := iprop(got x c 3 ∗ source x c 3)) (.rfl) (wpE_waitDma2_eq 𝒱₀ (c.tc : Thread nD τ) none Set.univ) rfl rfl) $$ HR HL Hd6 Hh6 HO
  iintro ⟨HO, Hz6, ⟨Ho, Hp6⟩⟩
  rw [wp_ret]; imodintro
  isplitr [HO]
  · isplitr [Hz0 Hz1 Hz2 Hz3 Hz4 Hz5 Hz6]
    · unfold Y
      isplitl [Hp0 Hp1 Hp2 Hp6]
      · iapply (sources_join x c)
        rw [bigSep4]
        isplitl [Hp0]; · iexact Hp0
        isplitl [Hp1]; · iexact Hp1
        isplitl [Hp2]; · iexact Hp2
        iexact Hp6
      rw [bigSep4]
      isplitl [Hp3]; · iexact Hp3
      isplitl [Hp4]; · iexact Hp4
      isplitl [Hp5]; · iexact Hp5
      iexact Ho
    unfold Plan.zeros
    rw [bigSep7]
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    iexact Hz6
  iexact HO

end Run

end Cert.ChipRun

end
-- ==== Proof.ChipRun.lean ====
/-
# The run of the exchange between chips

From any memory, every device ends with the blocks for its chip from the same core of each chip (`run_main`): the arrays
dealt out so that each device holds the room that its copies fill (`dealt`), the body under them (`body`), and the arrays
read back at the end.
-/
module

public import proofs.«01_k».proof.Proof.Chip

@[expose] public section

set_option maxRecDepth 16384

noncomputable section

namespace Cert.ChipRun

open Cert.ChipKernelIdeal Cert.ChipKernelIdeal.Gen Cert.Exchange Cert.Exchange.Plan
open Idealize.ShloMosaic Idealize.ShloMosaic.TcCoe Idealize.ShloMosaic.ValueIdx
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Ghost nD τ sig) ℕ

/-! ## Dealing the arrays out -/

/-- What a memory holds in a device's four results. -/
def held (m : (ℓ : Loc nD τ sig) → Buf (Elt F) ℓ) (c : Dev nD) : Fin 4 → S3360x1024.Idx → Elt F .bf16
  | 0 => m ((c.tc : Thread nD τ).loc main_v1_0)
  | 1 => m ((c.tc : Thread nD τ).loc main_v1_1)
  | 2 => m ((c.tc : Thread nD τ).loc main_v1_2)
  | 3 => m ((c.tc : Thread nD τ).loc main_v1_3)

theorem dealt (x : Dev nD → S4x3360x1024.Idx → Elt F .bf16) (z : Dev nD → Fin 4 → S3360x1024.Idx → Elt F .bf16) :
    (bigSep Finset.univ fun c : Dev nD => iprop(owns (c.tc : Thread nD τ) sM fullShare (x c)
        ∗ bigSep Finset.univ fun k : Fin 4 => owns (c.tc : Thread nD τ) (outM k) fullShare (z c k)) : sProp 𝕄)
      ⊢ bigSep Finset.univ (B x) := by
  have hs : (bigSep Finset.univ fun c : Dev nD => owns (c.tc : Thread nD τ) sM fullShare (x c) : sProp 𝕄)
      ⊢ bigSep Finset.univ fun c : Dev nD => bigSep Finset.univ fun k : Fin 4 => source x c k :=
    show (_ : sProp 𝕄) ⊢ _ from bigSep_mono fun c _ => sources x c
  have hroom (c : Dev nD) (k : Fin 4) : (owns (c.tc : Thread nD τ) (outM k) fullShare (z c k) : sProp 𝕄) ⊢ room c (outM k) := by
    iintro H; iexists (z c k); iexact H
  have hr : (bigSep Finset.univ fun c : Dev nD => bigSep Finset.univ fun k : Fin 4 => owns (c.tc : Thread nD τ) (outM k) fullShare (z c k) : sProp 𝕄)
      ⊢ bigSep Finset.univ fun c : Dev nD => bigSep Finset.univ fun k : Fin 4 => room (mate k c) (outM k) := by
    refine (show (_ : sProp 𝕄) ⊢ _ from bigSep_mono fun c _ => (show (_ : sProp 𝕄) ⊢ _ from bigSep_mono fun k _ => hroom c k)).trans (show (_ : sProp 𝕄) ⊢ _ from ?_)
    exact Entails.of_eq (deal (F := F) (nD := nD) (τ := τ) (sig := sig) (n := 4) (K := 4) (fun _ => Equiv.refl _) mate (fun d k => room d (outM k)))
  unfold B
  rw [bigSep_sep', bigSep_sep']
  iintro ⟨Hs, Hr⟩
  isplitl [Hs]; · iapply hs; iexact Hs
  iapply hr; iexact Hr

/-! ## The run -/

/-- The run of the body, from the semaphores and the arrays dealt out to the arrays filled. -/
def dats (x : Dev nD → S4x3360x1024.Idx → Elt F .bf16) (_ : Fin 1) (c : Dev nD) : Dat τ (Elt F) Unit ℕ (Ghost nD τ sig) ℕ cfg0 c where
  A w := w.elim0
  after w _ := w.elim0
  Φ t := match t with
    | ⟨0, _⟩ => iprop((plan x).start c ∗ B x c)
    | ⟨_ + 1, _⟩ => iprop(Y x c ∗ (plan x).zeros c)
  q _ := fullShare
  owed t := match t with
    | ⟨0, _⟩ => (plan x).owed c (farFrom 0)
    | ⟨_ + 1, _⟩ => 0

/-- The call stages no window. -/
theorem bigSep_W (Φ : Fin cfg0.W → sProp 𝕄) : bigSep Finset.univ Φ = BI.emp := by
  rw [show (Finset.univ : Finset (Fin cfg0.W)) = ∅ from rfl, BI.bigSep_empty]

theorem body_obligation (x : Dev nD → S4x3360x1024.Idx → Elt F .bf16) (c : Dev nD) :
    BodyObligation (dats x 0 c) (defs₀ (F := F)) 𝒱₀ () Set.univ := fun t => by
  rw [fin_N0 t, bigSep_W, bigSep_W]
  show iprop((iprop((plan x).start c ∗ B x c)) ∗ (dats x 0 c).owesAt () t0_0.castSucc ∗ BI.emp) ⊢ wp frame (wpE (defs₀ (F := F)) 𝒱₀ (c.tc : Thread nD τ) none) Set.univ
    (cc0_grads_chip_exchange (F := F) sM (Memref.isWhole_whole _) (Memref.whole main_v1_0) (Memref.isWhole_whole _) (Memref.whole main_v1_1) (Memref.isWhole_whole _)
      (Memref.whole main_v1_2) (Memref.isWhole_whole _) (Memref.whole main_v1_3) (Memref.isWhole_whole _) cc0_scratch0 cc0_scratch1 cc0_scratch2)
    (fun _ => iprop((iprop(Y x c ∗ (plan x).zeros c)) ∗ (dats x 0 c).owesAt () t0_0.succ ∗ BI.emp))
  have hpre : (dats x 0 c).owesAt () t0_0.castSucc ⊢ (plan x).owing c (farFrom 0) := by
    unfold Dat.owesAt Pipeline.owesWithin Plan.owing
    iintro ⟨%W, %hW, HO⟩
    iexists W; iexact HO
  have hpost : (plan x).owing c ∅ ⊢ (dats x 0 c).owesAt () t0_0.succ := by
    unfold Dat.owesAt Pipeline.owesWithin Plan.owing
    iintro ⟨%W, HO⟩
    iexists W
    isplitr; · ipureintro; exact fun _ _ => Or.inl trivial
    iexact HO
  iintro ⟨⟨Hs, HB⟩, HO, -⟩
  ihave HO := hpre $$ HO
  iapply (wp_wand frame _ _) $$ [Hs HB HO]
  · iapply (body x c)
    isplitl [Hs]; · iexact Hs
    isplitl [HB] <;> iassumption
  iintro %_ ⟨HY, HO⟩
  isplitl [HY]; · iexact HY
  isplitl [HO]; · iapply hpost; iexact HO
  iempintro

theorem ownSemFacts : Pipeline.OwnSemFacts cfg0.spec fun k : Fin 7 => SemLoc.dma (k : DmaSem sig) := by decide

/-- A device's arrays: the argument, and what the results' arrays held. -/
theorem arrays (m : (ℓ : Loc nD τ sig) → Buf (Elt F) ℓ) (c : Dev nD) :
    (unscopedBufs c (fun b => m ((c.tc : Thread nD τ).loc b)) : sProp 𝕄)
      = iprop(owns (c.tc : Thread nD τ) sM fullShare (m ((c.tc : Thread nD τ).loc main_arg0))
          ∗ bigSep Finset.univ fun k : Fin 4 => owns (c.tc : Thread nD τ) (outM k) fullShare (held m c k)) := by
  rw [bigSep4]
  show _ = iprop(owns (c.tc : Thread nD τ) sM fullShare (m ((c.tc : Thread nD τ).loc main_arg0))
    ∗ owns (c.tc : Thread nD τ) (Memref.whole main_v1_0) fullShare (m ((c.tc : Thread nD τ).loc main_v1_0))
    ∗ owns (c.tc : Thread nD τ) (Memref.whole main_v1_1) fullShare (m ((c.tc : Thread nD τ).loc main_v1_1))
    ∗ owns (c.tc : Thread nD τ) (Memref.whole main_v1_2) fullShare (m ((c.tc : Thread nD τ).loc main_v1_2))
    ∗ owns (c.tc : Thread nD τ) (Memref.whole main_v1_3) fullShare (m ((c.tc : Thread nD τ).loc main_v1_3)))
  simp only [owns_whole]
  unfold unscopedBufs
  exact bigSep_eq_bigSepL_of_eq [main_arg0, main_v1_0, main_v1_1, main_v1_2, main_v1_3] (by decide) (by decide) _

/-- THE RUN: every device ends with the blocks for its chip from its four mates, its argument unchanged, and every counter
at zero. -/
theorem run_main (m : (ℓ : Loc nD τ sig) → Buf (Elt F) ℓ) (g : Dev nD → PrngReg) :
    θ_run (defs (F := F)) (onTc (τ := τ) (main (F := F))) ⟨m, fun _ => 0, g⟩ fun r =>
      (∀ c : Dev nD, (∀ k : Fin 4, held r.2.mem c k = part (m (((mate k c).tc : Thread nD τ).loc main_arg0)) (chip c))
        ∧ r.2.mem ((c.tc : Thread nD τ).loc main_arg0) = m ((c.tc : Thread nD τ).loc main_arg0))
      ∧ r.2.sem = fun _ => 0 := by
  let x : Dev nD → S4x3360x1024.Idx → Elt F .bf16 := fun d => m ((d.tc : Thread nD τ).loc main_arg0)
  refine (θ_run (defs (F := F)) _ _).mono (fun r h => ⟨h.1, sem_eq_zero_of_scoped (by decide) h.2⟩)
    ((plan x).run pcfgs (fun _ p => (cfgs p).toPCfg_adm) cellOf_inj (dats x) defs₀ 𝒱₀ 0 winFacts0.to₀ ownSemFacts
      (inferInstanceAs (IsEmpty (Fin 0))) (inferInstanceAs (IsEmpty (Fin 0))) m g (fun _ _ => pure ⟨⟩) main (fun _ => rfl) (body_obligation x) (B x) (Y x)
      ?_ (fun c => ?_) (fun c => ?_) (fun _ => rfl) (fun _ => rfl) (fun _ => rfl) (Y x) (fun c => ?_)
      (fun c mem => (∀ k : Fin 4, held mem.mem c k = part (x (mate k c)) (chip c))
        ∧ mem.mem ((c.tc : Thread nD τ).loc main_arg0) = x c) (fun c s' => ?_))
  · exact (Entails.of_eq (bigSep_congr fun c _ => arrays m c)).trans
      (dealt x fun c k => held m c k)
  · rw [show (dats x 0 c).Φ 0 = iprop((plan x).start c ∗ B x c) from rfl]
    iintro ⟨H, -⟩; iexact H
  · rw [show (dats x 0 c).Φ (Fin.last cfg0.N) = iprop(Y x c ∗ (plan x).zeros c) from rfl]
    iintro ⟨HY, Hz⟩
    isplitl [HY]; · iexact HY
    isplitl [Hz]; · iexact Hz
    iapply (Entails.of_eq (scopedRest0_eq c).symm); iempintro
  · rw [Prog.pure_eq_ret, wp_ret]
    iintro ⟨H, -, -⟩
    imodintro
    iexact H
  · unfold Y
    rw [bigSep4]
    show iprop((owns (c.tc : Thread nD τ) sM fullShare (x c)
      ∗ owns (c.tc : Thread nD τ) (Memref.whole main_v1_0) fullShare (part (x (mate 0 c)) (chip c))
      ∗ owns (c.tc : Thread nD τ) (Memref.whole main_v1_1) fullShare (part (x (mate 1 c)) (chip c))
      ∗ owns (c.tc : Thread nD τ) (Memref.whole main_v1_2) fullShare (part (x (mate 2 c)) (chip c))
      ∗ owns (c.tc : Thread nD τ) (Memref.whole main_v1_3) fullShare (part (x (mate 3 c)) (chip c))) ∗ _) ⊢ _
    simp only [owns_whole]
    iintro ⟨⟨Hx, Ho0, Ho1, Ho2, Ho3⟩, HS⟩
    ihave H := (held_agree _ _ s') $$ [Hx HS]
    · isplitl [Hx] <;> iassumption
    icases H with ⟨%hx, -, HS⟩
    ihave H := (held_agree _ _ s') $$ [Ho0 HS]
    · isplitl [Ho0] <;> iassumption
    icases H with ⟨%h0, -, HS⟩
    ihave H := (held_agree _ _ s') $$ [Ho1 HS]
    · isplitl [Ho1] <;> iassumption
    icases H with ⟨%h1, -, HS⟩
    ihave H := (held_agree _ _ s') $$ [Ho2 HS]
    · isplitl [Ho2] <;> iassumption
    icases H with ⟨%h2, -, HS⟩
    ihave H := (held_agree _ _ s') $$ [Ho3 HS]
    · isplitl [Ho3] <;> iassumption
    icases H with ⟨%h3, -, HS⟩
    imodintro
    isplitr
    · ipureintro
      refine ⟨fun k => ?_, hx⟩
      fin_cases k
      exacts [h0, h1, h2, h3]
    iexact HS

end Cert.ChipRun

end
-- ==== Proof.ChipClaims.lean ====
/-
# The claims of the exchange between chips

Row `3360 (2 i + k) + r` of a reference's result stands for core `k` of chip `i`: row `r` of the block for chip `i` that the
same core of a fixed other chip has (`stacked_at`). Device `2 i + k` ends with these rows.
-/
module

public import proofs.«01_k».proof.Defs
public import proofs.«01_k».proof.Proof.ChipRun
public import proofs.«01_k».proof.Proof.Blocks
public import proofs.«01_k».proof.Proof.Gen.ChipReference.Run
public import proofs.«01_k».proof.Proof.Gen.ChipReferenceIdeal.Run
public import Idealize.ShloMosaic.Lib.PointwiseCore

@[expose] public section

set_option maxRecDepth 16384

noncomputable section

namespace Cert.ChipRun

open Cert.Exchange
open Idealize.ShloMosaic Idealize.ShloMosaic.TcCoe Idealize.SL.Sem

section Values

open Cert.ChipReferenceIdeal Cert.ChipReferenceIdeal.Gen

variable {F : FTy → Type} [FloatOps F]

/-- The block for chip `i` of every core of chip `k`. -/
def sent (k i : ℕ) (h : S4x2x4x3360x1024.Slices ![k, 0, i, 0, 0] S1x2x1x3360x1024) (X : S32x3360x1024.Idx → Elt F .bf16) : S1x2x3360x1024.Idx → Elt F .bf16 :=
  broadcastInDim S1x2x3360x1024 ![1, 2, 3] bcast_S2x3360x1024_S1x2x3360x1024_1_2_3 (shapeCast S2x3360x1024
    (extractStridedSlice S1x2x1x3360x1024 ![k, 0, i, 0, 0] (shapeCast S4x2x4x3360x1024 X shapeCasts_S32x3360x1024_S4x2x4x3360x1024) h) shapeCasts_S1x2x1x3360x1024_S2x3360x1024)

/-- The blocks for each chip, from chip `k i` for chip `i`. -/
def stacked (k : Fin 4 → ℕ) (h0 : S4x2x4x3360x1024.Slices ![k 0, 0, 0, 0, 0] S1x2x1x3360x1024) (h1 : S4x2x4x3360x1024.Slices ![k 1, 0, 1, 0, 0] S1x2x1x3360x1024)
    (h2 : S4x2x4x3360x1024.Slices ![k 2, 0, 2, 0, 0] S1x2x1x3360x1024) (h3 : S4x2x4x3360x1024.Slices ![k 3, 0, 3, 0, 0] S1x2x1x3360x1024)
    (X : S32x3360x1024.Idx → Elt F .bf16) : S26880x1024.Idx → Elt F .bf16 :=
  shapeCast S26880x1024 (concatenate S4x2x3360x1024 0 [⟨S1x2x3360x1024, sent (k 0) 0 h0 X⟩, ⟨S1x2x3360x1024, sent (k 1) 1 h1 X⟩, ⟨S1x2x3360x1024, sent (k 2) 2 h2 X⟩, ⟨S1x2x3360x1024, sent (k 3) 3 h3 X⟩]
    concatenates_S1x2x3360x1024_S1x2x3360x1024_S1x2x3360x1024_S1x2x3360x1024_S4x2x3360x1024_d0) shapeCasts_S4x2x3360x1024_S26880x1024

theorem sent_at (k i : ℕ) (hk : k < 4) (hi : i < 4) (h : S4x2x4x3360x1024.Slices ![k, 0, i, 0, 0] S1x2x1x3360x1024) (X : S32x3360x1024.Idx → Elt F .bf16)
    (j : S1x2x3360x1024.Idx) : sent k i h X j = X (ix3 ⟨8 * k + 4 * (j 1).val + i, by have h := (j 1).isLt; change _ < 2 at h; omega⟩ (j 2) (j 3)) := by
  pointwise [sent]
  exact congrArg (fun n => X (ix3 n (j 2) (j 3))) (Fin.ext (by dsimp only; omega))

theorem stacked_at (k : Fin 4 → ℕ) (hk : ∀ i, k i < 4) (h0 h1 h2 h3) (X : S32x3360x1024.Idx → Elt F .bf16) (j : S26880x1024.Idx) :
    stacked k h0 h1 h2 h3 X j = X (ix3 ⟨8 * k ⟨(j 0).val / 6720, by have h := (j 0).isLt; change _ < 26880 at h; omega⟩ + 4 * ((j 0).val / 3360 % 2) + (j 0).val / 6720,
      by have h := (j 0).isLt; change _ < 26880 at h; have := hk ⟨(j 0).val / 6720, by omega⟩; omega⟩ ⟨(j 0).val % 3360, by omega⟩ (j 1)) := by
  have hj : (j 0).val < 26880 := (j 0).isLt
  have key (n : Fin 4) (hn : (j 0).val / 6720 = n.val) (z : Fin 1) (h) : sent (k n) n.val h X (ix4 z ⟨(j 0).val / 3360 % 2, by omega⟩ ⟨(j 0).val % 3360, by omega⟩ (j 1))
      = X (ix3 ⟨8 * k ⟨(j 0).val / 6720, by omega⟩ + 4 * ((j 0).val / 3360 % 2) + (j 0).val / 6720,
          by have := hk ⟨(j 0).val / 6720, by omega⟩; omega⟩ ⟨(j 0).val % 3360, by omega⟩ (j 1)) := by
    rw [sent_at _ _ (hk n) n.isLt]
    refine congrArg (fun e => X (ix3 e ⟨(j 0).val % 3360, by omega⟩ (j 1))) (Fin.ext ?_)
    have e : k ⟨(j 0).val / 6720, by omega⟩ = k n := congrArg k (Fin.ext hn)
    show 8 * k n + 4 * ((j 0).val / 3360 % 2) + n.val = 8 * k ⟨(j 0).val / 6720, _⟩ + 4 * ((j 0).val / 3360 % 2) + (j 0).val / 6720
    rw [e, hn]
  pointwise [stacked]
  split
  · exact key 0 (show _ = 0 by omega) _ _
  split
  · exact key 1 (show _ = 1 by omega) _ _
  split
  · exact key 2 (show _ = 2 by omega) _ _
  · exact key 3 (show _ = 3 by omega) _ _

/-- The chip across in one direction, in the other, in both, and the chip itself. -/
def chips : Fin 4 → Fin 4 → ℕ := ![![2, 3, 0, 1], ![1, 0, 3, 2], ![3, 2, 1, 0], ![0, 1, 2, 3]]

theorem chips_lt : ∀ n i, chips n i < 4 := by decide
theorem mate_entry : ∀ (n : Fin 4) (c : Fin 8), (mate n c).val * 4 + (chip c).val = 8 * chips n (chip c) + 4 * (c.val % 2) + c.val / 2 := by decide

/-- The block that a device is sent is its part of the stacked blocks. -/
theorem part_blocks (n : Fin 4) (c : Fin 8) (h0 h1 h2 h3) (X : S32x3360x1024.Idx → Elt F .bf16) :
    (part (Layout.block ⟨3, ![4, 3360, 1024]⟩ ⟨3, ![32, 3360, 1024]⟩ 0 8 (mate n c) X) (chip c) : ChipKernelIdeal.S3360x1024.Idx → Elt F .bf16)
      = Layout.block ⟨2, ![3360, 1024]⟩ ⟨2, ![26880, 1024]⟩ 0 8 c (stacked (chips n) h0 h1 h2 h3 X) := by
  funext i
  obtain ⟨r, k, rfl⟩ : ∃ (r : Fin 3360) (k : Fin 1024), i = ix2 r k := ⟨i 0, i 1, eq_ix2 i⟩
  rw [Layout.block_apply, idx_rows _ c r k (by omega), stacked_at _ (chips_lt n)]
  refine Eq.trans (congrArg X (idx_blocks _ (mate n c) (chip c) r k (by have h : (mate n c).val < 8 := (mate n c).isLt; omega))) (congrArg X ?_)
  have hq : (⟨(c.val * 3360 + r.val) / 6720, by omega⟩ : Fin 4) = chip c := Fin.ext (show _ = c.val / 2 by dsimp only; omega)
  have hr : (⟨(c.val * 3360 + r.val) % 3360, by omega⟩ : Fin 3360) = r := Fin.ext (by dsimp only; omega)
  have hc : (c.val * 3360 + r.val) / 3360 % 2 = c.val % 2 := by omega
  refine congrArg₂ (fun e r => ix3 e r k) (Fin.ext ?_) hr.symm
  show (mate n c).val * 4 + (chip c).val = 8 * chips n ⟨(c.val * 3360 + r.val) / 6720, _⟩ + 4 * ((c.val * 3360 + r.val) / 3360 % 2) + (c.val * 3360 + r.val) / 6720
  rw [hq, hc, mate_entry]
  omega

end Values

theorem frame_kernel : quiescent_ChipKernel := fun m g _ =>
  (θ_run _ _ _).mono (fun _ h => ⟨fun c => (h.1 c).2, h.2⟩) (run_main (F := Bits) m g)

theorem frame_ideal : quiescent_ChipKernelIdeal := fun m g _ =>
  (θ_run _ _ _).mono (fun _ h => ⟨fun c => (h.1 c).2, h.2⟩) (run_main (F := Ideal) m g)

theorem frame_reference : quiescent_ChipReference := fun m g _ =>
  (θ_run _ _ _).mono (fun r h => ⟨fun c => (h c).2.2.2.2, sem_eq_zero_of_no_sems (by decide) r.2⟩)
    (ChipReference.Value.run (F := Bits) m g)

theorem frame_reference_ideal : quiescent_ChipReferenceIdeal := fun m g _ =>
  (θ_run _ _ _).mono (fun r h => ⟨fun c => (h c).2.2.2.2, sem_eq_zero_of_no_sems (by decide) r.2⟩)
    (ChipReferenceIdeal.Value.run (F := Ideal) m g)

/-- The run, with the arguments the blocks of an array. -/
theorem run_blocks {F : FTy → Type} [FloatOps F] (m : (ℓ : Loc ChipKernelIdeal.nD ChipKernelIdeal.τ ChipKernelIdeal.sig) → Buf (Elt F) ℓ)
    (g : Dev ChipKernelIdeal.nD → PrngReg) (X : ChipReferenceIdeal.S32x3360x1024.Idx → Elt F .bf16)
    (hm : ∀ c : Dev ChipKernelIdeal.nD, m ((c.tc : Thread ChipKernelIdeal.nD ChipKernelIdeal.τ).loc ChipKernelIdeal.main_arg0)
      = Layout.block ⟨3, ![4, 3360, 1024]⟩ ⟨3, ![32, 3360, 1024]⟩ 0 8 c X) :
    θ_run (ChipKernelIdeal.defs (F := F)) (onTc (τ := ChipKernelIdeal.τ) (ChipKernelIdeal.main (F := F))) ⟨m, fun _ => 0, g⟩ fun r =>
      ∀ c : Dev ChipKernelIdeal.nD,
        (∀ (n : Fin 4) (h0 h1 h2 h3), held r.2.mem c n = Layout.block ⟨2, ![3360, 1024]⟩ ⟨2, ![26880, 1024]⟩ 0 8 c (stacked (chips n) h0 h1 h2 h3 X))
        ∧ r.2.mem ((c.tc : Thread ChipKernelIdeal.nD ChipKernelIdeal.τ).loc ChipKernelIdeal.main_arg0)
          = m ((c.tc : Thread ChipKernelIdeal.nD ChipKernelIdeal.τ).loc ChipKernelIdeal.main_arg0) :=
  (θ_run _ _ _).mono
    (fun _ h c => ⟨fun n h0 h1 h2 h3 => ((h.1 c).1 n).trans ((congrArg (fun V => part V (chip c)) (hm (mate n c))).trans (part_blocks n c h0 h1 h2 h3 X)), (h.1 c).2⟩)
    (run_main (F := F) m g)

/-- Over the reals every device ends with its part of the reference's arrays, -/
theorem algebraic : algebraic_ChipKernelIdeal_ChipReferenceIdeal := fun m g m' g' _ hm =>
  ⟨stacked (chips 0) (by decide) (by decide) (by decide) (by decide) _, stacked (chips 1) (by decide) (by decide) (by decide) (by decide) _,
    stacked (chips 2) (by decide) (by decide) (by decide) (by decide) _, stacked (chips 3) (by decide) (by decide) (by decide) (by decide) _,
    (θ_run _ _ _).mono (fun _ h c => ⟨(h c).1 0 _ _ _ _, (h c).1 1 _ _ _ _, (h c).1 2 _ _ _ _, (h c).1 3 _ _ _ _, (h c).2⟩) (run_blocks (F := Ideal) m g _ hm),
    (θ_run _ _ _).mono (fun _ h => h 0) (ChipReferenceIdeal.Value.run (F := Ideal) m' g')⟩

/-- and with the same words. -/
theorem bitexact : bitexact_ChipKernel_ChipReference := fun m g m' g' _ hm =>
  ⟨stacked (chips 0) (by decide) (by decide) (by decide) (by decide) _, stacked (chips 1) (by decide) (by decide) (by decide) (by decide) _,
    stacked (chips 2) (by decide) (by decide) (by decide) (by decide) _, stacked (chips 3) (by decide) (by decide) (by decide) (by decide) _,
    (θ_run _ _ _).mono (fun _ h c => ⟨(h c).1 0 _ _ _ _, (h c).1 1 _ _ _ _, (h c).1 2 _ _ _ _, (h c).1 3 _ _ _ _, (h c).2⟩) (run_blocks (F := Bits) m g _ hm),
    (θ_run _ _ _).mono (fun _ h => h 0) (ChipReference.Value.run (F := Bits) m' g')⟩

end Cert.ChipRun

end
-- ==== Proof.lean ====
/-
# The certificate

The claims, in the order of `Cert.Claim`.
-/
module

public import proofs.«01_k».proof.Defs
public import proofs.«01_k».proof.Proof.GatherClaims
public import proofs.«01_k».proof.Proof.Gen.Reference.Run
public import proofs.«01_k».proof.Proof.Gen.ReferenceIdeal.Run
public import proofs.«01_k».proof.Proof.Gen.PairReference.Run
public import proofs.«01_k».proof.Proof.Gen.PairReferenceIdeal.Run
public import proofs.«01_k».proof.Proof.Gen.ChipReference.Run
public import proofs.«01_k».proof.Proof.Gen.ChipReferenceIdeal.Run
public import proofs.«01_k».proof.Proof.Updates
public import proofs.«01_k».proof.Proof.Sums
public import proofs.«01_k».proof.Proof.NormBwd
public import proofs.«01_k».proof.Proof.FfnDown
public import proofs.«01_k».proof.Proof.MixOut
public import proofs.«01_k».proof.Proof.CrossFwd
public import proofs.«01_k».proof.Proof.LossHead
public import proofs.«01_k».proof.Proof.MixQkv
public import proofs.«01_k».proof.Proof.MixAux
public import proofs.«01_k».proof.Proof.CrossQ
public import proofs.«01_k».proof.Proof.CrossKv
public import proofs.«01_k».proof.Proof.CrossOut
public import proofs.«01_k».proof.Proof.FfnUp
public import proofs.«01_k».proof.Proof.GradAct
public import proofs.«01_k».proof.Proof.GradDown
public import proofs.«01_k».proof.Proof.GradHalf
public import proofs.«01_k».proof.Proof.GradFfn
public import proofs.«01_k».proof.Proof.GradUp
public import proofs.«01_k».proof.Proof.GradOc
public import proofs.«01_k».proof.Proof.GradCo
public import proofs.«01_k».proof.Proof.GradHq
public import proofs.«01_k».proof.Proof.GradCq
public import proofs.«01_k».proof.Proof.GradMem
public import proofs.«01_k».proof.Proof.GradCkv
public import proofs.«01_k».proof.Proof.GradMixed
public import proofs.«01_k».proof.Proof.GradOut
public import proofs.«01_k».proof.Proof.GradMain
public import proofs.«01_k».proof.Proof.GradMix
public import proofs.«01_k».proof.Proof.GradQkv
public import proofs.«01_k».proof.Proof.GradAux
public import proofs.«01_k».proof.Proof.NormMix
public import proofs.«01_k».proof.Proof.NormMem
public import proofs.«01_k».proof.Proof.Band0
public import proofs.«01_k».proof.Proof.ShiftAdd
public import proofs.«01_k».proof.Proof.Combine
public import proofs.«01_k».proof.Proof.BackConv
public import proofs.«01_k».proof.Proof.PairClaims
public import proofs.«01_k».proof.Proof.ChipClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Reference.Gen.facts, Cert.PairKernel.Gen.facts, Cert.PairKernelIdeal.Gen.facts, Cert.PairReferenceIdeal.Gen.facts, Cert.PairReference.Gen.facts, Cert.ChipKernel.Gen.facts, Cert.ChipKernelIdeal.Gen.facts, Cert.ChipReferenceIdeal.Gen.facts, Cert.ChipReference.Gen.facts,
  Cert.UpdateIn.Gen.facts, Cert.UpdateInIdeal.Gen.facts, Cert.UpdateInReferenceIdeal.Gen.facts, Cert.UpdateOut.Gen.facts, Cert.UpdateOutIdeal.Gen.facts, Cert.UpdateOutReferenceIdeal.Gen.facts, Cert.UpdateQkv.Gen.facts, Cert.UpdateQkvIdeal.Gen.facts, Cert.UpdateQkvReferenceIdeal.Gen.facts, Cert.UpdateCo.Gen.facts, Cert.UpdateCoIdeal.Gen.facts, Cert.UpdateCoReferenceIdeal.Gen.facts, Cert.UpdateUp.Gen.facts, Cert.UpdateUpIdeal.Gen.facts, Cert.UpdateUpReferenceIdeal.Gen.facts, Cert.UpdateDown.Gen.facts, Cert.UpdateDownIdeal.Gen.facts, Cert.UpdateDownReferenceIdeal.Gen.facts, Cert.UpdatePack.Gen.facts, Cert.UpdatePackIdeal.Gen.facts, Cert.UpdatePackReferenceIdeal.Gen.facts, Cert.NormBwd.Gen.facts, Cert.NormBwdIdeal.Gen.facts, Cert.NormBwdReferenceIdeal.Gen.facts,
  Cert.LossHead.Gen.facts, Cert.LossHeadIdeal.Gen.facts, Cert.LossHeadReferenceIdeal.Gen.facts,
  Cert.CrossFwd.Gen.facts, Cert.CrossFwdIdeal.Gen.facts, Cert.CrossFwdReferenceIdeal.Gen.facts,
  Cert.MixQkv.Gen.facts, Cert.MixQkvIdeal.Gen.facts, Cert.MixQkvReferenceIdeal.Gen.facts,
  Cert.MixAux.Gen.facts, Cert.MixAuxIdeal.Gen.facts, Cert.MixAuxReferenceIdeal.Gen.facts,
  Cert.MixOut.Gen.facts, Cert.MixOutIdeal.Gen.facts, Cert.MixOutReferenceIdeal.Gen.facts,
  Cert.CrossQ.Gen.facts, Cert.CrossQIdeal.Gen.facts, Cert.CrossQReferenceIdeal.Gen.facts,
  Cert.CrossKv.Gen.facts, Cert.CrossKvIdeal.Gen.facts, Cert.CrossKvReferenceIdeal.Gen.facts,
  Cert.CrossOut.Gen.facts, Cert.CrossOutIdeal.Gen.facts, Cert.CrossOutReferenceIdeal.Gen.facts,
  Cert.FfnUp.Gen.facts, Cert.FfnUpIdeal.Gen.facts, Cert.FfnUpReferenceIdeal.Gen.facts,
  Cert.FfnDown.Gen.facts, Cert.FfnDownIdeal.Gen.facts, Cert.FfnDownReferenceIdeal.Gen.facts,
  Cert.GradAct.Gen.facts, Cert.GradActIdeal.Gen.facts, Cert.GradActReferenceIdeal.Gen.facts,
  Cert.GradDown.Gen.facts, Cert.GradDownIdeal.Gen.facts, Cert.GradDownReferenceIdeal.Gen.facts,
  Cert.GradHalf.Gen.facts, Cert.GradHalfIdeal.Gen.facts, Cert.GradHalfReferenceIdeal.Gen.facts,
  Cert.GradFfn.Gen.facts, Cert.GradFfnIdeal.Gen.facts, Cert.GradFfnReferenceIdeal.Gen.facts,
  Cert.GradUp.Gen.facts, Cert.GradUpIdeal.Gen.facts, Cert.GradUpReferenceIdeal.Gen.facts,
  Cert.GradOc.Gen.facts, Cert.GradOcIdeal.Gen.facts, Cert.GradOcReferenceIdeal.Gen.facts,
  Cert.GradCo.Gen.facts, Cert.GradCoIdeal.Gen.facts, Cert.GradCoReferenceIdeal.Gen.facts,
  Cert.GradHq.Gen.facts, Cert.GradHqIdeal.Gen.facts, Cert.GradHqReferenceIdeal.Gen.facts,
  Cert.GradCq.Gen.facts, Cert.GradCqIdeal.Gen.facts, Cert.GradCqReferenceIdeal.Gen.facts,
  Cert.GradMem.Gen.facts, Cert.GradMemIdeal.Gen.facts, Cert.GradMemReferenceIdeal.Gen.facts,
  Cert.GradCkv.Gen.facts, Cert.GradCkvIdeal.Gen.facts, Cert.GradCkvReferenceIdeal.Gen.facts,
  Cert.GradMixed.Gen.facts, Cert.GradMixedIdeal.Gen.facts, Cert.GradMixedReferenceIdeal.Gen.facts,
  Cert.GradOut.Gen.facts, Cert.GradOutIdeal.Gen.facts, Cert.GradOutReferenceIdeal.Gen.facts,
  Cert.GradMain.Gen.facts, Cert.GradMainIdeal.Gen.facts, Cert.GradMainReferenceIdeal.Gen.facts,
  Cert.GradMix.Gen.facts, Cert.GradMixIdeal.Gen.facts, Cert.GradMixReferenceIdeal.Gen.facts,
  Cert.GradQkv.Gen.facts, Cert.GradQkvIdeal.Gen.facts, Cert.GradQkvReferenceIdeal.Gen.facts,
  Cert.GradAux.Gen.facts, Cert.GradAuxIdeal.Gen.facts, Cert.GradAuxReferenceIdeal.Gen.facts,
  Cert.PairSum.Gen.facts, Cert.PairSumIdeal.Gen.facts, Cert.PairSumReferenceIdeal.Gen.facts, Cert.PairSumReference.Gen.facts, Cert.ChipSum.Gen.facts, Cert.ChipSumIdeal.Gen.facts, Cert.ChipSumReferenceIdeal.Gen.facts, Cert.ChipSumReference.Gen.facts,
  Cert.NormMix.Gen.facts, Cert.NormMixIdeal.Gen.facts, Cert.NormMixReferenceIdeal.Gen.facts,
  Cert.NormMem.Gen.facts, Cert.NormMemIdeal.Gen.facts, Cert.NormMemReferenceIdeal.Gen.facts,
  Cert.Band0.Gen.facts, Cert.Band0Ideal.Gen.facts, Cert.Band0ReferenceIdeal.Gen.facts,
  Cert.DqkvSum.Gen.facts, Cert.DqkvSumIdeal.Gen.facts, Cert.DqkvSumReferenceIdeal.Gen.facts,
  Cert.CumSum.Gen.facts, Cert.CumSumIdeal.Gen.facts, Cert.CumSumReferenceIdeal.Gen.facts,
  Cert.BandSum.Gen.facts, Cert.BandSumIdeal.Gen.facts, Cert.BandSumReferenceIdeal.Gen.facts,
  Cert.ShiftAdd.Gen.facts, Cert.ShiftAddIdeal.Gen.facts, Cert.ShiftAddReferenceIdeal.Gen.facts,
  Cert.Combine.Gen.facts, Cert.CombineIdeal.Gen.facts, Cert.CombineReferenceIdeal.Gen.facts,
  Cert.BackConv.Gen.facts, Cert.BackConvIdeal.Gen.facts, Cert.BackConvReferenceIdeal.Gen.facts,
  GatherRun.frame_kernel, GatherRun.frame_ideal, GatherRun.frame_reference_ideal, GatherRun.frame_reference,
  PairRun.frame_kernel, PairRun.frame_ideal, PairRun.frame_reference_ideal, PairRun.frame_reference,
  ChipRun.frame_kernel, ChipRun.frame_ideal, ChipRun.frame_reference_ideal, ChipRun.frame_reference,
  fun m g _ => Cert.UpdateIn.Gen.frame m g, fun m g _ => Cert.UpdateInIdeal.Gen.frame m g, Updates.frame_in,
  fun m g _ => Cert.UpdateOut.Gen.frame m g, fun m g _ => Cert.UpdateOutIdeal.Gen.frame m g, Updates.frame_out,
  fun m g _ => Cert.UpdateQkv.Gen.frame m g, fun m g _ => Cert.UpdateQkvIdeal.Gen.frame m g, Updates.frame_qkv,
  fun m g _ => Cert.UpdateCo.Gen.frame m g, fun m g _ => Cert.UpdateCoIdeal.Gen.frame m g, Updates.frame_co,
  fun m g _ => Cert.UpdateUp.Gen.frame m g, fun m g _ => Cert.UpdateUpIdeal.Gen.frame m g, Updates.frame_up,
  fun m g _ => Cert.UpdateDown.Gen.frame m g, fun m g _ => Cert.UpdateDownIdeal.Gen.frame m g, Updates.frame_down,
  fun m g _ => Cert.UpdatePack.Gen.frame m g, fun m g _ => Cert.UpdatePackIdeal.Gen.frame m g, Updates.frame_pack,
  fun m g _ => Cert.NormBwd.Gen.frame m g, fun m g _ => Cert.NormBwdIdeal.Gen.frame m g, Norm.frame_reference,
  fun m g _ => Cert.LossHead.Gen.frame m g, fun m g _ => Cert.LossHeadIdeal.Gen.frame m g, Loss.frame_reference,
  fun m g _ => Cert.CrossFwd.Gen.frame m g, fun m g _ => Cert.CrossFwdIdeal.Gen.frame m g, Cross.frame_reference,
  fun m g _ => Cert.MixQkv.Gen.frame m g, fun m g _ => Cert.MixQkvIdeal.Gen.frame m g, Qkv.frame_reference,
  fun m g _ => Cert.MixAux.Gen.frame m g, fun m g _ => Cert.MixAuxIdeal.Gen.frame m g, Aux.frame_reference,
  fun m g _ => Cert.MixOut.Gen.frame m g, fun m g _ => Cert.MixOutIdeal.Gen.frame m g, MixOut.frame_reference,
  fun m g _ => Cert.CrossQ.Gen.frame m g, fun m g _ => Cert.CrossQIdeal.Gen.frame m g, CrossQ.frame_reference,
  fun m g _ => Cert.CrossKv.Gen.frame m g, fun m g _ => Cert.CrossKvIdeal.Gen.frame m g, CrossKv.frame_reference,
  fun m g _ => Cert.CrossOut.Gen.frame m g, fun m g _ => Cert.CrossOutIdeal.Gen.frame m g, CrossOut.frame_reference,
  fun m g _ => Cert.FfnUp.Gen.frame m g, fun m g _ => Cert.FfnUpIdeal.Gen.frame m g, Up.frame_reference,
  fun m g _ => Cert.FfnDown.Gen.frame m g, fun m g _ => Cert.FfnDownIdeal.Gen.frame m g, Down.frame_reference,
  fun m g _ => Cert.GradAct.Gen.frame m g, fun m g _ => Cert.GradActIdeal.Gen.frame m g, GradAct.frame_reference,
  fun m g _ => Cert.GradDown.Gen.frame m g, fun m g _ => Cert.GradDownIdeal.Gen.frame m g, GradDown.frame_reference,
  fun m g _ => Cert.GradHalf.Gen.frame m g, fun m g _ => Cert.GradHalfIdeal.Gen.frame m g, GradHalf.frame_reference,
  fun m g _ => Cert.GradFfn.Gen.frame m g, fun m g _ => Cert.GradFfnIdeal.Gen.frame m g, GradFfn.frame_reference,
  fun m g _ => Cert.GradUp.Gen.frame m g, fun m g _ => Cert.GradUpIdeal.Gen.frame m g, GradUp.frame_reference,
  fun m g _ => Cert.GradOc.Gen.frame m g, fun m g _ => Cert.GradOcIdeal.Gen.frame m g, GradOc.frame_reference,
  fun m g _ => Cert.GradCo.Gen.frame m g, fun m g _ => Cert.GradCoIdeal.Gen.frame m g, GradCo.frame_reference,
  fun m g _ => Cert.GradHq.Gen.frame m g, fun m g _ => Cert.GradHqIdeal.Gen.frame m g, GradHq.frame_reference,
  fun m g _ => Cert.GradCq.Gen.frame m g, fun m g _ => Cert.GradCqIdeal.Gen.frame m g, GradCq.frame_reference,
  fun m g _ => Cert.GradMem.Gen.frame m g, fun m g _ => Cert.GradMemIdeal.Gen.frame m g, GradMem.frame_reference,
  fun m g _ => Cert.GradCkv.Gen.frame m g, fun m g _ => Cert.GradCkvIdeal.Gen.frame m g, GradCkv.frame_reference,
  fun m g _ => Cert.GradMixed.Gen.frame m g, fun m g _ => Cert.GradMixedIdeal.Gen.frame m g, GradMixed.frame_reference,
  fun m g _ => Cert.GradOut.Gen.frame m g, fun m g _ => Cert.GradOutIdeal.Gen.frame m g, GradOut.frame_reference,
  fun m g _ => Cert.GradMain.Gen.frame m g, fun m g _ => Cert.GradMainIdeal.Gen.frame m g, GradMain.frame_reference,
  fun m g _ => Cert.GradMix.Gen.frame m g, fun m g _ => Cert.GradMixIdeal.Gen.frame m g, GradMix.frame_reference,
  fun m g _ => Cert.GradQkv.Gen.frame m g, fun m g _ => Cert.GradQkvIdeal.Gen.frame m g, GradQkv.frame_reference,
  fun m g _ => Cert.GradAux.Gen.frame m g, fun m g _ => Cert.GradAuxIdeal.Gen.frame m g, GradAux.frame_reference,
  fun m g _ => Cert.PairSum.Gen.frame m g, fun m g _ => Cert.PairSumIdeal.Gen.frame m g, Sums.frame_pair, Sums.frame_words_pair,
  fun m g _ => Cert.ChipSum.Gen.frame m g, fun m g _ => Cert.ChipSumIdeal.Gen.frame m g, Sums.frame_chip, Sums.frame_words_chip,
  fun m g _ => Cert.NormMix.Gen.frame m g, fun m g _ => Cert.NormMixIdeal.Gen.frame m g, Cert.NormMix.frame_reference,
  fun m g _ => Cert.NormMem.Gen.frame m g, fun m g _ => Cert.NormMemIdeal.Gen.frame m g, Cert.NormMem.frame_reference,
  fun m g _ => Cert.Band0.Gen.frame m g, fun m g _ => Cert.Band0Ideal.Gen.frame m g, Dilated.Short.frame_reference,
  fun m g _ => Cert.DqkvSum.Gen.frame m g, fun m g _ => Cert.DqkvSumIdeal.Gen.frame m g, Sums.frame_dqkv,
  fun m g _ => Cert.CumSum.Gen.frame m g, fun m g _ => Cert.CumSumIdeal.Gen.frame m g, Sums.frame_cum,
  fun m g _ => Cert.BandSum.Gen.frame m g, fun m g _ => Cert.BandSumIdeal.Gen.frame m g, Sums.frame_band,
  fun m g _ => Cert.ShiftAdd.Gen.frame m g, fun m g _ => Cert.ShiftAddIdeal.Gen.frame m g, Shifted.frame_reference,
  fun m g _ => Cert.Combine.Gen.frame m g, fun m g _ => Cert.CombineIdeal.Gen.frame m g, Combined.frame_reference,
  fun m g _ => Cert.BackConv.Gen.frame m g, fun m g _ => Cert.BackConvIdeal.Gen.frame m g, Transposed.frame_reference,
  trivial, GatherRun.algebraic, GatherRun.bitexact,
  trivial, PairRun.algebraic, PairRun.bitexact,
  trivial, ChipRun.algebraic, ChipRun.bitexact,
  trivial, Updates.algebraic_in,
  trivial, Updates.algebraic_out,
  trivial, Updates.algebraic_qkv,
  trivial, Updates.algebraic_co,
  trivial, Updates.algebraic_up,
  trivial, Updates.algebraic_down,
  trivial, Updates.algebraic_pack,
  trivial, Norm.algebraic,
  trivial, Loss.algebraic,
  trivial, Cross.algebraic,
  trivial, Qkv.algebraic,
  trivial, Aux.algebraic,
  trivial, MixOut.algebraic,
  trivial, CrossQ.algebraic,
  trivial, CrossKv.algebraic,
  trivial, CrossOut.algebraic,
  trivial, Up.algebraic,
  trivial, Down.algebraic,
  trivial, GradAct.algebraic,
  trivial, GradDown.algebraic,
  trivial, GradHalf.algebraic,
  trivial, GradFfn.algebraic,
  trivial, GradUp.algebraic,
  trivial, GradOc.algebraic,
  trivial, GradCo.algebraic,
  trivial, GradHq.algebraic,
  trivial, GradCq.algebraic,
  trivial, GradMem.algebraic,
  trivial, GradCkv.algebraic,
  trivial, GradMixed.algebraic,
  trivial, GradOut.algebraic,
  trivial, GradMain.algebraic,
  trivial, GradMix.algebraic,
  trivial, GradQkv.algebraic,
  trivial, GradAux.algebraic,
  trivial, Sums.algebraic_pair, Sums.bitexact_pair,
  trivial, Sums.algebraic_chip, Sums.bitexact_chip,
  trivial, Cert.NormMix.algebraic,
  trivial, Cert.NormMem.algebraic,
  Dilated.Short.preserves, Dilated.Short.algebraic,
  trivial, Sums.algebraic_dqkv,
  trivial, Sums.algebraic_cum,
  trivial, Sums.algebraic_band,
  trivial, Shifted.algebraic,
  trivial, Combined.algebraic,
  trivial, Transposed.algebraic⟩

end Cert.Proof

end
